-- ==== Defs.lean ====
def Pre_KernelSwiglu (m : (ℓ : Loc Cert.KernelSwiglu.nD Cert.KernelSwiglu.τ Cert.KernelSwiglu.sig) → Buf (Elt Bits) ℓ) : Prop :=
  True

def Pre_KernelSwigluIdeal (m : (ℓ : Loc Cert.KernelSwigluIdeal.nD Cert.KernelSwigluIdeal.τ Cert.KernelSwigluIdeal.sig) → Buf (Elt Ideal) ℓ) : Prop :=
  True

def Pre_KernelSwigluIdeal_finite_swiglu [hPre_finite_swiglu : Cert.Pre_finite_swiglu.Facts] (m : (ℓ : Loc Cert.KernelSwigluIdeal.nD Cert.KernelSwigluIdeal.τ Cert.KernelSwigluIdeal.sig) → Buf (Elt Ideal) ℓ) : Prop :=
  ∀ c : Dev Cert.KernelSwigluIdeal.nD,
    (Cert.Pre_finite_swiglu.fn (F := Ideal) (m ((c.tc : Thread Cert.KernelSwigluIdeal.nD Cert.KernelSwigluIdeal.τ).loc Cert.KernelSwigluIdeal.main_arg0)) (m ((c.tc : Thread Cert.KernelSwigluIdeal.nD Cert.KernelSwigluIdeal.τ).loc Cert.KernelSwigluIdeal.main_arg1)) (m ((c.tc : Thread Cert.KernelSwigluIdeal.nD Cert.KernelSwigluIdeal.τ).loc Cert.KernelSwigluIdeal.main_arg2))) = (fun _ => 1#1)

def Pre_ReferenceSwigluIdeal (m : (ℓ : Loc Cert.ReferenceSwigluIdeal.nD Cert.ReferenceSwigluIdeal.τ Cert.ReferenceSwigluIdeal.sig) → Buf (Elt Ideal) ℓ) : Prop :=
  True

def Pre_ReferenceSwigluIdeal_finite_swiglu [hPre_finite_swiglu : Cert.Pre_finite_swiglu.Facts] (m : (ℓ : Loc Cert.ReferenceSwigluIdeal.nD Cert.ReferenceSwigluIdeal.τ Cert.ReferenceSwigluIdeal.sig) → Buf (Elt Ideal) ℓ) : Prop :=
  ∀ c : Dev Cert.ReferenceSwigluIdeal.nD,
    (Cert.Pre_finite_swiglu.fn (F := Ideal) (m ((c.tc : Thread Cert.ReferenceSwigluIdeal.nD Cert.ReferenceSwigluIdeal.τ).loc Cert.ReferenceSwigluIdeal.main_arg0)) (m ((c.tc : Thread Cert.ReferenceSwigluIdeal.nD Cert.ReferenceSwigluIdeal.τ).loc Cert.ReferenceSwigluIdeal.main_arg1)) (m ((c.tc : Thread Cert.ReferenceSwigluIdeal.nD Cert.ReferenceSwigluIdeal.τ).loc Cert.ReferenceSwigluIdeal.main_arg2))) = (fun _ => 1#1)

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_KernelGatesIdeal_finite_gates [hPre_finite_gates : Cert.Pre_finite_gates.Facts] (m : (ℓ : Loc Cert.KernelGatesIdeal.nD Cert.KernelGatesIdeal.τ Cert.KernelGatesIdeal.sig) → Buf (Elt Ideal) ℓ) : Prop :=
  ∀ c : Dev Cert.KernelGatesIdeal.nD,
    (Cert.Pre_finite_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6))) = (fun _ => 1#1)

def Pre_ReferenceGatesIdeal (m : (ℓ : Loc Cert.ReferenceGatesIdeal.nD Cert.ReferenceGatesIdeal.τ Cert.ReferenceGatesIdeal.sig) → Buf (Elt Ideal) ℓ) : Prop :=
  True

def Pre_ReferenceGatesIdeal_finite_gates [hPre_finite_gates : Cert.Pre_finite_gates.Facts] (m : (ℓ : Loc Cert.ReferenceGatesIdeal.nD Cert.ReferenceGatesIdeal.τ Cert.ReferenceGatesIdeal.sig) → Buf (Elt Ideal) ℓ) : Prop :=
  ∀ c : Dev Cert.ReferenceGatesIdeal.nD,
    (Cert.Pre_finite_gates.fn (F := Ideal) (m ((c.tc : Thread Cert.ReferenceGatesIdeal.nD Cert.ReferenceGatesIdeal.τ).loc Cert.ReferenceGatesIdeal.main_arg0)) (m ((c.tc : Thread Cert.ReferenceGatesIdeal.nD Cert.ReferenceGatesIdeal.τ).loc Cert.ReferenceGatesIdeal.main_arg1)) (m ((c.tc : Thread Cert.ReferenceGatesIdeal.nD Cert.ReferenceGatesIdeal.τ).loc Cert.ReferenceGatesIdeal.main_arg2)) (m ((c.tc : Thread Cert.ReferenceGatesIdeal.nD Cert.ReferenceGatesIdeal.τ).loc Cert.ReferenceGatesIdeal.main_arg3)) (m ((c.tc : Thread Cert.ReferenceGatesIdeal.nD Cert.ReferenceGatesIdeal.τ).loc Cert.ReferenceGatesIdeal.main_arg4)) (m ((c.tc : Thread Cert.ReferenceGatesIdeal.nD Cert.ReferenceGatesIdeal.τ).loc Cert.ReferenceGatesIdeal.main_arg5)) (m ((c.tc : Thread Cert.ReferenceGatesIdeal.nD Cert.ReferenceGatesIdeal.τ).loc Cert.ReferenceGatesIdeal.main_arg6))) = (fun _ => 1#1)

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_finite_pool [hPre_finite_pool : Cert.Pre_finite_pool.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))) = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_finite_pool [hPre_finite_pool : Cert.Pre_finite_pool.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))) = (fun _ => 1#1)

def Pre_KernelBound (m : (ℓ : Loc Cert.KernelBound.nD Cert.KernelBound.τ Cert.KernelBound.sig) → Buf (Elt Bits) ℓ) : Prop :=
  True

def Pre_KernelBoundIdeal (m : (ℓ : Loc Cert.KernelBoundIdeal.nD Cert.KernelBoundIdeal.τ Cert.KernelBoundIdeal.sig) → Buf (Elt Ideal) ℓ) : Prop :=
  True

def Pre_KernelBoundIdeal_finite_bound [hPre_finite_bound : Cert.Pre_finite_bound.Facts] (m : (ℓ : Loc Cert.KernelBoundIdeal.nD Cert.KernelBoundIdeal.τ Cert.KernelBoundIdeal.sig) → Buf (Elt Ideal) ℓ) : Prop :=
  ∀ c : Dev Cert.KernelBoundIdeal.nD,
    (Cert.Pre_finite_bound.fn (F := Ideal) (m ((c.tc : Thread Cert.KernelBoundIdeal.nD Cert.KernelBoundIdeal.τ).loc Cert.KernelBoundIdeal.main_arg0)) (m ((c.tc : Thread Cert.KernelBoundIdeal.nD Cert.KernelBoundIdeal.τ).loc Cert.KernelBoundIdeal.main_arg1))) = (fun _ => 1#1)

def Pre_ReferenceBoundIdeal (m : (ℓ : Loc Cert.ReferenceBoundIdeal.nD Cert.ReferenceBoundIdeal.τ Cert.ReferenceBoundIdeal.sig) → Buf (Elt Ideal) ℓ) : Prop :=
  True

def Pre_ReferenceBoundIdeal_finite_bound [hPre_finite_bound : Cert.Pre_finite_bound.Facts] (m : (ℓ : Loc Cert.ReferenceBoundIdeal.nD Cert.ReferenceBoundIdeal.τ Cert.ReferenceBoundIdeal.sig) → Buf (Elt Ideal) ℓ) : Prop :=
  ∀ c : Dev Cert.ReferenceBoundIdeal.nD,
    (Cert.Pre_finite_bound.fn (F := Ideal) (m ((c.tc : Thread Cert.ReferenceBoundIdeal.nD Cert.ReferenceBoundIdeal.τ).loc Cert.ReferenceBoundIdeal.main_arg0)) (m ((c.tc : Thread Cert.ReferenceBoundIdeal.nD Cert.ReferenceBoundIdeal.τ).loc Cert.ReferenceBoundIdeal.main_arg1))) = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4))) = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4))) = (fun _ => 1#1)

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_KernelNormIdeal_finite_norm [hPre_finite_norm : Cert.Pre_finite_norm.Facts] (m : (ℓ : Loc Cert.KernelNormIdeal.nD Cert.KernelNormIdeal.τ Cert.KernelNormIdeal.sig) → Buf (Elt Ideal) ℓ) : Prop :=
  ∀ c : Dev Cert.KernelNormIdeal.nD,
    (Cert.Pre_finite_norm.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3)) (m ((c.tc : Thread Cert.KernelNormIdeal.nD Cert.KernelNormIdeal.τ).loc Cert.KernelNormIdeal.main_arg4))) = (fun _ => 1#1)

def Pre_ReferenceNormIdeal (m : (ℓ : Loc Cert.ReferenceNormIdeal.nD Cert.ReferenceNormIdeal.τ Cert.ReferenceNormIdeal.sig) → Buf (Elt Ideal) ℓ) : Prop :=
  True

def Pre_ReferenceNormIdeal_finite_norm [hPre_finite_norm : Cert.Pre_finite_norm.Facts] (m : (ℓ : Loc Cert.ReferenceNormIdeal.nD Cert.ReferenceNormIdeal.τ Cert.ReferenceNormIdeal.sig) → Buf (Elt Ideal) ℓ) : Prop :=
  ∀ c : Dev Cert.ReferenceNormIdeal.nD,
    (Cert.Pre_finite_norm.fn (F := Ideal) (m ((c.tc : Thread Cert.ReferenceNormIdeal.nD Cert.ReferenceNormIdeal.τ).loc Cert.ReferenceNormIdeal.main_arg0)) (m ((c.tc : Thread Cert.ReferenceNormIdeal.nD Cert.ReferenceNormIdeal.τ).loc Cert.ReferenceNormIdeal.main_arg1)) (m ((c.tc : Thread Cert.ReferenceNormIdeal.nD Cert.ReferenceNormIdeal.τ).loc Cert.ReferenceNormIdeal.main_arg2)) (m ((c.tc : Thread Cert.ReferenceNormIdeal.nD Cert.ReferenceNormIdeal.τ).loc Cert.ReferenceNormIdeal.main_arg3)) (m ((c.tc : Thread Cert.ReferenceNormIdeal.nD Cert.ReferenceNormIdeal.τ).loc Cert.ReferenceNormIdeal.main_arg4))) = (fun _ => 1#1)

def Pre_KernelInbwd (m : (ℓ : Loc Cert.KernelInbwd.nD Cert.KernelInbwd.τ Cert.KernelInbwd.sig) → Buf (Elt Bits) ℓ) : Prop :=
  True

def Pre_KernelInbwdIdeal (m : (ℓ : Loc Cert.KernelInbwdIdeal.nD Cert.KernelInbwdIdeal.τ Cert.KernelInbwdIdeal.sig) → Buf (Elt Ideal) ℓ) : Prop :=
  True

def Pre_KernelInbwdIdeal_finite_inbwd [hPre_finite_inbwd : Cert.Pre_finite_inbwd.Facts] (m : (ℓ : Loc Cert.KernelInbwdIdeal.nD Cert.KernelInbwdIdeal.τ Cert.KernelInbwdIdeal.sig) → Buf (Elt Ideal) ℓ) : Prop :=
  ∀ c : Dev Cert.KernelInbwdIdeal.nD,
    (Cert.Pre_finite_inbwd.fn (F := Ideal) (m ((c.tc : Thread Cert.KernelInbwdIdeal.nD Cert.KernelInbwdIdeal.τ).loc Cert.KernelInbwdIdeal.main_arg0)) (m ((c.tc : Thread Cert.KernelInbwdIdeal.nD Cert.KernelInbwdIdeal.τ).loc Cert.KernelInbwdIdeal.main_arg1)) (m ((c.tc : Thread Cert.KernelInbwdIdeal.nD Cert.KernelInbwdIdeal.τ).loc Cert.KernelInbwdIdeal.main_arg2)) (m ((c.tc : Thread Cert.KernelInbwdIdeal.nD Cert.KernelInbwdIdeal.τ).loc Cert.KernelInbwdIdeal.main_arg3)) (m ((c.tc : Thread Cert.KernelInbwdIdeal.nD Cert.KernelInbwdIdeal.τ).loc Cert.KernelInbwdIdeal.main_arg4))) = (fun _ => 1#1)

def Pre_ReferenceInbwdIdeal (m : (ℓ : Loc Cert.ReferenceInbwdIdeal.nD Cert.ReferenceInbwdIdeal.τ Cert.ReferenceInbwdIdeal.sig) → Buf (Elt Ideal) ℓ) : Prop :=
  True

def Pre_ReferenceInbwdIdeal_finite_inbwd [hPre_finite_inbwd : Cert.Pre_finite_inbwd.Facts] (m : (ℓ : Loc Cert.ReferenceInbwdIdeal.nD Cert.ReferenceInbwdIdeal.τ Cert.ReferenceInbwdIdeal.sig) → Buf (Elt Ideal) ℓ) : Prop :=
  ∀ c : Dev Cert.ReferenceInbwdIdeal.nD,
    (Cert.Pre_finite_inbwd.fn (F := Ideal) (m ((c.tc : Thread Cert.ReferenceInbwdIdeal.nD Cert.ReferenceInbwdIdeal.τ).loc Cert.ReferenceInbwdIdeal.main_arg0)) (m ((c.tc : Thread Cert.ReferenceInbwdIdeal.nD Cert.ReferenceInbwdIdeal.τ).loc Cert.ReferenceInbwdIdeal.main_arg1)) (m ((c.tc : Thread Cert.ReferenceInbwdIdeal.nD Cert.ReferenceInbwdIdeal.τ).loc Cert.ReferenceInbwdIdeal.main_arg2)) (m ((c.tc : Thread Cert.ReferenceInbwdIdeal.nD Cert.ReferenceInbwdIdeal.τ).loc Cert.ReferenceInbwdIdeal.main_arg3)) (m ((c.tc : Thread Cert.ReferenceInbwdIdeal.nD Cert.ReferenceInbwdIdeal.τ).loc Cert.ReferenceInbwdIdeal.main_arg4))) = (fun _ => 1#1)

def Pre_KernelPoolf (m : (ℓ : Loc Cert.KernelPoolf.nD Cert.KernelPoolf.τ Cert.KernelPoolf.sig) → Buf (Elt Bits) ℓ) : Prop :=
  True

def Pre_KernelPoolfIdeal (m : (ℓ : Loc Cert.KernelPoolfIdeal.nD Cert.KernelPoolfIdeal.τ Cert.KernelPoolfIdeal.sig) → Buf (Elt Ideal) ℓ) : Prop :=
  True

def Pre_KernelPoolfIdeal_finite_poolf [hPre_finite_poolf : Cert.Pre_finite_poolf.Facts] (m : (ℓ : Loc Cert.KernelPoolfIdeal.nD Cert.KernelPoolfIdeal.τ Cert.KernelPoolfIdeal.sig) → Buf (Elt Ideal) ℓ) : Prop :=
  ∀ c : Dev Cert.KernelPoolfIdeal.nD,
    (Cert.Pre_finite_poolf.fn (F := Ideal) (m ((c.tc : Thread Cert.KernelPoolfIdeal.nD Cert.KernelPoolfIdeal.τ).loc Cert.KernelPoolfIdeal.main_arg0)) (m ((c.tc : Thread Cert.KernelPoolfIdeal.nD Cert.KernelPoolfIdeal.τ).loc Cert.KernelPoolfIdeal.main_arg1)) (m ((c.tc : Thread Cert.KernelPoolfIdeal.nD Cert.KernelPoolfIdeal.τ).loc Cert.KernelPoolfIdeal.main_arg2))) = (fun _ => 1#1)

def Pre_ReferencePoolfIdeal (m : (ℓ : Loc Cert.ReferencePoolfIdeal.nD Cert.ReferencePoolfIdeal.τ Cert.ReferencePoolfIdeal.sig) → Buf (Elt Ideal) ℓ) : Prop :=
  True

def Pre_ReferencePoolfIdeal_finite_poolf [hPre_finite_poolf : Cert.Pre_finite_poolf.Facts] (m : (ℓ : Loc Cert.ReferencePoolfIdeal.nD Cert.ReferencePoolfIdeal.τ Cert.ReferencePoolfIdeal.sig) → Buf (Elt Ideal) ℓ) : Prop :=
  ∀ c : Dev Cert.ReferencePoolfIdeal.nD,
    (Cert.Pre_finite_poolf.fn (F := Ideal) (m ((c.tc : Thread Cert.ReferencePoolfIdeal.nD Cert.ReferencePoolfIdeal.τ).loc Cert.ReferencePoolfIdeal.main_arg0)) (m ((c.tc : Thread Cert.ReferencePoolfIdeal.nD Cert.ReferencePoolfIdeal.τ).loc Cert.ReferencePoolfIdeal.main_arg1)) (m ((c.tc : Thread Cert.ReferencePoolfIdeal.nD Cert.ReferencePoolfIdeal.τ).loc Cert.ReferencePoolfIdeal.main_arg2))) = (fun _ => 1#1)

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_ReferenceAttnIdeal (m : (ℓ : Loc Cert.ReferenceAttnIdeal.nD Cert.ReferenceAttnIdeal.τ Cert.ReferenceAttnIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelHgf (m : (ℓ : Loc Cert.KernelHgf.nD Cert.KernelHgf.τ Cert.KernelHgf.sig) → Buf (Elt Bits) ℓ) : Prop :=
  True

def Pre_KernelHgfIdeal (m : (ℓ : Loc Cert.KernelHgfIdeal.nD Cert.KernelHgfIdeal.τ Cert.KernelHgfIdeal.sig) → Buf (Elt Ideal) ℓ) : Prop :=
  True

def Pre_KernelHgfIdeal_finite_hgf [hPre_finite_hgf : Cert.Pre_finite_hgf.Facts] (m : (ℓ : Loc Cert.KernelHgfIdeal.nD Cert.KernelHgfIdeal.τ Cert.KernelHgfIdeal.sig) → Buf (Elt Ideal) ℓ) : Prop :=
  ∀ c : Dev Cert.KernelHgfIdeal.nD,
    (Cert.Pre_finite_hgf.fn (F := Ideal) (m ((c.tc : Thread Cert.KernelHgfIdeal.nD Cert.KernelHgfIdeal.τ).loc Cert.KernelHgfIdeal.main_arg0)) (m ((c.tc : Thread Cert.KernelHgfIdeal.nD Cert.KernelHgfIdeal.τ).loc Cert.KernelHgfIdeal.main_arg1)) (m ((c.tc : Thread Cert.KernelHgfIdeal.nD Cert.KernelHgfIdeal.τ).loc Cert.KernelHgfIdeal.main_arg2))) = (fun _ => 1#1)

def Pre_ReferenceHgfIdeal (m : (ℓ : Loc Cert.ReferenceHgfIdeal.nD Cert.ReferenceHgfIdeal.τ Cert.ReferenceHgfIdeal.sig) → Buf (Elt Ideal) ℓ) : Prop :=
  True

def Pre_ReferenceHgfIdeal_finite_hgf [hPre_finite_hgf : Cert.Pre_finite_hgf.Facts] (m : (ℓ : Loc Cert.ReferenceHgfIdeal.nD Cert.ReferenceHgfIdeal.τ Cert.ReferenceHgfIdeal.sig) → Buf (Elt Ideal) ℓ) : Prop :=
  ∀ c : Dev Cert.ReferenceHgfIdeal.nD,
    (Cert.Pre_finite_hgf.fn (F := Ideal) (m ((c.tc : Thread Cert.ReferenceHgfIdeal.nD Cert.ReferenceHgfIdeal.τ).loc Cert.ReferenceHgfIdeal.main_arg0)) (m ((c.tc : Thread Cert.ReferenceHgfIdeal.nD Cert.ReferenceHgfIdeal.τ).loc Cert.ReferenceHgfIdeal.main_arg1)) (m ((c.tc : Thread Cert.ReferenceHgfIdeal.nD Cert.ReferenceHgfIdeal.τ).loc Cert.ReferenceHgfIdeal.main_arg2))) = (fun _ => 1#1)

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelDy (m : (ℓ : Loc Cert.KernelDy.nD Cert.KernelDy.τ Cert.KernelDy.sig) → Buf (Elt Bits) ℓ) : Prop :=
  True

def Pre_KernelDyIdeal (m : (ℓ : Loc Cert.KernelDyIdeal.nD Cert.KernelDyIdeal.τ Cert.KernelDyIdeal.sig) → Buf (Elt Ideal) ℓ) : Prop :=
  True

def Pre_ReferenceDyIdeal (m : (ℓ : Loc Cert.ReferenceDyIdeal.nD Cert.ReferenceDyIdeal.τ Cert.ReferenceDyIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelPsum [hPre_finite_psum : Cert.Pre_finite_psum.Facts] (m : (ℓ : Loc Cert.KernelPsum.nD Cert.KernelPsum.τ Cert.KernelPsum.sig) → Buf (Elt Bits) ℓ) : Prop :=
  ∀ c : Dev Cert.KernelPsum.nD,
    (Cert.Pre_finite_psum.fn (F := Bits) (m ((c.tc : Thread Cert.KernelPsum.nD Cert.KernelPsum.τ).loc Cert.KernelPsum.main_arg0)) (m ((c.tc : Thread Cert.KernelPsum.nD Cert.KernelPsum.τ).loc Cert.KernelPsum.main_arg1)) (m ((c.tc : Thread Cert.KernelPsum.nD Cert.KernelPsum.τ).loc Cert.KernelPsum.main_arg2))) = (fun _ => 1#1)

def Pre_KernelPsumIdeal [hPre_finite_psum : Cert.Pre_finite_psum.Facts] (m : (ℓ : Loc Cert.KernelPsumIdeal.nD Cert.KernelPsumIdeal.τ Cert.KernelPsumIdeal.sig) → Buf (Elt Ideal) ℓ) : Prop :=
  ∀ c : Dev Cert.KernelPsumIdeal.nD,
    (Cert.Pre_finite_psum.fn (F := Ideal) (m ((c.tc : Thread Cert.KernelPsumIdeal.nD Cert.KernelPsumIdeal.τ).loc Cert.KernelPsumIdeal.main_arg0)) (m ((c.tc : Thread Cert.KernelPsumIdeal.nD Cert.KernelPsumIdeal.τ).loc Cert.KernelPsumIdeal.main_arg1)) (m ((c.tc : Thread Cert.KernelPsumIdeal.nD Cert.KernelPsumIdeal.τ).loc Cert.KernelPsumIdeal.main_arg2))) = (fun _ => 1#1)

def Pre_ReferencePsumIdeal (m : (ℓ : Loc Cert.ReferencePsumIdeal.nD Cert.ReferencePsumIdeal.τ Cert.ReferencePsumIdeal.sig) → Buf (Elt Ideal) ℓ) : Prop :=
  True

def Pre_ReferencePsumIdeal_finite_psum [hPre_finite_psum : Cert.Pre_finite_psum.Facts] (m : (ℓ : Loc Cert.ReferencePsumIdeal.nD Cert.ReferencePsumIdeal.τ Cert.ReferencePsumIdeal.sig) → Buf (Elt Ideal) ℓ) : Prop :=
  ∀ c : Dev Cert.ReferencePsumIdeal.nD,
    (Cert.Pre_finite_psum.fn (F := Ideal) (m ((c.tc : Thread Cert.ReferencePsumIdeal.nD Cert.ReferencePsumIdeal.τ).loc Cert.ReferencePsumIdeal.main_arg0)) (m ((c.tc : Thread Cert.ReferencePsumIdeal.nD Cert.ReferencePsumIdeal.τ).loc Cert.ReferencePsumIdeal.main_arg1)) (m ((c.tc : Thread Cert.ReferencePsumIdeal.nD Cert.ReferencePsumIdeal.τ).loc Cert.ReferencePsumIdeal.main_arg2))) = (fun _ => 1#1)

def Pre_KernelSlot [hPre_finite_slot : Cert.Pre_finite_slot.Facts] (m : (ℓ : Loc Cert.KernelSlot.nD Cert.KernelSlot.τ Cert.KernelSlot.sig) → Buf (Elt Bits) ℓ) : Prop :=
  ∀ c : Dev Cert.KernelSlot.nD,
    (Cert.Pre_finite_slot.fn (F := Bits) (m ((c.tc : Thread Cert.KernelSlot.nD Cert.KernelSlot.τ).loc Cert.KernelSlot.main_arg0)) (m ((c.tc : Thread Cert.KernelSlot.nD Cert.KernelSlot.τ).loc Cert.KernelSlot.main_arg1))) = (fun _ => 1#1)

def Pre_KernelSlotIdeal [hPre_finite_slot : Cert.Pre_finite_slot.Facts] (m : (ℓ : Loc Cert.KernelSlotIdeal.nD Cert.KernelSlotIdeal.τ Cert.KernelSlotIdeal.sig) → Buf (Elt Ideal) ℓ) : Prop :=
  ∀ c : Dev Cert.KernelSlotIdeal.nD,
    (Cert.Pre_finite_slot.fn (F := Ideal) (m ((c.tc : Thread Cert.KernelSlotIdeal.nD Cert.KernelSlotIdeal.τ).loc Cert.KernelSlotIdeal.main_arg0)) (m ((c.tc : Thread Cert.KernelSlotIdeal.nD Cert.KernelSlotIdeal.τ).loc Cert.KernelSlotIdeal.main_arg1))) = (fun _ => 1#1)

def Pre_ReferenceSlotIdeal (m : (ℓ : Loc Cert.ReferenceSlotIdeal.nD Cert.ReferenceSlotIdeal.τ Cert.ReferenceSlotIdeal.sig) → Buf (Elt Ideal) ℓ) : Prop :=
  True

def Pre_ReferenceSlotIdeal_finite_slot [hPre_finite_slot : Cert.Pre_finite_slot.Facts] (m : (ℓ : Loc Cert.ReferenceSlotIdeal.nD Cert.ReferenceSlotIdeal.τ Cert.ReferenceSlotIdeal.sig) → Buf (Elt Ideal) ℓ) : Prop :=
  ∀ c : Dev Cert.ReferenceSlotIdeal.nD,
    (Cert.Pre_finite_slot.fn (F := Ideal) (m ((c.tc : Thread Cert.ReferenceSlotIdeal.nD Cert.ReferenceSlotIdeal.τ).loc Cert.ReferenceSlotIdeal.main_arg0)) (m ((c.tc : Thread Cert.ReferenceSlotIdeal.nD Cert.ReferenceSlotIdeal.τ).loc Cert.ReferenceSlotIdeal.main_arg1))) = (fun _ => 1#1)

def quiescent_KernelSwiglu [hKernelSwiglu : Cert.KernelSwiglu.Facts] : Prop :=
  ∀ (m : (ℓ : Loc Cert.KernelSwiglu.nD Cert.KernelSwiglu.τ Cert.KernelSwiglu.sig) → Buf (Elt Bits) ℓ) (g : Dev Cert.KernelSwiglu.nD → PrngReg), Pre_KernelSwiglu m →
    θ_run (Cert.KernelSwiglu.defs (F := Bits)) (onTc (τ := Cert.KernelSwiglu.τ) (Cert.KernelSwiglu.main (F := Bits))) ⟨m, fun _ => 0, g⟩ (fun r => (∀ c : Dev Cert.KernelSwiglu.nD,
      r.2.mem ((c.tc : Thread Cert.KernelSwiglu.nD Cert.KernelSwiglu.τ).loc Cert.KernelSwiglu.main_arg0) = m ((c.tc : Thread Cert.KernelSwiglu.nD Cert.KernelSwiglu.τ).loc Cert.KernelSwiglu.main_arg0)
      ∧ r.2.mem ((c.tc : Thread Cert.KernelSwiglu.nD Cert.KernelSwiglu.τ).loc Cert.KernelSwiglu.main_arg1) = m ((c.tc : Thread Cert.KernelSwiglu.nD Cert.KernelSwiglu.τ).loc Cert.KernelSwiglu.main_arg1)
      ∧ r.2.mem ((c.tc : Thread Cert.KernelSwiglu.nD Cert.KernelSwiglu.τ).loc Cert.KernelSwiglu.main_arg2) = m ((c.tc : Thread Cert.KernelSwiglu.nD Cert.KernelSwiglu.τ).loc Cert.KernelSwiglu.main_arg2))
      ∧ r.2.sem = fun _ => 0)

def quiescent_KernelSwigluIdeal [hKernelSwigluIdeal : Cert.KernelSwigluIdeal.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg), Pre_KernelSwigluIdeal m →
    θ_run (Cert.KernelSwigluIdeal.defs (F := Ideal)) (onTc (τ := Cert.KernelSwigluIdeal.τ) (Cert.KernelSwigluIdeal.main (F := Ideal))) ⟨m, fun _ => 0, g⟩ (fun r => (∀ c : Dev Cert.KernelSwigluIdeal.nD,
      r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
      ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
      ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2))
      ∧ r.2.sem = fun _ => 0)

def quiescent_KernelSwigluIdeal_pre_finite_swiglu [hKernelSwigluIdeal : Cert.KernelSwigluIdeal.Facts] [hPre_finite_swiglu : Cert.Pre_finite_swiglu.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg), Pre_KernelSwigluIdeal_finite_swiglu m →
    θ_run (Cert.KernelSwigluIdeal.defs (F := Ideal)) (onTc (τ := Cert.KernelSwigluIdeal.τ) (Cert.KernelSwigluIdeal.main (F := Ideal))) ⟨m, fun _ => 0, g⟩ (fun r => (∀ c : Dev Cert.KernelSwigluIdeal.nD,
      r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
      ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
      ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2))
      ∧ r.2.sem = fun _ => 0)

def quiescent_ReferenceSwigluIdeal [hReferenceSwigluIdeal : Cert.ReferenceSwigluIdeal.Facts] : Prop :=
  ∀ (m : (ℓ : Loc Cert.ReferenceSwigluIdeal.nD Cert.ReferenceSwigluIdeal.τ Cert.ReferenceSwigluIdeal.sig) → Buf (Elt Ideal) ℓ) (g : Dev Cert.ReferenceSwigluIdeal.nD → PrngReg), Pre_ReferenceSwigluIdeal m →
    θ_run (Cert.ReferenceSwigluIdeal.defs (F := Ideal)) (onTc (τ := Cert.ReferenceSwigluIdeal.τ) (Cert.ReferenceSwigluIdeal.main (F := Ideal))) ⟨m, fun _ => 0, g⟩ (fun r => (∀ c : Dev Cert.ReferenceSwigluIdeal.nD,
      r.2.mem ((c.tc : Thread Cert.ReferenceSwigluIdeal.nD Cert.ReferenceSwigluIdeal.τ).loc Cert.ReferenceSwigluIdeal.main_arg0) = m ((c.tc : Thread Cert.ReferenceSwigluIdeal.nD Cert.ReferenceSwigluIdeal.τ).loc Cert.ReferenceSwigluIdeal.main_arg0)
      ∧ r.2.mem ((c.tc : Thread Cert.ReferenceSwigluIdeal.nD Cert.ReferenceSwigluIdeal.τ).loc Cert.ReferenceSwigluIdeal.main_arg1) = m ((c.tc : Thread Cert.ReferenceSwigluIdeal.nD Cert.ReferenceSwigluIdeal.τ).loc Cert.ReferenceSwigluIdeal.main_arg1)
      ∧ r.2.mem ((c.tc : Thread Cert.ReferenceSwigluIdeal.nD Cert.ReferenceSwigluIdeal.τ).loc Cert.ReferenceSwigluIdeal.main_arg2) = m ((c.tc : Thread Cert.ReferenceSwigluIdeal.nD Cert.ReferenceSwigluIdeal.τ).loc Cert.ReferenceSwigluIdeal.main_arg2))
      ∧ r.2.sem = fun _ => 0)

def quiescent_ReferenceSwigluIdeal_pre_finite_swiglu [hReferenceSwigluIdeal : Cert.ReferenceSwigluIdeal.Facts] [hPre_finite_swiglu : Cert.Pre_finite_swiglu.Facts] : Prop :=
  ∀ (m : (ℓ : Loc Cert.ReferenceSwigluIdeal.nD Cert.ReferenceSwigluIdeal.τ Cert.ReferenceSwigluIdeal.sig) → Buf (Elt Ideal) ℓ) (g : Dev Cert.ReferenceSwigluIdeal.nD → PrngReg), Pre_ReferenceSwigluIdeal_finite_swiglu m →
    θ_run (Cert.ReferenceSwigluIdeal.defs (F := Ideal)) (onTc (τ := Cert.ReferenceSwigluIdeal.τ) (Cert.ReferenceSwigluIdeal.main (F := Ideal))) ⟨m, fun _ => 0, g⟩ (fun r => (∀ c : Dev Cert.ReferenceSwigluIdeal.nD,
      r.2.mem ((c.tc : Thread Cert.ReferenceSwigluIdeal.nD Cert.ReferenceSwigluIdeal.τ).loc Cert.ReferenceSwigluIdeal.main_arg0) = m ((c.tc : Thread Cert.ReferenceSwigluIdeal.nD Cert.ReferenceSwigluIdeal.τ).loc Cert.ReferenceSwigluIdeal.main_arg0)
      ∧ r.2.mem ((c.tc : Thread Cert.ReferenceSwigluIdeal.nD Cert.ReferenceSwigluIdeal.τ).loc Cert.ReferenceSwigluIdeal.main_arg1) = m ((c.tc : Thread Cert.ReferenceSwigluIdeal.nD Cert.ReferenceSwigluIdeal.τ).loc Cert.ReferenceSwigluIdeal.main_arg1)
      ∧ r.2.mem ((c.tc : Thread Cert.ReferenceSwigluIdeal.nD Cert.ReferenceSwigluIdeal.τ).loc Cert.ReferenceSwigluIdeal.main_arg2) = m ((c.tc : Thread Cert.ReferenceSwigluIdeal.nD Cert.ReferenceSwigluIdeal.τ).loc Cert.ReferenceSwigluIdeal.main_arg2))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2)
      ∧ r.2.mem ((c.tc : Thread Cert.KernelGates.nD Cert.KernelGates.τ).loc Cert.KernelGates.main_arg3) = m ((c.tc : Thread Cert.KernelGates.nD Cert.KernelGates.τ).loc Cert.KernelGates.main_arg3)
      ∧ r.2.mem ((c.tc : Thread Cert.KernelGates.nD Cert.KernelGates.τ).loc Cert.KernelGates.main_arg4) = m ((c.tc : Thread Cert.KernelGates.nD Cert.KernelGates.τ).loc Cert.KernelGates.main_arg4)
      ∧ r.2.mem ((c.tc : Thread Cert.KernelGates.nD Cert.KernelGates.τ).loc Cert.KernelGates.main_arg5) = m ((c.tc : Thread Cert.KernelGates.nD Cert.KernelGates.τ).loc Cert.KernelGates.main_arg5)
      ∧ r.2.mem ((c.tc : Thread Cert.KernelGates.nD Cert.KernelGates.τ).loc Cert.KernelGates.main_arg6) = m ((c.tc : Thread Cert.KernelGates.nD Cert.KernelGates.τ).loc Cert.KernelGates.main_arg6))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
      ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
      ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4)
      ∧ r.2.mem ((c.tc : Thread Cert.KernelGatesIdeal.nD Cert.KernelGatesIdeal.τ).loc Cert.KernelGatesIdeal.main_arg5) = m ((c.tc : Thread Cert.KernelGatesIdeal.nD Cert.KernelGatesIdeal.τ).loc Cert.KernelGatesIdeal.main_arg5)
      ∧ r.2.mem ((c.tc : Thread Cert.KernelGatesIdeal.nD Cert.KernelGatesIdeal.τ).loc Cert.KernelGatesIdeal.main_arg6) = m ((c.tc : Thread Cert.KernelGatesIdeal.nD Cert.KernelGatesIdeal.τ).loc Cert.KernelGatesIdeal.main_arg6))
      ∧ r.2.sem = fun _ => 0)

def quiescent_KernelGatesIdeal_pre_finite_gates [hKernelGatesIdeal : Cert.KernelGatesIdeal.Facts] [hPre_finite_gates : Cert.Pre_finite_gates.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal_finite_gates m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
      ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
      ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4)
      ∧ r.2.mem ((c.tc : Thread Cert.KernelGatesIdeal.nD Cert.KernelGatesIdeal.τ).loc Cert.KernelGatesIdeal.main_arg5) = m ((c.tc : Thread Cert.KernelGatesIdeal.nD Cert.KernelGatesIdeal.τ).loc Cert.KernelGatesIdeal.main_arg5)
      ∧ r.2.mem ((c.tc : Thread Cert.KernelGatesIdeal.nD Cert.KernelGatesIdeal.τ).loc Cert.KernelGatesIdeal.main_arg6) = m ((c.tc : Thread Cert.KernelGatesIdeal.nD Cert.KernelGatesIdeal.τ).loc Cert.KernelGatesIdeal.main_arg6))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2)
      ∧ r.2.mem ((c.tc : Thread Cert.ReferenceGatesIdeal.nD Cert.ReferenceGatesIdeal.τ).loc Cert.ReferenceGatesIdeal.main_arg3) = m ((c.tc : Thread Cert.ReferenceGatesIdeal.nD Cert.ReferenceGatesIdeal.τ).loc Cert.ReferenceGatesIdeal.main_arg3)
      ∧ r.2.mem ((c.tc : Thread Cert.ReferenceGatesIdeal.nD Cert.ReferenceGatesIdeal.τ).loc Cert.ReferenceGatesIdeal.main_arg4) = m ((c.tc : Thread Cert.ReferenceGatesIdeal.nD Cert.ReferenceGatesIdeal.τ).loc Cert.ReferenceGatesIdeal.main_arg4)
      ∧ r.2.mem ((c.tc : Thread Cert.ReferenceGatesIdeal.nD Cert.ReferenceGatesIdeal.τ).loc Cert.ReferenceGatesIdeal.main_arg5) = m ((c.tc : Thread Cert.ReferenceGatesIdeal.nD Cert.ReferenceGatesIdeal.τ).loc Cert.ReferenceGatesIdeal.main_arg5)
      ∧ r.2.mem ((c.tc : Thread Cert.ReferenceGatesIdeal.nD Cert.ReferenceGatesIdeal.τ).loc Cert.ReferenceGatesIdeal.main_arg6) = m ((c.tc : Thread Cert.ReferenceGatesIdeal.nD Cert.ReferenceGatesIdeal.τ).loc Cert.ReferenceGatesIdeal.main_arg6))
      ∧ r.2.sem = fun _ => 0)

def quiescent_ReferenceGatesIdeal_pre_finite_gates [hReferenceGatesIdeal : Cert.ReferenceGatesIdeal.Facts] [hPre_finite_gates : Cert.Pre_finite_gates.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal_finite_gates m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2)
      ∧ r.2.mem ((c.tc : Thread Cert.ReferenceGatesIdeal.nD Cert.ReferenceGatesIdeal.τ).loc Cert.ReferenceGatesIdeal.main_arg3) = m ((c.tc : Thread Cert.ReferenceGatesIdeal.nD Cert.ReferenceGatesIdeal.τ).loc Cert.ReferenceGatesIdeal.main_arg3)
      ∧ r.2.mem ((c.tc : Thread Cert.ReferenceGatesIdeal.nD Cert.ReferenceGatesIdeal.τ).loc Cert.ReferenceGatesIdeal.main_arg4) = m ((c.tc : Thread Cert.ReferenceGatesIdeal.nD Cert.ReferenceGatesIdeal.τ).loc Cert.ReferenceGatesIdeal.main_arg4)
      ∧ r.2.mem ((c.tc : Thread Cert.ReferenceGatesIdeal.nD Cert.ReferenceGatesIdeal.τ).loc Cert.ReferenceGatesIdeal.main_arg5) = m ((c.tc : Thread Cert.ReferenceGatesIdeal.nD Cert.ReferenceGatesIdeal.τ).loc Cert.ReferenceGatesIdeal.main_arg5)
      ∧ r.2.mem ((c.tc : Thread Cert.ReferenceGatesIdeal.nD Cert.ReferenceGatesIdeal.τ).loc Cert.ReferenceGatesIdeal.main_arg6) = m ((c.tc : Thread Cert.ReferenceGatesIdeal.nD Cert.ReferenceGatesIdeal.τ).loc Cert.ReferenceGatesIdeal.main_arg6))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2)
      ∧ r.2.mem ((c.tc : Thread Cert.KernelPool.nD Cert.KernelPool.τ).loc Cert.KernelPool.main_arg3) = m ((c.tc : Thread Cert.KernelPool.nD Cert.KernelPool.τ).loc Cert.KernelPool.main_arg3))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_KernelPoolIdeal_pre_finite_pool [hKernelPoolIdeal : Cert.KernelPoolIdeal.Facts] [hPre_finite_pool : Cert.Pre_finite_pool.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_finite_pool m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_ReferencePoolIdeal_pre_finite_pool [hReferencePoolIdeal : Cert.ReferencePoolIdeal.Facts] [hPre_finite_pool : Cert.Pre_finite_pool.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_finite_pool m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_KernelBound [hKernelBound : Cert.KernelBound.Facts] : Prop :=
  ∀ (m : (ℓ : Loc Cert.KernelBound.nD Cert.KernelBound.τ Cert.KernelBound.sig) → Buf (Elt Bits) ℓ) (g : Dev Cert.KernelBound.nD → PrngReg), Pre_KernelBound m →
    θ_run (Cert.KernelBound.defs (F := Bits)) (onTc (τ := Cert.KernelBound.τ) (Cert.KernelBound.main (F := Bits))) ⟨m, fun _ => 0, g⟩ (fun r => (∀ c : Dev Cert.KernelBound.nD,
      r.2.mem ((c.tc : Thread Cert.KernelBound.nD Cert.KernelBound.τ).loc Cert.KernelBound.main_arg0) = m ((c.tc : Thread Cert.KernelBound.nD Cert.KernelBound.τ).loc Cert.KernelBound.main_arg0)
      ∧ r.2.mem ((c.tc : Thread Cert.KernelBound.nD Cert.KernelBound.τ).loc Cert.KernelBound.main_arg1) = m ((c.tc : Thread Cert.KernelBound.nD Cert.KernelBound.τ).loc Cert.KernelBound.main_arg1))
      ∧ r.2.sem = fun _ => 0)

def quiescent_KernelBoundIdeal [hKernelBoundIdeal : Cert.KernelBoundIdeal.Facts] : Prop :=
  ∀ (m : (ℓ : Loc Cert.KernelBoundIdeal.nD Cert.KernelBoundIdeal.τ Cert.KernelBoundIdeal.sig) → Buf (Elt Ideal) ℓ) (g : Dev Cert.KernelBoundIdeal.nD → PrngReg), Pre_KernelBoundIdeal m →
    θ_run (Cert.KernelBoundIdeal.defs (F := Ideal)) (onTc (τ := Cert.KernelBoundIdeal.τ) (Cert.KernelBoundIdeal.main (F := Ideal))) ⟨m, fun _ => 0, g⟩ (fun r => (∀ c : Dev Cert.KernelBoundIdeal.nD,
      r.2.mem ((c.tc : Thread Cert.KernelBoundIdeal.nD Cert.KernelBoundIdeal.τ).loc Cert.KernelBoundIdeal.main_arg0) = m ((c.tc : Thread Cert.KernelBoundIdeal.nD Cert.KernelBoundIdeal.τ).loc Cert.KernelBoundIdeal.main_arg0)
      ∧ r.2.mem ((c.tc : Thread Cert.KernelBoundIdeal.nD Cert.KernelBoundIdeal.τ).loc Cert.KernelBoundIdeal.main_arg1) = m ((c.tc : Thread Cert.KernelBoundIdeal.nD Cert.KernelBoundIdeal.τ).loc Cert.KernelBoundIdeal.main_arg1))
      ∧ r.2.sem = fun _ => 0)

def quiescent_KernelBoundIdeal_pre_finite_bound [hKernelBoundIdeal : Cert.KernelBoundIdeal.Facts] [hPre_finite_bound : Cert.Pre_finite_bound.Facts] : Prop :=
  ∀ (m : (ℓ : Loc Cert.KernelBoundIdeal.nD Cert.KernelBoundIdeal.τ Cert.KernelBoundIdeal.sig) → Buf (Elt Ideal) ℓ) (g : Dev Cert.KernelBoundIdeal.nD → PrngReg), Pre_KernelBoundIdeal_finite_bound m →
    θ_run (Cert.KernelBoundIdeal.defs (F := Ideal)) (onTc (τ := Cert.KernelBoundIdeal.τ) (Cert.KernelBoundIdeal.main (F := Ideal))) ⟨m, fun _ => 0, g⟩ (fun r => (∀ c : Dev Cert.KernelBoundIdeal.nD,
      r.2.mem ((c.tc : Thread Cert.KernelBoundIdeal.nD Cert.KernelBoundIdeal.τ).loc Cert.KernelBoundIdeal.main_arg0) = m ((c.tc : Thread Cert.KernelBoundIdeal.nD Cert.KernelBoundIdeal.τ).loc Cert.KernelBoundIdeal.main_arg0)
      ∧ r.2.mem ((c.tc : Thread Cert.KernelBoundIdeal.nD Cert.KernelBoundIdeal.τ).loc Cert.KernelBoundIdeal.main_arg1) = m ((c.tc : Thread Cert.KernelBoundIdeal.nD Cert.KernelBoundIdeal.τ).loc Cert.KernelBoundIdeal.main_arg1))
      ∧ r.2.sem = fun _ => 0)

def quiescent_ReferenceBoundIdeal [hReferenceBoundIdeal : Cert.ReferenceBoundIdeal.Facts] : Prop :=
  ∀ (m : (ℓ : Loc Cert.ReferenceBoundIdeal.nD Cert.ReferenceBoundIdeal.τ Cert.ReferenceBoundIdeal.sig) → Buf (Elt Ideal) ℓ) (g : Dev Cert.ReferenceBoundIdeal.nD → PrngReg), Pre_ReferenceBoundIdeal m →
    θ_run (Cert.ReferenceBoundIdeal.defs (F := Ideal)) (onTc (τ := Cert.ReferenceBoundIdeal.τ) (Cert.ReferenceBoundIdeal.main (F := Ideal))) ⟨m, fun _ => 0, g⟩ (fun r => (∀ c : Dev Cert.ReferenceBoundIdeal.nD,
      r.2.mem ((c.tc : Thread Cert.ReferenceBoundIdeal.nD Cert.ReferenceBoundIdeal.τ).loc Cert.ReferenceBoundIdeal.main_arg0) = m ((c.tc : Thread Cert.ReferenceBoundIdeal.nD Cert.ReferenceBoundIdeal.τ).loc Cert.ReferenceBoundIdeal.main_arg0)
      ∧ r.2.mem ((c.tc : Thread Cert.ReferenceBoundIdeal.nD Cert.ReferenceBoundIdeal.τ).loc Cert.ReferenceBoundIdeal.main_arg1) = m ((c.tc : Thread Cert.ReferenceBoundIdeal.nD Cert.ReferenceBoundIdeal.τ).loc Cert.ReferenceBoundIdeal.main_arg1))
      ∧ r.2.sem = fun _ => 0)

def quiescent_ReferenceBoundIdeal_pre_finite_bound [hReferenceBoundIdeal : Cert.ReferenceBoundIdeal.Facts] [hPre_finite_bound : Cert.Pre_finite_bound.Facts] : Prop :=
  ∀ (m : (ℓ : Loc Cert.ReferenceBoundIdeal.nD Cert.ReferenceBoundIdeal.τ Cert.ReferenceBoundIdeal.sig) → Buf (Elt Ideal) ℓ) (g : Dev Cert.ReferenceBoundIdeal.nD → PrngReg), Pre_ReferenceBoundIdeal_finite_bound m →
    θ_run (Cert.ReferenceBoundIdeal.defs (F := Ideal)) (onTc (τ := Cert.ReferenceBoundIdeal.τ) (Cert.ReferenceBoundIdeal.main (F := Ideal))) ⟨m, fun _ => 0, g⟩ (fun r => (∀ c : Dev Cert.ReferenceBoundIdeal.nD,
      r.2.mem ((c.tc : Thread Cert.ReferenceBoundIdeal.nD Cert.ReferenceBoundIdeal.τ).loc Cert.ReferenceBoundIdeal.main_arg0) = m ((c.tc : Thread Cert.ReferenceBoundIdeal.nD Cert.ReferenceBoundIdeal.τ).loc Cert.ReferenceBoundIdeal.main_arg0)
      ∧ r.2.mem ((c.tc : Thread Cert.ReferenceBoundIdeal.nD Cert.ReferenceBoundIdeal.τ).loc Cert.ReferenceBoundIdeal.main_arg1) = m ((c.tc : Thread Cert.ReferenceBoundIdeal.nD Cert.ReferenceBoundIdeal.τ).loc Cert.ReferenceBoundIdeal.main_arg1))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3)
      ∧ r.2.mem ((c.tc : Thread Cert.KernelNorm.nD Cert.KernelNorm.τ).loc Cert.KernelNorm.main_arg4) = m ((c.tc : Thread Cert.KernelNorm.nD Cert.KernelNorm.τ).loc Cert.KernelNorm.main_arg4))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_KernelNormIdeal_pre_finite_norm [hKernelNormIdeal : Cert.KernelNormIdeal.Facts] [hPre_finite_norm : Cert.Pre_finite_norm.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal_finite_norm m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
      ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_ReferenceNormIdeal_pre_finite_norm [hReferenceNormIdeal : Cert.ReferenceNormIdeal.Facts] [hPre_finite_norm : Cert.Pre_finite_norm.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal_finite_norm m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3)
      ∧ r.2.mem ((c.tc : Thread Cert.ReferenceNormIdeal.nD Cert.ReferenceNormIdeal.τ).loc Cert.ReferenceNormIdeal.main_arg4) = m ((c.tc : Thread Cert.ReferenceNormIdeal.nD Cert.ReferenceNormIdeal.τ).loc Cert.ReferenceNormIdeal.main_arg4))
      ∧ r.2.sem = fun _ => 0)

def quiescent_KernelInbwd [hKernelInbwd : Cert.KernelInbwd.Facts] : Prop :=
  ∀ (m : (ℓ : Loc Cert.KernelInbwd.nD Cert.KernelInbwd.τ Cert.KernelInbwd.sig) → Buf (Elt Bits) ℓ) (g : Dev Cert.KernelInbwd.nD → PrngReg), Pre_KernelInbwd m →
    θ_run (Cert.KernelInbwd.defs (F := Bits)) (onTc (τ := Cert.KernelInbwd.τ) (Cert.KernelInbwd.main (F := Bits))) ⟨m, fun _ => 0, g⟩ (fun r => (∀ c : Dev Cert.KernelInbwd.nD,
      r.2.mem ((c.tc : Thread Cert.KernelInbwd.nD Cert.KernelInbwd.τ).loc Cert.KernelInbwd.main_arg0) = m ((c.tc : Thread Cert.KernelInbwd.nD Cert.KernelInbwd.τ).loc Cert.KernelInbwd.main_arg0)
      ∧ r.2.mem ((c.tc : Thread Cert.KernelInbwd.nD Cert.KernelInbwd.τ).loc Cert.KernelInbwd.main_arg1) = m ((c.tc : Thread Cert.KernelInbwd.nD Cert.KernelInbwd.τ).loc Cert.KernelInbwd.main_arg1)
      ∧ r.2.mem ((c.tc : Thread Cert.KernelInbwd.nD Cert.KernelInbwd.τ).loc Cert.KernelInbwd.main_arg2) = m ((c.tc : Thread Cert.KernelInbwd.nD Cert.KernelInbwd.τ).loc Cert.KernelInbwd.main_arg2)
      ∧ r.2.mem ((c.tc : Thread Cert.KernelInbwd.nD Cert.KernelInbwd.τ).loc Cert.KernelInbwd.main_arg3) = m ((c.tc : Thread Cert.KernelInbwd.nD Cert.KernelInbwd.τ).loc Cert.KernelInbwd.main_arg3)
      ∧ r.2.mem ((c.tc : Thread Cert.KernelInbwd.nD Cert.KernelInbwd.τ).loc Cert.KernelInbwd.main_arg4) = m ((c.tc : Thread Cert.KernelInbwd.nD Cert.KernelInbwd.τ).loc Cert.KernelInbwd.main_arg4))
      ∧ r.2.sem = fun _ => 0)

def quiescent_KernelInbwdIdeal [hKernelInbwdIdeal : Cert.KernelInbwdIdeal.Facts] : Prop :=
  ∀ (m : (ℓ : Loc Cert.KernelInbwdIdeal.nD Cert.KernelInbwdIdeal.τ Cert.KernelInbwdIdeal.sig) → Buf (Elt Ideal) ℓ) (g : Dev Cert.KernelInbwdIdeal.nD → PrngReg), Pre_KernelInbwdIdeal m →
    θ_run (Cert.KernelInbwdIdeal.defs (F := Ideal)) (onTc (τ := Cert.KernelInbwdIdeal.τ) (Cert.KernelInbwdIdeal.main (F := Ideal))) ⟨m, fun _ => 0, g⟩ (fun r => (∀ c : Dev Cert.KernelInbwdIdeal.nD,
      r.2.mem ((c.tc : Thread Cert.KernelInbwdIdeal.nD Cert.KernelInbwdIdeal.τ).loc Cert.KernelInbwdIdeal.main_arg0) = m ((c.tc : Thread Cert.KernelInbwdIdeal.nD Cert.KernelInbwdIdeal.τ).loc Cert.KernelInbwdIdeal.main_arg0)
      ∧ r.2.mem ((c.tc : Thread Cert.KernelInbwdIdeal.nD Cert.KernelInbwdIdeal.τ).loc Cert.KernelInbwdIdeal.main_arg1) = m ((c.tc : Thread Cert.KernelInbwdIdeal.nD Cert.KernelInbwdIdeal.τ).loc Cert.KernelInbwdIdeal.main_arg1)
      ∧ r.2.mem ((c.tc : Thread Cert.KernelInbwdIdeal.nD Cert.KernelInbwdIdeal.τ).loc Cert.KernelInbwdIdeal.main_arg2) = m ((c.tc : Thread Cert.KernelInbwdIdeal.nD Cert.KernelInbwdIdeal.τ).loc Cert.KernelInbwdIdeal.main_arg2)
      ∧ r.2.mem ((c.tc : Thread Cert.KernelInbwdIdeal.nD Cert.KernelInbwdIdeal.τ).loc Cert.KernelInbwdIdeal.main_arg3) = m ((c.tc : Thread Cert.KernelInbwdIdeal.nD Cert.KernelInbwdIdeal.τ).loc Cert.KernelInbwdIdeal.main_arg3)
      ∧ r.2.mem ((c.tc : Thread Cert.KernelInbwdIdeal.nD Cert.KernelInbwdIdeal.τ).loc Cert.KernelInbwdIdeal.main_arg4) = m ((c.tc : Thread Cert.KernelInbwdIdeal.nD Cert.KernelInbwdIdeal.τ).loc Cert.KernelInbwdIdeal.main_arg4))
      ∧ r.2.sem = fun _ => 0)

def quiescent_KernelInbwdIdeal_pre_finite_inbwd [hKernelInbwdIdeal : Cert.KernelInbwdIdeal.Facts] [hPre_finite_inbwd : Cert.Pre_finite_inbwd.Facts] : Prop :=
  ∀ (m : (ℓ : Loc Cert.KernelInbwdIdeal.nD Cert.KernelInbwdIdeal.τ Cert.KernelInbwdIdeal.sig) → Buf (Elt Ideal) ℓ) (g : Dev Cert.KernelInbwdIdeal.nD → PrngReg), Pre_KernelInbwdIdeal_finite_inbwd m →
    θ_run (Cert.KernelInbwdIdeal.defs (F := Ideal)) (onTc (τ := Cert.KernelInbwdIdeal.τ) (Cert.KernelInbwdIdeal.main (F := Ideal))) ⟨m, fun _ => 0, g⟩ (fun r => (∀ c : Dev Cert.KernelInbwdIdeal.nD,
      r.2.mem ((c.tc : Thread Cert.KernelInbwdIdeal.nD Cert.KernelInbwdIdeal.τ).loc Cert.KernelInbwdIdeal.main_arg0) = m ((c.tc : Thread Cert.KernelInbwdIdeal.nD Cert.KernelInbwdIdeal.τ).loc Cert.KernelInbwdIdeal.main_arg0)
      ∧ r.2.mem ((c.tc : Thread Cert.KernelInbwdIdeal.nD Cert.KernelInbwdIdeal.τ).loc Cert.KernelInbwdIdeal.main_arg1) = m ((c.tc : Thread Cert.KernelInbwdIdeal.nD Cert.KernelInbwdIdeal.τ).loc Cert.KernelInbwdIdeal.main_arg1)
      ∧ r.2.mem ((c.tc : Thread Cert.KernelInbwdIdeal.nD Cert.KernelInbwdIdeal.τ).loc Cert.KernelInbwdIdeal.main_arg2) = m ((c.tc : Thread Cert.KernelInbwdIdeal.nD Cert.KernelInbwdIdeal.τ).loc Cert.KernelInbwdIdeal.main_arg2)
      ∧ r.2.mem ((c.tc : Thread Cert.KernelInbwdIdeal.nD Cert.KernelInbwdIdeal.τ).loc Cert.KernelInbwdIdeal.main_arg3) = m ((c.tc : Thread Cert.KernelInbwdIdeal.nD Cert.KernelInbwdIdeal.τ).loc Cert.KernelInbwdIdeal.main_arg3)
      ∧ r.2.mem ((c.tc : Thread Cert.KernelInbwdIdeal.nD Cert.KernelInbwdIdeal.τ).loc Cert.KernelInbwdIdeal.main_arg4) = m ((c.tc : Thread Cert.KernelInbwdIdeal.nD Cert.KernelInbwdIdeal.τ).loc Cert.KernelInbwdIdeal.main_arg4))
      ∧ r.2.sem = fun _ => 0)

def quiescent_ReferenceInbwdIdeal [hReferenceInbwdIdeal : Cert.ReferenceInbwdIdeal.Facts] : Prop :=
  ∀ (m : (ℓ : Loc Cert.ReferenceInbwdIdeal.nD Cert.ReferenceInbwdIdeal.τ Cert.ReferenceInbwdIdeal.sig) → Buf (Elt Ideal) ℓ) (g : Dev Cert.ReferenceInbwdIdeal.nD → PrngReg), Pre_ReferenceInbwdIdeal m →
    θ_run (Cert.ReferenceInbwdIdeal.defs (F := Ideal)) (onTc (τ := Cert.ReferenceInbwdIdeal.τ) (Cert.ReferenceInbwdIdeal.main (F := Ideal))) ⟨m, fun _ => 0, g⟩ (fun r => (∀ c : Dev Cert.ReferenceInbwdIdeal.nD,
      r.2.mem ((c.tc : Thread Cert.ReferenceInbwdIdeal.nD Cert.ReferenceInbwdIdeal.τ).loc Cert.ReferenceInbwdIdeal.main_arg0) = m ((c.tc : Thread Cert.ReferenceInbwdIdeal.nD Cert.ReferenceInbwdIdeal.τ).loc Cert.ReferenceInbwdIdeal.main_arg0)
      ∧ r.2.mem ((c.tc : Thread Cert.ReferenceInbwdIdeal.nD Cert.ReferenceInbwdIdeal.τ).loc Cert.ReferenceInbwdIdeal.main_arg1) = m ((c.tc : Thread Cert.ReferenceInbwdIdeal.nD Cert.ReferenceInbwdIdeal.τ).loc Cert.ReferenceInbwdIdeal.main_arg1)
      ∧ r.2.mem ((c.tc : Thread Cert.ReferenceInbwdIdeal.nD Cert.ReferenceInbwdIdeal.τ).loc Cert.ReferenceInbwdIdeal.main_arg2) = m ((c.tc : Thread Cert.ReferenceInbwdIdeal.nD Cert.ReferenceInbwdIdeal.τ).loc Cert.ReferenceInbwdIdeal.main_arg2)
      ∧ r.2.mem ((c.tc : Thread Cert.ReferenceInbwdIdeal.nD Cert.ReferenceInbwdIdeal.τ).loc Cert.ReferenceInbwdIdeal.main_arg3) = m ((c.tc : Thread Cert.ReferenceInbwdIdeal.nD Cert.ReferenceInbwdIdeal.τ).loc Cert.ReferenceInbwdIdeal.main_arg3)
      ∧ r.2.mem ((c.tc : Thread Cert.ReferenceInbwdIdeal.nD Cert.ReferenceInbwdIdeal.τ).loc Cert.ReferenceInbwdIdeal.main_arg4) = m ((c.tc : Thread Cert.ReferenceInbwdIdeal.nD Cert.ReferenceInbwdIdeal.τ).loc Cert.ReferenceInbwdIdeal.main_arg4))
      ∧ r.2.sem = fun _ => 0)

def quiescent_ReferenceInbwdIdeal_pre_finite_inbwd [hReferenceInbwdIdeal : Cert.ReferenceInbwdIdeal.Facts] [hPre_finite_inbwd : Cert.Pre_finite_inbwd.Facts] : Prop :=
  ∀ (m : (ℓ : Loc Cert.ReferenceInbwdIdeal.nD Cert.ReferenceInbwdIdeal.τ Cert.ReferenceInbwdIdeal.sig) → Buf (Elt Ideal) ℓ) (g : Dev Cert.ReferenceInbwdIdeal.nD → PrngReg), Pre_ReferenceInbwdIdeal_finite_inbwd m →
    θ_run (Cert.ReferenceInbwdIdeal.defs (F := Ideal)) (onTc (τ := Cert.ReferenceInbwdIdeal.τ) (Cert.ReferenceInbwdIdeal.main (F := Ideal))) ⟨m, fun _ => 0, g⟩ (fun r => (∀ c : Dev Cert.ReferenceInbwdIdeal.nD,
      r.2.mem ((c.tc : Thread Cert.ReferenceInbwdIdeal.nD Cert.ReferenceInbwdIdeal.τ).loc Cert.ReferenceInbwdIdeal.main_arg0) = m ((c.tc : Thread Cert.ReferenceInbwdIdeal.nD Cert.ReferenceInbwdIdeal.τ).loc Cert.ReferenceInbwdIdeal.main_arg0)
      ∧ r.2.mem ((c.tc : Thread Cert.ReferenceInbwdIdeal.nD Cert.ReferenceInbwdIdeal.τ).loc Cert.ReferenceInbwdIdeal.main_arg1) = m ((c.tc : Thread Cert.ReferenceInbwdIdeal.nD Cert.ReferenceInbwdIdeal.τ).loc Cert.ReferenceInbwdIdeal.main_arg1)
      ∧ r.2.mem ((c.tc : Thread Cert.ReferenceInbwdIdeal.nD Cert.ReferenceInbwdIdeal.τ).loc Cert.ReferenceInbwdIdeal.main_arg2) = m ((c.tc : Thread Cert.ReferenceInbwdIdeal.nD Cert.ReferenceInbwdIdeal.τ).loc Cert.ReferenceInbwdIdeal.main_arg2)
      ∧ r.2.mem ((c.tc : Thread Cert.ReferenceInbwdIdeal.nD Cert.ReferenceInbwdIdeal.τ).loc Cert.ReferenceInbwdIdeal.main_arg3) = m ((c.tc : Thread Cert.ReferenceInbwdIdeal.nD Cert.ReferenceInbwdIdeal.τ).loc Cert.ReferenceInbwdIdeal.main_arg3)
      ∧ r.2.mem ((c.tc : Thread Cert.ReferenceInbwdIdeal.nD Cert.ReferenceInbwdIdeal.τ).loc Cert.ReferenceInbwdIdeal.main_arg4) = m ((c.tc : Thread Cert.ReferenceInbwdIdeal.nD Cert.ReferenceInbwdIdeal.τ).loc Cert.ReferenceInbwdIdeal.main_arg4))
      ∧ r.2.sem = fun _ => 0)

def quiescent_KernelPoolf [hKernelPoolf : Cert.KernelPoolf.Facts] : Prop :=
  ∀ (m : (ℓ : Loc Cert.KernelPoolf.nD Cert.KernelPoolf.τ Cert.KernelPoolf.sig) → Buf (Elt Bits) ℓ) (g : Dev Cert.KernelPoolf.nD → PrngReg), Pre_KernelPoolf m →
    θ_run (Cert.KernelPoolf.defs (F := Bits)) (onTc (τ := Cert.KernelPoolf.τ) (Cert.KernelPoolf.main (F := Bits))) ⟨m, fun _ => 0, g⟩ (fun r => (∀ c : Dev Cert.KernelPoolf.nD,
      r.2.mem ((c.tc : Thread Cert.KernelPoolf.nD Cert.KernelPoolf.τ).loc Cert.KernelPoolf.main_arg0) = m ((c.tc : Thread Cert.KernelPoolf.nD Cert.KernelPoolf.τ).loc Cert.KernelPoolf.main_arg0)
      ∧ r.2.mem ((c.tc : Thread Cert.KernelPoolf.nD Cert.KernelPoolf.τ).loc Cert.KernelPoolf.main_arg1) = m ((c.tc : Thread Cert.KernelPoolf.nD Cert.KernelPoolf.τ).loc Cert.KernelPoolf.main_arg1)
      ∧ r.2.mem ((c.tc : Thread Cert.KernelPoolf.nD Cert.KernelPoolf.τ).loc Cert.KernelPoolf.main_arg2) = m ((c.tc : Thread Cert.KernelPoolf.nD Cert.KernelPoolf.τ).loc Cert.KernelPoolf.main_arg2))
      ∧ r.2.sem = fun _ => 0)

def quiescent_KernelPoolfIdeal [hKernelPoolfIdeal : Cert.KernelPoolfIdeal.Facts] : Prop :=
  ∀ (m : (ℓ : Loc Cert.KernelPoolfIdeal.nD Cert.KernelPoolfIdeal.τ Cert.KernelPoolfIdeal.sig) → Buf (Elt Ideal) ℓ) (g : Dev Cert.KernelPoolfIdeal.nD → PrngReg), Pre_KernelPoolfIdeal m →
    θ_run (Cert.KernelPoolfIdeal.defs (F := Ideal)) (onTc (τ := Cert.KernelPoolfIdeal.τ) (Cert.KernelPoolfIdeal.main (F := Ideal))) ⟨m, fun _ => 0, g⟩ (fun r => (∀ c : Dev Cert.KernelPoolfIdeal.nD,
      r.2.mem ((c.tc : Thread Cert.KernelPoolfIdeal.nD Cert.KernelPoolfIdeal.τ).loc Cert.KernelPoolfIdeal.main_arg0) = m ((c.tc : Thread Cert.KernelPoolfIdeal.nD Cert.KernelPoolfIdeal.τ).loc Cert.KernelPoolfIdeal.main_arg0)
      ∧ r.2.mem ((c.tc : Thread Cert.KernelPoolfIdeal.nD Cert.KernelPoolfIdeal.τ).loc Cert.KernelPoolfIdeal.main_arg1) = m ((c.tc : Thread Cert.KernelPoolfIdeal.nD Cert.KernelPoolfIdeal.τ).loc Cert.KernelPoolfIdeal.main_arg1)
      ∧ r.2.mem ((c.tc : Thread Cert.KernelPoolfIdeal.nD Cert.KernelPoolfIdeal.τ).loc Cert.KernelPoolfIdeal.main_arg2) = m ((c.tc : Thread Cert.KernelPoolfIdeal.nD Cert.KernelPoolfIdeal.τ).loc Cert.KernelPoolfIdeal.main_arg2))
      ∧ r.2.sem = fun _ => 0)

def quiescent_KernelPoolfIdeal_pre_finite_poolf [hKernelPoolfIdeal : Cert.KernelPoolfIdeal.Facts] [hPre_finite_poolf : Cert.Pre_finite_poolf.Facts] : Prop :=
  ∀ (m : (ℓ : Loc Cert.KernelPoolfIdeal.nD Cert.KernelPoolfIdeal.τ Cert.KernelPoolfIdeal.sig) → Buf (Elt Ideal) ℓ) (g : Dev Cert.KernelPoolfIdeal.nD → PrngReg), Pre_KernelPoolfIdeal_finite_poolf m →
    θ_run (Cert.KernelPoolfIdeal.defs (F := Ideal)) (onTc (τ := Cert.KernelPoolfIdeal.τ) (Cert.KernelPoolfIdeal.main (F := Ideal))) ⟨m, fun _ => 0, g⟩ (fun r => (∀ c : Dev Cert.KernelPoolfIdeal.nD,
      r.2.mem ((c.tc : Thread Cert.KernelPoolfIdeal.nD Cert.KernelPoolfIdeal.τ).loc Cert.KernelPoolfIdeal.main_arg0) = m ((c.tc : Thread Cert.KernelPoolfIdeal.nD Cert.KernelPoolfIdeal.τ).loc Cert.KernelPoolfIdeal.main_arg0)
      ∧ r.2.mem ((c.tc : Thread Cert.KernelPoolfIdeal.nD Cert.KernelPoolfIdeal.τ).loc Cert.KernelPoolfIdeal.main_arg1) = m ((c.tc : Thread Cert.KernelPoolfIdeal.nD Cert.KernelPoolfIdeal.τ).loc Cert.KernelPoolfIdeal.main_arg1)
      ∧ r.2.mem ((c.tc : Thread Cert.KernelPoolfIdeal.nD Cert.KernelPoolfIdeal.τ).loc Cert.KernelPoolfIdeal.main_arg2) = m ((c.tc : Thread Cert.KernelPoolfIdeal.nD Cert.KernelPoolfIdeal.τ).loc Cert.KernelPoolfIdeal.main_arg2))
      ∧ r.2.sem = fun _ => 0)

def quiescent_ReferencePoolfIdeal [hReferencePoolfIdeal : Cert.ReferencePoolfIdeal.Facts] : Prop :=
  ∀ (m : (ℓ : Loc Cert.ReferencePoolfIdeal.nD Cert.ReferencePoolfIdeal.τ Cert.ReferencePoolfIdeal.sig) → Buf (Elt Ideal) ℓ) (g : Dev Cert.ReferencePoolfIdeal.nD → PrngReg), Pre_ReferencePoolfIdeal m →
    θ_run (Cert.ReferencePoolfIdeal.defs (F := Ideal)) (onTc (τ := Cert.ReferencePoolfIdeal.τ) (Cert.ReferencePoolfIdeal.main (F := Ideal))) ⟨m, fun _ => 0, g⟩ (fun r => (∀ c : Dev Cert.ReferencePoolfIdeal.nD,
      r.2.mem ((c.tc : Thread Cert.ReferencePoolfIdeal.nD Cert.ReferencePoolfIdeal.τ).loc Cert.ReferencePoolfIdeal.main_arg0) = m ((c.tc : Thread Cert.ReferencePoolfIdeal.nD Cert.ReferencePoolfIdeal.τ).loc Cert.ReferencePoolfIdeal.main_arg0)
      ∧ r.2.mem ((c.tc : Thread Cert.ReferencePoolfIdeal.nD Cert.ReferencePoolfIdeal.τ).loc Cert.ReferencePoolfIdeal.main_arg1) = m ((c.tc : Thread Cert.ReferencePoolfIdeal.nD Cert.ReferencePoolfIdeal.τ).loc Cert.ReferencePoolfIdeal.main_arg1)
      ∧ r.2.mem ((c.tc : Thread Cert.ReferencePoolfIdeal.nD Cert.ReferencePoolfIdeal.τ).loc Cert.ReferencePoolfIdeal.main_arg2) = m ((c.tc : Thread Cert.ReferencePoolfIdeal.nD Cert.ReferencePoolfIdeal.τ).loc Cert.ReferencePoolfIdeal.main_arg2))
      ∧ r.2.sem = fun _ => 0)

def quiescent_ReferencePoolfIdeal_pre_finite_poolf [hReferencePoolfIdeal : Cert.ReferencePoolfIdeal.Facts] [hPre_finite_poolf : Cert.Pre_finite_poolf.Facts] : Prop :=
  ∀ (m : (ℓ : Loc Cert.ReferencePoolfIdeal.nD Cert.ReferencePoolfIdeal.τ Cert.ReferencePoolfIdeal.sig) → Buf (Elt Ideal) ℓ) (g : Dev Cert.ReferencePoolfIdeal.nD → PrngReg), Pre_ReferencePoolfIdeal_finite_poolf m →
    θ_run (Cert.ReferencePoolfIdeal.defs (F := Ideal)) (onTc (τ := Cert.ReferencePoolfIdeal.τ) (Cert.ReferencePoolfIdeal.main (F := Ideal))) ⟨m, fun _ => 0, g⟩ (fun r => (∀ c : Dev Cert.ReferencePoolfIdeal.nD,
      r.2.mem ((c.tc : Thread Cert.ReferencePoolfIdeal.nD Cert.ReferencePoolfIdeal.τ).loc Cert.ReferencePoolfIdeal.main_arg0) = m ((c.tc : Thread Cert.ReferencePoolfIdeal.nD Cert.ReferencePoolfIdeal.τ).loc Cert.ReferencePoolfIdeal.main_arg0)
      ∧ r.2.mem ((c.tc : Thread Cert.ReferencePoolfIdeal.nD Cert.ReferencePoolfIdeal.τ).loc Cert.ReferencePoolfIdeal.main_arg1) = m ((c.tc : Thread Cert.ReferencePoolfIdeal.nD Cert.ReferencePoolfIdeal.τ).loc Cert.ReferencePoolfIdeal.main_arg1)
      ∧ r.2.mem ((c.tc : Thread Cert.ReferencePoolfIdeal.nD Cert.ReferencePoolfIdeal.τ).loc Cert.ReferencePoolfIdeal.main_arg2) = m ((c.tc : Thread Cert.ReferencePoolfIdeal.nD Cert.ReferencePoolfIdeal.τ).loc Cert.ReferencePoolfIdeal.main_arg2))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1))
      ∧ r.2.sem = fun _ => 0)

def quiescent_KernelHgf [hKernelHgf : Cert.KernelHgf.Facts] : Prop :=
  ∀ (m : (ℓ : Loc Cert.KernelHgf.nD Cert.KernelHgf.τ Cert.KernelHgf.sig) → Buf (Elt Bits) ℓ) (g : Dev Cert.KernelHgf.nD → PrngReg), Pre_KernelHgf m →
    θ_run (Cert.KernelHgf.defs (F := Bits)) (onTc (τ := Cert.KernelHgf.τ) (Cert.KernelHgf.main (F := Bits))) ⟨m, fun _ => 0, g⟩ (fun r => (∀ c : Dev Cert.KernelHgf.nD,
      r.2.mem ((c.tc : Thread Cert.KernelHgf.nD Cert.KernelHgf.τ).loc Cert.KernelHgf.main_arg0) = m ((c.tc : Thread Cert.KernelHgf.nD Cert.KernelHgf.τ).loc Cert.KernelHgf.main_arg0)
      ∧ r.2.mem ((c.tc : Thread Cert.KernelHgf.nD Cert.KernelHgf.τ).loc Cert.KernelHgf.main_arg1) = m ((c.tc : Thread Cert.KernelHgf.nD Cert.KernelHgf.τ).loc Cert.KernelHgf.main_arg1)
      ∧ r.2.mem ((c.tc : Thread Cert.KernelHgf.nD Cert.KernelHgf.τ).loc Cert.KernelHgf.main_arg2) = m ((c.tc : Thread Cert.KernelHgf.nD Cert.KernelHgf.τ).loc Cert.KernelHgf.main_arg2))
      ∧ r.2.sem = fun _ => 0)

def quiescent_KernelHgfIdeal [hKernelHgfIdeal : Cert.KernelHgfIdeal.Facts] : Prop :=
  ∀ (m : (ℓ : Loc Cert.KernelHgfIdeal.nD Cert.KernelHgfIdeal.τ Cert.KernelHgfIdeal.sig) → Buf (Elt Ideal) ℓ) (g : Dev Cert.KernelHgfIdeal.nD → PrngReg), Pre_KernelHgfIdeal m →
    θ_run (Cert.KernelHgfIdeal.defs (F := Ideal)) (onTc (τ := Cert.KernelHgfIdeal.τ) (Cert.KernelHgfIdeal.main (F := Ideal))) ⟨m, fun _ => 0, g⟩ (fun r => (∀ c : Dev Cert.KernelHgfIdeal.nD,
      r.2.mem ((c.tc : Thread Cert.KernelHgfIdeal.nD Cert.KernelHgfIdeal.τ).loc Cert.KernelHgfIdeal.main_arg0) = m ((c.tc : Thread Cert.KernelHgfIdeal.nD Cert.KernelHgfIdeal.τ).loc Cert.KernelHgfIdeal.main_arg0)
      ∧ r.2.mem ((c.tc : Thread Cert.KernelHgfIdeal.nD Cert.KernelHgfIdeal.τ).loc Cert.KernelHgfIdeal.main_arg1) = m ((c.tc : Thread Cert.KernelHgfIdeal.nD Cert.KernelHgfIdeal.τ).loc Cert.KernelHgfIdeal.main_arg1)
      ∧ r.2.mem ((c.tc : Thread Cert.KernelHgfIdeal.nD Cert.KernelHgfIdeal.τ).loc Cert.KernelHgfIdeal.main_arg2) = m ((c.tc : Thread Cert.KernelHgfIdeal.nD Cert.KernelHgfIdeal.τ).loc Cert.KernelHgfIdeal.main_arg2))
      ∧ r.2.sem = fun _ => 0)

def quiescent_KernelHgfIdeal_pre_finite_hgf [hKernelHgfIdeal : Cert.KernelHgfIdeal.Facts] [hPre_finite_hgf : Cert.Pre_finite_hgf.Facts] : Prop :=
  ∀ (m : (ℓ : Loc Cert.KernelHgfIdeal.nD Cert.KernelHgfIdeal.τ Cert.KernelHgfIdeal.sig) → Buf (Elt Ideal) ℓ) (g : Dev Cert.KernelHgfIdeal.nD → PrngReg), Pre_KernelHgfIdeal_finite_hgf m →
    θ_run (Cert.KernelHgfIdeal.defs (F := Ideal)) (onTc (τ := Cert.KernelHgfIdeal.τ) (Cert.KernelHgfIdeal.main (F := Ideal))) ⟨m, fun _ => 0, g⟩ (fun r => (∀ c : Dev Cert.KernelHgfIdeal.nD,
      r.2.mem ((c.tc : Thread Cert.KernelHgfIdeal.nD Cert.KernelHgfIdeal.τ).loc Cert.KernelHgfIdeal.main_arg0) = m ((c.tc : Thread Cert.KernelHgfIdeal.nD Cert.KernelHgfIdeal.τ).loc Cert.KernelHgfIdeal.main_arg0)
      ∧ r.2.mem ((c.tc : Thread Cert.KernelHgfIdeal.nD Cert.KernelHgfIdeal.τ).loc Cert.KernelHgfIdeal.main_arg1) = m ((c.tc : Thread Cert.KernelHgfIdeal.nD Cert.KernelHgfIdeal.τ).loc Cert.KernelHgfIdeal.main_arg1)
      ∧ r.2.mem ((c.tc : Thread Cert.KernelHgfIdeal.nD Cert.KernelHgfIdeal.τ).loc Cert.KernelHgfIdeal.main_arg2) = m ((c.tc : Thread Cert.KernelHgfIdeal.nD Cert.KernelHgfIdeal.τ).loc Cert.KernelHgfIdeal.main_arg2))
      ∧ r.2.sem = fun _ => 0)

def quiescent_ReferenceHgfIdeal [hReferenceHgfIdeal : Cert.ReferenceHgfIdeal.Facts] : Prop :=
  ∀ (m : (ℓ : Loc Cert.ReferenceHgfIdeal.nD Cert.ReferenceHgfIdeal.τ Cert.ReferenceHgfIdeal.sig) → Buf (Elt Ideal) ℓ) (g : Dev Cert.ReferenceHgfIdeal.nD → PrngReg), Pre_ReferenceHgfIdeal m →
    θ_run (Cert.ReferenceHgfIdeal.defs (F := Ideal)) (onTc (τ := Cert.ReferenceHgfIdeal.τ) (Cert.ReferenceHgfIdeal.main (F := Ideal))) ⟨m, fun _ => 0, g⟩ (fun r => (∀ c : Dev Cert.ReferenceHgfIdeal.nD,
      r.2.mem ((c.tc : Thread Cert.ReferenceHgfIdeal.nD Cert.ReferenceHgfIdeal.τ).loc Cert.ReferenceHgfIdeal.main_arg0) = m ((c.tc : Thread Cert.ReferenceHgfIdeal.nD Cert.ReferenceHgfIdeal.τ).loc Cert.ReferenceHgfIdeal.main_arg0)
      ∧ r.2.mem ((c.tc : Thread Cert.ReferenceHgfIdeal.nD Cert.ReferenceHgfIdeal.τ).loc Cert.ReferenceHgfIdeal.main_arg1) = m ((c.tc : Thread Cert.ReferenceHgfIdeal.nD Cert.ReferenceHgfIdeal.τ).loc Cert.ReferenceHgfIdeal.main_arg1)
      ∧ r.2.mem ((c.tc : Thread Cert.ReferenceHgfIdeal.nD Cert.ReferenceHgfIdeal.τ).loc Cert.ReferenceHgfIdeal.main_arg2) = m ((c.tc : Thread Cert.ReferenceHgfIdeal.nD Cert.ReferenceHgfIdeal.τ).loc Cert.ReferenceHgfIdeal.main_arg2))
      ∧ r.2.sem = fun _ => 0)

def quiescent_ReferenceHgfIdeal_pre_finite_hgf [hReferenceHgfIdeal : Cert.ReferenceHgfIdeal.Facts] [hPre_finite_hgf : Cert.Pre_finite_hgf.Facts] : Prop :=
  ∀ (m : (ℓ : Loc Cert.ReferenceHgfIdeal.nD Cert.ReferenceHgfIdeal.τ Cert.ReferenceHgfIdeal.sig) → Buf (Elt Ideal) ℓ) (g : Dev Cert.ReferenceHgfIdeal.nD → PrngReg), Pre_ReferenceHgfIdeal_finite_hgf m →
    θ_run (Cert.ReferenceHgfIdeal.defs (F := Ideal)) (onTc (τ := Cert.ReferenceHgfIdeal.τ) (Cert.ReferenceHgfIdeal.main (F := Ideal))) ⟨m, fun _ => 0, g⟩ (fun r => (∀ c : Dev Cert.ReferenceHgfIdeal.nD,
      r.2.mem ((c.tc : Thread Cert.ReferenceHgfIdeal.nD Cert.ReferenceHgfIdeal.τ).loc Cert.ReferenceHgfIdeal.main_arg0) = m ((c.tc : Thread Cert.ReferenceHgfIdeal.nD Cert.ReferenceHgfIdeal.τ).loc Cert.ReferenceHgfIdeal.main_arg0)
      ∧ r.2.mem ((c.tc : Thread Cert.ReferenceHgfIdeal.nD Cert.ReferenceHgfIdeal.τ).loc Cert.ReferenceHgfIdeal.main_arg1) = m ((c.tc : Thread Cert.ReferenceHgfIdeal.nD Cert.ReferenceHgfIdeal.τ).loc Cert.ReferenceHgfIdeal.main_arg1)
      ∧ r.2.mem ((c.tc : Thread Cert.ReferenceHgfIdeal.nD Cert.ReferenceHgfIdeal.τ).loc Cert.ReferenceHgfIdeal.main_arg2) = m ((c.tc : Thread Cert.ReferenceHgfIdeal.nD Cert.ReferenceHgfIdeal.τ).loc Cert.ReferenceHgfIdeal.main_arg2))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3))
      ∧ r.2.sem = fun _ => 0)

def quiescent_KernelDy [hKernelDy : Cert.KernelDy.Facts] : Prop :=
  ∀ (m : (ℓ : Loc Cert.KernelDy.nD Cert.KernelDy.τ Cert.KernelDy.sig) → Buf (Elt Bits) ℓ) (g : Dev Cert.KernelDy.nD → PrngReg), Pre_KernelDy m →
    θ_run (Cert.KernelDy.defs (F := Bits)) (onTc (τ := Cert.KernelDy.τ) (Cert.KernelDy.main (F := Bits))) ⟨m, fun _ => 0, g⟩ (fun r => (∀ c : Dev Cert.KernelDy.nD,
      r.2.mem ((c.tc : Thread Cert.KernelDy.nD Cert.KernelDy.τ).loc Cert.KernelDy.main_arg0) = m ((c.tc : Thread Cert.KernelDy.nD Cert.KernelDy.τ).loc Cert.KernelDy.main_arg0)
      ∧ r.2.mem ((c.tc : Thread Cert.KernelDy.nD Cert.KernelDy.τ).loc Cert.KernelDy.main_arg1) = m ((c.tc : Thread Cert.KernelDy.nD Cert.KernelDy.τ).loc Cert.KernelDy.main_arg1)
      ∧ r.2.mem ((c.tc : Thread Cert.KernelDy.nD Cert.KernelDy.τ).loc Cert.KernelDy.main_arg2) = m ((c.tc : Thread Cert.KernelDy.nD Cert.KernelDy.τ).loc Cert.KernelDy.main_arg2))
      ∧ r.2.sem = fun _ => 0)

def quiescent_KernelDyIdeal [hKernelDyIdeal : Cert.KernelDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg), Pre_KernelDyIdeal m →
    θ_run (Cert.KernelDyIdeal.defs (F := Ideal)) (onTc (τ := Cert.KernelDyIdeal.τ) (Cert.KernelDyIdeal.main (F := Ideal))) ⟨m, fun _ => 0, g⟩ (fun r => (∀ c : Dev Cert.KernelDyIdeal.nD,
      r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
      ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1)
      ∧ r.2.mem ((c.tc : Thread Cert.KernelDyIdeal.nD Cert.KernelDyIdeal.τ).loc Cert.KernelDyIdeal.main_arg2) = m ((c.tc : Thread Cert.KernelDyIdeal.nD Cert.KernelDyIdeal.τ).loc Cert.KernelDyIdeal.main_arg2))
      ∧ r.2.sem = fun _ => 0)

def quiescent_ReferenceDyIdeal [hReferenceDyIdeal : Cert.ReferenceDyIdeal.Facts] : Prop :=
  ∀ (m : (ℓ : Loc Cert.ReferenceDyIdeal.nD Cert.ReferenceDyIdeal.τ Cert.ReferenceDyIdeal.sig) → Buf (Elt Ideal) ℓ) (g : Dev Cert.ReferenceDyIdeal.nD → PrngReg), Pre_ReferenceDyIdeal m →
    θ_run (Cert.ReferenceDyIdeal.defs (F := Ideal)) (onTc (τ := Cert.ReferenceDyIdeal.τ) (Cert.ReferenceDyIdeal.main (F := Ideal))) ⟨m, fun _ => 0, g⟩ (fun r => (∀ c : Dev Cert.ReferenceDyIdeal.nD,
      r.2.mem ((c.tc : Thread Cert.ReferenceDyIdeal.nD Cert.ReferenceDyIdeal.τ).loc Cert.ReferenceDyIdeal.main_arg0) = m ((c.tc : Thread Cert.ReferenceDyIdeal.nD Cert.ReferenceDyIdeal.τ).loc Cert.ReferenceDyIdeal.main_arg0)
      ∧ r.2.mem ((c.tc : Thread Cert.ReferenceDyIdeal.nD Cert.ReferenceDyIdeal.τ).loc Cert.ReferenceDyIdeal.main_arg1) = m ((c.tc : Thread Cert.ReferenceDyIdeal.nD Cert.ReferenceDyIdeal.τ).loc Cert.ReferenceDyIdeal.main_arg1)
      ∧ r.2.mem ((c.tc : Thread Cert.ReferenceDyIdeal.nD Cert.ReferenceDyIdeal.τ).loc Cert.ReferenceDyIdeal.main_arg2) = m ((c.tc : Thread Cert.ReferenceDyIdeal.nD Cert.ReferenceDyIdeal.τ).loc Cert.ReferenceDyIdeal.main_arg2))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1)
      ∧ r.2.mem ((c.tc : Thread Cert.KernelDw.nD Cert.KernelDw.τ).loc Cert.KernelDw.main_arg2) = m ((c.tc : Thread Cert.KernelDw.nD Cert.KernelDw.τ).loc Cert.KernelDw.main_arg2))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
      ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1)
      ∧ r.2.mem ((c.tc : Thread Cert.ReferenceDwIdeal.nD Cert.ReferenceDwIdeal.τ).loc Cert.ReferenceDwIdeal.main_arg2) = m ((c.tc : Thread Cert.ReferenceDwIdeal.nD Cert.ReferenceDwIdeal.τ).loc Cert.ReferenceDwIdeal.main_arg2))
      ∧ r.2.sem = fun _ => 0)

def quiescent_KernelPsum [hKernelPsum : Cert.KernelPsum.Facts] [hPre_finite_psum : Cert.Pre_finite_psum.Facts] : Prop :=
  ∀ (m : (ℓ : Loc Cert.KernelPsum.nD Cert.KernelPsum.τ Cert.KernelPsum.sig) → Buf (Elt Bits) ℓ) (g : Dev Cert.KernelPsum.nD → PrngReg), Pre_KernelPsum m →
    θ_run (Cert.KernelPsum.defs (F := Bits)) (onTc (τ := Cert.KernelPsum.τ) (Cert.KernelPsum.main (F := Bits))) ⟨m, fun _ => 0, g⟩ (fun r => (∀ c : Dev Cert.KernelPsum.nD,
      r.2.mem ((c.tc : Thread Cert.KernelPsum.nD Cert.KernelPsum.τ).loc Cert.KernelPsum.main_arg0) = m ((c.tc : Thread Cert.KernelPsum.nD Cert.KernelPsum.τ).loc Cert.KernelPsum.main_arg0)
      ∧ r.2.mem ((c.tc : Thread Cert.KernelPsum.nD Cert.KernelPsum.τ).loc Cert.KernelPsum.main_arg1) = m ((c.tc : Thread Cert.KernelPsum.nD Cert.KernelPsum.τ).loc Cert.KernelPsum.main_arg1)
      ∧ r.2.mem ((c.tc : Thread Cert.KernelPsum.nD Cert.KernelPsum.τ).loc Cert.KernelPsum.main_arg2) = m ((c.tc : Thread Cert.KernelPsum.nD Cert.KernelPsum.τ).loc Cert.KernelPsum.main_arg2))
      ∧ r.2.sem = fun _ => 0)

def quiescent_KernelPsumIdeal [hKernelPsumIdeal : Cert.KernelPsumIdeal.Facts] [hPre_finite_psum : Cert.Pre_finite_psum.Facts] : Prop :=
  ∀ (m : (ℓ : Loc Cert.KernelPsumIdeal.nD Cert.KernelPsumIdeal.τ Cert.KernelPsumIdeal.sig) → Buf (Elt Ideal) ℓ) (g : Dev Cert.KernelPsumIdeal.nD → PrngReg), Pre_KernelPsumIdeal m →
    θ_run (Cert.KernelPsumIdeal.defs (F := Ideal)) (onTc (τ := Cert.KernelPsumIdeal.τ) (Cert.KernelPsumIdeal.main (F := Ideal))) ⟨m, fun _ => 0, g⟩ (fun r => (∀ c : Dev Cert.KernelPsumIdeal.nD,
      r.2.mem ((c.tc : Thread Cert.KernelPsumIdeal.nD Cert.KernelPsumIdeal.τ).loc Cert.KernelPsumIdeal.main_arg0) = m ((c.tc : Thread Cert.KernelPsumIdeal.nD Cert.KernelPsumIdeal.τ).loc Cert.KernelPsumIdeal.main_arg0)
      ∧ r.2.mem ((c.tc : Thread Cert.KernelPsumIdeal.nD Cert.KernelPsumIdeal.τ).loc Cert.KernelPsumIdeal.main_arg1) = m ((c.tc : Thread Cert.KernelPsumIdeal.nD Cert.KernelPsumIdeal.τ).loc Cert.KernelPsumIdeal.main_arg1)
      ∧ r.2.mem ((c.tc : Thread Cert.KernelPsumIdeal.nD Cert.KernelPsumIdeal.τ).loc Cert.KernelPsumIdeal.main_arg2) = m ((c.tc : Thread Cert.KernelPsumIdeal.nD Cert.KernelPsumIdeal.τ).loc Cert.KernelPsumIdeal.main_arg2))
      ∧ r.2.sem = fun _ => 0)

def quiescent_ReferencePsumIdeal [hReferencePsumIdeal : Cert.ReferencePsumIdeal.Facts] : Prop :=
  ∀ (m : (ℓ : Loc Cert.ReferencePsumIdeal.nD Cert.ReferencePsumIdeal.τ Cert.ReferencePsumIdeal.sig) → Buf (Elt Ideal) ℓ) (g : Dev Cert.ReferencePsumIdeal.nD → PrngReg), Pre_ReferencePsumIdeal m →
    θ_run (Cert.ReferencePsumIdeal.defs (F := Ideal)) (onTc (τ := Cert.ReferencePsumIdeal.τ) (Cert.ReferencePsumIdeal.main (F := Ideal))) ⟨m, fun _ => 0, g⟩ (fun r => (∀ c : Dev Cert.ReferencePsumIdeal.nD,
      r.2.mem ((c.tc : Thread Cert.ReferencePsumIdeal.nD Cert.ReferencePsumIdeal.τ).loc Cert.ReferencePsumIdeal.main_arg0) = m ((c.tc : Thread Cert.ReferencePsumIdeal.nD Cert.ReferencePsumIdeal.τ).loc Cert.ReferencePsumIdeal.main_arg0)
      ∧ r.2.mem ((c.tc : Thread Cert.ReferencePsumIdeal.nD Cert.ReferencePsumIdeal.τ).loc Cert.ReferencePsumIdeal.main_arg1) = m ((c.tc : Thread Cert.ReferencePsumIdeal.nD Cert.ReferencePsumIdeal.τ).loc Cert.ReferencePsumIdeal.main_arg1)
      ∧ r.2.mem ((c.tc : Thread Cert.ReferencePsumIdeal.nD Cert.ReferencePsumIdeal.τ).loc Cert.ReferencePsumIdeal.main_arg2) = m ((c.tc : Thread Cert.ReferencePsumIdeal.nD Cert.ReferencePsumIdeal.τ).loc Cert.ReferencePsumIdeal.main_arg2))
      ∧ r.2.sem = fun _ => 0)

def quiescent_ReferencePsumIdeal_pre_finite_psum [hReferencePsumIdeal : Cert.ReferencePsumIdeal.Facts] [hPre_finite_psum : Cert.Pre_finite_psum.Facts] : Prop :=
  ∀ (m : (ℓ : Loc Cert.ReferencePsumIdeal.nD Cert.ReferencePsumIdeal.τ Cert.ReferencePsumIdeal.sig) → Buf (Elt Ideal) ℓ) (g : Dev Cert.ReferencePsumIdeal.nD → PrngReg), Pre_ReferencePsumIdeal_finite_psum m →
    θ_run (Cert.ReferencePsumIdeal.defs (F := Ideal)) (onTc (τ := Cert.ReferencePsumIdeal.τ) (Cert.ReferencePsumIdeal.main (F := Ideal))) ⟨m, fun _ => 0, g⟩ (fun r => (∀ c : Dev Cert.ReferencePsumIdeal.nD,
      r.2.mem ((c.tc : Thread Cert.ReferencePsumIdeal.nD Cert.ReferencePsumIdeal.τ).loc Cert.ReferencePsumIdeal.main_arg0) = m ((c.tc : Thread Cert.ReferencePsumIdeal.nD Cert.ReferencePsumIdeal.τ).loc Cert.ReferencePsumIdeal.main_arg0)
      ∧ r.2.mem ((c.tc : Thread Cert.ReferencePsumIdeal.nD Cert.ReferencePsumIdeal.τ).loc Cert.ReferencePsumIdeal.main_arg1) = m ((c.tc : Thread Cert.ReferencePsumIdeal.nD Cert.ReferencePsumIdeal.τ).loc Cert.ReferencePsumIdeal.main_arg1)
      ∧ r.2.mem ((c.tc : Thread Cert.ReferencePsumIdeal.nD Cert.ReferencePsumIdeal.τ).loc Cert.ReferencePsumIdeal.main_arg2) = m ((c.tc : Thread Cert.ReferencePsumIdeal.nD Cert.ReferencePsumIdeal.τ).loc Cert.ReferencePsumIdeal.main_arg2))
      ∧ r.2.sem = fun _ => 0)

def quiescent_KernelSlot [hKernelSlot : Cert.KernelSlot.Facts] [hPre_finite_slot : Cert.Pre_finite_slot.Facts] : Prop :=
  ∀ (m : (ℓ : Loc Cert.KernelSlot.nD Cert.KernelSlot.τ Cert.KernelSlot.sig) → Buf (Elt Bits) ℓ) (g : Dev Cert.KernelSlot.nD → PrngReg), Pre_KernelSlot m →
    θ_run (Cert.KernelSlot.defs (F := Bits)) (onTc (τ := Cert.KernelSlot.τ) (Cert.KernelSlot.main (F := Bits))) ⟨m, fun _ => 0, g⟩ (fun r => (∀ c : Dev Cert.KernelSlot.nD,
      r.2.mem ((c.tc : Thread Cert.KernelSlot.nD Cert.KernelSlot.τ).loc Cert.KernelSlot.main_arg0) = m ((c.tc : Thread Cert.KernelSlot.nD Cert.KernelSlot.τ).loc Cert.KernelSlot.main_arg0)
      ∧ r.2.mem ((c.tc : Thread Cert.KernelSlot.nD Cert.KernelSlot.τ).loc Cert.KernelSlot.main_arg1) = m ((c.tc : Thread Cert.KernelSlot.nD Cert.KernelSlot.τ).loc Cert.KernelSlot.main_arg1))
      ∧ r.2.sem = fun _ => 0)

def quiescent_KernelSlotIdeal [hKernelSlotIdeal : Cert.KernelSlotIdeal.Facts] [hPre_finite_slot : Cert.Pre_finite_slot.Facts] : Prop :=
  ∀ (m : (ℓ : Loc Cert.KernelSlotIdeal.nD Cert.KernelSlotIdeal.τ Cert.KernelSlotIdeal.sig) → Buf (Elt Ideal) ℓ) (g : Dev Cert.KernelSlotIdeal.nD → PrngReg), Pre_KernelSlotIdeal m →
    θ_run (Cert.KernelSlotIdeal.defs (F := Ideal)) (onTc (τ := Cert.KernelSlotIdeal.τ) (Cert.KernelSlotIdeal.main (F := Ideal))) ⟨m, fun _ => 0, g⟩ (fun r => (∀ c : Dev Cert.KernelSlotIdeal.nD,
      r.2.mem ((c.tc : Thread Cert.KernelSlotIdeal.nD Cert.KernelSlotIdeal.τ).loc Cert.KernelSlotIdeal.main_arg0) = m ((c.tc : Thread Cert.KernelSlotIdeal.nD Cert.KernelSlotIdeal.τ).loc Cert.KernelSlotIdeal.main_arg0)
      ∧ r.2.mem ((c.tc : Thread Cert.KernelSlotIdeal.nD Cert.KernelSlotIdeal.τ).loc Cert.KernelSlotIdeal.main_arg1) = m ((c.tc : Thread Cert.KernelSlotIdeal.nD Cert.KernelSlotIdeal.τ).loc Cert.KernelSlotIdeal.main_arg1))
      ∧ r.2.sem = fun _ => 0)

def quiescent_ReferenceSlotIdeal [hReferenceSlotIdeal : Cert.ReferenceSlotIdeal.Facts] : Prop :=
  ∀ (m : (ℓ : Loc Cert.ReferenceSlotIdeal.nD Cert.ReferenceSlotIdeal.τ Cert.ReferenceSlotIdeal.sig) → Buf (Elt Ideal) ℓ) (g : Dev Cert.ReferenceSlotIdeal.nD → PrngReg), Pre_ReferenceSlotIdeal m →
    θ_run (Cert.ReferenceSlotIdeal.defs (F := Ideal)) (onTc (τ := Cert.ReferenceSlotIdeal.τ) (Cert.ReferenceSlotIdeal.main (F := Ideal))) ⟨m, fun _ => 0, g⟩ (fun r => (∀ c : Dev Cert.ReferenceSlotIdeal.nD,
      r.2.mem ((c.tc : Thread Cert.ReferenceSlotIdeal.nD Cert.ReferenceSlotIdeal.τ).loc Cert.ReferenceSlotIdeal.main_arg0) = m ((c.tc : Thread Cert.ReferenceSlotIdeal.nD Cert.ReferenceSlotIdeal.τ).loc Cert.ReferenceSlotIdeal.main_arg0)
      ∧ r.2.mem ((c.tc : Thread Cert.ReferenceSlotIdeal.nD Cert.ReferenceSlotIdeal.τ).loc Cert.ReferenceSlotIdeal.main_arg1) = m ((c.tc : Thread Cert.ReferenceSlotIdeal.nD Cert.ReferenceSlotIdeal.τ).loc Cert.ReferenceSlotIdeal.main_arg1))
      ∧ r.2.sem = fun _ => 0)

def quiescent_ReferenceSlotIdeal_pre_finite_slot [hReferenceSlotIdeal : Cert.ReferenceSlotIdeal.Facts] [hPre_finite_slot : Cert.Pre_finite_slot.Facts] : Prop :=
  ∀ (m : (ℓ : Loc Cert.ReferenceSlotIdeal.nD Cert.ReferenceSlotIdeal.τ Cert.ReferenceSlotIdeal.sig) → Buf (Elt Ideal) ℓ) (g : Dev Cert.ReferenceSlotIdeal.nD → PrngReg), Pre_ReferenceSlotIdeal_finite_slot m →
    θ_run (Cert.ReferenceSlotIdeal.defs (F := Ideal)) (onTc (τ := Cert.ReferenceSlotIdeal.τ) (Cert.ReferenceSlotIdeal.main (F := Ideal))) ⟨m, fun _ => 0, g⟩ (fun r => (∀ c : Dev Cert.ReferenceSlotIdeal.nD,
      r.2.mem ((c.tc : Thread Cert.ReferenceSlotIdeal.nD Cert.ReferenceSlotIdeal.τ).loc Cert.ReferenceSlotIdeal.main_arg0) = m ((c.tc : Thread Cert.ReferenceSlotIdeal.nD Cert.ReferenceSlotIdeal.τ).loc Cert.ReferenceSlotIdeal.main_arg0)
      ∧ r.2.mem ((c.tc : Thread Cert.ReferenceSlotIdeal.nD Cert.ReferenceSlotIdeal.τ).loc Cert.ReferenceSlotIdeal.main_arg1) = m ((c.tc : Thread Cert.ReferenceSlotIdeal.nD Cert.ReferenceSlotIdeal.τ).loc Cert.ReferenceSlotIdeal.main_arg1))
      ∧ r.2.sem = fun _ => 0)

def preserves_KernelSwiglu_KernelSwigluIdeal : Prop :=
  True

def algebraic_KernelSwigluIdeal_ReferenceSwigluIdeal_pre_finite_swiglu [hKernelSwigluIdeal : Cert.KernelSwigluIdeal.Facts] [hReferenceSwigluIdeal : Cert.ReferenceSwigluIdeal.Facts] [hPre_finite_swiglu : Cert.Pre_finite_swiglu.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg)
    (m' : (ℓ : Loc Cert.ReferenceSwigluIdeal.nD Cert.ReferenceSwigluIdeal.τ Cert.ReferenceSwigluIdeal.sig) → Buf (Elt Ideal) ℓ) (g' : Dev Cert.ReferenceSwigluIdeal.nD → PrngReg), Pre_KernelSwigluIdeal_finite_swiglu m →
    (∀ c : Dev Cert.KernelSwigluIdeal.nD,
      m' ((c.tc : Thread Cert.ReferenceSwigluIdeal.nD Cert.ReferenceSwigluIdeal.τ).loc Cert.ReferenceSwigluIdeal.main_arg0) = m ((c.tc : Thread Cert.KernelSwigluIdeal.nD Cert.KernelSwigluIdeal.τ).loc Cert.KernelSwigluIdeal.main_arg0)
      ∧ m' ((c.tc : Thread Cert.ReferenceSwigluIdeal.nD Cert.ReferenceSwigluIdeal.τ).loc Cert.ReferenceSwigluIdeal.main_arg1) = m ((c.tc : Thread Cert.KernelSwigluIdeal.nD Cert.KernelSwigluIdeal.τ).loc Cert.KernelSwigluIdeal.main_arg1)
      ∧ m' ((c.tc : Thread Cert.ReferenceSwigluIdeal.nD Cert.ReferenceSwigluIdeal.τ).loc Cert.ReferenceSwigluIdeal.main_arg2) = m ((c.tc : Thread Cert.KernelSwigluIdeal.nD Cert.KernelSwigluIdeal.τ).loc Cert.KernelSwigluIdeal.main_arg2)) →
    ∃ (v0 : (c : Dev Cert.KernelSwigluIdeal.nD) → Buf (Elt Ideal) ((c.tc : Thread Cert.KernelSwigluIdeal.nD Cert.KernelSwigluIdeal.τ).loc Cert.KernelSwigluIdeal.main_v11)),
      θ_run (Cert.KernelSwigluIdeal.defs (F := Ideal)) (onTc (τ := Cert.KernelSwigluIdeal.τ) (Cert.KernelSwigluIdeal.main (F := Ideal))) ⟨m, fun _ => 0, g⟩ (fun r => ∀ c : Dev Cert.KernelSwigluIdeal.nD,
          r.2.mem ((c.tc : Thread Cert.KernelSwigluIdeal.nD Cert.KernelSwigluIdeal.τ).loc Cert.KernelSwigluIdeal.main_v11) = v0 c
          ∧ r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
          ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
          ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2))
      ∧ θ_run (Cert.ReferenceSwigluIdeal.defs (F := Ideal)) (onTc (τ := Cert.ReferenceSwigluIdeal.τ) (Cert.ReferenceSwigluIdeal.main (F := Ideal))) ⟨m', fun _ => 0, g'⟩ (fun r => ∀ c : Dev Cert.ReferenceSwigluIdeal.nD,
          r.2.mem ((c.tc : Thread Cert.ReferenceSwigluIdeal.nD Cert.ReferenceSwigluIdeal.τ).loc Cert.ReferenceSwigluIdeal.main_v17) = v0 c
          ∧ r.2.mem ((c.tc : Thread Cert.ReferenceSwigluIdeal.nD Cert.ReferenceSwigluIdeal.τ).loc Cert.ReferenceSwigluIdeal.main_arg0) = m' ((c.tc : Thread Cert.ReferenceSwigluIdeal.nD Cert.ReferenceSwigluIdeal.τ).loc Cert.ReferenceSwigluIdeal.main_arg0)
          ∧ r.2.mem ((c.tc : Thread Cert.ReferenceSwigluIdeal.nD Cert.ReferenceSwigluIdeal.τ).loc Cert.ReferenceSwigluIdeal.main_arg1) = m' ((c.tc : Thread Cert.ReferenceSwigluIdeal.nD Cert.ReferenceSwigluIdeal.τ).loc Cert.ReferenceSwigluIdeal.main_arg1)
          ∧ r.2.mem ((c.tc : Thread Cert.ReferenceSwigluIdeal.nD Cert.ReferenceSwigluIdeal.τ).loc Cert.ReferenceSwigluIdeal.main_arg2) = m' ((c.tc : Thread Cert.ReferenceSwigluIdeal.nD Cert.ReferenceSwigluIdeal.τ).loc Cert.ReferenceSwigluIdeal.main_arg2))

def preserves_KernelGates_KernelGatesIdeal : Prop :=
  True

def algebraic_KernelGatesIdeal_ReferenceGatesIdeal_on_written_gates_pre_finite_gates [hKernelGatesIdeal : Cert.KernelGatesIdeal.Facts] [hReferenceGatesIdeal : Cert.ReferenceGatesIdeal.Facts] [hPre_finite_gates : Cert.Pre_finite_gates.Facts] [hOn_written_gates : Cert.On_written_gates.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal_finite_gates m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)
      ∧ m' ((c.tc : Thread Cert.ReferenceGatesIdeal.nD Cert.ReferenceGatesIdeal.τ).loc Cert.ReferenceGatesIdeal.main_arg3) = m ((c.tc : Thread Cert.KernelGatesIdeal.nD Cert.KernelGatesIdeal.τ).loc Cert.KernelGatesIdeal.main_arg3)
      ∧ m' ((c.tc : Thread Cert.ReferenceGatesIdeal.nD Cert.ReferenceGatesIdeal.τ).loc Cert.ReferenceGatesIdeal.main_arg4) = m ((c.tc : Thread Cert.KernelGatesIdeal.nD Cert.KernelGatesIdeal.τ).loc Cert.KernelGatesIdeal.main_arg4)
      ∧ m' ((c.tc : Thread Cert.ReferenceGatesIdeal.nD Cert.ReferenceGatesIdeal.τ).loc Cert.ReferenceGatesIdeal.main_arg5) = m ((c.tc : Thread Cert.KernelGatesIdeal.nD Cert.KernelGatesIdeal.τ).loc Cert.KernelGatesIdeal.main_arg5)
      ∧ m' ((c.tc : Thread Cert.ReferenceGatesIdeal.nD Cert.ReferenceGatesIdeal.τ).loc Cert.ReferenceGatesIdeal.main_arg6) = m ((c.tc : Thread Cert.KernelGatesIdeal.nD Cert.KernelGatesIdeal.τ).loc Cert.KernelGatesIdeal.main_arg6)) →
    ∃ (v0 : (c : Dev Cert.KernelGatesIdeal.nD) → Buf (Elt Ideal) ((c.tc : Thread Cert.KernelGatesIdeal.nD Cert.KernelGatesIdeal.τ).loc Cert.KernelGatesIdeal.main_v11_0)) (v1 : (c : Dev Cert.KernelGatesIdeal.nD) → Buf (Elt Ideal) ((c.tc : Thread Cert.KernelGatesIdeal.nD Cert.KernelGatesIdeal.τ).loc Cert.KernelGatesIdeal.main_v11_1)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          (∀ i : (⟨3, ![2, 4096, 1024]⟩ : Shape).Idx, (Cert.On_written_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6))).1 i = 1#1 → r.2.mem ((c.tc : Thread Cert.KernelGatesIdeal.nD Cert.KernelGatesIdeal.τ).loc Cert.KernelGatesIdeal.main_v11_0) i = v0 c i)
          ∧ (∀ i : (⟨3, ![8, 4096, 1024]⟩ : Shape).Idx, (Cert.On_written_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6))).2 i = 1#1 → r.2.mem ((c.tc : Thread Cert.KernelGatesIdeal.nD Cert.KernelGatesIdeal.τ).loc Cert.KernelGatesIdeal.main_v11_1) i = v1 c i)
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
          ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3)
          ∧ r.2.mem ((c.tc : Thread Cert.KernelGatesIdeal.nD Cert.KernelGatesIdeal.τ).loc Cert.KernelGatesIdeal.main_arg4) = m ((c.tc : Thread Cert.KernelGatesIdeal.nD Cert.KernelGatesIdeal.τ).loc Cert.KernelGatesIdeal.main_arg4)
          ∧ r.2.mem ((c.tc : Thread Cert.KernelGatesIdeal.nD Cert.KernelGatesIdeal.τ).loc Cert.KernelGatesIdeal.main_arg5) = m ((c.tc : Thread Cert.KernelGatesIdeal.nD Cert.KernelGatesIdeal.τ).loc Cert.KernelGatesIdeal.main_arg5)
          ∧ r.2.mem ((c.tc : Thread Cert.KernelGatesIdeal.nD Cert.KernelGatesIdeal.τ).loc Cert.KernelGatesIdeal.main_arg6) = m ((c.tc : Thread Cert.KernelGatesIdeal.nD Cert.KernelGatesIdeal.τ).loc Cert.KernelGatesIdeal.main_arg6))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          (∀ i : (⟨3, ![2, 4096, 1024]⟩ : Shape).Idx, (Cert.On_written_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6))).1 i = 1#1 → r.2.mem ((c.tc : Thread Cert.ReferenceGatesIdeal.nD Cert.ReferenceGatesIdeal.τ).loc Cert.ReferenceGatesIdeal.main_v36) i = v0 c i)
          ∧ (∀ i : (⟨3, ![8, 4096, 1024]⟩ : Shape).Idx, (Cert.On_written_gates.fn (F := Ideal) (m ((c.tc : Thread Cert.KernelGatesIdeal.nD Cert.KernelGatesIdeal.τ).loc Cert.KernelGatesIdeal.main_arg0)) (m ((c.tc : Thread Cert.KernelGatesIdeal.nD Cert.KernelGatesIdeal.τ).loc Cert.KernelGatesIdeal.main_arg1)) (m ((c.tc : Thread Cert.KernelGatesIdeal.nD Cert.KernelGatesIdeal.τ).loc Cert.KernelGatesIdeal.main_arg2)) (m ((c.tc : Thread Cert.KernelGatesIdeal.nD Cert.KernelGatesIdeal.τ).loc Cert.KernelGatesIdeal.main_arg3)) (m ((c.tc : Thread Cert.KernelGatesIdeal.nD Cert.KernelGatesIdeal.τ).loc Cert.KernelGatesIdeal.main_arg4)) (m ((c.tc : Thread Cert.KernelGatesIdeal.nD Cert.KernelGatesIdeal.τ).loc Cert.KernelGatesIdeal.main_arg5)) (m ((c.tc : Thread Cert.KernelGatesIdeal.nD Cert.KernelGatesIdeal.τ).loc Cert.KernelGatesIdeal.main_arg6))).2 i = 1#1 → r.2.mem ((c.tc : Thread Cert.ReferenceGatesIdeal.nD Cert.ReferenceGatesIdeal.τ).loc Cert.ReferenceGatesIdeal.main_v41) i = v1 c i)
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2)
          ∧ r.2.mem ((c.tc : Thread Cert.ReferenceGatesIdeal.nD Cert.ReferenceGatesIdeal.τ).loc Cert.ReferenceGatesIdeal.main_arg3) = m' ((c.tc : Thread Cert.ReferenceGatesIdeal.nD Cert.ReferenceGatesIdeal.τ).loc Cert.ReferenceGatesIdeal.main_arg3)
          ∧ r.2.mem ((c.tc : Thread Cert.ReferenceGatesIdeal.nD Cert.ReferenceGatesIdeal.τ).loc Cert.ReferenceGatesIdeal.main_arg4) = m' ((c.tc : Thread Cert.ReferenceGatesIdeal.nD Cert.ReferenceGatesIdeal.τ).loc Cert.ReferenceGatesIdeal.main_arg4)
          ∧ r.2.mem ((c.tc : Thread Cert.ReferenceGatesIdeal.nD Cert.ReferenceGatesIdeal.τ).loc Cert.ReferenceGatesIdeal.main_arg5) = m' ((c.tc : Thread Cert.ReferenceGatesIdeal.nD Cert.ReferenceGatesIdeal.τ).loc Cert.ReferenceGatesIdeal.main_arg5)
          ∧ r.2.mem ((c.tc : Thread Cert.ReferenceGatesIdeal.nD Cert.ReferenceGatesIdeal.τ).loc Cert.ReferenceGatesIdeal.main_arg6) = m' ((c.tc : Thread Cert.ReferenceGatesIdeal.nD Cert.ReferenceGatesIdeal.τ).loc Cert.ReferenceGatesIdeal.main_arg6))

def preserves_KernelPool_KernelPoolIdeal : Prop :=
  True

def algebraic_KernelPoolIdeal_ReferencePoolIdeal_on_written_pool_pre_finite_pool [hKernelPoolIdeal : Cert.KernelPoolIdeal.Facts] [hReferencePoolIdeal : Cert.ReferencePoolIdeal.Facts] [hPre_finite_pool : Cert.Pre_finite_pool.Facts] [hOn_written_pool : Cert.On_written_pool.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_finite_pool m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)
      ∧ m' ((c.tc : Thread Cert.ReferencePoolIdeal.nD Cert.ReferencePoolIdeal.τ).loc Cert.ReferencePoolIdeal.main_arg3) = m ((c.tc : Thread Cert.KernelPoolIdeal.nD Cert.KernelPoolIdeal.τ).loc Cert.KernelPoolIdeal.main_arg3)) →
    ∃ (v0 : (c : Dev Cert.KernelPoolIdeal.nD) → Buf (Elt Ideal) ((c.tc : Thread Cert.KernelPoolIdeal.nD Cert.KernelPoolIdeal.τ).loc Cert.KernelPoolIdeal.main_v8_0)) (v1 : (c : Dev Cert.KernelPoolIdeal.nD) → Buf (Elt Ideal) ((c.tc : Thread Cert.KernelPoolIdeal.nD Cert.KernelPoolIdeal.τ).loc Cert.KernelPoolIdeal.main_v8_1)) (v2 : (c : Dev Cert.KernelPoolIdeal.nD) → Buf (Elt Ideal) ((c.tc : Thread Cert.KernelPoolIdeal.nD Cert.KernelPoolIdeal.τ).loc Cert.KernelPoolIdeal.main_v8_2)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          (∀ i : (⟨3, ![8, 4096, 1024]⟩ : Shape).Idx, (Cert.On_written_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).1 i = 1#1 → r.2.mem ((c.tc : Thread Cert.KernelPoolIdeal.nD Cert.KernelPoolIdeal.τ).loc Cert.KernelPoolIdeal.main_v8_0) i = v0 c i)
          ∧ (∀ i : (⟨4, ![4, 4, 64, 256]⟩ : Shape).Idx, (Cert.On_written_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.1 i = 1#1 → r.2.mem ((c.tc : Thread Cert.KernelPoolIdeal.nD Cert.KernelPoolIdeal.τ).loc Cert.KernelPoolIdeal.main_v8_1) i = v1 c i)
          ∧ (∀ i : (⟨3, ![2, 8, 1024]⟩ : Shape).Idx, (Cert.On_written_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.2 i = 1#1 → r.2.mem ((c.tc : Thread Cert.KernelPoolIdeal.nD Cert.KernelPoolIdeal.τ).loc Cert.KernelPoolIdeal.main_v8_2) i = v2 c i)
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
          ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          (∀ i : (⟨3, ![8, 4096, 1024]⟩ : Shape).Idx, (Cert.On_written_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).1 i = 1#1 → r.2.mem ((c.tc : Thread Cert.ReferencePoolIdeal.nD Cert.ReferencePoolIdeal.τ).loc Cert.ReferencePoolIdeal.main_v97) i = v0 c i)
          ∧ (∀ i : (⟨4, ![4, 4, 64, 256]⟩ : Shape).Idx, (Cert.On_written_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.1 i = 1#1 → r.2.mem ((c.tc : Thread Cert.ReferencePoolIdeal.nD Cert.ReferencePoolIdeal.τ).loc Cert.ReferencePoolIdeal.main_v99) i = v1 c i)
          ∧ (∀ i : (⟨3, ![2, 8, 1024]⟩ : Shape).Idx, (Cert.On_written_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.2 i = 1#1 → r.2.mem ((c.tc : Thread Cert.ReferencePoolIdeal.nD Cert.ReferencePoolIdeal.τ).loc Cert.ReferencePoolIdeal.main_v100) i = v2 c i)
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2)
          ∧ r.2.mem ((c.tc : Thread Cert.ReferencePoolIdeal.nD Cert.ReferencePoolIdeal.τ).loc Cert.ReferencePoolIdeal.main_arg3) = m' ((c.tc : Thread Cert.ReferencePoolIdeal.nD Cert.ReferencePoolIdeal.τ).loc Cert.ReferencePoolIdeal.main_arg3))

def preserves_KernelBound_KernelBoundIdeal : Prop :=
  True

def algebraic_KernelBoundIdeal_ReferenceBoundIdeal_pre_finite_bound [hKernelBoundIdeal : Cert.KernelBoundIdeal.Facts] [hReferenceBoundIdeal : Cert.ReferenceBoundIdeal.Facts] [hPre_finite_bound : Cert.Pre_finite_bound.Facts] : Prop :=
  ∀ (m : (ℓ : Loc Cert.KernelBoundIdeal.nD Cert.KernelBoundIdeal.τ Cert.KernelBoundIdeal.sig) → Buf (Elt Ideal) ℓ) (g : Dev Cert.KernelBoundIdeal.nD → PrngReg)
    (m' : (ℓ : Loc Cert.ReferenceBoundIdeal.nD Cert.ReferenceBoundIdeal.τ Cert.ReferenceBoundIdeal.sig) → Buf (Elt Ideal) ℓ) (g' : Dev Cert.ReferenceBoundIdeal.nD → PrngReg), Pre_KernelBoundIdeal_finite_bound m →
    (∀ c : Dev Cert.KernelBoundIdeal.nD,
      m' ((c.tc : Thread Cert.ReferenceBoundIdeal.nD Cert.ReferenceBoundIdeal.τ).loc Cert.ReferenceBoundIdeal.main_arg0) = m ((c.tc : Thread Cert.KernelBoundIdeal.nD Cert.KernelBoundIdeal.τ).loc Cert.KernelBoundIdeal.main_arg0)
      ∧ m' ((c.tc : Thread Cert.ReferenceBoundIdeal.nD Cert.ReferenceBoundIdeal.τ).loc Cert.ReferenceBoundIdeal.main_arg1) = m ((c.tc : Thread Cert.KernelBoundIdeal.nD Cert.KernelBoundIdeal.τ).loc Cert.KernelBoundIdeal.main_arg1)) →
    ∃ (v0 : (c : Dev Cert.KernelBoundIdeal.nD) → Buf (Elt Ideal) ((c.tc : Thread Cert.KernelBoundIdeal.nD Cert.KernelBoundIdeal.τ).loc Cert.KernelBoundIdeal.main_v0)),
      θ_run (Cert.KernelBoundIdeal.defs (F := Ideal)) (onTc (τ := Cert.KernelBoundIdeal.τ) (Cert.KernelBoundIdeal.main (F := Ideal))) ⟨m, fun _ => 0, g⟩ (fun r => ∀ c : Dev Cert.KernelBoundIdeal.nD,
          r.2.mem ((c.tc : Thread Cert.KernelBoundIdeal.nD Cert.KernelBoundIdeal.τ).loc Cert.KernelBoundIdeal.main_v0) = v0 c
          ∧ r.2.mem ((c.tc : Thread Cert.KernelBoundIdeal.nD Cert.KernelBoundIdeal.τ).loc Cert.KernelBoundIdeal.main_arg0) = m ((c.tc : Thread Cert.KernelBoundIdeal.nD Cert.KernelBoundIdeal.τ).loc Cert.KernelBoundIdeal.main_arg0)
          ∧ r.2.mem ((c.tc : Thread Cert.KernelBoundIdeal.nD Cert.KernelBoundIdeal.τ).loc Cert.KernelBoundIdeal.main_arg1) = m ((c.tc : Thread Cert.KernelBoundIdeal.nD Cert.KernelBoundIdeal.τ).loc Cert.KernelBoundIdeal.main_arg1))
      ∧ θ_run (Cert.ReferenceBoundIdeal.defs (F := Ideal)) (onTc (τ := Cert.ReferenceBoundIdeal.τ) (Cert.ReferenceBoundIdeal.main (F := Ideal))) ⟨m', fun _ => 0, g'⟩ (fun r => ∀ c : Dev Cert.ReferenceBoundIdeal.nD,
          r.2.mem ((c.tc : Thread Cert.ReferenceBoundIdeal.nD Cert.ReferenceBoundIdeal.τ).loc Cert.ReferenceBoundIdeal.main_v46) = v0 c
          ∧ r.2.mem ((c.tc : Thread Cert.ReferenceBoundIdeal.nD Cert.ReferenceBoundIdeal.τ).loc Cert.ReferenceBoundIdeal.main_arg0) = m' ((c.tc : Thread Cert.ReferenceBoundIdeal.nD Cert.ReferenceBoundIdeal.τ).loc Cert.ReferenceBoundIdeal.main_arg0)
          ∧ r.2.mem ((c.tc : Thread Cert.ReferenceBoundIdeal.nD Cert.ReferenceBoundIdeal.τ).loc Cert.ReferenceBoundIdeal.main_arg1) = m' ((c.tc : Thread Cert.ReferenceBoundIdeal.nD Cert.ReferenceBoundIdeal.τ).loc Cert.ReferenceBoundIdeal.main_arg1))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)) →
    ∃ (v0 : (c : Dev Cert.KernelLossIdeal.nD) → Buf (Elt Ideal) ((c.tc : Thread Cert.KernelLossIdeal.nD Cert.KernelLossIdeal.τ).loc Cert.KernelLossIdeal.main_v6_0)) (v1 : (c : Dev Cert.KernelLossIdeal.nD) → Buf (Elt Ideal) ((c.tc : Thread Cert.KernelLossIdeal.nD Cert.KernelLossIdeal.τ).loc Cert.KernelLossIdeal.main_v6_1)) (v2 : (c : Dev Cert.KernelLossIdeal.nD) → Buf (Elt Ideal) ((c.tc : Thread Cert.KernelLossIdeal.nD Cert.KernelLossIdeal.τ).loc Cert.KernelLossIdeal.main_v6_2)) (v3 : (c : Dev Cert.KernelLossIdeal.nD) → Buf (Elt Ideal) ((c.tc : Thread Cert.KernelLossIdeal.nD Cert.KernelLossIdeal.τ).loc Cert.KernelLossIdeal.main_v6_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v6_0) = v0 c
          ∧ r.2.mem ((c.tc : Thread Cert.KernelLossIdeal.nD Cert.KernelLossIdeal.τ).loc Cert.KernelLossIdeal.main_v6_1) = v1 c
          ∧ r.2.mem ((c.tc : Thread Cert.KernelLossIdeal.nD Cert.KernelLossIdeal.τ).loc Cert.KernelLossIdeal.main_v6_2) = v2 c
          ∧ r.2.mem ((c.tc : Thread Cert.KernelLossIdeal.nD Cert.KernelLossIdeal.τ).loc Cert.KernelLossIdeal.main_v6_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v60) = v0 c
          ∧ r.2.mem ((c.tc : Thread Cert.ReferenceLossIdeal.nD Cert.ReferenceLossIdeal.τ).loc Cert.ReferenceLossIdeal.main_v62) = v1 c
          ∧ r.2.mem ((c.tc : Thread Cert.ReferenceLossIdeal.nD Cert.ReferenceLossIdeal.τ).loc Cert.ReferenceLossIdeal.main_v64) = v2 c
          ∧ r.2.mem ((c.tc : Thread Cert.ReferenceLossIdeal.nD Cert.ReferenceLossIdeal.τ).loc Cert.ReferenceLossIdeal.main_v66) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4))

def preserves_KernelNorm_KernelNormIdeal : Prop :=
  True

def algebraic_KernelNormIdeal_ReferenceNormIdeal_pre_finite_norm [hKernelNormIdeal : Cert.KernelNormIdeal.Facts] [hReferenceNormIdeal : Cert.ReferenceNormIdeal.Facts] [hPre_finite_norm : Cert.Pre_finite_norm.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal_finite_norm m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)
      ∧ m' ((c.tc : Thread Cert.ReferenceNormIdeal.nD Cert.ReferenceNormIdeal.τ).loc Cert.ReferenceNormIdeal.main_arg4) = m ((c.tc : Thread Cert.KernelNormIdeal.nD Cert.KernelNormIdeal.τ).loc Cert.KernelNormIdeal.main_arg4)) →
    ∃ (v0 : (c : Dev Cert.KernelNormIdeal.nD) → Buf (Elt Ideal) ((c.tc : Thread Cert.KernelNormIdeal.nD Cert.KernelNormIdeal.τ).loc Cert.KernelNormIdeal.main_v9_0)) (v1 : (c : Dev Cert.KernelNormIdeal.nD) → Buf (Elt Ideal) ((c.tc : Thread Cert.KernelNormIdeal.nD Cert.KernelNormIdeal.τ).loc Cert.KernelNormIdeal.main_v9_1)) (v2 : (c : Dev Cert.KernelNormIdeal.nD) → Buf (Elt Ideal) ((c.tc : Thread Cert.KernelNormIdeal.nD Cert.KernelNormIdeal.τ).loc Cert.KernelNormIdeal.main_v9_2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v9_0) = v0 c
          ∧ r.2.mem ((c.tc : Thread Cert.KernelNormIdeal.nD Cert.KernelNormIdeal.τ).loc Cert.KernelNormIdeal.main_v9_1) = v1 c
          ∧ r.2.mem ((c.tc : Thread Cert.KernelNormIdeal.nD Cert.KernelNormIdeal.τ).loc Cert.KernelNormIdeal.main_v9_2) = v2 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3)
          ∧ r.2.mem ((c.tc : Thread Cert.KernelNormIdeal.nD Cert.KernelNormIdeal.τ).loc Cert.KernelNormIdeal.main_arg4) = m ((c.tc : Thread Cert.KernelNormIdeal.nD Cert.KernelNormIdeal.τ).loc Cert.KernelNormIdeal.main_arg4))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v43) = v0 c
          ∧ r.2.mem ((c.tc : Thread Cert.ReferenceNormIdeal.nD Cert.ReferenceNormIdeal.τ).loc Cert.ReferenceNormIdeal.main_v45) = v1 c
          ∧ r.2.mem ((c.tc : Thread Cert.ReferenceNormIdeal.nD Cert.ReferenceNormIdeal.τ).loc Cert.ReferenceNormIdeal.main_v46) = v2 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3)
          ∧ r.2.mem ((c.tc : Thread Cert.ReferenceNormIdeal.nD Cert.ReferenceNormIdeal.τ).loc Cert.ReferenceNormIdeal.main_arg4) = m' ((c.tc : Thread Cert.ReferenceNormIdeal.nD Cert.ReferenceNormIdeal.τ).loc Cert.ReferenceNormIdeal.main_arg4))

def preserves_KernelInbwd_KernelInbwdIdeal : Prop :=
  True

def algebraic_KernelInbwdIdeal_ReferenceInbwdIdeal_pre_finite_inbwd [hKernelInbwdIdeal : Cert.KernelInbwdIdeal.Facts] [hReferenceInbwdIdeal : Cert.ReferenceInbwdIdeal.Facts] [hPre_finite_inbwd : Cert.Pre_finite_inbwd.Facts] : Prop :=
  ∀ (m : (ℓ : Loc Cert.KernelInbwdIdeal.nD Cert.KernelInbwdIdeal.τ Cert.KernelInbwdIdeal.sig) → Buf (Elt Ideal) ℓ) (g : Dev Cert.KernelInbwdIdeal.nD → PrngReg)
    (m' : (ℓ : Loc Cert.ReferenceInbwdIdeal.nD Cert.ReferenceInbwdIdeal.τ Cert.ReferenceInbwdIdeal.sig) → Buf (Elt Ideal) ℓ) (g' : Dev Cert.ReferenceInbwdIdeal.nD → PrngReg), Pre_KernelInbwdIdeal_finite_inbwd m →
    (∀ c : Dev Cert.KernelInbwdIdeal.nD,
      m' ((c.tc : Thread Cert.ReferenceInbwdIdeal.nD Cert.ReferenceInbwdIdeal.τ).loc Cert.ReferenceInbwdIdeal.main_arg0) = m ((c.tc : Thread Cert.KernelInbwdIdeal.nD Cert.KernelInbwdIdeal.τ).loc Cert.KernelInbwdIdeal.main_arg0)
      ∧ m' ((c.tc : Thread Cert.ReferenceInbwdIdeal.nD Cert.ReferenceInbwdIdeal.τ).loc Cert.ReferenceInbwdIdeal.main_arg1) = m ((c.tc : Thread Cert.KernelInbwdIdeal.nD Cert.KernelInbwdIdeal.τ).loc Cert.KernelInbwdIdeal.main_arg1)
      ∧ m' ((c.tc : Thread Cert.ReferenceInbwdIdeal.nD Cert.ReferenceInbwdIdeal.τ).loc Cert.ReferenceInbwdIdeal.main_arg2) = m ((c.tc : Thread Cert.KernelInbwdIdeal.nD Cert.KernelInbwdIdeal.τ).loc Cert.KernelInbwdIdeal.main_arg2)
      ∧ m' ((c.tc : Thread Cert.ReferenceInbwdIdeal.nD Cert.ReferenceInbwdIdeal.τ).loc Cert.ReferenceInbwdIdeal.main_arg3) = m ((c.tc : Thread Cert.KernelInbwdIdeal.nD Cert.KernelInbwdIdeal.τ).loc Cert.KernelInbwdIdeal.main_arg3)
      ∧ m' ((c.tc : Thread Cert.ReferenceInbwdIdeal.nD Cert.ReferenceInbwdIdeal.τ).loc Cert.ReferenceInbwdIdeal.main_arg4) = m ((c.tc : Thread Cert.KernelInbwdIdeal.nD Cert.KernelInbwdIdeal.τ).loc Cert.KernelInbwdIdeal.main_arg4)) →
    ∃ (v0 : (c : Dev Cert.KernelInbwdIdeal.nD) → Buf (Elt Ideal) ((c.tc : Thread Cert.KernelInbwdIdeal.nD Cert.KernelInbwdIdeal.τ).loc Cert.KernelInbwdIdeal.main_v9_0)) (v1 : (c : Dev Cert.KernelInbwdIdeal.nD) → Buf (Elt Ideal) ((c.tc : Thread Cert.KernelInbwdIdeal.nD Cert.KernelInbwdIdeal.τ).loc Cert.KernelInbwdIdeal.main_v9_1)),
      θ_run (Cert.KernelInbwdIdeal.defs (F := Ideal)) (onTc (τ := Cert.KernelInbwdIdeal.τ) (Cert.KernelInbwdIdeal.main (F := Ideal))) ⟨m, fun _ => 0, g⟩ (fun r => ∀ c : Dev Cert.KernelInbwdIdeal.nD,
          r.2.mem ((c.tc : Thread Cert.KernelInbwdIdeal.nD Cert.KernelInbwdIdeal.τ).loc Cert.KernelInbwdIdeal.main_v9_0) = v0 c
          ∧ r.2.mem ((c.tc : Thread Cert.KernelInbwdIdeal.nD Cert.KernelInbwdIdeal.τ).loc Cert.KernelInbwdIdeal.main_v9_1) = v1 c
          ∧ r.2.mem ((c.tc : Thread Cert.KernelInbwdIdeal.nD Cert.KernelInbwdIdeal.τ).loc Cert.KernelInbwdIdeal.main_arg0) = m ((c.tc : Thread Cert.KernelInbwdIdeal.nD Cert.KernelInbwdIdeal.τ).loc Cert.KernelInbwdIdeal.main_arg0)
          ∧ r.2.mem ((c.tc : Thread Cert.KernelInbwdIdeal.nD Cert.KernelInbwdIdeal.τ).loc Cert.KernelInbwdIdeal.main_arg1) = m ((c.tc : Thread Cert.KernelInbwdIdeal.nD Cert.KernelInbwdIdeal.τ).loc Cert.KernelInbwdIdeal.main_arg1)
          ∧ r.2.mem ((c.tc : Thread Cert.KernelInbwdIdeal.nD Cert.KernelInbwdIdeal.τ).loc Cert.KernelInbwdIdeal.main_arg2) = m ((c.tc : Thread Cert.KernelInbwdIdeal.nD Cert.KernelInbwdIdeal.τ).loc Cert.KernelInbwdIdeal.main_arg2)
          ∧ r.2.mem ((c.tc : Thread Cert.KernelInbwdIdeal.nD Cert.KernelInbwdIdeal.τ).loc Cert.KernelInbwdIdeal.main_arg3) = m ((c.tc : Thread Cert.KernelInbwdIdeal.nD Cert.KernelInbwdIdeal.τ).loc Cert.KernelInbwdIdeal.main_arg3)
          ∧ r.2.mem ((c.tc : Thread Cert.KernelInbwdIdeal.nD Cert.KernelInbwdIdeal.τ).loc Cert.KernelInbwdIdeal.main_arg4) = m ((c.tc : Thread Cert.KernelInbwdIdeal.nD Cert.KernelInbwdIdeal.τ).loc Cert.KernelInbwdIdeal.main_arg4))
      ∧ θ_run (Cert.ReferenceInbwdIdeal.defs (F := Ideal)) (onTc (τ := Cert.ReferenceInbwdIdeal.τ) (Cert.ReferenceInbwdIdeal.main (F := Ideal))) ⟨m', fun _ => 0, g'⟩ (fun r => ∀ c : Dev Cert.ReferenceInbwdIdeal.nD,
          r.2.mem ((c.tc : Thread Cert.ReferenceInbwdIdeal.nD Cert.ReferenceInbwdIdeal.τ).loc Cert.ReferenceInbwdIdeal.main_v43) = v0 c
          ∧ r.2.mem ((c.tc : Thread Cert.ReferenceInbwdIdeal.nD Cert.ReferenceInbwdIdeal.τ).loc Cert.ReferenceInbwdIdeal.main_v45) = v1 c
          ∧ r.2.mem ((c.tc : Thread Cert.ReferenceInbwdIdeal.nD Cert.ReferenceInbwdIdeal.τ).loc Cert.ReferenceInbwdIdeal.main_arg0) = m' ((c.tc : Thread Cert.ReferenceInbwdIdeal.nD Cert.ReferenceInbwdIdeal.τ).loc Cert.ReferenceInbwdIdeal.main_arg0)
          ∧ r.2.mem ((c.tc : Thread Cert.ReferenceInbwdIdeal.nD Cert.ReferenceInbwdIdeal.τ).loc Cert.ReferenceInbwdIdeal.main_arg1) = m' ((c.tc : Thread Cert.ReferenceInbwdIdeal.nD Cert.ReferenceInbwdIdeal.τ).loc Cert.ReferenceInbwdIdeal.main_arg1)
          ∧ r.2.mem ((c.tc : Thread Cert.ReferenceInbwdIdeal.nD Cert.ReferenceInbwdIdeal.τ).loc Cert.ReferenceInbwdIdeal.main_arg2) = m' ((c.tc : Thread Cert.ReferenceInbwdIdeal.nD Cert.ReferenceInbwdIdeal.τ).loc Cert.ReferenceInbwdIdeal.main_arg2)
          ∧ r.2.mem ((c.tc : Thread Cert.ReferenceInbwdIdeal.nD Cert.ReferenceInbwdIdeal.τ).loc Cert.ReferenceInbwdIdeal.main_arg3) = m' ((c.tc : Thread Cert.ReferenceInbwdIdeal.nD Cert.ReferenceInbwdIdeal.τ).loc Cert.ReferenceInbwdIdeal.main_arg3)
          ∧ r.2.mem ((c.tc : Thread Cert.ReferenceInbwdIdeal.nD Cert.ReferenceInbwdIdeal.τ).loc Cert.ReferenceInbwdIdeal.main_arg4) = m' ((c.tc : Thread Cert.ReferenceInbwdIdeal.nD Cert.ReferenceInbwdIdeal.τ).loc Cert.ReferenceInbwdIdeal.main_arg4))

def preserves_KernelPoolf_KernelPoolfIdeal : Prop :=
  True

def algebraic_KernelPoolfIdeal_ReferencePoolfIdeal_pre_finite_poolf [hKernelPoolfIdeal : Cert.KernelPoolfIdeal.Facts] [hReferencePoolfIdeal : Cert.ReferencePoolfIdeal.Facts] [hPre_finite_poolf : Cert.Pre_finite_poolf.Facts] : Prop :=
  ∀ (m : (ℓ : Loc Cert.KernelPoolfIdeal.nD Cert.KernelPoolfIdeal.τ Cert.KernelPoolfIdeal.sig) → Buf (Elt Ideal) ℓ) (g : Dev Cert.KernelPoolfIdeal.nD → PrngReg)
    (m' : (ℓ : Loc Cert.ReferencePoolfIdeal.nD Cert.ReferencePoolfIdeal.τ Cert.ReferencePoolfIdeal.sig) → Buf (Elt Ideal) ℓ) (g' : Dev Cert.ReferencePoolfIdeal.nD → PrngReg), Pre_KernelPoolfIdeal_finite_poolf m →
    (∀ c : Dev Cert.KernelPoolfIdeal.nD,
      m' ((c.tc : Thread Cert.ReferencePoolfIdeal.nD Cert.ReferencePoolfIdeal.τ).loc Cert.ReferencePoolfIdeal.main_arg0) = m ((c.tc : Thread Cert.KernelPoolfIdeal.nD Cert.KernelPoolfIdeal.τ).loc Cert.KernelPoolfIdeal.main_arg0)
      ∧ m' ((c.tc : Thread Cert.ReferencePoolfIdeal.nD Cert.ReferencePoolfIdeal.τ).loc Cert.ReferencePoolfIdeal.main_arg1) = m ((c.tc : Thread Cert.KernelPoolfIdeal.nD Cert.KernelPoolfIdeal.τ).loc Cert.KernelPoolfIdeal.main_arg1)
      ∧ m' ((c.tc : Thread Cert.ReferencePoolfIdeal.nD Cert.ReferencePoolfIdeal.τ).loc Cert.ReferencePoolfIdeal.main_arg2) = m ((c.tc : Thread Cert.KernelPoolfIdeal.nD Cert.KernelPoolfIdeal.τ).loc Cert.KernelPoolfIdeal.main_arg2)) →
    ∃ (v0 : (c : Dev Cert.KernelPoolfIdeal.nD) → Buf (Elt Ideal) ((c.tc : Thread Cert.KernelPoolfIdeal.nD Cert.KernelPoolfIdeal.τ).loc Cert.KernelPoolfIdeal.main_v5)),
      θ_run (Cert.KernelPoolfIdeal.defs (F := Ideal)) (onTc (τ := Cert.KernelPoolfIdeal.τ) (Cert.KernelPoolfIdeal.main (F := Ideal))) ⟨m, fun _ => 0, g⟩ (fun r => ∀ c : Dev Cert.KernelPoolfIdeal.nD,
          r.2.mem ((c.tc : Thread Cert.KernelPoolfIdeal.nD Cert.KernelPoolfIdeal.τ).loc Cert.KernelPoolfIdeal.main_v5) = v0 c
          ∧ r.2.mem ((c.tc : Thread Cert.KernelPoolfIdeal.nD Cert.KernelPoolfIdeal.τ).loc Cert.KernelPoolfIdeal.main_arg0) = m ((c.tc : Thread Cert.KernelPoolfIdeal.nD Cert.KernelPoolfIdeal.τ).loc Cert.KernelPoolfIdeal.main_arg0)
          ∧ r.2.mem ((c.tc : Thread Cert.KernelPoolfIdeal.nD Cert.KernelPoolfIdeal.τ).loc Cert.KernelPoolfIdeal.main_arg1) = m ((c.tc : Thread Cert.KernelPoolfIdeal.nD Cert.KernelPoolfIdeal.τ).loc Cert.KernelPoolfIdeal.main_arg1)
          ∧ r.2.mem ((c.tc : Thread Cert.KernelPoolfIdeal.nD Cert.KernelPoolfIdeal.τ).loc Cert.KernelPoolfIdeal.main_arg2) = m ((c.tc : Thread Cert.KernelPoolfIdeal.nD Cert.KernelPoolfIdeal.τ).loc Cert.KernelPoolfIdeal.main_arg2))
      ∧ θ_run (Cert.ReferencePoolfIdeal.defs (F := Ideal)) (onTc (τ := Cert.ReferencePoolfIdeal.τ) (Cert.ReferencePoolfIdeal.main (F := Ideal))) ⟨m', fun _ => 0, g'⟩ (fun r => ∀ c : Dev Cert.ReferencePoolfIdeal.nD,
          r.2.mem ((c.tc : Thread Cert.ReferencePoolfIdeal.nD Cert.ReferencePoolfIdeal.τ).loc Cert.ReferencePoolfIdeal.main_v68) = v0 c
          ∧ r.2.mem ((c.tc : Thread Cert.ReferencePoolfIdeal.nD Cert.ReferencePoolfIdeal.τ).loc Cert.ReferencePoolfIdeal.main_arg0) = m' ((c.tc : Thread Cert.ReferencePoolfIdeal.nD Cert.ReferencePoolfIdeal.τ).loc Cert.ReferencePoolfIdeal.main_arg0)
          ∧ r.2.mem ((c.tc : Thread Cert.ReferencePoolfIdeal.nD Cert.ReferencePoolfIdeal.τ).loc Cert.ReferencePoolfIdeal.main_arg1) = m' ((c.tc : Thread Cert.ReferencePoolfIdeal.nD Cert.ReferencePoolfIdeal.τ).loc Cert.ReferencePoolfIdeal.main_arg1)
          ∧ r.2.mem ((c.tc : Thread Cert.ReferencePoolfIdeal.nD Cert.ReferencePoolfIdeal.τ).loc Cert.ReferencePoolfIdeal.main_arg2) = m' ((c.tc : Thread Cert.ReferencePoolfIdeal.nD Cert.ReferencePoolfIdeal.τ).loc Cert.ReferencePoolfIdeal.main_arg2))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)) →
    ∃ (v0 : (c : Dev Cert.KernelMergeIdeal.nD) → Buf (Elt Ideal) ((c.tc : Thread Cert.KernelMergeIdeal.nD Cert.KernelMergeIdeal.τ).loc Cert.KernelMergeIdeal.main_v8_0)) (v1 : (c : Dev Cert.KernelMergeIdeal.nD) → Buf (Elt Ideal) ((c.tc : Thread Cert.KernelMergeIdeal.nD Cert.KernelMergeIdeal.τ).loc Cert.KernelMergeIdeal.main_v8_1)) (v2 : (c : Dev Cert.KernelMergeIdeal.nD) → Buf (Elt Ideal) ((c.tc : Thread Cert.KernelMergeIdeal.nD Cert.KernelMergeIdeal.τ).loc Cert.KernelMergeIdeal.main_v8_2)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v8_0) = v0 c
          ∧ r.2.mem ((c.tc : Thread Cert.KernelMergeIdeal.nD Cert.KernelMergeIdeal.τ).loc Cert.KernelMergeIdeal.main_v8_1) = v1 c
          ∧ r.2.mem ((c.tc : Thread Cert.KernelMergeIdeal.nD Cert.KernelMergeIdeal.τ).loc Cert.KernelMergeIdeal.main_v8_2) = v2 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v20) = v0 c
          ∧ r.2.mem ((c.tc : Thread Cert.ReferenceMergeIdeal.nD Cert.ReferenceMergeIdeal.τ).loc Cert.ReferenceMergeIdeal.main_v22) = v1 c
          ∧ r.2.mem ((c.tc : Thread Cert.ReferenceMergeIdeal.nD Cert.ReferenceMergeIdeal.τ).loc Cert.ReferenceMergeIdeal.main_v24) = v2 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4))

def preserves_KernelAttn_KernelAttnIdeal : Prop :=
  True

def algebraic_KernelAttnIdeal_ReferenceAttnIdeal [hKernelAttnIdeal : Cert.KernelAttnIdeal.Facts] [hReferenceAttnIdeal : Cert.ReferenceAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)) →
    ∃ (v0 : (c : Dev Cert.KernelAttnIdeal.nD) → Buf (Elt Ideal) ((c.tc : Thread Cert.KernelAttnIdeal.nD Cert.KernelAttnIdeal.τ).loc Cert.KernelAttnIdeal.main_v5_0)) (v1 : (c : Dev Cert.KernelAttnIdeal.nD) → Buf (Elt Ideal) ((c.tc : Thread Cert.KernelAttnIdeal.nD Cert.KernelAttnIdeal.τ).loc Cert.KernelAttnIdeal.main_v5_1)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v5_0) = v0 c
          ∧ r.2.mem ((c.tc : Thread Cert.KernelAttnIdeal.nD Cert.KernelAttnIdeal.τ).loc Cert.KernelAttnIdeal.main_v5_1) = v1 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v2) = v0 c
          ∧ r.2.mem ((c.tc : Thread Cert.ReferenceAttnIdeal.nD Cert.ReferenceAttnIdeal.τ).loc Cert.ReferenceAttnIdeal.main_v17) = v1 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)) →
    ∃ (v0 : (c : Dev Cert.KernelFfnIdeal.nD) → Buf (Elt Ideal) ((c.tc : Thread Cert.KernelFfnIdeal.nD Cert.KernelFfnIdeal.τ).loc Cert.KernelFfnIdeal.main_v5_0)) (v1 : (c : Dev Cert.KernelFfnIdeal.nD) → Buf (Elt Ideal) ((c.tc : Thread Cert.KernelFfnIdeal.nD Cert.KernelFfnIdeal.τ).loc Cert.KernelFfnIdeal.main_v5_1)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v5_0) = v0 c
          ∧ r.2.mem ((c.tc : Thread Cert.KernelFfnIdeal.nD Cert.KernelFfnIdeal.τ).loc Cert.KernelFfnIdeal.main_v5_1) = v1 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v9) = v0 c
          ∧ r.2.mem ((c.tc : Thread Cert.ReferenceFfnIdeal.nD Cert.ReferenceFfnIdeal.τ).loc Cert.ReferenceFfnIdeal.main_v13) = v1 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1))

def preserves_KernelHgf_KernelHgfIdeal : Prop :=
  True

def algebraic_KernelHgfIdeal_ReferenceHgfIdeal_pre_finite_hgf [hKernelHgfIdeal : Cert.KernelHgfIdeal.Facts] [hReferenceHgfIdeal : Cert.ReferenceHgfIdeal.Facts] [hPre_finite_hgf : Cert.Pre_finite_hgf.Facts] : Prop :=
  ∀ (m : (ℓ : Loc Cert.KernelHgfIdeal.nD Cert.KernelHgfIdeal.τ Cert.KernelHgfIdeal.sig) → Buf (Elt Ideal) ℓ) (g : Dev Cert.KernelHgfIdeal.nD → PrngReg)
    (m' : (ℓ : Loc Cert.ReferenceHgfIdeal.nD Cert.ReferenceHgfIdeal.τ Cert.ReferenceHgfIdeal.sig) → Buf (Elt Ideal) ℓ) (g' : Dev Cert.ReferenceHgfIdeal.nD → PrngReg), Pre_KernelHgfIdeal_finite_hgf m →
    (∀ c : Dev Cert.KernelHgfIdeal.nD,
      m' ((c.tc : Thread Cert.ReferenceHgfIdeal.nD Cert.ReferenceHgfIdeal.τ).loc Cert.ReferenceHgfIdeal.main_arg0) = m ((c.tc : Thread Cert.KernelHgfIdeal.nD Cert.KernelHgfIdeal.τ).loc Cert.KernelHgfIdeal.main_arg0)
      ∧ m' ((c.tc : Thread Cert.ReferenceHgfIdeal.nD Cert.ReferenceHgfIdeal.τ).loc Cert.ReferenceHgfIdeal.main_arg1) = m ((c.tc : Thread Cert.KernelHgfIdeal.nD Cert.KernelHgfIdeal.τ).loc Cert.KernelHgfIdeal.main_arg1)
      ∧ m' ((c.tc : Thread Cert.ReferenceHgfIdeal.nD Cert.ReferenceHgfIdeal.τ).loc Cert.ReferenceHgfIdeal.main_arg2) = m ((c.tc : Thread Cert.KernelHgfIdeal.nD Cert.KernelHgfIdeal.τ).loc Cert.KernelHgfIdeal.main_arg2)) →
    ∃ (v0 : (c : Dev Cert.KernelHgfIdeal.nD) → Buf (Elt Ideal) ((c.tc : Thread Cert.KernelHgfIdeal.nD Cert.KernelHgfIdeal.τ).loc Cert.KernelHgfIdeal.main_v3_0)) (v1 : (c : Dev Cert.KernelHgfIdeal.nD) → Buf (Elt Ideal) ((c.tc : Thread Cert.KernelHgfIdeal.nD Cert.KernelHgfIdeal.τ).loc Cert.KernelHgfIdeal.main_v3_1)),
      θ_run (Cert.KernelHgfIdeal.defs (F := Ideal)) (onTc (τ := Cert.KernelHgfIdeal.τ) (Cert.KernelHgfIdeal.main (F := Ideal))) ⟨m, fun _ => 0, g⟩ (fun r => ∀ c : Dev Cert.KernelHgfIdeal.nD,
          r.2.mem ((c.tc : Thread Cert.KernelHgfIdeal.nD Cert.KernelHgfIdeal.τ).loc Cert.KernelHgfIdeal.main_v3_0) = v0 c
          ∧ r.2.mem ((c.tc : Thread Cert.KernelHgfIdeal.nD Cert.KernelHgfIdeal.τ).loc Cert.KernelHgfIdeal.main_v3_1) = v1 c
          ∧ r.2.mem ((c.tc : Thread Cert.KernelHgfIdeal.nD Cert.KernelHgfIdeal.τ).loc Cert.KernelHgfIdeal.main_arg0) = m ((c.tc : Thread Cert.KernelHgfIdeal.nD Cert.KernelHgfIdeal.τ).loc Cert.KernelHgfIdeal.main_arg0)
          ∧ r.2.mem ((c.tc : Thread Cert.KernelHgfIdeal.nD Cert.KernelHgfIdeal.τ).loc Cert.KernelHgfIdeal.main_arg1) = m ((c.tc : Thread Cert.KernelHgfIdeal.nD Cert.KernelHgfIdeal.τ).loc Cert.KernelHgfIdeal.main_arg1)
          ∧ r.2.mem ((c.tc : Thread Cert.KernelHgfIdeal.nD Cert.KernelHgfIdeal.τ).loc Cert.KernelHgfIdeal.main_arg2) = m ((c.tc : Thread Cert.KernelHgfIdeal.nD Cert.KernelHgfIdeal.τ).loc Cert.KernelHgfIdeal.main_arg2))
      ∧ θ_run (Cert.ReferenceHgfIdeal.defs (F := Ideal)) (onTc (τ := Cert.ReferenceHgfIdeal.τ) (Cert.ReferenceHgfIdeal.main (F := Ideal))) ⟨m', fun _ => 0, g'⟩ (fun r => ∀ c : Dev Cert.ReferenceHgfIdeal.nD,
          r.2.mem ((c.tc : Thread Cert.ReferenceHgfIdeal.nD Cert.ReferenceHgfIdeal.τ).loc Cert.ReferenceHgfIdeal.main_v111) = v0 c
          ∧ r.2.mem ((c.tc : Thread Cert.ReferenceHgfIdeal.nD Cert.ReferenceHgfIdeal.τ).loc Cert.ReferenceHgfIdeal.main_v130) = v1 c
          ∧ r.2.mem ((c.tc : Thread Cert.ReferenceHgfIdeal.nD Cert.ReferenceHgfIdeal.τ).loc Cert.ReferenceHgfIdeal.main_arg0) = m' ((c.tc : Thread Cert.ReferenceHgfIdeal.nD Cert.ReferenceHgfIdeal.τ).loc Cert.ReferenceHgfIdeal.main_arg0)
          ∧ r.2.mem ((c.tc : Thread Cert.ReferenceHgfIdeal.nD Cert.ReferenceHgfIdeal.τ).loc Cert.ReferenceHgfIdeal.main_arg1) = m' ((c.tc : Thread Cert.ReferenceHgfIdeal.nD Cert.ReferenceHgfIdeal.τ).loc Cert.ReferenceHgfIdeal.main_arg1)
          ∧ r.2.mem ((c.tc : Thread Cert.ReferenceHgfIdeal.nD Cert.ReferenceHgfIdeal.τ).loc Cert.ReferenceHgfIdeal.main_arg2) = m' ((c.tc : Thread Cert.ReferenceHgfIdeal.nD Cert.ReferenceHgfIdeal.τ).loc Cert.ReferenceHgfIdeal.main_arg2))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v23) = v0 c
          ∧ r.2.mem ((c.tc : Thread Cert.ReferenceAdamIdeal.nD Cert.ReferenceAdamIdeal.τ).loc Cert.ReferenceAdamIdeal.main_v4) = v1 c
          ∧ r.2.mem ((c.tc : Thread Cert.ReferenceAdamIdeal.nD Cert.ReferenceAdamIdeal.τ).loc Cert.ReferenceAdamIdeal.main_v10) = v2 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3))

def preserves_KernelDy_KernelDyIdeal : Prop :=
  True

def algebraic_KernelDyIdeal_ReferenceDyIdeal [hKernelDyIdeal : Cert.KernelDyIdeal.Facts] [hReferenceDyIdeal : Cert.ReferenceDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg)
    (m' : (ℓ : Loc Cert.ReferenceDyIdeal.nD Cert.ReferenceDyIdeal.τ Cert.ReferenceDyIdeal.sig) → Buf (Elt Ideal) ℓ) (g' : Dev Cert.ReferenceDyIdeal.nD → PrngReg), Pre_KernelDyIdeal m →
    (∀ c : Dev Cert.KernelDyIdeal.nD,
      m' ((c.tc : Thread Cert.ReferenceDyIdeal.nD Cert.ReferenceDyIdeal.τ).loc Cert.ReferenceDyIdeal.main_arg0) = m ((c.tc : Thread Cert.KernelDyIdeal.nD Cert.KernelDyIdeal.τ).loc Cert.KernelDyIdeal.main_arg0)
      ∧ m' ((c.tc : Thread Cert.ReferenceDyIdeal.nD Cert.ReferenceDyIdeal.τ).loc Cert.ReferenceDyIdeal.main_arg1) = m ((c.tc : Thread Cert.KernelDyIdeal.nD Cert.KernelDyIdeal.τ).loc Cert.KernelDyIdeal.main_arg1)
      ∧ m' ((c.tc : Thread Cert.ReferenceDyIdeal.nD Cert.ReferenceDyIdeal.τ).loc Cert.ReferenceDyIdeal.main_arg2) = m ((c.tc : Thread Cert.KernelDyIdeal.nD Cert.KernelDyIdeal.τ).loc Cert.KernelDyIdeal.main_arg2)) →
    ∃ (v0 : (c : Dev Cert.KernelDyIdeal.nD) → Buf (Elt Ideal) ((c.tc : Thread Cert.KernelDyIdeal.nD Cert.KernelDyIdeal.τ).loc Cert.KernelDyIdeal.main_v7)),
      θ_run (Cert.KernelDyIdeal.defs (F := Ideal)) (onTc (τ := Cert.KernelDyIdeal.τ) (Cert.KernelDyIdeal.main (F := Ideal))) ⟨m, fun _ => 0, g⟩ (fun r => ∀ c : Dev Cert.KernelDyIdeal.nD,
          r.2.mem ((c.tc : Thread Cert.KernelDyIdeal.nD Cert.KernelDyIdeal.τ).loc Cert.KernelDyIdeal.main_v7) = v0 c
          ∧ r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
          ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1)
          ∧ r.2.mem ((c.tc : Thread Cert.KernelDyIdeal.nD Cert.KernelDyIdeal.τ).loc Cert.KernelDyIdeal.main_arg2) = m ((c.tc : Thread Cert.KernelDyIdeal.nD Cert.KernelDyIdeal.τ).loc Cert.KernelDyIdeal.main_arg2))
      ∧ θ_run (Cert.ReferenceDyIdeal.defs (F := Ideal)) (onTc (τ := Cert.ReferenceDyIdeal.τ) (Cert.ReferenceDyIdeal.main (F := Ideal))) ⟨m', fun _ => 0, g'⟩ (fun r => ∀ c : Dev Cert.ReferenceDyIdeal.nD,
          r.2.mem ((c.tc : Thread Cert.ReferenceDyIdeal.nD Cert.ReferenceDyIdeal.τ).loc Cert.ReferenceDyIdeal.main_v4) = v0 c
          ∧ r.2.mem ((c.tc : Thread Cert.ReferenceDyIdeal.nD Cert.ReferenceDyIdeal.τ).loc Cert.ReferenceDyIdeal.main_arg0) = m' ((c.tc : Thread Cert.ReferenceDyIdeal.nD Cert.ReferenceDyIdeal.τ).loc Cert.ReferenceDyIdeal.main_arg0)
          ∧ r.2.mem ((c.tc : Thread Cert.ReferenceDyIdeal.nD Cert.ReferenceDyIdeal.τ).loc Cert.ReferenceDyIdeal.main_arg1) = m' ((c.tc : Thread Cert.ReferenceDyIdeal.nD Cert.ReferenceDyIdeal.τ).loc Cert.ReferenceDyIdeal.main_arg1)
          ∧ r.2.mem ((c.tc : Thread Cert.ReferenceDyIdeal.nD Cert.ReferenceDyIdeal.τ).loc Cert.ReferenceDyIdeal.main_arg2) = m' ((c.tc : Thread Cert.ReferenceDyIdeal.nD Cert.ReferenceDyIdeal.τ).loc Cert.ReferenceDyIdeal.main_arg2))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)
      ∧ m' ((c.tc : Thread Cert.ReferenceDwIdeal.nD Cert.ReferenceDwIdeal.τ).loc Cert.ReferenceDwIdeal.main_arg2) = m ((c.tc : Thread Cert.KernelDwIdeal.nD Cert.KernelDwIdeal.τ).loc Cert.KernelDwIdeal.main_arg2)) →
    ∃ (v0 : (c : Dev Cert.KernelDwIdeal.nD) → Buf (Elt Ideal) ((c.tc : Thread Cert.KernelDwIdeal.nD Cert.KernelDwIdeal.τ).loc Cert.KernelDwIdeal.main_v8)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v8) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
          ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v13) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1)
          ∧ r.2.mem ((c.tc : Thread Cert.ReferenceDwIdeal.nD Cert.ReferenceDwIdeal.τ).loc Cert.ReferenceDwIdeal.main_arg2) = m' ((c.tc : Thread Cert.ReferenceDwIdeal.nD Cert.ReferenceDwIdeal.τ).loc Cert.ReferenceDwIdeal.main_arg2))

def preserves_KernelPsum_KernelPsumIdeal : Prop :=
  True

def algebraic_KernelPsumIdeal_ReferencePsumIdeal [hKernelPsumIdeal : Cert.KernelPsumIdeal.Facts] [hReferencePsumIdeal : Cert.ReferencePsumIdeal.Facts] [hPre_finite_psum : Cert.Pre_finite_psum.Facts] : Prop :=
  ∀ (m : (ℓ : Loc Cert.KernelPsumIdeal.nD Cert.KernelPsumIdeal.τ Cert.KernelPsumIdeal.sig) → Buf (Elt Ideal) ℓ) (g : Dev Cert.KernelPsumIdeal.nD → PrngReg)
    (m' : (ℓ : Loc Cert.ReferencePsumIdeal.nD Cert.ReferencePsumIdeal.τ Cert.ReferencePsumIdeal.sig) → Buf (Elt Ideal) ℓ) (g' : Dev Cert.ReferencePsumIdeal.nD → PrngReg), Pre_KernelPsumIdeal m →
    (∀ c : Dev Cert.KernelPsumIdeal.nD,
      m' ((c.tc : Thread Cert.ReferencePsumIdeal.nD Cert.ReferencePsumIdeal.τ).loc Cert.ReferencePsumIdeal.main_arg0) = m ((c.tc : Thread Cert.KernelPsumIdeal.nD Cert.KernelPsumIdeal.τ).loc Cert.KernelPsumIdeal.main_arg0)
      ∧ m' ((c.tc : Thread Cert.ReferencePsumIdeal.nD Cert.ReferencePsumIdeal.τ).loc Cert.ReferencePsumIdeal.main_arg1) = m ((c.tc : Thread Cert.KernelPsumIdeal.nD Cert.KernelPsumIdeal.τ).loc Cert.KernelPsumIdeal.main_arg1)
      ∧ m' ((c.tc : Thread Cert.ReferencePsumIdeal.nD Cert.ReferencePsumIdeal.τ).loc Cert.ReferencePsumIdeal.main_arg2) = m ((c.tc : Thread Cert.KernelPsumIdeal.nD Cert.KernelPsumIdeal.τ).loc Cert.KernelPsumIdeal.main_arg2)) →
    ∃ (v0 : (c : Dev Cert.KernelPsumIdeal.nD) → Buf (Elt Ideal) ((c.tc : Thread Cert.KernelPsumIdeal.nD Cert.KernelPsumIdeal.τ).loc Cert.KernelPsumIdeal.main_v1)),
      θ_run (Cert.KernelPsumIdeal.defs (F := Ideal)) (onTc (τ := Cert.KernelPsumIdeal.τ) (Cert.KernelPsumIdeal.main (F := Ideal))) ⟨m, fun _ => 0, g⟩ (fun r => ∀ c : Dev Cert.KernelPsumIdeal.nD,
          r.2.mem ((c.tc : Thread Cert.KernelPsumIdeal.nD Cert.KernelPsumIdeal.τ).loc Cert.KernelPsumIdeal.main_v1) = v0 c
          ∧ r.2.mem ((c.tc : Thread Cert.KernelPsumIdeal.nD Cert.KernelPsumIdeal.τ).loc Cert.KernelPsumIdeal.main_arg0) = m ((c.tc : Thread Cert.KernelPsumIdeal.nD Cert.KernelPsumIdeal.τ).loc Cert.KernelPsumIdeal.main_arg0)
          ∧ r.2.mem ((c.tc : Thread Cert.KernelPsumIdeal.nD Cert.KernelPsumIdeal.τ).loc Cert.KernelPsumIdeal.main_arg1) = m ((c.tc : Thread Cert.KernelPsumIdeal.nD Cert.KernelPsumIdeal.τ).loc Cert.KernelPsumIdeal.main_arg1)
          ∧ r.2.mem ((c.tc : Thread Cert.KernelPsumIdeal.nD Cert.KernelPsumIdeal.τ).loc Cert.KernelPsumIdeal.main_arg2) = m ((c.tc : Thread Cert.KernelPsumIdeal.nD Cert.KernelPsumIdeal.τ).loc Cert.KernelPsumIdeal.main_arg2))
      ∧ θ_run (Cert.ReferencePsumIdeal.defs (F := Ideal)) (onTc (τ := Cert.ReferencePsumIdeal.τ) (Cert.ReferencePsumIdeal.main (F := Ideal))) ⟨m', fun _ => 0, g'⟩ (fun r => ∀ c : Dev Cert.ReferencePsumIdeal.nD,
          r.2.mem ((c.tc : Thread Cert.ReferencePsumIdeal.nD Cert.ReferencePsumIdeal.τ).loc Cert.ReferencePsumIdeal.main_v9) = v0 c
          ∧ r.2.mem ((c.tc : Thread Cert.ReferencePsumIdeal.nD Cert.ReferencePsumIdeal.τ).loc Cert.ReferencePsumIdeal.main_arg0) = m' ((c.tc : Thread Cert.ReferencePsumIdeal.nD Cert.ReferencePsumIdeal.τ).loc Cert.ReferencePsumIdeal.main_arg0)
          ∧ r.2.mem ((c.tc : Thread Cert.ReferencePsumIdeal.nD Cert.ReferencePsumIdeal.τ).loc Cert.ReferencePsumIdeal.main_arg1) = m' ((c.tc : Thread Cert.ReferencePsumIdeal.nD Cert.ReferencePsumIdeal.τ).loc Cert.ReferencePsumIdeal.main_arg1)
          ∧ r.2.mem ((c.tc : Thread Cert.ReferencePsumIdeal.nD Cert.ReferencePsumIdeal.τ).loc Cert.ReferencePsumIdeal.main_arg2) = m' ((c.tc : Thread Cert.ReferencePsumIdeal.nD Cert.ReferencePsumIdeal.τ).loc Cert.ReferencePsumIdeal.main_arg2))

def preserves_KernelSlot_KernelSlotIdeal : Prop :=
  True

def algebraic_KernelSlotIdeal_ReferenceSlotIdeal_on_written_slot [hKernelSlotIdeal : Cert.KernelSlotIdeal.Facts] [hReferenceSlotIdeal : Cert.ReferenceSlotIdeal.Facts] [hPre_finite_slot : Cert.Pre_finite_slot.Facts] [hOn_written_slot : Cert.On_written_slot.Facts] : Prop :=
  ∀ (m : (ℓ : Loc Cert.KernelSlotIdeal.nD Cert.KernelSlotIdeal.τ Cert.KernelSlotIdeal.sig) → Buf (Elt Ideal) ℓ) (g : Dev Cert.KernelSlotIdeal.nD → PrngReg)
    (m' : (ℓ : Loc Cert.ReferenceSlotIdeal.nD Cert.ReferenceSlotIdeal.τ Cert.ReferenceSlotIdeal.sig) → Buf (Elt Ideal) ℓ) (g' : Dev Cert.ReferenceSlotIdeal.nD → PrngReg), Pre_KernelSlotIdeal m →
    (∀ c : Dev Cert.KernelSlotIdeal.nD,
      m' ((c.tc : Thread Cert.ReferenceSlotIdeal.nD Cert.ReferenceSlotIdeal.τ).loc Cert.ReferenceSlotIdeal.main_arg0) = m ((c.tc : Thread Cert.KernelSlotIdeal.nD Cert.KernelSlotIdeal.τ).loc Cert.KernelSlotIdeal.main_arg0)
      ∧ m' ((c.tc : Thread Cert.ReferenceSlotIdeal.nD Cert.ReferenceSlotIdeal.τ).loc Cert.ReferenceSlotIdeal.main_arg1) = m ((c.tc : Thread Cert.KernelSlotIdeal.nD Cert.KernelSlotIdeal.τ).loc Cert.KernelSlotIdeal.main_arg1)) →
    ∃ (v0 : (c : Dev Cert.KernelSlotIdeal.nD) → Buf (Elt Ideal) ((c.tc : Thread Cert.KernelSlotIdeal.nD Cert.KernelSlotIdeal.τ).loc Cert.KernelSlotIdeal.main_v0)),
      θ_run (Cert.KernelSlotIdeal.defs (F := Ideal)) (onTc (τ := Cert.KernelSlotIdeal.τ) (Cert.KernelSlotIdeal.main (F := Ideal))) ⟨m, fun _ => 0, g⟩ (fun r => ∀ c : Dev Cert.KernelSlotIdeal.nD,
          (∀ i : (⟨3, ![4, 1024, 2048]⟩ : Shape).Idx, (Cert.On_written_slot.fn (F := Ideal) (m ((c.tc : Thread Cert.KernelSlotIdeal.nD Cert.KernelSlotIdeal.τ).loc Cert.KernelSlotIdeal.main_arg0)) (m ((c.tc : Thread Cert.KernelSlotIdeal.nD Cert.KernelSlotIdeal.τ).loc Cert.KernelSlotIdeal.main_arg1))) i = 1#1 → r.2.mem ((c.tc : Thread Cert.KernelSlotIdeal.nD Cert.KernelSlotIdeal.τ).loc Cert.KernelSlotIdeal.main_v0) i = v0 c i)
          ∧ r.2.mem ((c.tc : Thread Cert.KernelSlotIdeal.nD Cert.KernelSlotIdeal.τ).loc Cert.KernelSlotIdeal.main_arg0) = m ((c.tc : Thread Cert.KernelSlotIdeal.nD Cert.KernelSlotIdeal.τ).loc Cert.KernelSlotIdeal.main_arg0)
          ∧ r.2.mem ((c.tc : Thread Cert.KernelSlotIdeal.nD Cert.KernelSlotIdeal.τ).loc Cert.KernelSlotIdeal.main_arg1) = m ((c.tc : Thread Cert.KernelSlotIdeal.nD Cert.KernelSlotIdeal.τ).loc Cert.KernelSlotIdeal.main_arg1))
      ∧ θ_run (Cert.ReferenceSlotIdeal.defs (F := Ideal)) (onTc (τ := Cert.ReferenceSlotIdeal.τ) (Cert.ReferenceSlotIdeal.main (F := Ideal))) ⟨m', fun _ => 0, g'⟩ (fun r => ∀ c : Dev Cert.ReferenceSlotIdeal.nD,
          (∀ i : (⟨3, ![4, 1024, 2048]⟩ : Shape).Idx, (Cert.On_written_slot.fn (F := Ideal) (m ((c.tc : Thread Cert.KernelSlotIdeal.nD Cert.KernelSlotIdeal.τ).loc Cert.KernelSlotIdeal.main_arg0)) (m ((c.tc : Thread Cert.KernelSlotIdeal.nD Cert.KernelSlotIdeal.τ).loc Cert.KernelSlotIdeal.main_arg1))) i = 1#1 → r.2.mem ((c.tc : Thread Cert.ReferenceSlotIdeal.nD Cert.ReferenceSlotIdeal.τ).loc Cert.ReferenceSlotIdeal.main_v8) i = v0 c i)
          ∧ r.2.mem ((c.tc : Thread Cert.ReferenceSlotIdeal.nD Cert.ReferenceSlotIdeal.τ).loc Cert.ReferenceSlotIdeal.main_arg0) = m' ((c.tc : Thread Cert.ReferenceSlotIdeal.nD Cert.ReferenceSlotIdeal.τ).loc Cert.ReferenceSlotIdeal.main_arg0)
          ∧ r.2.mem ((c.tc : Thread Cert.ReferenceSlotIdeal.nD Cert.ReferenceSlotIdeal.τ).loc Cert.ReferenceSlotIdeal.main_arg1) = m' ((c.tc : Thread Cert.ReferenceSlotIdeal.nD Cert.ReferenceSlotIdeal.τ).loc Cert.ReferenceSlotIdeal.main_arg1))

def Claim : Prop :=
  ∃ (hKernelSwiglu : Cert.KernelSwiglu.Facts) (hKernelSwigluIdeal : Cert.KernelSwigluIdeal.Facts) (hReferenceSwigluIdeal : Cert.ReferenceSwigluIdeal.Facts) (hKernelGates : Cert.KernelGates.Facts) (hKernelGatesIdeal : Cert.KernelGatesIdeal.Facts) (hReferenceGatesIdeal : Cert.ReferenceGatesIdeal.Facts) (hKernelPool : Cert.KernelPool.Facts) (hKernelPoolIdeal : Cert.KernelPoolIdeal.Facts) (hReferencePoolIdeal : Cert.ReferencePoolIdeal.Facts) (hKernelBound : Cert.KernelBound.Facts) (hKernelBoundIdeal : Cert.KernelBoundIdeal.Facts) (hReferenceBoundIdeal : Cert.ReferenceBoundIdeal.Facts) (hKernelLoss : Cert.KernelLoss.Facts) (hKernelLossIdeal : Cert.KernelLossIdeal.Facts) (hReferenceLossIdeal : Cert.ReferenceLossIdeal.Facts) (hKernelNorm : Cert.KernelNorm.Facts) (hKernelNormIdeal : Cert.KernelNormIdeal.Facts) (hReferenceNormIdeal : Cert.ReferenceNormIdeal.Facts) (hKernelInbwd : Cert.KernelInbwd.Facts) (hKernelInbwdIdeal : Cert.KernelInbwdIdeal.Facts) (hReferenceInbwdIdeal : Cert.ReferenceInbwdIdeal.Facts) (hKernelPoolf : Cert.KernelPoolf.Facts) (hKernelPoolfIdeal : Cert.KernelPoolfIdeal.Facts) (hReferencePoolfIdeal : Cert.ReferencePoolfIdeal.Facts) (hKernelMerge : Cert.KernelMerge.Facts) (hKernelMergeIdeal : Cert.KernelMergeIdeal.Facts) (hReferenceMergeIdeal : Cert.ReferenceMergeIdeal.Facts) (hKernelAttn : Cert.KernelAttn.Facts) (hKernelAttnIdeal : Cert.KernelAttnIdeal.Facts) (hReferenceAttnIdeal : Cert.ReferenceAttnIdeal.Facts) (hKernelFfn : Cert.KernelFfn.Facts) (hKernelFfnIdeal : Cert.KernelFfnIdeal.Facts) (hReferenceFfnIdeal : Cert.ReferenceFfnIdeal.Facts) (hKernelHgf : Cert.KernelHgf.Facts) (hKernelHgfIdeal : Cert.KernelHgfIdeal.Facts) (hReferenceHgfIdeal : Cert.ReferenceHgfIdeal.Facts) (hKernelAdam : Cert.KernelAdam.Facts) (hKernelAdamIdeal : Cert.KernelAdamIdeal.Facts) (hReferenceAdamIdeal : Cert.ReferenceAdamIdeal.Facts) (hKernelDy : Cert.KernelDy.Facts) (hKernelDyIdeal : Cert.KernelDyIdeal.Facts) (hReferenceDyIdeal : Cert.ReferenceDyIdeal.Facts) (hKernelDw : Cert.KernelDw.Facts) (hKernelDwIdeal : Cert.KernelDwIdeal.Facts) (hReferenceDwIdeal : Cert.ReferenceDwIdeal.Facts) (hKernelPsum : Cert.KernelPsum.Facts) (hKernelPsumIdeal : Cert.KernelPsumIdeal.Facts) (hReferencePsumIdeal : Cert.ReferencePsumIdeal.Facts) (hKernelSlot : Cert.KernelSlot.Facts) (hKernelSlotIdeal : Cert.KernelSlotIdeal.Facts) (hReferenceSlotIdeal : Cert.ReferenceSlotIdeal.Facts) (hPre_finite_swiglu : Cert.Pre_finite_swiglu.Facts) (hPre_finite_gates : Cert.Pre_finite_gates.Facts) (hPre_finite_pool : Cert.Pre_finite_pool.Facts) (hPre_finite_bound : Cert.Pre_finite_bound.Facts) (hPre_finite_loss : Cert.Pre_finite_loss.Facts) (hPre_finite_norm : Cert.Pre_finite_norm.Facts) (hPre_finite_inbwd : Cert.Pre_finite_inbwd.Facts) (hPre_finite_poolf : Cert.Pre_finite_poolf.Facts) (hPre_finite_hgf : Cert.Pre_finite_hgf.Facts) (hPre_finite_psum : Cert.Pre_finite_psum.Facts) (hPre_finite_slot : Cert.Pre_finite_slot.Facts) (hOn_written_gates : Cert.On_written_gates.Facts) (hOn_written_pool : Cert.On_written_pool.Facts) (hOn_written_slot : Cert.On_written_slot.Facts),
    quiescent_KernelSwiglu (hKernelSwiglu := hKernelSwiglu)
    ∧ quiescent_KernelSwigluIdeal (hKernelSwigluIdeal := hKernelSwigluIdeal)
    ∧ quiescent_KernelSwigluIdeal_pre_finite_swiglu (hKernelSwigluIdeal := hKernelSwigluIdeal) (hPre_finite_swiglu := hPre_finite_swiglu)
    ∧ quiescent_ReferenceSwigluIdeal (hReferenceSwigluIdeal := hReferenceSwigluIdeal)
    ∧ quiescent_ReferenceSwigluIdeal_pre_finite_swiglu (hReferenceSwigluIdeal := hReferenceSwigluIdeal) (hPre_finite_swiglu := hPre_finite_swiglu)
    ∧ quiescent_KernelGates (hKernelGates := hKernelGates)
    ∧ quiescent_KernelGatesIdeal (hKernelGatesIdeal := hKernelGatesIdeal)
    ∧ quiescent_KernelGatesIdeal_pre_finite_gates (hKernelGatesIdeal := hKernelGatesIdeal) (hPre_finite_gates := hPre_finite_gates)
    ∧ quiescent_ReferenceGatesIdeal (hReferenceGatesIdeal := hReferenceGatesIdeal)
    ∧ quiescent_ReferenceGatesIdeal_pre_finite_gates (hReferenceGatesIdeal := hReferenceGatesIdeal) (hPre_finite_gates := hPre_finite_gates)
    ∧ quiescent_KernelPool (hKernelPool := hKernelPool)
    ∧ quiescent_KernelPoolIdeal (hKernelPoolIdeal := hKernelPoolIdeal)
    ∧ quiescent_KernelPoolIdeal_pre_finite_pool (hKernelPoolIdeal := hKernelPoolIdeal) (hPre_finite_pool := hPre_finite_pool)
    ∧ quiescent_ReferencePoolIdeal (hReferencePoolIdeal := hReferencePoolIdeal)
    ∧ quiescent_ReferencePoolIdeal_pre_finite_pool (hReferencePoolIdeal := hReferencePoolIdeal) (hPre_finite_pool := hPre_finite_pool)
    ∧ quiescent_KernelBound (hKernelBound := hKernelBound)
    ∧ quiescent_KernelBoundIdeal (hKernelBoundIdeal := hKernelBoundIdeal)
    ∧ quiescent_KernelBoundIdeal_pre_finite_bound (hKernelBoundIdeal := hKernelBoundIdeal) (hPre_finite_bound := hPre_finite_bound)
    ∧ quiescent_ReferenceBoundIdeal (hReferenceBoundIdeal := hReferenceBoundIdeal)
    ∧ quiescent_ReferenceBoundIdeal_pre_finite_bound (hReferenceBoundIdeal := hReferenceBoundIdeal) (hPre_finite_bound := hPre_finite_bound)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelNorm (hKernelNorm := hKernelNorm)
    ∧ quiescent_KernelNormIdeal (hKernelNormIdeal := hKernelNormIdeal)
    ∧ quiescent_KernelNormIdeal_pre_finite_norm (hKernelNormIdeal := hKernelNormIdeal) (hPre_finite_norm := hPre_finite_norm)
    ∧ quiescent_ReferenceNormIdeal (hReferenceNormIdeal := hReferenceNormIdeal)
    ∧ quiescent_ReferenceNormIdeal_pre_finite_norm (hReferenceNormIdeal := hReferenceNormIdeal) (hPre_finite_norm := hPre_finite_norm)
    ∧ quiescent_KernelInbwd (hKernelInbwd := hKernelInbwd)
    ∧ quiescent_KernelInbwdIdeal (hKernelInbwdIdeal := hKernelInbwdIdeal)
    ∧ quiescent_KernelInbwdIdeal_pre_finite_inbwd (hKernelInbwdIdeal := hKernelInbwdIdeal) (hPre_finite_inbwd := hPre_finite_inbwd)
    ∧ quiescent_ReferenceInbwdIdeal (hReferenceInbwdIdeal := hReferenceInbwdIdeal)
    ∧ quiescent_ReferenceInbwdIdeal_pre_finite_inbwd (hReferenceInbwdIdeal := hReferenceInbwdIdeal) (hPre_finite_inbwd := hPre_finite_inbwd)
    ∧ quiescent_KernelPoolf (hKernelPoolf := hKernelPoolf)
    ∧ quiescent_KernelPoolfIdeal (hKernelPoolfIdeal := hKernelPoolfIdeal)
    ∧ quiescent_KernelPoolfIdeal_pre_finite_poolf (hKernelPoolfIdeal := hKernelPoolfIdeal) (hPre_finite_poolf := hPre_finite_poolf)
    ∧ quiescent_ReferencePoolfIdeal (hReferencePoolfIdeal := hReferencePoolfIdeal)
    ∧ quiescent_ReferencePoolfIdeal_pre_finite_poolf (hReferencePoolfIdeal := hReferencePoolfIdeal) (hPre_finite_poolf := hPre_finite_poolf)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelAttn (hKernelAttn := hKernelAttn)
    ∧ quiescent_KernelAttnIdeal (hKernelAttnIdeal := hKernelAttnIdeal)
    ∧ quiescent_ReferenceAttnIdeal (hReferenceAttnIdeal := hReferenceAttnIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelHgf (hKernelHgf := hKernelHgf)
    ∧ quiescent_KernelHgfIdeal (hKernelHgfIdeal := hKernelHgfIdeal)
    ∧ quiescent_KernelHgfIdeal_pre_finite_hgf (hKernelHgfIdeal := hKernelHgfIdeal) (hPre_finite_hgf := hPre_finite_hgf)
    ∧ quiescent_ReferenceHgfIdeal (hReferenceHgfIdeal := hReferenceHgfIdeal)
    ∧ quiescent_ReferenceHgfIdeal_pre_finite_hgf (hReferenceHgfIdeal := hReferenceHgfIdeal) (hPre_finite_hgf := hPre_finite_hgf)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelDy (hKernelDy := hKernelDy)
    ∧ quiescent_KernelDyIdeal (hKernelDyIdeal := hKernelDyIdeal)
    ∧ quiescent_ReferenceDyIdeal (hReferenceDyIdeal := hReferenceDyIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelPsum (hKernelPsum := hKernelPsum) (hPre_finite_psum := hPre_finite_psum)
    ∧ quiescent_KernelPsumIdeal (hKernelPsumIdeal := hKernelPsumIdeal) (hPre_finite_psum := hPre_finite_psum)
    ∧ quiescent_ReferencePsumIdeal (hReferencePsumIdeal := hReferencePsumIdeal)
    ∧ quiescent_ReferencePsumIdeal_pre_finite_psum (hReferencePsumIdeal := hReferencePsumIdeal) (hPre_finite_psum := hPre_finite_psum)
    ∧ quiescent_KernelSlot (hKernelSlot := hKernelSlot) (hPre_finite_slot := hPre_finite_slot)
    ∧ quiescent_KernelSlotIdeal (hKernelSlotIdeal := hKernelSlotIdeal) (hPre_finite_slot := hPre_finite_slot)
    ∧ quiescent_ReferenceSlotIdeal (hReferenceSlotIdeal := hReferenceSlotIdeal)
    ∧ quiescent_ReferenceSlotIdeal_pre_finite_slot (hReferenceSlotIdeal := hReferenceSlotIdeal) (hPre_finite_slot := hPre_finite_slot)
    ∧ preserves_KernelSwiglu_KernelSwigluIdeal
    ∧ algebraic_KernelSwigluIdeal_ReferenceSwigluIdeal_pre_finite_swiglu (hKernelSwigluIdeal := hKernelSwigluIdeal) (hReferenceSwigluIdeal := hReferenceSwigluIdeal) (hPre_finite_swiglu := hPre_finite_swiglu)
    ∧ preserves_KernelGates_KernelGatesIdeal
    ∧ algebraic_KernelGatesIdeal_ReferenceGatesIdeal_on_written_gates_pre_finite_gates (hKernelGatesIdeal := hKernelGatesIdeal) (hReferenceGatesIdeal := hReferenceGatesIdeal) (hPre_finite_gates := hPre_finite_gates) (hOn_written_gates := hOn_written_gates)
    ∧ preserves_KernelPool_KernelPoolIdeal
    ∧ algebraic_KernelPoolIdeal_ReferencePoolIdeal_on_written_pool_pre_finite_pool (hKernelPoolIdeal := hKernelPoolIdeal) (hReferencePoolIdeal := hReferencePoolIdeal) (hPre_finite_pool := hPre_finite_pool) (hOn_written_pool := hOn_written_pool)
    ∧ preserves_KernelBound_KernelBoundIdeal
    ∧ algebraic_KernelBoundIdeal_ReferenceBoundIdeal_pre_finite_bound (hKernelBoundIdeal := hKernelBoundIdeal) (hReferenceBoundIdeal := hReferenceBoundIdeal) (hPre_finite_bound := hPre_finite_bound)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelNorm_KernelNormIdeal
    ∧ algebraic_KernelNormIdeal_ReferenceNormIdeal_pre_finite_norm (hKernelNormIdeal := hKernelNormIdeal) (hReferenceNormIdeal := hReferenceNormIdeal) (hPre_finite_norm := hPre_finite_norm)
    ∧ preserves_KernelInbwd_KernelInbwdIdeal
    ∧ algebraic_KernelInbwdIdeal_ReferenceInbwdIdeal_pre_finite_inbwd (hKernelInbwdIdeal := hKernelInbwdIdeal) (hReferenceInbwdIdeal := hReferenceInbwdIdeal) (hPre_finite_inbwd := hPre_finite_inbwd)
    ∧ preserves_KernelPoolf_KernelPoolfIdeal
    ∧ algebraic_KernelPoolfIdeal_ReferencePoolfIdeal_pre_finite_poolf (hKernelPoolfIdeal := hKernelPoolfIdeal) (hReferencePoolfIdeal := hReferencePoolfIdeal) (hPre_finite_poolf := hPre_finite_poolf)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelAttn_KernelAttnIdeal
    ∧ algebraic_KernelAttnIdeal_ReferenceAttnIdeal (hKernelAttnIdeal := hKernelAttnIdeal) (hReferenceAttnIdeal := hReferenceAttnIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelHgf_KernelHgfIdeal
    ∧ algebraic_KernelHgfIdeal_ReferenceHgfIdeal_pre_finite_hgf (hKernelHgfIdeal := hKernelHgfIdeal) (hReferenceHgfIdeal := hReferenceHgfIdeal) (hPre_finite_hgf := hPre_finite_hgf)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelDy_KernelDyIdeal
    ∧ algebraic_KernelDyIdeal_ReferenceDyIdeal (hKernelDyIdeal := hKernelDyIdeal) (hReferenceDyIdeal := hReferenceDyIdeal)
    ∧ preserves_KernelDw_KernelDwIdeal
    ∧ algebraic_KernelDwIdeal_ReferenceDwIdeal (hKernelDwIdeal := hKernelDwIdeal) (hReferenceDwIdeal := hReferenceDwIdeal)
    ∧ preserves_KernelPsum_KernelPsumIdeal
    ∧ algebraic_KernelPsumIdeal_ReferencePsumIdeal (hKernelPsumIdeal := hKernelPsumIdeal) (hReferencePsumIdeal := hReferencePsumIdeal) (hPre_finite_psum := hPre_finite_psum)
    ∧ preserves_KernelSlot_KernelSlotIdeal
    ∧ algebraic_KernelSlotIdeal_ReferenceSlotIdeal_on_written_slot (hKernelSlotIdeal := hKernelSlotIdeal) (hReferenceSlotIdeal := hReferenceSlotIdeal) (hPre_finite_slot := hPre_finite_slot) (hOn_written_slot := hOn_written_slot)
-- ==== On_written_gates.lean ====
abbrev S2x2048x1024 : Shape := ⟨3, ![2, 2048, 1024]⟩
abbrev S2x2048x8192 : Shape := ⟨3, ![2, 2048, 8192]⟩
abbrev S1024x1024 : Shape := ⟨2, ![1024, 1024]⟩
abbrev S8x4096x1024 : Shape := ⟨3, ![8, 4096, 1024]⟩
abbrev S_ : Shape := ⟨0, ![]⟩
abbrev S2x4096x1024 : Shape := ⟨3, ![2, 4096, 1024]⟩

class Facts : Prop where
  bcast_S_S2x4096x1024 : S_.BroadcastsInDim S2x4096x1024 (![] : Fin 0 → Fin S2x4096x1024.rank)
  bcast_S_S8x4096x1024 : S_.BroadcastsInDim S8x4096x1024 (![] : Fin 0 → Fin S8x4096x1024.rank)

variable [Facts]

def fn {F : FTy → Type} [FloatOps F] (main_arg0 : FVec F S2x2048x1024 .f32) (main_arg1 : FVec F S2x2048x1024 .f32) (main_arg2 : FVec F S2x2048x1024 .f32) (main_arg3 : FVec F S2x2048x8192 .f32) (main_arg4 : FVec F S1024x1024 .f32) (main_arg5 : FVec F S1024x1024 .f32) (main_arg6 : FVec F S1024x1024 .f32) : IVec S2x4096x1024 1 × IVec S8x4096x1024 1 :=
  let main_v0 : IVec S8x4096x1024 32 := iotaInDim S8x4096x1024 32 0
  let main_c : IVec S_ 1 := constantI S_ 1 1#1
  let main_v1 : IVec S2x4096x1024 1 := broadcastInDim S2x4096x1024 ![] bcast_S_S2x4096x1024 main_c
  let main_c_0 : IVec S_ 32 := constantI S_ 32 6#32
  let main_v2 : IVec S8x4096x1024 32 := broadcastInDim S8x4096x1024 ![] bcast_S_S8x4096x1024 main_c_0
  let main_v3 : IVec S8x4096x1024 1 := cmpi .sge main_v0 main_v2
  (main_v1, main_v3)
-- ==== On_written_pool.lean ====
abbrev S2x2048x1024 : Shape := ⟨3, ![2, 2048, 1024]⟩
abbrev S2x2048x8192 : Shape := ⟨3, ![2, 2048, 8192]⟩
abbrev S4x256x256 : Shape := ⟨3, ![4, 256, 256]⟩
abbrev S1024 : Shape := ⟨1, ![1024]⟩
abbrev S8x4096x1024 : Shape := ⟨3, ![8, 4096, 1024]⟩
abbrev S_ : Shape := ⟨0, ![]⟩
abbrev S4x4x64x256 : Shape := ⟨4, ![4, 4, 64, 256]⟩
abbrev S2x8x1024 : Shape := ⟨3, ![2, 8, 1024]⟩

class Facts : Prop where
  bcast_S_S8x4096x1024 : S_.BroadcastsInDim S8x4096x1024 (![] : Fin 0 → Fin S8x4096x1024.rank)
  bcast_S_S4x4x64x256 : S_.BroadcastsInDim S4x4x64x256 (![] : Fin 0 → Fin S4x4x64x256.rank)
  bcast_S_S2x8x1024 : S_.BroadcastsInDim S2x8x1024 (![] : Fin 0 → Fin S2x8x1024.rank)

variable [Facts]

def fn {F : FTy → Type} [FloatOps F] (main_arg0 : FVec F S2x2048x1024 .f32) (main_arg1 : FVec F S2x2048x8192 .f32) (main_arg2 : FVec F S4x256x256 .f32) (main_arg3 : FVec F S1024 .f32) : IVec S8x4096x1024 1 × IVec S4x4x64x256 1 × IVec S2x8x1024 1 :=
  let main_v0 : IVec S8x4096x1024 32 := iotaInDim S8x4096x1024 32 0
  let main_c : IVec S_ 32 := constantI S_ 32 5#32
  let main_v1 : IVec S8x4096x1024 32 := broadcastInDim S8x4096x1024 ![] bcast_S_S8x4096x1024 main_c
  let main_v2 : IVec S8x4096x1024 1 := cmpi .eq main_v0 main_v1
  let main_c_0 : IVec S_ 1 := constantI S_ 1 1#1
  let main_v3 : IVec S4x4x64x256 1 := broadcastInDim S4x4x64x256 ![] bcast_S_S4x4x64x256 main_c_0
  let main_c_1 : IVec S_ 1 := constantI S_ 1 1#1
  let main_v4 : IVec S2x8x1024 1 := broadcastInDim S2x8x1024 ![] bcast_S_S2x8x1024 main_c_1
  (main_v2, main_v3, main_v4)
-- ==== On_written_slot.lean ====
abbrev S1024x2048 : Shape := ⟨2, ![1024, 2048]⟩
abbrev S2 : Shape := ⟨1, ![2]⟩
abbrev S4x1024x2048 : Shape := ⟨3, ![4, 1024, 2048]⟩
abbrev S1 : Shape := ⟨1, ![1]⟩
abbrev S_ : Shape := ⟨0, ![]⟩

class Facts : Prop where
  slices_S2_S1_0 : S2.Slices ![0] S1
  shapeCasts_S1_S_ : S1.ShapeCasts S_
  bcast_S_S4x1024x2048 : S_.BroadcastsInDim S4x1024x2048 (![] : Fin 0 → Fin S4x1024x2048.rank)

variable [Facts]

def fn {F : FTy → Type} [FloatOps F] (main_arg0 : FVec F S1024x2048 .f32) (main_arg1 : IVec S2 32) : IVec S4x1024x2048 1 :=
  let main_v0 : IVec S4x1024x2048 32 := iotaInDim S4x1024x2048 32 0
  let main_v1 : IVec S1 32 := (extractStridedSlice S1 ![0] · slices_S2_S1_0) main_arg1
  let main_v2 : IVec S_ 32 := shapeCast S_ main_v1 shapeCasts_S1_S_
  let main_v3 : IVec S4x1024x2048 32 := broadcastInDim S4x1024x2048 ![] bcast_S_S4x1024x2048 main_v2
  let main_v4 : IVec S4x1024x2048 1 := cmpi .eq main_v0 main_v3
  main_v4
-- ==== Pre_finite_bound.lean ====
abbrev S2x256 : Shape := ⟨2, ![2, 256]⟩
abbrev S2x2x256 : Shape := ⟨3, ![2, 2, 256]⟩
abbrev S_ : Shape := ⟨0, ![]⟩

class Facts : Prop where
  bcast_S_S2x256 : S_.BroadcastsInDim S2x256 (![] : Fin 0 → Fin S2x256.rank)
  reducesTo_S2x256_S_d0_1 : S2x256.ReducesTo [0, 1] S_
  h_S_ : 0 < S_.numel
  bcast_S_S2x2x256 : S_.BroadcastsInDim S2x2x256 (![] : Fin 0 → Fin S2x2x256.rank)
  reducesTo_S2x2x256_S_d0_1_2 : S2x2x256.ReducesTo [0, 1, 2] S_

variable [Facts]

def fn {F : FTy → Type} [FloatOps F] (main_arg0 : FVec F S2x256 .f32) (main_arg1 : FVec F S2x2x256 .f32) : IVec S_ 1 :=
  let main_v0 : FVec F S2x256 .f32 := Host.absf main_arg0
  let main_cst : FVec F S_ .f32 := constant S_ .f32 0x7F800000#32
  let main_v1 : FVec F S2x256 .f32 := broadcastInDim S2x256 ![] bcast_S_S2x256 main_cst
  let main_v2 : IVec S2x256 1 := cmpf .olt main_v0 main_v1
  let main_c : IVec S_ 1 := constantI S_ 1 1#1
  let main_v3 : IVec S_ 1 := (fun x v => Host.reduce IntOp.andi x v reducesTo_S2x256_S_d0_1 h_S_) main_v2 main_c
  let main_v4 : FVec F S2x2x256 .f32 := Host.absf main_arg1
  let main_cst_0 : FVec F S_ .f32 := constant S_ .f32 0x7F800000#32
  let main_v5 : FVec F S2x2x256 .f32 := broadcastInDim S2x2x256 ![] bcast_S_S2x2x256 main_cst_0
  let main_v6 : IVec S2x2x256 1 := cmpf .olt main_v4 main_v5
  let main_c_1 : IVec S_ 1 := constantI S_ 1 1#1
  let main_v7 : IVec S_ 1 := (fun x v => Host.reduce IntOp.andi x v reducesTo_S2x2x256_S_d0_1_2 h_S_) main_v6 main_c_1
  let main_v8 : IVec S_ 1 := andi main_v3 main_v7
  main_v8
-- ==== Pre_finite_gates.lean ====
abbrev S2x2048x1024 : Shape := ⟨3, ![2, 2048, 1024]⟩
abbrev S2x2048x8192 : Shape := ⟨3, ![2, 2048, 8192]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x8192 : S_.BroadcastsInDim S2x2048x8192 (![] : Fin 0 → Fin S2x2048x8192.rank)
  reducesTo_S2x2048x8192_S_d0_1_2 : S2x2048x8192.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_arg6 : FVec F S1024x1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S1024x1024 .f32 := Host.absf main_arg5
  let main_cst_8 : FVec F S_ .f32 := constant S_ .f32 0x7F800000#32
  let main_v21 : FVec F S1024x1024 .f32 := broadcastInDim S1024x1024 ![] bcast_S_S1024x1024 main_cst_8
  let main_v22 : IVec S1024x1024 1 := cmpf .olt main_v20 main_v21
  let main_c_9 : IVec S_ 1 := constantI S_ 1 1#1
  let main_v23 : IVec S_ 1 := (fun x v => Host.reduce IntOp.andi x v reducesTo_S1024x1024_S_d0_1 h_S_) main_v22 main_c_9
  let main_v24 : FVec F S1024x1024 .f32 := Host.absf main_arg6
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x2048x1024 .f32) (main_arg1 : FVec F S2x2048x1024 .f32) (main_arg2 : FVec F S2x2048x1024 .f32) (main_arg3 : FVec F S2x2048x8192 .f32) (main_arg4 : FVec F S1024x1024 .f32) (main_arg5 : FVec F S1024x1024 .f32) (main_arg6 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : FVec F S2x2048x1024 .f32 := Host.absf main_arg2
  let main_cst_2 : FVec F S_ .f32 := constant S_ .f32 0x7F800000#32
  let main_v9 : FVec F S2x2048x1024 .f32 := broadcastInDim S2x2048x1024 ![] bcast_S_S2x2048x1024 main_cst_2
  let main_v10 : IVec S2x2048x1024 1 := cmpf .olt main_v8 main_v9
  let main_c_3 : IVec S_ 1 := constantI S_ 1 1#1
  let main_v11 : IVec S_ 1 := (fun x v => Host.reduce IntOp.andi x v reducesTo_S2x2048x1024_S_d0_1_2 h_S_) main_v10 main_c_3
  let main_v12 : FVec F S2x2048x8192 .f32 := Host.absf main_arg3
  let main_cst_4 : FVec F S_ .f32 := constant S_ .f32 0x7F800000#32
  let main_v13 : FVec F S2x2048x8192 .f32 := broadcastInDim S2x2048x8192 ![] bcast_S_S2x2048x8192 main_cst_4
  let main_v14 : IVec S2x2048x8192 1 := cmpf .olt main_v12 main_v13
  let main_c_5 : IVec S_ 1 := constantI S_ 1 1#1
  let main_v15 : IVec S_ 1 := (fun x v => Host.reduce IntOp.andi x v reducesTo_S2x2048x8192_S_d0_1_2 h_S_) main_v14 main_c_5
  fn_part1 (F := F) main_arg4 main_arg5 main_arg6 main_v3 main_v7 main_v11 main_v15
-- ==== Pre_finite_hgf.lean ====
abbrev S2x2048x8192 : Shape := ⟨3, ![2, 2048, 8192]⟩
abbrev S2x2x1024 : Shape := ⟨3, ![2, 2, 1024]⟩
abbrev S1024 : Shape := ⟨1, ![1024]⟩
abbrev S_ : Shape := ⟨0, ![]⟩

class Facts : Prop where
  bcast_S_S2x2048x8192 : S_.BroadcastsInDim S2x2048x8192 (![] : Fin 0 → Fin S2x2048x8192.rank)
  reducesTo_S2x2048x8192_S_d0_1_2 : S2x2048x8192.ReducesTo [0, 1, 2] S_
  h_S_ : 0 < S_.numel
  bcast_S_S2x2x1024 : S_.BroadcastsInDim S2x2x1024 (![] : Fin 0 → Fin S2x2x1024.rank)
  reducesTo_S2x2x1024_S_d0_1_2 : S2x2x1024.ReducesTo [0, 1, 2] S_

variable [Facts]

def fn {F : FTy → Type} [FloatOps F] (main_arg0 : FVec F S2x2048x8192 .f32) (main_arg1 : FVec F S2x2x1024 .f32) (main_arg2 : FVec F S1024 .f32) : IVec S_ 1 :=
  let main_v0 : FVec F S2x2048x8192 .f32 := Host.absf main_arg0
  let main_cst : FVec F S_ .f32 := constant S_ .f32 0x7F800000#32
  let main_v1 : FVec F S2x2048x8192 .f32 := broadcastInDim S2x2048x8192 ![] bcast_S_S2x2048x8192 main_cst
  let main_v2 : IVec S2x2048x8192 1 := cmpf .olt main_v0 main_v1
  let main_c : IVec S_ 1 := constantI S_ 1 1#1
  let main_v3 : IVec S_ 1 := (fun x v => Host.reduce IntOp.andi x v reducesTo_S2x2048x8192_S_d0_1_2 h_S_) main_v2 main_c
  let main_v4 : FVec F S2x2x1024 .f32 := Host.absf main_arg1
  let main_cst_0 : FVec F S_ .f32 := constant S_ .f32 0x7F800000#32
  let main_v5 : FVec F S2x2x1024 .f32 := broadcastInDim S2x2x1024 ![] bcast_S_S2x2x1024 main_cst_0
  let main_v6 : IVec S2x2x1024 1 := cmpf .olt main_v4 main_v5
  let main_c_1 : IVec S_ 1 := constantI S_ 1 1#1
  let main_v7 : IVec S_ 1 := (fun x v => Host.reduce IntOp.andi x v reducesTo_S2x2x1024_S_d0_1_2 h_S_) main_v6 main_c_1
  let main_v8 : IVec S_ 1 := andi main_v3 main_v7
  main_v8
-- ==== Pre_finite_inbwd.lean ====
abbrev S2x2048x1024 : Shape := ⟨3, ![2, 2048, 1024]⟩
abbrev S1024 : Shape := ⟨1, ![1024]⟩
abbrev S1024x8192 : Shape := ⟨2, ![1024, 8192]⟩
abbrev S2x2048x8192 : Shape := ⟨3, ![2, 2048, 8192]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x8192 : S_.BroadcastsInDim S1024x8192 (![] : Fin 0 → Fin S1024x8192.rank)
  reducesTo_S1024x8192_S_d0_1 : S1024x8192.ReducesTo [0, 1] S_
  bcast_S_S2x2048x8192 : S_.BroadcastsInDim S2x2048x8192 (![] : Fin 0 → Fin S2x2048x8192.rank)
  reducesTo_S2x2048x8192_S_d0_1_2 : S2x2048x8192.ReducesTo [0, 1, 2] S_

variable [Facts]

def fn_part1 {F : FTy → Type} [FloatOps F] (main_arg4 : FVec F S2x2048x8192 .f32) (main_v3 : IVec S_ 1) (main_v7 : IVec S_ 1) (main_v11 : IVec S_ 1) (main_v15 : IVec S_ 1) : IVec S_ 1 :=
  let main_v16 : FVec F S2x2048x8192 .f32 := Host.absf main_arg4
  let main_cst_6 : FVec F S_ .f32 := constant S_ .f32 0x7F800000#32
  let main_v17 : FVec F S2x2048x8192 .f32 := broadcastInDim S2x2048x8192 ![] bcast_S_S2x2048x8192 main_cst_6
  let main_v18 : IVec S2x2048x8192 1 := cmpf .olt main_v16 main_v17
  let main_c_7 : IVec S_ 1 := constantI S_ 1 1#1
  let main_v19 : IVec S_ 1 := (fun x v => Host.reduce IntOp.andi x v reducesTo_S2x2048x8192_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x2048x1024 .f32) (main_arg1 : FVec F S1024 .f32) (main_arg2 : FVec F S1024x8192 .f32) (main_arg3 : FVec F S2x2048x1024 .f32) (main_arg4 : FVec F S2x2048x8192 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x8192 .f32 := Host.absf main_arg2
  let main_cst_2 : FVec F S_ .f32 := constant S_ .f32 0x7F800000#32
  let main_v9 : FVec F S1024x8192 .f32 := broadcastInDim S1024x8192 ![] bcast_S_S1024x8192 main_cst_2
  let main_v10 : IVec S1024x8192 1 := cmpf .olt main_v8 main_v9
  let main_c_3 : IVec S_ 1 := constantI S_ 1 1#1
  let main_v11 : IVec S_ 1 := (fun x v => Host.reduce IntOp.andi x v reducesTo_S1024x8192_S_d0_1 h_S_) main_v10 main_c_3
  let main_v12 : FVec F S2x2048x1024 .f32 := Host.absf main_arg3
  let main_cst_4 : FVec F S_ .f32 := constant S_ .f32 0x7F800000#32
  let main_v13 : FVec F S2x2048x1024 .f32 := broadcastInDim S2x2048x1024 ![] bcast_S_S2x2048x1024 main_cst_4
  let main_v14 : IVec S2x2048x1024 1 := cmpf .olt main_v12 main_v13
  let main_c_5 : IVec S_ 1 := constantI S_ 1 1#1
  let main_v15 : IVec S_ 1 := (fun x v => Host.reduce IntOp.andi x v reducesTo_S2x2048x1024_S_d0_1_2 h_S_) main_v14 main_c_5
  fn_part1 (F := F) main_arg4 main_v3 main_v7 main_v11 main_v15
-- ==== Pre_finite_loss.lean ====
abbrev S2x2048x1024 : Shape := ⟨3, ![2, 2048, 1024]⟩
abbrev S2x2048x2816 : Shape := ⟨3, ![2, 2048, 2816]⟩
abbrev S2816x1024 : Shape := ⟨2, ![2816, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x2816 : S_.BroadcastsInDim S2x2048x2816 (![] : Fin 0 → Fin S2x2048x2816.rank)
  reducesTo_S2x2048x2816_S_d0_1_2 : S2x2048x2816.ReducesTo [0, 1, 2] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2x2048x1024 .f32) (main_v3 : IVec S_ 1) (main_v7 : IVec S_ 1) (main_v11 : IVec S_ 1) (main_v15 : IVec S_ 1) : IVec S_ 1 :=
  let main_v16 : FVec F S2x2048x1024 .f32 := Host.absf main_arg4
  let main_cst_6 : FVec F S_ .f32 := constant S_ .f32 0x7F800000#32
  let main_v17 : FVec F S2x2048x1024 .f32 := broadcastInDim S2x2048x1024 ![] bcast_S_S2x2048x1024 main_cst_6
  let main_v18 : IVec S2x2048x1024 1 := cmpf .olt main_v16 main_v17
  let main_c_7 : IVec S_ 1 := constantI S_ 1 1#1
  let main_v19 : IVec S_ 1 := (fun x v => Host.reduce IntOp.andi x v reducesTo_S2x2048x1024_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x2048x1024 .f32) (main_arg1 : FVec F S2x2048x2816 .f32) (main_arg2 : FVec F S2816x1024 .f32) (main_arg3 : FVec F S1024 .f32) (main_arg4 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x2816 .f32 := Host.absf main_arg1
  let main_cst_0 : FVec F S_ .f32 := constant S_ .f32 0x7F800000#32
  let main_v5 : FVec F S2x2048x2816 .f32 := broadcastInDim S2x2048x2816 ![] bcast_S_S2x2048x2816 main_cst_0
  let main_v6 : IVec S2x2048x2816 1 := cmpf .olt main_v4 main_v5
  let main_c_1 : IVec S_ 1 := constantI S_ 1 1#1
  let main_v7 : IVec S_ 1 := (fun x v => Host.reduce IntOp.andi x v reducesTo_S2x2048x2816_S_d0_1_2 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_v3 main_v7 main_v11 main_v15
-- ==== Pre_finite_norm.lean ====
abbrev S2x2048x1024 : Shape := ⟨3, ![2, 2048, 1024]⟩
abbrev S1024 : Shape := ⟨1, ![1024]⟩
abbrev S1024x5632 : Shape := ⟨2, ![1024, 5632]⟩
abbrev S2x2048x5632 : Shape := ⟨3, ![2, 2048, 5632]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2x2048x5632 : S_.BroadcastsInDim S2x2048x5632 (![] : Fin 0 → Fin S2x2048x5632.rank)
  reducesTo_S2x2048x5632_S_d0_1_2 : S2x2048x5632.ReducesTo [0, 1, 2] S_

variable [Facts]

def fn_part1 {F : FTy → Type} [FloatOps F] (main_arg4 : FVec F S2x2048x5632 .f32) (main_v3 : IVec S_ 1) (main_v7 : IVec S_ 1) (main_v11 : IVec S_ 1) (main_v15 : IVec S_ 1) : IVec S_ 1 :=
  let main_v16 : FVec F S2x2048x5632 .f32 := Host.absf main_arg4
  let main_cst_6 : FVec F S_ .f32 := constant S_ .f32 0x7F800000#32
  let main_v17 : FVec F S2x2048x5632 .f32 := broadcastInDim S2x2048x5632 ![] bcast_S_S2x2048x5632 main_cst_6
  let main_v18 : IVec S2x2048x5632 1 := cmpf .olt main_v16 main_v17
  let main_c_7 : IVec S_ 1 := constantI S_ 1 1#1
  let main_v19 : IVec S_ 1 := (fun x v => Host.reduce IntOp.andi x v reducesTo_S2x2048x5632_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x2048x1024 .f32) (main_arg1 : FVec F S1024 .f32) (main_arg2 : FVec F S1024x5632 .f32) (main_arg3 : FVec F S2x2048x1024 .f32) (main_arg4 : FVec F S2x2048x5632 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x5632 .f32 := Host.absf main_arg2
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S2x2048x1024 .f32 := Host.absf main_arg3
  let main_cst_4 : FVec F S_ .f32 := constant S_ .f32 0x7F800000#32
  let main_v13 : FVec F S2x2048x1024 .f32 := broadcastInDim S2x2048x1024 ![] bcast_S_S2x2048x1024 main_cst_4
  let main_v14 : IVec S2x2048x1024 1 := cmpf .olt main_v12 main_v13
  let main_c_5 : IVec S_ 1 := constantI S_ 1 1#1
  let main_v15 : IVec S_ 1 := (fun x v => Host.reduce IntOp.andi x v reducesTo_S2x2048x1024_S_d0_1_2 h_S_) main_v14 main_c_5
  fn_part1 (F := F) main_arg4 main_v3 main_v7 main_v11 main_v15
-- ==== Pre_finite_pool.lean ====
abbrev S2x2048x1024 : Shape := ⟨3, ![2, 2048, 1024]⟩
abbrev S2x2048x8192 : Shape := ⟨3, ![2, 2048, 8192]⟩
abbrev S4x256x256 : Shape := ⟨3, ![4, 256, 256]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x8192 : S_.BroadcastsInDim S2x2048x8192 (![] : Fin 0 → Fin S2x2048x8192.rank)
  reducesTo_S2x2048x8192_S_d0_1_2 : S2x2048x8192.ReducesTo [0, 1, 2] S_
  bcast_S_S4x256x256 : S_.BroadcastsInDim S4x256x256 (![] : Fin 0 → Fin S4x256x256.rank)
  reducesTo_S4x256x256_S_d0_1_2 : S4x256x256.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x2048x1024 .f32) (main_arg1 : FVec F S2x2048x8192 .f32) (main_arg2 : FVec F S4x256x256 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x8192 .f32 := Host.absf main_arg1
  let main_cst_0 : FVec F S_ .f32 := constant S_ .f32 0x7F800000#32
  let main_v5 : FVec F S2x2048x8192 .f32 := broadcastInDim S2x2048x8192 ![] bcast_S_S2x2048x8192 main_cst_0
  let main_v6 : IVec S2x2048x8192 1 := cmpf .olt main_v4 main_v5
  let main_c_1 : IVec S_ 1 := constantI S_ 1 1#1
  let main_v7 : IVec S_ 1 := (fun x v => Host.reduce IntOp.andi x v reducesTo_S2x2048x8192_S_d0_1_2 h_S_) main_v6 main_c_1
  let main_v8 : FVec F S4x256x256 .f32 := Host.absf main_arg2
  let main_cst_2 : FVec F S_ .f32 := constant S_ .f32 0x7F800000#32
  let main_v9 : FVec F S4x256x256 .f32 := broadcastInDim S4x256x256 ![] bcast_S_S4x256x256 main_cst_2
  let main_v10 : IVec S4x256x256 1 := cmpf .olt main_v8 main_v9
  let main_c_3 : IVec S_ 1 := constantI S_ 1 1#1
  let main_v11 : IVec S_ 1 := (fun x v => Host.reduce IntOp.andi x v reducesTo_S4x256x256_S_d0_1_2 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_v3 main_v7 main_v11 main_v15
-- ==== Pre_finite_poolf.lean ====
abbrev S2x2048x8192 : Shape := ⟨3, ![2, 2048, 8192]⟩
abbrev S4x256x256 : Shape := ⟨3, ![4, 256, 256]⟩
abbrev S1024 : Shape := ⟨1, ![1024]⟩
abbrev S_ : Shape := ⟨0, ![]⟩

class Facts : Prop where
  bcast_S_S2x2048x8192 : S_.BroadcastsInDim S2x2048x8192 (![] : Fin 0 → Fin S2x2048x8192.rank)
  reducesTo_S2x2048x8192_S_d0_1_2 : S2x2048x8192.ReducesTo [0, 1, 2] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x2048x8192 .f32) (main_arg1 : FVec F S4x256x256 .f32) (main_arg2 : FVec F S1024 .f32) : IVec S_ 1 :=
  let main_v0 : FVec F S2x2048x8192 .f32 := Host.absf main_arg0
  let main_cst : FVec F S_ .f32 := constant S_ .f32 0x7F800000#32
  let main_v1 : FVec F S2x2048x8192 .f32 := broadcastInDim S2x2048x8192 ![] bcast_S_S2x2048x8192 main_cst
  let main_v2 : IVec S2x2048x8192 1 := cmpf .olt main_v0 main_v1
  let main_c : IVec S_ 1 := constantI S_ 1 1#1
  let main_v3 : IVec S_ 1 := (fun x v => Host.reduce IntOp.andi x v reducesTo_S2x2048x8192_S_d0_1_2 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v3 main_v7
  let main_v13 : IVec S_ 1 := andi main_v12 main_v11
  main_v13
-- ==== Pre_finite_psum.lean ====
abbrev S4x1024x2048 : Shape := ⟨3, ![4, 1024, 2048]⟩
abbrev S4x512x2048 : Shape := ⟨3, ![4, 512, 2048]⟩
abbrev S2 : Shape := ⟨1, ![2]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : FVec F S4x1024x2048 .f32) (main_arg1 : FVec F S4x512x2048 .f32) (main_arg2 : IVec S2 32) : IVec S_ 1 :=
  let main_v0 : IVec S1 32 := (extractStridedSlice S1 ![1] · slices_S2_S1_1) main_arg2
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg2
  let main_v4 : IVec S_ 32 := shapeCast S_ main_v3 shapeCasts_S1_S_
  let main_c_0 : IVec S_ 32 := constantI S_ 32 2#32
  let main_v5 : IVec S_ 1 := cmpi .slt main_v4 main_c_0
  let main_v6 : IVec S_ 1 := andi main_v2 main_v5
  main_v6
-- ==== Pre_finite_slot.lean ====
abbrev S1024x2048 : Shape := ⟨2, ![1024, 2048]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : FVec F S1024x2048 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg1
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  main_v6
-- ==== Pre_finite_swiglu.lean ====
abbrev S2x2048x1024 : Shape := ⟨3, ![2, 2048, 1024]⟩
abbrev S2x2048x5632 : Shape := ⟨3, ![2, 2048, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x5632 : S_.BroadcastsInDim S2x2048x5632 (![] : Fin 0 → Fin S2x2048x5632.rank)
  reducesTo_S2x2048x5632_S_d0_1_2 : S2x2048x5632.ReducesTo [0, 1, 2] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S2x2048x1024 .f32) (main_arg1 : FVec F S2x2048x5632 .f32) (main_arg2 : FVec F S2816x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x5632 .f32 := Host.absf main_arg1
  let main_cst_0 : FVec F S_ .f32 := constant S_ .f32 0x7F800000#32
  let main_v5 : FVec F S2x2048x5632 .f32 := broadcastInDim S2x2048x5632 ![] bcast_S_S2x2048x5632 main_cst_0
  let main_v6 : IVec S2x2048x5632 1 := cmpf .olt main_v4 main_v5
  let main_c_1 : IVec S_ 1 := constantI S_ 1 1#1
  let main_v7 : IVec S_ 1 := (fun x v => Host.reduce IntOp.andi x v reducesTo_S2x2048x5632_S_d0_1_2 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  main_v13
-- ==== KernelSwiglu.lean ====
abbrev S2x2048x1024 : Shape := ⟨3, ![2, 2048, 1024]⟩
abbrev S2x2048x5632 : Shape := ⟨3, ![2, 2048, 5632]⟩
abbrev S2816x1024 : Shape := ⟨2, ![2816, 1024]⟩
abbrev S4096x1024 : Shape := ⟨2, ![4096, 1024]⟩
abbrev S2x2048x2816 : Shape := ⟨3, ![2, 2048, 2816]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 15
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S2816x1024, .f32⟩
  | .hbm, ⟨3, _⟩ => ⟨S4096x1024, .f32⟩
  | .hbm, ⟨4, _⟩ => ⟨S4096x1024, .bf16⟩
  | .hbm, ⟨5, _⟩ => ⟨S2x2048x2816, .f32⟩
  | .hbm, ⟨6, _⟩ => ⟨S4096x2816, .f32⟩
  | .hbm, ⟨7, _⟩ => ⟨S2x2048x2816, .f32⟩
  | .hbm, ⟨8, _⟩ => ⟨S4096x2816, .f32⟩
  | .hbm, ⟨9, _⟩ => ⟨S1x4096x2816, .f32⟩
  | .hbm, ⟨10, _⟩ => ⟨S1x4096x2816, .f32⟩
  | .hbm, ⟨11, _⟩ => ⟨S2x4096x2816, .f32⟩
  | .hbm, ⟨12, _⟩ => ⟨S2x4096x2816, .bf16⟩
  | .hbm, ⟨13, _⟩ => ⟨S2816x1024, .bf16⟩
  | .hbm, ⟨14, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceSwigluIdeal.lean ====
abbrev S2x2048x1024 : Shape := ⟨3, ![2, 2048, 1024]⟩
abbrev S2x2048x5632 : Shape := ⟨3, ![2, 2048, 5632]⟩
abbrev S2816x1024 : Shape := ⟨2, ![2816, 1024]⟩
abbrev S2x2048x2816 : Shape := ⟨3, ![2, 2048, 2816]⟩
abbrev S_ : Shape := ⟨0, ![]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S2816x1024, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S_, .f32⟩
  | .hbm, ⟨8, _⟩ => ⟨S2x2048x2816, .f32⟩
  | .hbm, ⟨9, _⟩ => ⟨S2x2048x2816, .f32⟩
  | .hbm, ⟨10, _⟩ => ⟨S_, .f32⟩
  | .hbm, ⟨11, _⟩ => ⟨S2x2048x2816, .f32⟩
  | .hbm, ⟨12, _⟩ => ⟨S2x2048x2816, .f32⟩
  | .hbm, ⟨13, _⟩ => ⟨S_, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S2x2048x1024, .f32⟩
  | .hbm, ⟨20, _⟩ => ⟨S2x2048x2816, .f32⟩
  | .hbm, ⟨21, _⟩ => ⟨S2x2048x2816, .f32⟩
  | .hbm, ⟨22, _⟩ => ⟨S2x2048x2816, .f32⟩
  | .hbm, ⟨23, _⟩ => ⟨S2x2048x2816, .f32⟩
  | .hbm, ⟨24, _⟩ => ⟨S2x2048x2816, .f32⟩
  | .hbm, ⟨25, _⟩ => ⟨S2x2048x2816, .f32⟩
  | .hbm, ⟨26, _⟩ => ⟨S2x2048x2816, .f32⟩
  | .hbm, ⟨27, _⟩ => ⟨S2x2048x5632, .f32⟩
  | .hbm, ⟨28, _⟩ => ⟨S2x2048x2816, .f32⟩
  | .hbm, ⟨29, _⟩ => ⟨S2x2048x2816, .f32⟩
  | .hbm, ⟨30, _⟩ => ⟨S4096x2816, .f32⟩
  | .hbm, ⟨31, _⟩ => ⟨S4096x2816, .f32⟩
  | .hbm, ⟨32, _⟩ => ⟨S1x4096x2816, .f32⟩
  | .hbm, ⟨33, _⟩ => ⟨S1x4096x2816, .f32⟩
  | .hbm, ⟨34, _⟩ => ⟨S2x4096x2816, .f32⟩
  | .hbm, ⟨35, _⟩ => ⟨S2x4096x2816, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== KernelGates.lean ====
abbrev S2x2048x1024 : Shape := ⟨3, ![2, 2048, 1024]⟩
abbrev S2x2048x8192 : Shape := ⟨3, ![2, 2048, 8192]⟩
abbrev S1024x1024 : Shape := ⟨2, ![1024, 1024]⟩
abbrev S4096x1024 : Shape := ⟨2, ![4096, 1024]⟩
abbrev S4096x8x1024 : Shape := ⟨3, ![4096, 8, 1024]⟩
abbrev S8x4096x1024 : Shape := ⟨3, ![8, 4096, 1024]⟩
abbrev S2x4096x1024 : Shape := ⟨3, ![2, 4096, 1024]⟩
abbrev S512x1024 : Shape := ⟨2, ![512, 1024]⟩
abbrev S1x512x1024 : Shape := ⟨3, ![1, 512, 1024]⟩
abbrev S2x512x1024 : Shape := ⟨3, ![2, 512, 1024]⟩

abbrev nBuf : Space → Nat
  | .hbm => 20
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x8192, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S4096x1024, .bf16⟩
  | .hbm, ⟨9, _⟩ => ⟨S4096x8x1024, .f32⟩
  | .hbm, ⟨10, _⟩ => ⟨S8x4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S1024x1024, .bf16⟩
  | .hbm, ⟨18, _⟩ => ⟨S2x4096x1024, .bf16⟩
  | .hbm, ⟨19, _⟩ => ⟨S8x4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S2x512x1024, .bf16⟩
  | .local _ .vmem, ⟨12, _⟩ => ⟨S2x512x1024, .bf16⟩
  | .local _ .vmem, ⟨13, _⟩ => ⟨S2x512x1024, .bf16⟩
  | .local _ .vmem, ⟨14, _⟩ => ⟨S2x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  let c0_i32_0 : BitVec 32 := 0#32
  ![c6_i32.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let c0_i32 : BitVec 32 := 0#32
  let c0_i32_0 : BitVec 32 := 0#32
  ![c7_i32.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S2x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceGatesIdeal.lean ====
abbrev S2x2048x1024 : Shape := ⟨3, ![2, 2048, 1024]⟩
abbrev S2x2048x8192 : Shape := ⟨3, ![2, 2048, 8192]⟩
abbrev S1024x1024 : Shape := ⟨2, ![1024, 1024]⟩
abbrev S_ : Shape := ⟨0, ![]⟩
abbrev S1x4096x1024 : Shape := ⟨3, ![1, 4096, 1024]⟩
abbrev S2x4096x1024 : Shape := ⟨3, ![2, 4096, 1024]⟩
abbrev S6x4096x1024 : Shape := ⟨3, ![6, 4096, 1024]⟩
abbrev S8x4096x1024 : Shape := ⟨3, ![8, 4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x8192, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S1x4096x1024, .f32⟩
  | .hbm, ⟨47, _⟩ => ⟨S1x4096x1024, .f32⟩
  | .hbm, ⟨48, _⟩ => ⟨S2x4096x1024, .f32⟩
  | .hbm, ⟨49, _⟩ => ⟨S2x4096x1024, .bf16⟩
  | .hbm, ⟨50, _⟩ => ⟨S_, .f32⟩
  | .hbm, ⟨51, _⟩ => ⟨S6x4096x1024, .f32⟩
  | .hbm, ⟨52, _⟩ => ⟨S1x4096x1024, .f32⟩
  | .hbm, ⟨53, _⟩ => ⟨S1x4096x1024, .f32⟩
  | .hbm, ⟨54, _⟩ => ⟨S8x4096x1024, .f32⟩
  | .hbm, ⟨55, _⟩ => ⟨S8x4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelPool.lean ====
abbrev S2x2048x1024 : Shape := ⟨3, ![2, 2048, 1024]⟩
abbrev S2x2048x8192 : Shape := ⟨3, ![2, 2048, 8192]⟩
abbrev S4x256x256 : Shape := ⟨3, ![4, 256, 256]⟩
abbrev S1024 : Shape := ⟨1, ![1024]⟩
abbrev S4096x8x1024 : Shape := ⟨3, ![4096, 8, 1024]⟩
abbrev S8x4096x1024 : Shape := ⟨3, ![8, 4096, 1024]⟩
abbrev S4096x1024 : Shape := ⟨2, ![4096, 1024]⟩
abbrev S4x4x64x256 : Shape := ⟨4, ![4, 4, 64, 256]⟩
abbrev S_ : Shape := ⟨0, ![]⟩
abbrev S1x1024 : Shape := ⟨2, ![1, 1024]⟩
abbrev S2x8x1024 : Shape := ⟨3, ![2, 8, 1024]⟩
abbrev S1x2048x256 : Shape := ⟨3, ![1, 2048, 256]⟩
abbrev S2048x256 : Shape := ⟨2, ![2048, 256]⟩
abbrev S4x1x64x256 : Shape := ⟨4, ![4, 1, 64, 256]⟩
abbrev S1x256 : Shape := ⟨2, ![1, 256]⟩
abbrev S1x8x256 : Shape := ⟨3, ![1, 8, 256]⟩
abbrev S2048x1 : Shape := ⟨2, ![2048, 1]⟩
abbrev S4x64x256 : Shape := ⟨3, ![4, 64, 256]⟩
abbrev S256x256 : Shape := ⟨2, ![256, 256]⟩
abbrev S256 : Shape := ⟨1, ![256]⟩
abbrev S8x256 : Shape := ⟨2, ![8, 256]⟩

abbrev nBuf : Space → Nat
  | .hbm => 16
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S2x2048x8192, .f32⟩
  | .hbm, ⟨2, _⟩ => ⟨S4x256x256, .f32⟩
  | .hbm, ⟨3, _⟩ => ⟨S1024, .f32⟩
  | .hbm, ⟨4, _⟩ => ⟨S4096x8x1024, .f32⟩
  | .hbm, ⟨5, _⟩ => ⟨S8x4096x1024, .f32⟩
  | .hbm, ⟨6, _⟩ => ⟨S4096x1024, .f32⟩
  | .hbm, ⟨7, _⟩ => ⟨S4096x1024, .bf16⟩
  | .hbm, ⟨8, _⟩ => ⟨S4x4x64x256, .f32⟩
  | .hbm, ⟨9, _⟩ => ⟨S4x4x64x256, .f32⟩
  | .hbm, ⟨10, _⟩ => ⟨S_, .bf16⟩
  | .hbm, ⟨11, _⟩ => ⟨S8x4096x1024, .bf16⟩
  | .hbm, ⟨12, _⟩ => ⟨S1x1024, .f32⟩
  | .hbm, ⟨13, _⟩ => ⟨S8x4096x1024, .bf16⟩
  | .hbm, ⟨14, _⟩ => ⟨S4x4x64x256, .f32⟩
  | .hbm, ⟨15, _⟩ => ⟨S2x8x1024, .f32⟩
  | .local _ .vmem, ⟨0, _⟩ => ⟨S1x2048x256, .f32⟩
  | .local _ .vmem, ⟨1, _⟩ => ⟨S1x2048x256, .f32⟩
  | .local _ .vmem, ⟨2, _⟩ => ⟨S2048x256, .bf16⟩
  | .local _ .vmem, ⟨3, _⟩ => ⟨S2048x256, .bf16⟩
  | .local _ .vmem, ⟨4, _⟩ => ⟨S4x1x64x256, .f32⟩
  | .local _ .vmem, ⟨5, _⟩ => ⟨S4x1x64x256, .f32⟩
  | .local _ .vmem, ⟨6, _⟩ => ⟨S1x256, .f32⟩
  | .local _ .vmem, ⟨7, _⟩ => ⟨S1x256, .f32⟩
  | .local _ .vmem, ⟨8, _⟩ => ⟨S1x2048x256, .bf16⟩
  | .local _ .vmem, ⟨9, _⟩ => ⟨S1x2048x256, .bf16⟩
  | .local _ .vmem, ⟨10, _⟩ => ⟨S4x1x64x256, .f32⟩
  | .local _ .vmem, ⟨11, _⟩ => ⟨S4x1x64x256, .f32⟩
  | .local _ .vmem, ⟨12, _⟩ => ⟨S1x8x256, .f32⟩
  | .local _ .vmem, ⟨13, _⟩ => ⟨S1x8x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k0_cond4 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_cond7 (i : grid0.Coords) : BitVec 1 :=
  let arg0 : BitVec 32 := BitVec.ofNat 32 (i 0).val
  let c2_i32 : BitVec 32 := 2#32
  let v11 : BitVec 1 := Scalar.cmpi .eq arg0 c2_i32
  let v12 : BitVec 32 := Scalar.extui v11
  let c0_i32_5 : BitVec 32 := 0#32
  let v13 : BitVec 1 := Scalar.cmpi .ne v12 c0_i32_5
  v13

def k0_cond10 (i : grid0.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_6 : BitVec 32 := 0#32
  let v16 : BitVec 1 := Scalar.cmpi .ne v15 c0_i32_6
  v16

def k0_cond2 (i : grid0.Coords) : BitVec 1 :=
  let arg1 : BitVec 32 := BitVec.ofNat 32 (i 1).val
  let c0_i32_30 : BitVec 32 := 0#32
  let v73 : BitVec 1 := Scalar.cmpi .eq arg1 c0_i32_30
  let v74 : BitVec 32 := Scalar.extui v73
  let c0_i32_31 : BitVec 32 := 0#32
  let v75 : BitVec 1 := Scalar.cmpi .ne v74 c0_i32_31
  v75

def k0_cond3 (i : grid0.Coords) : BitVec 1 :=
  let arg1 : BitVec 32 := BitVec.ofNat 32 (i 1).val
  let c0_i32_32 : BitVec 32 := 0#32
  let v76 : BitVec 1 := Scalar.cmpi .sgt arg1 c0_i32_32
  let v77 : BitVec 32 := Scalar.extui v76
  let c0_i32_33 : BitVec 32 := 0#32
  let v78 : BitVec 1 := Scalar.cmpi .ne v77 c0_i32_33
  v78

def k0_cond5 (i : grid0.Coords) : BitVec 1 :=
  let arg1 : BitVec 32 := BitVec.ofNat 32 (i 1).val
  let c0_i32_40 : BitVec 32 := 0#32
  let v103 : BitVec 1 := Scalar.cmpi .eq arg1 c0_i32_40
  let v104 : BitVec 32 := Scalar.extui v103
  let c0_i32_41 : BitVec 32 := 0#32
  let v105 : BitVec 1 := Scalar.cmpi .ne v104 c0_i32_41
  v105

def k0_cond6 (i : grid0.Coords) : BitVec 1 :=
  let arg1 : BitVec 32 := BitVec.ofNat 32 (i 1).val
  let c0_i32_42 : BitVec 32 := 0#32
  let v106 : BitVec 1 := Scalar.cmpi .sgt arg1 c0_i32_42
  let v107 : BitVec 32 := Scalar.extui v106
  let c0_i32_43 : BitVec 32 := 0#32
  let v108 : BitVec 1 := Scalar.cmpi .ne v107 c0_i32_43
  v108

def k0_cond8 (i : grid0.Coords) : BitVec 1 :=
  let arg1 : BitVec 32 := BitVec.ofNat 32 (i 1).val
  let c0_i32_59 : BitVec 32 := 0#32
  let v163 : BitVec 1 := Scalar.cmpi .eq arg1 c0_i32_59
  let v164 : BitVec 32 := Scalar.extui v163
  let c0_i32_60 : BitVec 32 := 0#32
  let v165 : BitVec 1 := Scalar.cmpi .ne v164 c0_i32_60
  v165

def k0_cond9 (i : grid0.Coords) : BitVec 1 :=
  let arg1 : BitVec 32 := BitVec.ofNat 32 (i 1).val
  let c0_i32_61 : BitVec 32 := 0#32
  let v166 : BitVec 1 := Scalar.cmpi .sgt arg1 c0_i32_61
  let v167 : BitVec 32 := Scalar.extui v166
  let c0_i32_62 : BitVec 32 := 0#32
  let v168 : BitVec 1 := Scalar.cmpi .ne v167 c0_i32_62
  v168

def k0_cond11 (i : grid0.Coords) : BitVec 1 :=
  let arg1 : BitVec 32 := BitVec.ofNat 32 (i 1).val
  let c0_i32_95 : BitVec 32 := 0#32
  let v283 : BitVec 1 := Scalar.cmpi .eq arg1 c0_i32_95
  let v284 : BitVec 32 := Scalar.extui v283
  let c0_i32_96 : BitVec 32 := 0#32
  let v285 : BitVec 1 := Scalar.cmpi .ne v284 c0_i32_96
  v285

def k0_cond12 (i : grid0.Coords) : BitVec 1 :=
  let arg1 : BitVec 32 := BitVec.ofNat 32 (i 1).val
  let c0_i32_97 : BitVec 32 := 0#32
  let v286 : BitVec 1 := Scalar.cmpi .sgt arg1 c0_i32_97
  let v287 : BitVec 32 := Scalar.extui v286
  let c0_i32_98 : BitVec 32 := 0#32
  let v288 : BitVec 1 := Scalar.cmpi .ne v287 c0_i32_98
  v288

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![c5_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![c5_i32.toNat, arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferencePoolIdeal.lean ====
abbrev S2x2048x1024 : Shape := ⟨3, ![2, 2048, 1024]⟩
abbrev S2x2048x8192 : Shape := ⟨3, ![2, 2048, 8192]⟩
abbrev S4x256x256 : Shape := ⟨3, ![4, 256, 256]⟩
abbrev S1024 : Shape := ⟨1, ![1024]⟩
abbrev S4 : Shape := ⟨1, ![4]⟩
abbrev S2x1x1024 : Shape := ⟨3, ![2, 1, 1024]⟩
abbrev S2x2048x4x256 : Shape := ⟨4, ![2, 2048, 4, 256]⟩
abbrev S_ : Shape := ⟨0, ![]⟩
abbrev S2x1x4x256 : Shape := ⟨4, ![2, 1, 4, 256]⟩
abbrev S2x2049x4x256 : Shape := ⟨4, ![2, 2049, 4, 256]⟩
abbrev S2048 : Shape := ⟨1, ![2048]⟩
abbrev S2048x1 : Shape := ⟨2, ![2048, 1]⟩
abbrev S1x4 : Shape := ⟨2, ![1, 4]⟩
abbrev S2048x4 : Shape := ⟨2, ![2048, 4]⟩
abbrev S2048x4x1 : Shape := ⟨3, ![2048, 4, 1]⟩
abbrev S2048x4x2 : Shape := ⟨3, ![2048, 4, 2]⟩
abbrev S1x2048x4x1 : Shape := ⟨4, ![1, 2048, 4, 1]⟩
abbrev S4x256x2x2048 : Shape := ⟨4, ![4, 256, 2, 2048]⟩
abbrev S2x1024 : Shape := ⟨2, ![2, 1024]⟩
abbrev S4x2x2048x256 : Shape := ⟨4, ![4, 2, 2048, 256]⟩
abbrev S5x4096x1024 : Shape := ⟨3, ![5, 4096, 1024]⟩
abbrev S1x4096x1024 : Shape := ⟨3, ![1, 4096, 1024]⟩
abbrev S2x4096x1024 : Shape := ⟨3, ![2, 4096, 1024]⟩
abbrev S8x4096x1024 : Shape := ⟨3, ![8, 4096, 1024]⟩
abbrev S4x4x64x256 : Shape := ⟨4, ![4, 4, 64, 256]⟩
abbrev S2x8x1024 : Shape := ⟨3, ![2, 8, 1024]⟩

abbrev nBuf : Space → Nat
  | .hbm => 141
  | .vmem => 0
  | .smem => 0
  | _ => 0

abbrev hbmTy0_0 (i : Nat) : BufTy := match i % 128 with
  | 0 => ⟨S2x2048x1024, .f32⟩
  | 1 => ⟨S2x2048x8192, .f32⟩
  | 2 => ⟨S4x256x256, .f32⟩
  | 3 => ⟨S1024, .f32⟩
  | 4 => ⟨S4, .i32⟩
  | 5 => ⟨S2x1x1024, .f32⟩
  | 6 => ⟨S2x2048x1024, .f32⟩
  | 7 => ⟨S2x2048x4x256, .f32⟩
  | 8 => ⟨S_, .f32⟩
  | 9 => ⟨S2x1x4x256, .f32⟩
  | 10 => ⟨S_, .f32⟩
  | 11 => ⟨S_, .f32⟩
  | 12 => ⟨S2x2048x4x256, .f32⟩
  | 13 => ⟨S2x2049x4x256, .f32⟩
  | 14 => ⟨S_, .f32⟩
  | 15 => ⟨S2x1x4x256, .f32⟩
  | 16 => ⟨S2048, .i32⟩
  | 17 => ⟨S2048x1, .i32⟩
  | 18 => ⟨S1x4, .i32⟩
  | 19 => ⟨S2048x4, .i32⟩
  | 20 => ⟨S2048x4, .i32⟩
  | 21 => ⟨S2048x4, .i32⟩
  | 22 => ⟨S_, .i32⟩
  | 23 => ⟨S2048x4, .i32⟩
  | 24 => ⟨S2048x4, .i32⟩
  | 25 => ⟨S_, .i32⟩
  | 26 => ⟨S_, .i32⟩
  | 27 => ⟨S_, .i32⟩
  | 28 => ⟨S2048x4, .i32⟩
  | 29 => ⟨S2048x4, .i32⟩
  | 30 => ⟨S_, .i32⟩
  | 31 => ⟨S2048x4, .i32⟩
  | 32 => ⟨S2048x4, .i32⟩
  | 33 => ⟨S1x4, .i32⟩
  | 34 => ⟨S2048x4, .i32⟩
  | 35 => ⟨S2048x4, .i32⟩
  | 36 => ⟨S2048x4, .i32⟩
  | 37 => ⟨S_, .i32⟩
  | 38 => ⟨S2048x4, .i32⟩
  | 39 => ⟨S2048x4, .i32⟩
  | 40 => ⟨S_, .i32⟩
  | 41 => ⟨S_, .i32⟩
  | 42 => ⟨S_, .i32⟩
  | 43 => ⟨S2048x4, .i32⟩
  | 44 => ⟨S2048x4, .i32⟩
  | 45 => ⟨S_, .i32⟩
  | 46 => ⟨S2048x4, .i32⟩
  | 47 => ⟨S2048x4, .i32⟩
  | 48 => ⟨S4, .i32⟩
  | 49 => ⟨S1x4, .i32⟩
  | 50 => ⟨S_, .i32⟩
  | 51 => ⟨S2048x4, .i32⟩
  | 52 => ⟨S2048x4, .i1⟩
  | 53 => ⟨S_, .i32⟩
  | 54 => ⟨S2048x4, .i32⟩
  | 55 => ⟨S2048x4, .i32⟩
  | 56 => ⟨S2048x4, .i32⟩
  | 57 => ⟨S_, .i32⟩
  | 58 => ⟨S1x4, .i32⟩
  | 59 => ⟨S1x4, .i1⟩
  | 60 => ⟨S_, .i32⟩
  | 61 => ⟨S1x4, .i32⟩
  | 62 => ⟨S1x4, .i32⟩
  | 63 => ⟨S1x4, .i32⟩
  | 64 => ⟨S2048x4, .i32⟩
  | 65 => ⟨S2048x4x1, .i32⟩
  | 66 => ⟨S2048x4x1, .i32⟩
  | 67 => ⟨S2048x4x2, .i32⟩
  | 68 => ⟨S2x2048x4x256, .f32⟩
  | 69 => ⟨S_, .i32⟩
  | 70 => ⟨S2048x4, .i32⟩
  | 71 => ⟨S2048x4, .i1⟩
  | 72 => ⟨S_, .i32⟩
  | 73 => ⟨S2048x4, .i32⟩
  | 74 => ⟨S2048x4, .i32⟩
  | 75 => ⟨S2048x4, .i32⟩
  | 76 => ⟨S_, .i32⟩
  | 77 => ⟨S1x4, .i32⟩
  | 78 => ⟨S1x4, .i1⟩
  | 79 => ⟨S_, .i32⟩
  | 80 => ⟨S1x4, .i32⟩
  | 81 => ⟨S1x4, .i32⟩
  | 82 => ⟨S1x4, .i32⟩
  | 83 => ⟨S2048x4, .i32⟩
  | 84 => ⟨S2048x4x1, .i32⟩
  | 85 => ⟨S2048x4x1, .i32⟩
  | 86 => ⟨S2048x4x2, .i32⟩
  | 87 => ⟨S2x2048x4x256, .f32⟩
  | 88 => ⟨S2x2048x4x256, .f32⟩
  | 89 => ⟨S2048x4, .i32⟩
  | 90 => ⟨S2048x4, .f32⟩
  | 91 => ⟨S2048x4x1, .f32⟩
  | 92 => ⟨S1x2048x4x1, .f32⟩
  | 93 => ⟨S2x2048x4x256, .f32⟩
  | 94 => ⟨S2x2048x4x256, .f32⟩
  | 95 => ⟨S2x2048x4x256, .f32⟩
  | 96 => ⟨S4x256x2x2048, .f32⟩
  | 97 => ⟨S2x2048x4x256, .f32⟩
  | 98 => ⟨S2x2048x1024, .f32⟩
  | 99 => ⟨S2x2048x1024, .f32⟩
  | 100 => ⟨S2x2048x1024, .f32⟩
  | 101 => ⟨S2x2048x1024, .f32⟩
  | 102 => ⟨S_, .f32⟩
  | 103 => ⟨S2x1024, .f32⟩
  | 104 => ⟨S2x1x1024, .f32⟩
  | 105 => ⟨S2x2048x1024, .f32⟩
  | 106 => ⟨S2x2048x1024, .f32⟩
  | 107 => ⟨S2x2048x4x256, .f32⟩
  | 108 => ⟨S4x256x2x2048, .f32⟩
  | 109 => ⟨S4x2x2048x256, .f32⟩
  | 110 => ⟨S2x2048x4x256, .f32⟩
  | 111 => ⟨S4x256x256, .f32⟩
  | 112 => ⟨S4x256x256, .f32⟩
  | 113 => ⟨S2x2048x4x256, .f32⟩
  | 114 => ⟨S2x2048x4x256, .f32⟩
  | 115 => ⟨S2x2048x4x256, .f32⟩
  | 116 => ⟨S2x2048x4x256, .f32⟩
  | 117 => ⟨S_, .f32⟩
  | 118 => ⟨S2x2049x4x256, .f32⟩
  | 119 => ⟨S2x2049x4x256, .f32⟩
  | 120 => ⟨S_, .f32⟩
  | 121 => ⟨S2x2049x4x256, .f32⟩
  | 122 => ⟨S2x2049x4x256, .f32⟩
  | 123 => ⟨S2x2049x4x256, .f32⟩
  | 124 => ⟨S2x1x4x256, .f32⟩
  | 125 => ⟨S2x2048x4x256, .f32⟩
  | 126 => ⟨S_, .f32⟩
  | 127 => ⟨S_, .f32⟩
  | _ => ⟨S2x2048x1024, .f32⟩

abbrev hbmTy0_1 (i : Nat) : BufTy := match i % 128 with
  | 0 => ⟨S2x2048x4x256, .f32⟩
  | 1 => ⟨S2x2048x4x256, .f32⟩
  | 2 => ⟨S2x2048x1024, .f32⟩
  | 3 => ⟨S_, .f32⟩
  | 4 => ⟨S5x4096x1024, .f32⟩
  | 5 => ⟨S1x4096x1024, .f32⟩
  | 6 => ⟨S_, .f32⟩
  | 7 => ⟨S2x4096x1024, .f32⟩
  | 8 => ⟨S8x4096x1024, .f32⟩
  | 9 => ⟨S8x4096x1024, .bf16⟩
  | 10 => ⟨S4x4x64x256, .f32⟩
  | 11 => ⟨S4x4x64x256, .f32⟩
  | 12 => ⟨S2x8x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_call0_call0_cst : Ref sig .tc := ⟨.hbm, 10, rfl⟩
abbrev main_call0_call0_v0 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_c_6 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_7 : Ref sig .tc := ⟨.hbm, 50, rfl⟩
abbrev main_v25 : Ref sig .tc := ⟨.hbm, 51, rfl⟩
abbrev main_v26 : Ref sig .tc := ⟨.hbm, 52, rfl⟩
abbrev main_c_8 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_9 : Ref sig .tc := ⟨.hbm, 57, rfl⟩
abbrev main_v30 : Ref sig .tc := ⟨.hbm, 58, rfl⟩
abbrev main_v31 : Ref sig .tc := ⟨.hbm, 59, rfl⟩
abbrev main_c_10 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_11 : Ref sig .tc := ⟨.hbm, 69, rfl⟩
abbrev main_v40 : Ref sig .tc := ⟨.hbm, 70, rfl⟩
abbrev main_v41 : Ref sig .tc := ⟨.hbm, 71, rfl⟩
abbrev main_c_12 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_13 : Ref sig .tc := ⟨.hbm, 76, rfl⟩
abbrev main_v45 : Ref sig .tc := ⟨.hbm, 77, rfl⟩
abbrev main_v46 : Ref sig .tc := ⟨.hbm, 78, rfl⟩
abbrev main_c_14 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_v84 : Ref sig .tc := ⟨.hbm, 119, rfl⟩
abbrev main_cst_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_call0_cst : Ref sig .tc := ⟨.hbm, 126, rfl⟩
abbrev main_call3_call0_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_18 : Ref sig .tc := ⟨.hbm, 131, rfl⟩
abbrev main_v93 : Ref sig .tc := ⟨.hbm, 132, rfl⟩
abbrev main_v94 : Ref sig .tc := ⟨.hbm, 133, rfl⟩
abbrev main_cst_19 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩

abbrev nD : Nat := 1
abbrev τ : Topo := Topo.v7x

variable {F : FTy → Type} [FloatOps F]
-- ==== KernelBound.lean ====
abbrev S2x256 : Shape := ⟨2, ![2, 256]⟩
abbrev S2x2x256 : Shape := ⟨3, ![2, 2, 256]⟩
abbrev S4x256 : Shape := ⟨2, ![4, 256]⟩
abbrev S2x1x256 : Shape := ⟨3, ![2, 1, 256]⟩
abbrev S1x256 : Shape := ⟨2, ![1, 256]⟩

abbrev nBuf : Space → Nat
  | .hbm => 3
  | .vmem => 3
  | .smem => 0
  | _ => 0

abbrev bufTy : (tb : Table) → Fin (tcTables nBuf tb) → BufTy
  | .hbm, ⟨0, _⟩ => ⟨S2x256, .f32⟩
  | .hbm, ⟨1, _⟩ => ⟨S2x2x256, .f32⟩
  | .hbm, ⟨2, _⟩ => ⟨S4x256, .f32⟩
  | .local _ .vmem, ⟨0, _⟩ => ⟨S2x256, .f32⟩
  | .local _ .vmem, ⟨1, _⟩ => ⟨S2x2x256, .f32⟩
  | .local _ .vmem, ⟨2, _⟩ => ⟨S4x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceBoundIdeal.lean ====
abbrev S2x256 : Shape := ⟨2, ![2, 256]⟩
abbrev S2x2x256 : Shape := ⟨3, ![2, 2, 256]⟩
abbrev S_ : Shape := ⟨0, ![]⟩
abbrev S2x1x256 : Shape := ⟨3, ![2, 1, 256]⟩
abbrev S4x256 : Shape := ⟨2, ![4, 256]⟩

abbrev nBuf : Space → Nat
  | .hbm => 66
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x2x256, .f32⟩
  | .hbm, ⟨2, _⟩ => ⟨S_, .f32⟩
  | .hbm, ⟨3, _⟩ => ⟨S2x256, .f32⟩
  | .hbm, ⟨4, _⟩ => ⟨S2x1x256, .f32⟩
  | .hbm, ⟨5, _⟩ => ⟨S2x2x256, .f32⟩
  | .hbm, ⟨6, _⟩ => ⟨S2x2x256, .i1⟩
  | .hbm, ⟨7, _⟩ => ⟨S2x2x256, .f32⟩
  | .hbm, ⟨8, _⟩ => ⟨S_, .f32⟩
  | .hbm, ⟨9, _⟩ => ⟨S2x256, .f32⟩
  | .hbm, ⟨10, _⟩ => ⟨S_, .f32⟩
  | .hbm, ⟨11, _⟩ => ⟨S2x256, .f32⟩
  | .hbm, ⟨12, _⟩ => ⟨S2x256, .f32⟩
  | .hbm, ⟨13, _⟩ => ⟨S_, .f32⟩
  | .hbm, ⟨14, _⟩ => ⟨S2x256, .f32⟩
  | .hbm, ⟨15, _⟩ => ⟨S2x256, .i1⟩
  | .hbm, ⟨16, _⟩ => ⟨S_, .f32⟩
  | .hbm, ⟨17, _⟩ => ⟨S2x256, .f32⟩
  | .hbm, ⟨18, _⟩ => ⟨S2x256, .i1⟩
  | .hbm, ⟨19, _⟩ => ⟨S_, .f32⟩
  | .hbm, ⟨20, _⟩ => ⟨S2x256, .f32⟩
  | .hbm, ⟨21, _⟩ => ⟨S_, .f32⟩
  | .hbm, ⟨22, _⟩ => ⟨S2x256, .f32⟩
  | .hbm, ⟨23, _⟩ => ⟨S_, .f32⟩
  | .hbm, ⟨24, _⟩ => ⟨S2x256, .f32⟩
  | .hbm, ⟨25, _⟩ => ⟨S2x256, .f32⟩
  | .hbm, ⟨26, _⟩ => ⟨S2x256, .f32⟩
  | .hbm, ⟨27, _⟩ => ⟨S2x1x256, .f32⟩
  | .hbm, ⟨28, _⟩ => ⟨S2x2x256, .f32⟩
  | .hbm, ⟨29, _⟩ => ⟨S2x2x256, .f32⟩
  | .hbm, ⟨30, _⟩ => ⟨S2x2x256, .f32⟩
  | .hbm, ⟨31, _⟩ => ⟨S_, .f32⟩
  | .hbm, ⟨32, _⟩ => ⟨S2x256, .f32⟩
  | .hbm, ⟨33, _⟩ => ⟨S2x1x256, .f32⟩
  | .hbm, ⟨34, _⟩ => ⟨S2x2x256, .f32⟩
  | .hbm, ⟨35, _⟩ => ⟨S2x2x256, .f32⟩
  | .hbm, ⟨36, _⟩ => ⟨S2x1x256, .f32⟩
  | .hbm, ⟨37, _⟩ => ⟨S_, .f32⟩
  | .hbm, ⟨38, _⟩ => ⟨S2x1x256, .f32⟩
  | .hbm, ⟨39, _⟩ => ⟨S2x1x256, .f32⟩
  | .hbm, ⟨40, _⟩ => ⟨S_, .f32⟩
  | .hbm, ⟨41, _⟩ => ⟨S_, .f32⟩
  | .hbm, ⟨42, _⟩ => ⟨S2x2x256, .f32⟩
  | .hbm, ⟨43, _⟩ => ⟨S2x1x256, .f32⟩
  | .hbm, ⟨44, _⟩ => ⟨S2x256, .f32⟩
  | .hbm, ⟨45, _⟩ => ⟨S2x1x256, .f32⟩
  | .hbm, ⟨46, _⟩ => ⟨S_, .f32⟩
  | .hbm, ⟨47, _⟩ => ⟨S2x2x256, .f32⟩
  | .hbm, ⟨48, _⟩ => ⟨S_, .f32⟩
  | .hbm, ⟨49, _⟩ => ⟨S_, .f32⟩
  | .hbm, ⟨50, _⟩ => ⟨S2x2x256, .f32⟩
  | .hbm, ⟨51, _⟩ => ⟨S2x2x256, .f32⟩
  | .hbm, ⟨52, _⟩ => ⟨S2x2x256, .f32⟩
  | .hbm, ⟨53, _⟩ => ⟨S2x2x256, .f32⟩
  | .hbm, ⟨54, _⟩ => ⟨S_, .f32⟩
  | .hbm, ⟨55, _⟩ => ⟨S2x256, .f32⟩
  | .hbm, ⟨56, _⟩ => ⟨S2x1x256, .f32⟩
  | .hbm, ⟨57, _⟩ => ⟨S2x1x256, .f32⟩
  | .hbm, ⟨58, _⟩ => ⟨S2x2x256, .f32⟩
  | .hbm, ⟨59, _⟩ => ⟨S2x2x256, .f32⟩
  | .hbm, ⟨60, _⟩ => ⟨S_, .f32⟩
  | .hbm, ⟨61, _⟩ => ⟨S2x256, .f32⟩
  | .hbm, ⟨62, _⟩ => ⟨S2x2x256, .f32⟩
  | .hbm, ⟨63, _⟩ => ⟨S2x2x256, .f32⟩
  | .hbm, ⟨64, _⟩ => ⟨S2x2x256, .f32⟩
  | .hbm, ⟨65, _⟩ => ⟨S4x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_call1_call0_cst : Ref sig .tc := ⟨.hbm, 48, rfl⟩
abbrev main_call1_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== KernelLoss.lean ====
abbrev S2x2048x1024 : Shape := ⟨3, ![2, 2048, 1024]⟩
abbrev S2x2048x2816 : Shape := ⟨3, ![2, 2048, 2816]⟩
abbrev S2816x1024 : Shape := ⟨2, ![2816, 1024]⟩
abbrev S1024 : Shape := ⟨1, ![1024]⟩
abbrev S4096x1024 : Shape := ⟨2, ![4096, 1024]⟩
abbrev S4096x2816 : Shape := ⟨2, ![4096, 2816]⟩
abbrev S1x1024 : Shape := ⟨2, ![1, 1024]⟩
abbrev S8x8x128 : Shape := ⟨3, ![8, 8, 128]⟩
abbrev S8x8x1024 : Shape := ⟨3, ![8, 8, 1024]⟩
abbrev S512x2816 : Shape := ⟨2, ![512, 2816]⟩
abbrev S512x1024 : Shape := ⟨2, ![512, 1024]⟩
abbrev S1x8x128 : Shape := ⟨3, ![1, 8, 128]⟩
abbrev S1x8x1024 : Shape := ⟨3, ![1, 8, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S8x128 : Shape := ⟨2, ![8, 128]⟩
abbrev S8x1024 : Shape := ⟨2, ![8, 1024]⟩

abbrev nBuf : Space → Nat
  | .hbm => 15
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2816x1024, .f32⟩
  | .hbm, ⟨3, _⟩ => ⟨S1024, .f32⟩
  | .hbm, ⟨4, _⟩ => ⟨S2x2048x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | .hbm, ⟨9, _⟩ => ⟨S2816x1024, .bf16⟩
  | .hbm, ⟨10, _⟩ => ⟨S1x1024, .f32⟩
  | .hbm, ⟨11, _⟩ => ⟨S4096x1024, .f32⟩
  | .hbm, ⟨12, _⟩ => ⟨S8x8x128, .f32⟩
  | .hbm, ⟨13, _⟩ => ⟨S8x8x1024, .f32⟩
  | .hbm, ⟨14, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x8x128, .f32⟩
  | .local _ .vmem, ⟨11, _⟩ => ⟨S1x8x128, .f32⟩
  | .local _ .vmem, ⟨12, _⟩ => ⟨S1x8x1024, .f32⟩
  | .local _ .vmem, ⟨13, _⟩ => ⟨S1x8x1024, .f32⟩
  | .local _ .vmem, ⟨14, _⟩ => ⟨S512x1024, .bf16⟩
  | .local _ .vmem, ⟨15, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ReferenceLossIdeal.lean ====
abbrev S2x2048x1024 : Shape := ⟨3, ![2, 2048, 1024]⟩
abbrev S2x2048x2816 : Shape := ⟨3, ![2, 2048, 2816]⟩
abbrev S2816x1024 : Shape := ⟨2, ![2816, 1024]⟩
abbrev S1024 : Shape := ⟨1, ![1024]⟩
abbrev S8x1024 : Shape := ⟨2, ![8, 1024]⟩
abbrev S8x512x1024 : Shape := ⟨3, ![8, 512, 1024]⟩
abbrev S8x1x1024 : Shape := ⟨3, ![8, 1, 1024]⟩
abbrev S_ : Shape := ⟨0, ![]⟩
abbrev S8x512 : Shape := ⟨2, ![8, 512]⟩
abbrev S8x512x1 : Shape := ⟨3, ![8, 512, 1]⟩
abbrev S8 : Shape := ⟨1, ![8]⟩
abbrev S4096x1024 : Shape := ⟨2, ![4096, 1024]⟩
abbrev S8x1x1 : Shape := ⟨3, ![8, 1, 1]⟩
abbrev S8x8x128 : Shape := ⟨3, ![8, 8, 128]⟩
abbrev S8x8x1024 : Shape := ⟨3, ![8, 8, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2816x1024, .f32⟩
  | .hbm, ⟨3, _⟩ => ⟨S1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S8x1024, .f32⟩
  | .hbm, ⟨8, _⟩ => ⟨S8x512x1024, .f32⟩
  | .hbm, ⟨9, _⟩ => ⟨S8x1x1024, .f32⟩
  | .hbm, ⟨10, _⟩ => ⟨S8x512x1024, .f32⟩
  | .hbm, ⟨11, _⟩ => ⟨S_, .f32⟩
  | .hbm, ⟨12, _⟩ => ⟨S8x512, .f32⟩
  | .hbm, ⟨13, _⟩ => ⟨S8x512x1, .f32⟩
  | .hbm, ⟨14, _⟩ => ⟨S_, .f32⟩
  | .hbm, ⟨15, _⟩ => ⟨S8x512x1, .f32⟩
  | .hbm, ⟨16, _⟩ => ⟨S8x512x1, .f32⟩
  | .hbm, ⟨17, _⟩ => ⟨S_, .f32⟩
  | .hbm, ⟨18, _⟩ => ⟨S8x512x1, .f32⟩
  | .hbm, ⟨19, _⟩ => ⟨S8x512x1, .f32⟩
  | .hbm, ⟨20, _⟩ => ⟨S8x512x1, .f32⟩
  | .hbm, ⟨21, _⟩ => ⟨S8x512x1, .f32⟩
  | .hbm, ⟨22, _⟩ => ⟨S_, .f32⟩
  | .hbm, ⟨23, _⟩ => ⟨S8x512x1, .f32⟩
  | .hbm, ⟨24, _⟩ => ⟨S8x512x1, .f32⟩
  | .hbm, ⟨25, _⟩ => ⟨S8x512x1024, .f32⟩
  | .hbm, ⟨26, _⟩ => ⟨S8x512x1024, .f32⟩
  | .hbm, ⟨27, _⟩ => ⟨S8x512x1024, .f32⟩
  | .hbm, ⟨28, _⟩ => ⟨S8x512x1024, .f32⟩
  | .hbm, ⟨29, _⟩ => ⟨S8x512x1024, .f32⟩
  | .hbm, ⟨30, _⟩ => ⟨S8x512x1024, .f32⟩
  | .hbm, ⟨31, _⟩ => ⟨S8x512x1024, .f32⟩
  | .hbm, ⟨32, _⟩ => ⟨S_, .f32⟩
  | .hbm, ⟨33, _⟩ => ⟨S8x512x1024, .f32⟩
  | .hbm, ⟨34, _⟩ => ⟨S8x512x1024, .f32⟩
  | .hbm, ⟨35, _⟩ => ⟨S_, .f32⟩
  | .hbm, ⟨36, _⟩ => ⟨S8x512, .f32⟩
  | .hbm, ⟨37, _⟩ => ⟨S_, .f32⟩
  | .hbm, ⟨38, _⟩ => ⟨S8x512, .f32⟩
  | .hbm, ⟨39, _⟩ => ⟨S8x512, .f32⟩
  | .hbm, ⟨40, _⟩ => ⟨S_, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S8x512, .f32⟩
  | .hbm, ⟨51, _⟩ => ⟨S_, .f32⟩
  | .hbm, ⟨52, _⟩ => ⟨S8x512, .f32⟩
  | .hbm, ⟨53, _⟩ => ⟨S8x512, .f32⟩
  | .hbm, ⟨54, _⟩ => ⟨S8x512x1024, .f32⟩
  | .hbm, ⟨55, _⟩ => ⟨S8x512x1024, .f32⟩
  | .hbm, ⟨56, _⟩ => ⟨S8x512x1024, .f32⟩
  | .hbm, ⟨57, _⟩ => ⟨S_, .f32⟩
  | .hbm, ⟨58, _⟩ => ⟨S8x1024, .f32⟩
  | .hbm, ⟨59, _⟩ => ⟨S8x1x1024, .f32⟩
  | .hbm, ⟨60, _⟩ => ⟨S8x512x1024, .f32⟩
  | .hbm, ⟨61, _⟩ => ⟨S8x512x1024, .f32⟩
  | .hbm, ⟨62, _⟩ => ⟨S8x512x1024, .f32⟩
  | .hbm, ⟨63, _⟩ => ⟨S_, .f32⟩
  | .hbm, ⟨64, _⟩ => ⟨S8x512, .f32⟩
  | .hbm, ⟨65, _⟩ => ⟨S8x512x1, .f32⟩
  | .hbm, ⟨66, _⟩ => ⟨S8x512x1024, .f32⟩
  | .hbm, ⟨67, _⟩ => ⟨S8x512x1024, .f32⟩
  | .hbm, ⟨68, _⟩ => ⟨S8x512x1, .f32⟩
  | .hbm, ⟨69, _⟩ => ⟨S_, .f32⟩
  | .hbm, ⟨70, _⟩ => ⟨S8x512x1, .f32⟩
  | .hbm, ⟨71, _⟩ => ⟨S8x512x1, .f32⟩
  | .hbm, ⟨72, _⟩ => ⟨S_, .f32⟩
  | .hbm, ⟨73, _⟩ => ⟨S8x512, .f32⟩
  | .hbm, ⟨74, _⟩ => ⟨S8x512x1024, .f32⟩
  | .hbm, ⟨75, _⟩ => ⟨S8x512x1024, .f32⟩
  | .hbm, ⟨76, _⟩ => ⟨S8x512x1024, .f32⟩
  | .hbm, ⟨77, _⟩ => ⟨S8x512x1024, .f32⟩
  | .hbm, ⟨78, _⟩ => ⟨S8x512x1024, .f32⟩
  | .hbm, ⟨79, _⟩ => ⟨S_, .f32⟩
  | .hbm, ⟨80, _⟩ => ⟨S8x1024, .f32⟩
  | .hbm, ⟨81, _⟩ => ⟨S2x2048x1024, .f32⟩
  | .hbm, ⟨82, _⟩ => ⟨S4096x1024, .f32⟩
  | .hbm, ⟨83, _⟩ => ⟨S8x1x1, .f32⟩
  | .hbm, ⟨84, _⟩ => ⟨S8x8x128, .f32⟩
  | .hbm, ⟨85, _⟩ => ⟨S8x1x1024, .f32⟩
  | .hbm, ⟨86, _⟩ => ⟨S8x8x1024, .f32⟩
  | .hbm, ⟨87, _⟩ => ⟨S4096x1024, .f32⟩
  | .hbm, ⟨88, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_cst_14 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== KernelNorm.lean ====
abbrev S2x2048x1024 : Shape := ⟨3, ![2, 2048, 1024]⟩
abbrev S1024 : Shape := ⟨1, ![1024]⟩
abbrev S1024x5632 : Shape := ⟨2, ![1024, 5632]⟩
abbrev S2x2048x5632 : Shape := ⟨3, ![2, 2048, 5632]⟩
abbrev S4096x1024 : Shape := ⟨2, ![4096, 1024]⟩
abbrev S1x1024 : Shape := ⟨2, ![1, 1024]⟩
abbrev S4096x2x2816 : Shape := ⟨3, ![4096, 2, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S8x8x1024 : Shape := ⟨3, ![8, 8, 1024]⟩
abbrev S1x512x2816 : Shape := ⟨3, ![1, 512, 2816]⟩
abbrev S2x1024x1408 : Shape := ⟨3, ![2, 1024, 1408]⟩
abbrev S512x1024 : Shape := ⟨2, ![512, 1024]⟩
abbrev S1x8x1024 : Shape := ⟨3, ![1, 8, 1024]⟩
abbrev S1x512x1408 : Shape := ⟨3, ![1, 512, 1408]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩
abbrev S8x1024 : Shape := ⟨2, ![8, 1024]⟩

abbrev nBuf : Space → Nat
  | .hbm => 17
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2x2048x1024, .f32⟩
  | .hbm, ⟨4, _⟩ => ⟨S2x2048x5632, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S4096x2x2816, .f32⟩
  | .hbm, ⟨9, _⟩ => ⟨S2x4096x2816, .f32⟩
  | .hbm, ⟨10, _⟩ => ⟨S2x4096x2816, .bf16⟩
  | .hbm, ⟨11, _⟩ => ⟨S1024x4x1408, .f32⟩
  | .hbm, ⟨12, _⟩ => ⟨S4x1024x1408, .f32⟩
  | .hbm, ⟨13, _⟩ => ⟨S4x1024x1408, .bf16⟩
  | .hbm, ⟨14, _⟩ => ⟨S4096x1024, .f32⟩
  | .hbm, ⟨15, _⟩ => ⟨S8x8x1024, .f32⟩
  | .hbm, ⟨16, _⟩ => ⟨S4096x1024, .bf16⟩
  | .local _ .vmem, ⟨0, _⟩ => ⟨S1x512x2816, .bf16⟩
  | .local _ .vmem, ⟨1, _⟩ => ⟨S1x512x2816, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x8x1024, .f32⟩
  | .local _ .vmem, ⟨12, _⟩ => ⟨S1x8x1024, .f32⟩
  | .local _ .vmem, ⟨13, _⟩ => ⟨S512x1024, .bf16⟩
  | .local _ .vmem, ⟨14, _⟩ => ⟨S512x1024, .bf16⟩
  | .local _ .vmem, ⟨15, _⟩ => ⟨S4096x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 8, 1], ![false, false, false]⟩

def k0_mult1 (i : grid0.Coords) : BitVec 32 :=
  let arg1 : BitVec 32 := BitVec.ofNat 32 (i 1).val
  let c512_i32 : BitVec 32 := 512#32
  let v13 : BitVec 32 := Scalar.muli arg1 c512_i32
  v13
def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_11 : BitVec 32 := 0#32
  let v17 : BitVec 1 := Scalar.cmpi .ne v16 c0_i32_11
  v17

def k0_off1 (i : grid0.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v24 : Index := Scalar.indexCast v14
  let c0_15 : Index := 0#32
  ![v24.toNat, 0]
def k0_cond2 (i : grid0.Coords) : BitVec 1 :=
  let arg0 : BitVec 32 := BitVec.ofNat 32 (i 0).val
  let c0_i32_12 : BitVec 32 := 0#32
  let v18 : BitVec 1 := Scalar.cmpi .sgt arg0 c0_i32_12
  let v19 : BitVec 32 := Scalar.extui v18
  let c0_i32_13 : BitVec 32 := 0#32
  let v20 : BitVec 1 := Scalar.cmpi .ne v19 c0_i32_13
  v20

def k0_off2 (i : grid0.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v24 : Index := Scalar.indexCast v14
  let c0_15 : Index := 0#32
  ![v24.toNat, 0]
def k0_cond3 (i : grid0.Coords) : BitVec 1 :=
  let arg0 : BitVec 32 := BitVec.ofNat 32 (i 0).val
  let c1_i32 : BitVec 32 := 1#32
  let v21 : BitVec 1 := Scalar.cmpi .eq arg0 c1_i32
  let v22 : BitVec 32 := Scalar.extui v21
  let c0_i32_14 : BitVec 32 := 0#32
  let v23 : BitVec 1 := Scalar.cmpi .ne v22 c0_i32_14
  v23

def k0_off3 (i : grid0.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v24 : Index := Scalar.indexCast v14
  let c0_15 : Index := 0#32
  ![v24.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  ![v1.toNat, c0_i32_2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  ![v1.toNat, c0_i32_2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  let c0_i32_4 : BitVec 32 := 0#32
  ![c0_i32_2.toNat, c0_i32_3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  ![v1.toNat, c0_i32_2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  let c0_i32_4 : BitVec 32 := 0#32
  ![v1.toNat, c0_i32_2.toNat, c0_i32_3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  ![v1.toNat, c0_i32_2.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceNormIdeal.lean ====
abbrev S2x2048x1024 : Shape := ⟨3, ![2, 2048, 1024]⟩
abbrev S1024 : Shape := ⟨1, ![1024]⟩
abbrev S1024x5632 : Shape := ⟨2, ![1024, 5632]⟩
abbrev S2x2048x5632 : Shape := ⟨3, ![2, 2048, 5632]⟩
abbrev S8x1024 : Shape := ⟨2, ![8, 1024]⟩
abbrev S8x512x1024 : Shape := ⟨3, ![8, 512, 1024]⟩
abbrev S8x1x1024 : Shape := ⟨3, ![8, 1, 1024]⟩
abbrev S_ : Shape := ⟨0, ![]⟩
abbrev S8x512 : Shape := ⟨2, ![8, 512]⟩
abbrev S8x512x1 : Shape := ⟨3, ![8, 512, 1]⟩
abbrev S8x512x5632 : Shape := ⟨3, ![8, 512, 5632]⟩
abbrev S4096x1024 : Shape := ⟨2, ![4096, 1024]⟩
abbrev S8x8x1024 : Shape := ⟨3, ![8, 8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x5632, .f32⟩
  | .hbm, ⟨3, _⟩ => ⟨S2x2048x1024, .f32⟩
  | .hbm, ⟨4, _⟩ => ⟨S2x2048x5632, .f32⟩
  | .hbm, ⟨5, _⟩ => ⟨S8x1024, .f32⟩
  | .hbm, ⟨6, _⟩ => ⟨S8x512x1024, .f32⟩
  | .hbm, ⟨7, _⟩ => ⟨S8x1x1024, .f32⟩
  | .hbm, ⟨8, _⟩ => ⟨S8x512x1024, .f32⟩
  | .hbm, ⟨9, _⟩ => ⟨S_, .f32⟩
  | .hbm, ⟨10, _⟩ => ⟨S8x512, .f32⟩
  | .hbm, ⟨11, _⟩ => ⟨S8x512x1, .f32⟩
  | .hbm, ⟨12, _⟩ => ⟨S_, .f32⟩
  | .hbm, ⟨13, _⟩ => ⟨S8x512x1, .f32⟩
  | .hbm, ⟨14, _⟩ => ⟨S8x512x1, .f32⟩
  | .hbm, ⟨15, _⟩ => ⟨S_, .f32⟩
  | .hbm, ⟨16, _⟩ => ⟨S8x512x1, .f32⟩
  | .hbm, ⟨17, _⟩ => ⟨S8x512x1, .f32⟩
  | .hbm, ⟨18, _⟩ => ⟨S8x512x1, .f32⟩
  | .hbm, ⟨19, _⟩ => ⟨S8x512x1, .f32⟩
  | .hbm, ⟨20, _⟩ => ⟨S_, .f32⟩
  | .hbm, ⟨21, _⟩ => ⟨S8x512x1, .f32⟩
  | .hbm, ⟨22, _⟩ => ⟨S8x512x1, .f32⟩
  | .hbm, ⟨23, _⟩ => ⟨S8x512x1024, .f32⟩
  | .hbm, ⟨24, _⟩ => ⟨S8x512x1024, .f32⟩
  | .hbm, ⟨25, _⟩ => ⟨S8x512x1024, .f32⟩
  | .hbm, ⟨26, _⟩ => ⟨S8x512x1024, .f32⟩
  | .hbm, ⟨27, _⟩ => ⟨S8x512x5632, .f32⟩
  | .hbm, ⟨28, _⟩ => ⟨S8x512x5632, .f32⟩
  | .hbm, ⟨29, _⟩ => ⟨S8x512x1024, .f32⟩
  | .hbm, ⟨30, _⟩ => ⟨S8x512x1024, .f32⟩
  | .hbm, ⟨31, _⟩ => ⟨S_, .f32⟩
  | .hbm, ⟨32, _⟩ => ⟨S8x1024, .f32⟩
  | .hbm, ⟨33, _⟩ => ⟨S8x1x1024, .f32⟩
  | .hbm, ⟨34, _⟩ => ⟨S8x512x1024, .f32⟩
  | .hbm, ⟨35, _⟩ => ⟨S8x512x1024, .f32⟩
  | .hbm, ⟨36, _⟩ => ⟨S8x512x1024, .f32⟩
  | .hbm, ⟨37, _⟩ => ⟨S_, .f32⟩
  | .hbm, ⟨38, _⟩ => ⟨S8x512, .f32⟩
  | .hbm, ⟨39, _⟩ => ⟨S8x512x1, .f32⟩
  | .hbm, ⟨40, _⟩ => ⟨S8x512x1024, .f32⟩
  | .hbm, ⟨41, _⟩ => ⟨S8x512x1024, .f32⟩
  | .hbm, ⟨42, _⟩ => ⟨S8x512x1, .f32⟩
  | .hbm, ⟨43, _⟩ => ⟨S_, .f32⟩
  | .hbm, ⟨44, _⟩ => ⟨S8x512x1, .f32⟩
  | .hbm, ⟨45, _⟩ => ⟨S8x512x1, .f32⟩
  | .hbm, ⟨46, _⟩ => ⟨S_, .f32⟩
  | .hbm, ⟨47, _⟩ => ⟨S8x512, .f32⟩
  | .hbm, ⟨48, _⟩ => ⟨S8x512x1024, .f32⟩
  | .hbm, ⟨49, _⟩ => ⟨S8x512x1024, .f32⟩
  | .hbm, ⟨50, _⟩ => ⟨S8x512x1024, .f32⟩
  | .hbm, ⟨51, _⟩ => ⟨S8x512x1024, .f32⟩
  | .hbm, ⟨52, _⟩ => ⟨S8x512x1024, .f32⟩
  | .hbm, ⟨53, _⟩ => ⟨S_, .f32⟩
  | .hbm, ⟨54, _⟩ => ⟨S8x1024, .f32⟩
  | .hbm, ⟨55, _⟩ => ⟨S2x2048x1024, .f32⟩
  | .hbm, ⟨56, _⟩ => ⟨S2x2048x1024, .f32⟩
  | .hbm, ⟨57, _⟩ => ⟨S4096x1024, .f32⟩
  | .hbm, ⟨58, _⟩ => ⟨S8x1x1024, .f32⟩
  | .hbm, ⟨59, _⟩ => ⟨S8x8x1024, .f32⟩
  | .hbm, ⟨60, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== KernelInbwd.lean ====
abbrev S2x2048x1024 : Shape := ⟨3, ![2, 2048, 1024]⟩
abbrev S1024 : Shape := ⟨1, ![1024]⟩
abbrev S1024x8192 : Shape := ⟨2, ![1024, 8192]⟩
abbrev S2x2048x8192 : Shape := ⟨3, ![2, 2048, 8192]⟩
abbrev S4096x1024 : Shape := ⟨2, ![4096, 1024]⟩
abbrev S1x1024 : Shape := ⟨2, ![1, 1024]⟩
abbrev S4096x8x1024 : Shape := ⟨3, ![4096, 8, 1024]⟩
abbrev S8x4096x1024 : Shape := ⟨3, ![8, 4096, 1024]⟩
abbrev S1024x4x2048 : Shape := ⟨3, ![1024, 4, 2048]⟩
abbrev S4x1024x2048 : Shape := ⟨3, ![4, 1024, 2048]⟩
abbrev S8x8x1024 : Shape := ⟨3, ![8, 8, 1024]⟩
abbrev S2x512x1024 : Shape := ⟨3, ![2, 512, 1024]⟩
abbrev S1x1024x2048 : Shape := ⟨3, ![1, 1024, 2048]⟩
abbrev S512x1024 : Shape := ⟨2, ![512, 1024]⟩
abbrev S1x8x1024 : Shape := ⟨3, ![1, 8, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S8x1024 : Shape := ⟨2, ![8, 1024]⟩

abbrev nBuf : Space → Nat
  | .hbm => 16
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x8192, .f32⟩
  | .hbm, ⟨3, _⟩ => ⟨S2x2048x1024, .f32⟩
  | .hbm, ⟨4, _⟩ => ⟨S2x2048x8192, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S4096x8x1024, .f32⟩
  | .hbm, ⟨9, _⟩ => ⟨S8x4096x1024, .f32⟩
  | .hbm, ⟨10, _⟩ => ⟨S8x4096x1024, .bf16⟩
  | .hbm, ⟨11, _⟩ => ⟨S1024x4x2048, .f32⟩
  | .hbm, ⟨12, _⟩ => ⟨S4x1024x2048, .f32⟩
  | .hbm, ⟨13, _⟩ => ⟨S4x1024x2048, .bf16⟩
  | .hbm, ⟨14, _⟩ => ⟨S4096x1024, .f32⟩
  | .hbm, ⟨15, _⟩ => ⟨S8x8x1024, .f32⟩
  | .local _ .vmem, ⟨0, _⟩ => ⟨S2x512x1024, .bf16⟩
  | .local _ .vmem, ⟨1, _⟩ => ⟨S2x512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x8x1024, .f32⟩
  | .local _ .vmem, ⟨12, _⟩ => ⟨S1x8x1024, .f32⟩
  | .local _ .vmem, ⟨13, _⟩ => ⟨S4096x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 8, 1], ![false, false, false]⟩

def k0_mult1 (i : grid0.Coords) : BitVec 32 :=
  let arg1 : BitVec 32 := BitVec.ofNat 32 (i 1).val
  let c512_i32 : BitVec 32 := 512#32
  let v13 : BitVec 32 := Scalar.muli arg1 c512_i32
  v13
def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_11 : BitVec 32 := 0#32
  let v17 : BitVec 1 := Scalar.cmpi .ne v16 c0_i32_11
  v17

def k0_off1 (i : grid0.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v24 : Index := Scalar.indexCast v14
  let c0_15 : Index := 0#32
  ![v24.toNat, 0]
def k0_cond2 (i : grid0.Coords) : BitVec 1 :=
  let arg0 : BitVec 32 := BitVec.ofNat 32 (i 0).val
  let c0_i32_12 : BitVec 32 := 0#32
  let v18 : BitVec 1 := Scalar.cmpi .sgt arg0 c0_i32_12
  let v19 : BitVec 32 := Scalar.extui v18
  let c0_i32_13 : BitVec 32 := 0#32
  let v20 : BitVec 1 := Scalar.cmpi .ne v19 c0_i32_13
  v20

def k0_off2 (i : grid0.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v24 : Index := Scalar.indexCast v14
  let c0_15 : Index := 0#32
  ![v24.toNat, 0]
def k0_cond3 (i : grid0.Coords) : BitVec 1 :=
  let arg0 : BitVec 32 := BitVec.ofNat 32 (i 0).val
  let c3_i32 : BitVec 32 := 3#32
  let v21 : BitVec 1 := Scalar.cmpi .eq arg0 c3_i32
  let v22 : BitVec 32 := Scalar.extui v21
  let c0_i32_14 : BitVec 32 := 0#32
  let v23 : BitVec 1 := Scalar.cmpi .ne v22 c0_i32_14
  v23

def k0_off3 (i : grid0.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v24 : Index := Scalar.indexCast v14
  let c0_15 : Index := 0#32
  ![v24.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg0 c3_i32
  let c0_i32 : BitVec 32 := 0#32
  let v1 : BitVec 32 := Scalar.select v0 arg1 c0_i32
  let c3_i32_0 : BitVec 32 := 3#32
  let v2 : BitVec 1 := Scalar.cmpi .eq arg0 c3_i32_0
  let c0_i32_1 : BitVec 32 := 0#32
  let v3 : BitVec 32 := Scalar.select v2 arg2 c0_i32_1
  let c0_i32_2 : BitVec 32 := 0#32
  let c0_i32_3 : BitVec 32 := 0#32
  ![v1.toNat, c0_i32_2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg0 c3_i32
  let c0_i32 : BitVec 32 := 0#32
  let v1 : BitVec 32 := Scalar.select v0 arg1 c0_i32
  let c3_i32_0 : BitVec 32 := 3#32
  let v2 : BitVec 1 := Scalar.cmpi .eq arg0 c3_i32_0
  let c0_i32_1 : BitVec 32 := 0#32
  let v3 : BitVec 32 := Scalar.select v2 arg2 c0_i32_1
  let c0_i32_2 : BitVec 32 := 0#32
  let c0_i32_3 : BitVec 32 := 0#32
  ![v1.toNat, c0_i32_2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg0 c3_i32
  let c0_i32 : BitVec 32 := 0#32
  let v1 : BitVec 32 := Scalar.select v0 arg1 c0_i32
  let c3_i32_0 : BitVec 32 := 3#32
  let v2 : BitVec 1 := Scalar.cmpi .eq arg0 c3_i32_0
  let c0_i32_1 : BitVec 32 := 0#32
  let v3 : BitVec 32 := Scalar.select v2 arg2 c0_i32_1
  let c0_i32_2 : BitVec 32 := 0#32
  let c0_i32_3 : BitVec 32 := 0#32
  let c0_i32_4 : BitVec 32 := 0#32
  ![c0_i32_2.toNat, c0_i32_3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg0 c3_i32
  let c0_i32 : BitVec 32 := 0#32
  let v1 : BitVec 32 := Scalar.select v0 arg1 c0_i32
  let c3_i32_0 : BitVec 32 := 3#32
  let v2 : BitVec 1 := Scalar.cmpi .eq arg0 c3_i32_0
  let c0_i32_1 : BitVec 32 := 0#32
  let v3 : BitVec 32 := Scalar.select v2 arg2 c0_i32_1
  let c0_i32_2 : BitVec 32 := 0#32
  let c0_i32_3 : BitVec 32 := 0#32
  ![v1.toNat, c0_i32_2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg0 c3_i32
  let c0_i32 : BitVec 32 := 0#32
  let v1 : BitVec 32 := Scalar.select v0 arg1 c0_i32
  let c3_i32_0 : BitVec 32 := 3#32
  let v2 : BitVec 1 := Scalar.cmpi .eq arg0 c3_i32_0
  let c0_i32_1 : BitVec 32 := 0#32
  let v3 : BitVec 32 := Scalar.select v2 arg2 c0_i32_1
  let c0_i32_2 : BitVec 32 := 0#32
  let c0_i32_3 : BitVec 32 := 0#32
  let c0_i32_4 : BitVec 32 := 0#32
  ![v1.toNat, c0_i32_2.toNat, c0_i32_3.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceInbwdIdeal.lean ====
abbrev S2x2048x1024 : Shape := ⟨3, ![2, 2048, 1024]⟩
abbrev S1024 : Shape := ⟨1, ![1024]⟩
abbrev S1024x8192 : Shape := ⟨2, ![1024, 8192]⟩
abbrev S2x2048x8192 : Shape := ⟨3, ![2, 2048, 8192]⟩
abbrev S8x1024 : Shape := ⟨2, ![8, 1024]⟩
abbrev S8x512x1024 : Shape := ⟨3, ![8, 512, 1024]⟩
abbrev S8x1x1024 : Shape := ⟨3, ![8, 1, 1024]⟩
abbrev S_ : Shape := ⟨0, ![]⟩
abbrev S8x512 : Shape := ⟨2, ![8, 512]⟩
abbrev S8x512x1 : Shape := ⟨3, ![8, 512, 1]⟩
abbrev S8x512x8192 : Shape := ⟨3, ![8, 512, 8192]⟩
abbrev S4096x1024 : Shape := ⟨2, ![4096, 1024]⟩
abbrev S8x8x1024 : Shape := ⟨3, ![8, 8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x8192, .f32⟩
  | .hbm, ⟨3, _⟩ => ⟨S2x2048x1024, .f32⟩
  | .hbm, ⟨4, _⟩ => ⟨S2x2048x8192, .f32⟩
  | .hbm, ⟨5, _⟩ => ⟨S8x1024, .f32⟩
  | .hbm, ⟨6, _⟩ => ⟨S8x512x1024, .f32⟩
  | .hbm, ⟨7, _⟩ => ⟨S8x1x1024, .f32⟩
  | .hbm, ⟨8, _⟩ => ⟨S8x512x1024, .f32⟩
  | .hbm, ⟨9, _⟩ => ⟨S_, .f32⟩
  | .hbm, ⟨10, _⟩ => ⟨S8x512, .f32⟩
  | .hbm, ⟨11, _⟩ => ⟨S8x512x1, .f32⟩
  | .hbm, ⟨12, _⟩ => ⟨S_, .f32⟩
  | .hbm, ⟨13, _⟩ => ⟨S8x512x1, .f32⟩
  | .hbm, ⟨14, _⟩ => ⟨S8x512x1, .f32⟩
  | .hbm, ⟨15, _⟩ => ⟨S_, .f32⟩
  | .hbm, ⟨16, _⟩ => ⟨S8x512x1, .f32⟩
  | .hbm, ⟨17, _⟩ => ⟨S8x512x1, .f32⟩
  | .hbm, ⟨18, _⟩ => ⟨S8x512x1, .f32⟩
  | .hbm, ⟨19, _⟩ => ⟨S8x512x1, .f32⟩
  | .hbm, ⟨20, _⟩ => ⟨S_, .f32⟩
  | .hbm, ⟨21, _⟩ => ⟨S8x512x1, .f32⟩
  | .hbm, ⟨22, _⟩ => ⟨S8x512x1, .f32⟩
  | .hbm, ⟨23, _⟩ => ⟨S8x512x1024, .f32⟩
  | .hbm, ⟨24, _⟩ => ⟨S8x512x1024, .f32⟩
  | .hbm, ⟨25, _⟩ => ⟨S8x512x1024, .f32⟩
  | .hbm, ⟨26, _⟩ => ⟨S8x512x1024, .f32⟩
  | .hbm, ⟨27, _⟩ => ⟨S8x512x8192, .f32⟩
  | .hbm, ⟨28, _⟩ => ⟨S8x512x8192, .f32⟩
  | .hbm, ⟨29, _⟩ => ⟨S8x512x1024, .f32⟩
  | .hbm, ⟨30, _⟩ => ⟨S8x512x1024, .f32⟩
  | .hbm, ⟨31, _⟩ => ⟨S_, .f32⟩
  | .hbm, ⟨32, _⟩ => ⟨S8x1024, .f32⟩
  | .hbm, ⟨33, _⟩ => ⟨S8x1x1024, .f32⟩
  | .hbm, ⟨34, _⟩ => ⟨S8x512x1024, .f32⟩
  | .hbm, ⟨35, _⟩ => ⟨S8x512x1024, .f32⟩
  | .hbm, ⟨36, _⟩ => ⟨S8x512x1024, .f32⟩
  | .hbm, ⟨37, _⟩ => ⟨S_, .f32⟩
  | .hbm, ⟨38, _⟩ => ⟨S8x512, .f32⟩
  | .hbm, ⟨39, _⟩ => ⟨S8x512x1, .f32⟩
  | .hbm, ⟨40, _⟩ => ⟨S8x512x1024, .f32⟩
  | .hbm, ⟨41, _⟩ => ⟨S8x512x1024, .f32⟩
  | .hbm, ⟨42, _⟩ => ⟨S8x512x1, .f32⟩
  | .hbm, ⟨43, _⟩ => ⟨S_, .f32⟩
  | .hbm, ⟨44, _⟩ => ⟨S8x512x1, .f32⟩
  | .hbm, ⟨45, _⟩ => ⟨S8x512x1, .f32⟩
  | .hbm, ⟨46, _⟩ => ⟨S_, .f32⟩
  | .hbm, ⟨47, _⟩ => ⟨S8x512, .f32⟩
  | .hbm, ⟨48, _⟩ => ⟨S8x512x1024, .f32⟩
  | .hbm, ⟨49, _⟩ => ⟨S8x512x1024, .f32⟩
  | .hbm, ⟨50, _⟩ => ⟨S8x512x1024, .f32⟩
  | .hbm, ⟨51, _⟩ => ⟨S8x512x1024, .f32⟩
  | .hbm, ⟨52, _⟩ => ⟨S8x512x1024, .f32⟩
  | .hbm, ⟨53, _⟩ => ⟨S_, .f32⟩
  | .hbm, ⟨54, _⟩ => ⟨S8x1024, .f32⟩
  | .hbm, ⟨55, _⟩ => ⟨S2x2048x1024, .f32⟩
  | .hbm, ⟨56, _⟩ => ⟨S2x2048x1024, .f32⟩
  | .hbm, ⟨57, _⟩ => ⟨S4096x1024, .f32⟩
  | .hbm, ⟨58, _⟩ => ⟨S8x1x1024, .f32⟩
  | .hbm, ⟨59, _⟩ => ⟨S8x8x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== KernelPoolf.lean ====
abbrev S2x2048x8192 : Shape := ⟨3, ![2, 2048, 8192]⟩
abbrev S4x256x256 : Shape := ⟨3, ![4, 256, 256]⟩
abbrev S1024 : Shape := ⟨1, ![1024]⟩
abbrev S4096x8x1024 : Shape := ⟨3, ![4096, 8, 1024]⟩
abbrev S8x4096x1024 : Shape := ⟨3, ![8, 4096, 1024]⟩
abbrev S4x4x64x256 : Shape := ⟨4, ![4, 4, 64, 256]⟩
abbrev S1x1024 : Shape := ⟨2, ![1, 1024]⟩
abbrev S4096x1024 : Shape := ⟨2, ![4096, 1024]⟩
abbrev S1x2048x256 : Shape := ⟨3, ![1, 2048, 256]⟩
abbrev S4x1x64x256 : Shape := ⟨4, ![4, 1, 64, 256]⟩
abbrev S1x256 : Shape := ⟨2, ![1, 256]⟩
abbrev S2048x256 : Shape := ⟨2, ![2048, 256]⟩
abbrev S2048x1 : Shape := ⟨2, ![2048, 1]⟩
abbrev S4x64x256 : Shape := ⟨3, ![4, 64, 256]⟩
abbrev S256x256 : Shape := ⟨2, ![256, 256]⟩

abbrev nBuf : Space → Nat
  | .hbm => 9
  | .vmem => 8
  | .smem => 0
  | _ => 0

abbrev bufTy : (tb : Table) → Fin (tcTables nBuf tb) → BufTy
  | .hbm, ⟨0, _⟩ => ⟨S2x2048x8192, .f32⟩
  | .hbm, ⟨1, _⟩ => ⟨S4x256x256, .f32⟩
  | .hbm, ⟨2, _⟩ => ⟨S1024, .f32⟩
  | .hbm, ⟨3, _⟩ => ⟨S4096x8x1024, .f32⟩
  | .hbm, ⟨4, _⟩ => ⟨S8x4096x1024, .f32⟩
  | .hbm, ⟨5, _⟩ => ⟨S4x4x64x256, .f32⟩
  | .hbm, ⟨6, _⟩ => ⟨S4x4x64x256, .f32⟩
  | .hbm, ⟨7, _⟩ => ⟨S1x1024, .f32⟩
  | .hbm, ⟨8, _⟩ => ⟨S4096x1024, .bf16⟩
  | .local _ .vmem, ⟨0, _⟩ => ⟨S1x2048x256, .f32⟩
  | .local _ .vmem, ⟨1, _⟩ => ⟨S1x2048x256, .f32⟩
  | .local _ .vmem, ⟨2, _⟩ => ⟨S4x1x64x256, .f32⟩
  | .local _ .vmem, ⟨3, _⟩ => ⟨S4x1x64x256, .f32⟩
  | .local _ .vmem, ⟨4, _⟩ => ⟨S1x256, .f32⟩
  | .local _ .vmem, ⟨5, _⟩ => ⟨S1x256, .f32⟩
  | .local _ .vmem, ⟨6, _⟩ => ⟨S2048x256, .bf16⟩
  | .local _ .vmem, ⟨7, _⟩ => ⟨S2048x256, .bf16⟩
  | _, _ => ⟨S2x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_5 : BitVec 32 := 0#32
  let v13 : BitVec 1 := Scalar.cmpi .ne v12 c0_i32_5
  v13

def k0_cond4 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_6 : BitVec 32 := 0#32
  let v16 : BitVec 1 := Scalar.cmpi .ne v15 c0_i32_6
  v16

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![c5_i32.toNat, arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferencePoolfIdeal.lean ====
abbrev S2x2048x8192 : Shape := ⟨3, ![2, 2048, 8192]⟩
abbrev S4x256x256 : Shape := ⟨3, ![4, 256, 256]⟩
abbrev S1024 : Shape := ⟨1, ![1024]⟩
abbrev S4 : Shape := ⟨1, ![4]⟩
abbrev S2x2048x1024 : Shape := ⟨3, ![2, 2048, 1024]⟩
abbrev S2x2048x4x256 : Shape := ⟨4, ![2, 2048, 4, 256]⟩
abbrev S_ : Shape := ⟨0, ![]⟩
abbrev S2x1x4x256 : Shape := ⟨4, ![2, 1, 4, 256]⟩
abbrev S2x2049x4x256 : Shape := ⟨4, ![2, 2049, 4, 256]⟩
abbrev S2048 : Shape := ⟨1, ![2048]⟩
abbrev S2048x1 : Shape := ⟨2, ![2048, 1]⟩
abbrev S1x4 : Shape := ⟨2, ![1, 4]⟩
abbrev S2048x4 : Shape := ⟨2, ![2048, 4]⟩
abbrev S2048x4x1 : Shape := ⟨3, ![2048, 4, 1]⟩
abbrev S2048x4x2 : Shape := ⟨3, ![2048, 4, 2]⟩
abbrev S1x2048x4x1 : Shape := ⟨4, ![1, 2048, 4, 1]⟩
abbrev S4x256x2x2048 : Shape := ⟨4, ![4, 256, 2, 2048]⟩
abbrev S1x1x1024 : Shape := ⟨3, ![1, 1, 1024]⟩
abbrev S4096x1024 : Shape := ⟨2, ![4096, 1024]⟩

abbrev nBuf : Space → Nat
  | .hbm => 100
  | .vmem => 0
  | .smem => 0
  | _ => 0

abbrev bufTy : (tb : Table) → Fin (tcTables nBuf tb) → BufTy
  | .hbm, ⟨0, _⟩ => ⟨S2x2048x8192, .f32⟩
  | .hbm, ⟨1, _⟩ => ⟨S4x256x256, .f32⟩
  | .hbm, ⟨2, _⟩ => ⟨S1024, .f32⟩
  | .hbm, ⟨3, _⟩ => ⟨S4, .i32⟩
  | .hbm, ⟨4, _⟩ => ⟨S2x2048x1024, .f32⟩
  | .hbm, ⟨5, _⟩ => ⟨S2x2048x4x256, .f32⟩
  | .hbm, ⟨6, _⟩ => ⟨S_, .f32⟩
  | .hbm, ⟨7, _⟩ => ⟨S2x1x4x256, .f32⟩
  | .hbm, ⟨8, _⟩ => ⟨S_, .f32⟩
  | .hbm, ⟨9, _⟩ => ⟨S_, .f32⟩
  | .hbm, ⟨10, _⟩ => ⟨S2x2048x4x256, .f32⟩
  | .hbm, ⟨11, _⟩ => ⟨S2x2049x4x256, .f32⟩
  | .hbm, ⟨12, _⟩ => ⟨S2048, .i32⟩
  | .hbm, ⟨13, _⟩ => ⟨S2048x1, .i32⟩
  | .hbm, ⟨14, _⟩ => ⟨S1x4, .i32⟩
  | .hbm, ⟨15, _⟩ => ⟨S2048x4, .i32⟩
  | .hbm, ⟨16, _⟩ => ⟨S2048x4, .i32⟩
  | .hbm, ⟨17, _⟩ => ⟨S2048x4, .i32⟩
  | .hbm, ⟨18, _⟩ => ⟨S_, .i32⟩
  | .hbm, ⟨19, _⟩ => ⟨S2048x4, .i32⟩
  | .hbm, ⟨20, _⟩ => ⟨S2048x4, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S2048x4, .i32⟩
  | .hbm, ⟨25, _⟩ => ⟨S2048x4, .i32⟩
  | .hbm, ⟨26, _⟩ => ⟨S_, .i32⟩
  | .hbm, ⟨27, _⟩ => ⟨S2048x4, .i32⟩
  | .hbm, ⟨28, _⟩ => ⟨S2048x4, .i32⟩
  | .hbm, ⟨29, _⟩ => ⟨S1x4, .i32⟩
  | .hbm, ⟨30, _⟩ => ⟨S2048x4, .i32⟩
  | .hbm, ⟨31, _⟩ => ⟨S2048x4, .i32⟩
  | .hbm, ⟨32, _⟩ => ⟨S2048x4, .i32⟩
  | .hbm, ⟨33, _⟩ => ⟨S_, .i32⟩
  | .hbm, ⟨34, _⟩ => ⟨S2048x4, .i32⟩
  | .hbm, ⟨35, _⟩ => ⟨S2048x4, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S2048x4, .i32⟩
  | .hbm, ⟨40, _⟩ => ⟨S2048x4, .i32⟩
  | .hbm, ⟨41, _⟩ => ⟨S_, .i32⟩
  | .hbm, ⟨42, _⟩ => ⟨S2048x4, .i32⟩
  | .hbm, ⟨43, _⟩ => ⟨S2048x4, .i32⟩
  | .hbm, ⟨44, _⟩ => ⟨S4, .i32⟩
  | .hbm, ⟨45, _⟩ => ⟨S1x4, .i32⟩
  | .hbm, ⟨46, _⟩ => ⟨S_, .i32⟩
  | .hbm, ⟨47, _⟩ => ⟨S2048x4, .i32⟩
  | .hbm, ⟨48, _⟩ => ⟨S2048x4, .i1⟩
  | .hbm, ⟨49, _⟩ => ⟨S_, .i32⟩
  | .hbm, ⟨50, _⟩ => ⟨S2048x4, .i32⟩
  | .hbm, ⟨51, _⟩ => ⟨S2048x4, .i32⟩
  | .hbm, ⟨52, _⟩ => ⟨S2048x4, .i32⟩
  | .hbm, ⟨53, _⟩ => ⟨S_, .i32⟩
  | .hbm, ⟨54, _⟩ => ⟨S1x4, .i32⟩
  | .hbm, ⟨55, _⟩ => ⟨S1x4, .i1⟩
  | .hbm, ⟨56, _⟩ => ⟨S_, .i32⟩
  | .hbm, ⟨57, _⟩ => ⟨S1x4, .i32⟩
  | .hbm, ⟨58, _⟩ => ⟨S1x4, .i32⟩
  | .hbm, ⟨59, _⟩ => ⟨S1x4, .i32⟩
  | .hbm, ⟨60, _⟩ => ⟨S2048x4, .i32⟩
  | .hbm, ⟨61, _⟩ => ⟨S2048x4x1, .i32⟩
  | .hbm, ⟨62, _⟩ => ⟨S2048x4x1, .i32⟩
  | .hbm, ⟨63, _⟩ => ⟨S2048x4x2, .i32⟩
  | .hbm, ⟨64, _⟩ => ⟨S2x2048x4x256, .f32⟩
  | .hbm, ⟨65, _⟩ => ⟨S_, .i32⟩
  | .hbm, ⟨66, _⟩ => ⟨S2048x4, .i32⟩
  | .hbm, ⟨67, _⟩ => ⟨S2048x4, .i1⟩
  | .hbm, ⟨68, _⟩ => ⟨S_, .i32⟩
  | .hbm, ⟨69, _⟩ => ⟨S2048x4, .i32⟩
  | .hbm, ⟨70, _⟩ => ⟨S2048x4, .i32⟩
  | .hbm, ⟨71, _⟩ => ⟨S2048x4, .i32⟩
  | .hbm, ⟨72, _⟩ => ⟨S_, .i32⟩
  | .hbm, ⟨73, _⟩ => ⟨S1x4, .i32⟩
  | .hbm, ⟨74, _⟩ => ⟨S1x4, .i1⟩
  | .hbm, ⟨75, _⟩ => ⟨S_, .i32⟩
  | .hbm, ⟨76, _⟩ => ⟨S1x4, .i32⟩
  | .hbm, ⟨77, _⟩ => ⟨S1x4, .i32⟩
  | .hbm, ⟨78, _⟩ => ⟨S1x4, .i32⟩
  | .hbm, ⟨79, _⟩ => ⟨S2048x4, .i32⟩
  | .hbm, ⟨80, _⟩ => ⟨S2048x4x1, .i32⟩
  | .hbm, ⟨81, _⟩ => ⟨S2048x4x1, .i32⟩
  | .hbm, ⟨82, _⟩ => ⟨S2048x4x2, .i32⟩
  | .hbm, ⟨83, _⟩ => ⟨S2x2048x4x256, .f32⟩
  | .hbm, ⟨84, _⟩ => ⟨S2x2048x4x256, .f32⟩
  | .hbm, ⟨85, _⟩ => ⟨S2048x4, .i32⟩
  | .hbm, ⟨86, _⟩ => ⟨S2048x4, .f32⟩
  | .hbm, ⟨87, _⟩ => ⟨S2048x4x1, .f32⟩
  | .hbm, ⟨88, _⟩ => ⟨S1x2048x4x1, .f32⟩
  | .hbm, ⟨89, _⟩ => ⟨S2x2048x4x256, .f32⟩
  | .hbm, ⟨90, _⟩ => ⟨S2x2048x4x256, .f32⟩
  | .hbm, ⟨91, _⟩ => ⟨S2x2048x4x256, .f32⟩
  | .hbm, ⟨92, _⟩ => ⟨S4x256x2x2048, .f32⟩
  | .hbm, ⟨93, _⟩ => ⟨S2x2048x4x256, .f32⟩
  | .hbm, ⟨94, _⟩ => ⟨S2x2048x1024, .f32⟩
  | .hbm, ⟨95, _⟩ => ⟨S1x1x1024, .f32⟩
  | .hbm, ⟨96, _⟩ => ⟨S2x2048x1024, .f32⟩
  | .hbm, ⟨97, _⟩ => ⟨S2x2048x1024, .f32⟩
  | .hbm, ⟨98, _⟩ => ⟨S4096x1024, .f32⟩
  | .hbm, ⟨99, _⟩ => ⟨S4096x1024, .bf16⟩
  | _, _ => ⟨S2x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_c_5 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_c_7 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_8 : Ref sig .tc := ⟨.hbm, 53, rfl⟩
abbrev main_v28 : Ref sig .tc := ⟨.hbm, 54, rfl⟩
abbrev main_v29 : Ref sig .tc := ⟨.hbm, 55, rfl⟩
abbrev main_c_9 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_10 : Ref sig .tc := ⟨.hbm, 65, rfl⟩
abbrev main_v38 : Ref sig .tc := ⟨.hbm, 66, rfl⟩
abbrev main_v39 : Ref sig .tc := ⟨.hbm, 67, rfl⟩
abbrev main_c_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_12 : Ref sig .tc := ⟨.hbm, 72, rfl⟩
abbrev main_v43 : Ref sig .tc := ⟨.hbm, 73, rfl⟩
abbrev main_v44 : Ref sig .tc := ⟨.hbm, 74, rfl⟩
abbrev main_c_13 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== KernelMerge.lean ====
abbrev S2x2048x1024 : Shape := ⟨3, ![2, 2048, 1024]⟩
abbrev S2x2048x8192 : Shape := ⟨3, ![2, 2048, 8192]⟩
abbrev S1024x1024 : Shape := ⟨2, ![1024, 1024]⟩
abbrev S4096x1024 : Shape := ⟨2, ![4096, 1024]⟩
abbrev S4096x8x1024 : Shape := ⟨3, ![4096, 8, 1024]⟩
abbrev S8x4096x1024 : Shape := ⟨3, ![8, 4096, 1024]⟩
abbrev S512x1024 : Shape := ⟨2, ![512, 1024]⟩
abbrev S1x512x1024 : Shape := ⟨3, ![1, 512, 1024]⟩

abbrev nBuf : Space → Nat
  | .hbm => 16
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x8192, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x8x1024, .f32⟩
  | .hbm, ⟨10, _⟩ => ⟨S8x4096x1024, .f32⟩
  | .hbm, ⟨11, _⟩ => ⟨S1024x1024, .bf16⟩
  | .hbm, ⟨12, _⟩ => ⟨S1024x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_3 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMergeIdeal.lean ====
abbrev S2x2048x1024 : Shape := ⟨3, ![2, 2048, 1024]⟩
abbrev S2x2048x8192 : Shape := ⟨3, ![2, 2048, 8192]⟩
abbrev S1024x1024 : Shape := ⟨2, ![1024, 1024]⟩
abbrev S_ : Shape := ⟨0, ![]⟩
abbrev S4096x1024 : Shape := ⟨2, ![4096, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x8192, .f32⟩
  | .hbm, ⟨3, _⟩ => ⟨S1024x1024, .f32⟩
  | .hbm, ⟨4, _⟩ => ⟨S1024x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S_, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S4096x1024, .f32⟩
  | .hbm, ⟨29, _⟩ => ⟨S4096x1024, .bf16⟩
  | .hbm, ⟨30, _⟩ => ⟨S4096x1024, .f32⟩
  | .hbm, ⟨31, _⟩ => ⟨S4096x1024, .bf16⟩
  | .hbm, ⟨32, _⟩ => ⟨S4096x1024, .f32⟩
  | .hbm, ⟨33, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== KernelAttn.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1024x1024, .bf16⟩
  | .hbm, ⟨8, _⟩ => ⟨S1x1024, .f32⟩
  | .hbm, ⟨9, _⟩ => ⟨S4096x1024, .f32⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== ReferenceAttnIdeal.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S1024, .f32⟩
  | .hbm, ⟨4, _⟩ => ⟨S2x2048x1024, .f32⟩
  | .hbm, ⟨5, _⟩ => ⟨S2x2048x1024, .f32⟩
  | .hbm, ⟨6, _⟩ => ⟨S4096x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S4096x1024, .f32⟩
  | .hbm, ⟨24, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelFfn.lean ====
abbrev S2x2048x1024 : Shape := ⟨3, ![2, 2048, 1024]⟩
abbrev S1024x5632 : Shape := ⟨2, ![1024, 5632]⟩
abbrev S4096x1024 : Shape := ⟨2, ![4096, 1024]⟩
abbrev S1024x4x1408 : Shape := ⟨3, ![1024, 4, 1408]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S1024x1024 : Shape := ⟨2, ![1024, 1024]⟩
abbrev S1x1024x1408 : Shape := ⟨3, ![1, 1024, 1408]⟩
abbrev S2x1024x1408 : Shape := ⟨3, ![2, 1024, 1408]⟩
abbrev S1024x1408 : Shape := ⟨2, ![1024, 1408]⟩

abbrev nBuf : Space → Nat
  | .hbm => 9
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S4096x1024, .f32⟩
  | .hbm, ⟨3, _⟩ => ⟨S4096x1024, .bf16⟩
  | .hbm, ⟨4, _⟩ => ⟨S1024x4x1408, .f32⟩
  | .hbm, ⟨5, _⟩ => ⟨S4x1024x1408, .f32⟩
  | .hbm, ⟨6, _⟩ => ⟨S4x1024x1408, .bf16⟩
  | .hbm, ⟨7, _⟩ => ⟨S2x4096x2816, .bf16⟩
  | .hbm, ⟨8, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFfnIdeal.lean ====
abbrev S2x2048x1024 : Shape := ⟨3, ![2, 2048, 1024]⟩
abbrev S1024x5632 : Shape := ⟨2, ![1024, 5632]⟩
abbrev S2x2048x5632 : Shape := ⟨3, ![2, 2048, 5632]⟩
abbrev S2x2048x2816 : Shape := ⟨3, ![2, 2048, 2816]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x5632, .f32⟩
  | .hbm, ⟨2, _⟩ => ⟨S2x2048x5632, .f32⟩
  | .hbm, ⟨3, _⟩ => ⟨S2x2048x2816, .f32⟩
  | .hbm, ⟨4, _⟩ => ⟨S2x2048x2816, .f32⟩
  | .hbm, ⟨5, _⟩ => ⟨S4096x2816, .f32⟩
  | .hbm, ⟨6, _⟩ => ⟨S4096x2816, .bf16⟩
  | .hbm, ⟨7, _⟩ => ⟨S4096x2816, .f32⟩
  | .hbm, ⟨8, _⟩ => ⟨S4096x2816, .bf16⟩
  | .hbm, ⟨9, _⟩ => ⟨S1x4096x2816, .bf16⟩
  | .hbm, ⟨10, _⟩ => ⟨S1x4096x2816, .bf16⟩
  | .hbm, ⟨11, _⟩ => ⟨S2x4096x2816, .bf16⟩
  | .hbm, ⟨12, _⟩ => ⟨S2x2048x2816, .f32⟩
  | .hbm, ⟨13, _⟩ => ⟨S2x2048x2816, .f32⟩
  | .hbm, ⟨14, _⟩ => ⟨S_, .f32⟩
  | .hbm, ⟨15, _⟩ => ⟨S2x2048x2816, .f32⟩
  | .hbm, ⟨16, _⟩ => ⟨S2x2048x2816, .f32⟩
  | .hbm, ⟨17, _⟩ => ⟨S_, .f32⟩
  | .hbm, ⟨18, _⟩ => ⟨S2x2048x2816, .f32⟩
  | .hbm, ⟨19, _⟩ => ⟨S2x2048x2816, .f32⟩
  | .hbm, ⟨20, _⟩ => ⟨S2x2048x2816, .f32⟩
  | .hbm, ⟨21, _⟩ => ⟨S2x2048x2816, .f32⟩
  | .hbm, ⟨22, _⟩ => ⟨S4096x2816, .f32⟩
  | .hbm, ⟨23, _⟩ => ⟨S4096x2816, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== KernelHgf.lean ====
abbrev S2x2048x8192 : Shape := ⟨3, ![2, 2048, 8192]⟩
abbrev S2x2x1024 : Shape := ⟨3, ![2, 2, 1024]⟩
abbrev S1024 : Shape := ⟨1, ![1024]⟩
abbrev S4096x8x1024 : Shape := ⟨3, ![4096, 8, 1024]⟩
abbrev S8x4096x1024 : Shape := ⟨3, ![8, 4096, 1024]⟩
abbrev S1x1024 : Shape := ⟨2, ![1, 1024]⟩
abbrev S4096x1024 : Shape := ⟨2, ![4096, 1024]⟩
abbrev S1x2048x128 : Shape := ⟨3, ![1, 2048, 128]⟩
abbrev S2x2x128 : Shape := ⟨3, ![2, 2, 128]⟩
abbrev S1x128 : Shape := ⟨2, ![1, 128]⟩
abbrev S2048x128 : Shape := ⟨2, ![2048, 128]⟩
abbrev S2x1x128 : Shape := ⟨3, ![2, 1, 128]⟩
abbrev S2x128 : Shape := ⟨2, ![2, 128]⟩
abbrev S128x128 : Shape := ⟨2, ![128, 128]⟩
abbrev S1x64x128 : Shape := ⟨3, ![1, 64, 128]⟩
abbrev S64x128 : Shape := ⟨2, ![64, 128]⟩
abbrev S64x64 : Shape := ⟨2, ![64, 64]⟩
abbrev S2048 : Shape := ⟨1, ![2048]⟩
abbrev S2048x1 : Shape := ⟨2, ![2048, 1]⟩

abbrev nBuf : Space → Nat
  | .hbm => 8
  | .vmem => 20
  | .smem => 0
  | _ => 0

abbrev bufTy : (tb : Table) → Fin (tcTables nBuf tb) → BufTy
  | .hbm, ⟨0, _⟩ => ⟨S2x2048x8192, .f32⟩
  | .hbm, ⟨1, _⟩ => ⟨S2x2x1024, .f32⟩
  | .hbm, ⟨2, _⟩ => ⟨S1024, .f32⟩
  | .hbm, ⟨3, _⟩ => ⟨S4096x8x1024, .f32⟩
  | .hbm, ⟨4, _⟩ => ⟨S8x4096x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S2x2x128, .f32⟩
  | .local _ .vmem, ⟨11, _⟩ => ⟨S2x2x128, .f32⟩
  | .local _ .vmem, ⟨12, _⟩ => ⟨S1x128, .f32⟩
  | .local _ .vmem, ⟨13, _⟩ => ⟨S1x128, .f32⟩
  | .local _ .vmem, ⟨14, _⟩ => ⟨S2048x128, .f32⟩
  | .local _ .vmem, ⟨15, _⟩ => ⟨S2048x128, .f32⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | _, _ => ⟨S2x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c8_i32 : BitVec 32 := 8#32
  let v14 : BitVec 32 := Scalar.addi c0_i32 c8_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c4_i32 : BitVec 32 := 4#32
  let v47 : BitVec 32 := Scalar.muli arg13 c4_i32
  let c0_i32_25 : BitVec 32 := 0#32
  let v48 : BitVec 32 := Scalar.addi v47 c0_i32_25
  let c64_i32 : BitVec 32 := 64#32
  let v50 : BitVec 32 := Scalar.muli v48 c64_i32
  v50
def k0_off1 (k0_t1 : Fin k0_t1_loop.trips) (c0_i32_25 : BitVec 32) : Fin 3 → Nat :=
  let c0_26 : Index := 0#32
  let c0_i32 : BitVec 32 := 0#32
  let c1_i32 : BitVec 32 := 1#32
  let arg13 : BitVec 32 := Scf.iv c0_i32 c1_i32 k0_t1
  let c4_i32 : BitVec 32 := 4#32
  let v47 : BitVec 32 := Scalar.muli arg13 c4_i32
  let v48 : BitVec 32 := Scalar.addi v47 c0_i32_25
  let c64_i32 : BitVec 32 := 64#32
  let v50 : BitVec 32 := Scalar.muli v48 c64_i32
  let v51 : BitVec 32 := v50
  let v52 : Index := Scalar.indexCast v51
  let c0_27 : Index := 0#32
  ![0, v52.toNat, 0]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c4_i32_55 : BitVec 32 := 4#32
  let v149 : BitVec 32 := Scalar.muli arg13 c4_i32_55
  let c1_i32_56 : BitVec 32 := 1#32
  let v150 : BitVec 32 := Scalar.addi v149 c1_i32_56
  let c64_i32_57 : BitVec 32 := 64#32
  let v152 : BitVec 32 := Scalar.muli v150 c64_i32_57
  v152
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c4_i32_91 : BitVec 32 := 4#32
  let v251 : BitVec 32 := Scalar.muli arg13 c4_i32_91
  let c2_i32_92 : BitVec 32 := 2#32
  let v252 : BitVec 32 := Scalar.addi v251 c2_i32_92
  let c64_i32_93 : BitVec 32 := 64#32
  let v254 : BitVec 32 := Scalar.muli v252 c64_i32_93
  v254
def k0_mult4 (k0_t1 : Fin k0_t1_loop.trips) : BitVec 32 :=
  let c0_i32 : BitVec 32 := 0#32
  let c1_i32 : BitVec 32 := 1#32
  let arg13 : BitVec 32 := Scf.iv c0_i32 c1_i32 k0_t1
  let c4_i32_127 : BitVec 32 := 4#32
  let v353 : BitVec 32 := Scalar.muli arg13 c4_i32_127
  let c3_i32 : BitVec 32 := 3#32
  let v354 : BitVec 32 := Scalar.addi v353 c3_i32
  let c64_i32_128 : BitVec 32 := 64#32
  let v356 : BitVec 32 := Scalar.muli v354 c64_i32_128
  v356
def k0_mult5 (k0_t1 : Fin k0_t1_loop.trips) : BitVec 32 :=
  let c31_i32 : BitVec 32 := 31#32
  let c0_i32 : BitVec 32 := 0#32
  let c1_i32 : BitVec 32 := 1#32
  let arg13 : BitVec 32 := Scf.iv c0_i32 c1_i32 k0_t1
  let c4_i32_162 : BitVec 32 := 4#32
  let v455 : BitVec 32 := Scalar.muli arg13 c4_i32_162
  let c0_i32_163 : BitVec 32 := 0#32
  let v456 : BitVec 32 := Scalar.addi v455 c0_i32_163
  let v457 : BitVec 32 := Scalar.subi c31_i32 v456
  let c64_i32_164 : BitVec 32 := 64#32
  let v459 : BitVec 32 := Scalar.muli v457 c64_i32_164
  v459
def k0_off2 (k0_t1 : Fin k0_t1_loop.trips) (c0_i32_163 : BitVec 32) : Fin 3 → Nat :=
  let c0_165 : Index := 0#32
  let c31_i32 : BitVec 32 := 31#32
  let c0_i32 : BitVec 32 := 0#32
  let c1_i32 : BitVec 32 := 1#32
  let arg13 : BitVec 32 := Scf.iv c0_i32 c1_i32 k0_t1
  let c4_i32_162 : BitVec 32 := 4#32
  let v455 : BitVec 32 := Scalar.muli arg13 c4_i32_162
  let v456 : BitVec 32 := Scalar.addi v455 c0_i32_163
  let v457 : BitVec 32 := Scalar.subi c31_i32 v456
  let c64_i32_164 : BitVec 32 := 64#32
  let v459 : BitVec 32 := Scalar.muli v457 c64_i32_164
  let v460 : BitVec 32 := v459
  let v461 : Index := Scalar.indexCast v460
  let c0_166 : Index := 0#32
  ![0, v461.toNat, 0]
def k0_mult6 (k0_t1 : Fin k0_t1_loop.trips) : BitVec 32 :=
  let c31_i32_196 : BitVec 32 := 31#32
  let c0_i32 : BitVec 32 := 0#32
  let c1_i32 : BitVec 32 := 1#32
  let arg13 : BitVec 32 := Scf.iv c0_i32 c1_i32 k0_t1
  let c4_i32_194 : BitVec 32 := 4#32
  let v558 : BitVec 32 := Scalar.muli arg13 c4_i32_194
  let c1_i32_195 : BitVec 32 := 1#32
  let v559 : BitVec 32 := Scalar.addi v558 c1_i32_195
  let v560 : BitVec 32 := Scalar.subi c31_i32_196 v559
  let c64_i32_197 : BitVec 32 := 64#32
  let v562 : BitVec 32 := Scalar.muli v560 c64_i32_197
  v562
def k0_mult7 (k0_t1 : Fin k0_t1_loop.trips) : BitVec 32 :=
  let c31_i32_233 : BitVec 32 := 31#32
  let c0_i32 : BitVec 32 := 0#32
  let c1_i32 : BitVec 32 := 1#32
  let arg13 : BitVec 32 := Scf.iv c0_i32 c1_i32 k0_t1
  let c4_i32_231 : BitVec 32 := 4#32
  let v661 : BitVec 32 := Scalar.muli arg13 c4_i32_231
  let c2_i32_232 : BitVec 32 := 2#32
  let v662 : BitVec 32 := Scalar.addi v661 c2_i32_232
  let v663 : BitVec 32 := Scalar.subi c31_i32_233 v662
  let c64_i32_234 : BitVec 32 := 64#32
  let v665 : BitVec 32 := Scalar.muli v663 c64_i32_234
  v665
def k0_mult8 (k0_t1 : Fin k0_t1_loop.trips) : BitVec 32 :=
  let c31_i32_270 : BitVec 32 := 31#32
  let c0_i32 : BitVec 32 := 0#32
  let c1_i32 : BitVec 32 := 1#32
  let arg13 : BitVec 32 := Scf.iv c0_i32 c1_i32 k0_t1
  let c4_i32_268 : BitVec 32 := 4#32
  let v764 : BitVec 32 := Scalar.muli arg13 c4_i32_268
  let c3_i32_269 : BitVec 32 := 3#32
  let v765 : BitVec 32 := Scalar.addi v764 c3_i32_269
  let v766 : BitVec 32 := Scalar.subi c31_i32_270 v765
  let c64_i32_271 : BitVec 32 := 64#32
  let v768 : BitVec 32 := Scalar.muli v766 c64_i32_271
  v768
def k0_off3 (k0_t1 : Fin k0_t1_loop.trips) (c0_i32_25 : BitVec 32) : Fin 2 → Nat :=
  let c0_i32 : BitVec 32 := 0#32
  let c1_i32 : BitVec 32 := 1#32
  let arg13 : BitVec 32 := Scf.iv c0_i32 c1_i32 k0_t1
  let c4_i32 : BitVec 32 := 4#32
  let v47 : BitVec 32 := Scalar.muli arg13 c4_i32
  let v48 : BitVec 32 := Scalar.addi v47 c0_i32_25
  let c64_i32 : BitVec 32 := 64#32
  let v50 : BitVec 32 := Scalar.muli v48 c64_i32
  let v51 : BitVec 32 := v50
  let v918 : Index := Scalar.indexCast v51
  let c0_338 : Index := 0#32
  ![v918.toNat, 0]
def k0_off4 (k0_t1 : Fin k0_t1_loop.trips) (c0_i32_163 : BitVec 32) : Fin 2 → Nat :=
  let c31_i32 : BitVec 32 := 31#32
  let c0_i32 : BitVec 32 := 0#32
  let c1_i32 : BitVec 32 := 1#32
  let arg13 : BitVec 32 := Scf.iv c0_i32 c1_i32 k0_t1
  let c4_i32_162 : BitVec 32 := 4#32
  let v455 : BitVec 32 := Scalar.muli arg13 c4_i32_162
  let v456 : BitVec 32 := Scalar.addi v455 c0_i32_163
  let v457 : BitVec 32 := Scalar.subi c31_i32 v456
  let c64_i32_164 : BitVec 32 := 64#32
  let v459 : BitVec 32 := Scalar.muli v457 c64_i32_164
  let v460 : BitVec 32 := v459
  let v958 : Index := Scalar.indexCast v460
  let c0_346 : Index := 0#32
  ![v958.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![c4_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceHgfIdeal.lean ====
abbrev S2x2048x8192 : Shape := ⟨3, ![2, 2048, 8192]⟩
abbrev S2x2x1024 : Shape := ⟨3, ![2, 2, 1024]⟩
abbrev S1024 : Shape := ⟨1, ![1024]⟩
abbrev S2x2048x1024 : Shape := ⟨3, ![2, 2048, 1024]⟩
abbrev S_ : Shape := ⟨0, ![]⟩
abbrev S2x1024 : Shape := ⟨2, ![2, 1024]⟩
abbrev S2x1x1024 : Shape := ⟨3, ![2, 1, 1024]⟩
abbrev S2x2048x8x128 : Shape := ⟨4, ![2, 2048, 8, 128]⟩
abbrev S2x8x2048x128 : Shape := ⟨4, ![2, 8, 2048, 128]⟩
abbrev S1x1024 : Shape := ⟨2, ![1, 1024]⟩
abbrev S1x1x1024 : Shape := ⟨3, ![1, 1, 1024]⟩
abbrev S2x8x2048x1x128 : Shape := ⟨5, ![2, 8, 2048, 1, 128]⟩
abbrev S2x8x1x2048x128 : Shape := ⟨5, ![2, 8, 1, 2048, 128]⟩
abbrev S2x8x2048x2048x128 : Shape := ⟨5, ![2, 8, 2048, 2048, 128]⟩
abbrev S2x8x2048x2048 : Shape := ⟨4, ![2, 8, 2048, 2048]⟩
abbrev S2048x2048 : Shape := ⟨2, ![2048, 2048]⟩
abbrev S4096x1024 : Shape := ⟨2, ![4096, 1024]⟩
abbrev S2x8x2048 : Shape := ⟨3, ![2, 8, 2048]⟩
abbrev S2x8x2048x1 : Shape := ⟨4, ![2, 8, 2048, 1]⟩

abbrev nBuf : Space → Nat
  | .hbm => 196
  | .vmem => 0
  | .smem => 0
  | _ => 0

abbrev hbmTy0_0 (i : Nat) : BufTy := match i % 128 with
  | 0 => ⟨S2x2048x8192, .f32⟩
  | 1 => ⟨S2x2x1024, .f32⟩
  | 2 => ⟨S1024, .f32⟩
  | 3 => ⟨S2x2048x1024, .f32⟩
  | 4 => ⟨S2x2048x1024, .f32⟩
  | 5 => ⟨S2x2048x1024, .f32⟩
  | 6 => ⟨S2x2048x1024, .f32⟩
  | 7 => ⟨S2x2048x1024, .f32⟩
  | 8 => ⟨S_, .f32⟩
  | 9 => ⟨S2x1024, .f32⟩
  | 10 => ⟨S_, .f32⟩
  | 11 => ⟨S2x1024, .f32⟩
  | 12 => ⟨S2x1024, .f32⟩
  | 13 => ⟨S2x1x1024, .f32⟩
  | 14 => ⟨S2x2x1024, .f32⟩
  | 15 => ⟨S2x2x1024, .f32⟩
  | 16 => ⟨S2x2x1024, .f32⟩
  | 17 => ⟨S_, .f32⟩
  | 18 => ⟨S2x1024, .f32⟩
  | 19 => ⟨S2x1x1024, .f32⟩
  | 20 => ⟨S2x2x1024, .f32⟩
  | 21 => ⟨S2x2x1024, .f32⟩
  | 22 => ⟨S2x1x1024, .f32⟩
  | 23 => ⟨S2x1024, .f32⟩
  | 24 => ⟨S2x2048x1024, .f32⟩
  | 25 => ⟨S2x2048x1024, .f32⟩
  | 26 => ⟨S_, .f32⟩
  | 27 => ⟨S2x2048x1024, .f32⟩
  | 28 => ⟨S2x2048x1024, .f32⟩
  | 29 => ⟨S_, .f32⟩
  | 30 => ⟨S2x2048x1024, .f32⟩
  | 31 => ⟨S2x2048x1024, .f32⟩
  | 32 => ⟨S2x2048x1024, .f32⟩
  | 33 => ⟨S2x2048x8x128, .f32⟩
  | 34 => ⟨S2x8x2048x128, .f32⟩
  | 35 => ⟨S2x2048x8x128, .f32⟩
  | 36 => ⟨S2x8x2048x128, .f32⟩
  | 37 => ⟨S1x1024, .f32⟩
  | 38 => ⟨S1024, .f32⟩
  | 39 => ⟨S1x1024, .f32⟩
  | 40 => ⟨S1024, .f32⟩
  | 41 => ⟨S_, .f32⟩
  | 42 => ⟨S1024, .f32⟩
  | 43 => ⟨S1024, .f32⟩
  | 44 => ⟨S2x2048x1024, .f32⟩
  | 45 => ⟨S2x2048x1024, .f32⟩
  | 46 => ⟨S_, .f32⟩
  | 47 => ⟨S2x2048x1024, .f32⟩
  | 48 => ⟨S2x2048x1024, .f32⟩
  | 49 => ⟨S_, .f32⟩
  | 50 => ⟨S2x2048x1024, .f32⟩
  | 51 => ⟨S2x2048x1024, .f32⟩
  | 52 => ⟨S1x1x1024, .f32⟩
  | 53 => ⟨S2x2048x1024, .f32⟩
  | 54 => ⟨S2x2048x1024, .f32⟩
  | 55 => ⟨S1x1x1024, .f32⟩
  | 56 => ⟨S2x2048x1024, .f32⟩
  | 57 => ⟨S2x2048x1024, .f32⟩
  | 58 => ⟨S2x2048x8x128, .f32⟩
  | 59 => ⟨S2x8x2048x128, .f32⟩
  | 60 => ⟨S1x1024, .f32⟩
  | 61 => ⟨S1024, .f32⟩
  | 62 => ⟨S1x1024, .f32⟩
  | 63 => ⟨S1024, .f32⟩
  | 64 => ⟨S_, .f32⟩
  | 65 => ⟨S1024, .f32⟩
  | 66 => ⟨S1024, .f32⟩
  | 67 => ⟨S2x2048x1024, .f32⟩
  | 68 => ⟨S2x2048x1024, .f32⟩
  | 69 => ⟨S_, .f32⟩
  | 70 => ⟨S2x2048x1024, .f32⟩
  | 71 => ⟨S2x2048x1024, .f32⟩
  | 72 => ⟨S_, .f32⟩
  | 73 => ⟨S2x2048x1024, .f32⟩
  | 74 => ⟨S2x2048x1024, .f32⟩
  | 75 => ⟨S1x1x1024, .f32⟩
  | 76 => ⟨S2x2048x1024, .f32⟩
  | 77 => ⟨S2x2048x1024, .f32⟩
  | 78 => ⟨S1x1x1024, .f32⟩
  | 79 => ⟨S2x2048x1024, .f32⟩
  | 80 => ⟨S2x2048x1024, .f32⟩
  | 81 => ⟨S2x2048x8x128, .f32⟩
  | 82 => ⟨S2x8x2048x128, .f32⟩
  | 83 => ⟨S_, .f32⟩
  | 84 => ⟨S2x8x2048x128, .f32⟩
  | 85 => ⟨S2x8x2048x128, .f32⟩
  | 86 => ⟨S2x8x2048x128, .f32⟩
  | 87 => ⟨S_, .f32⟩
  | 88 => ⟨S_, .f32⟩
  | 89 => ⟨S2x8x2048x128, .f32⟩
  | 90 => ⟨S2x8x2048x1x128, .f32⟩
  | 91 => ⟨S2x8x1x2048x128, .f32⟩
  | 92 => ⟨S2x8x2048x2048x128, .f32⟩
  | 93 => ⟨S2x8x2048x2048x128, .f32⟩
  | 94 => ⟨S2x8x2048x2048x128, .f32⟩
  | 95 => ⟨S2x8x2048x2048x128, .f32⟩
  | 96 => ⟨S2x8x2048x1x128, .f32⟩
  | 97 => ⟨S2x8x1x2048x128, .f32⟩
  | 98 => ⟨S2x8x2048x2048x128, .f32⟩
  | 99 => ⟨S2x8x2048x2048x128, .f32⟩
  | 100 => ⟨S2x8x2048x2048x128, .f32⟩
  | 101 => ⟨S2x8x2048x2048x128, .f32⟩
  | 102 => ⟨S_, .f32⟩
  | 103 => ⟨S2x8x2048x2048, .f32⟩
  | 104 => ⟨S_, .i1⟩
  | 105 => ⟨S2048x2048, .i1⟩
  | 106 => ⟨S2048x2048, .i32⟩
  | 107 => ⟨S_, .i32⟩
  | 108 => ⟨S2048x2048, .i32⟩
  | 109 => ⟨S2048x2048, .i32⟩
  | 110 => ⟨S2048x2048, .i32⟩
  | 111 => ⟨S2048x2048, .i1⟩
  | 112 => ⟨S_, .i1⟩
  | 113 => ⟨S2048x2048, .i1⟩
  | 114 => ⟨S2048x2048, .i1⟩
  | 115 => ⟨S_, .f32⟩
  | 116 => ⟨S_, .f32⟩
  | 117 => ⟨S2x8x2048x2048, .i1⟩
  | 118 => ⟨S2x8x2048x2048, .f32⟩
  | 119 => ⟨S2x8x2048x2048, .f32⟩
  | 120 => ⟨S2x8x2048x128, .f32⟩
  | 121 => ⟨S2x8x2048x128, .f32⟩
  | 122 => ⟨S2x8x2048x128, .f32⟩
  | 123 => ⟨S2x8x2048x128, .f32⟩
  | 124 => ⟨S_, .f32⟩
  | 125 => ⟨S2x8x2048x128, .f32⟩
  | 126 => ⟨S2x8x2048x128, .f32⟩
  | 127 => ⟨S2x8x2048x128, .f32⟩
  | _ => ⟨S2x2048x8192, .f32⟩

abbrev hbmTy0_1 (i : Nat) : BufTy := match i % 128 with
  | 0 => ⟨S_, .f32⟩
  | 1 => ⟨S_, .f32⟩
  | 2 => ⟨S2x8x2048x128, .f32⟩
  | 3 => ⟨S2x8x2048x1x128, .f32⟩
  | 4 => ⟨S2x8x1x2048x128, .f32⟩
  | 5 => ⟨S2x8x2048x2048x128, .f32⟩
  | 6 => ⟨S2x8x2048x2048x128, .f32⟩
  | 7 => ⟨S2x8x2048x2048x128, .f32⟩
  | 8 => ⟨S2x8x2048x2048x128, .f32⟩
  | 9 => ⟨S2x8x2048x1x128, .f32⟩
  | 10 => ⟨S2x8x1x2048x128, .f32⟩
  | 11 => ⟨S2x8x2048x2048x128, .f32⟩
  | 12 => ⟨S2x8x2048x2048x128, .f32⟩
  | 13 => ⟨S2x8x2048x2048x128, .f32⟩
  | 14 => ⟨S2x8x2048x2048x128, .f32⟩
  | 15 => ⟨S_, .f32⟩
  | 16 => ⟨S2x8x2048x2048, .f32⟩
  | 17 => ⟨S_, .i1⟩
  | 18 => ⟨S2048x2048, .i1⟩
  | 19 => ⟨S2048x2048, .i32⟩
  | 20 => ⟨S_, .i32⟩
  | 21 => ⟨S2048x2048, .i32⟩
  | 22 => ⟨S2048x2048, .i32⟩
  | 23 => ⟨S2048x2048, .i32⟩
  | 24 => ⟨S2048x2048, .i1⟩
  | 25 => ⟨S_, .i1⟩
  | 26 => ⟨S2048x2048, .i1⟩
  | 27 => ⟨S2048x2048, .i1⟩
  | 28 => ⟨S_, .f32⟩
  | 29 => ⟨S_, .f32⟩
  | 30 => ⟨S2x8x2048x2048, .i1⟩
  | 31 => ⟨S2x8x2048x2048, .f32⟩
  | 32 => ⟨S2x8x2048x2048, .f32⟩
  | 33 => ⟨S2x8x2048x128, .f32⟩
  | 34 => ⟨S2x8x2048x128, .f32⟩
  | 35 => ⟨S2x8x2048x128, .f32⟩
  | 36 => ⟨S2x2048x8x128, .f32⟩
  | 37 => ⟨S4096x1024, .f32⟩
  | 38 => ⟨S2x8x2048x128, .f32⟩
  | 39 => ⟨S_, .f32⟩
  | 40 => ⟨S2x8x2048, .f32⟩
  | 41 => ⟨S2x8x2048x1, .f32⟩
  | 42 => ⟨S_, .f32⟩
  | 43 => ⟨S2x8x2048x1, .f32⟩
  | 44 => ⟨S2x8x2048x1, .f32⟩
  | 45 => ⟨S_, .f32⟩
  | 46 => ⟨S2x8x2048x1, .f32⟩
  | 47 => ⟨S2x8x2048x1, .f32⟩
  | 48 => ⟨S2x8x2048x1, .f32⟩
  | 49 => ⟨S2x8x2048x128, .f32⟩
  | 50 => ⟨S2x8x2048x128, .f32⟩
  | 51 => ⟨S2x2048x8x128, .f32⟩
  | 52 => ⟨S2x2048x1024, .f32⟩
  | 53 => ⟨S1x1x1024, .f32⟩
  | 54 => ⟨S2x2048x1024, .f32⟩
  | 55 => ⟨S2x2048x1024, .f32⟩
  | 56 => ⟨S2x2048x1024, .f32⟩
  | 57 => ⟨S2x2048x1024, .f32⟩
  | 58 => ⟨S_, .f32⟩
  | 59 => ⟨S2x2048x1024, .f32⟩
  | 60 => ⟨S2x2048x1024, .f32⟩
  | 61 => ⟨S_, .f32⟩
  | 62 => ⟨S2x2048x1024, .f32⟩
  | 63 => ⟨S2x2048x1024, .f32⟩
  | 64 => ⟨S2x2048x1024, .f32⟩
  | 65 => ⟨S2x2048x1024, .f32⟩
  | 66 => ⟨S4096x1024, .f32⟩
  | 67 => ⟨S4096x1024, .bf16⟩
  | _ => ⟨S2x2048x8192, .f32⟩

abbrev hbmTy (i : Nat) : BufTy := match i / 128 with
  | 0 => hbmTy0_0 i
  | 1 => hbmTy0_1 i
  | _ => ⟨S2x2048x8192, .f32⟩

abbrev bufTy : (tb : Table) → Fin (tcTables nBuf tb) → BufTy
  | .hbm, ⟨i, _⟩ => hbmTy i
  | _, _ => ⟨S2x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_call1_call0_cst : Ref sig .tc := ⟨.hbm, 87, rfl⟩
abbrev main_call1_call0_v0 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_9 : Ref sig .tc := ⟨.hbm, 102, rfl⟩
abbrev main_v79 : Ref sig .tc := ⟨.hbm, 103, rfl⟩
abbrev main_c : Ref sig .tc := ⟨.hbm, 104, rfl⟩
abbrev main_v80 : Ref sig .tc := ⟨.hbm, 105, rfl⟩
abbrev main_call2_v0 : Ref sig .tc := ⟨.hbm, 106, rfl⟩
abbrev main_call2_c : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_c_0 : Ref sig .tc := ⟨.hbm, 112, rfl⟩
abbrev main_call2_v5 : Ref sig .tc := ⟨.hbm, 113, rfl⟩
abbrev main_v81 : Ref sig .tc := ⟨.hbm, 114, rfl⟩
abbrev main_cst_10 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_11 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_call4_call0_cst : Ref sig .tc := ⟨.hbm, 128, rfl⟩
abbrev main_call4_call0_v0 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_12 : Ref sig .tc := ⟨.hbm, 143, rfl⟩
abbrev main_v103 : Ref sig .tc := ⟨.hbm, 144, rfl⟩
abbrev main_c_13 : Ref sig .tc := ⟨.hbm, 145, rfl⟩
abbrev main_v104 : Ref sig .tc := ⟨.hbm, 146, rfl⟩
abbrev main_call5_v0 : Ref sig .tc := ⟨.hbm, 147, rfl⟩
abbrev main_call5_c : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_c_0 : Ref sig .tc := ⟨.hbm, 153, rfl⟩
abbrev main_call5_v5 : Ref sig .tc := ⟨.hbm, 154, rfl⟩
abbrev main_v105 : Ref sig .tc := ⟨.hbm, 155, rfl⟩
abbrev main_cst_14 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_15 : Ref sig .tc := ⟨.hbm, 167, rfl⟩
abbrev main_v113 : Ref sig .tc := ⟨.hbm, 168, rfl⟩
abbrev main_v114 : Ref sig .tc := ⟨.hbm, 169, rfl⟩
abbrev main_cst_16 : Ref sig .tc := ⟨.hbm, 170, rfl⟩
abbrev main_v115 : Ref sig .tc := ⟨.hbm, 171, rfl⟩
abbrev main_v116 : Ref sig .tc := ⟨.hbm, 172, rfl⟩
abbrev main_cst_17 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_call7_v0 : Ref sig .tc := ⟨.hbm, 184, rfl⟩
abbrev main_call7_v1 : Ref sig .tc := ⟨.hbm, 185, rfl⟩
abbrev main_call7_cst : Ref sig .tc := ⟨.hbm, 186, rfl⟩
abbrev main_call7_v2 : Ref sig .tc := ⟨.hbm, 187, rfl⟩
abbrev main_call7_v3 : Ref sig .tc := ⟨.hbm, 188, rfl⟩
abbrev main_call7_cst_0 : Ref sig .tc := ⟨.hbm, 189, rfl⟩
abbrev main_call7_v4 : Ref sig .tc := ⟨.hbm, 190, rfl⟩
abbrev main_call7_v5 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩

abbrev nD : Nat := 1
abbrev τ : Topo := Topo.v7x

variable {F : FTy → Type} [FloatOps F]
-- ==== KernelAdam.lean ====
abbrev S1024x2048 : Shape := ⟨2, ![1024, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelDy.lean ====
abbrev S2x2048x1024 : Shape := ⟨3, ![2, 2048, 1024]⟩
abbrev S1024x1024 : Shape := ⟨2, ![1024, 1024]⟩
abbrev S4096x1024 : Shape := ⟨2, ![4096, 1024]⟩
abbrev S1x4096x1024 : Shape := ⟨3, ![1, 4096, 1024]⟩
abbrev S2x4096x1024 : Shape := ⟨3, ![2, 4096, 1024]⟩
abbrev S1x512x1024 : Shape := ⟨3, ![1, 512, 1024]⟩
abbrev S512x1024 : Shape := ⟨2, ![512, 1024]⟩

abbrev nBuf : Space → Nat
  | .hbm => 11
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S1x4096x1024, .f32⟩
  | .hbm, ⟨6, _⟩ => ⟨S1x4096x1024, .f32⟩
  | .hbm, ⟨7, _⟩ => ⟨S2x4096x1024, .f32⟩
  | .hbm, ⟨8, _⟩ => ⟨S2x4096x1024, .bf16⟩
  | .hbm, ⟨9, _⟩ => ⟨S1024x1024, .bf16⟩
  | .hbm, ⟨10, _⟩ => ⟨S4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceDyIdeal.lean ====
abbrev S2x2048x1024 : Shape := ⟨3, ![2, 2048, 1024]⟩
abbrev S1024x1024 : Shape := ⟨2, ![1024, 1024]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024x1024, .f32⟩
  | .hbm, ⟨3, _⟩ => ⟨S_, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S4096x1024, .f32⟩
  | .hbm, ⟨8, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelDw.lean ====
abbrev S2x2048x1024 : Shape := ⟨3, ![2, 2048, 1024]⟩
abbrev S2x2048x2816 : Shape := ⟨3, ![2, 2048, 2816]⟩
abbrev S4096x1024 : Shape := ⟨2, ![4096, 1024]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 12
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S4096x1024, .f32⟩
  | .hbm, ⟨4, _⟩ => ⟨S4096x1024, .bf16⟩
  | .hbm, ⟨5, _⟩ => ⟨S4096x2816, .f32⟩
  | .hbm, ⟨6, _⟩ => ⟨S4096x2816, .f32⟩
  | .hbm, ⟨7, _⟩ => ⟨S1x4096x2816, .f32⟩
  | .hbm, ⟨8, _⟩ => ⟨S1x4096x2816, .f32⟩
  | .hbm, ⟨9, _⟩ => ⟨S2x4096x2816, .f32⟩
  | .hbm, ⟨10, _⟩ => ⟨S2x4096x2816, .bf16⟩
  | .hbm, ⟨11, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceDwIdeal.lean ====
abbrev S2x2048x1024 : Shape := ⟨3, ![2, 2048, 1024]⟩
abbrev S2x2048x2816 : Shape := ⟨3, ![2, 2048, 2816]⟩
abbrev S_ : Shape := ⟨0, ![]⟩
abbrev S1024x5632 : Shape := ⟨2, ![1024, 5632]⟩
abbrev S2x2048x5632 : Shape := ⟨3, ![2, 2048, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 18
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S2x2048x2816, .f32⟩
  | .hbm, ⟨3, _⟩ => ⟨S_, .f32⟩
  | .hbm, ⟨4, _⟩ => ⟨S1024x5632, .f32⟩
  | .hbm, ⟨5, _⟩ => ⟨S2x2048x5632, .f32⟩
  | .hbm, ⟨6, _⟩ => ⟨S2x2048x5632, .f32⟩
  | .hbm, ⟨7, _⟩ => ⟨S5632x1024, .f32⟩
  | .hbm, ⟨8, _⟩ => ⟨S1024x5632, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S1x1024x1408, .f32⟩
  | .hbm, ⟨17, _⟩ => ⟨S4x1024x1408, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== KernelPsum.lean ====
abbrev S4x1024x2048 : Shape := ⟨3, ![4, 1024, 2048]⟩
abbrev S4x512x2048 : Shape := ⟨3, ![4, 512, 2048]⟩
abbrev S2 : Shape := ⟨1, ![2]⟩
abbrev S1x256x2048 : Shape := ⟨3, ![1, 256, 2048]⟩
abbrev S1 : Shape := ⟨1, ![1]⟩
abbrev S256x2048 : Shape := ⟨2, ![256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x1024x2048, .f32⟩
  | .hbm, ⟨1, _⟩ => ⟨S4x512x2048, .f32⟩
  | .hbm, ⟨2, _⟩ => ⟨S4x512x2048, .bf16⟩
  | .hbm, ⟨3, _⟩ => ⟨S4x512x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S2, .i32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c2_i32 : BitVec 32 := 2#32
  let v1 : BitVec 32 := Scalar.muli v0 c2_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePsumIdeal.lean ====
abbrev S4x1024x2048 : Shape := ⟨3, ![4, 1024, 2048]⟩
abbrev S4x512x2048 : Shape := ⟨3, ![4, 512, 2048]⟩
abbrev S2 : Shape := ⟨1, ![2]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x512x2048, .f32⟩
  | .hbm, ⟨2, _⟩ => ⟨S2, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x512x2048, .f32⟩
  | .hbm, ⟨8, _⟩ => ⟨S4x512x2048, .f32⟩
  | .hbm, ⟨9, _⟩ => ⟨S4x512x2048, .f32⟩
  | .hbm, ⟨10, _⟩ => ⟨S4x512x2048, .bf16⟩
  | .hbm, ⟨11, _⟩ => ⟨S4x512x2048, .f32⟩
  | .hbm, ⟨12, _⟩ => ⟨S4x512x2048, .f32⟩
  | .hbm, ⟨13, _⟩ => ⟨S4x512x2048, .bf16⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelSlot.lean ====
abbrev S1024x2048 : Shape := ⟨2, ![1024, 2048]⟩
abbrev S2 : Shape := ⟨1, ![2]⟩
abbrev S4x1024x2048 : Shape := ⟨3, ![4, 1024, 2048]⟩
abbrev S256x2048 : Shape := ⟨2, ![256, 2048]⟩
abbrev S1x256x2048 : Shape := ⟨3, ![1, 256, 2048]⟩
abbrev S1 : Shape := ⟨1, ![1]⟩

abbrev nBuf : Space → Nat
  | .hbm => 2
  | .vmem => 4
  | .smem => 1
  | _ => 0

abbrev bufTy : (tb : Table) → Fin (tcTables nBuf tb) → BufTy
  | .hbm, ⟨0, _⟩ => ⟨S1024x2048, .f32⟩
  | .hbm, ⟨1, _⟩ => ⟨S4x1024x2048, .bf16⟩
  | .local _ .vmem, ⟨0, _⟩ => ⟨S256x2048, .f32⟩
  | .local _ .vmem, ⟨1, _⟩ => ⟨S256x2048, .f32⟩
  | .local _ .vmem, ⟨2, _⟩ => ⟨S1x256x2048, .bf16⟩
  | .local _ .vmem, ⟨3, _⟩ => ⟨S1x256x2048, .bf16⟩
  | .local _ .smem, ⟨0, _⟩ => ⟨S2, .i32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceSlotIdeal.lean ====
abbrev S1024x2048 : Shape := ⟨2, ![1024, 2048]⟩
abbrev S2 : Shape := ⟨1, ![2]⟩
abbrev S4 : Shape := ⟨1, ![4]⟩
abbrev S1 : Shape := ⟨1, ![1]⟩
abbrev S_ : Shape := ⟨0, ![]⟩
abbrev S4x1x1 : Shape := ⟨3, ![4, 1, 1]⟩
abbrev S1x1024x2048 : Shape := ⟨3, ![1, 1024, 2048]⟩
abbrev S4x1024x2048 : Shape := ⟨3, ![4, 1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2, .i32⟩
  | .hbm, ⟨2, _⟩ => ⟨S4, .i32⟩
  | .hbm, ⟨3, _⟩ => ⟨S1, .i32⟩
  | .hbm, ⟨4, _⟩ => ⟨S_, .i32⟩
  | .hbm, ⟨5, _⟩ => ⟨S4, .i32⟩
  | .hbm, ⟨6, _⟩ => ⟨S4, .i1⟩
  | .hbm, ⟨7, _⟩ => ⟨S4x1x1, .i1⟩
  | .hbm, ⟨8, _⟩ => ⟨S1x1024x2048, .f32⟩
  | .hbm, ⟨9, _⟩ => ⟨S_, .f32⟩
  | .hbm, ⟨10, _⟩ => ⟨S_, .f32⟩
  | .hbm, ⟨11, _⟩ => ⟨S4x1024x2048, .i1⟩
  | .hbm, ⟨12, _⟩ => ⟨S4x1024x2048, .f32⟩
  | .hbm, ⟨13, _⟩ => ⟨S4x1024x2048, .f32⟩
  | .hbm, ⟨14, _⟩ => ⟨S4x1024x2048, .f32⟩
  | .hbm, ⟨15, _⟩ => ⟨S4x1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Proof.Finite.lean ====
/-
  FINITE ARGUMENTS. The preconditions of the gradient claims say `all(|x| < inf)` of each argument array. Over the
  extended reals that is: every element is a real number. This module reads the printed predicate so, and gives the few
  facts about extended reals that the value proofs use.
-/
module

public import Idealize.ShloMosaic.Lib.Pointwise
public import Idealize.ShloMosaic.Lib.ReduceAll

@[expose] public section

noncomputable section

namespace Cert.Finite

open Idealize.ShloMosaic

/-- Every element of the array is a real number. -/
def Real {ι : Type} (x : ι → EReal) : Prop := ∀ i, ∃ r : ℝ, x i = (r : EReal)

/-- A value below `+∞` in absolute value is a real number. -/
theorem real_of_abs_lt_top {x : EReal} (h : max x (-x) < ⊤) : ∃ r : ℝ, x = (r : EReal) := by
  induction x using EReal.rec with
  | bot => simp at h
  | top => simp at h
  | coe r => exact ⟨r, rfl⟩

/-- The float word of `+∞`. -/
theorem ofBits_inf : Ideal.ofBits .f32 0x7F800000#32 = ⊤ := by simp [Ideal.ofBits, Ideal.ieee]

abbrev S_ : Shape := ⟨0, ![]⟩

instance : Subsingleton S_.Idx := ⟨fun a b => funext fun k => nomatch k⟩

/-- `all(|x| < inf)`, as printed, says that every element of `x` is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
      (constantI S_ 1 1#1) hr hu = fun _ => 1#1) : Real x := by
  intro i
  have hi := Host.reduce_andi_all _ _ hr hu (fun k => nomatch k) (congrFun h _) i
  refine real_of_abs_lt_top ?_
  have e : cmpf .olt (Host.absf x) (broadcastInDim s ![] hb (constant S_ .f32 0x7F800000#32)) i
      = BitVec.ofBool (decide (max (x i) (-(x i)) < Ideal.ofBits .f32 0x7F800000#32)) := rfl
  rw [e, ofBits_inf] at hi
  by_contra hn
  rw [decide_eq_false hn] at hi
  exact absurd hi (by decide)

/-- Two printed truth values joined by `and` are both true. -/
theorem andi_split {a b : IVec S_ 1} (h : andi a b = fun _ => 1#1) : (a = fun _ => 1#1) ∧ (b = fun _ => 1#1) := by
  have e : ∀ j, IntOp.andi (a j) (b j) = 1#1 := fun j => congrFun h j
  exact ⟨funext fun j => (IntOp.andi_eq_one.1 (e j)).1, funext fun j => (IntOp.andi_eq_one.1 (e j)).2⟩

/-- The real array behind a finite one. -/
theorem lift {ι : Type} {x : ι → EReal} (h : Real x) : ∃ r : ι → ℝ, x = fun i => (r i : EReal) :=
  ⟨fun i => (h i).choose, funext fun i => (h i).choose_spec⟩

/-- A sum of real numbers, taken over the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The logistic function of a real number. -/
def sgr (x : ℝ) : ℝ := 1 / (1 + Real.exp (-x))

/-- `1 / (1 + exp (-x))` of a real number, computed over the extended reals. -/
theorem sg_coe (x : ℝ) : Ideal.div 1 (1 + Ideal.exp (-(x : EReal))) = (sgr x : EReal) := by
  rw [← EReal.coe_neg, Ideal.exp_coe, ← EReal.coe_one, ← EReal.coe_add, Ideal.div_coe (by positivity), ← EReal.coe_mul, one_mul]
  rfl

/-- The logistic function of a difference is a share of the two exponentials. -/
theorem sgr_sub (x y M : ℝ) : sgr (x - y) = Real.exp (x - M) / (Real.exp (x - M) + Real.exp (y - M)) := by
  have e : Real.exp (-(x - y)) = Real.exp (y - M) / Real.exp (x - M) := by
    rw [← Real.exp_sub]
    congr 1
    ring
  have hx := Real.exp_pos (x - M)
  have hy := Real.exp_pos (y - M)
  unfold sgr
  rw [e]
  field_simp

end Cert.Finite

end
-- ==== Proof.SwigluValue.lean ====
/-
  THE SwiGLU GRADIENT. `KernelSwigluIdeal` is the fused product of the feed-forward backward pass: per tile it forms
  `da = dh2 · w_ffn_outᵀ` and turns it at once into the gradients of the two halves of the feed-forward input, the gate's
  and the linear one's. `final` reads the kernel's result array as one function of its arguments, element by element.
-/
module

public import proofs.«01_k».proof.Defs
public import proofs.«01_k».proof.Proof.Finite
public import proofs.«01_k».proof.Proof.Gen.KernelSwigluIdeal.Value
public import Idealize.ShloMosaic.Lib.Pipeline.ValueKit
public import Idealize.ShloMosaic.Lib.Claim

@[expose] public section

set_option maxRecDepth 16384

noncomputable section

namespace Cert.Swiglu

open Idealize.ShloMosaic Idealize.ShloMosaic.TcCoe Idealize.SL.Sem
open Idealize.ShloMosaic.Pipeline (Dat)
open Cert.KernelSwigluIdeal Cert.KernelSwigluIdeal.Gen

section Kernel

variable (m : (ℓ : Loc nD τ sig) → Buf (Elt Ideal) ℓ)

/-- One element of `dh2 · w_ffn_outᵀ`: token `r` of the flattened batch, hidden column `l`. -/
def da (dh : FVec Ideal S2x2048x1024 .f32) (w : FVec Ideal S2816x1024 .f32) (r : Fin 4096) (l : Fin 2816) : EReal :=
  ∑ k : Fin 1024, dh (ix3 ⟨r.val / 2048, by omega⟩ ⟨r.val % 2048, by omega⟩ k) * w (ix2 l k)

/-- The logistic function as the kernel writes it. -/
def sg (x : EReal) : EReal := Ideal.div 1 (1 + Ideal.exp (0 - x))

/-- The kernel's result, element by element: half 0 is the gate's gradient, half 1 the linear half's. -/
def G (dh : FVec Ideal S2x2048x1024 .f32) (gu : FVec Ideal S2x2048x5632 .f32) (w : FVec Ideal S2816x1024 .f32)
    (a : Fin 2) (r : Fin 4096) (l : Fin 2816) : EReal :=
  have g := gu (ix3 ⟨r.val / 2048, by omega⟩ ⟨r.val % 2048, by omega⟩ ⟨l.val, by omega⟩)
  have u := gu (ix3 ⟨r.val / 2048, by omega⟩ ⟨r.val % 2048, by omega⟩ ⟨2816 + l.val, by omega⟩)
  if a.val < 1 then da dh w r l * u * sg g * (1 + g * (1 - sg g)) else da dh w r l * g * sg g

theorem idx : ∀ t : Fin cfg0.N, win0_0.index t = ![t.val % 8, 0] ∧ win0_1.index t = ![t.val / 8, 0]
    ∧ win0_2.index t = ![0, t.val % 8, t.val / 8] ∧ win0_3.index t = ![0, t.val % 8, t.val / 8] :=
  (by decide +kernel : ∀ t : Fin grid0.N, _)

/-- The tile of `dh2` at point `t`, over the argument. -/
theorem blk0 (c : Dev nD) (t : Fin cfg0.N) (x : Fin 512) (k : Fin 1024) (r : Fin 4096) (hr : r.val = t.val % 8 * 512 + x.val) :
    iblk m c 0 t (ix2 x k)
      = m ((c : Thread nD τ).loc main_arg0) (ix3 ⟨r.val / 2048, by omega⟩ ⟨r.val % 2048, by omega⟩ k) := by
  blk_point [iblk, V, idx t]

/-- The tile of `w_ffn_out` at point `t`, over the argument. -/
theorem blk1 (c : Dev nD) (t : Fin cfg0.N) (x : Fin 1408) (k : Fin 1024) (l : Fin 2816) (hl : l.val = t.val / 8 * 1408 + x.val) :
    iblk m c 1 t (ix2 x k) = m ((c : Thread nD τ).loc main_arg2) (ix2 l k) := by
  blk_point [iblk, V, idx t]

/-- The gate's tile at point `t`, over the argument. -/
theorem blk2 (c : Dev nD) (t : Fin cfg0.N) (x : Fin 512) (y : Fin 1408) (r : Fin 4096) (hr : r.val = t.val % 8 * 512 + x.val)
    (l : Fin 2816) (hl : l.val = t.val / 8 * 1408 + y.val) :
    iblk m c 2 t (ix3 0 x y)
      = m ((c : Thread nD τ).loc main_arg1) (ix3 ⟨r.val / 2048, by omega⟩ ⟨r.val % 2048, by omega⟩ ⟨l.val, by omega⟩) := by
  have e : ((cfg0.win 2).blk t).view.emb (ix3 0 x y) = ix3 0 r l := by blk_ext! [idx t]
  unfold iblk V
  rw [View.read_apply, e]
  entry_read
  pointwise
  rfl

/-- The linear half's tile at point `t`, over the argument. -/
theorem blk3 (c : Dev nD) (t : Fin cfg0.N) (x : Fin 512) (y : Fin 1408) (r : Fin 4096) (hr : r.val = t.val % 8 * 512 + x.val)
    (l : Fin 2816) (hl : l.val = t.val / 8 * 1408 + y.val) :
    iblk m c 2 t (ix3 1 x y)
      = m ((c : Thread nD τ).loc main_arg1) (ix3 ⟨r.val / 2048, by omega⟩ ⟨r.val % 2048, by omega⟩ ⟨2816 + l.val, by omega⟩) := by
  have e : ((cfg0.win 2).blk t).view.emb (ix3 1 x y) = ix3 1 r l := by blk_ext! [idx t]
  unfold iblk V
  rw [View.read_apply, e]
  entry_read
  pointwise
  rfl

theorem point (c : Dev nD) (t : Fin cfg0.N) (a : Fin 1) (x : Fin 512) (y : Fin 1408) (r : Fin 4096) (hr : r.val = t.val % 8 * 512 + x.val)
    (l : Fin 2816) (hl : l.val = t.val / 8 * 1408 + y.val) :
    k0_pay5 (View.ld (iblk m c 0 t) r0_0) (View.ld (iblk m c 1 t) r0_1) (View.ld (iblk m c 2 t) r0_2) (View.ld (iblk m c 2 t) r0_3) (ix3 a x y)
      = G (m ((c : Thread nD τ).loc main_arg0)) (m ((c : Thread nD τ).loc main_arg1)) (m ((c : Thread nD τ).loc main_arg2)) 0 r l
    ∧ k0_pay1 (k0_pay6 (View.ld (iblk m c 0 t) r0_0) (View.ld (iblk m c 1 t) r0_1) (View.ld (iblk m c 2 t) r0_2)) (ix3 a x y)
      = G (m ((c : Thread nD τ).loc main_arg0)) (m ((c : Thread nD τ).loc main_arg1)) (m ((c : Thread nD τ).loc main_arg2)) 1 r l := by
  constructor <;> pointwise [k0_pay1, k0_pay6, k0_pay5, k0_pay4, k0_pay3, k0_pay2, G, da, sg] <;>
    simp only [blk2 m c t x y r hr l hl, blk3 m c t x y r hr l hl, blk0 m c t x _ r hr, blk1 m c t y _ l hl]

theorem final (c : Dev nD) : (dats m 0 c).arrAt 3 (cfgs 0).N
    = fun j => G (m ((c : Thread nD τ).loc main_arg0)) (m ((c : Thread nD τ).loc main_arg1)) (m ((c : Thread nD τ).loc main_arg2)) (j 0) (j 1) (j 2) := by
  refine (dats m 0 c).arrAt_eq_of_covers 3 _ (by decide +kernel) fun t _ y => ?_
  blk_simp
  rw [after0_3]
  unfold out0_3
  refine View.canon_apply_of_pieces (Val := Elt Ideal) (S := S2x512x1408) (e := .bf16) (fun y => G (m ((c : Thread nD τ).loc main_arg0)) (m ((c : Thread nD τ).loc main_arg1))
    (m ((c : Thread nD τ).loc main_arg2)) (((cfg0.win 3).blk t).view.emb y 0) (((cfg0.win 3).blk t).view.emb y 1) (((cfg0.win 3).blk t).view.emb y 2)) _ ?_ y (cover0_3 _ _ y)
  intro pc hpc
  rcases List.mem_cons.mp hpc with rfl | hpc
  · intro x
    dsimp only
    have h0 : ((cfg0.win 3).blk t).view.emb (r0_3.emb x) 0 = (1 : Fin 2) := Fin.ext (by blk_simp [idx t]; try rfl)
    have h1 : (((cfg0.win 3).blk t).view.emb (r0_3.emb x) 1).val = t.val % 8 * 512 + (x 1).val := by blk_simp [idx t]
    have h2 : (((cfg0.win 3).blk t).view.emb (r0_3.emb x) 2).val = t.val / 8 * 1408 + (x 2).val := by blk_simp [idx t]
    rw [h0]
    exact (congrArg _ (eq_ix3 x)).trans (point m c t _ _ _ _ h1 _ h2).2
  rcases List.mem_cons.mp hpc with rfl | hpc
  · intro x
    dsimp only
    have h0 : ((cfg0.win 3).blk t).view.emb (r0_2.emb x) 0 = (0 : Fin 2) := Fin.ext (by blk_simp [idx t]; try rfl)
    have h1 : (((cfg0.win 3).blk t).view.emb (r0_2.emb x) 1).val = t.val % 8 * 512 + (x 1).val := by blk_simp [idx t]
    have h2 : (((cfg0.win 3).blk t).view.emb (r0_2.emb x) 2).val = t.val / 8 * 1408 + (x 2).val := by blk_simp [idx t]
    rw [h0]
    exact (congrArg _ (eq_ix3 x)).trans (point m c t _ _ _ _ h1 _ h2).1
  nomatch hpc

end Kernel
end Cert.Swiglu
end
-- ==== Proof.Swiglu.lean ====
/-
  THE SwiGLU GRADIENT IS THE DERIVATIVE OF SwiGLU. The reference differentiates `silu (gate) * up` and multiplies the
  cotangent by the weight's transpose; its factors stand in another order, and silu's derivative is written as
  `s + g * (s * (1 - s))` where the kernel has `s * (1 + g * (1 - s))`. Over real numbers the two are equal.
-/
module

public import proofs.«01_k».proof.Proof.SwigluValue
public import proofs.«01_k».proof.Defs
public import proofs.«01_k».proof.Proof.Gen.Pre_finite_swiglu
public import proofs.«01_k».proof.Proof.Gen.ReferenceSwigluIdeal.Run

@[expose] public section

set_option maxRecDepth 16384

noncomputable section

namespace Cert.Swiglu

open Idealize.ShloMosaic Idealize.SL.Sem Cert.Finite

section Reference
open Cert.ReferenceSwigluIdeal Cert.ReferenceSwigluIdeal.Gen Cert.ReferenceSwigluIdeal.Value

/-- The reference's result, at an index, is the kernel's. -/
theorem reference (m : (ℓ : Loc nD τ sig) → Buf (Elt Ideal) ℓ) (c : Dev nD)
    (dh : FVec Ideal S2x2048x1024 .f32) (gu : FVec Ideal S2x2048x5632 .f32) (w : FVec Ideal S2816x1024 .f32)
    (h0 : m ((c.tc : Thread nD τ).loc main_arg0) = dh) (h1 : m ((c.tc : Thread nD τ).loc main_arg1) = gu)
    (h2 : m ((c.tc : Thread nD τ).loc main_arg2) = w) (r0 : Real dh) (r1 : Real gu) (r2 : Real w) :
    res_main_v17 m c = fun j => G dh gu w (j 0) (j 1) (j 2) := by
  obtain ⟨dh, rfl⟩ := lift r0
  obtain ⟨gu, rfl⟩ := lift r1
  obtain ⟨w, rfl⟩ := lift r2
  unfold res_main_v17
  rw [h0, h1, h2]
  funext j
  idx_vars j
  pointwise [fn_main_v9, fn_main_v16, G, da, sg]
  simp only [zero_sub, sg_coe]
  simp only [← EReal.coe_one, ← EReal.coe_mul, coe_sum, ← EReal.coe_sub, ← EReal.coe_add]
  split <;> exact EReal.coe_eq_coe_iff.2 (by ring)

end Reference

/-- The precondition says that every element of the three arguments is a real number. -/
theorem finite [Cert.Pre_finite_swiglu.Facts] {dh : FVec Ideal _ .f32} {gu : FVec Ideal _ .f32} {w : FVec Ideal _ .f32}
    (h : Cert.Pre_finite_swiglu.fn (F := Ideal) dh gu w = fun _ => 1#1) : Real dh ∧ Real gu ∧ Real w := by
  obtain ⟨h, h2⟩ := andi_split h
  obtain ⟨h0, h1⟩ := andi_split h
  exact ⟨real_of_all _ _ _ _ h0, real_of_all _ _ _ _ h1,
    real_of_all _ _ _ _ h2⟩

theorem algebraic : Cert.algebraic_KernelSwigluIdeal_ReferenceSwigluIdeal_pre_finite_swiglu
    (hKernelSwigluIdeal := Cert.KernelSwigluIdeal.Gen.facts) (hReferenceSwigluIdeal := Cert.ReferenceSwigluIdeal.Gen.facts)
    (hPre_finite_swiglu := Cert.Pre_finite_swiglu.Gen.facts) := by
  intro m g m' g' hpre hagree
  refine ⟨fun c => (fun j => G (m (c.tc.loc Cert.KernelSwigluIdeal.main_arg0)) (m (c.tc.loc Cert.KernelSwigluIdeal.main_arg1)) (m (c.tc.loc Cert.KernelSwigluIdeal.main_arg2)) (j 0) (j 1) (j 2)), ?_, ?_⟩
  · refine (θ_run _ _ _).mono (fun r h c => ?_) (Cert.KernelSwigluIdeal.Value.run_blocks m g)
    exact ⟨(h c).1.trans (final m c), (h c).2⟩
  · refine (θ_run _ _ _).mono (fun r h c => ?_) (Cert.ReferenceSwigluIdeal.Value.run m' g')
    obtain ⟨f0, f1, f2⟩ := finite (hpre c)
    exact ⟨(h c).1.trans (reference m' c _ _ _ (hagree c).1 (hagree c).2.1 (hagree c).2.2 f0 f1 f2), (h c).2⟩

end Cert.Swiglu

end
-- ==== Proof.GatesValue.lean ====
/-
  THE MERGE GATES' GRADIENT: THE KERNEL. `KernelGatesIdeal` is the fused product of the mixers' backward pass: per tile of
  tokens it forms `dm = dh1 · w_outᵀ` and turns it at once into the cotangents of the two branches' outputs
  (`dm · σ(gate)`) and of the two gates (`dm · z · σ(gate) · (1 − σ(gate))`). The latter go to segments 6 and 7 of the
  projection's gradient; the other segments are other calls' to write. This module reads both result arrays as functions
  of the arguments, element by element.
-/
module

public import proofs.«01_k».proof.Proof.Finite
public import proofs.«01_k».proof.Proof.Gen.KernelGatesIdeal.Value
public import Idealize.ShloMosaic.Lib.Pipeline.ValueKit
public import Idealize.ShloMosaic.Lib.Claim

@[expose] public section

set_option maxRecDepth 16384

noncomputable section

namespace Cert.Gates

open Idealize.ShloMosaic Idealize.ShloMosaic.TcCoe Idealize.SL.Sem
open Idealize.ShloMosaic.Pipeline (Dat)
open Cert.KernelGatesIdeal Cert.KernelGatesIdeal.Gen

/-- One element of a product with a token array `x` of two sequences: token `r` of the flattened batch. -/
def mul (x : FVec Ideal S2x2048x1024 .f32) (w : Fin 1024 → EReal) (r : Fin 4096) : EReal :=
  ∑ k : Fin 1024, x (ix3 ⟨r.val / 2048, by omega⟩ ⟨r.val % 2048, by omega⟩ k) * w k

/-- The logistic function as the kernel computes it. -/
def sg (x : EReal) : EReal := Ideal.div 1 (1 + Ideal.exp (0 - x))

/-- A gate's logistic function at token `r`, channel `l`. -/
def gate (g : FVec Ideal S2x2048x8192 .f32) (s : Fin 2) (r : Fin 4096) (l : Fin 1024) : EReal :=
  sg (g (ix3 ⟨r.val / 2048, by omega⟩ ⟨r.val % 2048, by omega⟩ ⟨6144 + 1024 * s.val + l.val, by omega⟩))

/-- The cotangent of branch `s`'s output. -/
def dz (dh : FVec Ideal S2x2048x1024 .f32) (g : FVec Ideal S2x2048x8192 .f32) (wo : FVec Ideal S1024x1024 .f32)
    (s : Fin 2) (r : Fin 4096) (l : Fin 1024) : EReal :=
  mul dh (fun k => wo (ix2 l k)) r * gate g s r l

/-- The cotangent of gate `s`, whose branch is `y · wb`. -/
def dg (dh y : FVec Ideal S2x2048x1024 .f32) (g : FVec Ideal S2x2048x8192 .f32) (wb wo : FVec Ideal S1024x1024 .f32)
    (s : Fin 2) (r : Fin 4096) (l : Fin 1024) : EReal :=
  mul dh (fun k => wo (ix2 l k)) r * mul y (fun k => wb (ix2 k l)) r * gate g s r l * (1 - gate g s r l)

/-- The gates' cotangents in the projection's gradient: segments 6 and 7. -/
def dseg (dh ya yb : FVec Ideal S2x2048x1024 .f32) (g : FVec Ideal S2x2048x8192 .f32) (wa wb wo : FVec Ideal S1024x1024 .f32)
    (s : Fin 8) (r : Fin 4096) (l : Fin 1024) : EReal :=
  if s.val < 7 then dg dh ya g wa wo 0 r l else dg dh yb g wb wo 1 r l

section Kernel

variable (m : (ℓ : Loc nD τ sig) → Buf (Elt Ideal) ℓ)

theorem idx : ∀ t : Fin cfg0.N, win0_0.index t = ![t.val, 0] ∧ win0_1.index t = ![0, 0]
    ∧ win0_2.index t = ![6, t.val, 0] ∧ win0_3.index t = ![7, t.val, 0] ∧ win0_4.index t = ![t.val, 0]
    ∧ win0_5.index t = ![t.val, 0] ∧ win0_6.index t = ![0, t.val, 0] ∧ win0_7.index t = ![3, t.val, 0] :=
  (by decide +kernel : ∀ t : Fin grid0.N, _)

/-- The tile of `dh1` at point `t`, over the argument. -/
theorem blk0 (c : Dev nD) (t : Fin cfg0.N) (x : Fin 512) (k : Fin 1024) (r : Fin 4096) (hr : r.val = t.val * 512 + x.val) :
    iblk m c 0 t (ix2 x k)
      = m ((c : Thread nD τ).loc main_arg0) (ix3 ⟨r.val / 2048, by omega⟩ ⟨r.val % 2048, by omega⟩ k) := by
  blk_point [iblk, V, idx t]

/-- The block of `w_out`, over the argument. -/
theorem blk1 (c : Dev nD) (t : Fin cfg0.N) (x : Fin 1024) (k : Fin 1024) :
    iblk m c 1 t (ix2 x k) = m ((c : Thread nD τ).loc main_arg6) (ix2 x k) := by
  blk_point [iblk, V, idx t]

/-- The first gate's tile at point `t`, over the argument. -/
theorem blk2 (c : Dev nD) (t : Fin cfg0.N) (x : Fin 512) (l : Fin 1024) (r : Fin 4096) (hr : r.val = t.val * 512 + x.val) :
    iblk m c 2 t (ix3 0 x l)
      = m ((c : Thread nD τ).loc main_arg3) (ix3 ⟨r.val / 2048, by omega⟩ ⟨r.val % 2048, by omega⟩ ⟨6144 + l.val, by omega⟩) := by
  blk_point [iblk, V, idx t]

/-- The second gate's tile at point `t`, over the argument. -/
theorem blk3 (c : Dev nD) (t : Fin cfg0.N) (x : Fin 512) (l : Fin 1024) (r : Fin 4096) (hr : r.val = t.val * 512 + x.val) :
    iblk m c 3 t (ix3 0 x l)
      = m ((c : Thread nD τ).loc main_arg3) (ix3 ⟨r.val / 2048, by omega⟩ ⟨r.val % 2048, by omega⟩ ⟨7168 + l.val, by omega⟩) := by
  blk_point [iblk, V, idx t]

/-- The first branch's tile at point `t`: the host's product, over the arguments. -/
theorem blk4 (c : Dev nD) (t : Fin cfg0.N) (x : Fin 512) (l : Fin 1024) (r : Fin 4096) (hr : r.val = t.val * 512 + x.val) :
    iblk m c 4 t (ix2 x l) = mul (m ((c : Thread nD τ).loc main_arg1)) (fun k => m ((c : Thread nD τ).loc main_arg4) (ix2 k l)) r := by
  have e : ((cfg0.win 4).blk t).view.emb (ix2 x l) = ix2 r l := by blk_ext! [idx t]
  unfold iblk V
  rw [View.read_apply, e]
  entry_read
  pointwise [mul]
  rfl

/-- The second branch's tile at point `t`: the host's product, over the arguments. -/
theorem blk5 (c : Dev nD) (t : Fin cfg0.N) (x : Fin 512) (l : Fin 1024) (r : Fin 4096) (hr : r.val = t.val * 512 + x.val) :
    iblk m c 5 t (ix2 x l) = mul (m ((c : Thread nD τ).loc main_arg2)) (fun k => m ((c : Thread nD τ).loc main_arg5) (ix2 k l)) r := by
  have e : ((cfg0.win 5).blk t).view.emb (ix2 x l) = ix2 r l := by blk_ext! [idx t]
  unfold iblk V
  rw [View.read_apply, e]
  entry_read
  pointwise [mul]
  rfl

/-- What a point writes to each half of its two output tiles. -/
theorem point (c : Dev nD) (t : Fin cfg0.N) (a : Fin 1) (x : Fin 512) (l : Fin 1024) (r : Fin 4096) (hr : r.val = t.val * 512 + x.val) :
    (k0_pay6 (View.ld (iblk m c 0 t) r0_0) (View.ld (iblk m c 1 t) r0_1) (View.ld (iblk m c 2 t) r0_2) (ix3 a x l)
      = dz (m ((c : Thread nD τ).loc main_arg0)) (m ((c : Thread nD τ).loc main_arg3)) (m ((c : Thread nD τ).loc main_arg6)) 0 r l
    ∧ k0_pay7 (View.ld (iblk m c 0 t) r0_0) (View.ld (iblk m c 1 t) r0_1) (View.ld (iblk m c 3 t) r0_2) (ix3 a x l)
      = dz (m ((c : Thread nD τ).loc main_arg0)) (m ((c : Thread nD τ).loc main_arg3)) (m ((c : Thread nD τ).loc main_arg6)) 1 r l)
    ∧ k0_pay1 (k0_pay8 (iblk m c 0 t) (iblk m c 1 t) (iblk m c 2 t) (iblk m c 3 t) (iblk m c 4 t) (iblk m c 5 t))
        (k0_pay4 (View.ld (iblk m c 2 t) r0_2)) (View.ld (iblk m c 4 t) r0_0) (ix3 a x l)
      = dg (m ((c : Thread nD τ).loc main_arg0)) (m ((c : Thread nD τ).loc main_arg1)) (m ((c : Thread nD τ).loc main_arg3))
        (m ((c : Thread nD τ).loc main_arg4)) (m ((c : Thread nD τ).loc main_arg6)) 0 r l
    ∧ k0_pay2 (k0_pay8 (iblk m c 0 t) (iblk m c 1 t) (iblk m c 2 t) (iblk m c 3 t) (iblk m c 4 t) (iblk m c 5 t))
        (k0_pay5 (View.ld (iblk m c 3 t) r0_2)) (View.ld (iblk m c 5 t) r0_0) (ix3 a x l)
      = dg (m ((c : Thread nD τ).loc main_arg0)) (m ((c : Thread nD τ).loc main_arg2)) (m ((c : Thread nD τ).loc main_arg3))
        (m ((c : Thread nD τ).loc main_arg5)) (m ((c : Thread nD τ).loc main_arg6)) 1 r l := by
  refine ⟨⟨?_, ?_⟩, ?_, ?_⟩ <;>
    pointwise [k0_pay1, k0_pay2, k0_pay3, k0_pay4, k0_pay5, k0_pay6, k0_pay7, k0_pay8, dz, dg, gate, sg] <;>
    simp only [blk2 m c t x l r hr, blk3 m c t x l r hr, blk0 m c t x _ r hr, blk1 m c t, blk4 m c t x l r hr, blk5 m c t x l r hr] <;> rfl

/-- The branches' cotangents after the run. -/
theorem final_dz (c : Dev nD) : (dats m 0 c).arrAt 6 (cfgs 0).N
    = fun j => dz (m ((c : Thread nD τ).loc main_arg0)) (m ((c : Thread nD τ).loc main_arg3)) (m ((c : Thread nD τ).loc main_arg6)) (j 0) (j 1) (j 2) := by
  refine (dats m 0 c).arrAt_eq_of_covers 6 _ (by decide +kernel) fun t _ y => ?_
  blk_simp
  rw [after0_6]
  unfold out0_6
  refine View.canon_apply_of_pieces (Val := Elt Ideal) (S := S2x512x1024) (e := .bf16) (fun y => dz (m ((c : Thread nD τ).loc main_arg0)) (m ((c : Thread nD τ).loc main_arg3))
    (m ((c : Thread nD τ).loc main_arg6)) (((cfg0.win 6).blk t).view.emb y 0) (((cfg0.win 6).blk t).view.emb y 1) (((cfg0.win 6).blk t).view.emb y 2)) _ ?_ y (cover0_6 _ _ y)
  intro pc hpc
  rcases List.mem_cons.mp hpc with rfl | hpc
  · intro x
    dsimp only
    have h0 : ((cfg0.win 6).blk t).view.emb (r0_4.emb x) 0 = (1 : Fin 2) := Fin.ext (by blk_simp [idx t]; rfl)
    have h1 : (((cfg0.win 6).blk t).view.emb (r0_4.emb x) 1).val = t.val * 512 + (x 1).val := by blk_simp [idx t]
    have h2 : ((cfg0.win 6).blk t).view.emb (r0_4.emb x) 2 = x 2 := Fin.ext (by blk_simp [idx t])
    rw [h0, h2]
    exact (congrArg _ (eq_ix3 x)).trans (point m c t _ _ _ _ h1).1.2
  rcases List.mem_cons.mp hpc with rfl | hpc
  · intro x
    dsimp only
    have h0 : ((cfg0.win 6).blk t).view.emb (r0_3.emb x) 0 = (0 : Fin 2) := Fin.ext (by blk_simp [idx t]; rfl)
    have h1 : (((cfg0.win 6).blk t).view.emb (r0_3.emb x) 1).val = t.val * 512 + (x 1).val := by blk_simp [idx t]
    have h2 : ((cfg0.win 6).blk t).view.emb (r0_3.emb x) 2 = x 2 := Fin.ext (by blk_simp [idx t])
    rw [h0, h2]
    exact (congrArg _ (eq_ix3 x)).trans (point m c t _ _ _ _ h1).1.1
  nomatch hpc

/-- The gates' cotangents after the run: segments 6 and 7 of the projection's gradient. -/
theorem final_dseg (c : Dev nD) : (dats m 0 c).arrAt 7 (cfgs 0).N
    = fun j => if 3 ≤ (j (0 : Fin 3)).val / 2 then dseg (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (j 0) (j 1) (j 2) else V m c main_v11_1 j := by
  refine (dats m 0 c).arrAt_eq_of_coversWhere 7 _ (fun β => 3 ≤ β (0 : Fin _)) (by decide +kernel) (fun t _ y => ?_) (fun j => Iff.rfl)
  blk_simp
  rw [after0_7]
  unfold out0_7
  refine View.canon_apply_of_pieces (Val := Elt Ideal) (S := S2x512x1024) (e := .bf16) (fun y => dseg (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (((cfg0.win 7).blk t).view.emb y 0) (((cfg0.win 7).blk t).view.emb y 1) (((cfg0.win 7).blk t).view.emb y 2)) _ ?_ y (cover0_7 _ _ y)
  intro pc hpc
  rcases List.mem_cons.mp hpc with rfl | hpc
  · intro x
    dsimp only
    have h0 : ((cfg0.win 7).blk t).view.emb (r0_4.emb x) 0 = (7 : Fin 8) := Fin.ext (by blk_simp [idx t]; rfl)
    have h1 : (((cfg0.win 7).blk t).view.emb (r0_4.emb x) 1).val = t.val * 512 + (x 1).val := by blk_simp [idx t]
    have h2 : ((cfg0.win 7).blk t).view.emb (r0_4.emb x) 2 = x 2 := Fin.ext (by blk_simp [idx t])
    rw [h0, h2]
    exact (congrArg _ (eq_ix3 x)).trans (point m c t _ _ _ _ h1).2.2
  rcases List.mem_cons.mp hpc with rfl | hpc
  · intro x
    dsimp only
    have h0 : ((cfg0.win 7).blk t).view.emb (r0_3.emb x) 0 = (6 : Fin 8) := Fin.ext (by blk_simp [idx t]; rfl)
    have h1 : (((cfg0.win 7).blk t).view.emb (r0_3.emb x) 1).val = t.val * 512 + (x 1).val := by blk_simp [idx t]
    have h2 : ((cfg0.win 7).blk t).view.emb (r0_3.emb x) 2 = x 2 := Fin.ext (by blk_simp [idx t])
    rw [h0, h2]
    exact (congrArg _ (eq_ix3 x)).trans (point m c t _ _ _ _ h1).2.1
  nomatch hpc

end Kernel

end Cert.Gates

end
-- ==== Proof.Gates.lean ====
/-
  THE MERGE GATES' GRADIENT IS THE DERIVATIVE OF THE MERGE. The reference differentiates
  `(σ(gate_a) · z_a + σ(gate_b) · z_b) · w_out` by its branches' outputs and by its gates. Over real numbers its terms are
  the kernel's with the factors in another order.
-/
module

public import proofs.«01_k».proof.Proof.GatesValue
public import proofs.«01_k».proof.Defs
public import proofs.«01_k».proof.Proof.Gen.Pre_finite_gates
public import proofs.«01_k».proof.Proof.Gen.On_written_gates
public import proofs.«01_k».proof.Proof.Gen.ReferenceGatesIdeal.Run

@[expose] public section

set_option maxRecDepth 16384

noncomputable section

namespace Cert.Gates

open Idealize.ShloMosaic Idealize.SL.Sem Cert.Finite

/-- The claim's mask selects the segments that this call writes. -/
theorem mask [Cert.On_written_gates.Facts] {a0 a1 a2 : FVec Ideal _ .f32} {a3 : FVec Ideal _ .f32} {a4 a5 a6 : FVec Ideal _ .f32}
    (j : (⟨3, ![8, 4096, 1024]⟩ : Shape).Idx)
    (h : (Cert.On_written_gates.fn (F := Ideal) a0 a1 a2 a3 a4 a5 a6).2 j = 1#1) : 6 ≤ (j (0 : Fin 3)).val := by
  have e : (Cert.On_written_gates.fn (F := Ideal) a0 a1 a2 a3 a4 a5 a6).2 j
      = IntOp.cmpi .sge (BitVec.ofNat 32 (j (0 : Fin 3)).val) 6#32 := rfl
  rw [e] at h
  have hj : (j (0 : Fin 3)).val < 8 := (j (0 : Fin 3)).isLt
  generalize (j (0 : Fin 3)).val = n at h hj ⊢
  interval_cases n <;> first | omega | exact absurd h (by decide)

/-- The precondition says that every element of the arguments is a real number. -/
theorem finite [Cert.Pre_finite_gates.Facts] {a0 a1 a2 : FVec Ideal _ .f32} {a3 : FVec Ideal _ .f32} {a4 a5 a6 : FVec Ideal _ .f32}
    (h : Cert.Pre_finite_gates.fn (F := Ideal) a0 a1 a2 a3 a4 a5 a6 = fun _ => 1#1) :
    Real a0 ∧ Real a1 ∧ Real a2 ∧ Real a3 ∧ Real a4 ∧ Real a5 ∧ Real a6 := by
  obtain ⟨h, h6⟩ := andi_split h
  obtain ⟨h, h5⟩ := andi_split h
  obtain ⟨h, h4⟩ := andi_split h
  obtain ⟨h, h3⟩ := andi_split h
  obtain ⟨h, h2⟩ := andi_split h
  obtain ⟨h0, h1⟩ := andi_split h
  exact ⟨real_of_all _ _ _ _ h0, real_of_all _ _ _ _ h1, real_of_all _ _ _ _ h2, real_of_all _ _ _ _ h3,
    real_of_all _ _ _ _ h4, real_of_all _ _ _ _ h5, real_of_all _ _ _ _ h6⟩

theorem algebraic : Cert.algebraic_KernelGatesIdeal_ReferenceGatesIdeal_on_written_gates_pre_finite_gates
    (hKernelGatesIdeal := Cert.KernelGatesIdeal.Gen.facts) (hReferenceGatesIdeal := Cert.ReferenceGatesIdeal.Gen.facts)
    (hPre_finite_gates := Cert.Pre_finite_gates.Gen.facts) (hOn_written_gates := Cert.On_written_gates.Gen.facts) := by
  intro m g m' g' hpre hagree
  refine ⟨fun c => (fun j => dz (m (c.tc.loc Cert.KernelGatesIdeal.main_arg0)) (m (c.tc.loc Cert.KernelGatesIdeal.main_arg3))
      (m (c.tc.loc Cert.KernelGatesIdeal.main_arg6)) (j 0) (j 1) (j 2)),
    fun c => (fun j => dseg (m (c.tc.loc Cert.KernelGatesIdeal.main_arg0)) (m (c.tc.loc Cert.KernelGatesIdeal.main_arg1))
      (m (c.tc.loc Cert.KernelGatesIdeal.main_arg2)) (m (c.tc.loc Cert.KernelGatesIdeal.main_arg3))
      (m (c.tc.loc Cert.KernelGatesIdeal.main_arg4)) (m (c.tc.loc Cert.KernelGatesIdeal.main_arg5))
      (m (c.tc.loc Cert.KernelGatesIdeal.main_arg6)) (j 0) (j 1) (j 2)), ?_, ?_⟩
  · refine (θ_run _ _ _).mono (fun r h c => ?_) (Cert.KernelGatesIdeal.Value.run_blocks m g)
    obtain ⟨e6, e7, kept⟩ := h c
    refine ⟨fun j _ => congrFun (e6.trans (final_dz m c)) j, fun j hj => ?_, kept⟩
    exact (congrFun (e7.trans (final_dseg m c)) j).trans (if_pos (by have := mask j hj; omega))
  · refine (θ_run _ _ _).mono (fun r h c => ?_) (Cert.ReferenceGatesIdeal.Value.run m' g')
    obtain ⟨e0, e1, kept⟩ := h c
    obtain ⟨f0, f1, f2, f3, f4, f5, f6⟩ := finite (hpre c)
    obtain ⟨h0, h1, h2, h3, h4, h5, h6⟩ := hagree c
    rw [h0, h3, h6] at e0
    rw [h0, h1, h2, h3, h4, h5, h6] at e1
    obtain ⟨a0, l0⟩ := lift f0
    obtain ⟨a1, l1⟩ := lift f1
    obtain ⟨a2, l2⟩ := lift f2
    obtain ⟨a3, l3⟩ := lift f3
    obtain ⟨a4, l4⟩ := lift f4
    obtain ⟨a5, l5⟩ := lift f5
    obtain ⟨a6, l6⟩ := lift f6
    rw [l0, l3, l6] at e0
    rw [l0, l1, l2, l3, l4, l5, l6] at e1
    rw [l0, l1, l2, l3, l4, l5, l6]
    refine ⟨fun j _ => (congrFun e0 j).trans ?_, fun j hj => (congrFun e1 j).trans ?_, kept⟩
    · idx_vars j
      obtain rfl | rfl : j0 = 0 ∨ j0 = 1 := (by decide : ∀ a : Fin 2, a = 0 ∨ a = 1) j0
      all_goals
        pointwise [dz, gate, mul, sg]
        simp only [l0, l3, l6]
        simp only [zero_sub, sg_coe]
        simp only [← EReal.coe_one, ← EReal.coe_mul, coe_sum, ← EReal.coe_sub, ← EReal.coe_add]
        exact EReal.coe_eq_coe_iff.2 (by ring)
    · have hs := mask j hj
      idx_vars j
      change 6 ≤ j0.val at hs
      pointwise [dseg, dg, gate, mul, sg]
      simp only [l0, l1, l2, l3, l4, l5, l6]
      simp only [zero_sub, sg_coe]
      simp only [← EReal.coe_one, ← EReal.coe_mul, coe_sum, ← EReal.coe_sub, ← EReal.coe_add]
      rw [dif_neg (by omega)]
      by_cases h : j0.val < 7
      · rw [if_pos h, dif_pos (by omega)]
        exact EReal.coe_eq_coe_iff.2 (by ring)
      · rw [if_neg h, dif_neg (by omega)]
        exact EReal.coe_eq_coe_iff.2 (by ring)

end Cert.Gates

end
-- ==== Proof.Window.lean ====
/-
  SUMS OVER WINDOWS OF A SEQUENCE. A window as long as the sequence itself, placed at a token of the sequence padded in
  front or behind, sums the tokens it covers.
-/
module

public import proofs.«01_k».proof.Proof.Finite

@[expose] public section

noncomputable section

namespace Cert.Pool

/-- A window of 2048 tokens placed at token `t` of the operand padded by `L` in front holds the tokens from `t - L` on. -/
theorem window_sum (L : ℕ) (t : Fin 2048) (f : Fin 2048 → EReal) :
    (∑ n : Fin 2048, if h : L ≤ t.val + n.val ∧ t.val + n.val - L < 2048 then f ⟨t.val + n.val - L, h.2⟩ else 0)
      = ∑ s : Fin 2048, if t.val ≤ s.val + L ∧ s.val + L < t.val + 2048 then f s else 0 := by
  have e1 (n : Fin 2048) : (if h : L ≤ t.val + n.val ∧ t.val + n.val - L < 2048 then f ⟨t.val + n.val - L, h.2⟩ else 0)
      = ∑ s : Fin 2048, if s.val + L = t.val + n.val then f s else 0 := by
    by_cases h : L ≤ t.val + n.val ∧ t.val + n.val - L < 2048
    · rw [dif_pos h, Finset.sum_eq_single ⟨t.val + n.val - L, h.2⟩]
      · rw [if_pos (by dsimp only; omega)]
      · intro s _ hs
        exact if_neg fun e => hs (Fin.ext (by dsimp only; omega))
      · exact fun h => absurd (Finset.mem_univ _) h
    · rw [dif_neg h]
      refine (Finset.sum_eq_zero fun s _ => if_neg fun e => h ?_).symm
      have := s.isLt
      omega
  rw [Finset.sum_congr rfl fun n _ => e1 n, Finset.sum_comm]
  refine Finset.sum_congr rfl fun s _ => ?_
  by_cases h : t.val ≤ s.val + L ∧ s.val + L < t.val + 2048
  · rw [if_pos h, Finset.sum_eq_single ⟨s.val + L - t.val, by omega⟩]
    · rw [if_pos (by dsimp only; omega)]
    · intro n _ hn
      exact if_neg fun e => hn (Fin.ext (by dsimp only; omega))
    · exact fun h => absurd (Finset.mem_univ _) h
  · rw [if_neg h]
    refine Finset.sum_eq_zero fun n _ => if_neg fun e => h ?_
    have := n.isLt
    omega

theorem foldl_sum {n : ℕ} (f : Fin n → EReal) : (List.finRange n).foldl (fun r i => r + f i) 0 = ∑ i, f i := by
  rw [← List.sum_ofFn, List.ofFn_eq_map, List.sum_eq_foldl, List.foldl_map]

end Cert.Pool

end
-- ==== Proof.PoolOps.lean ====
/-
  THE POOLING'S GRADIENT: THE REFERENCE'S INDEXED OPERATIONS. The reference takes a running sum along the tokens, reads it
  at the two ends of every window, and in the derivative adds back at those ends and sums from the other side. Each of
  these operations is read here at one element.
-/
module

public import proofs.«01_k».proof.Proof.Gen.ReferencePoolIdeal.Run
public import proofs.«01_k».proof.Proof.Window
public import Idealize.ShloMosaic.Lib.Pipeline.ValueKit

@[expose] public section

set_option maxRecDepth 16384

noncomputable section

namespace Cert.Pool

open Idealize.ShloMosaic Idealize.ShloMosaic.TcCoe Idealize.SL.Sem
open Cert.ReferencePoolIdeal Cert.ReferencePoolIdeal.Gen

/-- The windows' shape: one token axis of 2048. -/
abbrev Wd : Shape := ⟨4, ![1, 2048, 1, 1]⟩

theorem window_apply (L H : ℕ) (x : FVec Ideal S2x2048x4x256 .f32) (i : FVec Ideal S_ .f32)
    (h : S2x2048x4x256.ReduceWindows ![1, 2048, 1, 1] ![1, 1, 1, 1] ![0, L, 0, 0] ![0, H, 0, 0] S2x2048x4x256) (hu : 0 < S_.numel)
    (hi : i = fun _ => 0) (b : Fin 2) (t : Fin 2048) (g : Fin 4) (k : Fin 256) :
    Host.reduceWindowAdd ![1, 2048, 1, 1] ![1, 1, 1, 1] ![0, L, 0, 0] ![0, H, 0, 0] x i h hu (ix4 b t g k)
      = ∑ s : Fin 2048, if t.val ≤ s.val + L ∧ s.val + L < t.val + 2048 then x (ix4 b s g k) else 0 := by
  subst hi
  refine Eq.trans ?_ (window_sum L t fun s => x (ix4 b s g k))
  unfold Host.reduceWindowAdd
  rw [Ideal.hostReduceWindowAdd_def]
  unfold Ideal.hostReduceWindowAdd Host.reduceWindow
  dsimp only
  rw [foldl_sum]
  let q : Wd.Idx ≃ Fin 2048 := ⟨fun w => w 1, fun n => ix4 0 n 0 0, fun w => by
    refine Eq.trans ?_ (eq_ix4 w).symm
    have e0 : (0 : Fin 1) = w 0 := Subsingleton.elim (α := Fin 1) _ _
    have e2 : (0 : Fin 1) = w 2 := Subsingleton.elim (α := Fin 1) _ _
    have e3 : (0 : Fin 1) = w 3 := Subsingleton.elim (α := Fin 1) _ _
    rw [← e0, ← e2, ← e3], fun n => rfl⟩
  refine (Fintype.sum_equiv ((Wd.rowMajor.symm.trans q).symm) _ _ fun v => ?_).symm
  have ev : (⟨4, ![1, 2048, 1, 1]⟩ : Shape).rowMajor.symm ((Wd.rowMajor.symm.trans q).symm v) = ix4 0 v 0 0 :=
    Wd.rowMajor.symm_apply_apply _
  simp only [ev]
  by_cases hv : L ≤ t.val + v.val ∧ t.val + v.val - L < 2048
  · rw [dif_pos hv, dif_pos]
    · refine congrArg x (funext fun a => Fin.ext ?_)
      fin_cases a <;> simp
    · intro a
      fin_cases a
      · simpa using b.isLt
      · simpa using hv
      · simpa using g.isLt
      · simpa using k.isLt
  · rw [dif_neg hv, dif_neg]
    exact fun h => hv (by simpa using h 1)

/-- The index vectors of a gather or a scatter: token `t` of branch `g` addresses place `n` of that branch. -/
def At (idx : IVec S2048x4x2 32) (n : Fin 4 → Fin 2048 → Fin 2049) : Prop :=
  ∀ t g, (idx (ix3 t g 0)).toInt = (n g t).val ∧ (idx (ix3 t g 1)).toInt = g.val

theorem gather_apply (x : FVec Ideal S2x2049x4x256 .f32) (idx : IVec S2048x4x2 32) (n : Fin 4 → Fin 2048 → Fin 2049) (h : At idx n)
    (b : Fin 2) (t : Fin 2048) (g : Fin 4) (k : Fin 256) :
    Host.gather gather_S2x2049x4x256_S2048x4x2_S2x2048x4x256_03_12_n_n_12_2_211256 x idx (ix4 b t g k) = x (ix4 b (n g t) g k) := by
  have e0 : (idx (ix3 t g 0)).toInt = (n g t).val := (h t g).1
  have e1 : (idx (ix3 t g 1)).toInt = g.val := (h t g).2
  have s1 : GatherDims.siIdx gather_S2x2049x4x256_S2048x4x2_S2x2048x4x256_03_12_n_n_12_2_211256 (ix4 b t g k) ⟨0, by decide⟩ = ix3 t g 0 := by
    funext a; fin_cases a <;> rfl
  have s2 : GatherDims.siIdx gather_S2x2049x4x256_S2048x4x2_S2x2048x4x256_03_12_n_n_12_2_211256 (ix4 b t g k) ⟨1, by decide⟩ = ix3 t g 1 := by
    funext a; fin_cases a <;> rfl
  refine congrArg x (funext fun a => Fin.ext ?_)
  fin_cases a
  · show 0 + 0 + b.val = b.val
    omega
  · show min (idx (GatherDims.siIdx gather_S2x2049x4x256_S2048x4x2_S2x2048x4x256_03_12_n_n_12_2_211256 (ix4 b t g k) ⟨0, by decide⟩)).toInt.toNat 2048 + 0 + 0 = _
    rw [s1, e0]
    have := (n g t).isLt
    show _ = (n g t).val
    omega
  · show min (idx (GatherDims.siIdx gather_S2x2049x4x256_S2048x4x2_S2x2048x4x256_03_12_n_n_12_2_211256 (ix4 b t g k) ⟨1, by decide⟩)).toInt.toNat 3 + 0 + 0 = _
    rw [s2, e1]
    show _ = g.val
    omega
  · show 0 + 0 + k.val = k.val
    omega

theorem lands (idx : IVec S2048x4x2 32) (n : Fin 4 → Fin 2048 → Fin 2049) (h : At idx n) (b : Fin 2) (t : Fin 2048) (g : Fin 4) (k : Fin 256) :
    scatter_S2x2049x4x256_S2048x4x2_S2x2048x4x256_03_12_12_2.resultIdx? (ix4 b t g k) idx = some (ix4 b (n g t) g k) := by
  have e0 : (idx (ix3 t g 0)).toInt = (n g t).val := (h t g).1
  have e1 : (idx (ix3 t g 1)).toInt = g.val := (h t g).2
  have s1 : ScatterDims.siIdx scatter_S2x2049x4x256_S2048x4x2_S2x2048x4x256_03_12_12_2 (ix4 b t g k) ⟨0, by decide⟩ = ix3 t g 0 := by
    funext a; fin_cases a <;> rfl
  have s2 : ScatterDims.siIdx scatter_S2x2049x4x256_S2048x4x2_S2x2048x4x256_03_12_12_2 (ix4 b t g k) ⟨1, by decide⟩ = ix3 t g 1 := by
    funext a; fin_cases a <;> rfl
  have hl (a : Fin 4) : ScatterDims.start scatter_S2x2049x4x256_S2048x4x2_S2x2048x4x256_03_12_12_2 (ix4 b t g k) idx a
      + (ScatterDims.window scatter_S2x2049x4x256_S2048x4x2_S2x2048x4x256_03_12_12_2 (ix4 b t g k) a : ℤ) = ((ix4 b (n g t) g k a).val : ℤ) := by
    fin_cases a
    · show (0 : ℤ) + (b.val : ℤ) = b.val
      omega
    · show (idx (ScatterDims.siIdx scatter_S2x2049x4x256_S2048x4x2_S2x2048x4x256_03_12_12_2 (ix4 b t g k) ⟨0, by decide⟩)).toInt + (0 : ℤ) = (n g t).val
      rw [s1, e0]
      omega
    · show (idx (ScatterDims.siIdx scatter_S2x2049x4x256_S2048x4x2_S2x2048x4x256_03_12_12_2 (ix4 b t g k) ⟨1, by decide⟩)).toInt + (0 : ℤ) = g.val
      rw [s2, e1]
      omega
    · show (0 : ℤ) + (k.val : ℤ) = k.val
      omega
  unfold ScatterDims.resultIdx?
  rw [dif_pos fun a => by rw [hl a]; exact ⟨Int.natCast_nonneg _, Int.ofNat_lt.2 (ix4 b (n g t) g k a).isLt⟩]
  exact congrArg some (funext fun a => Fin.ext (by dsimp only; rw [hl a]; rfl))

theorem scatter_apply (x : FVec Ideal S2x2049x4x256 .f32) (idx : IVec S2048x4x2 32) (u : FVec Ideal S2x2048x4x256 .f32)
    (n : Fin 4 → Fin 2048 → Fin 2049) (h : At idx n) (b : Fin 2) (s : Fin 2049) (g : Fin 4) (k : Fin 256) :
    Host.scatterAdd scatter_S2x2049x4x256_S2048x4x2_S2x2048x4x256_03_12_12_2 x idx u (ix4 b s g k)
      = x (ix4 b s g k) + ∑ t : Fin 2048, if n g t = s then u (ix4 b t g k) else 0 := by
  unfold Host.scatterAdd
  rw [Ideal.hostScatterAdd_def]
  unfold Ideal.hostScatterAdd
  rw [← Finset.sum_filter]
  refine congrArg _ (Finset.sum_nbij (fun t => ix4 b t g k) ?_ ?_ ?_ fun _ _ => rfl).symm
  · intro t ht
    simp only [Finset.mem_filter, Finset.mem_univ, true_and] at ht ⊢
    rw [lands idx n h, ht]
  · intro t _ t' _ e
    exact congrFun e 1
  · intro j hj
    simp only [Finset.coe_filter, Finset.mem_univ, true_and, Set.mem_setOf_eq] at hj
    obtain ⟨j0, j1, j2, j3, rfl⟩ : ∃ a b r l, j = ix4 a b r l := ⟨j 0, j 1, j 2, j 3, eq_ix4 j⟩
    rw [lands idx n h] at hj
    have e := Option.some.inj hj
    have e0 : j0 = b := congrFun e 0
    have e1 : n j2 j1 = s := congrFun e 1
    have e2 : j2 = g := congrFun e 2
    have e3 : j3 = k := congrFun e 3
    subst e0 e2 e3
    exact ⟨j1, by simpa using e1, rfl⟩

end Cert.Pool
end
-- ==== Proof.PoolPoint.lean ====
/-
  THE POOLING'S WINDOWS. A branch of the multiscale pooling averages, at each position of a sequence of 2048, the values
  from `h - 1` positions before it to `h` positions after it (`h = 1, 2, 4, 8`), cut off at the sequence's ends, and
  subtracts the value itself. This module states the windowed sums and the gradient's pieces for one branch, and reads
  the vector operations by which the kernel forms one shifted term: a rotation along the rows, masked where it wraps.
-/
module

public import proofs.«01_k».proof.Proof.Finite
public import proofs.«01_k».proof.Proof.Gen.KernelPoolIdeal.Value
public import Idealize.ShloMosaic.Lib.Pipeline.ValueKit
public import Idealize.ShloMosaic.Lib.Claim

@[expose] public section

set_option maxRecDepth 16384

noncomputable section

namespace Cert.Pool

open Idealize.ShloMosaic Idealize.ShloMosaic.TcCoe Idealize.SL.Sem
open Cert.KernelPoolIdeal Cert.KernelPoolIdeal.Gen

/-- The value `d` positions further on, zero outside the sequence. -/
def shift (d : ℤ) (x : Fin 2048 → EReal) (t : Fin 2048) : EReal :=
  if h : 0 ≤ (t.val : ℤ) + d ∧ (t.val : ℤ) + d < 2048 then x ⟨((t.val : ℤ) + d).toNat, by omega⟩ else 0

/-- How many positions of the sequence the window of position `t` holds. -/
def count (h : ℕ) (t : Fin 2048) : ℕ := min (t.val + h + 1) 2048 - (t.val + 1 - h)

/-- The window's sum at `t`: from `h - 1` before to `h` after. -/
def win (h : ℕ) (x : Fin 2048 → EReal) (t : Fin 2048) : EReal :=
  ∑ i ∈ Finset.range (2 * h), shift ((i : ℤ) - (h - 1)) x t

/-- The transposed window's sum: from `h` before to `h - 1` after. -/
def winT (h : ℕ) (x : Fin 2048 → EReal) (t : Fin 2048) : EReal :=
  ∑ i ∈ Finset.range (2 * h), shift ((i : ℤ) - h) x t

theorem shift_zero (x : Fin 2048 → EReal) (t : Fin 2048) : shift 0 x t = x t := by
  have h : 0 ≤ (t.val : ℤ) + 0 ∧ (t.val : ℤ) + 0 < 2048 := by have := t.isLt; omega
  unfold shift
  rw [dif_pos h]
  exact congrArg x (Fin.ext (by simp))

/-- A word's mask: the row `d` further on lies in the sequence. -/
theorem mask (k : BitVec 32) (hk : k.toInt.natAbs ≤ 8) (t : Fin 2048) :
    IntOp.andi (IntOp.cmpi .sge (IntOp.addi (BitVec.ofNat 32 t.val) k) 0#32) (IntOp.cmpi .slt (IntOp.addi (BitVec.ofNat 32 t.val) k) 2048#32)
      = BitVec.ofBool (decide (0 ≤ (t.val : ℤ) + k.toInt ∧ (t.val : ℤ) + k.toInt < 2048)) := by
  have e : (BitVec.ofNat 32 t.val + k).toInt = (t.val : ℤ) + k.toInt := by
    have ht := t.isLt
    rw [BitVec.toInt_add, BitVec.toInt_ofNat']
    simp only [Int.bmod]
    omega
  simp [IntOp.andi, IntOp.cmpi, IntOp.addi, BitVec.sle, BitVec.slt, e]

/-- A vector's rows, each the row `d` further on. -/
def shiftV (d : ℤ) (x : FVec Ideal S2048x256 .f32) : FVec Ideal S2048x256 .f32 := fun j => shift d (fun t => x (ix2 t (j 1))) (j 0)

theorem shiftV_apply (d : ℤ) (x : FVec Ideal S2048x256 .f32) (t : Fin 2048) (l : Fin 256) :
    shiftV d x (ix2 t l) = shift d (fun t => x (ix2 t l)) t := rfl

/-- One shifted term as the kernel forms it. -/
theorem term (k ρ : BitVec 32) (x : FVec Ideal S2048x256 .f32) (hk : k.toInt.natAbs ≤ 8)
    (hρ : ρ.toNat = ((2048 - k.toInt) % 2048).toNat) :
    select (broadcastTo S2048x256 (shapeCast S2048x1 (andi
        (cmpi .sge (addi (iota .tc S2048x1 32 [0] iota_S2048x1_d0_w32) (broadcast S2048x1 k)) (broadcast S2048x1 0#32))
        (cmpi .slt (addi (iota .tc S2048x1 32 [0] iota_S2048x1_d0_w32) (broadcast S2048x1 k)) (broadcast S2048x1 2048#32)))
          shapeCasts_S2048x1_S2048x1) broadcasts_S2048x1_S2048x256)
      (dynamicRotate 0 ρ none x rotates_S2048x256_d0) (broadcast S2048x256 (FloatOps.ofBits .f32 0x00000000#32))
      = shiftV k.toInt x := by
  funext j
  idx_vars j
  rw [shiftV_apply]
  pointwise
  rw [mask k hk j0]
  unfold shift
  have ht := j0.isLt
  by_cases h : 0 ≤ (j0.val : ℤ) + k.toInt ∧ (j0.val : ℤ) + k.toInt < 2048
  · rw [dif_pos h, decide_eq_true h]
    refine congrArg x (congrArg (ix2 · j1) (Fin.ext ?_))
    simp only
    omega
  · rw [dif_neg h, decide_eq_false h]
    rfl

/-- The number of positions in each window, as a vector. -/
def countV (h : ℕ) : FVec Ideal S2048x1 .f32 := fun j => ((count h (j 0) : ℝ) : EReal)

/-- The count as the kernel forms it, from the row's number and the branch's half width. -/
theorem count_eq (k : BitVec 32) (hk : k.toInt.natAbs ≤ 8) (hp : 0 ≤ k.toInt) :
    sitofp (F := Ideal) .f32 (subi
      (minsi (addi (addi (iota .tc S2048x1 32 [0] iota_S2048x1_d0_w32) (broadcast S2048x1 k)) (broadcast S2048x1 1#32)) (broadcast S2048x1 2048#32))
      (maxsi (addi (subi (iota .tc S2048x1 32 [0] iota_S2048x1_d0_w32) (broadcast S2048x1 k)) (broadcast S2048x1 1#32)) (broadcast S2048x1 0#32)))
      = countV k.toInt.toNat := by
  funext j
  idx_vars j
  pointwise [countV]
  have ht := j0.isLt
  have hs : k.toInt.toNat = k.toInt := Int.toNat_of_nonneg hp
  have e1 : (BitVec.ofNat 32 j0.val + k + 1#32).toInt = (j0.val : ℤ) + k.toInt + 1 := by
    rw [BitVec.toInt_add, BitVec.toInt_add, BitVec.toInt_ofNat']
    simp only [Int.bmod, BitVec.reduceToInt]
    omega
  have e2 : (BitVec.ofNat 32 j0.val - k + 1#32).toInt = (j0.val : ℤ) - k.toInt + 1 := by
    rw [BitVec.toInt_add, BitVec.toInt_sub, BitVec.toInt_ofNat']
    simp only [Int.bmod, BitVec.reduceToInt]
    omega
  have e : (IntOp.subi (IntOp.minsi (IntOp.addi (IntOp.addi (BitVec.ofNat 32 j0.val) k) 1#32) 2048#32)
      (IntOp.maxsi (IntOp.addi (IntOp.subi (BitVec.ofNat 32 j0.val) k) 1#32) 0#32)).toInt = (count k.toInt.toNat j0 : ℤ) := by
    simp only [IntOp.subi, IntOp.addi, IntOp.minsi, IntOp.maxsi, count, BitVec.slt_iff_toInt_lt, e1, e2, BitVec.reduceToInt]
    split_ifs <;> rw [BitVec.toInt_sub] <;> simp only [e1, e2, Int.bmod, BitVec.reduceToInt] <;> omega
  exact (congrArg (fun i : ℤ => ((i : ℝ) : EReal)) e).trans (by rw [Int.cast_natCast])

/-- A vector's windowed sums along the rows. -/
def winV (h : ℕ) (x : FVec Ideal S2048x256 .f32) : FVec Ideal S2048x256 .f32 := fun j => win h (fun t => x (ix2 t (j 1))) (j 0)

/-- A vector's transposed windowed sums along the rows. -/
def winTV (h : ℕ) (x : FVec Ideal S2048x256 .f32) : FVec Ideal S2048x256 .f32 := fun j => winT h (fun t => x (ix2 t (j 1))) (j 0)

theorem shift_zero_apply (x : FVec Ideal S2048x256 .f32) (j : S2048x256.Idx) : shift 0 (fun t => x (ix2 t (j 1))) (j 0) = x j :=
  (shift_zero _ _).trans (congrArg x (eq_ix2 j).symm)

/-- The kernel's towers of shifted terms are the windowed sums. -/
theorem tower (x : FVec Ideal S2048x256 .f32) :
    (addf (addf (broadcast S2048x256 (FloatOps.ofBits .f32 0x00000000#32)) x) (shiftV (1) x) = winV 1 x) ∧
    (addf (addf (addf (addf (broadcast S2048x256 (FloatOps.ofBits .f32 0x00000000#32)) (shiftV (-1) x)) x) (shiftV
      (1) x)) (shiftV (2) x) = winV 2 x) ∧
    (addf (addf (addf (addf (addf (addf (addf (addf (broadcast S2048x256 (FloatOps.ofBits .f32 0x00000000#32))
      (shiftV (-3) x)) (shiftV (-2) x)) (shiftV (-1) x)) x) (shiftV (1) x)) (shiftV (2) x)) (shiftV (3) x)) (shiftV
      (4) x) = winV 4 x) ∧
    (addf (addf (addf (addf (addf (addf (addf (addf (addf (addf (addf (addf (addf (addf (addf (addf (broadcast
      S2048x256 (FloatOps.ofBits .f32 0x00000000#32)) (shiftV (-7) x)) (shiftV (-6) x)) (shiftV (-5) x)) (shiftV
      (-4) x)) (shiftV (-3) x)) (shiftV (-2) x)) (shiftV (-1) x)) x) (shiftV (1) x)) (shiftV (2) x)) (shiftV (3) x))
      (shiftV (4) x)) (shiftV (5) x)) (shiftV (6) x)) (shiftV (7) x)) (shiftV (8) x) = winV 8 x) := by
  refine ⟨?_, ?_, ?_, ?_⟩ <;> funext j <;>
    simp only [addf, shiftV, winV, win, Finset.sum_range_succ, Finset.sum_range_zero, broadcast] <;>
    norm_num <;> rw [shift_zero_apply] <;> rfl

/-- The same of the transposed windows. -/
theorem towerT (x : FVec Ideal S2048x256 .f32) :
    (addf (addf (broadcast S2048x256 (FloatOps.ofBits .f32 0x00000000#32)) (shiftV (-1) x)) x = winTV 1 x) ∧
    (addf (addf (addf (addf (broadcast S2048x256 (FloatOps.ofBits .f32 0x00000000#32)) (shiftV (-2) x)) (shiftV
      (-1) x)) x) (shiftV (1) x) = winTV 2 x) ∧
    (addf (addf (addf (addf (addf (addf (addf (addf (broadcast S2048x256 (FloatOps.ofBits .f32 0x00000000#32))
      (shiftV (-4) x)) (shiftV (-3) x)) (shiftV (-2) x)) (shiftV (-1) x)) x) (shiftV (1) x)) (shiftV (2) x)) (shiftV
      (3) x) = winTV 4 x) ∧
    (addf (addf (addf (addf (addf (addf (addf (addf (addf (addf (addf (addf (addf (addf (addf (addf (broadcast
      S2048x256 (FloatOps.ofBits .f32 0x00000000#32)) (shiftV (-8) x)) (shiftV (-7) x)) (shiftV (-6) x)) (shiftV
      (-5) x)) (shiftV (-4) x)) (shiftV (-3) x)) (shiftV (-2) x)) (shiftV (-1) x)) x) (shiftV (1) x)) (shiftV (2)
      x)) (shiftV (3) x)) (shiftV (4) x)) (shiftV (5) x)) (shiftV (6) x)) (shiftV (7) x) = winTV 8 x) := by
  refine ⟨?_, ?_, ?_, ?_⟩ <;> funext j <;>
    simp only [addf, shiftV, winTV, winT, Finset.sum_range_succ, Finset.sum_range_zero, broadcast] <;>
    norm_num <;> rw [shift_zero_apply]

section Branch

variable (h : ℕ) (p dy : Fin 2048 → Fin 256 → EReal) (w : Fin 256 → Fin 256 → EReal) (s : Fin 256 → EReal)

/-- The branch's output: the window's mean less the value. -/
def y (t : Fin 2048) (k : Fin 256) : EReal := Ideal.div (win h (fun u => p u k) t) (count h t : ℝ) - p t k

/-- The cotangent of the branch's product with its weights. -/
def dl (t : Fin 2048) (l : Fin 256) : EReal := dy t l * s l

/-- The cotangent of the branch's output. -/
def z (t : Fin 2048) (k : Fin 256) : EReal := ∑ l : Fin 256, dl dy s t l * w k l

/-- The cotangent of the branch's input. -/
def dp (t : Fin 2048) (k : Fin 256) : EReal :=
  winT h (fun u => Ideal.div (z dy w s u k) (count h u : ℝ)) t - z dy w s t k

/-- The gradient of the branch's weights, from one sequence. -/
def dw (k l : Fin 256) : EReal := ∑ t : Fin 2048, y h p t k * dl dy s t l

/-- The gradient of the branch's scale, from one sequence. -/
def ds (l : Fin 256) : EReal := ∑ t : Fin 2048, dy t l * ∑ k : Fin 256, y h p t k * w k l

end Branch

variable (m : (ℓ : Loc nD τ sig) → Buf (Elt Ideal) ℓ)

/-- The branch's arrays at a grid point, off the point's blocks: the input, the cotangent, the weights and the scale. -/
def bp (c : Dev nD) (t : Fin cfg0.N) (u : Fin 2048) (k : Fin 256) : EReal := iblk m c 0 t (ix3 0 u k)

@[inherit_doc bp] def bd (c : Dev nD) (t : Fin cfg0.N) (u : Fin 2048) (l : Fin 256) : EReal := iblk m c 1 t (ix2 u l)

@[inherit_doc bp] def bw (c : Dev nD) (t : Fin cfg0.N) (k l : Fin 256) : EReal :=
  iblk m c 2 t (ix4 ⟨k.val / 64, by omega⟩ 0 ⟨k.val % 64, by omega⟩ l)

@[inherit_doc bp] def bs (c : Dev nD) (t : Fin cfg0.N) (l : Fin 256) : EReal := iblk m c 3 t (ix2 0 l)

/-- The block of the weights' gradient that a point adds: the four chips' shares, one under another. -/
def bdw (c : Dev nD) (t : Fin cfg0.N) (a : Fin 4) (r : Fin 64) (l : Fin 256) : EReal :=
  dw (2 ^ (t.val / 2)) (bp m c t) (bd m c t) (bs m c t) ⟨a.val * 64 + r.val, by omega⟩ l

/-- What each point writes: the branch's gradients, the weights' one added to the point's before for the second sequence. -/
theorem outs (c : Dev nD) (t : Fin cfg0.N) :
    (∀ r l, (outsAt0 m c t.val t.isLt).1 (ix3 0 r l) = dp (2 ^ (t.val / 2)) (bd m c t) (bw m c t) (bs m c t) r l)
    ∧ (∀ r l, (outsAt0 m c t.val t.isLt).2.2 (ix3 0 r l) = ds (2 ^ (t.val / 2)) (bp m c t) (bd m c t) (bw m c t) l)
    ∧ (t.val % 2 = 0 → ∀ a r l, (outsAt0 m c t.val t.isLt).2.1 (ix4 a 0 r l) = bdw m c t a r l)
    ∧ (t.val % 2 = 1 → ∀ a r l, (outsAt0 m c t.val t.isLt).2.1 (ix4 a 0 r l)
      = (outsAt0 m c (t.val - 1) (by have := t.isLt; omega)).2.1 (ix4 a 0 r l) + bdw m c t a r l) := by
  have hN : t.val < 8 := t.isLt.trans_eq N_0
  rcases (by omega : t.val = 0 ∨ t.val = 1 ∨ t.val = 2 ∨ t.val = 3 ∨ t.val = 4 ∨ t.val = 5 ∨ t.val = 6 ∨ t.val = 7)
    with ht | ht | ht | ht | ht | ht | ht | ht
  all_goals
    first
      | rw [outsAt0_A m c t (by omega) (by omega) (by omega) (by omega) (by omega) (by omega)]
      | rw [outsAt0_B m c t (by omega) (by omega) (by omega) (by omega) (by omega) (by omega)]
      | rw [outsAt0_C m c t (by omega) (by omega) (by omega) (by omega) (by omega) (by omega)]
      | rw [outsAt0_D m c t (by omega) (by omega) (by omega) (by omega) (by omega) (by omega)]
      | rw [outsAt0_E m c t (by omega) (by omega) (by omega) (by omega) (by omega) (by omega)]
      | rw [outsAt0_F m c t (by omega) (by omega) (by omega) (by omega) (by omega) (by omega)]
      | rw [outsAt0_G m c t (by omega) (by omega) (by omega) (by omega) (by omega) (by omega)]
      | rw [outsAt0_H m c t (by omega) (by omega) (by omega) (by omega) (by omega) (by omega)]
    refine ⟨fun r l => ?_, fun r l => ?_, fun he a r l => ?_, fun he a r l => ?_⟩
    all_goals first | (exfalso; omega) | skip
    all_goals frame_out
    all_goals simp only [k0_pay1, k0_pay2, k0_pay3, k0_pay4, k0_pay5, k0_pay6, k0_pay7, k0_pay8, k0_pay9, k0_pay10, k0_pay11, k0_pay12,
        k0_pay13, k0_pay14, k0_pay15, k0_pay16, k0_pay17, k0_pay18, k0_pay19, k0_pay20, k0_pay21, k0_pay22, k0_pay23,
        k0_pay24, k0_pay25, k0_pay26, k0_pay27, k0_pay28, k0_pay29, k0_pay30, k0_pay31, k0_pay32, k0_pay33, k0_pay34,
        k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56,
        k0_pay57, k0_pay58, k0_pay59, k0_pay60, k0_pay61, k0_pay62, k0_pay63, k0_pay64, k0_pay65, k0_pay66, k0_pay67,
        k0_pay68, k0_pay69, k0_pay70, k0_pay71, k0_pay72, k0_pay73, k0_pay74, k0_pay75, k0_pay76, k0_pay77, k0_pay78,
        k0_pay79, k0_pay80, k0_pay81, k0_pay82, k0_pay83, k0_pay84, k0_pay85, k0_pay86, k0_pay87, k0_pay88, k0_pay89,
        k0_pay90, k0_pay91, k0_pay92, k0_pay93, k0_pay94, k0_pay95, k0_pay96, k0_pay97, k0_pay98, k0_pay99, k0_pay100,
        k0_pay101, k0_pay102, k0_pay103, k0_pay104, k0_pay105, k0_pay106, k0_pay107, k0_pay108, k0_pay109, k0_pay110]
    all_goals simp only [term 4294967288#32 8#32 _ (by decide) (by decide), term 4294967289#32 7#32 _ (by decide) (by decide),
        term 4294967290#32 6#32 _ (by decide) (by decide), term 4294967291#32 5#32 _ (by decide) (by decide),
        term 4294967292#32 4#32 _ (by decide) (by decide), term 4294967293#32 3#32 _ (by decide) (by decide),
        term 4294967294#32 2#32 _ (by decide) (by decide), term 4294967295#32 1#32 _ (by decide) (by decide),
        term 1#32 2047#32 _ (by decide) (by decide), term 2#32 2046#32 _ (by decide) (by decide),
        term 3#32 2045#32 _ (by decide) (by decide), term 4#32 2044#32 _ (by decide) (by decide),
        term 5#32 2043#32 _ (by decide) (by decide), term 6#32 2042#32 _ (by decide) (by decide),
        term 7#32 2041#32 _ (by decide) (by decide), term 8#32 2040#32 _ (by decide) (by decide),
        count_eq 1#32 (by decide) (by decide), count_eq 2#32 (by decide) (by decide), count_eq 4#32 (by decide) (by decide), count_eq 8#32 (by decide) (by decide)]
    all_goals simp only [BitVec.reduceToInt, Int.reduceToNat]
    all_goals simp only [↓ tower, ↓ towerT]
    all_goals pointwise [winV, winTV, countV, dp, ds, dw, y, z, dl, bp, bd, bw, bs, bdw]
    all_goals simp only [ht, Nat.reduceDiv, Nat.reducePow]
end Cert.Pool
end
-- ==== Proof.PoolValue.lean ====
/-
  THE POOLING'S GRADIENT: THE KERNEL. `KernelPoolIdeal` runs over the four branches and, within a branch, over the two
  sequences. This module reads its three result arrays as functions of the arguments, element by element: the gradient of
  the pooled segment of the projection, the weights' gradient summed over the sequences and laid out by chip, and the
  scale's gradient per sequence.
-/
module

public import proofs.«01_k».proof.Proof.PoolPoint

@[expose] public section

set_option maxRecDepth 16384

noncomputable section

namespace Cert.Pool

open Idealize.ShloMosaic Idealize.ShloMosaic.TcCoe Idealize.SL.Sem
open Idealize.ShloMosaic.Pipeline (Dat)
open Cert.KernelPoolIdeal Cert.KernelPoolIdeal.Gen

section Args

variable (a0 : FVec Ideal S2x2048x1024 .f32) (a1 : FVec Ideal S2x2048x8192 .f32) (a2 : FVec Ideal S4x256x256 .f32)
  (a3 : FVec Ideal S1024 .f32) (b : Fin 2) (g : Fin 4)

/-- A branch's input in one sequence: the projection's sixth segment. -/
def aP (t : Fin 2048) (k : Fin 256) : EReal := a1 (ix3 b t ⟨5120 + g.val * 256 + k.val, by omega⟩)

/-- The cotangent of a branch's output in one sequence. -/
def aD (t : Fin 2048) (l : Fin 256) : EReal := a0 (ix3 b t ⟨g.val * 256 + l.val, by omega⟩)

/-- A branch's weights. -/
def aW (k l : Fin 256) : EReal := a2 (ix3 g k l)

/-- A branch's scale. -/
def aS (l : Fin 256) : EReal := a3 (ix1 ⟨g.val * 256 + l.val, by omega⟩)

/-- The gradient of the pooled segment at token `r`, channel `k`. -/
def dpA (r : Fin 4096) (k : Fin 1024) : EReal :=
  dp (2 ^ (k.val / 256)) (aD a0 ⟨r.val / 2048, by omega⟩ ⟨k.val / 256, by omega⟩) (aW a2 ⟨k.val / 256, by omega⟩)
    (aS a3 ⟨k.val / 256, by omega⟩) ⟨r.val % 2048, by omega⟩ ⟨k.val % 256, by omega⟩

/-- The weights' gradient: chip `a`'s 64 rows of branch `g`. -/
def dwA (a : Fin 4) (r : Fin 64) (l : Fin 256) : EReal :=
  dw (2 ^ g.val) (aP a1 0 g) (aD a0 0 g) (aS a3 g) ⟨a.val * 64 + r.val, by omega⟩ l
    + dw (2 ^ g.val) (aP a1 1 g) (aD a0 1 g) (aS a3 g) ⟨a.val * 64 + r.val, by omega⟩ l

/-- The scale's gradient of sequence `b` at channel `l`. -/
def dsA (l : Fin 1024) : EReal :=
  ds (2 ^ (l.val / 256)) (aP a1 b ⟨l.val / 256, by omega⟩) (aD a0 b ⟨l.val / 256, by omega⟩) (aW a2 ⟨l.val / 256, by omega⟩)
    ⟨l.val % 256, by omega⟩

/-- The two gradients with the index written by sequence, branch and place within the branch. -/
theorem dpA_at (t : Fin 2048) (k : Fin 256) (r : Fin 4096) (q : Fin 1024) (hr : r.val = b.val * 2048 + t.val) (hq : q.val = g.val * 256 + k.val) :
    dpA a0 a2 a3 r q = dp (2 ^ g.val) (aD a0 b g) (aW a2 g) (aS a3 g) t k := by
  have eg : (⟨q.val / 256, by omega⟩ : Fin 4) = g := Fin.ext (by dsimp only; omega)
  have eb : (⟨r.val / 2048, by omega⟩ : Fin 2) = b := Fin.ext (by dsimp only; omega)
  have et : (⟨r.val % 2048, by omega⟩ : Fin 2048) = t := Fin.ext (by dsimp only; omega)
  have ek : (⟨q.val % 256, by omega⟩ : Fin 256) = k := Fin.ext (by dsimp only; omega)
  have en : q.val / 256 = g.val := by omega
  simp only [dpA, eg, eb, et, ek, en]

@[inherit_doc dpA_at] theorem dsA_at (l : Fin 256) (q : Fin 1024) (hq : q.val = g.val * 256 + l.val) :
    dsA a0 a1 a2 b q = ds (2 ^ g.val) (aP a1 b g) (aD a0 b g) (aW a2 g) l := by
  have eg : (⟨q.val / 256, by omega⟩ : Fin 4) = g := Fin.ext (by dsimp only; omega)
  have ek : (⟨q.val % 256, by omega⟩ : Fin 256) = l := Fin.ext (by dsimp only; omega)
  have en : q.val / 256 = g.val := by omega
  simp only [dsA, eg, ek, en]

end Args

section Kernel

variable (m : (ℓ : Loc nD τ sig) → Buf (Elt Ideal) ℓ)

theorem idx : ∀ t : Fin cfg0.N, win0_0.index t = ![5, t.val % 2, t.val / 2] ∧ win0_1.index t = ![t.val % 2, t.val / 2]
    ∧ win0_2.index t = ![0, t.val / 2, 0, 0] ∧ win0_3.index t = ![0, t.val / 2] ∧ win0_4.index t = ![5, t.val % 2, t.val / 2]
    ∧ win0_5.index t = ![0, t.val / 2, 0, 0] ∧ win0_6.index t = ![t.val % 2, 0, t.val / 2] :=
  (by decide +kernel : ∀ t : Fin grid0.N, _)

variable (c : Dev nD) (t : Fin cfg0.N) (b : Fin 2) (g : Fin 4) (hb : t.val % 2 = b.val) (hg : t.val / 2 = g.val)
include hb hg

/-- The blocks of a grid point, over the arguments. -/
theorem bp_eq : bp m c t = aP (m ((c : Thread nD τ).loc main_arg1)) b g := by
  funext u k
  have e : ((cfg0.win 0).blk t).view.emb (ix3 0 u k) = ix3 5 ⟨b.val * 2048 + u.val, by omega⟩ ⟨g.val * 256 + k.val, by omega⟩ := by
    blk_ext! [idx t]
  unfold bp iblk V
  rw [View.read_apply, e]
  entry_read
  pointwise [aP]
  exact congrArg (m ((c : Thread nD τ).loc main_arg1)) (by congr 1 <;> exact Fin.ext (by dsimp only; omega))

@[inherit_doc bp_eq] theorem bd_eq : bd m c t = aD (m ((c : Thread nD τ).loc main_arg0)) b g := by
  funext u l
  have e : ((cfg0.win 1).blk t).view.emb (ix2 u l) = ix2 ⟨b.val * 2048 + u.val, by omega⟩ ⟨g.val * 256 + l.val, by omega⟩ := by
    blk_ext! [idx t]
  unfold bd iblk V
  rw [View.read_apply, e]
  entry_read
  pointwise [aD]
  exact congrArg (m ((c : Thread nD τ).loc main_arg0)) (by congr 1 <;> exact Fin.ext (by dsimp only; omega))

@[inherit_doc bp_eq] theorem bw_eq : bw m c t = aW (m ((c : Thread nD τ).loc main_arg2)) g := by
  funext k l
  have e : ((cfg0.win 2).blk t).view.emb (ix4 ⟨k.val / 64, by omega⟩ 0 ⟨k.val % 64, by omega⟩ l)
      = ix4 ⟨k.val / 64, by omega⟩ g ⟨k.val % 64, by omega⟩ l := by
    blk_ext! [idx t]
  unfold bw iblk V
  rw [View.read_apply, e]
  entry_read
  pointwise [aW]
  exact congrArg (m ((c : Thread nD τ).loc main_arg2)) (by congr 1; exact Fin.ext (by dsimp only; omega))

@[inherit_doc bp_eq] theorem bs_eq : bs m c t = aS (m ((c : Thread nD τ).loc main_arg3)) g := by
  funext l
  have e : ((cfg0.win 3).blk t).view.emb (ix2 0 l) = ix2 0 ⟨g.val * 256 + l.val, by omega⟩ := by
    blk_ext! [idx t]
  unfold bs iblk V
  rw [View.read_apply, e]
  entry_read
  pointwise [aS]
  rfl

omit hb hg

/-- The gradient of the pooled segment: written there, and the other segments as the launch leaves them. -/
theorem final4 (c : Dev nD) : (dats m 0 c).arrAt 4 cfg0.N = fun j : Shape.Idx S8x4096x1024 =>
    if (j 0 : Fin 8).val = 5
      then dpA (m ((c : Thread nD τ).loc main_arg0)) (m ((c : Thread nD τ).loc main_arg2)) (m ((c : Thread nD τ).loc main_arg3)) (j 1) (j 2)
      else V m c main_v6 j := by
  refine (dats m 0 c).arrAt_eq_of_coversWhere 4 _ (fun β => β 0 = 5) (by decide +kernel) (fun t hf y => ?_)
    (fun j => by blk_simp [Pipeline.Window.cell_apply]; omega)
  obtain ⟨y0, y1, y2, rfl⟩ : ∃ a r l, y = ix3 a r l := ⟨y 0, y 1, y 2, eq_ix3 y⟩
  obtain rfl : (y0 : Fin 1) = 0 := Subsingleton.elim (α := Fin 1) _ _
  have hN : t.val < 8 := t.isLt
  have hb : t.val % 2 < 2 := Nat.mod_lt _ (by decide)
  have hg : t.val / 2 < 4 := by omega
  have e : ((cfg0.win 4).blk t).view.emb (ix3 0 y1 y2) = ix3 5 ⟨t.val % 2 * 2048 + (y1 : Fin 2048).val, by omega⟩ ⟨t.val / 2 * 256 + (y2 : Fin 256).val, by omega⟩ := by
    blk_ext! [idx t]
  have h1 : ((cfg0.win 4).blk t).view.emb (ix3 0 y1 y2) 1 = (⟨t.val % 2 * 2048 + (y1 : Fin 2048).val, by omega⟩ : Fin 4096) := congrFun e 1
  have h2 : ((cfg0.win 4).blk t).view.emb (ix3 0 y1 y2) 2 = (⟨t.val / 2 * 256 + (y2 : Fin 256).val, by omega⟩ : Fin 1024) := congrFun e 2
  rw [after0_4, h1, h2, dpA_at (b := ⟨t.val % 2, hb⟩) (g := ⟨t.val / 2, hg⟩) (t := y1) (k := y2) _ _ _ _ _ rfl rfl,
    ← bd_eq m c t ⟨t.val % 2, hb⟩ ⟨t.val / 2, hg⟩ rfl rfl, ← bw_eq m c t ⟨t.val % 2, hb⟩ ⟨t.val / 2, hg⟩ rfl rfl,
    ← bs_eq m c t ⟨t.val % 2, hb⟩ ⟨t.val / 2, hg⟩ rfl rfl]
  exact (outs m c t).1 y1 y2

/-- The weights' gradient. -/
theorem final5 (c : Dev nD) : (dats m 0 c).arrAt 5 cfg0.N = fun j : Shape.Idx S4x4x64x256 =>
    dwA (m ((c : Thread nD τ).loc main_arg0)) (m ((c : Thread nD τ).loc main_arg1)) (m ((c : Thread nD τ).loc main_arg3)) (j 1) (j 0) (j 2) (j 3) := by
  refine (dats m 0 c).arrAt_eq_of_covers 5 _ (by decide +kernel) fun t hf y => ?_
  have hN : t.val < 8 := t.isLt
  have hm : t.val % 2 = 1 := (flush0_5 t).1 hf
  have hg : t.val / 2 < 4 := by omega
  have hm' : (t.val - 1) % 2 = 0 := by omega
  have hg' : (t.val - 1) / 2 = t.val / 2 := by omega
  have hl : t.val - 1 < cfg0.N := Nat.lt_of_le_of_lt (Nat.sub_le _ _) t.isLt
  obtain ⟨y0, y1, y2, y3, rfl⟩ : ∃ a b r l, y = ix4 a b r l := ⟨y 0, y 1, y 2, y 3, eq_ix4 y⟩
  obtain rfl : (y1 : Fin 1) = 0 := Subsingleton.elim (α := Fin 1) _ _
  have e : ((cfg0.win 5).blk t).view.emb (ix4 y0 0 y2 y3) = ix4 y0 ⟨t.val / 2, hg⟩ y2 y3 := by
    blk_ext! [idx t]
  rw [after0_5, e]
  refine ((outs m c t).2.2.2 hm y0 y2 y3).trans ?_
  rw [(outs m c ⟨t.val - 1, hl⟩).2.2.1 hm' y0 y2 y3]
  unfold bdw
  rw [bp_eq m c t 1 ⟨t.val / 2, hg⟩ hm rfl, bd_eq m c t 1 ⟨t.val / 2, hg⟩ hm rfl, bs_eq m c t 1 ⟨t.val / 2, hg⟩ hm rfl,
    bp_eq m c ⟨t.val - 1, hl⟩ 0 ⟨t.val / 2, hg⟩ hm' hg', bd_eq m c ⟨t.val - 1, hl⟩ 0 ⟨t.val / 2, hg⟩ hm' hg',
    bs_eq m c ⟨t.val - 1, hl⟩ 0 ⟨t.val / 2, hg⟩ hm' hg']
  dsimp only
  rw [hg']
  rfl

/-- The scale's gradient, one block of eight rows per sequence. -/
theorem final6 (c : Dev nD) : (dats m 0 c).arrAt 6 cfg0.N = fun j : Shape.Idx S2x8x1024 =>
    dsA (m ((c : Thread nD τ).loc main_arg0)) (m ((c : Thread nD τ).loc main_arg1)) (m ((c : Thread nD τ).loc main_arg2)) (j 0) (j 2) := by
  refine (dats m 0 c).arrAt_eq_of_covers 6 _ (by decide +kernel) fun t _ y => ?_
  obtain ⟨y0, y1, y2, rfl⟩ : ∃ a r l, y = ix3 a r l := ⟨y 0, y 1, y 2, eq_ix3 y⟩
  obtain rfl : (y0 : Fin 1) = 0 := Subsingleton.elim (α := Fin 1) _ _
  have hN : t.val < 8 := t.isLt
  have hb : t.val % 2 < 2 := Nat.mod_lt _ (by decide)
  have hg : t.val / 2 < 4 := by omega
  have e : ((cfg0.win 6).blk t).view.emb (ix3 0 y1 y2) = ix3 ⟨t.val % 2, hb⟩ y1 ⟨t.val / 2 * 256 + (y2 : Fin 256).val, by omega⟩ := by
    blk_ext! [idx t]
  have h0 : ((cfg0.win 6).blk t).view.emb (ix3 0 y1 y2) 0 = (⟨t.val % 2, hb⟩ : Fin 2) := congrFun e 0
  have h2 : ((cfg0.win 6).blk t).view.emb (ix3 0 y1 y2) 2 = (⟨t.val / 2 * 256 + (y2 : Fin 256).val, by omega⟩ : Fin 1024) := congrFun e 2
  rw [after0_6, h0, h2, dsA_at (g := ⟨t.val / 2, hg⟩) (l := y2) _ _ _ _ _ rfl, ← bp_eq m c t ⟨t.val % 2, hb⟩ ⟨t.val / 2, hg⟩ rfl rfl,
    ← bd_eq m c t ⟨t.val % 2, hb⟩ ⟨t.val / 2, hg⟩ rfl rfl, ← bw_eq m c t ⟨t.val % 2, hb⟩ ⟨t.val / 2, hg⟩ rfl rfl]
  exact (outs m c t).2.1 y1 y2

end Kernel

end Cert.Pool
end
-- ==== Proof.PoolRef.lean ====
/-
  THE POOLING'S GRADIENT: THE REFERENCE. Its three results, read at one element.
-/
module

public import proofs.«01_k».proof.Proof.PoolOps
public import proofs.«01_k».proof.Proof.PoolValue

@[expose] public section

set_option maxRecDepth 16384

noncomputable section

namespace Cert.Pool

open Idealize.ShloMosaic Idealize.ShloMosaic.TcCoe Idealize.SL.Sem
open Cert.ReferencePoolIdeal Cert.ReferencePoolIdeal.Gen

/-- A number per token and branch, the same for all. -/
def all (w : BitVec 32) : IVec S2048x4 32 := broadcastInDim S2048x4 ![] bcast_S_S2048x4 (constantI S_ 32 w)

/-- The token's number. -/
def tok : IVec S2048x4 32 :=
  broadcastInDim S2048x4 ![0, 1] bcast_S2048x1_S2048x4_0_1 (broadcastInDim S2048x1 ![0] bcast_S2048_S2048x1_0 (iotaInDim S2048 32 0))

/-- The branch's half width. -/
def wid : IVec S2048x4 32 :=
  broadcastInDim S2048x4 ![0, 1] bcast_S1x4_S2048x4_0_1 (broadcastInDim S1x4 ![1] bcast_S4_S1x4_1 (fun i => lit0 (S4.rowMajor i)))

/-- Where a token's window begins. -/
def low : IVec S2048x4 32 := minsi (all 2048#32) (maxsi (all 0#32) (addi (subi tok wid) (all 1#32)))

/-- Where a token's window ends. -/
def high : IVec S2048x4 32 := minsi (all 2048#32) (maxsi (all 0#32) (addi (addi tok wid) (all 1#32)))

/-- The index vectors (place, branch) of one end of the windows. -/
def ends (w : IVec S2048x4 32) : IVec S2048x4x2 32 :=
  concatenate S2048x4x2 2 [⟨S2048x4x1, broadcastInDim S2048x4x1 ![0, 1] bcast_S2048x4_S2048x4x1_0_1 (select (cmpi .slt w (all 0#32)) (addi w (all 2049#32)) w)⟩,
    ⟨S2048x4x1, broadcastInDim S2048x4x1 ![0, 1] bcast_S2048x4_S2048x4x1_0_1 (broadcastInDim S2048x4 ![0, 1] bcast_S1x4_S2048x4_0_1
      (select (cmpi .slt (broadcastInDim S1x4 ![1] bcast_S4_S1x4_1 (iotaInDim S4 32 0)) (broadcastInDim S1x4 ![] bcast_S_S1x4 (constantI S_ 32 0#32)))
        (addi (broadcastInDim S1x4 ![1] bcast_S4_S1x4_1 (iotaInDim S4 32 0)) (broadcastInDim S1x4 ![] bcast_S_S1x4 (constantI S_ 32 4#32)))
        (broadcastInDim S1x4 ![1] bcast_S4_S1x4_1 (iotaInDim S4 32 0))))⟩]
    concatenates_S2048x4x1_S2048x4x1_S2048x4x2_d2

/-- How many tokens a window holds. -/
def size : FVec Ideal S2x2048x4x256 .f32 :=
  broadcastInDim S2x2048x4x256 ![0, 1, 2, 3] bcast_S1x2048x4x1_S2x2048x4x256_0_1_2_3 (broadcastInDim S1x2048x4x1 ![1, 2, 3] bcast_S2048x4x1_S1x2048x4x1_1_2_3
    (broadcastInDim S2048x4x1 ![0, 1] bcast_S2048x4_S2048x4x1_0_1 (sitofp .f32 (subi high low))))

/-- The zero operand. -/
def none2049 : FVec Ideal S2x2049x4x256 .f32 := broadcastInDim S2x2049x4x256 ![] bcast_S_S2x2049x4x256 (constant S_ .f32 0x00000000#32)

def nil0 : FVec Ideal S_ .f32 := broadcastInDim S_ ![] bcast_S_S_ (constant S_ .f32 0x00000000#32)

/-- The sums of the first `n` tokens, from the running sums: no token, then one more each. -/
def upto (q : FVec Ideal S2x2048x4x256 .f32) : FVec Ideal S2x2049x4x256 .f32 :=
  concatenate S2x2049x4x256 1 [⟨S2x1x4x256, broadcastInDim S2x1x4x256 ![] bcast_S_S2x1x4x256 (constant (F := Ideal) S_ .f32 0x00000000#32)⟩,
    ⟨S2x2048x4x256, q⟩] concatenates_S2x1x4x256_S2x2048x4x256_S2x2049x4x256_d1

/-- The running sums along the tokens. -/
def running (p : FVec Ideal S2x2048x4x256 .f32) : FVec Ideal S2x2048x4x256 .f32 :=
  Host.reduceWindowAdd ![1, 2048, 1, 1] ![1, 1, 1, 1] ![0, 2047, 0, 0] ![0, 0, 0, 0] p nil0
    reduceWindows_S2x2048x4x256_S2x2048x4x256_w1s1p0_0_w2048s1p2047_0_w1s1p0_0_w1s1p0_0 h_S_

/-- A window's average less its token. -/
def fore (p : FVec Ideal S2x2048x4x256 .f32) : FVec Ideal S2x2048x4x256 .f32 :=
  subf (Host.divf (subf (Host.gather gather_S2x2049x4x256_S2048x4x2_S2x2048x4x256_03_12_n_n_12_2_211256 (upto (running p)) (ends high))
    (Host.gather gather_S2x2049x4x256_S2048x4x2_S2x2048x4x256_03_12_n_n_12_2_211256 (upto (running p)) (ends low))) size) p

/-- What the derivative of reading at the windows' ends adds at each place. -/
def addEnds (z : FVec Ideal S2x2048x4x256 .f32) : FVec Ideal S2x2049x4x256 .f32 :=
  addf (Host.scatterAdd scatter_S2x2049x4x256_S2048x4x2_S2x2048x4x256_03_12_12_2 none2049 (ends low) (Host.negf (Host.divf z size)))
    (Host.scatterAdd scatter_S2x2049x4x256_S2048x4x2_S2x2048x4x256_03_12_12_2 none2049 (ends high) (Host.divf z size))

/-- The sums from a token on. -/
def onward (q : FVec Ideal S2x2048x4x256 .f32) : FVec Ideal S2x2048x4x256 .f32 :=
  Host.reduceWindowAdd ![1, 2048, 1, 1] ![1, 1, 1, 1] ![0, 0, 0, 0] ![0, 2047, 0, 0] q nil0
    reduceWindows_S2x2048x4x256_S2x2048x4x256_w1s1p0_0_w2048s1p0_2047_w1s1p0_0_w1s1p0_0 h_S_

/-- The derivative of a window's average less its token, applied to `z`. -/
def back (z : FVec Ideal S2x2048x4x256 .f32) : FVec Ideal S2x2048x4x256 .f32 :=
  addf (Host.negf z) (onward (extractStridedSlice S2x2048x4x256 ![0, 1, 0, 0] (addEnds z) slices_S2x2049x4x256_S2x2048x4x256_0_1_0_0))

section Res

variable (a0 : FVec Ideal S2x2048x1024 .f32) (a1 : FVec Ideal S2x2048x8192 .f32) (a2 : FVec Ideal S4x256x256 .f32) (a3 : FVec Ideal S1024 .f32)

/-- The scaled cotangent by branch. -/
def scaled : FVec Ideal S4x256x2x2048 .f32 :=
  transpose S4x256x2x2048 [2, 3, 0, 1] (shapeCast S2x2048x4x256 (mulf a0 (broadcastInDim S2x2048x1024 ![0, 1, 2] bcast_S2x1x1024_S2x2048x1024_0_1_2
    (broadcastInDim S2x1x1024 ![2] bcast_S1024_S2x1x1024_2 a3))) shapeCasts_S2x2048x1024_S2x2048x4x256) transposes_S2x2048x4x256_S4x256x2x2048_2_3_0_1

/-- The cotangent of the windows' averages. -/
def zed : FVec Ideal S2x2048x4x256 .f32 :=
  transpose S2x2048x4x256 [1, 2, 0, 3] (Host.dotGeneral dot_S4x256x2x2048_S4x256x256_S4x2x2048x256_1_2_23_1_0_0 none (scaled a0 a3) a2)
    transposes_S4x2x2048x256_S2x2048x4x256_1_2_0_3

/-- The pooled segment by branch. -/
def seg : FVec Ideal S2x2048x4x256 .f32 :=
  shapeCast S2x2048x4x256 (extractStridedSlice S2x2048x1024 ![0, 0, 5120] a1 slices_S2x2048x8192_S2x2048x1024_0_0_5120) shapeCasts_S2x2048x1024_S2x2048x4x256

end Res

section Entry

variable (m : (ℓ : Loc nD τ sig) → Buf (Elt Ideal) ℓ) (c : Dev nD)

theorem v97 : Cert.ReferencePoolIdeal.Value.res_main_v97 (F := Ideal) m c = truncf .bf16 (concatenate S8x4096x1024 0
    [⟨S5x4096x1024, broadcastInDim S5x4096x1024 ![] bcast_S_S5x4096x1024 (constant S_ .f32 0x00000000#32)⟩,
     ⟨S1x4096x1024, shapeCast S1x4096x1024 (shapeCast S2x2048x1024 (back (zed (m ((c.tc : Thread nD τ).loc main_arg0)) (m ((c.tc : Thread nD τ).loc main_arg2)) (m ((c.tc : Thread nD τ).loc main_arg3))))
       shapeCasts_S2x2048x4x256_S2x2048x1024) shapeCasts_S2x2048x1024_S1x4096x1024⟩,
     ⟨S2x4096x1024, broadcastInDim S2x4096x1024 ![] bcast_S_S2x4096x1024 (constant S_ .f32 0x00000000#32)⟩]
    concatenates_S5x4096x1024_S1x4096x1024_S2x4096x1024_S8x4096x1024_d0) bitsLt_bf16_f32 := by
  unfold Value.res_main_v97 back onward addEnds zed scaled size ends high low tok wid all none2049 nil0
  rfl

theorem v99 : Cert.ReferencePoolIdeal.Value.res_main_v99 (F := Ideal) m c = transpose S4x4x64x256 [1, 0, 2, 3] (shapeCast S4x4x64x256
    (transpose S4x256x256 [0, 2, 1] (Host.dotGeneral dot_S4x256x2x2048_S2x2048x4x256_S4x256x256_23_01_1_3_0_2 none
      (scaled (m ((c.tc : Thread nD τ).loc main_arg0)) (m ((c.tc : Thread nD τ).loc main_arg3))) (fore (seg (m ((c.tc : Thread nD τ).loc main_arg1)))))
      transposes_S4x256x256_S4x256x256_0_2_1) shapeCasts_S4x256x256_S4x4x64x256) transposes_S4x4x64x256_S4x4x64x256_1_0_2_3 := by
  unfold Value.res_main_v99 fore upto running seg scaled size ends high low tok wid all nil0
  rfl

theorem v100 : Cert.ReferencePoolIdeal.Value.res_main_v100 (F := Ideal) m c = broadcastInDim S2x8x1024 ![0, 1, 2] bcast_S2x1x1024_S2x8x1024_0_1_2
    (shapeCast S2x1x1024 (Host.reduceAdd (mulf (shapeCast S2x2048x1024 (transpose S2x2048x4x256 [2, 3, 0, 1]
      (Host.dotGeneral dot_S4x256x256_S2x2048x4x256_S4x256x2x2048_1_3_2_01_0_2 none (φ₁ := .f32) (φ₂ := .f32) (m ((c.tc : Thread nD τ).loc main_arg2)) (fore (seg (m ((c.tc : Thread nD τ).loc main_arg1)))))
      transposes_S4x256x2x2048_S2x2048x4x256_2_3_0_1) shapeCasts_S2x2048x4x256_S2x2048x1024) (m ((c.tc : Thread nD τ).loc main_arg0)))
      (constant S_ .f32 0x00000000#32) reducesTo_S2x2048x1024_S2x1024_d1 h_S_) shapeCasts_S2x1024_S2x1x1024) := by
  unfold Value.res_main_v100 fore upto running seg size ends high low tok wid all nil0
  rfl

end Entry

/-- A window's first token, and the token after its last, at half width `h`. -/
def lo (h : ℕ) (t : Fin 2048) : Fin 2049 := ⟨t.val + 1 - h, by omega⟩

/-- The token after a window's last. -/
def hi (h : ℕ) (t : Fin 2048) : Fin 2049 := ⟨min (t.val + h + 1) 2048, by omega⟩

/-- The two ends as the reference forms them, from the token's number and the branch's half width. -/
theorem low_word (k : BitVec 32) (hk : k.toInt.natAbs ≤ 8) (hp : 0 ≤ k.toInt) (t : Fin 2048) :
    (IntOp.minsi 2048#32 (IntOp.maxsi 0#32 (IntOp.addi (IntOp.subi (BitVec.ofNat 32 t.val) k) 1#32))).toInt = (lo k.toInt.toNat t).val := by
  have ht := t.isLt
  have e2 : (BitVec.ofNat 32 t.val - k + 1#32).toInt = (t.val : ℤ) - k.toInt + 1 := by
    rw [BitVec.toInt_add, BitVec.toInt_sub, BitVec.toInt_ofNat']
    simp only [Int.bmod, BitVec.reduceToInt]
    omega
  simp only [IntOp.subi, IntOp.addi, IntOp.minsi, IntOp.maxsi, lo, BitVec.slt_iff_toInt_lt, e2, BitVec.reduceToInt]
  split_ifs <;> simp only [e2, BitVec.reduceToInt] at * <;> omega

@[inherit_doc low_word] theorem high_word (k : BitVec 32) (hk : k.toInt.natAbs ≤ 8) (hp : 0 ≤ k.toInt) (t : Fin 2048) :
    (IntOp.minsi 2048#32 (IntOp.maxsi 0#32 (IntOp.addi (IntOp.addi (BitVec.ofNat 32 t.val) k) 1#32))).toInt = (hi k.toInt.toNat t).val := by
  have ht := t.isLt
  have e2 : (BitVec.ofNat 32 t.val + k + 1#32).toInt = (t.val : ℤ) + k.toInt + 1 := by
    rw [BitVec.toInt_add, BitVec.toInt_add, BitVec.toInt_ofNat']
    simp only [Int.bmod, BitVec.reduceToInt]
    omega
  simp only [IntOp.addi, IntOp.minsi, IntOp.maxsi, hi, BitVec.slt_iff_toInt_lt, e2, BitVec.reduceToInt]
  split_ifs <;> simp only [e2, BitVec.reduceToInt] at * <;> omega

theorem four (g : Fin 4) : g = 0 ∨ g = 1 ∨ g = 2 ∨ g = 3 := (by decide : ∀ a : Fin 4, a = 0 ∨ a = 1 ∨ a = 2 ∨ a = 3) g

theorem low_apply (t : Fin 2048) (g : Fin 4) : (low (ix2 t g)).toInt = (lo (2 ^ g.val) t).val := by
  obtain rfl | rfl | rfl | rfl := four g
  all_goals pointwise [low, all, tok, wid]
  · exact low_word 1#32 (by decide) (by decide) t
  · exact low_word 2#32 (by decide) (by decide) t
  · exact low_word 4#32 (by decide) (by decide) t
  · exact low_word 8#32 (by decide) (by decide) t

theorem high_apply (t : Fin 2048) (g : Fin 4) : (high (ix2 t g)).toInt = (hi (2 ^ g.val) t).val := by
  obtain rfl | rfl | rfl | rfl := four g
  all_goals pointwise [high, all, tok, wid]
  · exact high_word 1#32 (by decide) (by decide) t
  · exact high_word 2#32 (by decide) (by decide) t
  · exact high_word 4#32 (by decide) (by decide) t
  · exact high_word 8#32 (by decide) (by decide) t

theorem ends_at (w : IVec S2048x4 32) (n : Fin 4 → Fin 2048 → Fin 2049) (h : ∀ t g, (w (ix2 t g)).toInt = (n g t).val) : At (ends w) n := by
  intro t g
  refine ⟨?_, ?_⟩
  · pointwise [ends, all]
    have e : IntOp.cmpi .slt (w (ix2 t g)) 0#32 = 0#1 := by
      have h0 : ¬((n g t).val : ℤ) < 0 := by omega
      simp only [IntOp.cmpi, BitVec.slt, h t g, BitVec.reduceToInt, decide_eq_false h0]
      rfl
    rw [e]
    exact h t g
  · pointwise [ends, all]
    exact (by decide : ∀ g : Fin 4, (Scalar.select (IntOp.cmpi .slt (BitVec.ofNat 32 g.val) 0#32) (IntOp.addi (BitVec.ofNat 32 g.val) 4#32)
      (BitVec.ofNat 32 g.val)).toInt = (g.val : ℤ)) g

theorem size_apply (b : Fin 2) (t : Fin 2048) (g : Fin 4) (k : Fin 256) : size (ix4 b t g k) = ((count (2 ^ g.val) t : ℝ) : EReal) := by
  have e : (IntOp.subi (high (ix2 t g)) (low (ix2 t g))).toInt = (count (2 ^ g.val) t : ℤ) := by
    have h1 := high_apply t g
    have h2 := low_apply t g
    have h3 := (hi (2 ^ g.val) t).isLt
    have h4 := (lo (2 ^ g.val) t).isLt
    have hg : 2 ^ g.val ≤ 8 := (by decide : ∀ g : Fin 4, 2 ^ g.val ≤ 8) g
    simp only [IntOp.subi, BitVec.toInt_sub, h1, h2, Int.bmod]
    simp only [hi, lo, count] at *
    generalize 2 ^ g.val = h at *
    omega
  pointwise [size]
  exact (congrArg (fun i : ℤ => ((i : ℝ) : EReal)) e).trans (by rw [Int.cast_natCast])

theorem nil0_eq : nil0 = fun _ => 0 := by
  funext j
  pointwise [nil0]

theorem upto_apply (q : FVec Ideal S2x2048x4x256 .f32) (b : Fin 2) (n : Fin 2049) (g : Fin 4) (k : Fin 256) :
    upto q (ix4 b n g k) = if h : 1 ≤ n.val then q (ix4 b ⟨n.val - 1, by omega⟩ g k) else 0 := by
  pointwise [upto]
  by_cases h : n.val < 1
  · rw [dif_pos h, dif_neg (by omega)]
  · rw [dif_neg h, dif_pos (by omega)]

theorem running_apply (p : FVec Ideal S2x2048x4x256 .f32) (b : Fin 2) (n : Fin 2049) (g : Fin 4) (k : Fin 256) :
    upto (running p) (ix4 b n g k) = ∑ s : Fin 2048, if s.val < n.val then p (ix4 b s g k) else 0 := by
  rw [upto_apply]
  split_ifs with h
  · rw [running, window_apply _ _ _ _ _ _ nil0_eq]
    refine Finset.sum_congr rfl fun s _ => if_congr ?_ rfl rfl
    have := s.isLt
    dsimp only
    omega
  · exact (Finset.sum_eq_zero fun s _ => if_neg (by omega)).symm

theorem fore_apply (p : FVec Ideal S2x2048x4x256 .f32) (b : Fin 2) (t : Fin 2048) (g : Fin 4) (k : Fin 256) :
    fore p (ix4 b t g k) = Ideal.div ((∑ s : Fin 2048, if s.val < (hi (2 ^ g.val) t).val then p (ix4 b s g k) else 0)
      - ∑ s : Fin 2048, if s.val < (lo (2 ^ g.val) t).val then p (ix4 b s g k) else 0) (count (2 ^ g.val) t : ℝ) - p (ix4 b t g k) := by
  unfold fore
  pointwise
  rw [gather_apply _ _ _ (ends_at high (fun g t => hi (2 ^ g.val) t) high_apply), gather_apply _ _ _ (ends_at low (fun g t => lo (2 ^ g.val) t) low_apply),
    running_apply, running_apply, size_apply]

theorem addEnds_apply (z : FVec Ideal S2x2048x4x256 .f32) (b : Fin 2) (s : Fin 2049) (g : Fin 4) (k : Fin 256) :
    addEnds z (ix4 b s g k) = (∑ u : Fin 2048, if lo (2 ^ g.val) u = s then -Ideal.div (z (ix4 b u g k)) (count (2 ^ g.val) u : ℝ) else 0)
      + ∑ u : Fin 2048, if hi (2 ^ g.val) u = s then Ideal.div (z (ix4 b u g k)) (count (2 ^ g.val) u : ℝ) else 0 := by
  have h0 : none2049 (ix4 b s g k) = 0 := by pointwise [none2049]
  have hz (u : Fin 2048) : Host.divf z size (ix4 b u g k) = Ideal.div (z (ix4 b u g k)) (count (2 ^ g.val) u : ℝ) := by
    pointwise
    rw [size_apply]
  have hn (u : Fin 2048) : Host.negf (Host.divf z size) (ix4 b u g k) = -Ideal.div (z (ix4 b u g k)) (count (2 ^ g.val) u : ℝ) := by
    pointwise
    rw [size_apply]
  unfold addEnds
  pointwise
  rw [scatter_apply _ _ _ _ (ends_at high (fun g t => hi (2 ^ g.val) t) high_apply), scatter_apply _ _ _ _ (ends_at low (fun g t => lo (2 ^ g.val) t) low_apply)]
  simp only [h0, hz, hn, zero_add]

theorem back_apply (z : FVec Ideal S2x2048x4x256 .f32) (b : Fin 2) (t : Fin 2048) (g : Fin 4) (k : Fin 256) :
    back z (ix4 b t g k) = -z (ix4 b t g k) + ∑ s : Fin 2048, if t.val ≤ s.val then
      (∑ u : Fin 2048, if lo (2 ^ g.val) u = ⟨s.val + 1, by omega⟩ then -Ideal.div (z (ix4 b u g k)) (count (2 ^ g.val) u : ℝ) else 0)
      + (∑ u : Fin 2048, if hi (2 ^ g.val) u = ⟨s.val + 1, by omega⟩ then Ideal.div (z (ix4 b u g k)) (count (2 ^ g.val) u : ℝ) else 0) else 0 := by
  pointwise [back]
  rw [onward, window_apply _ _ _ _ _ _ nil0_eq]
  refine congrArg _ (Finset.sum_congr rfl fun s _ => if_congr (by omega) ?_ rfl)
  rw [← addEnds_apply]
  pointwise
  exact congrArg (fun n => addEnds z (ix4 b n g k)) (Fin.ext (Nat.add_comm _ _))

section Args

variable (a0 : FVec Ideal S2x2048x1024 .f32) (a1 : FVec Ideal S2x2048x8192 .f32) (a2 : FVec Ideal S4x256x256 .f32)
  (a3 : FVec Ideal S1024 .f32) (b : Fin 2) (t : Fin 2048) (g : Fin 4) (k : Fin 256)

theorem scaled_apply : scaled a0 a3 (ix4 g k b t) = dl (aD a0 b g) (aS a3 g) t k := by
  pointwise [scaled, dl, aD, aS]

theorem zed_apply : zed a0 a2 a3 (ix4 b t g k) = z (aD a0 b g) (aW a2 g) (aS a3 g) t k := by
  pointwise [zed, z, aW]
  exact Finset.sum_congr rfl fun l _ => by rw [scaled_apply]

theorem seg_apply : seg a1 (ix4 b t g k) = aP a1 b g t k := by
  pointwise [seg, aP]
  exact congrArg a1 (congrArg (ix3 b t) (Fin.ext (by dsimp only; omega)))

end Args

end Cert.Pool
end
-- ==== Proof.Pool.lean ====
/-
  THE POOLING'S GRADIENT IS THE DERIVATIVE OF THE POOLING. The reference takes each window's average from a running sum
  and differentiates it: its derivative adds at the windows' two ends and sums from the other side. Over real numbers both
  are sums over the tokens of a window, which is what the kernel adds up shift by shift.
-/
module

public import proofs.«01_k».proof.Proof.PoolRef
public import proofs.«01_k».proof.Defs
public import proofs.«01_k».proof.Proof.Gen.Pre_finite_pool
public import proofs.«01_k».proof.Proof.Gen.On_written_pool

@[expose] public section

set_option maxRecDepth 16384

noncomputable section

namespace Cert.Pool

open Idealize.ShloMosaic Idealize.SL.Sem Cert.Finite

/-! The windows' sums, over the tokens they hold. -/

theorem shift_sum (d : ℤ) (x : Fin 2048 → EReal) (t : Fin 2048) : shift d x t = ∑ s : Fin 2048, if (s.val : ℤ) = t.val + d then x s else 0 := by
  unfold shift
  split_ifs with h
  · rw [Finset.sum_eq_single ⟨((t.val : ℤ) + d).toNat, by omega⟩]
    · rw [if_pos (by dsimp only; omega)]
    · intro s _ hs
      exact if_neg fun e => hs (Fin.ext (by dsimp only; omega))
    · exact fun h => absurd (Finset.mem_univ _) h
  · refine (Finset.sum_eq_zero fun s _ => if_neg fun e => h ?_).symm
    have := s.isLt
    omega

/-- Shifts by `i - c` for `i` below `n` reach the tokens from `c` before to `n - c - 1` after. -/
theorem shifts_sum (n : ℕ) (c : ℤ) (x : Fin 2048 → EReal) (t : Fin 2048) :
    ∑ i ∈ Finset.range n, shift ((i : ℤ) - c) x t = ∑ s : Fin 2048, if 0 ≤ (s.val : ℤ) - t.val + c ∧ (s.val : ℤ) - t.val + c < n then x s else 0 := by
  rw [Finset.sum_congr rfl fun i _ => shift_sum _ x t, Finset.sum_comm]
  refine Finset.sum_congr rfl fun s _ => ?_
  split_ifs with h
  · rw [Finset.sum_eq_single ((s.val : ℤ) - t.val + c).toNat]
    · rw [if_pos (by omega)]
    · intro i _ hi
      exact if_neg fun e => hi (by omega)
    · exact fun h => absurd (Finset.mem_range.2 (by omega)) h
  · refine Finset.sum_eq_zero fun i hi => if_neg fun e => h ?_
    have := Finset.mem_range.1 hi
    omega

variable {h : ℕ} (hh : 1 ≤ h)
include hh

theorem win_sum (x : Fin 2048 → EReal) (t : Fin 2048) :
    win h x t = ∑ s : Fin 2048, if (lo h t).val ≤ s.val ∧ s.val < (hi h t).val then x s else 0 := by
  unfold win
  rw [shifts_sum]
  refine Finset.sum_congr rfl fun s _ => if_congr ?_ rfl rfl
  have := s.isLt
  simp only [lo, hi]
  omega

theorem winT_sum (x : Fin 2048 → EReal) (t : Fin 2048) :
    winT h x t = ∑ u : Fin 2048, if (lo h u).val ≤ t.val ∧ t.val < (hi h u).val then x u else 0 := by
  unfold winT
  rw [shifts_sum]
  refine Finset.sum_congr rfl fun s _ => if_congr ?_ rfl rfl
  have := s.isLt
  have := t.isLt
  simp only [lo, hi]
  omega

theorem count_ne (t : Fin 2048) : (count h t : ℝ) ≠ 0 := by
  have := t.isLt
  have : count h t ≠ 0 := by unfold count; omega
  exact_mod_cast this

omit hh

/-- A choice between a real number and zero. -/
theorem coe_ite (p : Prop) [Decidable p] (x : ℝ) : (if p then (x : EReal) else 0) = ((if p then x else 0 : ℝ) : EReal) := by
  split_ifs
  · rfl
  · rfl

include hh

/-- The windows' averages less their tokens, over real numbers. -/
theorem average (x : Fin 2048 → ℝ) (t : Fin 2048) :
    Ideal.div ((∑ s : Fin 2048, if s.val < (hi h t).val then (x s : EReal) else 0) - ∑ s : Fin 2048, if s.val < (lo h t).val then (x s : EReal) else 0)
      (count h t : ℝ) = Ideal.div (win h (fun s => (x s : EReal)) t) (count h t : ℝ) := by
  rw [win_sum hh]
  simp only [coe_ite, coe_sum, ← EReal.coe_sub, ← Finset.sum_sub_distrib]
  refine congrArg (fun r : ℝ => Ideal.div (r : EReal) _) (Finset.sum_congr rfl fun s _ => ?_)
  have e : (lo h t).val ≤ (hi h t).val := by simp only [lo, hi]; omega
  split_ifs <;> first | omega | simp

/-- The derivative of that, over real numbers: what is added at the windows' ends and summed from the other side is each
    window's cotangent at the tokens it holds. -/
theorem derivative (x : Fin 2048 → ℝ) (t : Fin 2048) :
    (-(x t : EReal) + ∑ s : Fin 2048, if t.val ≤ s.val then
      (∑ u : Fin 2048, if lo h u = ⟨s.val + 1, by omega⟩ then -Ideal.div (x u : EReal) (count h u : ℝ) else 0)
      + (∑ u : Fin 2048, if hi h u = ⟨s.val + 1, by omega⟩ then Ideal.div (x u : EReal) (count h u : ℝ) else 0) else 0)
      = winT h (fun u => Ideal.div (x u : EReal) (count h u : ℝ)) t - (x t : EReal) := by
  rw [winT_sum hh]
  have hd (u : Fin 2048) : Ideal.div (x u : EReal) (count h u : ℝ) = ((x u / count h u : ℝ) : EReal) := by
    rw [Ideal.div_coe (count_ne hh u), ← EReal.coe_mul]
    exact congrArg _ (by ring)
  simp only [hd, ← EReal.coe_neg, coe_ite, coe_sum, ← EReal.coe_add, ← EReal.coe_sub]
  refine EReal.coe_eq_coe_iff.2 ?_
  have e (s : Fin 2048) : (if t.val ≤ s.val then (∑ u : Fin 2048, if lo h u = ⟨s.val + 1, by omega⟩ then -(x u / count h u) else 0)
      + (∑ u : Fin 2048, if hi h u = ⟨s.val + 1, by omega⟩ then x u / count h u else 0) else 0)
      = ∑ u : Fin 2048, x u / count h u * ((if (hi h u).val = s.val + 1 ∧ t.val ≤ s.val then 1 else 0) - (if (lo h u).val = s.val + 1 ∧ t.val ≤ s.val then 1 else 0)) := by
    simp only [Fin.ext_iff]
    by_cases hs : t.val ≤ s.val
    · simp only [hs, and_true, if_true]
      rw [← Finset.sum_add_distrib]
      refine Finset.sum_congr rfl fun u _ => ?_
      split_ifs <;> ring
    · simp [hs]
  have one (n : Fin 2049) : (∑ s : Fin 2048, if n.val = s.val + 1 ∧ t.val ≤ s.val then (1 : ℝ) else 0) = if t.val < n.val then 1 else 0 := by
    split_ifs with hn
    · rw [Finset.sum_eq_single ⟨n.val - 1, by omega⟩]
      · rw [if_pos (by dsimp only; omega)]
      · intro s _ hs
        exact if_neg fun e => hs (Fin.ext (by dsimp only; omega))
      · exact fun h => absurd (Finset.mem_univ _) h
    · exact Finset.sum_eq_zero fun s _ => if_neg (by omega)
  rw [Finset.sum_congr rfl fun s _ => e s, Finset.sum_comm]
  simp only [← Finset.mul_sum, Finset.sum_sub_distrib, one]
  rw [neg_add_eq_sub]
  refine congrArg (· - x t) (Finset.sum_congr rfl fun u _ => ?_)
  have e : (lo h u).val ≤ (hi h u).val := by simp only [lo, hi]; omega
  split_ifs <;> first | omega | ring

omit hh

section Args

open Cert.ReferencePoolIdeal

variable (a0 : FVec Ideal S2x2048x1024 .f32) (a1 : FVec Ideal S2x2048x8192 .f32) (a2 : FVec Ideal S4x256x256 .f32)
  (a3 : FVec Ideal S1024 .f32) (b : Fin 2) (t : Fin 2048) (g : Fin 4) (k : Fin 256)

theorem fore_eq (h1 : Real a1) : fore (seg a1) (ix4 b t g k) = y (2 ^ g.val) (aP a1 b g) t k := by
  rw [fore_apply]
  simp only [seg_apply]
  obtain ⟨x, hx⟩ := lift (x := fun s => aP a1 b g s k) fun s => h1 _
  have hx' (s : Fin 2048) : aP a1 b g s k = (x s : EReal) := congrFun hx s
  unfold y
  simp only [hx']
  rw [average (Nat.one_le_two_pow)]

theorem back_eq (h0 : Real a0) (h2 : Real a2) (h3 : Real a3) :
    back (zed a0 a2 a3) (ix4 b t g k) = dp (2 ^ g.val) (aD a0 b g) (aW a2 g) (aS a3 g) t k := by
  rw [back_apply]
  simp only [zed_apply]
  have hz : Real fun s => z (aD a0 b g) (aW a2 g) (aS a3 g) s k := fun s => by
    obtain ⟨x0, l0⟩ := lift h0
    obtain ⟨x2, l2⟩ := lift h2
    obtain ⟨x3, l3⟩ := lift h3
    simp only [z, dl, aD, aW, aS, l0, l2, l3, ← EReal.coe_mul, coe_sum]
    exact ⟨_, rfl⟩
  obtain ⟨x, hx⟩ := lift hz
  have hx' (s : Fin 2048) : z (aD a0 b g) (aW a2 g) (aS a3 g) s k = (x s : EReal) := congrFun hx s
  unfold dp
  simp only [hx']
  exact derivative Nat.one_le_two_pow x t

end Args

/-- The claim's mask selects the segment that this call writes. -/
theorem written [Cert.On_written_pool.Facts] {a0 a1 a2 a3 : FVec Ideal _ .f32} (j : (⟨3, ![8, 4096, 1024]⟩ : Shape).Idx)
    (h : (Cert.On_written_pool.fn (F := Ideal) a0 a1 a2 a3).1 j = 1#1) : (j (0 : Fin 3)).val = 5 := by
  have e : (Cert.On_written_pool.fn (F := Ideal) a0 a1 a2 a3).1 j = IntOp.cmpi .eq (BitVec.ofNat 32 (j (0 : Fin 3)).val) 5#32 := rfl
  rw [e] at h
  have hj : (j (0 : Fin 3)).val < 8 := (j (0 : Fin 3)).isLt
  generalize (j (0 : Fin 3)).val = n at h hj ⊢
  interval_cases n <;> first | omega | exact absurd h (by decide)

/-- The precondition says that every element of the arguments is a real number. -/
theorem finite [Cert.Pre_finite_pool.Facts] {a0 a1 a2 a3 : FVec Ideal _ .f32}
    (h : Cert.Pre_finite_pool.fn (F := Ideal) a0 a1 a2 a3 = fun _ => 1#1) : Real a0 ∧ Real a1 ∧ Real a2 ∧ Real a3 := by
  obtain ⟨h, h3⟩ := andi_split h
  obtain ⟨h, h2⟩ := andi_split h
  obtain ⟨h0, h1⟩ := andi_split h
  exact ⟨real_of_all _ _ _ _ h0, real_of_all _ _ _ _ h1, real_of_all _ _ _ _ h2, real_of_all _ _ _ _ h3⟩

open Cert.ReferencePoolIdeal in
/-- The reference's results are the gradients. -/
theorem ref (m : (ℓ : Loc nD τ sig) → Buf (Elt Ideal) ℓ) (c : Dev nD)
    (h0 : Real (m (c.tc.loc main_arg0) : FVec Ideal S2x2048x1024 .f32)) (h1 : Real (m (c.tc.loc main_arg1) : FVec Ideal S2x2048x8192 .f32))
    (h2 : Real (m (c.tc.loc main_arg2) : FVec Ideal S4x256x256 .f32)) (h3 : Real (m (c.tc.loc main_arg3) : FVec Ideal S1024 .f32)) :
    (∀ j : S8x4096x1024.Idx, (j 0 : Fin 8).val = 5 → Value.res_main_v97 m c j
      = dpA (m (c.tc.loc main_arg0)) (m (c.tc.loc main_arg2)) (m (c.tc.loc main_arg3)) (j 1) (j 2))
    ∧ (Value.res_main_v99 m c = fun j : S4x4x64x256.Idx =>
      dwA (m (c.tc.loc main_arg0)) (m (c.tc.loc main_arg1)) (m (c.tc.loc main_arg3)) (j 1) (j 0) (j 2) (j 3))
    ∧ (Value.res_main_v100 m c = fun j : S2x8x1024.Idx =>
      dsA (m (c.tc.loc main_arg0)) (m (c.tc.loc main_arg1)) (m (c.tc.loc main_arg2)) (j 0) (j 2)) := by
  refine ⟨fun j hj => ?_, ?_, ?_⟩
  · rw [v97]
    idx_vars j
    obtain rfl : j0 = 5 := Fin.ext hj
    pointwise
    rw [back_eq _ _ _ _ _ _ _ h0 h2 h3]
    rfl
  · rw [v99]
    funext j
    idx_vars j
    pointwise [dwA, dw]
    rw [Fin.sum_univ_two]
    refine congrArg₂ (· + ·) (Finset.sum_congr rfl fun t _ => ?_) (Finset.sum_congr rfl fun t _ => ?_)
    all_goals rw [scaled_apply, fore_eq _ _ _ _ _ h1, mul_comm]
  · rw [v100]
    funext j
    idx_vars j
    pointwise [dsA, ds]
    refine Finset.sum_congr rfl fun t _ => ?_
    rw [mul_comm]
    refine congrArg₂ (· * ·) ?_ (Finset.sum_congr rfl fun k _ => ?_)
    · exact congrArg (m (c.tc.loc main_arg0)) (congrArg (ix3 j0 t) (Fin.ext (by dsimp only; omega)))
    · rw [fore_eq _ _ _ _ _ h1, mul_comm]
      rfl

theorem algebraic : Cert.algebraic_KernelPoolIdeal_ReferencePoolIdeal_on_written_pool_pre_finite_pool
    (hKernelPoolIdeal := Cert.KernelPoolIdeal.Gen.facts) (hReferencePoolIdeal := Cert.ReferencePoolIdeal.Gen.facts)
    (hPre_finite_pool := Cert.Pre_finite_pool.Gen.facts) (hOn_written_pool := Cert.On_written_pool.Gen.facts) := by
  intro m g m' g' hpre hagree
  refine ⟨fun c => (fun j => dpA (m (c.tc.loc Cert.KernelPoolIdeal.main_arg0)) (m (c.tc.loc Cert.KernelPoolIdeal.main_arg2))
      (m (c.tc.loc Cert.KernelPoolIdeal.main_arg3)) (j 1) (j 2)),
    fun c => (fun j => dwA (m (c.tc.loc Cert.KernelPoolIdeal.main_arg0)) (m (c.tc.loc Cert.KernelPoolIdeal.main_arg1))
      (m (c.tc.loc Cert.KernelPoolIdeal.main_arg3)) (j 1) (j 0) (j 2) (j 3)),
    fun c => (fun j => dsA (m (c.tc.loc Cert.KernelPoolIdeal.main_arg0)) (m (c.tc.loc Cert.KernelPoolIdeal.main_arg1))
      (m (c.tc.loc Cert.KernelPoolIdeal.main_arg2)) (j 0) (j 2)), ?_, ?_⟩
  · refine (θ_run _ _ _).mono (fun r h c => ?_) (Cert.KernelPoolIdeal.Value.run_blocks m g)
    obtain ⟨e4, e5, e6, kept⟩ := h c
    refine ⟨fun j hj => ?_, fun j _ => congrFun (e5.trans (final5 m c)) j, fun j _ => congrFun (e6.trans (final6 m c)) j, kept⟩
    exact (congrFun (e4.trans (final4 m c)) j).trans (if_pos (written j hj))
  · refine (θ_run _ _ _).mono (fun r h c => ?_) (Cert.ReferencePoolIdeal.Value.run m' g')
    obtain ⟨e0, e1, e2, kept⟩ := h c
    obtain ⟨f0, f1, f2, f3⟩ := finite (hpre c)
    obtain ⟨h0, h1, h2, h3⟩ := hagree c
    have hr := ref m' c (h0.symm ▸ f0) (h1.symm ▸ f1) (h2.symm ▸ f2) (h3.symm ▸ f3)
    rw [h0, h1, h2, h3] at hr
    exact ⟨fun j hj => (congrFun e0 j).trans (hr.1 j (written j hj)), fun j _ => congrFun (e1.trans hr.2.1) j,
      fun j _ => congrFun (e2.trans hr.2.2) j, kept⟩

end Cert.Pool

end
-- ==== Proof.Bound.lean ====
/-
  THE SOFTMAX BOUND'S GRADIENT. Of the two rows the bound keeps the first row of the running sum of their softmax, that is
  the first softmax. The kernel writes it as a logistic function of the rows' difference.
-/
module

public import proofs.«01_k».proof.Defs
public import proofs.«01_k».proof.Proof.Finite
public import proofs.«01_k».proof.Proof.Gen.Pre_finite_bound
public import proofs.«01_k».proof.Proof.Gen.KernelBoundIdeal.Value
public import proofs.«01_k».proof.Proof.Gen.ReferenceBoundIdeal.Run
public import Idealize.ShloMosaic.Lib.Pipeline.ValueKit

@[expose] public section

set_option maxRecDepth 16384

noncomputable section

namespace Cert.Bound

open Idealize.ShloMosaic Idealize.ShloMosaic.TcCoe Idealize.SL.Sem
open Cert.Finite hiding S_
open Cert.ReferenceBoundIdeal Cert.ReferenceBoundIdeal.Gen

/-- The greater of the two rows, from minus infinity on. -/
def top (a : FVec Ideal S2x2x256 .f32) : FVec Ideal S2x256 .f32 :=
  maximumf (broadcastInDim S2x256 ![] bcast_S_S2x256 (constant S_ .f32 0xFF800000#32))
    (Host.reduce FloatOps.maximumf a (constant S_ .f32 0xFF800000#32) reducesTo_S2x2x256_S2x256_d1 h_S_)

/-- The exponentials of the rows less the greater one. -/
def expo (a : FVec Ideal S2x2x256 .f32) : FVec Ideal S2x2x256 .f32 :=
  Host.exp (subf a (broadcastInDim S2x2x256 ![0, 1, 2] bcast_S2x1x256_S2x2x256_0_1_2
    (broadcastInDim S2x1x256 ![0, 2] bcast_S2x256_S2x1x256_0_2 (top a))))

/-- Their sum over the rows. -/
def total (a : FVec Ideal S2x2x256 .f32) : FVec Ideal S2x256 .f32 :=
  Host.reduceAdd (expo a) (constant S_ .f32 0x00000000#32) reducesTo_S2x2x256_S2x256_d1 h_S_

/-- The cotangent of the softmax: the running sum of the cotangent from the other side. -/
def cot (a : FVec Ideal S2x256 .f32) : FVec Ideal S2x2x256 .f32 :=
  Host.reduceWindowAdd ![1, 2, 1] ![1, 1, 1] ![0, 0, 0] ![0, 1, 0] (pad S2x2x256 ![0, 0, 0] ![0, 1, 0] ![0, 0, 0]
    (broadcastInDim S2x1x256 ![0, 2] bcast_S2x256_S2x1x256_0_2 a) (constant S_ .f32 0x00000000#32)
    pads_S2x1x256_S2x2x256_000_010_000 h_S_) (broadcastInDim S_ ![] bcast_S_S_ (constant S_ .f32 0x00000000#32))
    reduceWindows_S2x2x256_S2x2x256_w1s1p0_0_w2s1p0_1_w1s1p0_0 h_S_

theorem top_real {a : S2x2x256.Idx → ℝ} (d : Fin 2) (c : Fin 256) :
    ∃ M : ℝ, top (fun i => (a i : EReal)) (ix2 d c) = (M : EReal) := by
  refine ⟨max (a (ix3 d 0 c)) (a (ix3 d 1 c)), ?_⟩
  have h : S2x2x256.Reduces [1] S2x256 := by decide
  unfold top
  rw [maximumf_apply, Host.reduce_eq_fold_single _ _ _ _ h]
  have e : ∀ x : Fin (S2x2x256.size 1), (fun i => (a i : EReal)) (h.lift (ix2 d c) x) = (a (ix3 d x c) : EReal) :=
    fun x => congrArg (fun i => (a i : EReal)) ((eq_ix3 _).trans rfl)
  have f : ((fun i => (a i : EReal)) ∘ h.lift (ix2 d c)) = fun x => (a (ix3 d x c) : EReal) := funext e
  rw [f]
  change max _ ((Finset.univ : Finset (Fin 2)).fold _ _ fun x => (a (ix3 d x c) : EReal)) = _
  rw [show (Finset.univ : Finset (Fin 2)) = {0, 1} from rfl]
  pointwise []
  rw [show Ideal.ofBits FTy.f32 4286578688#32 = ⊥ by simp [Ideal.ofBits, Ideal.ieee]]
  simp
  exact (EReal.coe_strictMono.monotone.map_max).symm

/-- The windows' shape: two rows. -/
abbrev Wd : Shape := ⟨3, ![1, 2, 1]⟩

/-- A sum over the windows' places is a sum of two terms. -/
theorem foldl_rows (f : Fin Wd.numel → EReal) :
    (List.finRange Wd.numel).foldl (fun r n => r + f n) 0 = f (Wd.rowMajor (ix3 0 0 0)) + f (Wd.rowMajor (ix3 0 1 0)) := by
  have e : (List.finRange Wd.numel).foldl (fun r n => r + f n) 0 = ∑ n, f n := by
    rw [← List.sum_ofFn, List.ofFn_eq_map, List.sum_eq_foldl, List.foldl_map]
  let q : Fin 2 ≃ Wd.Idx := ⟨fun n => ix3 0 n 0, fun w => w 1, fun n => rfl, fun w => by
    refine Eq.trans ?_ (eq_ix3 w).symm
    have e0 : (0 : Fin 1) = w 0 := Subsingleton.elim (α := Fin 1) _ _
    have e2 : (0 : Fin 1) = w 2 := Subsingleton.elim (α := Fin 1) _ _
    rw [← e0, ← e2]⟩
  rw [e, ← Equiv.sum_comp (q.trans Wd.rowMajor) f, Fin.sum_univ_two]
  rfl

/-- A window of two rows of an array padded by one row of zeros behind. -/
theorem window_apply (x : FVec Ideal S2x2x256 .f32) (i : FVec Ideal S_ .f32)
    (h : S2x2x256.ReduceWindows ![1, 2, 1] ![1, 1, 1] ![0, 0, 0] ![0, 1, 0] S2x2x256) (hu : 0 < S_.numel)
    (hi : i = fun _ => 0) (d l : Fin 2) (c : Fin 256) :
    Host.reduceWindowAdd ![1, 2, 1] ![1, 1, 1] ![0, 0, 0] ![0, 1, 0] x i h hu (ix3 d l c)
      = x (ix3 d l c) + if l = 0 then x (ix3 d 1 c) else 0 := by
  subst hi
  unfold Host.reduceWindowAdd
  rw [Ideal.hostReduceWindowAdd_def]
  unfold Ideal.hostReduceWindowAdd Host.reduceWindow
  dsimp only
  refine (foldl_rows _).trans ?_
  simp only [Equiv.symm_apply_apply]
  congr 1
  · rw [dif_pos]
    · refine congrArg x (funext fun a => Fin.ext ?_)
      fin_cases a <;> simp
    · intro a
      have := d.isLt
      have := l.isLt
      fin_cases a <;> simp <;> omega
  · obtain rfl | rfl : l = 0 ∨ l = 1 := (by decide : ∀ l : Fin 2, l = 0 ∨ l = 1) l
    · rw [dif_pos, if_pos rfl]
      · refine congrArg x (funext fun a => Fin.ext ?_)
        fin_cases a <;> simp
      · intro a
        have := d.isLt
        fin_cases a <;> simp
        omega
    · rw [dif_neg, if_neg (by decide)]
      intro h
      simpa using h 1

/-- The cotangent reaches the first row only. -/
theorem cot_apply (a : FVec Ideal S2x256 .f32) (d l : Fin 2) (c : Fin 256) :
    cot a (ix3 d l c) = if l = 0 then a (ix2 d c) else 0 := by
  unfold cot
  rw [window_apply _ _ _ _ (by funext j; pointwise [])]
  obtain rfl | rfl : l = 0 ∨ l = 1 := (by decide : ∀ l : Fin 2, l = 0 ∨ l = 1) l
  · pointwise []
  · pointwise []

/-- The reference's result out of these parts. -/
def out (a0 : FVec Ideal S2x256 .f32) (a1 : FVec Ideal S2x2x256 .f32) : FVec Ideal S4x256 .f32 :=
  shapeCast _ (mulf (addf (Host.divf (cot a0) (broadcastInDim S2x2x256 ![0, 1, 2] bcast_S2x1x256_S2x2x256_0_1_2
      (broadcastInDim S2x1x256 ![0, 2] bcast_S2x256_S2x1x256_0_2 (total a1))))
    (broadcastInDim S2x2x256 ![0, 2] bcast_S2x256_S2x2x256_0_2 (Host.reduceAdd (Host.negf (shapeCast _ (Host.reduceAdd
      (mulf (mulf (cot a0) (broadcastInDim S2x2x256 ![0, 1, 2] bcast_S2x1x256_S2x2x256_0_1_2
        (Host.divf (broadcastInDim S2x1x256 ![] bcast_S_S2x1x256 (constant S_ .f32 0x3F800000#32))
          (mulf (broadcastInDim S2x1x256 ![0, 2] bcast_S2x256_S2x1x256_0_2 (total a1))
            (broadcastInDim S2x1x256 ![0, 2] bcast_S2x256_S2x1x256_0_2 (total a1)))))) (expo a1))
      (constant S_ .f32 0x00000000#32) reducesTo_S2x2x256_S2x256_d1 h_S_) shapeCasts_S2x256_S2x1x256))
      (constant S_ .f32 0x00000000#32) reducesTo_S2x1x256_S2x256_d1 h_S_))) (expo a1)) shapeCasts_S2x2x256_S4x256

theorem ref (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v46) = out (m (c.tc.loc main_arg0)) (m (c.tc.loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  unfold out cot total expo top
  exact Value.run m g

theorem expo_apply (a1 : FVec Ideal S2x2x256 .f32) (d l c) : expo a1 (ix3 d l c) = Ideal.exp (a1 (ix3 d l c) - top a1 (ix2 d c)) := by
  unfold expo
  pointwise []

theorem total_apply (a1 : FVec Ideal S2x2x256 .f32) (d c) : total a1 (ix2 d c) = expo a1 (ix3 d 0 c) + expo a1 (ix3 d 1 c) := by
  unfold total
  pointwise []
  exact Fin.sum_univ_two _

/-- The precondition says that every element of the arguments is a real number. -/
theorem finite [Cert.Pre_finite_bound.Facts] {a0 : FVec Ideal S2x256 .f32} {a1 : FVec Ideal S2x2x256 .f32}
    (h : Cert.Pre_finite_bound.fn (F := Ideal) a0 a1 = fun _ => 1#1) : Real a0 ∧ Real a1 := by
  obtain ⟨h0, h1⟩ := andi_split h
  exact ⟨real_of_all _ _ _ _ h0, real_of_all _ _ _ _ h1⟩

/-- The first row: the derivative of the softmax against the logistic function's. -/
theorem first_row (d x y M : ℝ) :
    (Ideal.div (d : EReal) ((Real.exp (x - M) + Real.exp (y - M) : ℝ) : EReal)
        + -((d : EReal) * Ideal.div 1 (((Real.exp (x - M) + Real.exp (y - M)) * (Real.exp (x - M) + Real.exp (y - M)) : ℝ) : EReal)
          * ((Real.exp (x - M) : ℝ) : EReal))) * ((Real.exp (x - M) : ℝ) : EReal)
      = ((d * sgr (x - y) : ℝ) : EReal) * (1 - (sgr (x - y) : EReal)) := by
  have hx := Real.exp_pos (x - M)
  have hy := Real.exp_pos (y - M)
  rw [Ideal.div_coe (by positivity), Ideal.div_coe (by positivity), ← EReal.coe_one, sgr_sub x y M]
  simp only [← EReal.coe_mul, ← EReal.coe_sub, ← EReal.coe_neg, ← EReal.coe_add]
  refine EReal.coe_eq_coe_iff.2 ?_
  field_simp
  ring

/-- The second row. -/
theorem second_row (d x y M : ℝ) :
    (Ideal.div 0 ((Real.exp (x - M) + Real.exp (y - M) : ℝ) : EReal)
        + -((d : EReal) * Ideal.div 1 (((Real.exp (x - M) + Real.exp (y - M)) * (Real.exp (x - M) + Real.exp (y - M)) : ℝ) : EReal)
          * ((Real.exp (x - M) : ℝ) : EReal))) * ((Real.exp (y - M) : ℝ) : EReal)
      = -(((d * sgr (x - y) : ℝ) : EReal) * (1 - (sgr (x - y) : EReal))) := by
  have hx := Real.exp_pos (x - M)
  have hy := Real.exp_pos (y - M)
  rw [Ideal.div_coe (by positivity), Ideal.div_coe (by positivity), ← EReal.coe_one, ← EReal.coe_zero, sgr_sub x y M]
  simp only [← EReal.coe_mul, ← EReal.coe_sub, ← EReal.coe_neg, ← EReal.coe_add]
  refine EReal.coe_eq_coe_iff.2 ?_
  field_simp
  ring

theorem values (a0 : S2x256.Idx → ℝ) (a1 : S2x2x256.Idx → ℝ) :
    out (fun i => (a0 i : EReal)) (fun i => (a1 i : EReal))
      = Cert.KernelBoundIdeal.Value.G2 (F := Ideal) (fun i => (a0 i : EReal)) (fun i => (a1 i : EReal)) := by
  funext j
  unfold out
  idx_vars j
  obtain rfl | rfl | rfl | rfl : j0 = 0 ∨ j0 = 1 ∨ j0 = 2 ∨ j0 = 3 := (by decide : ∀ a : Fin 4, a = 0 ∨ a = 1 ∨ a = 2 ∨ a = 3) j0
  all_goals
    obtain ⟨M, eM⟩ := top_real (a := a1) 0 j1
    obtain ⟨N, eN⟩ := top_real (a := a1) 1 j1
    pointwise [cot_apply, total_apply, expo_apply, Cert.KernelBoundIdeal.Value.G2, Cert.KernelBoundIdeal.Gen.k0_pay1]
    simp only [Finset.univ_unique, Finset.sum_singleton, Fin.sum_univ_two, if_pos, one_ne_zero, if_false, zero_mul, add_zero]
    simp only [eM, eN, zero_sub, ← EReal.coe_sub, sg_coe, Ideal.exp_coe, ← EReal.coe_add, ← EReal.coe_mul]
    first
      | exact first_row _ _ _ _
      | exact second_row _ _ _ _

theorem algebraic : Cert.algebraic_KernelBoundIdeal_ReferenceBoundIdeal_pre_finite_bound
    (hKernelBoundIdeal := Cert.KernelBoundIdeal.Gen.facts) (hReferenceBoundIdeal := Cert.ReferenceBoundIdeal.Gen.facts)
    (hPre_finite_bound := Cert.Pre_finite_bound.Gen.facts) := by
  intro m g m' g' hpre hagree
  refine ⟨fun c => Cert.KernelBoundIdeal.Value.G2 (F := Ideal) (m (c.tc.loc Cert.KernelBoundIdeal.main_arg0))
    (m (c.tc.loc Cert.KernelBoundIdeal.main_arg1)), Cert.KernelBoundIdeal.Value.run m g, ?_⟩
  refine (θ_run _ _ _).mono (fun r h c => ?_) (ref m' g')
  obtain ⟨e, kept⟩ := h c
  obtain ⟨f0, f1⟩ := finite (hpre c)
  obtain ⟨h0, h1⟩ := hagree c
  obtain ⟨a0, l0⟩ := lift f0
  obtain ⟨a1, l1⟩ := lift f1
  rw [h0, h1, l0, l1, values] at e
  refine ⟨e.trans ?_, kept⟩
  dsimp only
  rw [l0, l1]

end Cert.Bound

end
-- ==== Proof.LossValue.lean ====
/-
  THE LOSS: THE KERNEL. `KernelLossIdeal` closes the forward pass and opens the backward one: per tile of 512 tokens it
  forms the last residual `h = h1 + act · w_ffn_out`, normalises it, takes the squared error against the target, and goes
  back through the norm at once. This module reads its four result arrays as functions of the arguments, element by
  element, over rows: a token's residual row `h`, the gain `g` and the target row `y`.
-/
module

public import proofs.«01_k».proof.Proof.Finite
public import proofs.«01_k».proof.Proof.Gen.KernelLossIdeal.Value
public import Idealize.ShloMosaic.Lib.Pipeline.ValueKit
public import Idealize.ShloMosaic.Lib.Claim

@[expose] public section

set_option maxRecDepth 16384

noncomputable section

namespace Cert.Loss

open Idealize.ShloMosaic Idealize.ShloMosaic.TcCoe Idealize.SL.Sem
open Idealize.ShloMosaic.Pipeline (Dat)
open Cert.KernelLossIdeal Cert.KernelLossIdeal.Gen

/-- The reciprocal root mean square of a row. -/
def inv (h : Fin 1024 → EReal) : EReal :=
  Ideal.rsqrt (Ideal.div (∑ k : Fin 1024, h k * h k) (Ideal.ofBits .f32 0x44800000#32) + Ideal.ofBits .f32 0x358637BD#32)

/-- The normalised, scaled row's distance from the target. -/
def err (h g y : Fin 1024 → EReal) (l : Fin 1024) : EReal := h l * inv h * g l - y l

/-- The cotangent of the scaled row. -/
def dy (h g y : Fin 1024 → EReal) (l : Fin 1024) : EReal := err h g y l * Ideal.ofBits .f32 0x3A800000#32

/-- The cotangent of the residual row, through the norm. -/
def dh (h g y : Fin 1024 → EReal) (l : Fin 1024) : EReal :=
  inv h * (dy h g y l * g l - h l * inv h
    * Ideal.div (∑ k : Fin 1024, dy h g y k * g k * (h k * inv h)) (Ideal.ofBits .f32 0x44800000#32))

/-- A tile's loss. -/
def part (h y : Fin 512 → Fin 1024 → EReal) (g : Fin 1024 → EReal) : EReal :=
  Ideal.ofBits .f32 0x3F000000#32
    * ∑ x : Fin 512, Ideal.div (∑ k : Fin 1024, err (h x) g (y x) k * err (h x) g (y x) k) (Ideal.ofBits .f32 0x44800000#32)

/-- A tile's gradient of the gain. -/
def gain (h y : Fin 512 → Fin 1024 → EReal) (g : Fin 1024 → EReal) (l : Fin 1024) : EReal :=
  ∑ x : Fin 512, dy (h x) g (y x) l * (h x l * inv (h x))

/-- Row `x` of an array of two axes. -/
def row {n : Nat} (v : Fin n → Fin 1024 → EReal) (x : Fin n) : Fin 1024 → EReal := fun l => v x l

/-- A token's row of an array of two sequences. -/
def tok (v : FVec Ideal S2x2048x1024 .f32) (r : Fin 4096) (l : Fin 1024) : EReal :=
  v (ix3 ⟨r.val / 2048, by omega⟩ ⟨r.val % 2048, by omega⟩ l)

/-- A token's last residual. -/
def res (h1 : FVec Ideal S2x2048x1024 .f32) (a : FVec Ideal S2x2048x2816 .f32) (w : FVec Ideal S2816x1024 .f32)
    (r : Fin 4096) (l : Fin 1024) : EReal :=
  tok h1 r l + ∑ k : Fin 2816, a (ix3 ⟨r.val / 2048, by omega⟩ ⟨r.val % 2048, by omega⟩ k) * w (ix2 k l)

/-- Token `x` of tile `p`. -/
def at_ (p : Fin 8) (x : Fin 512) : Fin 4096 := ⟨p.val * 512 + x.val, by omega⟩

section Tile

variable (a : FVec Ideal S512x2816 .bf16) (w : FVec Ideal S2816x1024 .bf16) (h y : FVec Ideal S512x1024 .f32) (g : FVec Ideal S1x1024 .f32)
  {H Y : Fin 512 → Fin 1024 → EReal} {G : Fin 1024 → EReal}
  (hH : ∀ x l, k0_pay5 (F := Ideal) a w h (ix2 x l) = H x l) (hY : ∀ x l, y (ix2 x l) = Y x l) (hG : ∀ l, g (ix2 0 l) = G l)

/-- A tile's residual at token `x` of the tile, channel `l`. -/
theorem pay5 (x : Fin 512) (l : Fin 1024) :
    k0_pay5 (F := Ideal) a w h (ix2 x l) = h (ix2 x l) + ∑ k : Fin 2816, a (ix2 x k) * w (ix2 k l) := by
  pointwise [k0_pay5]

include hH in
theorem pay7 (x : Fin 512) (u : Fin 1) : k0_pay7 (F := Ideal) a w h (ix2 x u) = inv (H x) := by
  pointwise [k0_pay7]
  simp only [hH]
  rfl

include hH in
theorem pay8 (x : Fin 512) (l : Fin 1024) : k0_pay8 (F := Ideal) a w h (ix2 x l) = H x l * inv (H x) := by
  pointwise [k0_pay8]
  simp only [hH, pay7 a w h hH]

include hH hY hG in
theorem pay9 (x : Fin 512) (l : Fin 1024) : k0_pay9 (F := Ideal) a w h g y (ix2 x l) = err (H x) G (Y x) l := by
  pointwise [k0_pay9, k0_pay6]
  simp only [pay8 a w h hH, hY, hG]
  rfl

include hH hY hG in
theorem pay11 (x : Fin 512) (l : Fin 1024) : k0_pay11 (F := Ideal) a w h g y (ix2 x l) = dy (H x) G (Y x) l := by
  pointwise [k0_pay11]
  simp only [pay9 a w h y g hH hY hG]
  rfl

include hH hY hG in
theorem pay12 (x : Fin 512) (l : Fin 1024) : k0_pay12 (F := Ideal) a w h g y (ix2 x l) = dy (H x) G (Y x) l * G l := by
  pointwise [k0_pay12, k0_pay6]
  simp only [pay11 a w h y g hH hY hG, hG]

include hH hY hG in
theorem pay1 (x : Fin 512) (l : Fin 1024) :
    k0_pay1 (F := Ideal) (k0_pay7 a w h) (k0_pay8 a w h) (k0_pay12 a w h g y) (ix2 x l) = dh (H x) G (Y x) l := by
  pointwise [k0_pay1]
  simp only [pay12 a w h y g hH hY hG, pay7 a w h hH, pay8 a w h hH]
  rfl

include hH hY hG in
theorem pay2 (u : Fin 1) (i : Fin 8) (l : Fin 128) :
    k0_pay2 (F := Ideal) (k0_pay10 a w h g y) (ix3 u i l) = part H Y G := by
  pointwise [k0_pay2, k0_pay10]
  simp only [pay9 a w h y g hH hY hG]
  rfl

include hH hY hG in
theorem pay3 (u : Fin 1) (i : Fin 8) (l : Fin 1024) :
    k0_pay3 (F := Ideal) (k0_pay8 a w h) (k0_pay11 a w h g y) (ix3 u i l) = gain H Y G l := by
  pointwise [k0_pay3]
  simp only [pay11 a w h y g hH hY hG, pay8 a w h hH]
  rfl

end Tile

section Kernel

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![t.val, 0] ∧ win0_6.index t = ![t.val, 0, 0] ∧ win0_7.index t = ![t.val, 0, 0]
    ∧ win0_8.index t = ![t.val, 0] :=
  (by decide +kernel : ∀ t : Fin grid0.N, _)

variable (c : Dev nD)

/-- The arguments, as the results read them: the residual, the target and the gain. -/
def mH : Fin 4096 → Fin 1024 → EReal :=
  res (m ((c : Thread nD τ).loc main_arg0)) (m ((c : Thread nD τ).loc main_arg1)) (m ((c : Thread nD τ).loc main_arg2))
@[inherit_doc mH] def mY : Fin 4096 → Fin 1024 → EReal := tok (m ((c : Thread nD τ).loc main_arg4))
@[inherit_doc mH] def mG : Fin 1024 → EReal := fun l => m ((c : Thread nD τ).loc main_arg3) (ix1 l)

variable (t : Fin cfg0.N)

/-- Token `x` of point `t`'s tile. -/
def at' (x : Fin 512) : Fin 4096 := ⟨t.val * 512 + x.val, by have := t.isLt; have : cfg0.N = 8 := rfl; omega⟩

/-- The tiles at a point, over the arguments. -/
theorem blk0 (x : Fin 512) (k : Fin 2816) (r : Fin 4096) (hr : r.val = t.val * 512 + x.val) : iblk m c 0 t (ix2 x k)
    = m ((c : Thread nD τ).loc main_arg1) (ix3 ⟨r.val / 2048, by omega⟩ ⟨r.val % 2048, by omega⟩ k) := by
  blk_point [iblk, V, idx t]

@[inherit_doc blk0] theorem blk1 (k : Fin 2816) (l : Fin 1024) : iblk m c 1 t (ix2 k l) = m ((c : Thread nD τ).loc main_arg2) (ix2 k l) := by
  blk_point [iblk, V, idx t]

@[inherit_doc blk0] theorem blk2 (x : Fin 512) (l : Fin 1024) : iblk m c 2 t (ix2 x l) = tok (m ((c : Thread nD τ).loc main_arg0)) (at' t x) l := by
  have hr : (at' t x).val = t.val * 512 + x.val := rfl
  generalize at' t x = r at hr
  unfold tok
  blk_point [iblk, V, idx t]

@[inherit_doc blk0] theorem blk3 (x : Fin 512) (l : Fin 1024) : iblk m c 3 t (ix2 x l) = mY m c (at' t x) l := by
  have hr : (at' t x).val = t.val * 512 + x.val := rfl
  generalize at' t x = r at hr
  unfold mY tok
  blk_point [iblk, V, idx t]

@[inherit_doc blk0] theorem blk4 (l : Fin 1024) : iblk m c 4 t (ix2 0 l) = mG m c l := by
  unfold mG
  blk_point [iblk, V, idx t]

/-- The residual's tile at a point. -/
theorem tile (x : Fin 512) (l : Fin 1024) :
    k0_pay5 (F := Ideal) (View.ld (iblk m c 0 t) r0_0) (View.ld (iblk m c 1 t) r0_1) (View.ld (iblk m c 2 t) r0_2) (ix2 x l)
      = mH m c (at' t x) l := by
  rw [pay5]
  pointwise
  simp only [blk0 m c t x _ (at' t x) rfl, blk1, blk2]
  rfl

/-- The target's and the gain's tiles as the body loads them. -/
theorem ld3 (x : Fin 512) (l : Fin 1024) : View.ld (iblk m c 3 t) r0_2 (ix2 x l) = mY m c (at' t x) l := by
  pointwise
  exact blk3 m c t x l
@[inherit_doc ld3] theorem ld4 (l : Fin 1024) : View.ld (iblk m c 4 t) r0_3 (ix2 0 l) = mG m c l := by
  pointwise
  exact blk4 m c t l

/-- The residual's cotangent after the run. -/
theorem final5 : (dats m 0 c).arrAt 5 cfg0.N = fun j : Shape.Idx S4096x1024 => dh (mH m c (j 0)) (mG m c) (mY m c (j 0)) (j 1) := by
  refine (dats m 0 c).arrAt_eq_of_covers 5 _ (by decide +kernel) fun t _ y => ?_
  blk_simp
  rw [after0_5]
  unfold_out out0_5
  refine View.canon_apply_of_pieces (Val := Elt Ideal) (S := S512x1024) (e := .f32) (fun y => dh (mH m c (((cfg0.win 5).blk t).view.emb y 0))
    (mG m c) (mY m c (((cfg0.win 5).blk t).view.emb y 0)) (((cfg0.win 5).blk t).view.emb y 1)) _ ?_ y (cover0_5 _ y)
  intro pc hpc
  rcases List.mem_cons.mp hpc with rfl | hpc
  · intro x
    dsimp only
    have h0 : ((cfg0.win 5).blk t).view.emb (r0_2.emb x) 0 = at' t (x 0) := Fin.ext (by blk_simp [idx t]; rfl)
    have h1 : ((cfg0.win 5).blk t).view.emb (r0_2.emb x) 1 = x 1 := Fin.ext (by blk_simp [idx t])
    rw [h0, h1]
    exact (congrArg _ (eq_ix2 x)).trans (pay1 _ _ _ _ _ (tile m c t) (ld3 m c t) (ld4 m c t) (x 0) (x 1))
  nomatch hpc

/-- The same, rounded to the narrow format. -/
theorem final8 : (dats m 0 c).arrAt 8 cfg0.N = fun j : Shape.Idx S4096x1024 => dh (mH m c (j 0)) (mG m c) (mY m c (j 0)) (j 1) := by
  refine (dats m 0 c).arrAt_eq_of_covers 8 _ (by decide +kernel) fun t _ y => ?_
  blk_simp
  rw [after0_8]
  unfold_out out0_8
  refine View.canon_apply_of_pieces (Val := Elt Ideal) (S := S512x1024) (e := .bf16) (fun y => dh (mH m c (((cfg0.win 8).blk t).view.emb y 0))
    (mG m c) (mY m c (((cfg0.win 8).blk t).view.emb y 0)) (((cfg0.win 8).blk t).view.emb y 1)) _ ?_ y (cover0_8 _ y)
  intro pc hpc
  rcases List.mem_cons.mp hpc with rfl | hpc
  · intro x
    dsimp only
    have h0 : ((cfg0.win 8).blk t).view.emb (r0_2.emb x) 0 = at' t (x 0) := Fin.ext (by blk_simp [idx t]; rfl)
    have h1 : ((cfg0.win 8).blk t).view.emb (r0_2.emb x) 1 = x 1 := Fin.ext (by blk_simp [idx t])
    rw [h0, h1]
    exact (congrArg _ (eq_ix2 x)).trans (pay1 _ _ _ _ _ (tile m c t) (ld3 m c t) (ld4 m c t) (x 0) (x 1))
  nomatch hpc

/-- The tiles' losses, each spread over a block. -/
theorem final6 : (dats m 0 c).arrAt 6 cfg0.N = fun j : Shape.Idx S8x8x128 =>
    part (fun x => mH m c (at_ (j 0) x)) (fun x => mY m c (at_ (j 0) x)) (mG m c) := by
  refine (dats m 0 c).arrAt_eq_of_covers 6 _ (by decide +kernel) fun t _ y => ?_
  blk_simp
  rw [after0_6]
  unfold out0_6
  refine View.canon_apply_of_pieces (Val := Elt Ideal) (S := S1x8x128) (e := .f32) (fun y =>
    part (fun x => mH m c (at_ (((cfg0.win 6).blk t).view.emb y 0) x)) (fun x => mY m c (at_ (((cfg0.win 6).blk t).view.emb y 0) x)) (mG m c))
    _ ?_ y (cover0_6 _ y)
  intro pc hpc
  rcases List.mem_cons.mp hpc with rfl | hpc
  · intro x
    dsimp only
    have h0 : ((cfg0.win 6).blk t).view.emb (r0_4.emb x) 0 = (⟨t.val, t.isLt⟩ : Fin 8) := Fin.ext (by blk_simp [idx t])
    rw [h0]
    exact (congrArg _ (eq_ix3 x)).trans (pay2 _ _ _ _ _ (tile m c t) (ld3 m c t) (ld4 m c t) (x 0) (x 1) (x 2))
  nomatch hpc

/-- The tiles' gradients of the gain, each spread over eight rows. -/
theorem final7 : (dats m 0 c).arrAt 7 cfg0.N = fun j : Shape.Idx S8x8x1024 =>
    gain (fun x => mH m c (at_ (j 0) x)) (fun x => mY m c (at_ (j 0) x)) (mG m c) (j 2) := by
  refine (dats m 0 c).arrAt_eq_of_covers 7 _ (by decide +kernel) fun t _ y => ?_
  blk_simp
  rw [after0_7]
  unfold_out out0_7
  refine View.canon_apply_of_pieces (Val := Elt Ideal) (S := S1x8x1024) (e := .f32) (fun y =>
    gain (fun x => mH m c (at_ (((cfg0.win 7).blk t).view.emb y 0) x)) (fun x => mY m c (at_ (((cfg0.win 7).blk t).view.emb y 0) x)) (mG m c)
      (((cfg0.win 7).blk t).view.emb y 2)) _ ?_ y (cover0_7 _ y)
  intro pc hpc
  rcases List.mem_cons.mp hpc with rfl | hpc
  · intro x
    dsimp only
    have h0 : ((cfg0.win 7).blk t).view.emb (r0_5.emb x) 0 = (⟨t.val, t.isLt⟩ : Fin 8) := Fin.ext (by blk_simp [idx t])
    have h2 : ((cfg0.win 7).blk t).view.emb (r0_5.emb x) 2 = x 2 := Fin.ext (by blk_simp [idx t])
    rw [h0, h2]
    exact (congrArg _ (eq_ix3 x)).trans (pay3 _ _ _ _ _ (tile m c t) (ld3 m c t) (ld4 m c t) (x 0) (x 1) (x 2))
  nomatch hpc

end Kernel

end Cert.Loss
-- ==== Proof.LossRef.lean ====
/-
  THE LOSS: THE REFERENCE. The loss of each part of 512 tokens and its derivative by the residual and by the gain, with
  every sum over a part's tokens and channels read off the printed operations.
-/
module

public import proofs.«01_k».proof.Proof.LossValue
public import proofs.«01_k».proof.Proof.Gen.ReferenceLossIdeal.Run

@[expose] public section

set_option maxRecDepth 16384

noncomputable section

namespace Cert.Loss

open Idealize.ShloMosaic Idealize.ShloMosaic.TcCoe Idealize.SL.Sem
open Cert.Finite hiding S_
open Cert.ReferenceLossIdeal Cert.ReferenceLossIdeal.Gen

/-- The last residual, by parts. -/
def hid (a0 : FVec Ideal S2x2048x1024 .f32) (a1 : FVec Ideal S2x2048x2816 .f32) (a2 : FVec Ideal S2816x1024 .f32) : FVec Ideal S8x512x1024 .f32 :=
  shapeCast _ (addf a0 (Host.dotGeneral (φ₁ := .f32) (φ₂ := .f32) dot_S2x2048x2816_S2816x1024_S2x2048x1024_2_0_01_1_n_n none a1 a2))
    shapeCasts_S2x2048x1024_S8x512x1024

/-- The target, by parts. -/
def want (a4 : FVec Ideal S2x2048x1024 .f32) : FVec Ideal S8x512x1024 .f32 := shapeCast _ a4 shapeCasts_S2x2048x1024_S8x512x1024

/-- The gain, once per token. -/
def gains (a3 : FVec Ideal S1024 .f32) : FVec Ideal S8x512x1024 .f32 :=
  broadcastInDim S8x512x1024 ![0, 1, 2] bcast_S8x1x1024_S8x512x1024_0_1_2 (broadcastInDim S8x1x1024 ![0, 2] bcast_S8x1024_S8x1x1024_0_2
    (broadcastInDim S8x1024 ![1] bcast_S1024_S8x1024_1 a3))

section

variable (h g y : FVec Ideal S8x512x1024 .f32)

/-- A token's mean square, moved away from zero. -/
def square : FVec Ideal S8x512x1 .f32 :=
  addf (Host.divf (broadcastInDim S8x512x1 ![0, 1] bcast_S8x512_S8x512x1_0_1 (Host.reduceAdd (mulf h h) (constant S_ .f32 0x00000000#32)
      reducesTo_S8x512x1024_S8x512_d2 h_S_)) (broadcastInDim S8x512x1 ![] bcast_S_S8x512x1 (constant S_ .f32 0x44800000#32)))
    (broadcastInDim S8x512x1 ![] bcast_S_S8x512x1 (constant S_ .f32 0x358637BD#32))

/-- Its reciprocal root. -/
def root : FVec Ideal S8x512x1 .f32 := Host.rsqrt (square h)

/-- The normalised tokens. -/
def unit : FVec Ideal S8x512x1024 .f32 := mulf h (broadcastInDim S8x512x1024 ![0, 1, 2] bcast_S8x512x1_S8x512x1024_0_1_2 (root h))

/-- Their distance from the target. -/
def miss : FVec Ideal S8x512x1024 .f32 := subf (mulf (unit h) g) y

/-- The cotangent of the scaled tokens. -/
def back : FVec Ideal S8x512x1024 .f32 :=
  mulf (broadcastInDim S8x512x1024 ![0, 1] bcast_S8x512_S8x512x1024_0_1 (Host.divf (broadcastInDim S8x512 ![0] bcast_S8_S8x512_0
      (mulf (broadcastInDim S8 ![] bcast_S_S8 (constant S_ .f32 0x3F000000#32)) (broadcastInDim S8 ![] bcast_S_S8 (constant S_ .f32 0x3F800000#32))))
      (broadcastInDim S8x512 ![] bcast_S_S8x512 (constant S_ .f32 0x44800000#32))))
    (mulf (broadcastInDim S8x512x1024 ![] bcast_S_S8x512x1024 (constant S_ .f32 0x40000000#32)) (miss h g y))

/-- What a token's mean square passes back to each of its channels' two factors. -/
def through : FVec Ideal S8x512x1024 .f32 :=
  broadcastInDim S8x512x1024 ![0, 1] bcast_S8x512_S8x512x1024_0_1 (Host.reduceAdd (Host.divf (mulf (shapeCast _ (Host.reduceAdd
      (mulf h (mulf (back h g y) g)) (constant S_ .f32 0x00000000#32) reducesTo_S8x512x1024_S8x512_d2 h_S_) shapeCasts_S8x512_S8x512x1)
      (mulf (broadcastInDim S8x512x1 ![] bcast_S_S8x512x1 (constant S_ .f32 0xBF000000#32)) (Host.divf (root h) (square h))))
      (broadcastInDim S8x512x1 ![] bcast_S_S8x512x1 (constant S_ .f32 0x44800000#32)))
    (constant S_ .f32 0x00000000#32) reducesTo_S8x512x1_S8x512_d2 h_S_)

/-- The three groups of results. -/
def outH : FVec Ideal S4096x1024 .f32 :=
  shapeCast _ (shapeCast S2x2048x1024 (addf (addf (mulf (mulf (back h g y) g) (broadcastInDim S8x512x1024 ![0, 1, 2] bcast_S8x512x1_S8x512x1024_0_1_2 (root h)))
    (mulf h (through h g y))) (mulf (through h g y) h)) shapeCasts_S8x512x1024_S2x2048x1024) shapeCasts_S2x2048x1024_S4096x1024

@[inherit_doc outH] def outL : FVec Ideal S8x8x128 .f32 :=
  broadcastInDim S8x8x128 ![0, 1, 2] bcast_S8x1x1_S8x8x128_0_1_2 (broadcastInDim S8x1x1 ![0] bcast_S8_S8x1x1_0
    (mulf (broadcastInDim S8 ![] bcast_S_S8 (constant S_ .f32 0x3F000000#32)) (Host.reduceAdd (Host.divf (Host.reduceAdd (mulf (miss h g y) (miss h g y))
      (constant S_ .f32 0x00000000#32) reducesTo_S8x512x1024_S8x512_d2 h_S_) (broadcastInDim S8x512 ![] bcast_S_S8x512 (constant S_ .f32 0x44800000#32)))
      (constant S_ .f32 0x00000000#32) reducesTo_S8x512_S8_d1 h_S_)))

@[inherit_doc outH] def outG : FVec Ideal S8x8x1024 .f32 :=
  broadcastInDim S8x8x1024 ![0, 1, 2] bcast_S8x1x1024_S8x8x1024_0_1_2 (broadcastInDim S8x1x1024 ![0, 2] bcast_S8x1024_S8x1x1024_0_2
    (Host.reduceAdd (shapeCast _ (Host.reduceAdd (mulf (unit h) (back h g y)) (constant S_ .f32 0x00000000#32) reducesTo_S8x512x1024_S8x1024_d1 h_S_)
      shapeCasts_S8x1024_S8x1x1024) (constant S_ .f32 0x00000000#32) reducesTo_S8x1x1024_S8x1024_d1 h_S_))

end

theorem ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60)
        = outH (hid (m (c.tc.loc main_arg0)) (m (c.tc.loc main_arg1)) (m (c.tc.loc main_arg2))) (gains (m (c.tc.loc main_arg3))) (want (m (c.tc.loc main_arg4)))
      ∧ r.2.mem ((c.tc : Thread nD τ).loc main_v62)
        = outL (hid (m (c.tc.loc main_arg0)) (m (c.tc.loc main_arg1)) (m (c.tc.loc main_arg2))) (gains (m (c.tc.loc main_arg3))) (want (m (c.tc.loc main_arg4)))
      ∧ r.2.mem ((c.tc : Thread nD τ).loc main_v64)
        = outG (hid (m (c.tc.loc main_arg0)) (m (c.tc.loc main_arg1)) (m (c.tc.loc main_arg2))) (gains (m (c.tc.loc main_arg3))) (want (m (c.tc.loc main_arg4)))
      ∧ r.2.mem ((c.tc : Thread nD τ).loc main_v66) = truncf .bf16
        (outH (hid (m (c.tc.loc main_arg0)) (m (c.tc.loc main_arg1)) (m (c.tc.loc main_arg2))) (gains (m (c.tc.loc main_arg3))) (want (m (c.tc.loc main_arg4)))) (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  unfold outH outL outG through back miss unit root square hid gains want
  exact Value.run m ρ

/-- The constants' values. -/
theorem words : Ideal.ofBits .f32 0x44800000#32 = ((1024 : ℝ) : EReal) ∧ Ideal.ofBits .f32 0x3F000000#32 = ((1 / 2 : ℝ) : EReal)
    ∧ Ideal.ofBits .f32 0x40000000#32 = ((2 : ℝ) : EReal) ∧ Ideal.ofBits .f32 0xBF000000#32 = ((-(1 / 2) : ℝ) : EReal)
    ∧ Ideal.ofBits .f32 0x3A800000#32 = ((1 / 1024 : ℝ) : EReal) := by
  refine ⟨?_, ?_, ?_, ?_, ?_⟩ <;> simp [Ideal.ofBits, Ideal.ieee] <;> rw [← EReal.coe_mul] <;> norm_num

/-- The offset's value. -/
def eps : ℝ := 8796093 / 8796093022208

theorem eps_word : Ideal.ofBits .f32 0x358637BD#32 = (eps : EReal) := by
  unfold eps
  simp [Ideal.ofBits, Ideal.ieee]
  rw [← EReal.coe_mul]
  norm_num

/-- A token's row of an array by parts. -/
def line (h : FVec Ideal S8x512x1024 .f32) (p : Fin 8) (x : Fin 512) (l : Fin 1024) : EReal := h (ix3 p x l)

section

variable (h g y : FVec Ideal S8x512x1024 .f32) (p : Fin 8) (x : Fin 512) (l : Fin 1024)

theorem root_apply (u : Fin 1) : root h (ix3 p x u) = inv (line h p x) := by
  unfold root square
  pointwise
  rfl

theorem square_apply (u : Fin 1) : square h (ix3 p x u)
    = Ideal.div (∑ k : Fin 1024, line h p x k * line h p x k) (Ideal.ofBits .f32 0x44800000#32) + Ideal.ofBits .f32 0x358637BD#32 := by
  unfold square
  pointwise
  rfl

theorem unit_apply : unit h (ix3 p x l) = line h p x l * inv (line h p x) := by
  unfold unit
  pointwise [root_apply]
  rfl

theorem miss_apply : miss h g y (ix3 p x l) = err (line h p x) (line g p x) (line y p x) l := by
  unfold miss
  pointwise [unit_apply]
  rfl

theorem back_apply : back h g y (ix3 p x l) = dy (line h p x) (line g p x) (line y p x) l := by
  unfold back
  pointwise [miss_apply]
  unfold dy
  obtain ⟨w0, w1, w2, w3, w4⟩ := words
  rw [w0, w1, w2, w4, Ideal.div_coe (by norm_num), ← EReal.coe_mul, ← mul_assoc, ← EReal.coe_mul, mul_comm]
  congr 2
  norm_num

theorem outL_apply (i : Fin 8) (l : Fin 128) (G : Fin 1024 → EReal) (hg : ∀ x, line g p x = G) :
    outL h g y (ix3 p i l) = part (line h p) (line y p) G := by
  unfold outL
  pointwise [miss_apply]
  simp only [hg]
  rfl

theorem outG_apply (i : Fin 8) (G : Fin 1024 → EReal) (hg : ∀ x, line g p x = G) :
    outG h g y (ix3 p i l) = gain (line h p) (line y p) G l := by
  unfold outG
  pointwise [back_apply, unit_apply]
  simp only [hg]
  refine (Fin.sum_univ_one _).trans (Finset.sum_congr rfl fun x _ => mul_comm _ _)

end

/-- A row's mean square, moved away from zero, and the residual's cotangent over the real numbers. -/
def squareR (h : Fin 1024 → ℝ) : ℝ := (∑ k : Fin 1024, h k * h k) * (1 / 1024) + eps

theorem squareR_pos (h : Fin 1024 → ℝ) : 0 < squareR h := by
  have : 0 ≤ ∑ k : Fin 1024, h k * h k := Finset.sum_nonneg fun k _ => mul_self_nonneg _
  have : 0 < eps := by unfold eps; norm_num
  unfold squareR
  positivity

@[inherit_doc squareR] def invR (h : Fin 1024 → ℝ) : ℝ := (Real.sqrt (squareR h))⁻¹

/-- The square of the reciprocal root. -/
theorem invR_sq (h : Fin 1024 → ℝ) : 1 / squareR h = invR h * invR h := by
  unfold invR
  rw [← mul_inv, Real.mul_self_sqrt (squareR_pos h).le, one_div]

@[inherit_doc squareR] def dyR (h g y : Fin 1024 → ℝ) (l : Fin 1024) : ℝ := (h l * invR h * g l - y l) * (1 / 1024)

@[inherit_doc squareR] def dhR (h g y : Fin 1024 → ℝ) (l : Fin 1024) : ℝ :=
  invR h * (dyR h g y l * g l - h l * invR h * ((∑ k : Fin 1024, dyR h g y k * g k * (h k * invR h)) * (1 / 1024)))

section

variable (h g y : Fin 1024 → ℝ)

theorem square_coe : Ideal.div (∑ k : Fin 1024, (h k : EReal) * (h k : EReal)) (Ideal.ofBits .f32 0x44800000#32) + Ideal.ofBits .f32 0x358637BD#32
    = (squareR h : EReal) := by
  rw [words.1, eps_word, Ideal.div_coe (by norm_num)]
  simp only [← EReal.coe_mul, coe_sum, ← EReal.coe_add]
  rfl

theorem inv_coe : inv (fun l => (h l : EReal)) = (invR h : EReal) := by
  unfold inv
  rw [square_coe, Ideal.rsqrt_coe, if_neg (squareR_pos h).not_gt, if_neg (squareR_pos h).ne']
  rfl

theorem dy_coe (l : Fin 1024) : dy (fun l => (h l : EReal)) (fun l => (g l : EReal)) (fun l => (y l : EReal)) l = (dyR h g y l : EReal) := by
  unfold dy err
  rw [inv_coe, words.2.2.2.2]
  simp only [← EReal.coe_mul, ← EReal.coe_sub]
  rfl

theorem dh_coe (l : Fin 1024) : dh (fun l => (h l : EReal)) (fun l => (g l : EReal)) (fun l => (y l : EReal)) l = (dhR h g y l : EReal) := by
  unfold dh
  simp only [dy_coe, inv_coe]
  rw [words.1, Ideal.div_coe (by norm_num)]
  simp only [← EReal.coe_mul, coe_sum, ← EReal.coe_sub]
  rfl

end

/-- The residual's cotangent: the derivative's form against the kernel's. -/
theorem outH_apply (h g y : FVec Ideal S8x512x1024 .f32) (p : Fin 8) (x : Fin 512) (l : Fin 1024) (r : Fin 4096) (hr : r.val = p.val * 512 + x.val)
    (H G Y : Fin 1024 → ℝ) (hH : line h p x = fun l => (H l : EReal)) (hG : line g p x = fun l => (G l : EReal)) (hY : line y p x = fun l => (Y l : EReal)) :
    outH h g y (ix2 r l) = (dhR H G Y l : EReal) := by
  have t : ∀ l, through h g y (ix3 p x l) = (((∑ k : Fin 1024, H k * (dyR H G Y k * G k)) * (-(1 / 2) * (invR H * (invR H * invR H))) * (1 / 1024) : ℝ) : EReal) := by
    intro l
    unfold through
    pointwise [back_apply, root_apply, square_apply]
    refine (Fin.sum_univ_one _).trans ?_
    have hh : ∀ k, h (ix3 p x k) = (H k : EReal) := fun k => congrFun hH k
    have hg : ∀ k, g (ix3 p x k) = (G k : EReal) := fun k => congrFun hG k
    simp only [hh, hg, hH, hG, hY, dy_coe, inv_coe, square_coe]
    rw [words.1, words.2.2.2.1, Ideal.div_coe (by norm_num), Ideal.div_coe (squareR_pos H).ne', invR_sq]
    simp only [← EReal.coe_mul, coe_sum]
  have q : (⟨r.val / 512, by omega⟩ : Fin 8) = p := Fin.ext (by dsimp only; omega)
  have q' : (⟨r.val % 512, by omega⟩ : Fin 512) = x := Fin.ext (by dsimp only; omega)
  unfold outH
  pointwise [back_apply, root_apply]
  rw [q, q', t]
  have hh : h (ix3 p x l) = (H l : EReal) := congrFun hH l
  have hg : g (ix3 p x l) = (G l : EReal) := congrFun hG l
  simp only [hh, hg, hH, hG, hY, dy_coe, inv_coe]
  simp only [← EReal.coe_mul, ← EReal.coe_add]
  refine EReal.coe_eq_coe_iff.2 ?_
  unfold dhR
  have s : ∑ k : Fin 1024, dyR H G Y k * G k * (H k * invR H) = (∑ k : Fin 1024, H k * (dyR H G Y k * G k)) * invR H := by
    rw [Finset.sum_mul]
    exact Finset.sum_congr rfl fun k _ => by ring
  rw [s]
  ring

/-- The parts' rows are the tokens' rows. -/
theorem hid_line (a0 : FVec Ideal S2x2048x1024 .f32) (a1 : FVec Ideal S2x2048x2816 .f32) (a2 : FVec Ideal S2816x1024 .f32) (p : Fin 8) (x : Fin 512) :
    line (hid a0 a1 a2) p x = res a0 a1 a2 (at_ p x) := by
  funext l
  have q : (⟨(at_ p x).val / 2048, by have := (at_ p x).isLt; omega⟩ : Fin 2) = ⟨p.val / 4, by omega⟩ := Fin.ext (by unfold at_; dsimp only; omega)
  have q' : (⟨(at_ p x).val % 2048, by omega⟩ : Fin 2048) = ⟨p.val % 4 * 512 + x.val, by omega⟩ := Fin.ext (by unfold at_; dsimp only; omega)
  unfold line hid res tok
  rw [q, q']
  pointwise

@[inherit_doc hid_line] theorem want_line (a4 : FVec Ideal S2x2048x1024 .f32) (p : Fin 8) (x : Fin 512) : line (want a4) p x = tok a4 (at_ p x) := by
  funext l
  have q : (⟨(at_ p x).val / 2048, by have := (at_ p x).isLt; omega⟩ : Fin 2) = ⟨p.val / 4, by omega⟩ := Fin.ext (by unfold at_; dsimp only; omega)
  have q' : (⟨(at_ p x).val % 2048, by omega⟩ : Fin 2048) = ⟨p.val % 4 * 512 + x.val, by omega⟩ := Fin.ext (by unfold at_; dsimp only; omega)
  unfold line want tok
  rw [q, q']
  pointwise

@[inherit_doc hid_line] theorem gains_line (a3 : FVec Ideal S1024 .f32) (p : Fin 8) (x : Fin 512) : line (gains a3) p x = fun l => a3 (ix1 l) := by
  funext l
  unfold line gains
  pointwise

end Cert.Loss

end
-- ==== Proof.Loss.lean ====
/-
  THE LOSS. The kernel's tiles are the reference's parts, so the losses and the gain's gradients are the same sums. The
  residual's cotangent is the norm's derivative: the kernel writes it with the reciprocal root `r` alone, the derivative
  has `r / (r⁻²)`, and the two meet over the real numbers.
-/
module

public import proofs.«01_k».proof.Defs
public import proofs.«01_k».proof.Proof.LossRef
public import proofs.«01_k».proof.Proof.Gen.Pre_finite_loss

@[expose] public section

set_option maxRecDepth 16384

noncomputable section

namespace Cert.Loss

open Idealize.ShloMosaic Idealize.SL.Sem Cert.Finite

/-- The precondition says that every element of the arguments is a real number. -/
theorem finite [Cert.Pre_finite_loss.Facts] {a0 : FVec Ideal _ .f32} {a1 : FVec Ideal _ .f32} {a2 : FVec Ideal _ .f32}
    {a3 : FVec Ideal _ .f32} {a4 : FVec Ideal _ .f32} (h : Cert.Pre_finite_loss.fn (F := Ideal) a0 a1 a2 a3 a4 = fun _ => 1#1) :
    Real a0 ∧ Real a1 ∧ Real a2 ∧ Real a3 ∧ Real a4 := by
  obtain ⟨h, h4⟩ := andi_split h
  obtain ⟨h, h3⟩ := andi_split h
  obtain ⟨h, h2⟩ := andi_split h
  obtain ⟨h0, h1⟩ := andi_split h
  exact ⟨real_of_all _ _ _ _ h0, real_of_all _ _ _ _ h1, real_of_all _ _ _ _ h2, real_of_all _ _ _ _ h3, real_of_all _ _ _ _ h4⟩

/-- A token's residual is a real row. -/
theorem res_real {a0 : FVec Ideal _ .f32} {a1 : FVec Ideal _ .f32} {a2 : FVec Ideal _ .f32} (h0 : Real a0) (h1 : Real a1) (h2 : Real a2) (r : Fin 4096) :
    ∃ H : Fin 1024 → ℝ, res a0 a1 a2 r = fun l => (H l : EReal) := by
  refine lift fun l => ?_
  obtain ⟨b0, rfl⟩ := lift h0
  obtain ⟨b1, rfl⟩ := lift h1
  obtain ⟨b2, rfl⟩ := lift h2
  unfold res tok
  simp only [← EReal.coe_mul, coe_sum, ← EReal.coe_add]
  exact ⟨_, rfl⟩

theorem algebraic : Cert.algebraic_KernelLossIdeal_ReferenceLossIdeal_pre_finite_loss
    (hKernelLossIdeal := Cert.KernelLossIdeal.Gen.facts) (hReferenceLossIdeal := Cert.ReferenceLossIdeal.Gen.facts)
    (hPre_finite_loss := Cert.Pre_finite_loss.Gen.facts) := by
  intro m g m' g' hpre hagree
  refine ⟨fun c => (fun j => dh (mH m c (j 0)) (mG m c) (mY m c (j 0)) (j 1)),
    fun c => (fun j => part (fun x => mH m c (at_ (j 0) x)) (fun x => mY m c (at_ (j 0) x)) (mG m c)),
    fun c => (fun j => gain (fun x => mH m c (at_ (j 0) x)) (fun x => mY m c (at_ (j 0) x)) (mG m c) (j 2)),
    fun c => (fun j => dh (mH m c (j 0)) (mG m c) (mY m c (j 0)) (j 1)), ?_, ?_⟩
  · refine (θ_run _ _ _).mono (fun r h c => ?_) (Cert.KernelLossIdeal.Value.run_blocks m g)
    obtain ⟨e5, e6, e7, e8, kept⟩ := h c
    exact ⟨e5.trans (final5 m c), e6.trans (final6 m c), e7.trans (final7 m c), e8.trans (final8 m c), kept⟩
  · refine (θ_run _ _ _).mono (fun r h c => ?_) (ref m' g')
    obtain ⟨e0, e1, e2, e3, kept⟩ := h c
    obtain ⟨f0, f1, f2, f3, f4⟩ := finite (hpre c)
    obtain ⟨h0, h1, h2, h3, h4⟩ := hagree c
    rw [h0, h1, h2, h3, h4] at e0 e1 e2 e3
    have main : ∀ (r : Fin 4096) (l : Fin 1024),
        outH (hid (m (c.tc.loc Cert.KernelLossIdeal.main_arg0)) (m (c.tc.loc Cert.KernelLossIdeal.main_arg1)) (m (c.tc.loc Cert.KernelLossIdeal.main_arg2)))
          (gains (m (c.tc.loc Cert.KernelLossIdeal.main_arg3))) (want (m (c.tc.loc Cert.KernelLossIdeal.main_arg4))) (ix2 r l)
        = dh (mH m c r) (mG m c) (mY m c r) l := by
      intro r l
      have hr : r = at_ ⟨r.val / 512, by omega⟩ ⟨r.val % 512, by omega⟩ := Fin.ext (by unfold at_; dsimp only; omega)
      obtain ⟨H, eH⟩ := res_real f0 f1 f2 r
      obtain ⟨G, eG⟩ := lift f3
      obtain ⟨Y, eY⟩ := lift f4
      have eH' : mH m c r = fun l => (H l : EReal) := eH
      have eG' : mG m c = fun l => (G (ix1 l) : EReal) := by unfold mG; rw [eG]
      have eY' : mY m c r = fun l => (Y (ix3 ⟨r.val / 2048, by omega⟩ ⟨r.val % 2048, by omega⟩ l) : EReal) := by unfold mY; rw [eY]; rfl
      rw [eH', eG', eY', dh_coe]
      refine outH_apply _ _ _ ⟨r.val / 512, by omega⟩ ⟨r.val % 512, by omega⟩ l r (by dsimp only; omega) _ _ _ ?_ ?_ ?_
      · rw [hid_line, ← hr]; exact eH'
      · rw [gains_line]; exact eG'
      · rw [want_line, ← hr]; exact eY'
    refine ⟨e0.trans ?_, e1.trans ?_, e2.trans ?_, e3.trans ?_, kept⟩
    · funext j
      idx_vars j
      exact main j0 j1
    · funext j
      idx_vars j
      rw [outL_apply _ _ _ _ _ _ (mG m c) fun x => gains_line _ _ _]
      exact congrArg₂ (fun a b => part a b (mG m c)) (funext fun x => hid_line _ _ _ j0 x) (funext fun x => want_line _ j0 x)
    · funext j
      idx_vars j
      rw [outG_apply _ _ _ _ _ _ (mG m c) fun x => gains_line _ _ _]
      exact congrArg₂ (fun a b => gain a b (mG m c) j2) (funext fun x => hid_line _ _ _ j0 x) (funext fun x => want_line _ j0 x)
    · funext j
      idx_vars j
      exact main j0 j1

end Cert.Loss

end
-- ==== Proof.NormRun.lean ====
/-
  THE RESIDUAL'S GRADIENT THROUGH THE NORM: THE RUN. `KernelNormIdeal` forms `du = dgu · w_ffn_inᵀ` in two steps over the
  hidden channels, the steps outermost: points 0–7 write the first step's partial product of each tile of 512 tokens into
  that tile's slice of a scratch of all the tokens, points 8–15 add the second step's to it and take the sum back through
  the norm. This module runs it: what the scratch holds from point to point, and what points 8–15 leave in the outputs.
-/
module

public import proofs.«01_k».proof.Proof.Gen.KernelNormIdeal.Frame
public import proofs.«01_k».proof.Proof.Gen.KernelNormIdeal.Skeleton

@[expose] public section

set_option maxRecDepth 16384

noncomputable section

namespace Cert.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelNormIdeal Cert.KernelNormIdeal.Gen

variable {F : FTy → Type} [FloatOps F]

local notation "𝕄" => MT nD τ sig Unit (Elt F) ℕ (UR sig nD τ) ℕ

/-- The body's accesses: a half of the cotangent's tile, a half of the weight's, the whole of the other tiles. -/
abbrev rA : Rect S1x512x2816 := Rect.unit (s := S1x512x2816) ![0, 0, 0] S1x512x1408.size inb_S1x512x2816_S1x512x1408_0_0_0
@[inherit_doc rA] abbrev rB : Rect S1x512x2816 := Rect.unit (s := S1x512x2816) ![0, 0, 1408] S1x512x1408.size inb_S1x512x2816_S1x512x1408_0_0_1408
@[inherit_doc rA] abbrev rC : Rect S2x1024x1408 := Rect.unit (s := S2x1024x1408) ![0, 0, 0] S1x1024x1408.size inb_S2x1024x1408_S1x1024x1408_0_0_0
@[inherit_doc rA] abbrev rD : Rect S2x1024x1408 := Rect.unit (s := S2x1024x1408) ![1, 0, 0] S1x1024x1408.size inb_S2x1024x1408_S1x1024x1408_1_0_0
@[inherit_doc rA] abbrev rT : Rect S512x1024 := Rect.unit (s := S512x1024) ![0, 0] S512x1024.size inb_S512x1024_S512x1024_0_0
@[inherit_doc rA] abbrev rG : Rect S1x1024 := Rect.unit (s := S1x1024) ![0, 0] S1x1024.size inb_S1x1024_S1x1024_0_0
@[inherit_doc rA] abbrev rP : Rect S1x8x1024 := Rect.unit (s := S1x8x1024) ![0, 0, 0] S1x8x1024.size inb_S1x8x1024_S1x8x1024_0_0_0

/-- A tile's slice of the scratch. -/
theorem inb (p : Fin 8) : ∀ a, (![512 * p.val, 0] : Fin 2 → ℕ) a + S512x1024.size a ≤ S4096x1024.size a := by
  intro a
  revert p
  revert a
  decide
@[inherit_doc inb] abbrev rS (p : Fin 8) : Rect S4096x1024 := Rect.unit (s := S4096x1024) ![512 * p.val, 0] S512x1024.size (inb p)

/-- A step's partial product. -/
def step (x0 : Vec F S1x512x2816 .bf16) (x1 : Vec F S2x1024x1408 .bf16) : FVec F S512x1024 .f32 :=
  k0_pay2 (View.ld x0 rA) (View.ld x1 rC) (View.ld x0 rB) (View.ld x1 rD)

/-- The second step's, added to the first's. -/
def both (x0 : Vec F S1x512x2816 .bf16) (x1 : Vec F S2x1024x1408 .bf16) (u : Vec F S512x1024 .f32) : FVec F S512x1024 .f32 :=
  k0_pay3 (View.ld x0 rA) (View.ld x1 rC) (View.ld x0 rB) (View.ld x1 rD) u

/-- What a point of the second step leaves, given the tiles it reads and the first step's partial product. -/
def out5 (x0 : Vec F S1x512x2816 .bf16) (x1 : Vec F S2x1024x1408 .bf16) (x2 x3 : Vec F S512x1024 .f32) (x4 : Vec F S1x1024 .f32)
    (u : Vec F S512x1024 .f32) : Vec F S512x1024 .f32 :=
  k0_pay8 (both x0 x1 u) (View.ld x2 rT) (View.ld x4 rG) (View.ld x3 rT)
@[inherit_doc out5] def out6 (x0 : Vec F S1x512x2816 .bf16) (x1 : Vec F S2x1024x1408 .bf16) (x2 : Vec F S512x1024 .f32)
    (u : Vec F S512x1024 .f32) : Vec F S1x8x1024 .f32 :=
  k0_pay9 (both x0 x1 u) (View.ld x2 rT)
@[inherit_doc out5] def out7 (x0 : Vec F S1x512x2816 .bf16) (x1 : Vec F S2x1024x1408 .bf16) (x2 x3 : Vec F S512x1024 .f32) (x4 : Vec F S1x1024 .f32)
    (u : Vec F S512x1024 .f32) : Vec F S512x1024 .bf16 :=
  k0_pay4 (out5 x0 x1 x2 x3 x4 u)

/-- The kernel's own offsets of a tile's slice: what is written there and what is read there. -/
theorem piece {off : Fin 2 → ℕ} {p : Fin 8} (h : off = ![512 * p.val, 0]) (hin : ∀ a, off a + S512x1024.size a ≤ S4096x1024.size a)
    (w : S512x1024.Idx → Elt F .f32) :
    (⟨Rect.unit (s := S4096x1024) off S512x1024.size hin, w⟩ : View.Piece (Elt F) S4096x1024 .f32) = ⟨rS p, w⟩ := by
  subst h; rfl
@[inherit_doc piece] theorem slice {off : Fin 2 → ℕ} {p : Fin 8} (h : off = ![512 * p.val, 0])
    (hin : ∀ a, off a + S512x1024.size a ≤ S4096x1024.size a) (X : Vec F S4096x1024 .f32) :
    View.ld X (Rect.unit (s := S4096x1024) off S512x1024.size hin) = View.ld X (rS p) := by
  subst h; rfl

/-- A store over a whole buffer leaves what it stored. -/
theorem full {σ : RefSig} {sp : Space} {s : Shape} {e : EltTy} (v : View σ .tc sp s e) (f : v.ty.Contents (Elt F)) (off : Fin s.rank → ℕ) (h0 : ∀ a, off a = 0)
    (hin : ∀ a, off a + s.size a ≤ s.size a) (w : s.Idx → Elt F e) :
    v.read (Elt F) (v.writes (Elt F) f [⟨Rect.unit (s := s) off s.size hin, w⟩]) = w := by
  funext y
  refine View.read_writes_cons_hit_of_coords v f (Rect.unit (s := s) off s.size hin) w [] y y fun a => ?_
  show (y a).val = off a + 1 * (y a).val
  rw [h0]; omega

set_option maxHeartbeats 1000000 in
/-- The body at a point of the first step: the partial product goes to the tile's slice of the scratch. -/
theorem first (c : Dev nD) (E : Set ℕ) (i : grid0.Coords) (p : Fin 8) (hp : (i 1).val = p.val) (h1 : k0_cond1 i = 1#1) (h2 : ¬k0_cond2 i = 1#1) (h3 : ¬k0_cond3 i = 1#1)
    (arg3 : Memref sig .tc .vmem S1x512x2816 .bf16) (harg3 : arg3.IsWhole) (arg4 : Memref sig .tc .vmem S2x1024x1408 .bf16) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S1x8x1024 .f32) (harg9 : arg9.IsWhole) (arg10 : Memref sig .tc .vmem S512x1024 .bf16) (harg10 : arg10.IsWhole)
    (arg11 : Memref sig .tc .vmem S4096x1024 .f32) (harg11 : arg11.IsWhole)
    (x0 : Vec F S1x512x2816 .bf16) (x1 : Vec F S2x1024x1408 .bf16) (s : Vec F S4096x1024 .f32) (K : PUnit → sProp 𝕄) :
    iprop(owns (c : Thread nD τ) arg3 fullShare x0 ∗ owns (c : Thread nD τ) arg4 fullShare x1 ∗ owns (c : Thread nD τ) arg11 fullShare s
        ∗ (iprop(owns (c : Thread nD τ) arg3 fullShare x0 ∗ owns (c : Thread nD τ) arg4 fullShare x1
            ∗ ∃ s', ⌜(∀ y, s' ((rS p).emb y) = step x0 x1 y) ∧ ∀ y, y ∉ (rS p).set → s' y = s y⌝ ∗ owns (c : Thread nD τ) arg11 fullShare s') -∗ K ⟨⟩))
      ⊢ wp frame (wpE (defs₀ (F := F)) Variants.none c none) E
          (cc0_ffn_bwd_du i arg3 harg3 arg4 harg4 arg5 harg5 arg6 harg6 arg7 harg7 arg8 harg8 arg9 harg9 arg10 harg10 arg11 harg11) K := by
  simp only [cc0_ffn_bwd_du_eq_skeleton]; unfold cc0_ffn_bwd_du_skel
  unfold owns
  iintro ⟨⟨%f0, %hf0, H0⟩, ⟨%f1, %hf1, H1⟩, ⟨%f2, %hf2, H2⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  iexists arg11.view.read (Elt F) (arg11.view.writes (Elt F) f2 [⟨rS p, step (arg3.view.read (Elt F) f0) (arg4.view.read (Elt F) f1)⟩])
  isplitr
  · ipureintro
    exact ⟨fun y => View.read_writes_cons_emb arg11.view f2 (rS p) _ [] y, fun y hy => View.read_writes_cons_miss arg11.view f2 ⟨rS p, _⟩ [] y hy⟩
  · iexists _; isplitr; swap; · iexact H2
    ipureintro
    exact congrArg (fun P => arg11.view.read (Elt F) (arg11.view.writes (Elt F) f2 [P])) (piece ((k0_off1_eq i).trans (by rw [hp])) _ _)

set_option maxHeartbeats 400000 in
/-- The body at a point of the second step: the tile's sum is completed and taken back through the norm. -/
theorem second (c : Dev nD) (E : Set ℕ) (i : grid0.Coords) (p : Fin 8) (hp : (i 1).val = p.val) (h1 : ¬k0_cond1 i = 1#1) (h2 : k0_cond2 i = 1#1) (h3 : k0_cond3 i = 1#1)
    (arg3 : Memref sig .tc .vmem S1x512x2816 .bf16) (harg3 : arg3.IsWhole) (arg4 : Memref sig .tc .vmem S2x1024x1408 .bf16) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S1x8x1024 .f32) (harg9 : arg9.IsWhole) (arg10 : Memref sig .tc .vmem S512x1024 .bf16) (harg10 : arg10.IsWhole)
    (arg11 : Memref sig .tc .vmem S4096x1024 .f32) (harg11 : arg11.IsWhole)
    (x0 : Vec F S1x512x2816 .bf16) (x1 : Vec F S2x1024x1408 .bf16) (x2 x3 : Vec F S512x1024 .f32) (x4 : Vec F S1x1024 .f32)
    (d5 : Vec F S512x1024 .f32) (d6 : Vec F S1x8x1024 .f32) (d7 : Vec F S512x1024 .bf16)
    (s : Vec F S4096x1024 .f32) (u : Vec F S512x1024 .f32) (hu : ∀ y, s ((rS p).emb y) = u y) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare d5
        ∗ owns (c : Thread nD τ) arg9 fullShare d6 ∗ owns (c : Thread nD τ) arg10 fullShare d7 ∗ owns (c : Thread nD τ) arg11 fullShare s
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (out5 x0 x1 x2 x3 x4 u) ∗ owns (c : Thread nD τ) arg9 fullShare (out6 x0 x1 x2 u)
            ∗ owns (c : Thread nD τ) arg10 fullShare (out7 x0 x1 x2 x3 x4 u)
            ∗ ∃ s', ⌜∀ y, y ∉ (rS p).set → s' y = s y⌝ ∗ owns (c : Thread nD τ) arg11 fullShare s') -∗ K ⟨⟩))
      ⊢ wp frame (wpE (defs₀ (F := F)) Variants.none c none) E
          (cc0_ffn_bwd_du i arg3 harg3 arg4 harg4 arg5 harg5 arg6 harg6 arg7 harg7 arg8 harg8 arg9 harg9 arg10 harg10 arg11 harg11) K := by
  simp only [cc0_ffn_bwd_du_eq_skeleton]; unfold cc0_ffn_bwd_du_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, -, H6⟩, ⟨%f7, -, H7⟩, ⟨%f8, %hf8, H8⟩, Hk⟩
  subst hf0 hf1 hf2 hf3 hf4 hf8
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  have ho : k0_off2 i = ![512 * p.val, 0] := (k0_off2_eq i).trans (by rw [hp])
  have ho' : k0_off3 i = ![512 * p.val, 0] := (k0_off3_eq i).trans (by rw [hp])
  have hl : View.ld (arg11.view.read (Elt F) f8) (rS p) = u := funext hu
  have hw : second.sl.H8_1 c i h2 arg3 arg4 arg11 f0 f1 f8 = [⟨rS p, both (arg3.view.read (Elt F) f0) (arg4.view.read (Elt F) f1) u⟩] := by
    unfold second.sl.H8_1
    refine congrArg (fun P => [P]) ((piece ho _ _).trans ?_)
    refine congrArg (fun W => (⟨rS p, W⟩ : View.Piece (Elt F) S4096x1024 .f32)) ?_
    exact congrArg (k0_pay3 _ _ _ _) ((slice ho _ (arg11.view.read (Elt F) f8)).trans hl)
  have hv : second.sl.v25 c i h2 h3 arg3 arg4 arg11 f0 f1 f8 = both (arg3.view.read (Elt F) f0) (arg4.view.read (Elt F) f1) u := by
    unfold second.sl.v25
    rw [hw]
    unfold View.readCov
    exact (slice ho' _ (arg11.view.read (Elt F) _)).trans (funext fun y => View.read_writes_cons_emb arg11.view _ (rS p) _ [] y)
  rw [hv, hw]
  isplitl [H5]
  · iexists _; isplitr; swap; · iexact H5
    ipureintro
    exact full arg8.view f5 ![0, 0] (by decide) _ _
  isplitl [H6]
  · iexists _; isplitr; swap; · iexact H6
    ipureintro
    exact full arg9.view f6 ![0, 0, 0] (by decide) _ _
  isplitl [H7]
  · iexists _; isplitr; swap; · iexact H7
    ipureintro
    exact full arg10.view f7 ![0, 0] (by decide) _ _
  iexists arg11.view.read (Elt F) (arg11.view.writes (Elt F) f8 [⟨rS p, both (arg3.view.read (Elt F) f0) (arg4.view.read (Elt F) f1) u⟩])
  isplitr
  · ipureintro
    exact fun y hy => View.read_writes_cons_miss arg11.view f8 ⟨rS p, _⟩ [] y hy
  · iexists _; isplitr; swap; · iexact H8
    ipureintro
    rfl

variable (m : (ℓ : Loc nD τ sig) → Buf (Elt F) ℓ) (ρ : Dev nD → PrngReg)

/-- A point's place in its step. -/
theorem place (t : Fin cfg0.N) : (grid0.coords t 1).val = t.val % 8 := (by decide +kernel : ∀ t : Fin grid0.N, (grid0.coords t 1).val = t.val % 8) t
@[inherit_doc place] theorem early (t : Fin cfg0.N) (h : t.val < 8) : k0_cond1 (grid0.coords t) = 1#1 ∧ ¬k0_cond2 (grid0.coords t) = 1#1 ∧ ¬k0_cond3 (grid0.coords t) = 1#1 :=
  (by decide +kernel : ∀ t : Fin grid0.N, t.val < 8 → k0_cond1 (grid0.coords t) = 1#1 ∧ ¬k0_cond2 (grid0.coords t) = 1#1 ∧ ¬k0_cond3 (grid0.coords t) = 1#1) t h
@[inherit_doc place] theorem late (t : Fin cfg0.N) (h : ¬t.val < 8) : ¬k0_cond1 (grid0.coords t) = 1#1 ∧ k0_cond2 (grid0.coords t) = 1#1 ∧ k0_cond3 (grid0.coords t) = 1#1 :=
  (by decide +kernel : ∀ t : Fin grid0.N, ¬t.val < 8 → ¬k0_cond1 (grid0.coords t) = 1#1 ∧ k0_cond2 (grid0.coords t) = 1#1 ∧ k0_cond3 (grid0.coords t) = 1#1) t h
@[inherit_doc place] theorem kept (t : Fin cfg0.N) (h : t.val < 8) :
    ((cfg0.win 5).flush t = false ∧ (cfg0.win 6).flush t = false) ∧ (cfg0.win 7).flush t = false :=
  (by decide +kernel : ∀ t : Fin cfg0.N, t.val < 8 → ((cfg0.win 5).flush t = false ∧ (cfg0.win 6).flush t = false) ∧ (cfg0.win 7).flush t = false) t h

/-- A tile's point in the first step, and the partial product formed there. -/
def pt (j : Fin 8) : Fin cfg0.N := ⟨j.val, lt_of_lt_of_eq (by omega) N_0.symm⟩
@[inherit_doc pt] def part (c : Dev nD) (j : Fin 8) : Vec F S512x1024 .f32 := step (iblk m c 0 (pt j)) (iblk m c 1 (pt j))
/-- A point's tile. -/
def tile (t : Fin cfg0.N) : Fin 8 := ⟨t.val % 8, by omega⟩

/-- What the scratch holds before point `n`: the partial products formed so far and not yet used. -/
def Held (c : Dev nD) (n : ℕ) (s : Vec F S4096x1024 .f32) : Prop :=
  ∀ j : Fin 8, j.val < n → n ≤ j.val + 8 → ∀ y, s ((rS j).emb y) = part m c j y

theorem apart {j p : Fin 8} (h : j ≠ p) (y : (rS j).shape.Idx) : (rS j).emb y ∉ (rS p).set := by
  refine (rS p).not_mem_set_of_axis _ (0 : Fin 2) (512 * p.val) 512 rfl rfl rfl ?_
  have hy : (y (0 : Fin 2)).val < 512 := (y (0 : Fin 2)).isLt
  have he : ((rS j).emb y (0 : Fin 2)).val = 512 * j.val + 1 * (y (0 : Fin 2)).val := rfl
  have hn : j.val ≠ p.val := fun hh => h (Fin.ext hh)
  rw [he]
  omega

theorem Held.early {c : Dev nD} {t : Fin cfg0.N} (h : t.val < 8) {s s' : Vec F S4096x1024 .f32} (hs : Held m c t.val s)
    (hn : ∀ y, s' ((rS (tile t)).emb y) = step (iblk m c 0 t) (iblk m c 1 t) y) (ho : ∀ y, y ∉ (rS (tile t)).set → s' y = s y) :
    Held m c (t.val + 1) s' := by
  intro j hj hj' y
  by_cases e : j = tile t
  · subst e
    rw [hn]
    have : pt (tile t) = t := Fin.ext (Nat.mod_eq_of_lt h)
    unfold part
    rw [this]
  · rw [ho _ (apart e y)]
    have : j.val ≠ t.val % 8 := fun hh => e (Fin.ext hh)
    exact hs j (by omega) (by omega) y

theorem Held.late {c : Dev nD} {t : Fin cfg0.N} (h : ¬t.val < 8) {s s' : Vec F S4096x1024 .f32} (hs : Held m c t.val s)
    (ho : ∀ y, y ∉ (rS (tile t)).set → s' y = s y) : Held m c (t.val + 1) s' := by
  intro j hj hj' y
  have ht : t.val < 16 := lt_of_lt_of_eq t.isLt N_0
  have e : j ≠ tile t := fun hh => by
    have : j.val = t.val % 8 := congrArg Fin.val hh
    omega
  rw [ho _ (apart e y)]
  exact hs j (by omega) (by omega) y

/-- The proof data: the inputs' blocks stay; points 8–15 leave the outputs' tiles; the scratch is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t) (part m c (tile t))
    | ⟨6, _⟩ => out6 (iblk m c 0 t) (iblk m c 1 t) (iblk m c 2 t) (part m c (tile t))
    | ⟨7, _⟩ => out7 (iblk m c 0 t) (iblk m c 1 t) (iblk m c 2 t) (iblk m c 3 t) (iblk m c 4 t) (part m c (tile t))
  Φ n := iprop((∃ s, ⌜Held m c n.val s⌝ ∗ owns (c : Thread nD τ) (Memref.whole cc0_scratch0) fullShare s) ∗ ∃ r, prngReg c r)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out5 (iblk m c 0 t) (iblk m c 1 t) (iblk m c 2 t) (iblk m c 3 t) (iblk m c 4 t) (part m c (tile t)) := by dsimp only [dats]
theorem after0_6 (c : Dev nD) (t : Fin cfg0.N) : (dats m 0 c).after 6 t
    = out6 (iblk m c 0 t) (iblk m c 1 t) (iblk m c 2 t) (part m c (tile t)) := by dsimp only [dats]
theorem after0_7 (c : Dev nD) (t : Fin cfg0.N) : (dats m 0 c).after 7 t
    = out7 (iblk m c 0 t) (iblk m c 1 t) (iblk m c 2 t) (iblk m c 3 t) (iblk m c 4 t) (part m c (tile t)) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What the body owns at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t ∗ (dats m 0 c).leavesExact 7 t)

theorem idle_early (t : Fin cfg0.N) (h : t.val < 8) :
    cfg0.idle 5 (cfg0.grid.coords t) = true ∧ cfg0.idle 6 (cfg0.grid.coords t) = true ∧ cfg0.idle 7 (cfg0.grid.coords t) = true :=
  have e : (!(k0_cond3 (grid0.coords t) == 1#1)) = true := by
    rw [Bool.not_eq_true', beq_eq_false_iff_ne]; exact (early t h).2.2
  ⟨e, e, e⟩

theorem idle_late (t : Fin cfg0.N) (h : ¬t.val < 8) :
    cfg0.idle 5 (cfg0.grid.coords t) = false ∧ cfg0.idle 6 (cfg0.grid.coords t) = false ∧ cfg0.idle 7 (cfg0.grid.coords t) = false :=
  have e : (!(k0_cond3 (grid0.coords t) == 1#1)) = false := by
    rw [(late t h).2.2]; rfl
  ⟨e, e, e⟩

theorem leaves_late (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem Φ_eq (c : Dev nD) (n : Fin (cfg0.N + 1)) : (dats m 0 c).Φ n
    = iprop((∃ s, ⌜Held m c n.val s⌝ ∗ owns (c : Thread nD τ) (Memref.whole cc0_scratch0) fullShare s) ∗ ∃ r, prngReg c r) := by dsimp only [dats]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, Φ_eq, Φ_eq]
  by_cases h : t.val < 8
  · rw [(dats m 0 c).leavesExact_idle 5 t (idle_early t h).1 (kept t h).1.1, (dats m 0 c).leavesExact_idle 6 t (idle_early t h).2.1 (kept t h).1.2,
      (dats m 0 c).leavesExact_idle 7 t (idle_early t h).2.2 (kept t h).2]
    iintro ⟨⟨⟨%s, %hs, HS⟩, HR⟩, Ho, ⟨%d0, H0⟩, ⟨%d1, H1⟩, ⟨%d2, H2⟩, ⟨%d3, H3⟩, ⟨%d4, H4⟩, H5, H6, H7⟩
    iapply (first c Set.univ (grid0.coords t) (tile t) (place t) (early t h).1 (early t h).2.1 (early t h).2.2
      _ _ _ _ _ _ _ _ _ _ _ _ _ _ _ _ _ _ (iblk m c 0 t) (iblk m c 1 t) s _)
    isplitl [H0]; · iexact H0
    isplitl [H1]; · iexact H1
    isplitl [HS]; · iexact HS
    iintro ⟨H0, H1, ⟨%s', %hs', HS⟩⟩
    isplitl [HS HR]
    · isplitl [HS]
      · iexists s'
        isplitr
        · ipureintro; exact Held.early m h hs hs'.1 hs'.2
        · iexact HS
      · iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [leaves_late m c 5 t (idle_late t h).1, leaves_late m c 6 t (idle_late t h).2.1, leaves_late m c 7 t (idle_late t h).2.2,
      after0_5, after0_6, after0_7]
    iintro ⟨⟨⟨%s, %hs, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have ht : t.val < 16 := lt_of_lt_of_eq t.isLt N_0
    iapply (second c Set.univ (grid0.coords t) (tile t) (place t) (late t h).1 (late t h).2.1 (late t h).2.2
      _ _ _ _ _ _ _ _ _ _ _ _ _ _ _ _ _ _ (iblk m c 0 t) (iblk m c 1 t) (iblk m c 2 t) (iblk m c 3 t) (iblk m c 4 t) _ _ _ s
      (part m c (tile t)) (hs (tile t) (show t.val % 8 < t.val by omega) (show t.val ≤ t.val % 8 + 8 by omega)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%s', %hs', HS⟩⟩
    isplitl [HS HR]
    · isplitl [HS]
      · iexists s'
        isplitr
        · ipureintro; exact Held.late m h hs hs'
        · iexact HS
      · iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch is handed over at anything, -/
theorem enter (c : Dev nD) : (Pipeline.ΦA (U := UR sig nD τ) spec0 c : sProp 𝕄) ⊢ (dats (F := F) m 0 c).Φ 0 := by
  rw [Φ_eq]
  unfold Pipeline.ΦA
  rw [scopedRest0_eq]
  iintro ⟨⟨%f, H⟩, HR⟩
  isplitl [H]
  · iexists f
    isplitr
    · ipureintro
      intro j hj
      exact absurd hj (Nat.not_lt_zero _)
    · rw [owns_whole]; iexact H
  · iexact HR

/-- and forgotten after the last point. -/
theorem leave (c : Dev nD) : (dats (F := F) m 0 c).Φ (Fin.last cfg0.N) ⊢ (Pipeline.ΦA (U := UR sig nD τ) spec0 c : sProp 𝕄) := by
  rw [Φ_eq]
  unfold Pipeline.ΦA
  rw [scopedRest0_eq]
  iintro ⟨⟨%s, -, H⟩, HR⟩
  isplitl [H]
  · iexists s
    rw [← owns_whole]; iexact H
  · iexact HR

set_option backward.isDefEq.respectTransparency.types false in
set_option maxHeartbeats 800000 in
/-- The launch: every weakly fair execution ends with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

end Cert.Norm

end
-- ==== Proof.NormValue.lean ====
/-
  THE RESIDUAL'S GRADIENT THROUGH THE NORM: THE KERNEL. This module reads the three arrays `KernelNormIdeal` leaves as
  functions of the arguments, element by element, over rows: a token's residual row `h`, the gain `g` and the cotangent
  row `d` of the normalised token, a sum over all the hidden channels of which each step of the grid has summed a half.
-/
module

public import proofs.«01_k».proof.Proof.LossValue
public import proofs.«01_k».proof.Proof.NormRun
public import Idealize.ShloMosaic.Lib.Pipeline.ValueKit

@[expose] public section

set_option maxRecDepth 16384

noncomputable section

namespace Cert.Norm

open Idealize.ShloMosaic Idealize.ShloMosaic.TcCoe Idealize.SL.Sem
open Idealize.ShloMosaic.Pipeline (Dat)
open Cert.Loss (inv tok at_)
open Cert.KernelNormIdeal Cert.KernelNormIdeal.Gen

/-- The cotangent of the residual row, through the norm. -/
def bk (h g d : Fin 1024 → EReal) (l : Fin 1024) : EReal :=
  inv h * (d l * g l - h l * inv h
    * Ideal.div (∑ k : Fin 1024, d k * g k * (h k * inv h)) (Ideal.ofBits .f32 0x44800000#32))

/-- A tile's gradient of the gain. -/
def gain (h d : Fin 512 → Fin 1024 → EReal) (l : Fin 1024) : EReal := ∑ x : Fin 512, d x l * (h x l * inv (h x))

/-- The cotangent row of a normalised token: its cotangent after the product, by the transposed weight. -/
def term {n : ℕ} (a : (⟨3, ![2, 2048, n]⟩ : Shape).Idx → EReal) (w : (⟨2, ![1024, n]⟩ : Shape).Idx → EReal) (r : Fin 4096) (l : Fin 1024) (k : Fin n) : EReal :=
  a (ix3 ⟨r.val / 2048, by omega⟩ ⟨r.val % 2048, by omega⟩ k) * w (ix2 l k)
@[inherit_doc term] def cot {n : ℕ} (a : (⟨3, ![2, 2048, n]⟩ : Shape).Idx → EReal) (w : (⟨2, ![1024, n]⟩ : Shape).Idx → EReal) (r : Fin 4096) (l : Fin 1024) : EReal :=
  ∑ k : Fin n, term a w r l k

section Tile

variable (v h y : FVec Ideal S512x1024 .f32) (g : FVec Ideal S1x1024 .f32)
  {H D Y : Fin 512 → Fin 1024 → EReal} {G : Fin 1024 → EReal}
  (hH : ∀ x l, h (ix2 x l) = H x l) (hD : ∀ x l, v (ix2 x l) = D x l) (hY : ∀ x l, y (ix2 x l) = Y x l) (hG : ∀ l, g (ix2 0 l) = G l)

include hH in
theorem pay6 (x : Fin 512) (u : Fin 1) : k0_pay6 (F := Ideal) h (ix2 x u) = inv (H x) := by
  pointwise [k0_pay6, k0_pay5]
  simp only [hH]
  rfl

include hH in
theorem pay7 (x : Fin 512) (l : Fin 1024) : k0_pay7 (F := Ideal) h (ix2 x l) = H x l * inv (H x) := by
  pointwise [k0_pay7, k0_pay5]
  simp only [hH, pay6 h hH]

include hH hD hY hG in
theorem pay8 (x : Fin 512) (l : Fin 1024) : k0_pay8 (F := Ideal) v h g y (ix2 x l) = Y x l + bk (H x) G (D x) l := by
  pointwise [k0_pay8]
  simp only [pay7 h hH, pay6 h hH, hD, hG, hY]
  rfl

include hH hD in
theorem pay9 (u : Fin 1) (i : Fin 8) (l : Fin 1024) : k0_pay9 (F := Ideal) v h (ix3 u i l) = gain H D l := by
  pointwise [k0_pay9]
  simp only [pay7 h hH, hD]
  rfl

/-- A step's partial product: the sums over its two quarters of the hidden channels. -/
theorem step_apply (x0 : FVec Ideal S1x512x2816 .bf16) (x1 : FVec Ideal S2x1024x1408 .bf16) (x : Fin 512) (l : Fin 1024) :
    step (F := Ideal) x0 x1 (ix2 x l) = ∑ k : Fin 1408, x0 (ix3 0 x ⟨k.val, by omega⟩) * x1 (ix3 0 l k)
      + ∑ k : Fin 1408, x0 (ix3 0 x ⟨1408 + k.val, by omega⟩) * x1 (ix3 1 l k) := by
  unfold step
  pointwise [k0_pay2, k0_pay1]

theorem both_apply (x0 : FVec Ideal S1x512x2816 .bf16) (x1 : FVec Ideal S2x1024x1408 .bf16) (u : FVec Ideal S512x1024 .f32) (x : Fin 512) (l : Fin 1024) :
    both (F := Ideal) x0 x1 u (ix2 x l) = u (ix2 x l) + step (F := Ideal) x0 x1 (ix2 x l) := by
  unfold both step
  pointwise [k0_pay3, k0_pay2]

end Tile

section Kernel

variable (m : (ℓ : Loc nD τ sig) → Buf (Elt Ideal) ℓ)

theorem idx : ∀ t : Fin cfg0.N, win0_0.index t = ![t.val / 8, t.val % 8, 0] ∧ win0_1.index t = ![t.val / 8, 0, 0]
    ∧ win0_2.index t = ![t.val - 8, 0] ∧ win0_3.index t = ![t.val - 8, 0] ∧ win0_4.index t = ![0, 0]
    ∧ win0_5.index t = ![t.val - 8, 0] ∧ win0_6.index t = ![t.val - 8, 0, 0] ∧ win0_7.index t = ![t.val - 8, 0] :=
  (by decide +kernel : ∀ t : Fin grid0.N, _)

/-- The outputs are written out from the second step alone. -/
theorem flushed (t : Fin cfg0.N) : ((cfg0.win 5).flush t = true → ¬t.val < 8) ∧ ((cfg0.win 6).flush t = true → ¬t.val < 8)
    ∧ ((cfg0.win 7).flush t = true → ¬t.val < 8) := by
  refine ⟨fun h h' => ?_, fun h h' => ?_, fun h h' => ?_⟩
  · rw [(kept t h').1.1] at h; exact Bool.noConfusion h
  · rw [(kept t h').1.2] at h; exact Bool.noConfusion h
  · rw [(kept t h').2] at h; exact Bool.noConfusion h

variable (c : Dev nD)

/-- The arguments, as the results read them: the residual, the gain, the cotangents. -/
def mH : Fin 4096 → Fin 1024 → EReal := tok (m ((c : Thread nD τ).loc main_arg0))
@[inherit_doc mH] def mG : Fin 1024 → EReal := fun l => m ((c : Thread nD τ).loc main_arg1) (ix1 l)
@[inherit_doc mH] def mY : Fin 4096 → Fin 1024 → EReal := tok (m ((c : Thread nD τ).loc main_arg3))
/-- A term of the product, and the cotangents of the normalised tokens. -/
def mT : Fin 4096 → Fin 1024 → Fin 5632 → EReal := term (n := 5632) (m ((c : Thread nD τ).loc main_arg4)) (m ((c : Thread nD τ).loc main_arg2))
@[inherit_doc mT] def mD : Fin 4096 → Fin 1024 → EReal := cot (n := 5632) (m ((c : Thread nD τ).loc main_arg4)) (m ((c : Thread nD τ).loc main_arg2))

variable (t : Fin cfg0.N)

theorem lt16 : t.val < 16 := lt_of_lt_of_eq t.isLt N_0

/-- The tiles at a point, over the arguments. -/
theorem blk0 (x : Fin 512) (k : Fin 2816) (r : Fin 4096) (hr : r.val = t.val % 8 * 512 + x.val) (q : Fin 5632) (hq : q.val = t.val / 8 * 2816 + k.val) :
    iblk m c 0 t (ix3 0 x k) = m ((c : Thread nD τ).loc main_arg4) (ix3 ⟨r.val / 2048, by omega⟩ ⟨r.val % 2048, by omega⟩ q) := by
  have := lt16 t
  blk_point [iblk, V, idx t]

@[inherit_doc blk0] theorem blk1 (h : Fin 2) (l : Fin 1024) (k : Fin 1408) (q : Fin 5632) (hq : q.val = t.val / 8 * 2816 + h.val * 1408 + k.val) :
    iblk m c 1 t (ix3 h l k) = m ((c : Thread nD τ).loc main_arg2) (ix2 l q) := by
  have := lt16 t
  blk_point [iblk, V, idx t]

@[inherit_doc blk0] theorem blk2 (h : ¬t.val < 8) (x : Fin 512) (l : Fin 1024) : iblk m c 2 t (ix2 x l) = mH m c (at_ (tile t) x) l := by
  have := lt16 t
  have hr : (at_ (tile t) x).val = (t.val - 8) * 512 + x.val := by unfold at_ tile; dsimp only; omega
  generalize at_ (tile t) x = r at hr
  unfold mH tok
  blk_point [iblk, V, idx t]

@[inherit_doc blk0] theorem blk3 (h : ¬t.val < 8) (x : Fin 512) (l : Fin 1024) : iblk m c 3 t (ix2 x l) = mY m c (at_ (tile t) x) l := by
  have := lt16 t
  have hr : (at_ (tile t) x).val = (t.val - 8) * 512 + x.val := by unfold at_ tile; dsimp only; omega
  generalize at_ (tile t) x = r at hr
  unfold mY tok
  blk_point [iblk, V, idx t]

@[inherit_doc blk0] theorem blk4 (l : Fin 1024) : iblk m c 4 t (ix2 0 l) = mG m c l := by
  unfold mG
  blk_point [iblk, V, idx t]

/-- A step's partial product at a point, over the arguments. -/
theorem step_point (x : Fin 512) (l : Fin 1024) (r : Fin 4096) (hr : r.val = t.val % 8 * 512 + x.val) (b : ℕ) (hb : b = t.val / 8 * 2816) (h : b + 2816 ≤ 5632) :
    step (F := Ideal) (iblk m c 0 t) (iblk m c 1 t) (ix2 x l)
      = ∑ k : Fin 1408, mT m c r l ⟨b + k.val, by omega⟩ + ∑ k : Fin 1408, mT m c r l ⟨b + (1408 + k.val), by omega⟩ := by
  rw [step_apply]
  refine congrArg₂ (· + ·) (Finset.sum_congr rfl fun k _ => ?_) (Finset.sum_congr rfl fun k _ => ?_)
  · rw [blk0 m c t x _ r hr ⟨b + k.val, by omega⟩ (by dsimp only; omega),
      blk1 m c t 0 l k ⟨b + k.val, by omega⟩ (by show b + k.val = t.val / 8 * 2816 + 0 * 1408 + k.val; omega)]
    rfl
  · rw [blk0 m c t x _ r hr ⟨b + (1408 + k.val), by omega⟩ (by dsimp only; omega),
      blk1 m c t 1 l k ⟨b + (1408 + k.val), by omega⟩ (by show b + (1408 + k.val) = t.val / 8 * 2816 + 1 * 1408 + k.val; omega)]
    rfl

/-- The two steps' halves make the whole sum. -/
theorem halves (f : Fin 5632 → EReal) : ∑ k : Fin 5632, f k
    = (∑ k : Fin 1408, f ⟨0 + k.val, by omega⟩ + ∑ k : Fin 1408, f ⟨0 + (1408 + k.val), by omega⟩)
      + (∑ k : Fin 1408, f ⟨2816 + k.val, by omega⟩ + ∑ k : Fin 1408, f ⟨2816 + (1408 + k.val), by omega⟩) := by
  refine (Fin.sum_univ_add (a := 2816) (b := 2816) f).trans (congrArg₂ (· + ·) ?_ ?_)
  · refine (Fin.sum_univ_add (a := 1408) (b := 1408) _).trans (congrArg₂ (· + ·) ?_ ?_)
    · exact Finset.sum_congr rfl fun k _ => congrArg f (Fin.ext (Nat.zero_add _).symm)
    · exact Finset.sum_congr rfl fun k _ => congrArg f (Fin.ext (Nat.zero_add _).symm)
  · refine (Fin.sum_univ_add (a := 1408) (b := 1408) _).trans (congrArg₂ (· + ·) ?_ ?_)
    · exact Finset.sum_congr rfl fun k _ => congrArg f (Fin.ext rfl)
    · exact Finset.sum_congr rfl fun k _ => congrArg f (Fin.ext rfl)

/-- At a point of the second step the tile's sum is the cotangent of the normalised tokens. -/
theorem both_point (h : ¬t.val < 8) (x : Fin 512) (l : Fin 1024) :
    both (F := Ideal) (iblk m c 0 t) (iblk m c 1 t) (part m c (tile t)) (ix2 x l) = mD m c (at_ (tile t) x) l := by
  have := lt16 t
  have hr : (at_ (tile t) x).val = t.val % 8 * 512 + x.val := rfl
  rw [both_apply]
  unfold part
  rw [step_point m c (pt (tile t)) x l (at_ (tile t) x) (by unfold at_ pt tile; dsimp only; omega) 0 (by unfold pt tile; dsimp only; omega) (by omega),
    step_point m c t x l (at_ (tile t) x) hr 2816 (by omega) (by omega)]
  unfold mD cot
  exact (halves _).symm

theorem whole2 (h : ¬t.val < 8) (x : Fin 512) (l : Fin 1024) : View.ld (iblk m c 2 t) rT (ix2 x l) = mH m c (at_ (tile t) x) l := by
  pointwise
  exact blk2 m c t h x l

theorem whole3 (h : ¬t.val < 8) (x : Fin 512) (l : Fin 1024) : View.ld (iblk m c 3 t) rT (ix2 x l) = mY m c (at_ (tile t) x) l := by
  pointwise
  exact blk3 m c t h x l

theorem whole4 (l : Fin 1024) : View.ld (iblk m c 4 t) rG (ix2 0 l) = mG m c l := by
  pointwise
  exact blk4 m c t l

theorem out5_point (h : ¬t.val < 8) (x : Fin 512) (l : Fin 1024) :
    out5 (F := Ideal) (iblk m c 0 t) (iblk m c 1 t) (iblk m c 2 t) (iblk m c 3 t) (iblk m c 4 t) (part m c (tile t)) (ix2 x l)
      = mY m c (at_ (tile t) x) l + bk (mH m c (at_ (tile t) x)) (mG m c) (mD m c (at_ (tile t) x)) l :=
  pay8 _ _ _ _ (whole2 m c t h) (both_point m c t h) (whole3 m c t h) (whole4 m c t) x l

theorem out6_point (h : ¬t.val < 8) (u : Fin 1) (i : Fin 8) (l : Fin 1024) :
    out6 (F := Ideal) (iblk m c 0 t) (iblk m c 1 t) (iblk m c 2 t) (part m c (tile t)) (ix3 u i l)
      = gain (fun x => mH m c (at_ (tile t) x)) (fun x => mD m c (at_ (tile t) x)) l :=
  pay9 _ _ (whole2 m c t h) (both_point m c t h) u i l

/-- The residual's gradient after the run. -/
theorem final5 : (dats m 0 c).arrAt 5 cfg0.N = fun j : Shape.Idx S4096x1024 => mY m c (j 0) (j 1) + bk (mH m c (j 0)) (mG m c) (mD m c (j 0)) (j 1) := by
  refine (dats m 0 c).arrAt_eq_of_covers 5 _ (by decide +kernel) fun t hf y => ?_
  have h := (flushed t).1 hf
  have := lt16 t
  blk_simp
  rw [after0_5]
  have h0 : ((cfg0.win 5).blk t).view.emb y 0 = at_ (tile t) (y 0) := Fin.ext (by blk_simp [idx t]; unfold at_ tile; dsimp only; omega)
  have h1 : ((cfg0.win 5).blk t).view.emb y 1 = y 1 := Fin.ext (by blk_simp [idx t])
  rw [h0, h1]
  exact (congrArg _ (eq_ix2 y)).trans (out5_point m c t h (y 0) (y 1))

/-- The tiles' gradients of the gain, each spread over eight rows. -/
theorem final6 : (dats m 0 c).arrAt 6 cfg0.N = fun j : Shape.Idx S8x8x1024 =>
    gain (fun x => mH m c (at_ (j 0) x)) (fun x => mD m c (at_ (j 0) x)) (j 2) := by
  refine (dats m 0 c).arrAt_eq_of_covers 6 _ (by decide +kernel) fun t hf y => ?_
  have h := (flushed t).2.1 hf
  have := lt16 t
  blk_simp
  rw [after0_6]
  have h0 : ((cfg0.win 6).blk t).view.emb y 0 = tile t := Fin.ext (by blk_simp [idx t]; unfold tile; dsimp only; omega)
  have h2 : ((cfg0.win 6).blk t).view.emb y 2 = y 2 := Fin.ext (by blk_simp [idx t])
  rw [h0, h2]
  exact (congrArg _ (eq_ix3 y)).trans (out6_point m c t h (y 0) (y 1) (y 2))

/-- The residual's gradient, rounded to the narrow format. -/
theorem final7 : (dats m 0 c).arrAt 7 cfg0.N = fun j : Shape.Idx S4096x1024 => mY m c (j 0) (j 1) + bk (mH m c (j 0)) (mG m c) (mD m c (j 0)) (j 1) := by
  refine (dats m 0 c).arrAt_eq_of_covers 7 _ (by decide +kernel) fun t hf y => ?_
  have h := (flushed t).2.2 hf
  have := lt16 t
  blk_simp
  rw [after0_7]
  have h0 : ((cfg0.win 7).blk t).view.emb y 0 = at_ (tile t) (y 0) := Fin.ext (by blk_simp [idx t]; unfold at_ tile; dsimp only; omega)
  have h1 : ((cfg0.win 7).blk t).view.emb y 1 = y 1 := Fin.ext (by blk_simp [idx t])
  rw [h0, h1]
  exact (congrArg _ (eq_ix2 y)).trans (out5_point m c t h (y 0) (y 1))

end Kernel

end Cert.Norm

end
-- ==== Proof.NormRef.lean ====
/-
  THE RESIDUAL'S GRADIENT THROUGH THE NORM: THE REFERENCE. The derivative of the norm of each part of 512 tokens, by the
  residual and by the gain, read off the printed operations. The kernel writes the residual's part with the reciprocal root
  `r` alone, the derivative has `r / (r⁻²)`; the two meet over the real numbers.
-/
module

public import proofs.«01_k».proof.Proof.NormValue
public import proofs.«01_k».proof.Proof.LossRef
public import proofs.«01_k».proof.Proof.Gen.ReferenceNormIdeal.Run

@[expose] public section

set_option maxRecDepth 16384

noncomputable section

namespace Cert.Norm

open Idealize.ShloMosaic Idealize.ShloMosaic.TcCoe Idealize.SL.Sem
open Cert.Finite hiding S_
open Cert.Loss (inv tok at_ words eps squareR squareR_pos invR invR_sq square_coe inv_coe)
open Cert.ReferenceNormIdeal Cert.ReferenceNormIdeal.Gen

/-- The residual, and the other summand's cotangent, by parts. -/
def hid (a0 : FVec Ideal S2x2048x1024 .f32) : FVec Ideal S8x512x1024 .f32 := shapeCast _ a0 shapeCasts_S2x2048x1024_S8x512x1024

/-- The gain, once per part and once per token. -/
def gains (a1 : FVec Ideal S1024 .f32) : FVec Ideal S8x512x1024 .f32 :=
  broadcastInDim S8x512x1024 ![0, 1, 2] bcast_S8x1x1024_S8x512x1024_0_1_2 (broadcastInDim S8x1x1024 ![0, 2] bcast_S8x1024_S8x1x1024_0_2
    (broadcastInDim S8x1024 ![1] bcast_S1024_S8x1024_1 a1))

/-- The cotangent of the normalised, scaled tokens. -/
def back (a4 : FVec Ideal S2x2048x5632 .f32) (a2 : FVec Ideal S1024x5632 .f32) : FVec Ideal S8x512x1024 .f32 :=
  Host.dotGeneral (φ₁ := .f32) (φ₂ := .f32) dot_S8x512x5632_S1024x5632_S8x512x1024_2_1_01_0_n_n none (shapeCast _ a4 shapeCasts_S2x2048x5632_S8x512x5632) a2

section

variable (h g d : FVec Ideal S8x512x1024 .f32)

/-- A token's mean square, moved away from zero. -/
def square : FVec Ideal S8x512x1 .f32 :=
  addf (Host.divf (broadcastInDim S8x512x1 ![0, 1] bcast_S8x512_S8x512x1_0_1 (Host.reduceAdd (mulf h h) (constant S_ .f32 0x00000000#32)
      reducesTo_S8x512x1024_S8x512_d2 h_S_)) (broadcastInDim S8x512x1 ![] bcast_S_S8x512x1 (constant S_ .f32 0x44800000#32)))
    (broadcastInDim S8x512x1 ![] bcast_S_S8x512x1 (constant S_ .f32 0x358637BD#32))

/-- Its reciprocal root, once per channel. -/
def root : FVec Ideal S8x512x1024 .f32 := broadcastInDim S8x512x1024 ![0, 1, 2] bcast_S8x512x1_S8x512x1024_0_1_2 (Host.rsqrt (square h))

/-- What a token's mean square passes back to each of its channels' two factors. -/
def through : FVec Ideal S8x512x1024 .f32 :=
  broadcastInDim S8x512x1024 ![0, 1] bcast_S8x512_S8x512x1024_0_1 (Host.reduceAdd (Host.divf (mulf (shapeCast _ (Host.reduceAdd
      (mulf h (mulf d g)) (constant S_ .f32 0x00000000#32) reducesTo_S8x512x1024_S8x512_d2 h_S_) shapeCasts_S8x512_S8x512x1)
      (mulf (broadcastInDim S8x512x1 ![] bcast_S_S8x512x1 (constant S_ .f32 0xBF000000#32)) (Host.divf (Host.rsqrt (square h)) (square h))))
      (broadcastInDim S8x512x1 ![] bcast_S_S8x512x1 (constant S_ .f32 0x44800000#32)))
    (constant S_ .f32 0x00000000#32) reducesTo_S8x512x1_S8x512_d2 h_S_)

/-- The residual's part, and its gradient. -/
def outP : FVec Ideal S8x512x1024 .f32 := addf (addf (mulf (mulf d g) (root h)) (mulf h (through h g d))) (mulf (through h g d) h)
@[inherit_doc outP] def outH (a3 : FVec Ideal S2x2048x1024 .f32) : FVec Ideal S4096x1024 .f32 :=
  shapeCast _ (addf a3 (shapeCast S2x2048x1024 (outP h g d) shapeCasts_S8x512x1024_S2x2048x1024)) shapeCasts_S2x2048x1024_S4096x1024

/-- The gain's gradient, of each part. -/
def outG : FVec Ideal S8x8x1024 .f32 :=
  broadcastInDim S8x8x1024 ![0, 1, 2] bcast_S8x1x1024_S8x8x1024_0_1_2 (broadcastInDim S8x1x1024 ![0, 2] bcast_S8x1024_S8x1x1024_0_2
    (Host.reduceAdd (shapeCast _ (Host.reduceAdd (mulf (mulf h (root h)) d) (constant S_ .f32 0x00000000#32) reducesTo_S8x512x1024_S8x1024_d1 h_S_)
      shapeCasts_S8x1024_S8x1x1024) (constant S_ .f32 0x00000000#32) reducesTo_S8x1x1024_S8x1024_d1 h_S_))

end

theorem ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
        = outH (hid (m (c.tc.loc main_arg0))) (gains (m (c.tc.loc main_arg1))) (back (m (c.tc.loc main_arg4)) (m (c.tc.loc main_arg2))) (m (c.tc.loc main_arg3))
      ∧ r.2.mem ((c.tc : Thread nD τ).loc main_v45)
        = outG (hid (m (c.tc.loc main_arg0))) (back (m (c.tc.loc main_arg4)) (m (c.tc.loc main_arg2)))
      ∧ r.2.mem ((c.tc : Thread nD τ).loc main_v46) = truncf .bf16
        (outH (hid (m (c.tc.loc main_arg0))) (gains (m (c.tc.loc main_arg1))) (back (m (c.tc.loc main_arg4)) (m (c.tc.loc main_arg2))) (m (c.tc.loc main_arg3))) (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  unfold outH outG outP through root square hid gains back
  exact Value.run m ρ

/-- A token's row of an array by parts. -/
def line (h : FVec Ideal S8x512x1024 .f32) (p : Fin 8) (x : Fin 512) (l : Fin 1024) : EReal := h (ix3 p x l)

/-- A token's part of the gradient over the real numbers. -/
def bkR (h g d : Fin 1024 → ℝ) (l : Fin 1024) : ℝ :=
  invR h * (d l * g l - h l * invR h * ((∑ k : Fin 1024, d k * g k * (h k * invR h)) * (1 / 1024)))

theorem bk_coe (h g d : Fin 1024 → ℝ) (l : Fin 1024) :
    bk (fun l => (h l : EReal)) (fun l => (g l : EReal)) (fun l => (d l : EReal)) l = (bkR h g d l : EReal) := by
  unfold bk
  rw [inv_coe, words.1, Ideal.div_coe (by norm_num)]
  simp only [← EReal.coe_mul, coe_sum, ← EReal.coe_sub]
  rfl

section

variable (h g d : FVec Ideal S8x512x1024 .f32) (p : Fin 8) (x : Fin 512) (l : Fin 1024)

theorem root_apply : root h (ix3 p x l) = inv (line h p x) := by
  unfold root square
  pointwise
  rfl

theorem square_apply (u : Fin 1) : square h (ix3 p x u)
    = Ideal.div (∑ k : Fin 1024, line h p x k * line h p x k) (Ideal.ofBits .f32 0x44800000#32) + Ideal.ofBits .f32 0x358637BD#32 := by
  unfold square
  pointwise
  rfl

theorem outG_apply (i : Fin 8) : outG h d (ix3 p i l) = gain (line h p) (line d p) l := by
  unfold outG
  pointwise [root_apply]
  refine (Fin.sum_univ_one _).trans (Finset.sum_congr rfl fun x _ => mul_comm _ _)

/-- The derivative's form of a token's part against the kernel's. -/
theorem outP_apply (H G D : Fin 1024 → ℝ) (hH : line h p x = fun l => (H l : EReal)) (hG : line g p x = fun l => (G l : EReal))
    (hD : line d p x = fun l => (D l : EReal)) : outP h g d (ix3 p x l) = (bkR H G D l : EReal) := by
  have hh : ∀ k, h (ix3 p x k) = (H k : EReal) := fun k => congrFun hH k
  have hg : ∀ k, g (ix3 p x k) = (G k : EReal) := fun k => congrFun hG k
  have hd : ∀ k, d (ix3 p x k) = (D k : EReal) := fun k => congrFun hD k
  have t : through h g d (ix3 p x l) = (((∑ k : Fin 1024, H k * (D k * G k)) * (-(1 / 2) * (invR H * (invR H * invR H))) * (1 / 1024) : ℝ) : EReal) := by
    have e : inv (line h p x) = (invR H : EReal) := by rw [hH]; exact inv_coe H
    unfold Cert.Loss.inv at e
    unfold through
    pointwise [square_apply]
    refine (Fin.sum_univ_one _).trans ?_
    rw [e, hH]
    simp only [hh, hg, hd, square_coe]
    rw [words.1, words.2.2.2.1, Ideal.div_coe (by norm_num), Ideal.div_coe (squareR_pos H).ne', invR_sq]
    simp only [← EReal.coe_mul, coe_sum]
  unfold outP
  pointwise [root_apply]
  rw [t]
  simp only [hh, hg, hd, hH, inv_coe]
  simp only [← EReal.coe_mul, ← EReal.coe_add]
  refine EReal.coe_eq_coe_iff.2 ?_
  unfold bkR
  have s : ∑ k : Fin 1024, D k * G k * (H k * invR H) = (∑ k : Fin 1024, H k * (D k * G k)) * invR H := by
    rw [Finset.sum_mul]
    exact Finset.sum_congr rfl fun k _ => by ring
  rw [s]
  ring

end

/-- The parts' rows are the tokens' rows. -/
theorem hid_line (a0 : FVec Ideal S2x2048x1024 .f32) (p : Fin 8) (x : Fin 512) : line (hid a0) p x = tok a0 (at_ p x) := by
  funext l
  have q : (⟨(at_ p x).val / 2048, by have := (at_ p x).isLt; omega⟩ : Fin 2) = ⟨p.val / 4, by omega⟩ := Fin.ext (by unfold at_; dsimp only; omega)
  have q' : (⟨(at_ p x).val % 2048, by omega⟩ : Fin 2048) = ⟨p.val % 4 * 512 + x.val, by omega⟩ := Fin.ext (by unfold at_; dsimp only; omega)
  unfold line hid tok
  rw [q, q']
  pointwise

@[inherit_doc hid_line] theorem gains_line (a1 : FVec Ideal S1024 .f32) (p : Fin 8) (x : Fin 512) : line (gains a1) p x = fun l => a1 (ix1 l) := by
  funext l
  unfold line gains
  pointwise

@[inherit_doc hid_line] theorem back_line (a4 : FVec Ideal S2x2048x5632 .f32) (a2 : FVec Ideal S1024x5632 .f32) (p : Fin 8) (x : Fin 512) :
    line (back a4 a2) p x = cot a4 a2 (at_ p x) := by
  funext l
  have q : (⟨(at_ p x).val / 2048, by have := (at_ p x).isLt; omega⟩ : Fin 2) = ⟨p.val / 4, by omega⟩ := Fin.ext (by unfold at_; dsimp only; omega)
  have q' : (⟨(at_ p x).val % 2048, by omega⟩ : Fin 2048) = ⟨p.val % 4 * 512 + x.val, by omega⟩ := Fin.ext (by unfold at_; dsimp only; omega)
  unfold line back cot term
  rw [q, q']
  pointwise

/-- The residual's gradient at a token. -/
theorem outH_apply (h g d : FVec Ideal S8x512x1024 .f32) (a3 : FVec Ideal S2x2048x1024 .f32) (r : Fin 4096) (l : Fin 1024) :
    outH h g d a3 (ix2 r l) = tok a3 r l + outP h g d (ix3 ⟨r.val / 512, by omega⟩ ⟨r.val % 512, by omega⟩ l) := by
  have q : (⟨r.val / 512, by omega⟩ : Fin 8) = ⟨r.val / 2048 * 4 + r.val % 2048 / 512, by omega⟩ := Fin.ext (by dsimp only; omega)
  have q' : (⟨r.val % 512, by omega⟩ : Fin 512) = ⟨r.val % 2048 % 512, by omega⟩ := Fin.ext (by dsimp only; omega)
  unfold outH tok
  rw [q, q']
  pointwise

end Cert.Norm

end
-- ==== Proof.Norm.lean ====
/-
  THE RESIDUAL'S GRADIENT THROUGH THE NORM. The kernel's tiles are the reference's parts and the two steps' halves make the
  product's sum, so the gain's gradients are the same sums; the residual's gradient is the norm's derivative. The machine's
  program and the real-valued one have one text, and one run gives both their frames.
-/
module

public import proofs.«01_k».proof.Defs
public import proofs.«01_k».proof.Proof.NormRef
public import proofs.«01_k».proof.Proof.Gen.KernelNorm.Frame
public import proofs.«01_k».proof.Proof.Gen.KernelNorm.Skeleton
public import proofs.«01_k».proof.Proof.Gen.Pre_finite_norm
public import Idealize.ShloMosaic.Lib.Claim

@[expose] public section

set_option maxRecDepth 16384

noncomputable section

namespace Cert.Norm

open Idealize.ShloMosaic Idealize.SL.Sem Cert.Finite
open Cert.Loss (tok at_)

section

variable {F : FTy → Type} [FloatOps F]

set_option maxHeartbeats 400000

/-- The two programs are one text. -/
theorem rows : @Cert.KernelNorm.defs₀ F _ Cert.KernelNorm.Gen.facts = @Cert.KernelNormIdeal.defs₀ F _ Cert.KernelNormIdeal.Gen.facts := by
  unfold Cert.KernelNorm.defs₀ Cert.KernelNormIdeal.defs₀
  refine congrArg Defs.onTc ?_
  funext l x
  match l, x with
  | 0, (t, s) => rfl
  | ⟨_ + 1, h⟩, _ => exact absurd h (Nat.not_lt.2 (Nat.le_add_left _ _))
@[inherit_doc rows] theorem table : @Cert.KernelNorm.defs F _ Cert.KernelNorm.Gen.facts = @Cert.KernelNormIdeal.defs F _ Cert.KernelNormIdeal.Gen.facts := by
  unfold Cert.KernelNorm.defs Cert.KernelNormIdeal.defs
  rw [rows]
  rfl
@[inherit_doc rows] theorem body : @Cert.KernelNorm.main F _ Cert.KernelNorm.Gen.facts = @Cert.KernelNormIdeal.main F _ Cert.KernelNormIdeal.Gen.facts := rfl

end

/-- Both programs' frames. -/
theorem frameB : Cert.quiescent_KernelNorm (hKernelNorm := Cert.KernelNorm.Gen.facts) := fun m ρ _ => by
  rw [table, body]
  exact θ_run_and (Cert.KernelNormIdeal.Gen.frame_of (F := Bits) m ρ (dats m) (A_eq m) (run_main m ρ))
    ((θ_run _ _ _).mono (fun _ h => h.2) (run_main_quiescent m ρ))
@[inherit_doc frameB] theorem frameI : Cert.quiescent_KernelNormIdeal (hKernelNormIdeal := Cert.KernelNormIdeal.Gen.facts) := fun m ρ _ =>
  θ_run_and (Cert.KernelNormIdeal.Gen.frame_of m ρ (dats m) (A_eq m) (run_main m ρ)) ((θ_run _ _ _).mono (fun _ h => h.2) (run_main_quiescent m ρ))

/-- The precondition says that every element of the arguments is a real number. -/
theorem finite [Cert.Pre_finite_norm.Facts] {a0 : FVec Ideal _ .f32} {a1 : FVec Ideal _ .f32} {a2 : FVec Ideal _ .f32}
    {a3 : FVec Ideal _ .f32} {a4 : FVec Ideal _ .f32} (h : Cert.Pre_finite_norm.fn (F := Ideal) a0 a1 a2 a3 a4 = fun _ => 1#1) :
    Real a0 ∧ Real a1 ∧ Real a2 ∧ Real a3 ∧ Real a4 := by
  obtain ⟨h, h4⟩ := andi_split h
  obtain ⟨h, h3⟩ := andi_split h
  obtain ⟨h, h2⟩ := andi_split h
  obtain ⟨h0, h1⟩ := andi_split h
  exact ⟨real_of_all _ _ _ _ h0, real_of_all _ _ _ _ h1, real_of_all _ _ _ _ h2, real_of_all _ _ _ _ h3, real_of_all _ _ _ _ h4⟩

/-- The cotangent of a normalised token is a real row. -/
theorem cot_real {n : ℕ} {a : (⟨3, ![2, 2048, n]⟩ : Shape).Idx → EReal} {w : (⟨2, ![1024, n]⟩ : Shape).Idx → EReal}
    (ha : ∀ i, ∃ x : ℝ, a i = x) (hw : ∀ i, ∃ x : ℝ, w i = x) (r : Fin 4096) : ∃ D : Fin 1024 → ℝ, cot a w r = fun l => (D l : EReal) := by
  refine lift fun l => ?_
  obtain ⟨a, rfl⟩ := lift ha
  obtain ⟨w, rfl⟩ := lift hw
  unfold cot term
  simp only [← EReal.coe_mul, coe_sum]
  exact ⟨_, rfl⟩

theorem algebraic : Cert.algebraic_KernelNormIdeal_ReferenceNormIdeal_pre_finite_norm
    (hKernelNormIdeal := Cert.KernelNormIdeal.Gen.facts) (hReferenceNormIdeal := Cert.ReferenceNormIdeal.Gen.facts)
    (hPre_finite_norm := Cert.Pre_finite_norm.Gen.facts) := by
  intro m g m' g' hpre hagree
  refine ⟨fun c => (fun j => mY m c (j 0) (j 1) + bk (mH m c (j 0)) (mG m c) (mD m c (j 0)) (j 1)),
    fun c => (fun j => gain (fun x => mH m c (Cert.Loss.at_ (j 0) x)) (fun x => mD m c (Cert.Loss.at_ (j 0) x)) (j 2)),
    fun c => (fun j => mY m c (j 0) (j 1) + bk (mH m c (j 0)) (mG m c) (mD m c (j 0)) (j 1)), ?_, ?_⟩
  · refine (θ_run _ _ _).mono (fun r h c => ?_) (θ_run_and (run_main m g) (Cert.KernelNormIdeal.Gen.frame_of m g (dats m) (A_eq m) (run_main m g)))
    exact ⟨((h.1 c).1 5).trans (final5 m c), ((h.1 c).1 6).trans (final6 m c), ((h.1 c).1 7).trans (final7 m c), h.2 c⟩
  · refine (θ_run _ _ _).mono (fun r h c => ?_) (ref m' g')
    obtain ⟨e0, e1, e2, kept⟩ := h c
    obtain ⟨f0, f1, f2, f3, f4⟩ := finite (hpre c)
    obtain ⟨h0, h1, h2, h3, h4⟩ := hagree c
    rw [h0, h1, h2, h3, h4] at e0 e2
    rw [h0, h2, h4] at e1
    have main : ∀ (r : Fin 4096) (l : Fin 1024),
        outH (hid (m (c.tc.loc Cert.KernelNormIdeal.main_arg0))) (gains (m (c.tc.loc Cert.KernelNormIdeal.main_arg1)))
          (back (m (c.tc.loc Cert.KernelNormIdeal.main_arg4)) (m (c.tc.loc Cert.KernelNormIdeal.main_arg2)))
          (m (c.tc.loc Cert.KernelNormIdeal.main_arg3)) (ix2 r l)
        = mY m c r l + bk (mH m c r) (mG m c) (mD m c r) l := by
      intro r l
      have hr : r = at_ ⟨r.val / 512, by omega⟩ ⟨r.val % 512, by omega⟩ := Fin.ext (by unfold at_; dsimp only; omega)
      obtain ⟨H, eH⟩ := lift f0
      obtain ⟨G, eG⟩ := lift f1
      obtain ⟨D, eD⟩ := cot_real f4 f2 r
      have eH' : mH m c r = fun l => (H (ix3 ⟨r.val / 2048, by omega⟩ ⟨r.val % 2048, by omega⟩ l) : EReal) := by unfold mH; rw [eH]; rfl
      have eG' : mG m c = fun l => (G (ix1 l) : EReal) := by unfold mG; rw [eG]
      have eD' : mD m c r = fun l => (D l : EReal) := eD
      rw [eH', eG', eD', bk_coe, outH_apply]
      refine congrArg (tok _ r l + ·) (outP_apply _ _ _ _ _ _ _ _ _ ?_ ?_ ?_)
      · rw [hid_line, ← hr]; exact eH'
      · rw [gains_line]; exact eG'
      · rw [back_line, ← hr]; exact eD'
    refine ⟨e0.trans ?_, e1.trans ?_, e2.trans ?_, kept⟩
    · funext j
      idx_vars j
      exact main j0 j1
    · funext j
      idx_vars j
      rw [outG_apply]
      exact congrArg₂ (fun a b => gain a b j2) (funext fun x => hid_line _ j0 x) (funext fun x => back_line _ _ j0 x)
    · funext j
      idx_vars j
      exact main j0 j1

end Cert.Norm

end
-- ==== Proof.InbwdRun.lean ====
/-
  THE INPUT'S GRADIENT THROUGH THE FIRST NORM: THE RUN. `KernelInbwdIdeal` forms `du = dproj · w_inᵀ` in four steps of two
  segments, the steps outermost: points 0–7 write the first step's partial product of each tile of 512 tokens into that
  tile's slice of a scratch of all the tokens, points 8–31 add their step's to it, and points 24–31 take the sum back
  through the norm. This module runs it: what the scratch holds from point to point, and what the last points leave.
-/
module

public import proofs.«01_k».proof.Proof.NormRun
public import proofs.«01_k».proof.Proof.Gen.KernelInbwdIdeal.Frame
public import proofs.«01_k».proof.Proof.Gen.KernelInbwdIdeal.Skeleton

@[expose] public section

set_option maxRecDepth 16384

noncomputable section

namespace Cert.Inbwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Norm (rS piece slice full apart)
open Cert.KernelInbwdIdeal Cert.KernelInbwdIdeal.Gen

variable {F : FTy → Type} [FloatOps F]

local notation "𝕄" => MT nD τ sig Unit (Elt F) ℕ (UR sig nD τ) ℕ

/-- The body's accesses: each of the cotangent's two segments, each of the weight's, the whole of the other tiles. -/
abbrev rA : Rect S2x512x1024 := Rect.unit (s := S2x512x1024) ![0, 0, 0] S1x512x1024.size inb_S2x512x1024_S1x512x1024_0_0_0
@[inherit_doc rA] abbrev rB : Rect S2x512x1024 := Rect.unit (s := S2x512x1024) ![1, 0, 0] S1x512x1024.size inb_S2x512x1024_S1x512x1024_1_0_0
@[inherit_doc rA] abbrev rC : Rect S1x1024x2048 := Rect.unit (s := S1x1024x2048) ![0, 0, 0] S1x1024x1024.size inb_S1x1024x2048_S1x1024x1024_0_0_0
@[inherit_doc rA] abbrev rD : Rect S1x1024x2048 := Rect.unit (s := S1x1024x2048) ![0, 0, 1024] S1x1024x1024.size inb_S1x1024x2048_S1x1024x1024_0_0_1024
@[inherit_doc rA] abbrev rT : Rect S512x1024 := Rect.unit (s := S512x1024) ![0, 0] S512x1024.size inb_S512x1024_S512x1024_0_0
@[inherit_doc rA] abbrev rG : Rect S1x1024 := Rect.unit (s := S1x1024) ![0, 0] S1x1024.size inb_S1x1024_S1x1024_0_0

/-- A step's partial product. -/
def step (x0 : Vec F S2x512x1024 .bf16) (x1 : Vec F S1x1024x2048 .bf16) : FVec F S512x1024 .f32 :=
  k0_pay2 (View.ld x0 rA) (View.ld x1 rC) (View.ld x0 rB) (View.ld x1 rD)

/-- A later step's, added to what the earlier ones summed to. -/
def both (x0 : Vec F S2x512x1024 .bf16) (x1 : Vec F S1x1024x2048 .bf16) (u : Vec F S512x1024 .f32) : FVec F S512x1024 .f32 :=
  k0_pay3 (View.ld x0 rA) (View.ld x1 rC) (View.ld x0 rB) (View.ld x1 rD) u

/-- What a point of the last step leaves, given the tiles it reads and the earlier steps' sum. -/
def out5 (x0 : Vec F S2x512x1024 .bf16) (x1 : Vec F S1x1024x2048 .bf16) (x2 x3 : Vec F S512x1024 .f32) (x4 : Vec F S1x1024 .f32)
    (u : Vec F S512x1024 .f32) : Vec F S512x1024 .f32 :=
  k0_pay7 (both x0 x1 u) (View.ld x2 rT) (View.ld x4 rG) (View.ld x3 rT)
@[inherit_doc out5] def out6 (x0 : Vec F S2x512x1024 .bf16) (x1 : Vec F S1x1024x2048 .bf16) (x2 : Vec F S512x1024 .f32)
    (u : Vec F S512x1024 .f32) : Vec F S1x8x1024 .f32 :=
  k0_pay8 (both x0 x1 u) (View.ld x2 rT)
set_option maxHeartbeats 1000000 in
/-- The body at a point of the first step: the partial product goes to the tile's slice of the scratch. -/
theorem first (c : Dev nD) (E : Set ℕ) (i : grid0.Coords) (p : Fin 8) (hp : (i 1).val = p.val) (h1 : k0_cond1 i = 1#1) (h2 : ¬k0_cond2 i = 1#1) (h3 : ¬k0_cond3 i = 1#1)
    (arg3 : Memref sig .tc .vmem S2x512x1024 .bf16) (harg3 : arg3.IsWhole) (arg4 : Memref sig .tc .vmem S1x1024x2048 .bf16) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S1x8x1024 .f32) (harg9 : arg9.IsWhole) (arg10 : Memref sig .tc .vmem S4096x1024 .f32) (harg10 : arg10.IsWhole)
    (x0 : Vec F S2x512x1024 .bf16) (x1 : Vec F S1x1024x2048 .bf16) (s : Vec F S4096x1024 .f32) (K : PUnit → sProp 𝕄) :
    iprop(owns (c : Thread nD τ) arg3 fullShare x0 ∗ owns (c : Thread nD τ) arg4 fullShare x1 ∗ owns (c : Thread nD τ) arg10 fullShare s
        ∗ (iprop(owns (c : Thread nD τ) arg3 fullShare x0 ∗ owns (c : Thread nD τ) arg4 fullShare x1
            ∗ ∃ s', ⌜(∀ y, s' ((rS p).emb y) = step x0 x1 y) ∧ ∀ y, y ∉ (rS p).set → s' y = s y⌝ ∗ owns (c : Thread nD τ) arg10 fullShare s') -∗ K ⟨⟩))
      ⊢ wp frame (wpE (defs₀ (F := F)) Variants.none c none) E
          (cc0_in_bwd_du i arg3 harg3 arg4 harg4 arg5 harg5 arg6 harg6 arg7 harg7 arg8 harg8 arg9 harg9 arg10 harg10) K := by
  simp only [cc0_in_bwd_du_eq_skeleton]; unfold cc0_in_bwd_du_skel
  unfold owns
  iintro ⟨⟨%f0, %hf0, H0⟩, ⟨%f1, %hf1, H1⟩, ⟨%f2, %hf2, H2⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  iexists arg10.view.read (Elt F) (arg10.view.writes (Elt F) f2 [⟨rS p, step (arg3.view.read (Elt F) f0) (arg4.view.read (Elt F) f1)⟩])
  isplitr
  · ipureintro
    exact ⟨fun y => View.read_writes_cons_emb arg10.view f2 (rS p) _ [] y, fun y hy => View.read_writes_cons_miss arg10.view f2 ⟨rS p, _⟩ [] y hy⟩
  · iexists _; isplitr; swap; · iexact H2
    ipureintro
    exact congrArg (fun P => arg10.view.read (Elt F) (arg10.view.writes (Elt F) f2 [P])) (piece ((k0_off1_eq i).trans (by rw [hp])) _ _)

set_option maxHeartbeats 1000000 in
/-- The body at a point of a step between: its partial product is added to the tile's slice of the scratch. -/
theorem mid (c : Dev nD) (E : Set ℕ) (i : grid0.Coords) (p : Fin 8) (hp : (i 1).val = p.val) (h1 : ¬k0_cond1 i = 1#1) (h2 : k0_cond2 i = 1#1) (h3 : ¬k0_cond3 i = 1#1)
    (arg3 : Memref sig .tc .vmem S2x512x1024 .bf16) (harg3 : arg3.IsWhole) (arg4 : Memref sig .tc .vmem S1x1024x2048 .bf16) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S1x8x1024 .f32) (harg9 : arg9.IsWhole) (arg10 : Memref sig .tc .vmem S4096x1024 .f32) (harg10 : arg10.IsWhole)
    (x0 : Vec F S2x512x1024 .bf16) (x1 : Vec F S1x1024x2048 .bf16) (s : Vec F S4096x1024 .f32) (u : Vec F S512x1024 .f32) (hu : ∀ y, s ((rS p).emb y) = u y) (K : PUnit → sProp 𝕄) :
    iprop(owns (c : Thread nD τ) arg3 fullShare x0 ∗ owns (c : Thread nD τ) arg4 fullShare x1 ∗ owns (c : Thread nD τ) arg10 fullShare s
        ∗ (iprop(owns (c : Thread nD τ) arg3 fullShare x0 ∗ owns (c : Thread nD τ) arg4 fullShare x1
            ∗ ∃ s', ⌜(∀ y, s' ((rS p).emb y) = both x0 x1 u y) ∧ ∀ y, y ∉ (rS p).set → s' y = s y⌝ ∗ owns (c : Thread nD τ) arg10 fullShare s') -∗ K ⟨⟩))
      ⊢ wp frame (wpE (defs₀ (F := F)) Variants.none c none) E
          (cc0_in_bwd_du i arg3 harg3 arg4 harg4 arg5 harg5 arg6 harg6 arg7 harg7 arg8 harg8 arg9 harg9 arg10 harg10) K := by
  simp only [cc0_in_bwd_du_eq_skeleton]; unfold cc0_in_bwd_du_skel
  unfold owns
  iintro ⟨⟨%f0, %hf0, H0⟩, ⟨%f1, %hf1, H1⟩, ⟨%f2, %hf2, H2⟩, Hk⟩
  subst hf0 hf1 hf2
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  have ho : k0_off2 i = ![512 * p.val, 0] := (k0_off2_eq i).trans (by rw [hp])
  iexists arg10.view.read (Elt F) (arg10.view.writes (Elt F) f2 [⟨rS p, both (arg3.view.read (Elt F) f0) (arg4.view.read (Elt F) f1) u⟩])
  isplitr
  · ipureintro
    exact ⟨fun y => View.read_writes_cons_emb arg10.view f2 (rS p) _ [] y, fun y hy => View.read_writes_cons_miss arg10.view f2 ⟨rS p, _⟩ [] y hy⟩
  · iexists _; isplitr; swap; · iexact H2
    ipureintro
    refine congrArg (fun P => arg10.view.read (Elt F) (arg10.view.writes (Elt F) f2 [P])) ((piece ho _ _).trans ?_)
    refine congrArg (fun W => (⟨rS p, W⟩ : View.Piece (Elt F) S4096x1024 .f32)) ?_
    exact congrArg (k0_pay3 _ _ _ _) ((slice ho _ (arg10.view.read (Elt F) f2)).trans (funext hu))

set_option maxHeartbeats 400000 in
/-- The body at a point of the last step: the tile's sum is completed and taken back through the norm. -/
theorem last (c : Dev nD) (E : Set ℕ) (i : grid0.Coords) (p : Fin 8) (hp : (i 1).val = p.val) (h1 : ¬k0_cond1 i = 1#1) (h2 : k0_cond2 i = 1#1) (h3 : k0_cond3 i = 1#1)
    (arg3 : Memref sig .tc .vmem S2x512x1024 .bf16) (harg3 : arg3.IsWhole) (arg4 : Memref sig .tc .vmem S1x1024x2048 .bf16) (harg4 : arg4.IsWhole)
    (arg5 : Memref sig .tc .vmem S512x1024 .f32) (harg5 : arg5.IsWhole) (arg6 : Memref sig .tc .vmem S512x1024 .f32) (harg6 : arg6.IsWhole)
    (arg7 : Memref sig .tc .vmem S1x1024 .f32) (harg7 : arg7.IsWhole) (arg8 : Memref sig .tc .vmem S512x1024 .f32) (harg8 : arg8.IsWhole)
    (arg9 : Memref sig .tc .vmem S1x8x1024 .f32) (harg9 : arg9.IsWhole) (arg10 : Memref sig .tc .vmem S4096x1024 .f32) (harg10 : arg10.IsWhole)
    (x0 : Vec F S2x512x1024 .bf16) (x1 : Vec F S1x1024x2048 .bf16) (x2 x3 : Vec F S512x1024 .f32) (x4 : Vec F S1x1024 .f32)
    (d5 : Vec F S512x1024 .f32) (d6 : Vec F S1x8x1024 .f32)
    (s : Vec F S4096x1024 .f32) (u : Vec F S512x1024 .f32) (hu : ∀ y, s ((rS p).emb y) = u y) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare d5
        ∗ owns (c : Thread nD τ) arg9 fullShare d6 ∗ owns (c : Thread nD τ) arg10 fullShare s
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (out5 x0 x1 x2 x3 x4 u) ∗ owns (c : Thread nD τ) arg9 fullShare (out6 x0 x1 x2 u)
            ∗ ∃ s', ⌜∀ y, y ∉ (rS p).set → s' y = s y⌝ ∗ owns (c : Thread nD τ) arg10 fullShare s') -∗ K ⟨⟩))
      ⊢ wp frame (wpE (defs₀ (F := F)) Variants.none c none) E
          (cc0_in_bwd_du i arg3 harg3 arg4 harg4 arg5 harg5 arg6 harg6 arg7 harg7 arg8 harg8 arg9 harg9 arg10 harg10) K := by
  simp only [cc0_in_bwd_du_eq_skeleton]; unfold cc0_in_bwd_du_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, ⟨%f6, -, H6⟩, ⟨%f8, %hf8, H8⟩, Hk⟩
  subst hf0 hf1 hf2 hf3 hf4 hf8
  sl_exec (disch := first | exact h1 | exact h2 | exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  have ho : k0_off2 i = ![512 * p.val, 0] := (k0_off2_eq i).trans (by rw [hp])
  have ho' : k0_off3 i = ![512 * p.val, 0] := (k0_off3_eq i).trans (by rw [hp])
  have hl : View.ld (arg10.view.read (Elt F) f8) (rS p) = u := funext hu
  have hw : last.sl.H8_1 c i h2 arg3 arg4 arg10 f0 f1 f8 = [⟨rS p, both (arg3.view.read (Elt F) f0) (arg4.view.read (Elt F) f1) u⟩] := by
    unfold last.sl.H8_1
    refine congrArg (fun P => [P]) ((piece ho _ _).trans ?_)
    refine congrArg (fun W => (⟨rS p, W⟩ : View.Piece (Elt F) S4096x1024 .f32)) ?_
    exact congrArg (k0_pay3 _ _ _ _) ((slice ho _ (arg10.view.read (Elt F) f8)).trans hl)
  have hv : last.sl.v25 c i h2 h3 arg3 arg4 arg10 f0 f1 f8 = both (arg3.view.read (Elt F) f0) (arg4.view.read (Elt F) f1) u := by
    unfold last.sl.v25
    rw [hw]
    unfold View.readCov
    exact (slice ho' _ (arg10.view.read (Elt F) _)).trans (funext fun y => View.read_writes_cons_emb arg10.view _ (rS p) _ [] y)
  rw [hv, hw]
  isplitl [H5]
  · iexists _; isplitr; swap; · iexact H5
    ipureintro
    exact full arg8.view f5 ![0, 0] (by decide) _ _
  isplitl [H6]
  · iexists _; isplitr; swap; · iexact H6
    ipureintro
    exact full arg9.view f6 ![0, 0, 0] (by decide) _ _
  iexists arg10.view.read (Elt F) (arg10.view.writes (Elt F) f8 [⟨rS p, both (arg3.view.read (Elt F) f0) (arg4.view.read (Elt F) f1) u⟩])
  isplitr
  · ipureintro
    exact fun y hy => View.read_writes_cons_miss arg10.view f8 ⟨rS p, _⟩ [] y hy
  · iexists _; isplitr; swap; · iexact H8
    ipureintro
    rfl

variable (m : (ℓ : Loc nD τ sig) → Buf (Elt F) ℓ) (ρ : Dev nD → PrngReg)

/-- A point's place in its step. -/
theorem place (t : Fin cfg0.N) : (grid0.coords t 1).val = t.val % 8 := (by decide +kernel : ∀ t : Fin grid0.N, (grid0.coords t 1).val = t.val % 8) t
@[inherit_doc place] theorem early (t : Fin cfg0.N) (h : t.val < 8) : k0_cond1 (grid0.coords t) = 1#1 ∧ ¬k0_cond2 (grid0.coords t) = 1#1 ∧ ¬k0_cond3 (grid0.coords t) = 1#1 :=
  (by decide +kernel : ∀ t : Fin grid0.N, t.val < 8 → k0_cond1 (grid0.coords t) = 1#1 ∧ ¬k0_cond2 (grid0.coords t) = 1#1 ∧ ¬k0_cond3 (grid0.coords t) = 1#1) t h
@[inherit_doc place] theorem between (t : Fin cfg0.N) (h : ¬t.val < 8) (h' : t.val < 24) : ¬k0_cond1 (grid0.coords t) = 1#1 ∧ k0_cond2 (grid0.coords t) = 1#1 ∧ ¬k0_cond3 (grid0.coords t) = 1#1 :=
  (by decide +kernel : ∀ t : Fin grid0.N, ¬t.val < 8 → t.val < 24 → ¬k0_cond1 (grid0.coords t) = 1#1 ∧ k0_cond2 (grid0.coords t) = 1#1 ∧ ¬k0_cond3 (grid0.coords t) = 1#1) t h h'
@[inherit_doc place] theorem late (t : Fin cfg0.N) (h : ¬t.val < 24) : ¬k0_cond1 (grid0.coords t) = 1#1 ∧ k0_cond2 (grid0.coords t) = 1#1 ∧ k0_cond3 (grid0.coords t) = 1#1 :=
  (by decide +kernel : ∀ t : Fin grid0.N, ¬t.val < 24 → ¬k0_cond1 (grid0.coords t) = 1#1 ∧ k0_cond2 (grid0.coords t) = 1#1 ∧ k0_cond3 (grid0.coords t) = 1#1) t h
@[inherit_doc place] theorem kept (t : Fin cfg0.N) (h : t.val < 24) : (cfg0.win 5).flush t = false ∧ (cfg0.win 6).flush t = false :=
  (by decide +kernel : ∀ t : Fin cfg0.N, t.val < 24 → (cfg0.win 5).flush t = false ∧ (cfg0.win 6).flush t = false) t h

/-- A tile's point in step `k`, and the sum of the partial products formed by then. -/
def pt (j : Fin 8) (k : ℕ) : Fin cfg0.N := ⟨(k * 8 + j.val) % 32, lt_of_lt_of_eq (Nat.mod_lt _ (by decide)) N_0.symm⟩
@[inherit_doc pt] def part (c : Dev nD) (j : Fin 8) : ℕ → Vec F S512x1024 .f32
  | 0 => step (iblk m c 0 (pt j 0)) (iblk m c 1 (pt j 0))
  | k + 1 => both (iblk m c 0 (pt j (k + 1))) (iblk m c 1 (pt j (k + 1))) (part c j k)

/-- A point's tile. -/
abbrev at_ (t : Fin cfg0.N) : Fin 8 := ⟨t.val % 8, by omega⟩

theorem lt32 (t : Fin cfg0.N) : t.val < 32 := lt_of_lt_of_eq t.isLt N_0
theorem pt_self (t : Fin cfg0.N) (k : ℕ) (h : k = t.val / 8) : pt (at_ t) k = t := Fin.ext (by have := lt32 t; show (k * 8 + t.val % 8) % 32 = t.val; omega)

/-- What the scratch holds before point `n`: the sums formed so far and not yet used. -/
def Held (c : Dev nD) (n : ℕ) (s : Vec F S4096x1024 .f32) : Prop :=
  ∀ (j : Fin 8) (k : ℕ), k < 3 → k * 8 + j.val < n → n ≤ (k + 1) * 8 + j.val → ∀ y, s ((rS j).emb y) = part m c j k y

theorem Held.step {c : Dev nD} {t : Fin cfg0.N} {s s' : Vec F S4096x1024 .f32} (hs : Held m c t.val s)
    (hn : t.val < 24 → ∀ y, s' ((rS (at_ t)).emb y) = part m c (at_ t) (t.val / 8) y) (ho : ∀ y, y ∉ (rS (at_ t)).set → s' y = s y) :
    Held m c (t.val + 1) s' := by
  intro j k hk hj hj' y
  have ht := lt32 t
  by_cases e : j = at_ t
  · have ej : j.val = t.val % 8 := congrArg Fin.val e
    have ek : k = t.val / 8 := by omega
    subst e ek
    exact hn (by omega) y
  · rw [ho _ (apart e y)]
    have : j.val ≠ t.val % 8 := fun hh => e (Fin.ext hh)
    exact hs j k hk (by omega) (by omega) y

/-- The proof data: the inputs' blocks stay; points 24–31 leave the outputs' tiles; the scratch is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t) (part m c (at_ t) 2)
    | ⟨6, _⟩ => out6 (iblk m c 0 t) (iblk m c 1 t) (iblk m c 2 t) (part m c (at_ t) 2)
  Φ n := iprop((∃ s, ⌜Held m c n.val s⌝ ∗ owns (c : Thread nD τ) (Memref.whole cc0_scratch0) fullShare s) ∗ ∃ r, prngReg c r)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out5 (iblk m c 0 t) (iblk m c 1 t) (iblk m c 2 t) (iblk m c 3 t) (iblk m c 4 t) (part m c (at_ t) 2) := by dsimp only [dats]
theorem after0_6 (c : Dev nD) (t : Fin cfg0.N) : (dats m 0 c).after 6 t
    = out6 (iblk m c 0 t) (iblk m c 1 t) (iblk m c 2 t) (part m c (at_ t) 2) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What the body owns at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t)

theorem idle_early (t : Fin cfg0.N) (h : ¬k0_cond3 (grid0.coords t) = 1#1) :
    cfg0.idle 5 (cfg0.grid.coords t) = true ∧ cfg0.idle 6 (cfg0.grid.coords t) = true :=
  have e : (!(k0_cond3 (grid0.coords t) == 1#1)) = true := by
    rw [Bool.not_eq_true', beq_eq_false_iff_ne]; exact h
  ⟨e, e⟩

theorem idle_late (t : Fin cfg0.N) (h : ¬t.val < 24) :
    cfg0.idle 5 (cfg0.grid.coords t) = false ∧ cfg0.idle 6 (cfg0.grid.coords t) = false :=
  have e : (!(k0_cond3 (grid0.coords t) == 1#1)) = false := by
    rw [(late t h).2.2]; rfl
  ⟨e, e⟩

theorem leaves_late (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

theorem Φ_eq (c : Dev nD) (n : Fin (cfg0.N + 1)) : (dats m 0 c).Φ n
    = iprop((∃ s, ⌜Held m c n.val s⌝ ∗ owns (c : Thread nD τ) (Memref.whole cc0_scratch0) fullShare s) ∗ ∃ r, prngReg c r) := by dsimp only [dats]

/-- The sums formed at a point. -/
theorem first_part (c : Dev nD) (t : Fin cfg0.N) (h : t.val < 8) (y : S512x1024.Idx) :
    part m c (at_ t) (t.val / 8) y = step (iblk m c 0 t) (iblk m c 1 t) y := by
  have e : t.val / 8 = 0 := by omega
  rw [e]
  unfold part
  rw [pt_self t 0 e.symm]
@[inherit_doc first_part] theorem next_part (c : Dev nD) (t : Fin cfg0.N) (h : ¬t.val < 8) (y : S512x1024.Idx) :
    part m c (at_ t) (t.val / 8) y = both (iblk m c 0 t) (iblk m c 1 t) (part m c (at_ t) (t.val / 8 - 1)) y := by
  obtain ⟨k, e⟩ : ∃ k, t.val / 8 = k + 1 := ⟨t.val / 8 - 1, by omega⟩
  rw [e]
  conv_lhs => unfold part
  rw [pt_self t (k + 1) e.symm]
  rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, Φ_eq, Φ_eq]
  by_cases h : t.val < 24
  · have hi := idle_early t (show ¬k0_cond3 (grid0.coords t) = 1#1 by by_cases h' : t.val < 8; exacts [(early t h').2.2, (between t h' h).2.2])
    rw [(dats m 0 c).leavesExact_idle 5 t hi.1 (kept t h).1, (dats m 0 c).leavesExact_idle 6 t hi.2 (kept t h).2]
    iintro ⟨⟨⟨%s, %hs, HS⟩, HR⟩, Ho, ⟨%d0, H0⟩, ⟨%d1, H1⟩, ⟨%d2, H2⟩, ⟨%d3, H3⟩, ⟨%d4, H4⟩, H5, H6⟩
    by_cases h8 : t.val < 8
    · iapply (first c Set.univ (grid0.coords t) (at_ t) (place t) (early t h8).1 (early t h8).2.1 (early t h8).2.2
        _ _ _ _ _ _ _ _ _ _ _ _ _ _ _ _ (iblk m c 0 t) (iblk m c 1 t) s _)
      isplitl [H0]; · iexact H0
      isplitl [H1]; · iexact H1
      isplitl [HS]; · iexact HS
      iintro ⟨H0, H1, ⟨%s', %hs', HS⟩⟩
      isplitl [HS HR]
      · isplitl [HS]
        · iexists s'
          isplitr
          · ipureintro
            refine Held.step m hs (fun _ y => ?_) hs'.2
            rw [hs'.1]
            exact (first_part m c t h8 y).symm
          · iexact HS
        · iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · iapply (mid c Set.univ (grid0.coords t) (at_ t) (place t) (between t h8 h).1 (between t h8 h).2.1 (between t h8 h).2.2
        _ _ _ _ _ _ _ _ _ _ _ _ _ _ _ _ (iblk m c 0 t) (iblk m c 1 t) s (part m c (at_ t) (t.val / 8 - 1))
        (hs (at_ t) (t.val / 8 - 1) (by omega) (show (t.val / 8 - 1) * 8 + t.val % 8 < t.val by omega) (show t.val ≤ (t.val / 8 - 1 + 1) * 8 + t.val % 8 by omega)) _)
      isplitl [H0]; · iexact H0
      isplitl [H1]; · iexact H1
      isplitl [HS]; · iexact HS
      iintro ⟨H0, H1, ⟨%s', %hs', HS⟩⟩
      isplitl [HS HR]
      · isplitl [HS]
        · iexists s'
          isplitr
          · ipureintro
            refine Held.step m hs (fun _ y => ?_) hs'.2
            rw [hs'.1]
            exact (next_part m c t h8 y).symm
          · iexact HS
        · iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · rw [leaves_late m c 5 t (idle_late t h).1, leaves_late m c 6 t (idle_late t h).2, after0_5, after0_6]
    iintro ⟨⟨⟨%s, %hs, HS⟩, HR⟩, Ho, ⟨%d0, H0⟩, ⟨%d1, H1⟩, ⟨%d2, H2⟩, ⟨%d3, H3⟩, ⟨%d4, H4⟩, ⟨%d5, H5⟩, ⟨%d6, H6⟩⟩
    have ht := lt32 t
    iapply (last c Set.univ (grid0.coords t) (at_ t) (place t) (late t h).1 (late t h).2.1 (late t h).2.2
      _ _ _ _ _ _ _ _ _ _ _ _ _ _ _ _ (iblk m c 0 t) (iblk m c 1 t) (iblk m c 2 t) (iblk m c 3 t) (iblk m c 4 t) _ _ s
      (part m c (at_ t) 2) (hs (at_ t) 2 (by omega) (show 2 * 8 + t.val % 8 < t.val by omega) (show t.val ≤ (2 + 1) * 8 + t.val % 8 by omega)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, ⟨%s', %hs', HS⟩⟩
    isplitl [HS HR]
    · isplitl [HS]
      · iexists s'
        isplitr
        · ipureintro; exact Held.step m hs (fun hh => absurd hh h) hs'
        · iexact HS
      · iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch is handed over at anything, -/
theorem enter (c : Dev nD) : (Pipeline.ΦA (U := UR sig nD τ) spec0 c : sProp 𝕄) ⊢ (dats (F := F) m 0 c).Φ 0 := by
  rw [Φ_eq]
  unfold Pipeline.ΦA
  rw [scopedRest0_eq]
  iintro ⟨⟨%f, H⟩, HR⟩
  isplitl [H]
  · iexists f
    isplitr
    · ipureintro
      intro j k _ hj
      exact absurd hj (Nat.not_lt_zero _)
    · rw [owns_whole]; iexact H
  · iexact HR

/-- and forgotten after the last point. -/
theorem leave (c : Dev nD) : (dats (F := F) m 0 c).Φ (Fin.last cfg0.N) ⊢ (Pipeline.ΦA (U := UR sig nD τ) spec0 c : sProp 𝕄) := by
  rw [Φ_eq]
  unfold Pipeline.ΦA
  rw [scopedRest0_eq]
  iintro ⟨⟨%s, -, H⟩, HR⟩
  isplitl [H]
  · iexists s
    rw [← owns_whole]; iexact H
  · iexact HR

set_option backward.isDefEq.respectTransparency.types false in
set_option maxHeartbeats 800000 in
/-- The launch: every weakly fair execution ends with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

end Cert.Inbwd

end
-- ==== Proof.InbwdValue.lean ====
/-
  THE INPUT'S GRADIENT THROUGH THE FIRST NORM: THE KERNEL. This module reads the two arrays `KernelInbwdIdeal` leaves as
  functions of the arguments, element by element. The last step's body is the one of the second norm's kernel; what differs
  is the product in front of it, summed over four steps of two segments.
-/
module

public import proofs.«01_k».proof.Proof.NormValue
public import proofs.«01_k».proof.Proof.InbwdRun

@[expose] public section

set_option maxRecDepth 16384

noncomputable section

namespace Cert.Inbwd

open Idealize.ShloMosaic Idealize.ShloMosaic.TcCoe Idealize.SL.Sem
open Idealize.ShloMosaic.Pipeline (Dat)
open Cert.Loss (tok)
open Cert.Norm (bk gain term cot)
open Cert.KernelInbwdIdeal Cert.KernelInbwdIdeal.Gen

/-- A step's partial product: the sums over its two segments. -/
theorem step_apply (x0 : FVec Ideal S2x512x1024 .bf16) (x1 : FVec Ideal S1x1024x2048 .bf16) (x : Fin 512) (l : Fin 1024) :
    step (F := Ideal) x0 x1 (ix2 x l) = ∑ k : Fin 1024, x0 (ix3 0 x k) * x1 (ix3 0 l ⟨k.val, by omega⟩)
      + ∑ k : Fin 1024, x0 (ix3 1 x k) * x1 (ix3 0 l ⟨1024 + k.val, by omega⟩) := by
  unfold step
  pointwise [k0_pay2, k0_pay1]

theorem both_apply (x0 : FVec Ideal S2x512x1024 .bf16) (x1 : FVec Ideal S1x1024x2048 .bf16) (u : FVec Ideal S512x1024 .f32) (x : Fin 512) (l : Fin 1024) :
    both (F := Ideal) x0 x1 u (ix2 x l) = u (ix2 x l) + step (F := Ideal) x0 x1 (ix2 x l) := by
  unfold both step
  pointwise [k0_pay3, k0_pay2]

section Kernel

variable (m : (ℓ : Loc nD τ sig) → Buf (Elt Ideal) ℓ)

theorem idx : ∀ t : Fin cfg0.N, win0_0.index t = ![t.val / 8, t.val % 8, 0] ∧ win0_1.index t = ![t.val / 8, 0, 0]
    ∧ win0_2.index t = ![t.val - 24, 0] ∧ win0_3.index t = ![t.val - 24, 0] ∧ win0_4.index t = ![0, 0]
    ∧ win0_5.index t = ![t.val - 24, 0] ∧ win0_6.index t = ![t.val - 24, 0, 0] :=
  (by decide +kernel : ∀ t : Fin grid0.N, _)

/-- The outputs are written out from the last step alone. -/
theorem flushed (t : Fin cfg0.N) : ((cfg0.win 5).flush t = true → ¬t.val < 24) ∧ ((cfg0.win 6).flush t = true → ¬t.val < 24) := by
  refine ⟨fun h h' => ?_, fun h h' => ?_⟩
  · rw [(kept t h').1] at h; exact Bool.noConfusion h
  · rw [(kept t h').2] at h; exact Bool.noConfusion h

variable (c : Dev nD)

/-- The arguments, as the results read them: the input, the gain, the cotangents. -/
def mH : Fin 4096 → Fin 1024 → EReal := tok (m ((c : Thread nD τ).loc main_arg0))
@[inherit_doc mH] def mG : Fin 1024 → EReal := fun l => m ((c : Thread nD τ).loc main_arg1) (ix1 l)
@[inherit_doc mH] def mY : Fin 4096 → Fin 1024 → EReal := tok (m ((c : Thread nD τ).loc main_arg3))
/-- A term of the product, and the cotangents of the normalised tokens. -/
def mT : Fin 4096 → Fin 1024 → Fin 8192 → EReal := term (n := 8192) (m ((c : Thread nD τ).loc main_arg4)) (m ((c : Thread nD τ).loc main_arg2))
@[inherit_doc mT] def mD : Fin 4096 → Fin 1024 → EReal := cot (n := 8192) (m ((c : Thread nD τ).loc main_arg4)) (m ((c : Thread nD τ).loc main_arg2))

variable (t : Fin cfg0.N)

/-- The tiles at a point, over the arguments. -/
theorem blk0 (h : Fin 2) (x : Fin 512) (k : Fin 1024) (r : Fin 4096) (hr : r.val = t.val % 8 * 512 + x.val) (q : Fin 8192) (hq : q.val = t.val / 8 * 2048 + h.val * 1024 + k.val) :
    iblk m c 0 t (ix3 h x k) = m ((c : Thread nD τ).loc main_arg4) (ix3 ⟨r.val / 2048, by omega⟩ ⟨r.val % 2048, by omega⟩ q) := by
  have := lt32 t
  blk_point [iblk, V, idx t]

@[inherit_doc blk0] theorem blk1 (l : Fin 1024) (k : Fin 2048) (q : Fin 8192) (hq : q.val = t.val / 8 * 2048 + k.val) :
    iblk m c 1 t (ix3 0 l k) = m ((c : Thread nD τ).loc main_arg2) (ix2 l q) := by
  have := lt32 t
  blk_point [iblk, V, idx t]

@[inherit_doc blk0] theorem blk2 (h : ¬t.val < 24) (x : Fin 512) (l : Fin 1024) : iblk m c 2 t (ix2 x l) = mH m c (Cert.Loss.at_ (at_ t) x) l := by
  have := lt32 t
  have hr : (Cert.Loss.at_ (at_ t) x).val = (t.val - 24) * 512 + x.val := by unfold Cert.Loss.at_; dsimp only; omega
  generalize Cert.Loss.at_ (at_ t) x = r at hr
  unfold mH tok
  blk_point [iblk, V, idx t]

@[inherit_doc blk0] theorem blk3 (h : ¬t.val < 24) (x : Fin 512) (l : Fin 1024) : iblk m c 3 t (ix2 x l) = mY m c (Cert.Loss.at_ (at_ t) x) l := by
  have := lt32 t
  have hr : (Cert.Loss.at_ (at_ t) x).val = (t.val - 24) * 512 + x.val := by unfold Cert.Loss.at_; dsimp only; omega
  generalize Cert.Loss.at_ (at_ t) x = r at hr
  unfold mY tok
  blk_point [iblk, V, idx t]

@[inherit_doc blk0] theorem blk4 (l : Fin 1024) : iblk m c 4 t (ix2 0 l) = mG m c l := by
  unfold mG
  blk_point [iblk, V, idx t]

/-- A step's partial product at a point, over the arguments. -/
theorem step_point (x : Fin 512) (l : Fin 1024) (r : Fin 4096) (hr : r.val = t.val % 8 * 512 + x.val) (b : ℕ) (hb : b = t.val / 8 * 2048) (h : b + 2048 ≤ 8192) :
    step (F := Ideal) (iblk m c 0 t) (iblk m c 1 t) (ix2 x l)
      = ∑ k : Fin 1024, mT m c r l ⟨b + k.val, by omega⟩ + ∑ k : Fin 1024, mT m c r l ⟨b + (1024 + k.val), by omega⟩ := by
  rw [step_apply]
  refine congrArg₂ (· + ·) (Finset.sum_congr rfl fun k _ => ?_) (Finset.sum_congr rfl fun k _ => ?_)
  · rw [blk0 m c t 0 x k r hr ⟨b + k.val, by omega⟩ (by show b + k.val = t.val / 8 * 2048 + 0 * 1024 + k.val; omega),
      blk1 m c t l _ ⟨b + k.val, by omega⟩ (by dsimp only; omega)]
    rfl
  · rw [blk0 m c t 1 x k r hr ⟨b + (1024 + k.val), by omega⟩ (by show b + (1024 + k.val) = t.val / 8 * 2048 + 1 * 1024 + k.val; omega),
      blk1 m c t l _ ⟨b + (1024 + k.val), by omega⟩ (by dsimp only; omega)]
    rfl

/-- Two segments' sums, from `b` on. -/
def two (f : Fin 8192 → EReal) (b : ℕ) (h : b + 2048 ≤ 8192) : EReal :=
  ∑ k : Fin 1024, f ⟨b + k.val, by omega⟩ + ∑ k : Fin 1024, f ⟨b + (1024 + k.val), by omega⟩

theorem two_eq (f : Fin 8192 → EReal) (b : ℕ) (h : b + 2048 ≤ 8192) : ∑ k : Fin 2048, f ⟨b + k.val, by omega⟩ = two f b h :=
  Fin.sum_univ_add (a := 1024) (b := 1024) fun k : Fin 2048 => f ⟨b + k.val, by omega⟩

/-- The four steps' sums make the whole sum. -/
theorem quarters (f : Fin 8192 → EReal) : ∑ k : Fin 8192, f k
    = two f 0 (by omega) + two f 2048 (by omega) + two f 4096 (by omega) + two f 6144 (by omega) := by
  rw [← two_eq, ← two_eq, ← two_eq, ← two_eq]
  refine (Fin.sum_univ_add (a := 6144) (b := 2048) f).trans (congrArg₂ (· + ·) ?_ rfl)
  refine (Fin.sum_univ_add (a := 4096) (b := 2048) _).trans (congrArg₂ (· + ·) ?_ rfl)
  refine (Fin.sum_univ_add (a := 2048) (b := 2048) _).trans (congrArg₂ (· + ·) ?_ rfl)
  exact Finset.sum_congr rfl fun k _ => congrArg f (Fin.ext (Nat.zero_add _).symm)

/-- The sum of a tile's partial products by step `k`, from one step's to the next. -/
theorem first_sum (j : Fin 8) (x : Fin 512) (l : Fin 1024) :
    part (F := Ideal) m c j 0 (ix2 x l) = two (mT m c (Cert.Loss.at_ j x) l) 0 (by omega) := by
  unfold part
  exact step_point m c (pt j 0) x l _ (by unfold Cert.Loss.at_ pt; dsimp only; omega) 0 (by unfold pt; dsimp only; omega) (by omega)
@[inherit_doc first_sum] theorem next_sum (j : Fin 8) (x : Fin 512) (l : Fin 1024) (k : ℕ) (h : k < 3) :
    part (F := Ideal) m c j (k + 1) (ix2 x l) = part (F := Ideal) m c j k (ix2 x l) + two (mT m c (Cert.Loss.at_ j x) l) ((k + 1) * 2048) (by omega) := by
  conv_lhs => unfold part
  rw [both_apply]
  exact congrArg (_ + ·) (step_point m c (pt j (k + 1)) x l _ (by unfold Cert.Loss.at_ pt; dsimp only; omega) _ (by unfold pt; dsimp only; omega) (by omega))

/-- At a point of the last step the tile's sum is the cotangent of the normalised tokens. -/
theorem both_point (h : ¬t.val < 24) (x : Fin 512) (l : Fin 1024) :
    both (F := Ideal) (iblk m c 0 t) (iblk m c 1 t) (part m c (at_ t) 2) (ix2 x l) = mD m c (Cert.Loss.at_ (at_ t) x) l := by
  have := lt32 t
  have e : both (F := Ideal) (iblk m c 0 t) (iblk m c 1 t) (part m c (at_ t) 2) = part (F := Ideal) m c (at_ t) 3 := by
    conv_rhs => unfold part
    rw [pt_self t (2 + 1) (by omega)]
  rw [e, next_sum m c (at_ t) x l 2 (by omega), next_sum m c (at_ t) x l 1 (by omega), next_sum m c (at_ t) x l 0 (by omega), first_sum]
  unfold mD cot
  exact (quarters _).symm

theorem whole2 (h : ¬t.val < 24) (x : Fin 512) (l : Fin 1024) : View.ld (iblk m c 2 t) rT (ix2 x l) = mH m c (Cert.Loss.at_ (at_ t) x) l := by
  pointwise
  exact blk2 m c t h x l

theorem whole3 (h : ¬t.val < 24) (x : Fin 512) (l : Fin 1024) : View.ld (iblk m c 3 t) rT (ix2 x l) = mY m c (Cert.Loss.at_ (at_ t) x) l := by
  pointwise
  exact blk3 m c t h x l

theorem whole4 (l : Fin 1024) : View.ld (iblk m c 4 t) rG (ix2 0 l) = mG m c l := by
  pointwise
  exact blk4 m c t l

theorem out5_point (h : ¬t.val < 24) (x : Fin 512) (l : Fin 1024) :
    out5 (F := Ideal) (iblk m c 0 t) (iblk m c 1 t) (iblk m c 2 t) (iblk m c 3 t) (iblk m c 4 t) (part m c (at_ t) 2) (ix2 x l)
      = mY m c (Cert.Loss.at_ (at_ t) x) l + bk (mH m c (Cert.Loss.at_ (at_ t) x)) (mG m c) (mD m c (Cert.Loss.at_ (at_ t) x)) l :=
  Cert.Norm.pay8 _ _ _ _ (whole2 m c t h) (both_point m c t h) (whole3 m c t h) (whole4 m c t) x l

theorem out6_point (h : ¬t.val < 24) (u : Fin 1) (i : Fin 8) (l : Fin 1024) :
    out6 (F := Ideal) (iblk m c 0 t) (iblk m c 1 t) (iblk m c 2 t) (part m c (at_ t) 2) (ix3 u i l)
      = gain (fun x => mH m c (Cert.Loss.at_ (at_ t) x)) (fun x => mD m c (Cert.Loss.at_ (at_ t) x)) l :=
  Cert.Norm.pay9 _ _ (whole2 m c t h) (both_point m c t h) u i l

/-- The input's gradient after the run. -/
theorem final5 : (dats m 0 c).arrAt 5 cfg0.N = fun j : Shape.Idx S4096x1024 => mY m c (j 0) (j 1) + bk (mH m c (j 0)) (mG m c) (mD m c (j 0)) (j 1) := by
  refine (dats m 0 c).arrAt_eq_of_covers 5 _ (by decide +kernel) fun t hf y => ?_
  have h := (flushed t).1 hf
  have := lt32 t
  blk_simp
  rw [after0_5]
  have h0 : ((cfg0.win 5).blk t).view.emb y 0 = Cert.Loss.at_ (at_ t) (y 0) := Fin.ext (by blk_simp [idx t]; unfold Cert.Loss.at_; dsimp only; omega)
  have h1 : ((cfg0.win 5).blk t).view.emb y 1 = y 1 := Fin.ext (by blk_simp [idx t])
  rw [h0, h1]
  exact (congrArg _ (eq_ix2 y)).trans (out5_point m c t h (y 0) (y 1))

/-- The tiles' gradients of the gain, each spread over eight rows. -/
theorem final6 : (dats m 0 c).arrAt 6 cfg0.N = fun j : Shape.Idx S8x8x1024 =>
    gain (fun x => mH m c (Cert.Loss.at_ (j 0) x)) (fun x => mD m c (Cert.Loss.at_ (j 0) x)) (j 2) := by
  refine (dats m 0 c).arrAt_eq_of_covers 6 _ (by decide +kernel) fun t hf y => ?_
  have h := (flushed t).2 hf
  have := lt32 t
  blk_simp
  rw [after0_6]
  have h0 : ((cfg0.win 6).blk t).view.emb y 0 = at_ t := Fin.ext (by blk_simp [idx t]; show t.val - 24 = t.val % 8; omega)
  have h2 : ((cfg0.win 6).blk t).view.emb y 2 = y 2 := Fin.ext (by blk_simp [idx t])
  rw [h0, h2]
  exact (congrArg _ (eq_ix3 y)).trans (out6_point m c t h (y 0) (y 1) (y 2))

end Kernel

end Cert.Inbwd

end
-- ==== Proof.Inbwd.lean ====
/-
  THE INPUT'S GRADIENT THROUGH THE FIRST NORM. The reference differentiates the same norm as the second norm's reference, so
  its operations are read by the same lemmas; its product runs over the projection's eight segments, whose sums the kernel's
  four steps make. The machine's program and the real-valued one have one text, and one run gives both their frames.
-/
module

public import proofs.«01_k».proof.Defs
public import proofs.«01_k».proof.Proof.NormRef
public import proofs.«01_k».proof.Proof.Norm
public import proofs.«01_k».proof.Proof.InbwdValue
public import proofs.«01_k».proof.Proof.Gen.ReferenceInbwdIdeal.Run
public import proofs.«01_k».proof.Proof.Gen.KernelInbwd.Frame
public import proofs.«01_k».proof.Proof.Gen.KernelInbwd.Skeleton
public import proofs.«01_k».proof.Proof.Gen.Pre_finite_inbwd
public import Idealize.ShloMosaic.Lib.Claim

@[expose] public section

set_option maxRecDepth 16384

noncomputable section

namespace Cert.Inbwd

open Idealize.ShloMosaic Idealize.SL.Sem Cert.Finite
open Cert.Loss (tok)
open Cert.Norm (bk gain cot term bk_coe cot_real line hid gains outH outG outP through root square outH_apply outG_apply outP_apply hid_line gains_line)

section

variable {F : FTy → Type} [FloatOps F]

set_option maxHeartbeats 400000

/-- The two programs are one text. -/
theorem rows : @Cert.KernelInbwd.defs₀ F _ Cert.KernelInbwd.Gen.facts = @Cert.KernelInbwdIdeal.defs₀ F _ Cert.KernelInbwdIdeal.Gen.facts := by
  unfold Cert.KernelInbwd.defs₀ Cert.KernelInbwdIdeal.defs₀
  refine congrArg Defs.onTc ?_
  funext l x
  match l, x with
  | 0, (t, s) => rfl
  | ⟨_ + 1, h⟩, _ => exact absurd h (Nat.not_lt.2 (Nat.le_add_left _ _))
@[inherit_doc rows] theorem table : @Cert.KernelInbwd.defs F _ Cert.KernelInbwd.Gen.facts = @Cert.KernelInbwdIdeal.defs F _ Cert.KernelInbwdIdeal.Gen.facts := by
  unfold Cert.KernelInbwd.defs Cert.KernelInbwdIdeal.defs
  rw [rows]
  rfl
@[inherit_doc rows] theorem body : @Cert.KernelInbwd.main F _ Cert.KernelInbwd.Gen.facts = @Cert.KernelInbwdIdeal.main F _ Cert.KernelInbwdIdeal.Gen.facts := rfl

end

/-- Both programs' frames. -/
theorem frameB : Cert.quiescent_KernelInbwd (hKernelInbwd := Cert.KernelInbwd.Gen.facts) := fun m ρ _ => by
  rw [table, body]
  exact θ_run_and (Cert.KernelInbwdIdeal.Gen.frame_of (F := Bits) m ρ (dats m) (A_eq m) (run_main m ρ))
    ((θ_run _ _ _).mono (fun _ h => h.2) (run_main_quiescent m ρ))
@[inherit_doc frameB] theorem frameI : Cert.quiescent_KernelInbwdIdeal (hKernelInbwdIdeal := Cert.KernelInbwdIdeal.Gen.facts) := fun m ρ _ =>
  θ_run_and (Cert.KernelInbwdIdeal.Gen.frame_of m ρ (dats m) (A_eq m) (run_main m ρ)) ((θ_run _ _ _).mono (fun _ h => h.2) (run_main_quiescent m ρ))

/-- The precondition says that every element of the arguments is a real number. -/
theorem finite [Cert.Pre_finite_inbwd.Facts] {a0 : FVec Ideal _ .f32} {a1 : FVec Ideal _ .f32} {a2 : FVec Ideal _ .f32}
    {a3 : FVec Ideal _ .f32} {a4 : FVec Ideal _ .f32} (h : Cert.Pre_finite_inbwd.fn (F := Ideal) a0 a1 a2 a3 a4 = fun _ => 1#1) :
    Real a0 ∧ Real a1 ∧ Real a2 ∧ Real a3 ∧ Real a4 := by
  obtain ⟨h, h4⟩ := andi_split h
  obtain ⟨h, h3⟩ := andi_split h
  obtain ⟨h, h2⟩ := andi_split h
  obtain ⟨h0, h1⟩ := andi_split h
  exact ⟨real_of_all _ _ _ _ h0, real_of_all _ _ _ _ h1, real_of_all _ _ _ _ h2, real_of_all _ _ _ _ h3, real_of_all _ _ _ _ h4⟩

section

open Cert.ReferenceInbwdIdeal Cert.ReferenceInbwdIdeal.Gen

/-- The cotangent of the normalised, scaled tokens. -/
def back (a4 : FVec Ideal S2x2048x8192 .f32) (a2 : FVec Ideal S1024x8192 .f32) : FVec Ideal S8x512x1024 .f32 :=
  Host.dotGeneral (φ₁ := .f32) (φ₂ := .f32) dot_S8x512x8192_S1024x8192_S8x512x1024_2_1_01_0_n_n none (shapeCast _ a4 shapeCasts_S2x2048x8192_S8x512x8192) a2

theorem back_line (a4 : FVec Ideal S2x2048x8192 .f32) (a2 : FVec Ideal S1024x8192 .f32) (p : Fin 8) (x : Fin 512) :
    line (back a4 a2) p x = cot a4 a2 (Cert.Loss.at_ p x) := by
  funext l
  have q : (⟨(Cert.Loss.at_ p x).val / 2048, by have := (Cert.Loss.at_ p x).isLt; omega⟩ : Fin 2) = ⟨p.val / 4, by omega⟩ := Fin.ext (by unfold Cert.Loss.at_; dsimp only; omega)
  have q' : (⟨(Cert.Loss.at_ p x).val % 2048, by omega⟩ : Fin 2048) = ⟨p.val % 4 * 512 + x.val, by omega⟩ := Fin.ext (by unfold Cert.Loss.at_; dsimp only; omega)
  unfold line back cot term
  rw [q, q']
  pointwise

theorem ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
        = outH (hid (m (c.tc.loc main_arg0))) (gains (m (c.tc.loc main_arg1))) (back (m (c.tc.loc main_arg4)) (m (c.tc.loc main_arg2))) (m (c.tc.loc main_arg3))
      ∧ r.2.mem ((c.tc : Thread nD τ).loc main_v45)
        = outG (hid (m (c.tc.loc main_arg0))) (back (m (c.tc.loc main_arg4)) (m (c.tc.loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  unfold outH outG outP through root square hid gains back
  exact Value.run m ρ

end

theorem algebraic : Cert.algebraic_KernelInbwdIdeal_ReferenceInbwdIdeal_pre_finite_inbwd
    (hKernelInbwdIdeal := Cert.KernelInbwdIdeal.Gen.facts) (hReferenceInbwdIdeal := Cert.ReferenceInbwdIdeal.Gen.facts)
    (hPre_finite_inbwd := Cert.Pre_finite_inbwd.Gen.facts) := by
  intro m g m' g' hpre hagree
  refine ⟨fun c => (fun j => mY m c (j 0) (j 1) + bk (mH m c (j 0)) (mG m c) (mD m c (j 0)) (j 1)),
    fun c => (fun j => gain (fun x => mH m c (Cert.Loss.at_ (j 0) x)) (fun x => mD m c (Cert.Loss.at_ (j 0) x)) (j 2)), ?_, ?_⟩
  · refine (θ_run _ _ _).mono (fun r h c => ?_) (θ_run_and (run_main m g) (Cert.KernelInbwdIdeal.Gen.frame_of m g (dats m) (A_eq m) (run_main m g)))
    exact ⟨((h.1 c).1 5).trans (final5 m c), ((h.1 c).1 6).trans (final6 m c), h.2 c⟩
  · refine (θ_run _ _ _).mono (fun r h c => ?_) (ref m' g')
    obtain ⟨e0, e1, kept⟩ := h c
    obtain ⟨f0, f1, f2, f3, f4⟩ := finite (hpre c)
    obtain ⟨h0, h1, h2, h3, h4⟩ := hagree c
    rw [h0, h1, h2, h3, h4] at e0
    rw [h0, h2, h4] at e1
    have main : ∀ (r : Fin 4096) (l : Fin 1024),
        outH (hid (m (c.tc.loc Cert.KernelInbwdIdeal.main_arg0))) (gains (m (c.tc.loc Cert.KernelInbwdIdeal.main_arg1)))
          (back (m (c.tc.loc Cert.KernelInbwdIdeal.main_arg4)) (m (c.tc.loc Cert.KernelInbwdIdeal.main_arg2)))
          (m (c.tc.loc Cert.KernelInbwdIdeal.main_arg3)) (ix2 r l)
        = mY m c r l + bk (mH m c r) (mG m c) (mD m c r) l := by
      intro r l
      have hr : r = Cert.Loss.at_ ⟨r.val / 512, by omega⟩ ⟨r.val % 512, by omega⟩ := Fin.ext (by unfold Cert.Loss.at_; dsimp only; omega)
      obtain ⟨H, eH⟩ := lift f0
      obtain ⟨G, eG⟩ := lift f1
      obtain ⟨D, eD⟩ := cot_real f4 f2 r
      have eH' : mH m c r = fun l => (H (ix3 ⟨r.val / 2048, by omega⟩ ⟨r.val % 2048, by omega⟩ l) : EReal) := by unfold mH; rw [eH]; rfl
      have eG' : mG m c = fun l => (G (ix1 l) : EReal) := by unfold mG; rw [eG]
      have eD' : mD m c r = fun l => (D l : EReal) := eD
      rw [eH', eG', eD', bk_coe, outH_apply]
      refine congrArg (tok _ r l + ·) (outP_apply _ _ _ _ _ _ _ _ _ ?_ ?_ ?_)
      · rw [hid_line, ← hr]; exact eH'
      · rw [gains_line]; exact eG'
      · rw [back_line, ← hr]; exact eD'
    refine ⟨e0.trans ?_, e1.trans ?_, kept⟩
    · funext j
      idx_vars j
      exact main j0 j1
    · funext j
      idx_vars j
      rw [outG_apply]
      exact congrArg₂ (fun a b => gain a b j2) (funext fun x => hid_line _ j0 x) (funext fun x => back_line _ _ j0 x)

end Cert.Inbwd

end
-- ==== Proof.PoolfValue.lean ====
/-
  THE POOLING: THE KERNEL. `KernelPoolfIdeal` runs over the two sequences and, within a sequence, over the four branches.
  At each grid point it forms the branch's window sums shift by shift, divides by the count, subtracts the input,
  multiplies by the branch's weights and scales. This module reads its result element by element, with the windows and
  branches of the pooling's gradient.
-/
module

public import proofs.«01_k».proof.Proof.PoolValue
public import proofs.«01_k».proof.Proof.Gen.KernelPoolfIdeal.Value

@[expose] public section

set_option maxRecDepth 16384

noncomputable section

namespace Cert.Poolf

open Idealize.ShloMosaic Idealize.ShloMosaic.TcCoe Idealize.SL.Sem
open Idealize.ShloMosaic.Pipeline (Dat)
open Cert.KernelPoolfIdeal Cert.KernelPoolfIdeal.Gen
open Cert.Pool (y win winV countV count term count_eq tower aP aW aS)

/-- A branch's result: its output times its weights, scaled. -/
def out (h : ℕ) (p : Fin 2048 → Fin 256 → EReal) (w : Fin 256 → Fin 256 → EReal) (s : Fin 256 → EReal)
    (t : Fin 2048) (l : Fin 256) : EReal := (∑ k : Fin 256, y h p t k * w k l) * s l

section Args

variable (a0 : FVec Ideal S2x2048x8192 .f32) (a1 : FVec Ideal S4x256x256 .f32) (a2 : FVec Ideal S1024 .f32)

/-- The pooling of all sequences and branches: token `r` of the two sequences laid end to end, channel `q`. -/
def outA (r : Fin 4096) (q : Fin 1024) : EReal :=
  out (2 ^ (q.val / 256)) (aP a0 ⟨r.val / 2048, by omega⟩ ⟨q.val / 256, by omega⟩) (aW a1 ⟨q.val / 256, by omega⟩)
    (aS a2 ⟨q.val / 256, by omega⟩) ⟨r.val % 2048, by omega⟩ ⟨q.val % 256, by omega⟩

theorem outA_at (b : Fin 2) (g : Fin 4) (t : Fin 2048) (l : Fin 256) (r : Fin 4096) (q : Fin 1024)
    (hr : r.val = b.val * 2048 + t.val) (hq : q.val = g.val * 256 + l.val) :
    outA a0 a1 a2 r q = out (2 ^ g.val) (aP a0 b g) (aW a1 g) (aS a2 g) t l := by
  have eg : (⟨q.val / 256, by omega⟩ : Fin 4) = g := Fin.ext (by dsimp only; omega)
  have eb : (⟨r.val / 2048, by omega⟩ : Fin 2) = b := Fin.ext (by dsimp only; omega)
  have et : (⟨r.val % 2048, by omega⟩ : Fin 2048) = t := Fin.ext (by dsimp only; omega)
  have el : (⟨q.val % 256, by omega⟩ : Fin 256) = l := Fin.ext (by dsimp only; omega)
  have en : q.val / 256 = g.val := by omega
  simp only [outA, eg, eb, et, el, en]

end Args

variable (m : (ℓ : Loc nD τ sig) → Buf (Elt Ideal) ℓ) (c : Dev nD)

/-- The branch's arrays at a grid point, off the point's blocks: the input, the weights and the scale. -/
def bp (t : Fin cfg0.N) (u : Fin 2048) (k : Fin 256) : EReal := iblk m c 0 t (ix3 0 u k)

@[inherit_doc bp] def bw (t : Fin cfg0.N) (k l : Fin 256) : EReal :=
  iblk m c 1 t (ix4 ⟨k.val / 64, by omega⟩ 0 ⟨k.val % 64, by omega⟩ l)

@[inherit_doc bp] def bs (t : Fin cfg0.N) (l : Fin 256) : EReal := iblk m c 2 t (ix2 0 l)

/-- What each point writes. -/
theorem outs (t : Fin cfg0.N) (r : Fin 2048) (l : Fin 256) :
    outsAt0 m c t.val t.isLt (ix2 r l) = out (2 ^ (t.val % 4)) (bp m c t) (bw m c t) (bs m c t) r l := by
  rcases (by omega : t.val % 4 = 0 ∨ t.val % 4 = 1 ∨ t.val % 4 = 2 ∨ t.val % 4 = 3) with ht | ht | ht | ht
  all_goals
    first
      | rw [outsAt0_A m c t (by omega) (by omega) (by omega) (by omega)]
      | rw [outsAt0_B m c t (by omega) (by omega) (by omega) (by omega)]
      | rw [outsAt0_C m c t (by omega) (by omega) (by omega) (by omega)]
      | rw [outsAt0_D m c t (by omega) (by omega) (by omega) (by omega)]
    frame_out
    all_goals simp only [k0_pay1, k0_pay2, k0_pay3, k0_pay4, k0_pay5, k0_pay6, k0_pay7, k0_pay8, k0_pay9, k0_pay10,
        k0_pay11, k0_pay12, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32,
        k0_pay33, k0_pay34, k0_pay35, k0_pay36, k0_pay37, k0_pay38]
    simp only [term 4294967289#32 7#32 _ (by decide) (by decide),
        term 4294967290#32 6#32 _ (by decide) (by decide), term 4294967291#32 5#32 _ (by decide) (by decide),
        term 4294967292#32 4#32 _ (by decide) (by decide), term 4294967293#32 3#32 _ (by decide) (by decide),
        term 4294967294#32 2#32 _ (by decide) (by decide), term 4294967295#32 1#32 _ (by decide) (by decide),
        term 1#32 2047#32 _ (by decide) (by decide), term 2#32 2046#32 _ (by decide) (by decide),
        term 3#32 2045#32 _ (by decide) (by decide), term 4#32 2044#32 _ (by decide) (by decide),
        term 5#32 2043#32 _ (by decide) (by decide), term 6#32 2042#32 _ (by decide) (by decide),
        term 7#32 2041#32 _ (by decide) (by decide), term 8#32 2040#32 _ (by decide) (by decide),
        count_eq 1#32 (by decide) (by decide), count_eq 2#32 (by decide) (by decide), count_eq 4#32 (by decide) (by decide), count_eq 8#32 (by decide) (by decide)]
    simp only [BitVec.reduceToInt, Int.reduceToNat]
    simp only [↓ tower]
    pointwise [winV, countV, out, y, bp, bw, bs]
    simp only [ht, Nat.reducePow]

theorem idx : ∀ t : Fin cfg0.N, win0_0.index t = ![5, t.val / 4, t.val % 4] ∧ win0_1.index t = ![0, t.val % 4, 0, 0]
    ∧ win0_2.index t = ![0, t.val % 4] ∧ win0_3.index t = ![t.val / 4, t.val % 4] :=
  (by decide +kernel : ∀ t : Fin grid0.N, _)

section Blocks

variable (t : Fin cfg0.N) (b : Fin 2) (g : Fin 4) (hb : t.val / 4 = b.val) (hg : t.val % 4 = g.val)
include hb hg

/-- The blocks of a grid point, over the arguments. -/
theorem bp_eq : bp m c t = aP (m ((c : Thread nD τ).loc main_arg0)) b g := by
  funext u k
  have e : ((cfg0.win 0).blk t).view.emb (ix3 0 u k) = ix3 5 ⟨b.val * 2048 + u.val, by omega⟩ ⟨g.val * 256 + k.val, by omega⟩ := by
    blk_ext! [idx t]
  unfold bp iblk V
  rw [View.read_apply, e]
  entry_read
  pointwise [aP]
  exact congrArg (m ((c : Thread nD τ).loc main_arg0)) (by congr 1 <;> exact Fin.ext (by dsimp only; omega))

@[inherit_doc bp_eq] theorem bw_eq : bw m c t = aW (m ((c : Thread nD τ).loc main_arg1)) g := by
  funext k l
  have e : ((cfg0.win 1).blk t).view.emb (ix4 ⟨k.val / 64, by omega⟩ 0 ⟨k.val % 64, by omega⟩ l)
      = ix4 ⟨k.val / 64, by omega⟩ g ⟨k.val % 64, by omega⟩ l := by
    blk_ext! [idx t]
  unfold bw iblk V
  rw [View.read_apply, e]
  entry_read
  pointwise [aW]
  exact congrArg (m ((c : Thread nD τ).loc main_arg1)) (by congr 1; exact Fin.ext (by dsimp only; omega))

@[inherit_doc bp_eq] theorem bs_eq : bs m c t = aS (m ((c : Thread nD τ).loc main_arg2)) g := by
  funext l
  have e : ((cfg0.win 2).blk t).view.emb (ix2 0 l) = ix2 0 ⟨g.val * 256 + l.val, by omega⟩ := by
    blk_ext! [idx t]
  unfold bs iblk V
  rw [View.read_apply, e]
  entry_read
  pointwise [aS]
  rfl

end Blocks

/-- The result array. -/
theorem final : (dats m 0 c).arrAt 3 cfg0.N = fun j : Shape.Idx S4096x1024 =>
    outA (m ((c : Thread nD τ).loc main_arg0)) (m ((c : Thread nD τ).loc main_arg1)) (m ((c : Thread nD τ).loc main_arg2)) (j 0) (j 1) := by
  refine (dats m 0 c).arrAt_eq_of_covers 3 _ (by decide +kernel) fun t _ y => ?_
  obtain ⟨y0, y1, rfl⟩ : ∃ r l, y = ix2 r l := ⟨y 0, y 1, eq_ix2 y⟩
  have hN : t.val < 8 := t.isLt
  have hb : t.val / 4 < 2 := by omega
  have hg : t.val % 4 < 4 := Nat.mod_lt _ (by decide)
  have e : ((cfg0.win 3).blk t).view.emb (ix2 y0 y1) = ix2 ⟨t.val / 4 * 2048 + (y0 : Fin 2048).val, by omega⟩ ⟨t.val % 4 * 256 + (y1 : Fin 256).val, by omega⟩ := by
    blk_ext! [idx t]
  have h0 : ((cfg0.win 3).blk t).view.emb (ix2 y0 y1) 0 = (⟨t.val / 4 * 2048 + (y0 : Fin 2048).val, by omega⟩ : Fin 4096) := congrFun e 0
  have h1 : ((cfg0.win 3).blk t).view.emb (ix2 y0 y1) 1 = (⟨t.val % 4 * 256 + (y1 : Fin 256).val, by omega⟩ : Fin 1024) := congrFun e 1
  rw [after0_3, h0, h1, outA_at _ _ _ ⟨t.val / 4, hb⟩ ⟨t.val % 4, hg⟩ y0 y1 _ _ rfl rfl, ← bp_eq m c t ⟨t.val / 4, hb⟩ ⟨t.val % 4, hg⟩ rfl rfl,
    ← bw_eq m c t ⟨t.val / 4, hb⟩ ⟨t.val % 4, hg⟩ rfl rfl, ← bs_eq m c t ⟨t.val / 4, hb⟩ ⟨t.val % 4, hg⟩ rfl rfl]
  exact outs m c t y0 y1

end Cert.Poolf

end
-- ==== Proof.Poolf.lean ====
/-
  THE POOLING: THE TWO PROGRAMS AGREE. The reference reads each window's sum off a running sum; over real numbers that is
  the sum over the window, which the kernel forms.
-/
module

public import proofs.«01_k».proof.Proof.Pool
public import proofs.«01_k».proof.Proof.PoolfValue
public import proofs.«01_k».proof.Proof.Gen.ReferencePoolfIdeal.Run
public import proofs.«01_k».proof.Proof.Gen.Pre_finite_poolf

@[expose] public section

set_option maxRecDepth 16384

noncomputable section

namespace Cert.Poolf

open Idealize.ShloMosaic Idealize.ShloMosaic.TcCoe Idealize.SL.Sem
open Cert.Finite hiding S_
open Cert.Pool (fore upto running seg size ends high low tok wid all nil0 fore_eq aP aW aS y)

/-- The precondition says that every element of the arguments is a real number. -/
theorem finite [Cert.Pre_finite_poolf.Facts] {a0 a1 a2 : FVec Ideal _ .f32}
    (h : Cert.Pre_finite_poolf.fn (F := Ideal) a0 a1 a2 = fun _ => 1#1) : Real a0 ∧ Real a1 ∧ Real a2 := by
  obtain ⟨h, h2⟩ := andi_split h
  obtain ⟨h0, h1⟩ := andi_split h
  exact ⟨real_of_all _ _ _ _ h0, real_of_all _ _ _ _ h1, real_of_all _ _ _ _ h2⟩

section Reference

open Cert.ReferencePoolfIdeal Cert.ReferencePoolfIdeal.Gen

variable (m : (ℓ : Loc nD τ sig) → Buf (Elt Ideal) ℓ) (c : Dev nD)

theorem v68 : Cert.ReferencePoolfIdeal.Value.res_main_v68 (F := Ideal) m c = truncf .bf16 (shapeCast S4096x1024
    (mulf (shapeCast S2x2048x1024 (transpose S2x2048x4x256 [2, 3, 0, 1]
      (Host.dotGeneral dot_S4x256x256_S2x2048x4x256_S4x256x2x2048_1_3_2_01_0_2 none (φ₁ := .f32) (φ₂ := .f32) (m ((c.tc : Thread nD τ).loc main_arg1))
        (fore (seg (m ((c.tc : Thread nD τ).loc main_arg0)))))
      transposes_S4x256x2x2048_S2x2048x4x256_2_3_0_1) shapeCasts_S2x2048x4x256_S2x2048x1024)
      (broadcastInDim S2x2048x1024 ![0, 1, 2] bcast_S1x1x1024_S2x2048x1024_0_1_2
        (broadcastInDim S1x1x1024 ![2] bcast_S1024_S1x1x1024_2 (m ((c.tc : Thread nD τ).loc main_arg2)))))
    shapeCasts_S2x2048x1024_S4096x1024) bitsLt_bf16_f32 := by
  unfold Value.res_main_v68 fore upto running seg size ends high low tok wid all nil0
  rfl

/-- The reference's result is the pooling. -/
theorem ref (h0 : Real (m (c.tc.loc main_arg0) : FVec Ideal S2x2048x8192 .f32)) : Value.res_main_v68 m c = fun j : S4096x1024.Idx =>
    outA (m (c.tc.loc main_arg0)) (m (c.tc.loc main_arg1)) (m (c.tc.loc main_arg2)) (j 0) (j 1) := by
  rw [v68]
  funext j
  idx_vars j
  pointwise [outA, out, aW, aS]
  refine congrArg₂ (· * ·) (Finset.sum_congr rfl fun k _ => ?_) ?_
  · rw [fore_eq _ _ _ _ _ h0, mul_comm]
  · exact congrArg (m (c.tc.loc main_arg2)) (congrArg ix1 (Fin.ext (by dsimp only; omega)))

end Reference

theorem algebraic : Cert.algebraic_KernelPoolfIdeal_ReferencePoolfIdeal_pre_finite_poolf
    (hKernelPoolfIdeal := Cert.KernelPoolfIdeal.Gen.facts) (hReferencePoolfIdeal := Cert.ReferencePoolfIdeal.Gen.facts)
    (hPre_finite_poolf := Cert.Pre_finite_poolf.Gen.facts) := by
  intro m g m' g' hpre hagree
  refine ⟨fun c => fun j => outA (m (c.tc.loc Cert.KernelPoolfIdeal.main_arg0)) (m (c.tc.loc Cert.KernelPoolfIdeal.main_arg1))
      (m (c.tc.loc Cert.KernelPoolfIdeal.main_arg2)) (j 0) (j 1), ?_, ?_⟩
  · refine (θ_run _ _ _).mono (fun r h c => ?_) (Cert.KernelPoolfIdeal.Value.run_blocks m g)
    exact ⟨(h c).1.trans (final m c), (h c).2⟩
  · refine (θ_run _ _ _).mono (fun r h c => ?_) (Cert.ReferencePoolfIdeal.Value.run m' g')
    obtain ⟨e0, kept⟩ := h c
    obtain ⟨h0, h1, h2⟩ := hagree c
    have hr := ref m' c (h0.symm ▸ (finite (hpre c)).1)
    rw [h0, h1, h2] at hr
    exact ⟨e0.trans hr, kept⟩

end Cert.Poolf

end
-- ==== Proof.MergeValue.lean ====
/-
  THE MERGE. `KernelMergeIdeal` closes the mixers' forward pass: per tile of 512 tokens it forms the two branches' products
  `z_a = y_a · w_a` and `z_b = y_b · w_b`, stores both for the backward pass, and adds them weighted by their gates'
  logistic functions. The reference is the same three lines over the whole batch, so the claim needs no precondition.
-/
module

public import proofs.«01_k».proof.Proof.GatesValue
public import proofs.«01_k».proof.Proof.Gen.KernelMergeIdeal.Value

@[expose] public section

set_option maxRecDepth 16384

noncomputable section

namespace Cert.Merge

open Idealize.ShloMosaic Idealize.ShloMosaic.TcCoe Idealize.SL.Sem
open Idealize.ShloMosaic.Pipeline (Dat)
open Cert.Gates (mul sg gate)
open Cert.KernelMergeIdeal Cert.KernelMergeIdeal.Gen

/-- A branch's output at token `r`, channel `l`. -/
def z (y : FVec Ideal S2x2048x1024 .f32) (w : FVec Ideal S1024x1024 .f32) (r : Fin 4096) (l : Fin 1024) : EReal :=
  mul y (fun k => w (ix2 k l)) r

/-- The gated sum of the branches' outputs. -/
def merged (ya yb : FVec Ideal S2x2048x1024 .f32) (g : FVec Ideal S2x2048x8192 .f32) (wa wb : FVec Ideal S1024x1024 .f32)
    (r : Fin 4096) (l : Fin 1024) : EReal :=
  gate g 0 r l * z ya wa r l + gate g 1 r l * z yb wb r l

variable (m : (ℓ : Loc nD τ sig) → Buf (Elt Ideal) ℓ)

theorem idx : ∀ t : Fin cfg0.N, win0_0.index t = ![t.val, 0] ∧ win0_1.index t = ![t.val, 0]
    ∧ win0_2.index t = ![6, t.val, 0] ∧ win0_3.index t = ![7, t.val, 0] ∧ win0_4.index t = ![0, 0]
    ∧ win0_5.index t = ![0, 0] ∧ win0_6.index t = ![t.val, 0] ∧ win0_7.index t = ![t.val, 0] ∧ win0_8.index t = ![t.val, 0] :=
  (by decide +kernel : ∀ t : Fin grid0.N, _)

variable (c : Dev nD) (t : Fin cfg0.N)

/-- Token `x` of point `t`'s tile. -/
def at_ (x : Fin 512) : Fin 4096 := ⟨t.val * 512 + x.val, by have := t.isLt; have : cfg0.N = 8 := rfl; omega⟩

/-- The arguments, as the results read them: the branches' outputs and the merged row. -/
def mA : Fin 4096 → Fin 1024 → EReal := z (m ((c : Thread nD τ).loc main_arg0)) (m ((c : Thread nD τ).loc main_arg3))
@[inherit_doc mA] def mB : Fin 4096 → Fin 1024 → EReal := z (m ((c : Thread nD τ).loc main_arg1)) (m ((c : Thread nD τ).loc main_arg4))
@[inherit_doc mA] def mM : Fin 4096 → Fin 1024 → EReal :=
  merged (m ((c : Thread nD τ).loc main_arg0)) (m ((c : Thread nD τ).loc main_arg1)) (m ((c : Thread nD τ).loc main_arg2))
    (m ((c : Thread nD τ).loc main_arg3)) (m ((c : Thread nD τ).loc main_arg4))

/-- The tiles at a point, over the arguments. -/
theorem blk0 (x : Fin 512) (k : Fin 1024) (r : Fin 4096) (hr : r.val = t.val * 512 + x.val) : iblk m c 0 t (ix2 x k)
    = m ((c : Thread nD τ).loc main_arg0) (ix3 ⟨r.val / 2048, by omega⟩ ⟨r.val % 2048, by omega⟩ k) := by
  blk_point [iblk, V, idx t]

@[inherit_doc blk0] theorem blk1 (x : Fin 512) (k : Fin 1024) (r : Fin 4096) (hr : r.val = t.val * 512 + x.val) : iblk m c 1 t (ix2 x k)
    = m ((c : Thread nD τ).loc main_arg1) (ix3 ⟨r.val / 2048, by omega⟩ ⟨r.val % 2048, by omega⟩ k) := by
  blk_point [iblk, V, idx t]

@[inherit_doc blk0] theorem blk2 (x : Fin 512) (l : Fin 1024) (r : Fin 4096) (hr : r.val = t.val * 512 + x.val) : iblk m c 2 t (ix3 0 x l)
    = m ((c : Thread nD τ).loc main_arg2) (ix3 ⟨r.val / 2048, by omega⟩ ⟨r.val % 2048, by omega⟩ ⟨6144 + l.val, by omega⟩) := by
  blk_point [iblk, V, idx t]

@[inherit_doc blk0] theorem blk3 (x : Fin 512) (l : Fin 1024) (r : Fin 4096) (hr : r.val = t.val * 512 + x.val) : iblk m c 3 t (ix3 0 x l)
    = m ((c : Thread nD τ).loc main_arg2) (ix3 ⟨r.val / 2048, by omega⟩ ⟨r.val % 2048, by omega⟩ ⟨7168 + l.val, by omega⟩) := by
  blk_point [iblk, V, idx t]

@[inherit_doc blk0] theorem blk4 (k l : Fin 1024) : iblk m c 4 t (ix2 k l) = m ((c : Thread nD τ).loc main_arg3) (ix2 k l) := by
  blk_point [iblk, V, idx t]

@[inherit_doc blk0] theorem blk5 (k l : Fin 1024) : iblk m c 5 t (ix2 k l) = m ((c : Thread nD τ).loc main_arg4) (ix2 k l) := by
  blk_point [iblk, V, idx t]

/-- The branches' tiles at a point. -/
theorem tileA (x : Fin 512) (l : Fin 1024) : k0_pay2 (F := Ideal) (View.ld (iblk m c 0 t) r0_0) (View.ld (iblk m c 4 t) r0_1) (ix2 x l)
    = mA m c (at_ t x) l := by
  pointwise [k0_pay2]
  simp only [blk0 m c t x _ (at_ t x) rfl, blk4]
  rfl

@[inherit_doc tileA] theorem tileB (x : Fin 512) (l : Fin 1024) : k0_pay3 (F := Ideal) (View.ld (iblk m c 1 t) r0_0) (View.ld (iblk m c 5 t) r0_1) (ix2 x l)
    = mB m c (at_ t x) l := by
  pointwise [k0_pay3]
  simp only [blk1 m c t x _ (at_ t x) rfl, blk5]
  rfl

/-- The merged tile at a point. -/
theorem tileM (x : Fin 512) (l : Fin 1024) :
    k0_pay1 (F := Ideal) (k0_pay3 (View.ld (iblk m c 1 t) r0_0) (View.ld (iblk m c 5 t) r0_1))
      (k0_pay6 (View.ld (iblk m c 0 t) r0_0) (View.ld (iblk m c 4 t) r0_1) (View.ld (iblk m c 2 t) r0_2)) (k0_pay7 (View.ld (iblk m c 3 t) r0_2))
      (Scalar.ofBits .f32 0x3F800000#32) (ix2 x l) = mM m c (at_ t x) l := by
  pointwise [k0_pay1, k0_pay6, k0_pay7, tileA, tileB]
  simp only [blk2 m c t x l (at_ t x) rfl, blk3 m c t x l (at_ t x) rfl]
  rfl

/-- The first branch's output after the run. -/
theorem final6 : (dats m 0 c).arrAt 6 cfg0.N = fun j : Shape.Idx S4096x1024 => mA m c (j 0) (j 1) := by
  refine (dats m 0 c).arrAt_eq_of_covers 6 _ (by decide +kernel) fun t _ y => ?_
  blk_simp
  rw [after0_6]
  unfold Cert.KernelMergeIdeal.Gen.out0_6
  refine View.canon_apply_of_pieces (Val := Elt Ideal) (S := S512x1024) (e := .bf16) (fun y => mA m c (((cfg0.win 6).blk t).view.emb y 0)
    (((cfg0.win 6).blk t).view.emb y 1)) _ ?_ y (cover0_6 _ y)
  intro pc hpc
  rcases List.mem_cons.mp hpc with rfl | hpc
  · intro x
    dsimp only
    have h0 : ((cfg0.win 6).blk t).view.emb (r0_0.emb x) 0 = at_ t (x 0) := Fin.ext (by blk_simp [idx t]; rfl)
    have h1 : ((cfg0.win 6).blk t).view.emb (r0_0.emb x) 1 = x 1 := Fin.ext (by blk_simp [idx t])
    rw [h0, h1]
    exact (congrArg _ (eq_ix2 x)).trans (tileA m c t (x 0) (x 1))
  nomatch hpc

/-- The second branch's output after the run. -/
theorem final7 : (dats m 0 c).arrAt 7 cfg0.N = fun j : Shape.Idx S4096x1024 => mB m c (j 0) (j 1) := by
  refine (dats m 0 c).arrAt_eq_of_covers 7 _ (by decide +kernel) fun t _ y => ?_
  blk_simp
  rw [after0_7]
  unfold Cert.KernelMergeIdeal.Gen.out0_7
  refine View.canon_apply_of_pieces (Val := Elt Ideal) (S := S512x1024) (e := .bf16) (fun y => mB m c (((cfg0.win 7).blk t).view.emb y 0)
    (((cfg0.win 7).blk t).view.emb y 1)) _ ?_ y (cover0_7 _ y)
  intro pc hpc
  rcases List.mem_cons.mp hpc with rfl | hpc
  · intro x
    dsimp only
    have h0 : ((cfg0.win 7).blk t).view.emb (r0_0.emb x) 0 = at_ t (x 0) := Fin.ext (by blk_simp [idx t]; rfl)
    have h1 : ((cfg0.win 7).blk t).view.emb (r0_0.emb x) 1 = x 1 := Fin.ext (by blk_simp [idx t])
    rw [h0, h1]
    exact (congrArg _ (eq_ix2 x)).trans (tileB m c t (x 0) (x 1))
  nomatch hpc

/-- The gated sum after the run. -/
theorem final8 : (dats m 0 c).arrAt 8 cfg0.N = fun j : Shape.Idx S4096x1024 => mM m c (j 0) (j 1) := by
  refine (dats m 0 c).arrAt_eq_of_covers 8 _ (by decide +kernel) fun t _ y => ?_
  blk_simp
  rw [after0_8]
  unfold Cert.KernelMergeIdeal.Gen.out0_8
  refine View.canon_apply_of_pieces (Val := Elt Ideal) (S := S512x1024) (e := .bf16) (fun y => mM m c (((cfg0.win 8).blk t).view.emb y 0)
    (((cfg0.win 8).blk t).view.emb y 1)) _ ?_ y (cover0_8 _ y)
  intro pc hpc
  rcases List.mem_cons.mp hpc with rfl | hpc
  · intro x
    dsimp only
    have h0 : ((cfg0.win 8).blk t).view.emb (r0_0.emb x) 0 = at_ t (x 0) := Fin.ext (by blk_simp [idx t]; rfl)
    have h1 : ((cfg0.win 8).blk t).view.emb (r0_0.emb x) 1 = x 1 := Fin.ext (by blk_simp [idx t])
    rw [h0, h1]
    exact (congrArg _ (eq_ix2 x)).trans (tileM m c t (x 0) (x 1))
  nomatch hpc

end Cert.Merge

end
-- ==== Proof.Merge.lean ====
/-
  THE MERGE: THE CLAIM. The reference's lines, read element by element, are the kernel's results.
-/
module

public import proofs.«01_k».proof.Defs
public import proofs.«01_k».proof.Proof.MergeValue
public import proofs.«01_k».proof.Proof.Gen.ReferenceMergeIdeal.Run

@[expose] public section

set_option maxRecDepth 16384

noncomputable section

namespace Cert.Merge

open Idealize.ShloMosaic Idealize.SL.Sem
open Cert.Gates (mul sg gate)

theorem algebraic : Cert.algebraic_KernelMergeIdeal_ReferenceMergeIdeal
    (hKernelMergeIdeal := Cert.KernelMergeIdeal.Gen.facts) (hReferenceMergeIdeal := Cert.ReferenceMergeIdeal.Gen.facts) := by
  intro m g m' g' _ hagree
  refine ⟨fun c => (fun j => mA m c (j 0) (j 1)), fun c => (fun j => mB m c (j 0) (j 1)), fun c => (fun j => mM m c (j 0) (j 1)), ?_, ?_⟩
  · refine (θ_run _ _ _).mono (fun r h c => ?_) (Cert.KernelMergeIdeal.Value.run_blocks m g)
    obtain ⟨e6, e7, e8, kept⟩ := h c
    exact ⟨e6.trans (final6 m c), e7.trans (final7 m c), e8.trans (final8 m c), kept⟩
  · refine (θ_run _ _ _).mono (fun r h c => ?_) (Cert.ReferenceMergeIdeal.Value.run m' g')
    obtain ⟨e0, e1, e2, kept⟩ := h c
    obtain ⟨h0, h1, h2, h3, h4⟩ := hagree c
    rw [h0, h3] at e0
    rw [h1, h4] at e1
    rw [h0, h1, h2, h3, h4] at e2
    refine ⟨e0.trans ?_, e1.trans ?_, e2.trans ?_, kept⟩
    · funext j
      idx_vars j
      pointwise [mA, z, mul]
    · funext j
      idx_vars j
      pointwise [mB, z, mul]
    · funext j
      idx_vars j
      pointwise [mM, merged, z, gate, sg, mul]
      simp only [zero_sub]

end Cert.Merge

end
-- ==== Proof.AttnValue.lean ====
/-
  THE RESIDUAL AND ITS NORM. `KernelAttnIdeal` adds the mixers' projected output to the residual and normalises the sum:
  per tile of 512 tokens `h = x + merged · w_out` and `u = h · r · g`, `r` being the reciprocal root mean square of `h`.
  The reference is the same two lines over the whole batch, so the claim needs no precondition.
-/
module

public import proofs.«01_k».proof.Proof.LossValue
public import proofs.«01_k».proof.Proof.Gen.KernelAttnIdeal.Value

@[expose] public section

set_option maxRecDepth 16384

noncomputable section

namespace Cert.Attn

open Idealize.ShloMosaic Idealize.ShloMosaic.TcCoe Idealize.SL.Sem
open Idealize.ShloMosaic.Pipeline (Dat)
open Cert.Loss (inv tok)
open Cert.KernelAttnIdeal Cert.KernelAttnIdeal.Gen

/-- A token's residual. -/
def res (x y : FVec Ideal S2x2048x1024 .f32) (w : FVec Ideal S1024x1024 .f32) (r : Fin 4096) (l : Fin 1024) : EReal :=
  tok x r l + ∑ k : Fin 1024, tok y r k * w (ix2 k l)

/-- A row, normalised and scaled. -/
def norm (h g : Fin 1024 → EReal) (l : Fin 1024) : EReal := h l * inv h * g l

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

variable (c : Dev nD) (t : Fin cfg0.N)

/-- Token `x` of point `t`'s tile. -/
def at_ (x : Fin 512) : Fin 4096 := ⟨t.val * 512 + x.val, by have := t.isLt; have : cfg0.N = 8 := rfl; omega⟩

/-- The arguments, as the results read them: the residual and the gain. -/
def mH : Fin 4096 → Fin 1024 → EReal :=
  res (m ((c : Thread nD τ).loc main_arg0)) (m ((c : Thread nD τ).loc main_arg1)) (m ((c : Thread nD τ).loc main_arg2))
@[inherit_doc mH] def mG : Fin 1024 → EReal := fun l => m ((c : Thread nD τ).loc main_arg3) (ix1 l)

/-- The tiles at a point, over the arguments. -/
theorem blk0 (x : Fin 512) (k : Fin 1024) : iblk m c 0 t (ix2 x k) = tok (m ((c : Thread nD τ).loc main_arg1)) (at_ t x) k := by
  have hr : (at_ t x).val = t.val * 512 + x.val := rfl
  generalize at_ t x = r at hr
  unfold tok
  blk_point [iblk, V, idx t]

@[inherit_doc blk0] theorem blk1 (k l : Fin 1024) : iblk m c 1 t (ix2 k l) = m ((c : Thread nD τ).loc main_arg2) (ix2 k l) := by
  blk_point [iblk, V, idx t]

@[inherit_doc blk0] theorem blk2 (x : Fin 512) (l : Fin 1024) : iblk m c 2 t (ix2 x l) = tok (m ((c : Thread nD τ).loc main_arg0)) (at_ t x) l := by
  have hr : (at_ t x).val = t.val * 512 + x.val := rfl
  generalize at_ t x = r at hr
  unfold tok
  blk_point [iblk, V, idx t]

@[inherit_doc blk0] theorem blk3 (l : Fin 1024) : iblk m c 3 t (ix2 0 l) = mG m c l := by
  unfold mG
  blk_point [iblk, V, idx t]

/-- The residual's tile at a point. -/
theorem tile (x : Fin 512) (l : Fin 1024) :
    k0_pay1 (F := Ideal) (View.ld (iblk m c 0 t) r0_0) (View.ld (iblk m c 1 t) r0_1) (View.ld (iblk m c 2 t) r0_0) (ix2 x l)
      = mH m c (at_ t x) l := by
  pointwise [k0_pay1]
  simp only [blk0, blk1, blk2]
  rfl

/-- Its norm's. -/
theorem unit (x : Fin 512) (l : Fin 1024) :
    k0_pay2 (F := Ideal) (View.ld (iblk m c 0 t) r0_0) (View.ld (iblk m c 1 t) r0_1) (View.ld (iblk m c 2 t) r0_0) (View.ld (iblk m c 3 t) r0_2)
      (ix2 x l) = norm (mH m c (at_ t x)) (mG m c) l := by
  pointwise [k0_pay2, tile]
  simp only [blk3]
  rfl

/-- The residual after the run. -/
theorem final4 : (dats m 0 c).arrAt 4 cfg0.N = fun j : Shape.Idx S4096x1024 => mH m c (j 0) (j 1) := by
  refine (dats m 0 c).arrAt_eq_of_covers 4 _ (by decide +kernel) fun t _ y => ?_
  blk_simp
  rw [after0_4]
  unfold Cert.KernelAttnIdeal.Gen.out0_4
  refine View.canon_apply_of_pieces (Val := Elt Ideal) (S := S512x1024) (e := .f32) (fun y => mH m c (((cfg0.win 4).blk t).view.emb y 0)
    (((cfg0.win 4).blk t).view.emb y 1)) _ ?_ y (cover0_4 _ y)
  intro pc hpc
  rcases List.mem_cons.mp hpc with rfl | hpc
  · intro x
    dsimp only
    have h0 : ((cfg0.win 4).blk t).view.emb (r0_0.emb x) 0 = at_ t (x 0) := Fin.ext (by blk_simp [idx t]; rfl)
    have h1 : ((cfg0.win 4).blk t).view.emb (r0_0.emb x) 1 = x 1 := Fin.ext (by blk_simp [idx t])
    rw [h0, h1]
    exact (congrArg _ (eq_ix2 x)).trans (tile m c t (x 0) (x 1))
  nomatch hpc

/-- Its norm after the run. -/
theorem final5 : (dats m 0 c).arrAt 5 cfg0.N = fun j : Shape.Idx S4096x1024 => norm (mH m c (j 0)) (mG m c) (j 1) := by
  refine (dats m 0 c).arrAt_eq_of_covers 5 _ (by decide +kernel) fun t _ y => ?_
  blk_simp
  rw [after0_5]
  unfold Cert.KernelAttnIdeal.Gen.out0_5
  refine View.canon_apply_of_pieces (Val := Elt Ideal) (S := S512x1024) (e := .bf16) (fun y => norm (mH m c (((cfg0.win 5).blk t).view.emb y 0))
    (mG m c) (((cfg0.win 5).blk t).view.emb y 1)) _ ?_ y (cover0_5 _ y)
  intro pc hpc
  rcases List.mem_cons.mp hpc with rfl | hpc
  · intro x
    dsimp only
    have h0 : ((cfg0.win 5).blk t).view.emb (r0_0.emb x) 0 = at_ t (x 0) := Fin.ext (by blk_simp [idx t]; rfl)
    have h1 : ((cfg0.win 5).blk t).view.emb (r0_0.emb x) 1 = x 1 := Fin.ext (by blk_simp [idx t])
    rw [h0, h1]
    exact (congrArg _ (eq_ix2 x)).trans (unit m c t (x 0) (x 1))
  nomatch hpc

end Cert.Attn

end
-- ==== Proof.Attn.lean ====
/-
  THE RESIDUAL AND ITS NORM: THE CLAIM. The reference's lines, read element by element, are the kernel's results.
-/
module

public import proofs.«01_k».proof.Defs
public import proofs.«01_k».proof.Proof.AttnValue
public import proofs.«01_k».proof.Proof.Gen.ReferenceAttnIdeal.Run

@[expose] public section

set_option maxRecDepth 16384

noncomputable section

namespace Cert.Attn

open Idealize.ShloMosaic Idealize.SL.Sem
open Cert.Loss (inv tok)
open Cert.ReferenceAttnIdeal Cert.ReferenceAttnIdeal.Gen

/-- The reference's residual. -/
def hid (a0 a1 : FVec Ideal S2x2048x1024 .f32) (a2 : FVec Ideal S1024x1024 .f32) : FVec Ideal S2x2048x1024 .f32 :=
  addf a0 (Host.dotGeneral (φ₁ := .f32) (φ₂ := .f32) dot_S2x2048x1024_S1024x1024_S2x2048x1024_2_0_01_1_n_n none a1 a2)

theorem hid_apply (a0 a1 : FVec Ideal S2x2048x1024 .f32) (a2 : FVec Ideal S1024x1024 .f32) (r : Fin 4096) (l : Fin 1024) :
    hid a0 a1 a2 (ix3 ⟨r.val / 2048, by omega⟩ ⟨r.val % 2048, by omega⟩ l) = res a0 a1 a2 r l := by
  unfold hid
  pointwise
  rfl

theorem algebraic : Cert.algebraic_KernelAttnIdeal_ReferenceAttnIdeal
    (hKernelAttnIdeal := Cert.KernelAttnIdeal.Gen.facts) (hReferenceAttnIdeal := Cert.ReferenceAttnIdeal.Gen.facts) := by
  intro m g m' g' _ hagree
  refine ⟨fun c => (fun j => mH m c (j 0) (j 1)), fun c => (fun j => norm (mH m c (j 0)) (mG m c) (j 1)), ?_, ?_⟩
  · refine (θ_run _ _ _).mono (fun r h c => ?_) (Cert.KernelAttnIdeal.Value.run_blocks m g)
    obtain ⟨e4, e5, kept⟩ := h c
    exact ⟨e4.trans (final4 m c), e5.trans (final5 m c), kept⟩
  · refine (θ_run _ _ _).mono (fun r h c => ?_) (Cert.ReferenceAttnIdeal.Value.run m' g')
    obtain ⟨e0, e1, kept⟩ := h c
    obtain ⟨h0, h1, h2, h3⟩ := hagree c
    rw [h0, h1, h2] at e0
    rw [h0, h1, h2, h3] at e1
    refine ⟨e0.trans ?_, e1.trans ?_, kept⟩
    · funext j
      idx_vars j
      change (shapeCast _ (hid _ _ _) _ : FVec Ideal S4096x1024 .f32) (ix2 j0 j1) = _
      pointwise [hid_apply]
      rfl
    · funext j
      idx_vars j
      change (truncf .bf16 (shapeCast _ (mulf (mulf (hid _ _ _) (broadcastInDim _ _ _ (Host.rsqrt (addf (Host.divf (broadcastInDim _ _ _
        (Host.reduceAdd (mulf (hid _ _ _) (hid _ _ _)) _ _ _)) _) _)))) _) _) _ : FVec Ideal S4096x1024 .bf16) (ix2 j0 j1) = _
      pointwise [hid_apply]
      rfl

end Cert.Attn

end
-- ==== Proof.FfnValue.lean ====
/-
  SWIGLU. `KernelFfnIdeal` forms, per half of the feed-forward channels and tile of 1024 tokens, the gate's and the up
  projection's products, stores both for the backward pass, and multiplies `gate · σ(gate) · up`. The reference is the same
  lines over the whole batch and the whole width, so the claim needs no precondition.
-/
module

public import proofs.«01_k».proof.Proof.GatesValue
public import proofs.«01_k».proof.Proof.Gen.KernelFfnIdeal.Value

@[expose] public section

set_option maxRecDepth 16384

noncomputable section

namespace Cert.Ffn

open Idealize.ShloMosaic Idealize.ShloMosaic.TcCoe Idealize.SL.Sem
open Idealize.ShloMosaic.Pipeline (Dat)
open Cert.Gates (mul sg)
open Cert.KernelFfnIdeal Cert.KernelFfnIdeal.Gen

/-- The gate's (`s = 0`) or the up projection's (`s = 1`) channel `l` at token `r`. -/
def half (u : FVec Ideal S2x2048x1024 .f32) (w : FVec Ideal S1024x5632 .f32) (s : Fin 2) (r : Fin 4096) (l : Fin 2816) : EReal :=
  mul u (fun k => w (ix2 k ⟨2816 * s.val + l.val, by omega⟩)) r

/-- The gated channel. -/
def act (u : FVec Ideal S2x2048x1024 .f32) (w : FVec Ideal S1024x5632 .f32) (r : Fin 4096) (l : Fin 2816) : EReal :=
  half u w 0 r l * sg (half u w 0 r l) * half u w 1 r l

variable (m : (ℓ : Loc nD τ sig) → Buf (Elt Ideal) ℓ)

theorem idx : ∀ t : Fin cfg0.N, win0_0.index t = ![t.val % 4, 0] ∧ win0_1.index t = ![t.val / 4, 0, 0]
    ∧ win0_2.index t = ![t.val / 4 + 2, 0, 0] ∧ win0_3.index t = ![0, t.val % 4, t.val / 4] ∧ win0_4.index t = ![t.val % 4, t.val / 4] :=
  (by decide +kernel : ∀ t : Fin grid0.N, _)

variable (c : Dev nD) (t : Fin cfg0.N)

theorem lt : t.val < 8 := t.isLt

/-- Token `x` of point `t`'s tile. -/
def at_ (x : Fin 1024) : Fin 4096 := ⟨t.val % 4 * 1024 + x.val, by omega⟩

/-- Channel `l` of point `t`'s half. -/
def ch (l : Fin 1408) : Fin 2816 := ⟨t.val / 4 * 1408 + l.val, by have := lt t; omega⟩

/-- The arguments, as the results read them: the two halves and the gated channels. -/
def mS : Fin 2 → Fin 4096 → Fin 2816 → EReal := half (m ((c : Thread nD τ).loc main_arg0)) (m ((c : Thread nD τ).loc main_arg1))
@[inherit_doc mS] def mA : Fin 4096 → Fin 2816 → EReal := act (m ((c : Thread nD τ).loc main_arg0)) (m ((c : Thread nD τ).loc main_arg1))

/-- The tiles at a point, over the arguments. -/
theorem blk0 (x : Fin 1024) (k : Fin 1024) (r : Fin 4096) (hr : r.val = t.val % 4 * 1024 + x.val) : iblk m c 0 t (ix2 x k)
    = m ((c : Thread nD τ).loc main_arg0) (ix3 ⟨r.val / 2048, by omega⟩ ⟨r.val % 2048, by omega⟩ k) := by
  blk_point [iblk, V, idx t]

@[inherit_doc blk0] theorem blk1 (k : Fin 1024) (l : Fin 1408) (p : Fin 5632) (hp : p.val = t.val / 4 * 1408 + l.val) :
    iblk m c 1 t (ix3 0 k l) = m ((c : Thread nD τ).loc main_arg1) (ix2 k p) := by
  have := lt t
  blk_point [iblk, V, idx t]

@[inherit_doc blk0] theorem blk2 (k : Fin 1024) (l : Fin 1408) (p : Fin 5632) (hp : p.val = t.val / 4 * 1408 + l.val + 2816) :
    iblk m c 2 t (ix3 0 k l) = m ((c : Thread nD τ).loc main_arg1) (ix2 k p) := by
  have := lt t
  blk_point [iblk, V, idx t]

/-- The products' tiles at a point. -/
theorem tileG (x : Fin 1024) (l : Fin 1408) : k0_pay1 (F := Ideal) (View.ld (iblk m c 0 t) r0_0) (View.ld (iblk m c 1 t) r0_1) (ix2 x l)
    = mS m c 0 (at_ t x) (ch t l) := by
  have := lt t
  pointwise [k0_pay1]
  simp only [blk0 m c t x _ (at_ t x) rfl, blk1 m c t _ l ⟨2816 * (0 : Fin 2).val + (ch t l).val, by have := (ch t l).isLt; simp; omega⟩ (by simp [ch])]
  rfl

@[inherit_doc tileG] theorem tileU (x : Fin 1024) (l : Fin 1408) : k0_pay2 (F := Ideal) (View.ld (iblk m c 0 t) r0_0) (View.ld (iblk m c 2 t) r0_1) (ix2 x l)
    = mS m c 1 (at_ t x) (ch t l) := by
  have := lt t
  pointwise [k0_pay2]
  simp only [blk0 m c t x _ (at_ t x) rfl, blk2 m c t _ l ⟨2816 * (1 : Fin 2).val + (ch t l).val, by have := (ch t l).isLt; simp; omega⟩ (by simp [ch]; omega)]
  rfl

/-- The gated tile at a point. -/
theorem tileA (x : Fin 1024) (l : Fin 1408) :
    k0_pay5 (F := Ideal) (View.ld (iblk m c 0 t) r0_0) (View.ld (iblk m c 1 t) r0_1) (View.ld (iblk m c 0 t) r0_0) (View.ld (iblk m c 2 t) r0_1) (ix2 x l)
      = mA m c (at_ t x) (ch t l) := by
  pointwise [k0_pay5, tileG, tileU]
  rfl

/-- The two halves' tiles as the body stores them. -/
theorem store (a : Fin 1) (x : Fin 1024) (l : Fin 1408) :
    k0_pay3 (F := Ideal) (View.ld (iblk m c 0 t) r0_0) (View.ld (iblk m c 1 t) r0_1) (ix3 a x l) = mS m c 0 (at_ t x) (ch t l)
    ∧ k0_pay4 (F := Ideal) (View.ld (iblk m c 0 t) r0_0) (View.ld (iblk m c 2 t) r0_1) (ix3 a x l) = mS m c 1 (at_ t x) (ch t l) := by
  constructor
  · pointwise [k0_pay3, tileG]
  · pointwise [k0_pay4, tileU]

/-- The gate's and the up projection's products after the run. -/
theorem final3 : (dats m 0 c).arrAt 3 cfg0.N = fun j : Shape.Idx S2x4096x2816 => mS m c (j 0) (j 1) (j 2) := by
  refine (dats m 0 c).arrAt_eq_of_covers 3 _ (by decide +kernel) fun t _ y => ?_
  blk_simp
  rw [after0_3]
  unfold Cert.KernelFfnIdeal.Gen.out0_3
  refine View.canon_apply_of_pieces (Val := Elt Ideal) (S := S2x1024x1408) (e := .bf16) (fun y => mS m c (((cfg0.win 3).blk t).view.emb y 0)
    (((cfg0.win 3).blk t).view.emb y 1) (((cfg0.win 3).blk t).view.emb y 2)) _ ?_ y (cover0_3 _ _ y)
  intro pc hpc
  rcases List.mem_cons.mp hpc with rfl | hpc
  · intro x
    dsimp only
    have h0 : ((cfg0.win 3).blk t).view.emb (r0_3.emb x) 0 = (1 : Fin 2) := Fin.ext (by blk_simp [idx t]; rfl)
    have h1 : ((cfg0.win 3).blk t).view.emb (r0_3.emb x) 1 = at_ t (x 1) := Fin.ext (by blk_simp [idx t]; rfl)
    have h2 : ((cfg0.win 3).blk t).view.emb (r0_3.emb x) 2 = ch t (x 2) := Fin.ext (by blk_simp [idx t]; rfl)
    rw [h0, h1, h2]
    exact (congrArg _ (eq_ix3 x)).trans (store m c t (x 0) (x 1) (x 2)).2
  rcases List.mem_cons.mp hpc with rfl | hpc
  · intro x
    dsimp only
    have h0 : ((cfg0.win 3).blk t).view.emb (r0_2.emb x) 0 = (0 : Fin 2) := Fin.ext (by blk_simp [idx t]; rfl)
    have h1 : ((cfg0.win 3).blk t).view.emb (r0_2.emb x) 1 = at_ t (x 1) := Fin.ext (by blk_simp [idx t]; rfl)
    have h2 : ((cfg0.win 3).blk t).view.emb (r0_2.emb x) 2 = ch t (x 2) := Fin.ext (by blk_simp [idx t]; rfl)
    rw [h0, h1, h2]
    exact (congrArg _ (eq_ix3 x)).trans (store m c t (x 0) (x 1) (x 2)).1
  nomatch hpc

/-- The gated channels after the run. -/
theorem final4 : (dats m 0 c).arrAt 4 cfg0.N = fun j : Shape.Idx S4096x2816 => mA m c (j 0) (j 1) := by
  refine (dats m 0 c).arrAt_eq_of_covers 4 _ (by decide +kernel) fun t _ y => ?_
  blk_simp
  rw [after0_4]
  unfold Cert.KernelFfnIdeal.Gen.out0_4
  refine View.canon_apply_of_pieces (Val := Elt Ideal) (S := S1024x1408) (e := .bf16) (fun y => mA m c (((cfg0.win 4).blk t).view.emb y 0)
    (((cfg0.win 4).blk t).view.emb y 1)) _ ?_ y (cover0_4 _ y)
  intro pc hpc
  rcases List.mem_cons.mp hpc with rfl | hpc
  · intro x
    dsimp only
    have h0 : ((cfg0.win 4).blk t).view.emb (r0_4.emb x) 0 = at_ t (x 0) := Fin.ext (by blk_simp [idx t]; rfl)
    have h1 : ((cfg0.win 4).blk t).view.emb (r0_4.emb x) 1 = ch t (x 1) := Fin.ext (by blk_simp [idx t]; rfl)
    rw [h0, h1]
    exact (congrArg _ (eq_ix2 x)).trans (tileA m c t (x 0) (x 1))
  nomatch hpc

end Cert.Ffn

end
-- ==== Proof.Ffn.lean ====
/-
  SWIGLU: THE CLAIM. The reference's lines, read element by element, are the kernel's results.
-/
module

public import proofs.«01_k».proof.Defs
public import proofs.«01_k».proof.Proof.FfnValue
public import proofs.«01_k».proof.Proof.Gen.ReferenceFfnIdeal.Run

@[expose] public section

set_option maxRecDepth 16384

noncomputable section

namespace Cert.Ffn

open Idealize.ShloMosaic Idealize.SL.Sem
open Cert.Gates (mul sg)

theorem algebraic : Cert.algebraic_KernelFfnIdeal_ReferenceFfnIdeal
    (hKernelFfnIdeal := Cert.KernelFfnIdeal.Gen.facts) (hReferenceFfnIdeal := Cert.ReferenceFfnIdeal.Gen.facts) := by
  intro m g m' g' _ hagree
  refine ⟨fun c => (fun j => mS m c (j 0) (j 1) (j 2)), fun c => (fun j => mA m c (j 0) (j 1)), ?_, ?_⟩
  · refine (θ_run _ _ _).mono (fun r h c => ?_) (Cert.KernelFfnIdeal.Value.run_blocks m g)
    obtain ⟨e3, e4, kept⟩ := h c
    exact ⟨e3.trans (final3 m c), e4.trans (final4 m c), kept⟩
  · refine (θ_run _ _ _).mono (fun r h c => ?_) (Cert.ReferenceFfnIdeal.Value.run m' g')
    obtain ⟨e0, e1, kept⟩ := h c
    obtain ⟨h0, h1⟩ := hagree c
    rw [h0, h1] at e0 e1
    refine ⟨e0.trans ?_, e1.trans ?_, kept⟩
    · funext j
      idx_vars j
      obtain rfl | rfl : j0 = 0 ∨ j0 = 1 := (by decide : ∀ a : Fin 2, a = 0 ∨ a = 1) j0
      all_goals
        pointwise [mS, half, mul]
    · funext j
      idx_vars j
      pointwise [mA, act, half, sg, mul]
      simp only [zero_sub]

end Cert.Ffn

end
-- ==== Proof.HgfTrip.lean ====
/-
  THE GATED RECURRENCE, FORWARD: ONE CHUNK AND ONE TRIP. A head's sequence is taken in chunks of 64 tokens. This module says
  what a chunk computes from its slices of the projections and from the state carried into it, in either direction, and that
  a trip of the kernel's loop is four chunks of the forward direction and four of the backward one.
-/
module

public import proofs.«01_k».proof.Proof.Gen.KernelHgfIdeal.Loops

@[expose] public section

set_option maxRecDepth 16384

noncomputable section

namespace Cert.Hgf

open Idealize.ShloMosaic Idealize.ShloMosaic.TcCoe
open Cert.KernelHgfIdeal Cert.KernelHgfIdeal.Gen

variable {F : FTy → Type} [FloatOps F]

/-- A chunk's slice of a segment, a row of it, a mask, the state. -/
abbrev Slab (F : FTy → Type) := Vec F S1x64x128 .f32
@[inherit_doc Slab] abbrev Tile (F : FTy → Type) := FVec F S64x128 .f32
@[inherit_doc Slab] abbrev Row (F : FTy → Type) := FVec F S1x128 .f32
@[inherit_doc Slab] abbrev State (F : FTy → Type) := FVec F S128x128 .f32

/-- Constants over a shape. -/
abbrev zero64 : Tile F := broadcast S64x128 (Scalar.ofBits .f32 0x00000000#32)
@[inherit_doc zero64] abbrev one64 : Tile F := broadcast S64x128 (Scalar.ofBits .f32 0x3F800000#32)

/-- A segment's slice as a tile, and the logistic function of one. -/
def tile (x : Slab F) : Tile F := shapeCast S64x128 x shapeCasts_S1x64x128_S64x128
@[inherit_doc tile] def sigm (x : Tile F) : Tile F := divf one64 (addf one64 (exp (subf zero64 x)))
/-- The query, -/
def query (q : Slab F) : Tile F := mulf (tile q) (sigm (tile q))
/-- the forget gate over its lower bound, the key, -/
def forget (l : Row F) (f : Slab F) : Tile F :=
  addf (broadcastTo S64x128 l broadcasts_S1x128_S64x128)
    (mulf (broadcastTo S64x128 (subf (broadcast S1x128 (Scalar.ofBits .f32 0x3F800000#32)) l) broadcasts_S1x128_S64x128) (sigm (tile f)))
@[inherit_doc forget] def key (l : Row F) (f : Slab F) : Tile F := subf one64 (forget l f)
/-- and the value. -/
def value (v : Slab F) : FVec F S64x128 .bf16 := truncf .bf16 (tile v) bitsLt_bf16_f32

/-- A token's place in its chunk. -/
def place : IVec S64x128 32 := andi (iota .tc S64x128 32 [0] iota_S64x128_d0_w32) (broadcast S64x128 63#32)
/-- A doubling step of the running sum, looking `n` tokens back, -/
def back (n : BitVec 32) (x : Tile F) : Tile F :=
  addf x (select (cmpi .sge place (broadcast S64x128 n)) (dynamicRotate 0 n none x rotates_S64x128_d0) zero64)
/-- or `64 - n` ahead. -/
def ahead (n : BitVec 32) (x : Tile F) : Tile F :=
  addf x (select (cmpi .slt place (broadcast S64x128 n)) (dynamicRotate 0 n none x rotates_S64x128_d0) zero64)
/-- The running sums in the two directions. -/
def sumF (x : Tile F) : Tile F := back 32#32 (back 16#32 (back 8#32 (back 4#32 (back 2#32 (back 1#32 x)))))
@[inherit_doc sumF] def sumB (x : Tile F) : Tile F := ahead 32#32 (ahead 48#32 (ahead 56#32 (ahead 60#32 (ahead 62#32 (ahead 63#32 x)))))

/-- The tokens a token attends in its own chunk. -/
def maskF : IVec S64x64 1 := cmpi .sle (iota .tc S64x64 32 [1] iota_S64x64_d1_w32) (iota .tc S64x64 32 [0] iota_S64x64_d0_w32)
@[inherit_doc maskF] def maskB : IVec S64x64 1 := cmpi .sge (iota .tc S64x64 32 [1] iota_S64x64_d1_w32) (iota .tc S64x64 32 [0] iota_S64x64_d0_w32)

/-- The middle, the last and the first token's row. -/
def midRow (c : Tile F) : Row F := extractStridedSlice S1x128 ![32, 0] c slices_S64x128_o32_0_S1x128
/-- Likewise. -/
def lastRow (c : Tile F) : Row F := extractStridedSlice S1x128 ![63, 0] c slices_S64x128_o63_0_S1x128
/-- Likewise. -/
def firstRow (c : Tile F) : Row F := extractStridedSlice S1x128 ![0, 0] c slices_S64x128_o0_0_S1x128
/-- A row over a tile. -/
def over (r : Row F) : Tile F := broadcastTo S64x128 r broadcasts_S1x128_S64x128

/-- What a chunk's own tokens contribute to its outputs: `q` queries, `k` keys, `c` running sums of the log-gates. -/
def inner (mask : IVec S64x64 1) (q k c : Tile F) (v : FVec F S64x128 .bf16) : Tile F :=
  matmul dot_S64x64_S64x128_S64x128_1_0_0_1_n_n none
    (truncf .bf16 (select mask
      (matmul dot_S64x128_S64x128_S64x64_1_1_0_0_n_n none (truncf .bf16 (mulf q (exp (subf c (over (midRow c))))) bitsLt_bf16_f32)
        (truncf .bf16 (mulf k (exp (subf (over (midRow c)) c))) bitsLt_bf16_f32) (constant S64x64 .f32 0x00000000#32))
      (broadcast S64x64 (Scalar.ofBits .f32 0x00000000#32))) bitsLt_bf16_f32)
    v (constant S64x128 .f32 0x00000000#32)
/-- A chunk's outputs, the state carried in being `S`. -/
def outC (mask : IVec S64x64 1) (q k c : Tile F) (v : FVec F S64x128 .bf16) (S : State F) : Tile F :=
  shapeCast S64x128 (addf (inner mask q k c v)
    (matmul dot_S64x128_S128x128_S64x128_1_1_0_0_n_n none (truncf .bf16 (mulf q (exp c)) bitsLt_bf16_f32) (truncf .bf16 S bitsLt_bf16_f32)
      (constant S64x128 .f32 0x00000000#32))) shapeCasts_S64x128_S64x128
/-- The state it leaves, `e` the running sum over the whole chunk. -/
def nextC (k c : Tile F) (e : Row F) (v : FVec F S64x128 .bf16) (S : State F) : State F :=
  addf (mulf S (broadcastTo S128x128 (exp e) broadcasts_S1x128_S128x128))
    (matmul dot_S64x128_S64x128_S128x128_0_0_1_1_n_n none v (truncf .bf16 (mulf k (exp (subf (over e) c))) bitsLt_bf16_f32)
      (constant S128x128 .f32 0x00000000#32))

/-- A chunk's log-gates summed along its direction. -/
def cumF (l : Row F) (f : Slab F) : Tile F := sumF (log (forget l f))
@[inherit_doc cumF] def cumB (l : Row F) (f : Slab F) : Tile F := sumB (log (forget l f))
/-- A chunk of the forward direction, -/
def outF (l : Row F) (q f v : Slab F) (S : State F) : Tile F := outC maskF (query q) (key l f) (cumF l f) (value v) S
@[inherit_doc outF] def nextF (l : Row F) (f v : Slab F) (S : State F) : State F := nextC (key l f) (cumF l f) (lastRow (cumF l f)) (value v) S
/-- and of the backward one. -/
def outB (l : Row F) (q f v : Slab F) (S : State F) : Tile F := outC maskB (query q) (key l f) (cumB l f) (value v) S
@[inherit_doc outB] def nextB (l : Row F) (f v : Slab F) (S : State F) : State F := nextC (key l f) (cumB l f) (firstRow (cumB l f)) (value v) S

/-- The lower bounds of the two directions. -/
def boundF (v0 : Vec F S2x2x128 .f32) : Row F := extractStridedSlice S1x128 ![0, 0] (k0_pay187 v0) slices_S2x128_o0_0_S1x128
@[inherit_doc boundF] def boundB (v0 : Vec F S2x2x128 .f32) : Row F := extractStridedSlice S1x128 ![1, 0] (k0_pay187 v0) slices_S2x128_o1_0_S1x128

/-- The slice a trip's chunk reads, forward and backward. -/
def ldF (arg : Memref sig .tc .vmem S1x2048x128 .f32) (X : BufTy.Contents (Elt F) arg.view.ty) (k : Fin k0_t1_loop.trips) (j : Fin 4) : Slab F :=
  View.readAt (Elt F) arg.view (Rect.unit (s := S1x2048x128) (k0_off1 k (BitVec.ofNat 32 j.val)) S1x64x128.size (k0_off1_inb k j)).toLoadRect X
@[inherit_doc ldF] def ldB (arg : Memref sig .tc .vmem S1x2048x128 .f32) (X : BufTy.Contents (Elt F) arg.view.ty) (k : Fin k0_t1_loop.trips) (j : Fin 4) : Slab F :=
  View.readAt (Elt F) arg.view (Rect.unit (s := S1x2048x128) (k0_off2 k (BitVec.ofNat 32 j.val)) S1x64x128.size (k0_off2_inb k j)).toLoadRect X

/-- The states before a trip's chunks. -/
def stF (v0 : Vec F S2x2x128 .f32) (arg3 arg5 : Memref sig .tc .vmem S1x2048x128 .f32) (X3 : BufTy.Contents (Elt F) arg3.view.ty)
    (X5 : BufTy.Contents (Elt F) arg5.view.ty) (k : Fin k0_t1_loop.trips) (S : State F) : ℕ → State F
  | 0 => S
  | n + 1 => if h : n < 4 then nextF (boundF v0) (ldF arg3 X3 k ⟨n, h⟩) (ldF arg5 X5 k ⟨n, h⟩) (stF v0 arg3 arg5 X3 X5 k S n) else S
@[inherit_doc stF] def stB (v0 : Vec F S2x2x128 .f32) (arg4 arg5 : Memref sig .tc .vmem S1x2048x128 .f32) (X4 : BufTy.Contents (Elt F) arg4.view.ty)
    (X5 : BufTy.Contents (Elt F) arg5.view.ty) (k : Fin k0_t1_loop.trips) (S : State F) : ℕ → State F
  | 0 => S
  | n + 1 => if h : n < 4 then nextB (boundB v0) (ldB arg4 X4 k ⟨n, h⟩) (ldB arg5 X5 k ⟨n, h⟩) (stB v0 arg4 arg5 X4 X5 k S n) else S

/-- What a trip writes for its chunk `j`, at that chunk's rows. -/
def pieceF (v0 : Vec F S2x2x128 .f32) (arg2 arg3 arg5 : Memref sig .tc .vmem S1x2048x128 .f32) (X2 : BufTy.Contents (Elt F) arg2.view.ty)
    (X3 : BufTy.Contents (Elt F) arg3.view.ty) (X5 : BufTy.Contents (Elt F) arg5.view.ty) (k : Fin k0_t1_loop.trips) (S : State F) (j : Fin 4) :
    View.Piece (Elt F) S2048x128 .f32 :=
  ⟨Rect.unit (s := S2048x128) (k0_off3 k (BitVec.ofNat 32 j.val)) S64x128.size (k0_off3_inb k j),
    outF (boundF v0) (ldF arg2 X2 k j) (ldF arg3 X3 k j) (ldF arg5 X5 k j) (stF v0 arg3 arg5 X3 X5 k S j.val)⟩
@[inherit_doc pieceF] def pieceB (v0 : Vec F S2x2x128 .f32) (arg2 arg4 arg5 : Memref sig .tc .vmem S1x2048x128 .f32) (X2 : BufTy.Contents (Elt F) arg2.view.ty)
    (X4 : BufTy.Contents (Elt F) arg4.view.ty) (X5 : BufTy.Contents (Elt F) arg5.view.ty) (k : Fin k0_t1_loop.trips) (S : State F) (j : Fin 4) :
    View.Piece (Elt F) S2048x128 .f32 :=
  ⟨Rect.unit (s := S2048x128) (k0_off4 k (BitVec.ofNat 32 j.val)) S64x128.size (k0_off4_inb k j),
    outB (boundB v0) (ldB arg2 X2 k j) (ldB arg4 X4 k j) (ldB arg5 X5 k j) (stB v0 arg4 arg5 X4 X5 k S j.val)⟩

section
variable (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S2x2x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (v0 : Vec F S2x2x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) (acc : FVec F S128x128 .f32 × FVec F S128x128 .f32)

/-- A trip's states: four chunks on. -/
theorem trip_state : tripR_k0_t1 (F := F) 𝒱 c bd i arg2 harg2 arg3 harg3 arg4 harg4 arg5 harg5 arg6 harg6 arg7 harg7 arg8 harg8 arg9 harg9 arg10 harg10 arg11 harg11 arg12 harg12 v0 X_arg2 X_arg3 X_arg4 X_arg5 k acc
    = (stF v0 arg3 arg5 X_arg3 X_arg5 k acc.1 4, stB v0 arg4 arg5 X_arg4 X_arg5 k acc.2 4) := by
  unfold tripR_k0_t1 trip_k0_t1
  rfl

/-- A trip's outputs: its chunks', the last first. -/
theorem trip_out : tripL_k0_t1 (F := F) 𝒱 c bd i arg2 harg2 arg3 harg3 arg4 harg4 arg5 harg5 arg6 harg6 arg7 harg7 arg8 harg8 arg9 harg9 arg10 harg10 arg11 harg11 arg12 harg12 v0 X_arg2 X_arg3 X_arg4 X_arg5 k acc
    = ([pieceF v0 arg2 arg3 arg5 X_arg2 X_arg3 X_arg5 k acc.1 3, pieceF v0 arg2 arg3 arg5 X_arg2 X_arg3 X_arg5 k acc.1 2,
        pieceF v0 arg2 arg3 arg5 X_arg2 X_arg3 X_arg5 k acc.1 1, pieceF v0 arg2 arg3 arg5 X_arg2 X_arg3 X_arg5 k acc.1 0],
       [pieceB v0 arg2 arg4 arg5 X_arg2 X_arg4 X_arg5 k acc.2 3, pieceB v0 arg2 arg4 arg5 X_arg2 X_arg4 X_arg5 k acc.2 2,
        pieceB v0 arg2 arg4 arg5 X_arg2 X_arg4 X_arg5 k acc.2 1, pieceB v0 arg2 arg4 arg5 X_arg2 X_arg4 X_arg5 k acc.2 0]) := by
  unfold tripL_k0_t1 trip_k0_t1
  rfl
end

end Cert.Hgf

end
-- ==== Proof.HgfReal.lean ====
/-
  THE GATED RECURRENCE, FORWARD: OVER THE REALS. A token attends every token before it, through the gates between the two.
  Taking the sequence in chunks, a chunk's tokens attend each other directly and the chunks before through one state. This
  module says so over the reals, of sequences `q` of queries, `k` of keys, `g` of log-gates and `v` of values.
-/
module

public import proofs.«01_k».proof.Proof.Finite

@[expose] public section

noncomputable section

namespace Cert.Hgf

section
variable (q k g v : ℕ → Fin 128 → ℝ)

/-- The log-gates before token `n`, summed. -/
def pre (n : ℕ) (d : Fin 128) : ℝ := ∑ s ∈ Finset.range n, g s d
/-- How much token `t` attends token `s`. -/
def score (t s : ℕ) : ℝ := ∑ d, q t d * k s d * Real.exp (pre g (t + 1) d - pre g (s + 1) d)
/-- A token's output. -/
def attend (t : ℕ) (e : Fin 128) : ℝ := ∑ s ∈ Finset.range (t + 1), score q k g t s * v s e
/-- The state after `n` tokens. -/
def carry (n : ℕ) (e d : Fin 128) : ℝ := ∑ s ∈ Finset.range n, v s e * (k s d * Real.exp (pre g n d - pre g (s + 1) d))

/-- Within a chunk from token `b`, the log-gates summed up to its token `i`. -/
def chunk (b i : ℕ) (d : Fin 128) : ℝ := ∑ s ∈ Finset.range (i + 1), g (b + s) d

theorem pre_chunk (b i : ℕ) (d : Fin 128) : pre g (b + i + 1) d = pre g b d + chunk g b i d := by
  unfold pre chunk
  rw [Nat.add_assoc, Finset.sum_range_add]

/-- A chunk's state from the one before. -/
theorem carry_next (b : ℕ) (e d : Fin 128) :
    carry k g v b e d * Real.exp (chunk g b 63 d)
      + ∑ s : Fin 64, v (b + s.val) e * (k (b + s.val) d * Real.exp (chunk g b 63 d - chunk g b s.val d))
      = carry k g v (b + 64) e d := by
  unfold carry
  rw [Finset.sum_range_add, Finset.sum_mul, Finset.sum_range (n := 64)]
  have h64 : pre g (b + 64) d = pre g b d + chunk g b 63 d := pre_chunk g b 63 d
  congr 1
  · refine Finset.sum_congr rfl fun s _ => ?_
    rw [h64, mul_assoc, mul_assoc, ← Real.exp_add]
    ring_nf
  · refine Finset.sum_congr rfl fun s _ => ?_
    rw [h64, pre_chunk]
    ring_nf

/-- A token's output from its chunk and the state before the chunk. -/
theorem attend_chunk (b : ℕ) (i : Fin 64) (m : Fin 128 → ℝ) (e : Fin 128) :
    (∑ j : Fin 64, (if j.val ≤ i.val then ∑ d, q (b + i.val) d * Real.exp (chunk g b i.val d - m d) * (k (b + j.val) d * Real.exp (m d - chunk g b j.val d)) else 0)
        * v (b + j.val) e)
      + ∑ d, q (b + i.val) d * Real.exp (chunk g b i.val d) * carry k g v b e d
      = attend q k g v (b + i.val) e := by
  have hin : ∀ j : Fin 64, (∑ d, q (b + i.val) d * Real.exp (chunk g b i.val d - m d) * (k (b + j.val) d * Real.exp (m d - chunk g b j.val d)))
      = score q k g (b + i.val) (b + j.val) := fun j => by
    unfold score
    refine Finset.sum_congr rfl fun d _ => ?_
    rw [pre_chunk, pre_chunk, show pre g b d + chunk g b i.val d - (pre g b d + chunk g b j.val d)
      = (chunk g b i.val d - m d) + (m d - chunk g b j.val d) by ring, Real.exp_add]
    ring
  have hout : ∑ d, q (b + i.val) d * Real.exp (chunk g b i.val d) * carry k g v b e d
      = ∑ s ∈ Finset.range b, score q k g (b + i.val) s * v s e := by
    unfold carry score
    simp only [Finset.mul_sum, Finset.sum_mul]
    rw [Finset.sum_comm]
    refine Finset.sum_congr rfl fun s _ => Finset.sum_congr rfl fun d _ => ?_
    rw [pre_chunk, show pre g b d + chunk g b i.val d - pre g (s + 1) d = chunk g b i.val d + (pre g b d - pre g (s + 1) d) by ring,
      Real.exp_add]
    ring
  rw [hout]
  unfold attend
  rw [Nat.add_assoc, Finset.sum_range_add, add_comm]
  congr 1
  simp only [hin, ite_mul, zero_mul]
  rw [Fin.sum_univ_eq_sum_range (fun s => if s ≤ i.val then score q k g (b + i.val) (b + s) * v (b + s) e else 0) 64, ← Finset.sum_filter]
  refine Finset.sum_congr (Finset.ext fun s => ?_) fun _ _ => rfl
  simp only [Finset.mem_filter, Finset.mem_range]
  omega
end

/-- Reading a chunk backwards. -/
def flip (i : Fin 64) : Fin 64 := ⟨63 - i.val, by omega⟩
theorem sum_flip {M : Type} [AddCommMonoid M] (f : Fin 64 → M) : ∑ i, f (flip i) = ∑ i, f i :=
  Finset.sum_bijective flip ⟨fun a b h => by simp only [flip, Fin.mk.injEq] at h; omega, fun b => ⟨flip b, Fin.ext (by simp only [flip]; omega)⟩⟩
    (fun _ => by simp) fun _ _ => rfl

end Cert.Hgf

end
-- ==== Proof.HgfPoint.lean ====
/-
  THE GATED RECURRENCE, FORWARD: A CHUNK READ. Of real queries, keys, values, log-gates and state, what a chunk leaves is
  real, and this module names each of its elements; a running sum by doubling is the sum of the tokens up to one.
-/
module

public import proofs.«01_k».proof.Proof.HgfTrip
public import proofs.«01_k».proof.Proof.HgfReal
public import Idealize.ShloMosaic.Lib.Pipeline.ValueKit

@[expose] public section

set_option maxRecDepth 16384

noncomputable section

namespace Cert.Hgf

open Idealize.ShloMosaic Idealize.ShloMosaic.TcCoe
open Cert.KernelHgfIdeal Cert.KernelHgfIdeal.Gen
open Cert.Finite hiding S_

/-- A token's place against a number of tokens. -/
theorem place_ge : ∀ n i : Fin 64, IntOp.cmpi .sge (IntOp.andi (BitVec.ofNat 32 i.val) 63#32) (BitVec.ofNat 32 n.val) = BitVec.ofBool (decide (n.val ≤ i.val)) := by
  decide +kernel
@[inherit_doc place_ge] theorem place_lt : ∀ n i : Fin 64, IntOp.cmpi .slt (IntOp.andi (BitVec.ofNat 32 i.val) 63#32) (BitVec.ofNat 32 n.val) = BitVec.ofBool (decide (i.val < n.val)) := by
  decide +kernel

/-- The `w` tokens up to `i`, and the `w` from `i` on, summed. -/
def upto (w : ℕ) (f : Fin 64 → EReal) (i : Fin 64) : EReal := ∑ j : Fin 64, if j.val ≤ i.val ∧ i.val < j.val + w then f j else 0
@[inherit_doc upto] def onward (w : ℕ) (f : Fin 64 → EReal) (i : Fin 64) : EReal := ∑ j : Fin 64, if i.val ≤ j.val ∧ j.val < i.val + w then f j else 0

theorem upto_double (w : ℕ) (f : Fin 64 → EReal) (i : Fin 64) (p : Fin 64) (hp : w ≤ i.val → p.val = i.val - w) :
    upto w f i + (if w ≤ i.val then upto w f p else 0) = upto (w + w) f i := by
  unfold upto
  split_ifs with h
  · rw [hp h, ← Finset.sum_add_distrib]
    refine Finset.sum_congr rfl fun j _ => ?_
    split_ifs <;> first | omega | simp
  · rw [add_zero]
    refine Finset.sum_congr rfl fun j _ => ?_
    split_ifs <;> first | omega | rfl

theorem onward_double (w : ℕ) (f : Fin 64 → EReal) (i : Fin 64) (p : Fin 64) (hp : i.val < 64 - w → p.val = i.val + w) :
    onward w f i + (if i.val < 64 - w then onward w f p else 0) = onward (w + w) f i := by
  unfold onward
  split_ifs with h
  · rw [hp h, ← Finset.sum_add_distrib]
    refine Finset.sum_congr rfl fun j _ => ?_
    split_ifs <;> first | omega | simp
  · rw [add_zero]
    refine Finset.sum_congr rfl fun j _ => ?_
    split_ifs <;> first | omega | rfl

theorem back_apply (n : Fin 64) (x : Tile Ideal) (i : Fin 64) (d : Fin 128) :
    back (F := Ideal) (BitVec.ofNat 32 n.val) x (ix2 i d)
      = x (ix2 i d) + if n.val ≤ i.val then x (ix2 ⟨(i.val + 64 - n.val) % 64, Nat.mod_lt _ (by decide)⟩ d) else 0 := by
  unfold back place zero64
  pointwise
  have hn : (BitVec.ofNat 32 n.val).toNat % 64 = n.val := by rw [BitVec.toNat_ofNat]; omega
  simp only [place_ge, hn]
  by_cases h : n.val ≤ i.val
  · rw [decide_eq_true h, if_pos h]; rfl
  · rw [decide_eq_false h, if_neg h]; rfl

theorem ahead_apply (n : Fin 64) (x : Tile Ideal) (i : Fin 64) (d : Fin 128) :
    ahead (F := Ideal) (BitVec.ofNat 32 n.val) x (ix2 i d)
      = x (ix2 i d) + if i.val < n.val then x (ix2 ⟨(i.val + 64 - n.val) % 64, Nat.mod_lt _ (by decide)⟩ d) else 0 := by
  unfold ahead place zero64
  pointwise
  have hn : (BitVec.ofNat 32 n.val).toNat % 64 = n.val := by rw [BitVec.toNat_ofNat]; omega
  simp only [place_lt, hn]
  by_cases h : i.val < n.val
  · rw [decide_eq_true h, if_pos h]; rfl
  · rw [decide_eq_false h, if_neg h]; rfl

/-- A doubling step, on a running sum. -/
theorem back_step (w : Fin 64) (x y : Tile Ideal) (h : ∀ i d, x (ix2 i d) = upto w.val (fun j => y (ix2 j d)) i) (i : Fin 64) (d : Fin 128) :
    back (F := Ideal) (BitVec.ofNat 32 w.val) x (ix2 i d) = upto (w.val + w.val) (fun j => y (ix2 j d)) i := by
  rw [back_apply]
  simp only [h]
  exact upto_double w.val _ i _ fun hw => by dsimp only; omega
@[inherit_doc back_step] theorem ahead_step (n : Fin 64) (w : ℕ) (hw : n.val + w = 64) (x y : Tile Ideal) (h : ∀ i d, x (ix2 i d) = onward w (fun j => y (ix2 j d)) i) (i : Fin 64) (d : Fin 128) :
    ahead (F := Ideal) (BitVec.ofNat 32 n.val) x (ix2 i d) = onward (w + w) (fun j => y (ix2 j d)) i := by
  rw [ahead_apply]
  simp only [h]
  have e : n.val = 64 - w := by omega
  rw [e]
  exact onward_double w _ i _ fun hw => by dsimp only; omega

theorem upto_one (f : Fin 64 → EReal) (i : Fin 64) : f i = upto 1 f i := by
  unfold upto
  rw [Finset.sum_eq_single i]
  · rw [if_pos (by omega)]
  · intro j _ hj
    exact if_neg fun h => hj (Fin.ext (by omega))
  · exact fun h => absurd (Finset.mem_univ _) h
theorem onward_one (f : Fin 64 → EReal) (i : Fin 64) : f i = onward 1 f i := by
  unfold onward
  rw [Finset.sum_eq_single i]
  · rw [if_pos (by omega)]
  · intro j _ hj
    exact if_neg fun h => hj (Fin.ext (by omega))
  · exact fun h => absurd (Finset.mem_univ _) h

/-- The running sums of a tile. -/
theorem sumF_apply (x : Tile Ideal) (i : Fin 64) (d : Fin 128) : sumF (F := Ideal) x (ix2 i d) = ∑ j : Fin 64, if j.val ≤ i.val then x (ix2 j d) else 0 := by
  refine (back_step 32 _ x (back_step 16 _ x (back_step 8 _ x (back_step 4 _ x (back_step 2 _ x (back_step 1 x x fun i d => upto_one (fun j => x (ix2 j d)) i))))) i d).trans ?_
  unfold upto
  refine Finset.sum_congr rfl fun j _ => if_congr ?_ rfl rfl
  show j.val ≤ i.val ∧ i.val < j.val + 64 ↔ _
  omega
@[inherit_doc sumF_apply] theorem sumB_apply (x : Tile Ideal) (i : Fin 64) (d : Fin 128) : sumB (F := Ideal) x (ix2 i d) = ∑ j : Fin 64, if i.val ≤ j.val then x (ix2 j d) else 0 := by
  refine (ahead_step 32 32 rfl _ x (ahead_step 48 16 rfl _ x (ahead_step 56 8 rfl _ x (ahead_step 60 4 rfl _ x (ahead_step 62 2 rfl _ x (ahead_step 63 1 rfl x x fun i d => onward_one (fun j => x (ix2 j d)) i))))) i d).trans ?_
  unfold onward
  refine Finset.sum_congr rfl fun j _ => if_congr ?_ rfl rfl
  show i.val ≤ j.val ∧ j.val < i.val + 64 ↔ _
  omega

/-- The masks. -/
theorem maskF_apply : ∀ i j : Fin 64, maskF (ix2 i j) = BitVec.ofBool (decide (j.val ≤ i.val)) := by
  have h : ∀ i j : Fin 64, IntOp.cmpi .sle (BitVec.ofNat 32 j.val) (BitVec.ofNat 32 i.val) = BitVec.ofBool (decide (j.val ≤ i.val)) := by decide +kernel
  intro i j
  refine Eq.trans ?_ (h i j)
  unfold maskF
  pointwise
@[inherit_doc maskF_apply] theorem maskB_apply : ∀ i j : Fin 64, maskB (ix2 i j) = BitVec.ofBool (decide (i.val ≤ j.val)) := by
  have h : ∀ i j : Fin 64, IntOp.cmpi .sge (BitVec.ofNat 32 j.val) (BitVec.ofNat 32 i.val) = BitVec.ofBool (decide (i.val ≤ j.val)) := by decide +kernel
  intro i j
  refine Eq.trans ?_ (h i j)
  unfold maskB
  pointwise

/-- A real number kept or dropped by a mask. -/
theorem chosen (p : Prop) [Decidable p] (r : ℝ) : Scalar.select (BitVec.ofBool (decide p)) (r : EReal) 0 = ((if p then r else 0 : ℝ) : EReal) := by
  by_cases h : p
  · rw [decide_eq_true h, if_pos h]; rfl
  · rw [decide_eq_false h, if_neg h]; rfl

section chunk
variable (q k c : Tile Ideal) (v : FVec Ideal S64x128 .bf16) (S : State Ideal) {Q K C V : Fin 64 → Fin 128 → ℝ} {T : Fin 128 → Fin 128 → ℝ}
  (hQ : ∀ i d, q (ix2 i d) = (Q i d : EReal)) (hK : ∀ i d, k (ix2 i d) = (K i d : EReal)) (hC : ∀ i d, c (ix2 i d) = (C i d : EReal))
  (hV : ∀ i d, v (ix2 i d) = (V i d : EReal)) (hS : ∀ e d, S (ix2 e d) = (T e d : EReal))

include hQ hK hC hV hS in
/-- A chunk's outputs. -/
theorem outC_apply (mask : IVec S64x64 1) {M : Fin 64 → Fin 64 → Prop} [∀ i j, Decidable (M i j)] (hM : ∀ i j, mask (ix2 i j) = BitVec.ofBool (decide (M i j)))
    (i : Fin 64) (e : Fin 128) :
    outC (F := Ideal) mask q k c v S (ix2 i e)
      = (((∑ j : Fin 64, (if M i j then ∑ d, Q i d * Real.exp (C i d - C 32 d) * (K j d * Real.exp (C 32 d - C j d)) else 0) * V j e)
          + ∑ d, Q i d * Real.exp (C i d) * T e d : ℝ) : EReal) := by
  unfold outC inner over midRow
  pointwise
  simp only [hM, hQ, hK, hC, hV, hS]
  simp only [← EReal.coe_sub, Ideal.exp_coe, ← EReal.coe_mul, coe_sum, chosen, ← EReal.coe_add]
  simp only [ite_mul, zero_mul]

include hK hC hV hS in
/-- The state it leaves. -/
theorem nextC_apply (r : Row Ideal) {R : Fin 128 → ℝ} (hR : ∀ d, r (ix2 0 d) = (R d : EReal)) (e d : Fin 128) :
    nextC (F := Ideal) k c r v S (ix2 e d) = ((T e d * Real.exp (R d) + ∑ s : Fin 64, V s e * (K s d * Real.exp (R d - C s d)) : ℝ) : EReal) := by
  unfold nextC over
  pointwise
  simp only [hR, hK, hC, hV, hS]
  simp only [← EReal.coe_sub, Ideal.exp_coe, ← EReal.coe_mul, coe_sum, ← EReal.coe_add]
end chunk

/-- The forget gate over its lower bound `l`. -/
def gate (l f : ℝ) : ℝ := l + (1 - l) * sgr f

theorem sgr_pos (x : ℝ) : 0 < sgr x := by unfold sgr; positivity
theorem sgr_lt (x : ℝ) : sgr x < 1 := by
  unfold sgr
  rw [div_lt_one (by positivity)]
  linarith [Real.exp_pos (-x)]
theorem gate_pos {l : ℝ} (h0 : 0 < l) (h1 : l < 1) (f : ℝ) : 0 < gate l f := by
  have := mul_pos (sub_pos.2 h1) (sgr_pos f)
  unfold gate
  linarith

section entries
variable (l : Row Ideal) (x : Slab Ideal) {L : Fin 128 → ℝ} {X : Fin 64 → Fin 128 → ℝ} (hL : ∀ d, l (ix2 0 d) = (L d : EReal))
  (hX : ∀ i d, x (ix3 0 i d) = (X i d : EReal))

include hX in
theorem sigm_apply (i : Fin 64) (d : Fin 128) : sigm (F := Ideal) (tile x) (ix2 i d) = (sgr (X i d) : EReal) := by
  unfold sigm tile
  pointwise
  simp only [hX, zero_sub]
  exact sg_coe _

include hX in
/-- A chunk's queries, -/
theorem query_apply (i : Fin 64) (d : Fin 128) : query (F := Ideal) x (ix2 i d) = ((X i d * sgr (X i d) : ℝ) : EReal) := by
  have h := sigm_apply x hX i d
  unfold query
  pointwise
  rw [h]
  unfold tile
  pointwise
  simp only [hX, ← EReal.coe_mul]

include hL hX in
theorem forget_apply (i : Fin 64) (d : Fin 128) : forget (F := Ideal) l x (ix2 i d) = (gate (L d) (X i d) : EReal) := by
  have h := sigm_apply x hX i d
  unfold forget
  pointwise
  rw [h]
  simp only [hL, ← EReal.coe_one, ← EReal.coe_sub, ← EReal.coe_mul, ← EReal.coe_add]
  rfl

include hL hX in
/-- keys, -/
theorem key_apply (i : Fin 64) (d : Fin 128) : key (F := Ideal) l x (ix2 i d) = ((1 - gate (L d) (X i d) : ℝ) : EReal) := by
  have h := forget_apply l x hL hX i d
  unfold key
  pointwise
  rw [h]
  simp only [← EReal.coe_one, ← EReal.coe_sub]

include hX in
/-- values, -/
theorem value_apply (i : Fin 64) (d : Fin 128) : value (F := Ideal) x (ix2 i d) = (X i d : EReal) := by
  unfold value tile
  pointwise
  exact hX i d

variable (h0 : ∀ d, 0 < L d) (h1 : ∀ d, L d < 1)

include hL hX h0 h1 in
theorem logs_apply (i : Fin 64) (d : Fin 128) : log (F := Ideal) (forget l x) (ix2 i d) = (Real.log (gate (L d) (X i d)) : EReal) := by
  have h := forget_apply l x hL hX i d
  pointwise
  rw [h, Ideal.log_coe, if_neg (not_le.2 (gate_pos (h0 d) (h1 d) _))]

/-- and running sums of log-gates. -/
theorem kept (p : Prop) [Decidable p] (r : ℝ) : (if p then (r : EReal) else 0) = ((if p then r else 0 : ℝ) : EReal) := by
  split_ifs <;> simp

include hL hX h0 h1 in
theorem cumF_apply (i : Fin 64) (d : Fin 128) :
    cumF (F := Ideal) l x (ix2 i d) = ((∑ j : Fin 64, if j.val ≤ i.val then Real.log (gate (L d) (X j d)) else 0 : ℝ) : EReal) := by
  unfold cumF
  rw [sumF_apply]
  simp only [logs_apply l x hL hX h0 h1, kept, coe_sum]
include hL hX h0 h1 in
theorem cumB_apply (i : Fin 64) (d : Fin 128) :
    cumB (F := Ideal) l x (ix2 i d) = ((∑ j : Fin 64, if i.val ≤ j.val then Real.log (gate (L d) (X j d)) else 0 : ℝ) : EReal) := by
  unfold cumB
  rw [sumB_apply]
  simp only [logs_apply l x hL hX h0 h1, kept, coe_sum]
end entries

end Cert.Hgf

end
-- ==== Proof.HgfRun.lean ====
/-
  THE GATED RECURRENCE, FORWARD: THE RUN. The kernel scans a head's 32 chunks in the two directions at once, four of each a
  trip, keeping the outputs of each direction in a scratch; then it adds the two, and takes the sum through the head's norm and
  the output gate. This module says what the scan leaves in the scratches and what the body leaves in the outputs.
-/
module

public import proofs.«01_k».proof.Proof.HgfTrip
public import proofs.«01_k».proof.Proof.Gen.KernelHgfIdeal.Frame
public import Idealize.ShloMosaic.Lib.Pipeline.ValueKit

@[expose] public section

set_option maxRecDepth 16384

noncomputable section

namespace Cert.Hgf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelHgfIdeal Cert.KernelHgfIdeal.Gen

variable {F : FTy → Type} [FloatOps F]

local notation "𝕄" => MT nD τ sig Unit (Elt F) ℕ (UR sig nD τ) ℕ

/-- A chunk's rows of a segment, and of a scratch. -/
theorem inb3 (c : Fin 32) : ∀ a, (![0, 64 * c.val, 0] : Fin 3 → ℕ) a + S1x64x128.size a ≤ S1x2048x128.size a := by
  intro a; revert c; revert a; decide
@[inherit_doc inb3] theorem inb2 (c : Fin 32) : ∀ a, (![64 * c.val, 0] : Fin 2 → ℕ) a + S64x128.size a ≤ S2048x128.size a := by
  intro a; revert c; revert a; decide
@[inherit_doc inb3] abbrev rC (c : Fin 32) : Rect S1x2048x128 := Rect.unit (s := S1x2048x128) ![0, 64 * c.val, 0] S1x64x128.size (inb3 c)
@[inherit_doc inb3] abbrev rR (c : Fin 32) : Rect S2048x128 := Rect.unit (s := S2048x128) ![64 * c.val, 0] S64x128.size (inb2 c)

/-- The chunk `n` from the sequence's end. -/
def rev (n : Fin 32) : Fin 32 := ⟨31 - n.val, by omega⟩

section scan
variable (v0 : Vec F S2x2x128 .f32) (q f g v : Vec F S1x2048x128 .f32)

/-- The states before the chunks, in each direction's order. -/
def sF : ℕ → State F
  | 0 => k0_pay188
  | n + 1 => if h : n < 32 then nextF (boundF v0) (View.ld f (rC ⟨n, h⟩)) (View.ld v (rC ⟨n, h⟩)) (sF n) else k0_pay188
@[inherit_doc sF] def sB : ℕ → State F
  | 0 => k0_pay188
  | n + 1 => if h : n < 32 then nextB (boundB v0) (View.ld g (rC (rev ⟨n, h⟩))) (View.ld v (rC (rev ⟨n, h⟩))) (sB n) else k0_pay188

/-- A chunk's outputs. -/
def wF (c : Fin 32) : Tile F := outF (boundF v0) (View.ld q (rC c)) (View.ld f (rC c)) (View.ld v (rC c)) (sF v0 f v c.val)
@[inherit_doc wF] def wB (c : Fin 32) : Tile F := outB (boundB v0) (View.ld q (rC c)) (View.ld g (rC c)) (View.ld v (rC c)) (sB v0 g v (rev c).val)

/-- The sequence's. -/
def allF : Vec F S2048x128 .f32 := fun y => wF v0 q f v ⟨(y 0).val / 64, by have := (y 0).isLt; have e : S2048x128.size 0 = 2048 := rfl; omega⟩
  (ix2 ⟨(y 0).val % 64, Nat.mod_lt _ (by decide)⟩ (y 1))
@[inherit_doc allF] def allB : Vec F S2048x128 .f32 := fun y => wB v0 q g v ⟨(y 0).val / 64, by have := (y 0).isLt; have e : S2048x128.size 0 = 2048 := rfl; omega⟩
  (ix2 ⟨(y 0).val % 64, Nat.mod_lt _ (by decide)⟩ (y 1))
end scan

/-- The chunk a trip's `j`th is. -/
def nth (k : Fin k0_t1_loop.trips) (j : Fin 4) : Fin 32 := ⟨4 * k.val + j.val, by
  have : k.val < 8 := Nat.lt_of_lt_of_le k.isLt k0_t1_abs.2.1
  omega⟩

theorem off1 (k : Fin k0_t1_loop.trips) (j : Fin 4) : k0_off1 k (BitVec.ofNat 32 j.val) = ![0, 64 * (nth k j).val, 0] := by
  revert k j; decide +kernel
theorem off2 (k : Fin k0_t1_loop.trips) (j : Fin 4) : k0_off2 k (BitVec.ofNat 32 j.val) = ![0, 64 * (rev (nth k j)).val, 0] := by
  revert k j; decide +kernel
theorem off3 (k : Fin k0_t1_loop.trips) (j : Fin 4) : k0_off3 k (BitVec.ofNat 32 j.val) = ![64 * (nth k j).val, 0] := by
  revert k j; decide +kernel
theorem off4 (k : Fin k0_t1_loop.trips) (j : Fin 4) : k0_off4 k (BitVec.ofNat 32 j.val) = ![64 * (rev (nth k j)).val, 0] := by
  revert k j; decide +kernel

theorem slab {off : Fin 3 → ℕ} {p : Fin 32} (h : off = ![0, 64 * p.val, 0]) (hin : ∀ a, off a + S1x64x128.size a ≤ S1x2048x128.size a)
    (arg : Memref sig .tc .vmem S1x2048x128 .f32) (X : BufTy.Contents (Elt F) arg.view.ty) :
    View.readAt (Elt F) arg.view (Rect.unit (s := S1x2048x128) off S1x64x128.size hin).toLoadRect X = View.ld (arg.view.read (Elt F) X) (rC p) := by
  subst h; rfl
theorem ldF_eq (arg : Memref sig .tc .vmem S1x2048x128 .f32) (X : BufTy.Contents (Elt F) arg.view.ty) (k : Fin k0_t1_loop.trips) (j : Fin 4) :
    ldF arg X k j = View.ld (arg.view.read (Elt F) X) (rC (nth k j)) := slab (off1 k j) _ arg X
theorem ldB_eq (arg : Memref sig .tc .vmem S1x2048x128 .f32) (X : BufTy.Contents (Elt F) arg.view.ty) (k : Fin k0_t1_loop.trips) (j : Fin 4) :
    ldB arg X k j = View.ld (arg.view.read (Elt F) X) (rC (rev (nth k j))) := slab (off2 k j) _ arg X

/-- A piece at a chunk's rows. -/
theorem piece {off : Fin 2 → ℕ} {p : Fin 32} (h : off = ![64 * p.val, 0]) (hin : ∀ a, off a + S64x128.size a ≤ S2048x128.size a) (w : Tile F) :
    (⟨Rect.unit (s := S2048x128) off S64x128.size hin, w⟩ : View.Piece (Elt F) S2048x128 .f32) = ⟨rR p, w⟩ := by
  subst h; rfl

section trip
variable (v0 : Vec F S2x2x128 .f32) (arg2 arg3 arg4 arg5 : Memref sig .tc .vmem S1x2048x128 .f32)
  (X2 : BufTy.Contents (Elt F) arg2.view.ty) (X3 : BufTy.Contents (Elt F) arg3.view.ty) (X4 : BufTy.Contents (Elt F) arg4.view.ty)
  (X5 : BufTy.Contents (Elt F) arg5.view.ty) (k : Fin k0_t1_loop.trips)

theorem stF_eq : ∀ n, n ≤ 4 → stF v0 arg3 arg5 X3 X5 k (sF v0 (arg3.view.read (Elt F) X3) (arg5.view.read (Elt F) X5) (4 * k.val)) n
    = sF v0 (arg3.view.read (Elt F) X3) (arg5.view.read (Elt F) X5) (4 * k.val + n)
  | 0, _ => rfl
  | n + 1, h => by
    have hk : k.val < 8 := Nat.lt_of_lt_of_le k.isLt k0_t1_abs.2.1
    have hn : n < 4 := h
    rw [stF, dif_pos hn, stF_eq n (by omega), ldF_eq, ldF_eq, ← Nat.add_assoc, sF, dif_pos (by omega)]
    rfl
theorem stB_eq : ∀ n, n ≤ 4 → stB v0 arg4 arg5 X4 X5 k (sB v0 (arg4.view.read (Elt F) X4) (arg5.view.read (Elt F) X5) (4 * k.val)) n
    = sB v0 (arg4.view.read (Elt F) X4) (arg5.view.read (Elt F) X5) (4 * k.val + n)
  | 0, _ => rfl
  | n + 1, h => by
    have hk : k.val < 8 := Nat.lt_of_lt_of_le k.isLt k0_t1_abs.2.1
    have hn : n < 4 := h
    rw [stB, dif_pos hn, stB_eq n (by omega), ldB_eq, ldB_eq, ← Nat.add_assoc, sB, dif_pos (by omega)]
    rfl

theorem pieceF_eq (j : Fin 4) : pieceF v0 arg2 arg3 arg5 X2 X3 X5 k (sF v0 (arg3.view.read (Elt F) X3) (arg5.view.read (Elt F) X5) (4 * k.val)) j
    = ⟨rR (nth k j), wF v0 (arg2.view.read (Elt F) X2) (arg3.view.read (Elt F) X3) (arg5.view.read (Elt F) X5) (nth k j)⟩ := by
  unfold pieceF
  rw [stF_eq v0 arg3 arg5 X3 X5 k j.val (by omega), ldF_eq, ldF_eq, ldF_eq]
  exact piece (off3 k j) _ _
theorem pieceB_eq (j : Fin 4) : pieceB v0 arg2 arg4 arg5 X2 X4 X5 k (sB v0 (arg4.view.read (Elt F) X4) (arg5.view.read (Elt F) X5) (4 * k.val)) j
    = ⟨rR (rev (nth k j)), wB v0 (arg2.view.read (Elt F) X2) (arg4.view.read (Elt F) X4) (arg5.view.read (Elt F) X5) (rev (nth k j))⟩ := by
  unfold pieceB
  rw [stB_eq v0 arg4 arg5 X4 X5 k j.val (by omega), ldB_eq, ldB_eq, ldB_eq]
  refine (piece (off4 k j) _ _).trans ?_
  have e : (rev (rev (nth k j))).val = 4 * k.val + j.val := by
    show 31 - (31 - (4 * k.val + j.val)) = _
    have := (nth k j).isLt
    have e : (nth k j).val = 4 * k.val + j.val := rfl
    omega
  unfold wB
  rw [e]
end trip

theorem apart {j p : Fin 32} (h : j ≠ p) (y : (rR j).shape.Idx) : (rR j).emb y ∉ (rR p).set := by
  refine (rR p).not_mem_set_of_axis _ (0 : Fin 2) (64 * p.val) 64 rfl rfl rfl ?_
  have hy : (y (0 : Fin 2)).val < 64 := (y (0 : Fin 2)).isLt
  have he : ((rR j).emb y (0 : Fin 2)).val = 64 * j.val + 1 * (y (0 : Fin 2)).val := rfl
  have hn : j.val ≠ p.val := fun hh => h (Fin.ext hh)
  rw [he]
  omega

/-- Writing chunks' pieces over a scratch: a chunk written holds its piece, -/
theorem hit {w : Fin 32 → Tile F} {v : View sig .tc .vmem S2048x128 .f32} {f : v.ty.Contents (Elt F)} (c p : Fin 32)
    {L : List (View.Piece (Elt F) S2048x128 .f32)} (h : c = p ∨ ∀ y, v.read (Elt F) (v.writes (Elt F) f L) ((rR c).emb y) = w c y) :
    ∀ y, v.read (Elt F) (v.writes (Elt F) f (⟨rR p, w p⟩ :: L)) ((rR c).emb y) = w c y := by
  intro y
  by_cases e : c = p
  · subst e
    exact View.read_writes_cons_emb v f (rR c) _ L y
  · exact (View.read_writes_cons_miss v f ⟨rR p, _⟩ L _ (apart e y)).trans ((h.resolve_left e) y)

/-- The scan before a trip: the state carried, and the chunks the scratches hold. -/
theorem scan (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S2x2x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole)
    (v0 : Vec F S2x2x128 .f32) (X2 : BufTy.Contents (Elt F) arg2.view.ty) (X3 : BufTy.Contents (Elt F) arg3.view.ty)
    (X4 : BufTy.Contents (Elt F) arg4.view.ty) (X5 : BufTy.Contents (Elt F) arg5.view.ty)
    (f11 : BufTy.Contents (Elt F) arg11.view.ty) (f12 : BufTy.Contents (Elt F) arg12.view.ty) (n : ℕ) (hn : n ≤ k0_t1_loop.trips) :
    (st_k0_t1 (F := F) 𝒱 c bd i arg2 harg2 arg3 harg3 arg4 harg4 arg5 harg5 arg6 harg6 arg7 harg7 arg8 harg8 arg9 harg9 arg10 harg10 arg11 harg11 arg12 harg12 v0 X2 X3 X4 X5 (k0_pay188, k0_pay188) n).1
      = (sF v0 (arg3.view.read (Elt F) X3) (arg5.view.read (Elt F) X5) (4 * n), sB v0 (arg4.view.read (Elt F) X4) (arg5.view.read (Elt F) X5) (4 * n))
    ∧ (∀ p : Fin 32, p.val < 4 * n → ∀ y, arg11.view.read (Elt F) (arg11.view.writes (Elt F) f11 (st_k0_t1 (F := F) 𝒱 c bd i arg2 harg2 arg3 harg3 arg4 harg4 arg5 harg5 arg6 harg6 arg7 harg7 arg8 harg8 arg9 harg9 arg10 harg10 arg11 harg11 arg12 harg12 v0 X2 X3 X4 X5 (k0_pay188, k0_pay188) n).2.1)
        ((rR p).emb y) = wF v0 (arg2.view.read (Elt F) X2) (arg3.view.read (Elt F) X3) (arg5.view.read (Elt F) X5) p y)
    ∧ (∀ p : Fin 32, (rev p).val < 4 * n → ∀ y, arg12.view.read (Elt F) (arg12.view.writes (Elt F) f12 (st_k0_t1 (F := F) 𝒱 c bd i arg2 harg2 arg3 harg3 arg4 harg4 arg5 harg5 arg6 harg6 arg7 harg7 arg8 harg8 arg9 harg9 arg10 harg10 arg11 harg11 arg12 harg12 v0 X2 X3 X4 X5 (k0_pay188, k0_pay188) n).2.2)
        ((rR p).emb y) = wB v0 (arg2.view.read (Elt F) X2) (arg4.view.read (Elt F) X4) (arg5.view.read (Elt F) X5) p y) := by
  induction n with
  | zero => exact ⟨rfl, fun p h => absurd h (Nat.not_lt_zero _), fun p h => absurd h (Nat.not_lt_zero _)⟩
  | succ n ih =>
    obtain ⟨e, hF, hB⟩ := ih (Nat.le_of_succ_le hn)
    have hs := st_k0_t1_succ (F := F) 𝒱 c bd i arg2 harg2 arg3 harg3 arg4 harg4 arg5 harg5 arg6 harg6 arg7 harg7 arg8 harg8 arg9 harg9 arg10 harg10 arg11 harg11 arg12 harg12 v0 X2 X3 X4 X5 (k0_pay188, k0_pay188) ⟨n, hn⟩
    rw [trip_state, trip_out, e] at hs
    dsimp only at hs
    rw [stF_eq v0 arg3 arg5 X3 X5 ⟨n, hn⟩ 4 (Nat.le_refl 4), stB_eq v0 arg4 arg5 X4 X5 ⟨n, hn⟩ 4 (Nat.le_refl 4)] at hs
    simp only [pieceF_eq v0 arg2 arg3 arg5 X2 X3 X5 ⟨n, hn⟩, pieceB_eq v0 arg2 arg4 arg5 X2 X4 X5 ⟨n, hn⟩] at hs
    rw [hs]
    refine ⟨rfl, fun p hp => ?_, fun p hp => ?_⟩
    · refine hit p (nth ⟨n, hn⟩ 3) ?_
      by_cases h3 : p = nth ⟨n, hn⟩ 3
      · exact .inl h3
      refine .inr (hit p (nth ⟨n, hn⟩ 2) ?_)
      by_cases h2 : p = nth ⟨n, hn⟩ 2
      · exact .inl h2
      refine .inr (hit p (nth ⟨n, hn⟩ 1) ?_)
      by_cases h1 : p = nth ⟨n, hn⟩ 1
      · exact .inl h1
      refine .inr (hit p (nth ⟨n, hn⟩ 0) ?_)
      by_cases h0 : p = nth ⟨n, hn⟩ 0
      · exact .inl h0
      refine .inr (hF p ?_)
      have g3 : p.val ≠ 4 * n + 3 := fun h => h3 (Fin.ext h)
      have g2 : p.val ≠ 4 * n + 2 := fun h => h2 (Fin.ext h)
      have g1 : p.val ≠ 4 * n + 1 := fun h => h1 (Fin.ext h)
      have g0 : p.val ≠ 4 * n + 0 := fun h => h0 (Fin.ext h)
      omega
    · refine hit p (rev (nth ⟨n, hn⟩ 3)) ?_
      by_cases h3 : p = rev (nth ⟨n, hn⟩ 3)
      · exact .inl h3
      refine .inr (hit p (rev (nth ⟨n, hn⟩ 2)) ?_)
      by_cases h2 : p = rev (nth ⟨n, hn⟩ 2)
      · exact .inl h2
      refine .inr (hit p (rev (nth ⟨n, hn⟩ 1)) ?_)
      by_cases h1 : p = rev (nth ⟨n, hn⟩ 1)
      · exact .inl h1
      refine .inr (hit p (rev (nth ⟨n, hn⟩ 0)) ?_)
      by_cases h0 : p = rev (nth ⟨n, hn⟩ 0)
      · exact .inl h0
      refine .inr (hB p ?_)
      have hv : (rev p).val = 31 - p.val := rfl
      have hp' := p.isLt
      have g3 : p.val ≠ 31 - (4 * n + 3) := fun h => h3 (Fin.ext h)
      have g2 : p.val ≠ 31 - (4 * n + 2) := fun h => h2 (Fin.ext h)
      have g1 : p.val ≠ 31 - (4 * n + 1) := fun h => h1 (Fin.ext h)
      have g0 : p.val ≠ 31 - (4 * n + 0) := fun h => h0 (Fin.ext h)
      omega

/-- A scratch whose chunks are known is known. -/
theorem gather (v : View sig .tc .vmem S2048x128 .f32) (g : v.ty.Contents (Elt F)) (w : Fin 32 → Tile F)
    (h : ∀ p y, v.read (Elt F) g ((rR p).emb y) = w p y) (y : S2048x128.Idx) :
    v.read (Elt F) g y = w ⟨(y 0).val / 64, by have := (y 0).isLt; have e : S2048x128.size 0 = 2048 := rfl; omega⟩ (ix2 ⟨(y 0).val % 64, Nat.mod_lt _ (by decide)⟩ (y 1)) := by
  refine Eq.trans (congrArg (v.read (Elt F) g) ?_) (h _ _)
  funext a
  refine Fin.ext ?_
  revert a
  refine Fin.forall_fin_two.2 ⟨?_, ?_⟩
  · show (y 0).val = 64 * ((y 0).val / 64) + 1 * ((y 0).val % 64)
    omega
  · show (y 1).val = 0 + 1 * (y 1).val
    omega

/-- After the last trip the scratches hold the two directions' outputs. -/
theorem scanned (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S2x2x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole)
    (v0 : Vec F S2x2x128 .f32) (X2 : BufTy.Contents (Elt F) arg2.view.ty) (X3 : BufTy.Contents (Elt F) arg3.view.ty)
    (X4 : BufTy.Contents (Elt F) arg4.view.ty) (X5 : BufTy.Contents (Elt F) arg5.view.ty)
    (f11 : BufTy.Contents (Elt F) arg11.view.ty) (f12 : BufTy.Contents (Elt F) arg12.view.ty) :
    arg11.view.read (Elt F) (arg11.view.writes (Elt F) f11 (st_k0_t1 (F := F) 𝒱 c bd i arg2 harg2 arg3 harg3 arg4 harg4 arg5 harg5 arg6 harg6 arg7 harg7 arg8 harg8 arg9 harg9 arg10 harg10 arg11 harg11 arg12 harg12 v0 X2 X3 X4 X5 (k0_pay188, k0_pay188) k0_t1_loop.trips).2.1)
      = allF v0 (arg2.view.read (Elt F) X2) (arg3.view.read (Elt F) X3) (arg5.view.read (Elt F) X5)
    ∧ arg12.view.read (Elt F) (arg12.view.writes (Elt F) f12 (st_k0_t1 (F := F) 𝒱 c bd i arg2 harg2 arg3 harg3 arg4 harg4 arg5 harg5 arg6 harg6 arg7 harg7 arg8 harg8 arg9 harg9 arg10 harg10 arg11 harg11 arg12 harg12 v0 X2 X3 X4 X5 (k0_pay188, k0_pay188) k0_t1_loop.trips).2.2)
      = allB v0 (arg2.view.read (Elt F) X2) (arg4.view.read (Elt F) X4) (arg5.view.read (Elt F) X5) := by
  obtain ⟨-, hF, hB⟩ := scan (F := F) 𝒱 c bd i arg2 harg2 arg3 harg3 arg4 harg4 arg5 harg5 arg6 harg6 arg7 harg7 arg8 harg8 arg9 harg9 arg10 harg10 arg11 harg11 arg12 harg12 v0 X2 X3 X4 X5 f11 f12 k0_t1_loop.trips (Nat.le_refl _)
  have e : k0_t1_loop.trips = 8 := by decide +kernel
  rw [e] at hF hB ⊢
  refine ⟨funext (gather _ _ _ fun p => hF p (by omega)), funext (gather _ _ _ fun p => hB p ?_)⟩
  show 31 - p.val < 4 * 8
  omega

end Cert.Hgf

end
-- ==== Proof.HgfScan.lean ====
/-
  THE GATED RECURRENCE, FORWARD: THE KERNEL'S SCAN READ. Over real projections and a lower bound between 0 and 1, the
  states the kernel carries and the outputs its chunks leave are those of the recurrence over the reals, in the sequence's
  order forward and in the opposite order backward.
-/
module

public import proofs.«01_k».proof.Proof.HgfPoint
public import proofs.«01_k».proof.Proof.HgfRun

@[expose] public section

set_option maxRecDepth 16384

noncomputable section

namespace Cert.Hgf

open Idealize.ShloMosaic Idealize.ShloMosaic.TcCoe
open Cert.KernelHgfIdeal Cert.KernelHgfIdeal.Gen
open Cert.Finite hiding S_

section
variable (L : Fin 128 → ℝ) (x : ℕ → Fin 128 → ℝ)
/-- The sequences of queries, keys and log-gates a projection gives. -/
def qs (t : ℕ) (d : Fin 128) : ℝ := x t d * sgr (x t d)
@[inherit_doc qs] def ks (t : ℕ) (d : Fin 128) : ℝ := 1 - gate (L d) (x t d)
@[inherit_doc qs] def gs (t : ℕ) (d : Fin 128) : ℝ := Real.log (gate (L d) (x t d))
end

section chunk
variable (l : Row Ideal) (q f v : Slab Ideal) (S : State Ideal) {L : Fin 128 → ℝ} {xq xf xv : ℕ → Fin 128 → ℝ} (b : ℕ)
  (hL : ∀ d, l (ix2 0 d) = (L d : EReal)) (h0 : ∀ d, 0 < L d) (h1 : ∀ d, L d < 1)
  (hS : ∀ e d, S (ix2 e d) = (carry (ks L xf) (gs L xf) xv b e d : EReal))

theorem head_sum {n : ℕ} (g : ℕ → ℝ) (i : Fin n) : (∑ j : Fin n, if j.val ≤ i.val then g j.val else 0) = ∑ s ∈ Finset.range (i.val + 1), g s := by
  rw [Fin.sum_univ_eq_sum_range (fun s => if s ≤ i.val then g s else 0) n, ← Finset.sum_filter]
  refine Finset.sum_congr (Finset.ext fun s => ?_) fun _ _ => rfl
  simp only [Finset.mem_filter, Finset.mem_range]
  omega

section forward
variable (hq : ∀ i d, q (ix3 0 i d) = (xq (b + i.val) d : EReal)) (hf : ∀ i d, f (ix3 0 i d) = (xf (b + i.val) d : EReal))
  (hv : ∀ i d, v (ix3 0 i d) = (xv (b + i.val) d : EReal))

include hL h0 h1 hf in
theorem cumF_seq (i : Fin 64) (d : Fin 128) : cumF (F := Ideal) l f (ix2 i d) = (chunk (gs L xf) b i.val d : EReal) :=
  (cumF_apply l f hL hf h0 h1 i d).trans (congrArg _ (head_sum (fun s => gs L xf (b + s) d) i))

include hL h0 h1 hq hf hv hS in
theorem outF_seq (i : Fin 64) (e : Fin 128) : outF (F := Ideal) l q f v S (ix2 i e) = (attend (qs xq) (ks L xf) (gs L xf) xv (b + i.val) e : EReal) := by
  unfold outF
  rw [outC_apply _ _ _ _ _ (query_apply q hq) (key_apply l f hL hf) (cumF_seq l f b hL h0 h1 hf) (value_apply v hv) hS maskF maskF_apply]
  exact congrArg _ (attend_chunk (qs xq) (ks L xf) (gs L xf) xv b i _ e)

include hL h0 h1 hf hv hS in
theorem nextF_seq (e d : Fin 128) : nextF (F := Ideal) l f v S (ix2 e d) = (carry (ks L xf) (gs L xf) xv (b + 64) e d : EReal) := by
  unfold nextF
  rw [nextC_apply _ _ _ _ (key_apply l f hL hf) (cumF_seq l f b hL h0 h1 hf) (value_apply v hv) hS _ (R := chunk (gs L xf) b 63) (fun d => by
    have h := cumF_seq l f b hL h0 h1 hf 63 d
    unfold lastRow
    pointwise
    exact h)]
  exact congrArg _ (carry_next (ks L xf) (gs L xf) xv b e d)
end forward

section backward
variable (hq : ∀ i d, q (ix3 0 i d) = (xq (b + (flip i).val) d : EReal)) (hf : ∀ i d, f (ix3 0 i d) = (xf (b + (flip i).val) d : EReal))
  (hv : ∀ i d, v (ix3 0 i d) = (xv (b + (flip i).val) d : EReal))

include hL h0 h1 hf in
theorem cumB_seq (i : Fin 64) (d : Fin 128) : cumB (F := Ideal) l f (ix2 i d) = (chunk (gs L xf) b (flip i).val d : EReal) := by
  refine (cumB_apply l f hL hf h0 h1 i d).trans (congrArg _ (Eq.trans ?_ (head_sum (fun s => gs L xf (b + s) d) (flip i))))
  refine Eq.trans (Finset.sum_congr rfl fun j _ => if_congr ?_ rfl rfl) (sum_flip fun j => if j.val ≤ (flip i).val then gs L xf (b + j.val) d else 0)
  simp only [flip]
  omega

include hL h0 h1 hq hf hv hS in
theorem outB_seq (i : Fin 64) (e : Fin 128) : outB (F := Ideal) l q f v S (ix2 i e) = (attend (qs xq) (ks L xf) (gs L xf) xv (b + (flip i).val) e : EReal) := by
  unfold outB
  rw [outC_apply _ _ _ _ _ (query_apply q hq) (key_apply l f hL hf) (cumB_seq l f b hL h0 h1 hf) (value_apply v hv) hS maskB
    (M := fun i j => (flip j).val ≤ (flip i).val) (fun i j => (maskB_apply i j).trans (congrArg _ (decide_eq_decide.2 (by simp only [flip]; omega))))]
  refine congrArg _ (Eq.trans ?_ (attend_chunk (qs xq) (ks L xf) (gs L xf) xv b (flip i) (chunk (gs L xf) b 31) e))
  refine congrArg₂ (· + ·) (Eq.trans ?_ (sum_flip fun j : Fin 64 => (if j.val ≤ (flip i).val then ∑ d, qs xq (b + (flip i).val) d * Real.exp (chunk (gs L xf) b (flip i).val d - chunk (gs L xf) b 31 d) * (ks L xf (b + j.val) d * Real.exp (chunk (gs L xf) b 31 d - chunk (gs L xf) b j.val d)) else 0) * xv (b + j.val) e)) rfl
  rfl

include hL h0 h1 hf hv hS in
theorem nextB_seq (e d : Fin 128) : nextB (F := Ideal) l f v S (ix2 e d) = (carry (ks L xf) (gs L xf) xv (b + 64) e d : EReal) := by
  unfold nextB
  rw [nextC_apply _ _ _ _ (key_apply l f hL hf) (cumB_seq l f b hL h0 h1 hf) (value_apply v hv) hS _ (R := chunk (gs L xf) b 63) (fun d => by
    have h := cumB_seq l f b hL h0 h1 hf 0 d
    unfold firstRow
    pointwise
    exact h)]
  refine congrArg _ (Eq.trans ?_ (carry_next (ks L xf) (gs L xf) xv b e d))
  exact congrArg₂ (· + ·) rfl (sum_flip fun s : Fin 64 => xv (b + s.val) e * (ks L xf (b + s.val) d * Real.exp (chunk (gs L xf) b 63 d - chunk (gs L xf) b s.val d)))
end backward
end chunk

section scan
variable (v0 : Vec Ideal S2x2x128 .f32) (q f v : Vec Ideal S1x2048x128 .f32) {L : Fin 128 → ℝ} {xq xf xv : ℕ → Fin 128 → ℝ}
  (h0 : ∀ d, 0 < L d) (h1 : ∀ d, L d < 1)

theorem start (e d : Fin 128) : k0_pay188 (F := Ideal) (ix2 e d) = 0 := by
  pointwise [k0_pay188]

theorem slab_apply (x : Vec Ideal S1x2048x128 .f32) (c : Fin 32) (i : Fin 64) (d : Fin 128) :
    View.ld x (rC c) (ix3 0 i d) = x (ix3 0 ⟨64 * c.val + i.val, by omega⟩ d) := by
  pointwise

section forward
variable (hL : ∀ d, boundF v0 (ix2 0 d) = (L d : EReal)) (hq : ∀ t d, q (ix3 0 t d) = (xq t.val d : EReal))
  (hf : ∀ t d, f (ix3 0 t d) = (xf t.val d : EReal)) (hv : ∀ t d, v (ix3 0 t d) = (xv t.val d : EReal))

include hL h0 h1 hf hv in
/-- The forward states. -/
theorem sF_apply : ∀ n, n ≤ 32 → ∀ e d, sF v0 f v n (ix2 e d) = (carry (ks L xf) (gs L xf) xv (64 * n) e d : EReal)
  | 0, _, e, d => (start e d).trans (by simp [carry])
  | n + 1, h, e, d => by
    rw [sF, dif_pos (show n < 32 from h)]
    exact nextF_seq _ _ _ _ (64 * n) hL h0 h1 (sF_apply n (by omega)) (fun i d => (slab_apply f _ i d).trans (hf _ d)) (fun i d => (slab_apply v _ i d).trans (hv _ d)) e d

include hL h0 h1 hq hf hv in
/-- The forward outputs. -/
theorem allF_apply (t : Fin 2048) (e : Fin 128) : allF v0 q f v (ix2 t e) = (attend (qs xq) (ks L xf) (gs L xf) xv t.val e : EReal) := by
  refine (outF_seq _ _ _ _ _ (64 * (t.val / 64)) hL h0 h1 (sF_apply v0 f v h0 h1 hL hf hv (t.val / 64) (by omega)) (fun i d => (slab_apply q _ i d).trans (hq _ d))
    (fun i d => (slab_apply f _ i d).trans (hf _ d)) (fun i d => (slab_apply v _ i d).trans (hv _ d)) ⟨t.val % 64, Nat.mod_lt _ (by decide)⟩ e).trans ?_
  rw [show 64 * (t.val / 64) + t.val % 64 = t.val by omega]
end forward

section backward
variable (hL : ∀ d, boundB v0 (ix2 0 d) = (L d : EReal)) (hq : ∀ t d, q (ix3 0 t d) = (xq (2047 - t.val) d : EReal))
  (hf : ∀ t d, f (ix3 0 t d) = (xf (2047 - t.val) d : EReal)) (hv : ∀ t d, v (ix3 0 t d) = (xv (2047 - t.val) d : EReal))

theorem slab_rev (x : Vec Ideal S1x2048x128 .f32) {y : ℕ → Fin 128 → ℝ} (hx : ∀ t d, x (ix3 0 t d) = (y (2047 - t.val) d : EReal)) (c : Fin 32) (n : ℕ) (hn : c.val + n = 31)
    (i : Fin 64) (d : Fin 128) : View.ld x (rC c) (ix3 0 i d) = (y (64 * n + (flip i).val) d : EReal) := by
  rw [slab_apply, hx]
  refine congrArg (fun k => (y k d : EReal)) ?_
  simp only [flip]
  omega

include hL h0 h1 hf hv in
/-- The backward states. -/
theorem sB_apply : ∀ n, n ≤ 32 → ∀ e d, sB v0 f v n (ix2 e d) = (carry (ks L xf) (gs L xf) xv (64 * n) e d : EReal)
  | 0, _, e, d => (start e d).trans (by simp [carry])
  | n + 1, h, e, d => by
    rw [sB, dif_pos (show n < 32 from h)]
    exact nextB_seq _ _ _ _ (64 * n) hL h0 h1 (sB_apply n (by omega)) (slab_rev f hf _ n (by simp only [rev]; omega)) (slab_rev v hv _ n (by simp only [rev]; omega)) e d

include hL h0 h1 hq hf hv in
/-- The backward outputs. -/
theorem allB_apply (t : Fin 2048) (e : Fin 128) : allB v0 q f v (ix2 t e) = (attend (qs xq) (ks L xf) (gs L xf) xv (2047 - t.val) e : EReal) := by
  refine (outB_seq _ _ _ _ _ (64 * (31 - t.val / 64)) hL h0 h1 (sB_apply v0 f v h0 h1 hL hf hv (31 - t.val / 64) (by omega))
    (slab_rev q hq _ _ (by change t.val / 64 + (31 - t.val / 64) = 31; omega)) (slab_rev f hf _ _ (by change t.val / 64 + (31 - t.val / 64) = 31; omega)) (slab_rev v hv _ _ (by change t.val / 64 + (31 - t.val / 64) = 31; omega)) ⟨t.val % 64, Nat.mod_lt _ (by decide)⟩ e).trans ?_
  rw [show 64 * (31 - t.val / 64) + (flip ⟨t.val % 64, Nat.mod_lt _ (by decide)⟩).val = 2047 - t.val by simp only [flip]; omega]
end backward
end scan

end Cert.Hgf

end
-- ==== Proof.HgfLaunch.lean ====
/-
  THE GATED RECURRENCE, FORWARD: THE LAUNCH. The body's scan fills the two scratches; the body adds them into the first
  output and takes the sum through the head's norm and the output gate into the second. This module runs the launch and
  names both outputs' blocks.
-/
module

public import proofs.«01_k».proof.Proof.HgfRun

@[expose] public section

set_option maxRecDepth 16384

noncomputable section

namespace Cert.Hgf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelHgfIdeal Cert.KernelHgfIdeal.Gen

variable {F : FTy → Type} [FloatOps F]

local notation "𝕄" => MT nD τ sig Unit (Elt F) ℕ (UR sig nD τ) ℕ

/-- The body's accesses of whole blocks. -/
abbrev rL : Rect S2x2x128 := Rect.unit (s := S2x2x128) ![0, 0, 0] S2x2x128.size inb_S2x2x128_S2x2x128_0_0_0
@[inherit_doc rL] abbrev rT : Rect S2048x128 := Rect.unit (s := S2048x128) ![0, 0] S2048x128.size inb_S2048x128_S2048x128_0_0
@[inherit_doc rL] abbrev rO : Rect S1x2048x128 := Rect.unit (s := S1x2048x128) ![0, 0, 0] S1x2048x128.size inb_S1x2048x128_S1x2048x128_0_0_0
@[inherit_doc rL] abbrev rG : Rect S1x128 := Rect.unit (s := S1x128) ![0, 0] S1x128.size inb_S1x128_S1x128_0_0

section outputs
variable (x0 x1 x2 x3 x4 : Vec F S1x2048x128 .f32) (x5 : Vec F S2x2x128 .f32) (x6 : Vec F S1x128 .f32)

/-- The two directions' outputs as the body reads them back, -/
def sA : Vec F S2048x128 .f32 := View.ld (allF (View.ld x5 rL) x0 x1 x3) rT
@[inherit_doc sA] def sC : Vec F S2048x128 .f32 := View.ld (allB (View.ld x5 rL) x0 x2 x3) rT
/-- and what the body leaves. -/
def outO : Vec F S2048x128 .f32 := k0_pay195 (sA x0 x1 x3 x5) (sC x0 x2 x3 x5)
@[inherit_doc outO] def outY : Vec F S2048x128 .bf16 := k0_pay1 (k0_pay196 (View.ld x4 rO)) (k0_pay197 (sA x0 x1 x3 x5) (sC x0 x2 x3 x5)) (View.ld x6 rG)
end outputs

/-- A store over a whole buffer leaves what it stored. -/
theorem full {σ : RefSig} {sp : Space} {s : Shape} {e : EltTy} (v : View σ .tc sp s e) (f : v.ty.Contents (Elt F)) (off : Fin s.rank → ℕ) (h0 : ∀ a, off a = 0)
    (hin : ∀ a, off a + s.size a ≤ s.size a) (w : s.Idx → Elt F e) :
    v.read (Elt F) (v.writes (Elt F) f [⟨Rect.unit (s := s) off s.size hin, w⟩]) = w := by
  funext y
  refine View.read_writes_cons_hit_of_coords v f (Rect.unit (s := s) off s.size hin) w [] y y fun a => ?_
  show (y a).val = off a + 1 * (y a).val
  rw [h0]; omega

set_option maxHeartbeats 1000000 in
/-- The body: from the inputs' blocks to the outputs' blocks, the scratches at anything before and after. -/
theorem run (c : Dev nD) (E : Set ℕ) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S2x2x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole)
    (x0 x1 x2 x3 x4 : Vec F S1x2048x128 .f32) (x5 : Vec F S2x2x128 .f32) (x6 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (outO x0 x1 x2 x3 x5) ∗ owns (c : Thread nD τ) arg10 fullShare (outY x0 x1 x2 x3 x4 x5 x6)
            ∗ (∃ d, owns (c : Thread nD τ) arg11 fullShare d) ∗ (∃ d, owns (c : Thread nD τ) arg12 fullShare d)) -∗ K ⟨⟩))
      ⊢ wp frame (wpE (defs₀ (F := F)) Variants.none c none) E (cc0_hgrn_fwd i arg2 harg2 arg3 harg3 arg4 harg4 arg5 harg5 arg6 harg6 arg7 harg7 arg8 harg8 arg9 harg9 arg10 harg10 arg11 harg11 arg12 harg12) K := by
  simp only [cc0_hgrn_fwd_eq_skeleton]; unfold cc0_hgrn_fwd_skel
  simp only [k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  have h := scanned (F := F) Variants.none c none i arg2 harg2 arg3 harg3 arg4 harg4 arg5 harg5 arg6 harg6 arg7 harg7 arg8 harg8 arg9 harg9 arg10 harg10 arg11 harg11 arg12 harg12 (View.ld (arg7.view.read (Elt F) f5) rL) f0 f1 f2 f3 fs0 fs1
  have hA : run.sl.v16 (F := F) c i arg2 harg2 arg3 harg3 arg4 harg4 arg5 harg5 arg6 harg6 arg7 harg7 arg8 harg8 arg9 harg9 arg10 harg10 arg11 harg11 arg12 harg12 f0 f1 f2 f3 f5 fs0 = sA (arg2.view.read (Elt F) f0) (arg3.view.read (Elt F) f1) (arg5.view.read (Elt F) f3) (arg7.view.read (Elt F) f5) := by
    unfold run.sl.v16 sA
    rw [← h.1]
    rfl
  have hC : run.sl.v17 (F := F) c i arg2 harg2 arg3 harg3 arg4 harg4 arg5 harg5 arg6 harg6 arg7 harg7 arg8 harg8 arg9 harg9 arg10 harg10 arg11 harg11 arg12 harg12 f0 f1 f2 f3 f5 fs1 = sC (arg2.view.read (Elt F) f0) (arg4.view.read (Elt F) f2) (arg5.view.read (Elt F) f3) (arg7.view.read (Elt F) f5) := by
    unfold run.sl.v17 sC
    rw [← h.2]
    rfl
  have hR : run.sl.r_1 (F := F) c i arg2 harg2 arg3 harg3 arg4 harg4 arg5 harg5 arg6 harg6 arg7 harg7 arg8 harg8 arg9 harg9 arg10 harg10 arg11 harg11 arg12 harg12 f0 f1 f2 f3 f5 fs0 fs1
      = k0_pay197 (sA (arg2.view.read (Elt F) f0) (arg3.view.read (Elt F) f1) (arg5.view.read (Elt F) f3) (arg7.view.read (Elt F) f5)) (sC (arg2.view.read (Elt F) f0) (arg4.view.read (Elt F) f2) (arg5.view.read (Elt F) f3) (arg7.view.read (Elt F) f5)) := by
    unfold run.sl.r_1
    rw [hA, hC]
  rw [hA, hC, hR]
  isplitl [H7]
  · iexists _; isplitr; swap; · iexact H7
    ipureintro
    exact full arg9.view f7 ![0, 0] (by decide) _ _
  isplitl [H8]
  · iexists _; isplitr; swap; · iexact H8
    ipureintro
    exact full arg10.view f8 ![0, 0] (by decide) _ _
  isplitl [HS0]
  · iexists _, _; isplitr; swap; · iexact HS0
    ipureintro; rfl
  iexists _, _; isplitr; swap; · iexact HS1
  ipureintro; rfl

variable (m : (ℓ : Loc nD τ sig) → Buf (Elt F) ℓ) (ρ : Dev nD → PrngReg)

/-- The proof data: the inputs' blocks stay, the outputs' are the body's; each of the five segments has its share of the
    projections' array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outO (iblk m c 0 t) (iblk m c 1 t) (iblk m c 2 t) (iblk m c 3 t) (iblk m c 5 t)
    | ⟨8, _⟩ => outY (iblk m c 0 t) (iblk m c 1 t) (iblk m c 2 t) (iblk m c 3 t) (iblk m c 4 t) (iblk m c 5 t) (iblk m c 6 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outO (iblk m c 0 t) (iblk m c 1 t) (iblk m c 2 t) (iblk m c 3 t) (iblk m c 5 t) := by dsimp only [dats]
theorem after0_8 (c : Dev nD) (t : Fin cfg0.N) : (dats m 0 c).after 8 t = outY (iblk m c 0 t) (iblk m c 1 t) (iblk m c 2 t) (iblk m c 3 t) (iblk m c 4 t) (iblk m c 5 t) (iblk m c 6 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- The scratches and the generator's register, as the body has them. -/
theorem own (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]

/-- What the body owns at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, own]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every weakly fair execution ends with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

end Cert.Hgf

end
-- ==== Proof.HgfValue.lean ====
/-
  THE GATED RECURRENCE, FORWARD: THE KERNEL. This module reads the two arrays `KernelHgfIdeal` leaves, element by element:
  a head's outputs in the two directions added up, and that sum through the head's norm and the output gate.
-/
module

public import proofs.«01_k».proof.Proof.HgfScan
public import proofs.«01_k».proof.Proof.HgfLaunch

@[expose] public section

set_option maxRecDepth 16384

noncomputable section

namespace Cert.Hgf

open Idealize.ShloMosaic Idealize.ShloMosaic.TcCoe Idealize.SL.Sem
open Idealize.ShloMosaic.Pipeline (Dat)
open Cert.KernelHgfIdeal Cert.KernelHgfIdeal.Gen
open Cert.Finite hiding S_

/-- The projections' and the logits' arrays. -/
abbrev Proj (R : Type) := (⟨3, ![2, 2048, 8192]⟩ : Shape).Idx → R
@[inherit_doc Proj] abbrev Logits (R : Type) := (⟨3, ![2, 2, 1024]⟩ : Shape).Idx → R

/-- Channel `d` of head `h`, and of that head in segment `s`. -/
def chan (h : Fin 8) (d : Fin 128) : Fin 1024 := ⟨128 * h.val + d.val, by omega⟩
@[inherit_doc chan] def col (s h : Fin 8) (d : Fin 128) : Fin 8192 := ⟨1024 * s.val + (128 * h.val + d.val), by omega⟩

section spec
variable (p : Proj ℝ) (l : Logits ℝ) (b : Fin 2) (h : Fin 8)

/-- A head's tokens in a segment, in the sequence's order and from its end. -/
def seq (s : Fin 8) (n : ℕ) (d : Fin 128) : ℝ := if hn : n < 2048 then p (ix3 b ⟨n, hn⟩ (col s h d)) else 0
@[inherit_doc seq] def seqR (s : Fin 8) (n : ℕ) (d : Fin 128) : ℝ := seq p b h s (2047 - n) d
/-- The lower bound of direction `r`. -/
def low (r : Fin 2) (d : Fin 128) : ℝ := sgr (l (ix3 r 0 (chan h d)) - l (ix3 r 1 (chan h d)))
/-- A head's output at a token: the two directions'. -/
def both (t : Fin 2048) (e : Fin 128) : ℝ :=
  attend (qs (seq p b h 0)) (ks (low l h 0) (seq p b h 1)) (gs (low l h 0) (seq p b h 1)) (seq p b h 3) t.val e
  + attend (qs (seqR p b h 0)) (ks (low l h 1) (seqR p b h 2)) (gs (low l h 1) (seqR p b h 2)) (seqR p b h 3) (2047 - t.val) e
end spec

/-- The head's norm and the output gate: `o` a token's output, `g` the gain, `z` the gate's channel. -/
def gated (o : Fin 128 → EReal) (g z : EReal) (e : Fin 128) : EReal :=
  o e * Ideal.rsqrt (Ideal.div (∑ k : Fin 128, o k * o k) (Ideal.ofBits .f32 0x43000000#32) + Ideal.ofBits .f32 0x358637BD#32) * g
    * (z * Ideal.div 1 (1 + Ideal.exp (-z)))

section blocks
variable (x0 x1 x2 x3 x4 : Vec Ideal S1x2048x128 .f32) (x5 : Vec Ideal S2x2x128 .f32) (x6 : Vec Ideal S1x128 .f32)
  {p : Proj ℝ} {l : Logits ℝ} {b : Fin 2} {h : Fin 8}
  (e0 : ∀ t d, x0 (ix3 0 t d) = (p (ix3 b t (col 0 h d)) : EReal)) (e1 : ∀ t d, x1 (ix3 0 t d) = (p (ix3 b t (col 1 h d)) : EReal))
  (e2 : ∀ t d, x2 (ix3 0 t d) = (p (ix3 b t (col 2 h d)) : EReal)) (e3 : ∀ t d, x3 (ix3 0 t d) = (p (ix3 b t (col 3 h d)) : EReal))
  (e5 : ∀ r k d, x5 (ix3 r k d) = (l (ix3 r k (chan h d)) : EReal))

theorem fwd_seq {x : Vec Ideal S1x2048x128 .f32} {s : Fin 8} (e : ∀ t d, x (ix3 0 t d) = (p (ix3 b t (col s h d)) : EReal)) (t : Fin 2048) (d : Fin 128) :
    x (ix3 0 t d) = (seq p b h s t.val d : EReal) := by
  rw [e]; unfold seq; rw [dif_pos t.isLt]
theorem bwd_seq {x : Vec Ideal S1x2048x128 .f32} {s : Fin 8} (e : ∀ t d, x (ix3 0 t d) = (p (ix3 b t (col s h d)) : EReal)) (t : Fin 2048) (d : Fin 128) :
    x (ix3 0 t d) = (seqR p b h s (2047 - t.val) d : EReal) := by
  rw [fwd_seq e]; unfold seqR; rw [show 2047 - (2047 - t.val) = t.val by omega]

include e5 in
theorem low_apply (r : Fin 2) (d : Fin 128) : k0_pay187 (F := Ideal) (View.ld x5 rL) (ix2 r d) = (low l h r d : EReal) := by
  pointwise [k0_pay187]
  simp only [e5, ← EReal.coe_sub, zero_sub]
  exact sg_coe _
include e5 in
theorem boundF_apply (d : Fin 128) : boundF (F := Ideal) (View.ld x5 rL) (ix2 0 d) = (low l h 0 d : EReal) := by
  refine Eq.trans ?_ (low_apply x5 e5 0 d)
  unfold boundF
  pointwise
include e5 in
theorem boundB_apply (d : Fin 128) : boundB (F := Ideal) (View.ld x5 rL) (ix2 0 d) = (low l h 1 d : EReal) := by
  refine Eq.trans ?_ (low_apply x5 e5 1 d)
  unfold boundB
  pointwise

include e0 e1 e2 e3 e5 in
theorem outO_apply (t : Fin 2048) (e : Fin 128) : outO (F := Ideal) x0 x1 x2 x3 x5 (ix2 t e) = (both p l b h t e : EReal) := by
  unfold outO sA sC
  pointwise [k0_pay195]
  rw [allF_apply _ _ _ _ (fun _ => sgr_pos _) (fun _ => sgr_lt _) (boundF_apply x5 e5) (fwd_seq e0) (fwd_seq e1) (fwd_seq e3),
    allB_apply _ _ _ _ (fun _ => sgr_pos _) (fun _ => sgr_lt _) (boundB_apply x5 e5) (bwd_seq e0) (bwd_seq e2) (bwd_seq e3), ← EReal.coe_add]
  rfl

include e0 e1 e2 e3 e5 in
theorem outY_apply (t : Fin 2048) (e : Fin 128) : outY (F := Ideal) x0 x1 x2 x3 x4 x5 x6 (ix2 t e)
    = gated (fun k => (both p l b h t k : EReal)) (x6 (ix2 0 e)) (x4 (ix3 0 t e)) e := by
  have ho := outO_apply x0 x1 x2 x3 x5 e0 e1 e2 e3 e5 t
  unfold outO at ho
  unfold outY gated
  generalize sA x0 x1 x3 x5 = A at ho ⊢
  generalize sC x0 x2 x3 x5 = B at ho ⊢
  pointwise [k0_pay1, k0_pay196, k0_pay197]
  simp only [ho, zero_sub]
end blocks

section kernel
variable (m : (ℓ : Loc nD τ sig) → Buf (Elt Ideal) ℓ) (c : Dev nD) (t : Fin cfg0.N)

theorem idx : ∀ t : Fin cfg0.N, win0_0.index t = ![0, t.val / 8, t.val % 8] ∧ win0_1.index t = ![1, t.val / 8, t.val % 8]
    ∧ win0_2.index t = ![2, t.val / 8, t.val % 8] ∧ win0_3.index t = ![3, t.val / 8, t.val % 8] ∧ win0_4.index t = ![4, t.val / 8, t.val % 8]
    ∧ win0_5.index t = ![0, 0, t.val % 8] ∧ win0_6.index t = ![0, t.val % 8] ∧ win0_7.index t = ![t.val / 8, t.val % 8] ∧ win0_8.index t = ![t.val / 8, t.val % 8] :=
  (by decide +kernel : ∀ t : Fin grid0.N, _)

theorem lt16 : t.val < 16 := lt_of_lt_of_eq t.isLt N_0

/-- A grid point's sequence and head. -/
def seqOf : Fin 2 := ⟨t.val / 8, by have := lt16 t; omega⟩
@[inherit_doc seqOf] def headOf : Fin 8 := ⟨t.val % 8, by omega⟩

/-- The blocks at a point, over the arguments. -/
theorem blk0 (x : Fin 2048) (d : Fin 128) (q : Fin 8192) (hq : q.val = 1024 * 0 + (128 * (t.val % 8) + d.val)) :
    iblk m c 0 t (ix3 0 x d) = m ((c : Thread nD τ).loc main_arg0) (ix3 (seqOf t) x q) := by
  have := lt16 t
  unfold seqOf
  blk_point [iblk, V, idx t]
@[inherit_doc blk0] theorem blk1 (x : Fin 2048) (d : Fin 128) (q : Fin 8192) (hq : q.val = 1024 * 1 + (128 * (t.val % 8) + d.val)) :
    iblk m c 1 t (ix3 0 x d) = m ((c : Thread nD τ).loc main_arg0) (ix3 (seqOf t) x q) := by
  have := lt16 t
  unfold seqOf
  blk_point [iblk, V, idx t]
@[inherit_doc blk0] theorem blk2 (x : Fin 2048) (d : Fin 128) (q : Fin 8192) (hq : q.val = 1024 * 2 + (128 * (t.val % 8) + d.val)) :
    iblk m c 2 t (ix3 0 x d) = m ((c : Thread nD τ).loc main_arg0) (ix3 (seqOf t) x q) := by
  have := lt16 t
  unfold seqOf
  blk_point [iblk, V, idx t]
@[inherit_doc blk0] theorem blk3 (x : Fin 2048) (d : Fin 128) (q : Fin 8192) (hq : q.val = 1024 * 3 + (128 * (t.val % 8) + d.val)) :
    iblk m c 3 t (ix3 0 x d) = m ((c : Thread nD τ).loc main_arg0) (ix3 (seqOf t) x q) := by
  have := lt16 t
  unfold seqOf
  blk_point [iblk, V, idx t]
@[inherit_doc blk0] theorem blk4 (x : Fin 2048) (d : Fin 128) (q : Fin 8192) (hq : q.val = 1024 * 4 + (128 * (t.val % 8) + d.val)) :
    iblk m c 4 t (ix3 0 x d) = m ((c : Thread nD τ).loc main_arg0) (ix3 (seqOf t) x q) := by
  have := lt16 t
  unfold seqOf
  blk_point [iblk, V, idx t]
@[inherit_doc blk0] theorem blk5 (r k : Fin 2) (d : Fin 128) : iblk m c 5 t (ix3 r k d) = m ((c : Thread nD τ).loc main_arg1) (ix3 r k (chan (headOf t) d)) := by
  unfold chan headOf
  blk_point [iblk, V, idx t]
@[inherit_doc blk0] theorem blk6 (d : Fin 128) : iblk m c 6 t (ix2 0 d) = m ((c : Thread nD τ).loc main_arg2) (ix1 (chan (headOf t) d)) := by
  unfold chan headOf
  blk_point [iblk, V, idx t]

section finals
variable {p : Proj ℝ} {l : Logits ℝ} (hp : m ((c : Thread nD τ).loc main_arg0) = fun i => (p i : EReal)) (hl : m ((c : Thread nD τ).loc main_arg1) = fun i => (l i : EReal))

/-- A row's sequence and token, and a channel's head and channel of the head. -/
def rowSeq (r : Fin 4096) : Fin 2 := ⟨r.val / 2048, by omega⟩
@[inherit_doc rowSeq] def rowTok (r : Fin 4096) : Fin 2048 := ⟨r.val % 2048, by omega⟩
@[inherit_doc rowSeq] def chanHead (k : Fin 1024) : Fin 8 := ⟨k.val / 128, by omega⟩
@[inherit_doc rowSeq] def chanCh (k : Fin 1024) : Fin 128 := ⟨k.val % 128, by omega⟩

include hp hl in
/-- The recurrence's outputs after the run. -/
theorem final7 : (dats m 0 c).arrAt 7 cfg0.N = fun j : Shape.Idx S4096x1024 => (both p l (rowSeq (j 0)) (chanHead (j 1)) (rowTok (j 0)) (chanCh (j 1)) : EReal) := by
  refine (dats m 0 c).arrAt_eq_of_covers 7 _ (by decide +kernel) fun t hf y => ?_
  have := lt16 t
  blk_simp
  rw [after0_7]
  have y0 : (y 0).val < 2048 := (y 0).isLt
  have y1 : (y 1).val < 128 := (y 1).isLt
  have h0 : rowSeq (((cfg0.win 7).blk t).view.emb y 0) = seqOf t := Fin.ext (by unfold rowSeq seqOf; blk_simp [idx t]; dsimp only; omega)
  have h1 : chanHead (((cfg0.win 7).blk t).view.emb y 1) = headOf t := Fin.ext (by unfold chanHead headOf; blk_simp [idx t]; dsimp only; omega)
  have h2 : rowTok (((cfg0.win 7).blk t).view.emb y 0) = y 0 := Fin.ext (by unfold rowTok; blk_simp [idx t]; dsimp only; omega)
  have h3 : chanCh (((cfg0.win 7).blk t).view.emb y 1) = y 1 := Fin.ext (by unfold chanCh; blk_simp [idx t]; dsimp only; omega)
  rw [h0, h1, h2, h3]
  exact (congrArg _ (eq_ix2 y)).trans (outO_apply _ _ _ _ _ (fun x d => (blk0 m c t x d _ rfl).trans (congrFun hp _)) (fun x d => (blk1 m c t x d _ rfl).trans (congrFun hp _))
    (fun x d => (blk2 m c t x d _ rfl).trans (congrFun hp _)) (fun x d => (blk3 m c t x d _ rfl).trans (congrFun hp _)) (fun r k d => (blk5 m c t r k d).trans (congrFun hl _)) (y 0) (y 1))

include hp hl in
/-- They through the norm and the gate. -/
theorem final8 : (dats m 0 c).arrAt 8 cfg0.N = fun j : Shape.Idx S4096x1024 =>
    gated (fun k => (both p l (rowSeq (j 0)) (chanHead (j 1)) (rowTok (j 0)) k : EReal)) (m ((c : Thread nD τ).loc main_arg2) (ix1 (j 1)))
      (m ((c : Thread nD τ).loc main_arg0) (ix3 (rowSeq (j 0)) (rowTok (j 0)) ⟨4096 + (j 1).val, by have : (j 1).val < 1024 := (j 1).isLt; omega⟩)) (chanCh (j 1)) := by
  refine (dats m 0 c).arrAt_eq_of_covers 8 _ (by decide +kernel) fun t hf y => ?_
  have := lt16 t
  blk_simp
  rw [after0_8]
  have y0 : (y 0).val < 2048 := (y 0).isLt
  have y1 : (y 1).val < 128 := (y 1).isLt
  have h0 : rowSeq (((cfg0.win 8).blk t).view.emb y 0) = seqOf t := Fin.ext (by unfold rowSeq seqOf; blk_simp [idx t]; dsimp only; omega)
  have h1 : chanHead (((cfg0.win 8).blk t).view.emb y 1) = headOf t := Fin.ext (by unfold chanHead headOf; blk_simp [idx t]; dsimp only; omega)
  have h2 : rowTok (((cfg0.win 8).blk t).view.emb y 0) = y 0 := Fin.ext (by unfold rowTok; blk_simp [idx t]; dsimp only; omega)
  have h3 : chanCh (((cfg0.win 8).blk t).view.emb y 1) = y 1 := Fin.ext (by unfold chanCh; blk_simp [idx t]; dsimp only; omega)
  have h4 : ((cfg0.win 8).blk t).view.emb y 1 = chan (headOf t) (y 1) := Fin.ext (by unfold chan headOf; blk_simp [idx t]; dsimp only; omega)
  rw [h0, h1, h2, h3]
  refine (congrArg _ (eq_ix2 y)).trans ((outY_apply _ _ _ _ _ _ _ (fun x d => (blk0 m c t x d _ rfl).trans (congrFun hp _)) (fun x d => (blk1 m c t x d _ rfl).trans (congrFun hp _))
    (fun x d => (blk2 m c t x d _ rfl).trans (congrFun hp _)) (fun x d => (blk3 m c t x d _ rfl).trans (congrFun hp _)) (fun r k d => (blk5 m c t r k d).trans (congrFun hl _)) (y 0) (y 1)).trans ?_)
  exact congrArg₂ (fun a b => gated (fun k => (both p l (seqOf t) (headOf t) (y 0) k : EReal)) a b (y 1))
    ((blk6 m c t (y 1)).trans (congrArg (fun k => m ((c : Thread nD τ).loc main_arg2) (ix1 k)) h4.symm))
    (blk4 m c t (y 0) (y 1) _ (by blk_simp [idx t]; dsimp only; omega))
end finals
end kernel

end Cert.Hgf

end
-- ==== Proof.HgfRef.lean ====
/-
  THE GATED RECURRENCE, FORWARD: THE REFERENCE. The reference sums, for every token, over every token before it; it takes
  the backward direction by reversing the sequence. This module reads its two results element by element.
-/
module

public import proofs.«01_k».proof.Proof.HgfValue
public import proofs.«01_k».proof.Proof.Window
public import proofs.«01_k».proof.Proof.Gen.ReferenceHgfIdeal.Run

@[expose] public section

set_option maxRecDepth 16384

noncomputable section

namespace Cert.Hgf

open Idealize.ShloMosaic Idealize.ShloMosaic.TcCoe Idealize.SL.Sem
open Idealize.ShloMosaic.StableHlo
open Cert.ReferenceHgfIdeal Cert.ReferenceHgfIdeal.Gen
open Cert.Finite hiding S_

/-- Per-head arrays and scores. -/
abbrev Heads := FVec Ideal S2x8x2048x128 .f32
@[inherit_doc Heads] abbrev Pairs := FVec Ideal S2x8x2048x2048 .f32

/-- An array per token, over the pairs' first token, and over their second. -/
abbrev fst (x : Heads) : FVec Ideal S2x8x2048x2048x128 .f32 :=
  broadcastInDim S2x8x2048x2048x128 ![0, 1, 2, 3, 4] bcast_S2x8x2048x1x128_S2x8x2048x2048x128_0_1_2_3_4 (broadcastInDim S2x8x2048x1x128 ![0, 1, 2, 4] bcast_S2x8x2048x128_S2x8x2048x1x128_0_1_2_4 x)
@[inherit_doc fst] abbrev snd (x : Heads) : FVec Ideal S2x8x2048x2048x128 .f32 :=
  broadcastInDim S2x8x2048x2048x128 ![0, 1, 2, 3, 4] bcast_S2x8x1x2048x128_S2x8x2048x2048x128_0_1_2_3_4 (broadcastInDim S2x8x1x2048x128 ![0, 1, 3, 4] bcast_S2x8x2048x128_S2x8x1x2048x128_0_1_3_4 x)
/-- The scores of all pairs, -/
def cross (q k b : Heads) : Pairs :=
  Host.reduceAdd (mulf (mulf (fst q) (snd k)) (Host.exp (subf (fst b) (snd b)))) (constant S_ .f32 0x00000000#32) reducesTo_S2x8x2048x2048x128_S2x8x2048x2048_d4 h_S_
/-- those of the pairs in order, -/
def tri : IVec S2x8x2048x2048 1 :=
  broadcastInDim S2x8x2048x2048 ![2, 3] bcast_S2048x2048_S2x8x2048x2048_2_3 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1)))
/-- and the values weighted by them. -/
def recur (q k b v : Heads) : Heads :=
  Host.dotGeneral (F := Ideal) (φ₁ := .f32) (φ₂ := .f32) dot_S2x8x2048x2048_S2x8x2048x128_S2x8x2048x128_3_2_2_3_01_01 none (select tri (cross q k b) (broadcastInDim S2x8x2048x2048 ![] bcast_S_S2x8x2048x2048 (id (constant S_ .f32 0x00000000#32)))) v
/-- An array less than one. -/
def less (x : Heads) : Heads := subf (broadcastInDim S2x8x2048x128 ![] bcast_S_S2x8x2048x128 (constant S_ .f32 0x3F800000#32)) x
/-- The log-gates summed along the sequence. -/
def along (x : Heads) : Heads :=
  Host.reduceWindowAdd ![1, 1, 2048, 1] ![1, 1, 1, 1] ![0, 0, 2047, 0] ![0, 0, 0, 0] (Host.log x) (broadcastInDim S_ ![] bcast_S_S_ (constant S_ .f32 0x00000000#32)) reduceWindows_S2x8x2048x128_S2x8x2048x128_w1s1p0_0_w1s1p0_0_w2048s1p2047_0_w1s1p0_0 h_S_

/-- The windows' shape: one token axis of 2048. -/
abbrev Wd : Shape := ⟨4, ![1, 1, 2048, 1]⟩

theorem window_apply (L H : ℕ) (x : Heads) (i : FVec Ideal S_ .f32)
    (h : S2x8x2048x128.ReduceWindows ![1, 1, 2048, 1] ![1, 1, 1, 1] ![0, 0, L, 0] ![0, 0, H, 0] S2x8x2048x128) (hu : 0 < S_.numel)
    (hi : i = fun _ => 0) (b : Fin 2) (g : Fin 8) (t : Fin 2048) (k : Fin 128) :
    Host.reduceWindowAdd ![1, 1, 2048, 1] ![1, 1, 1, 1] ![0, 0, L, 0] ![0, 0, H, 0] x i h hu (ix4 b g t k)
      = ∑ s : Fin 2048, if t.val ≤ s.val + L ∧ s.val + L < t.val + 2048 then x (ix4 b g s k) else 0 := by
  subst hi
  refine Eq.trans ?_ (Cert.Pool.window_sum L t fun s => x (ix4 b g s k))
  unfold Host.reduceWindowAdd
  rw [Ideal.hostReduceWindowAdd_def]
  unfold Ideal.hostReduceWindowAdd Host.reduceWindow
  dsimp only
  rw [Cert.Pool.foldl_sum]
  let q : Wd.Idx ≃ Fin 2048 := ⟨fun w => w 2, fun n => ix4 0 0 n 0, fun w => by
    refine Eq.trans ?_ (eq_ix4 w).symm
    have e0 : (0 : Fin 1) = w 0 := Subsingleton.elim (α := Fin 1) _ _
    have e1 : (0 : Fin 1) = w 1 := Subsingleton.elim (α := Fin 1) _ _
    have e3 : (0 : Fin 1) = w 3 := Subsingleton.elim (α := Fin 1) _ _
    rw [← e0, ← e1, ← e3], fun n => rfl⟩
  refine (Fintype.sum_equiv ((Wd.rowMajor.symm.trans q).symm) _ _ fun v => ?_).symm
  have ev : (⟨4, ![1, 1, 2048, 1]⟩ : Shape).rowMajor.symm ((Wd.rowMajor.symm.trans q).symm v) = ix4 0 0 v 0 :=
    Wd.rowMajor.symm_apply_apply _
  simp only [ev]
  by_cases hv : L ≤ t.val + v.val ∧ t.val + v.val - L < 2048
  · rw [dif_pos hv, dif_pos]
    · refine congrArg x (funext fun a => Fin.ext ?_)
      fin_cases a <;> simp
    · intro a
      fin_cases a
      · simpa using b.isLt
      · simpa using g.isLt
      · simpa using hv
      · simpa using k.isLt
  · rw [dif_neg hv, dif_neg]
    exact fun h => hv (by simpa using h 2)

theorem cross_apply (q k b : Heads) (B : Fin 2) (h : Fin 8) (t s : Fin 2048) :
    cross q k b (ix4 B h t s) = ∑ d : Fin 128, q (ix4 B h t d) * k (ix4 B h s d) * Ideal.exp (b (ix4 B h t d) - b (ix4 B h s d)) := by
  unfold cross
  pointwise

theorem tri_apply (B : Fin 2) (h : Fin 8) (t s : Fin 2048) : tri (ix4 B h t s) = BitVec.ofBool (decide (s.val ≤ t.val)) := by
  unfold tri
  pointwise
  have ht : (BitVec.ofNat 32 t.val).toInt = t.val := by rw [BitVec.toInt_ofNat']; simp only [Int.bmod]; omega
  have hs : (BitVec.ofNat 32 s.val).toInt = s.val := by rw [BitVec.toInt_ofNat']; simp only [Int.bmod]; omega
  by_cases h : s.val ≤ t.val
  · rw [decide_eq_true h]
    simp [IntOp.cmpi, IntOp.addi, BitVec.sle, ht, hs, h, Scalar.select]
  · rw [decide_eq_false h]
    simp [IntOp.cmpi, IntOp.addi, BitVec.sle, ht, hs, h, Scalar.select]

theorem recur_apply (q k b v : Heads) (B : Fin 2) (h : Fin 8) (t : Fin 2048) (e : Fin 128) :
    recur q k b v (ix4 B h t e) = ∑ s : Fin 2048, (if s.val ≤ t.val then cross q k b (ix4 B h t s) else 0) * v (ix4 B h s e) := by
  unfold recur
  pointwise
  simp only [tri_apply]
  refine Finset.sum_congr rfl fun s _ => congrArg (· * _) ?_
  by_cases hs : s.val ≤ t.val
  · rw [decide_eq_true hs, if_pos hs]; rfl
  · rw [decide_eq_false hs, if_neg hs]
    refine Eq.trans ?_ (show Ideal.ofBits .f32 0x00000000#32 = 0 from by simp [Ideal.ofBits, Ideal.ieee])
    rfl

section heads
variable (q k b v : Heads) (B : Fin 2) (h : Fin 8) {Q K G V : ℕ → Fin 128 → ℝ}

/-- A running sum of log-gates. -/
theorem along_apply (hG : ∀ t d, 0 < G t d) (hb : ∀ t d, b (ix4 B h t d) = (G t.val d : EReal)) (t : Fin 2048) (d : Fin 128) :
    along b (ix4 B h t d) = (pre (fun n d => Real.log (G n d)) (t.val + 1) d : EReal) := by
  have hl : ∀ s : Fin 2048, Host.log (F := Ideal) (φ := .f32) b (ix4 B h s d) = (Real.log (G s.val d) : EReal) := fun s => by
    pointwise
    rw [hb, Ideal.log_coe, if_neg (not_le.2 (hG _ _))]
  unfold along
  rw [window_apply 2047 0 _ _ _ _ (by funext j; pointwise)]
  simp only [hl, kept, coe_sum]
  refine congrArg _ (Eq.trans (Finset.sum_congr rfl fun s _ => if_congr ?_ rfl rfl) (head_sum (fun n => Real.log (G n d)) t))
  omega

/-- The masked sums are the recurrence's outputs. -/
theorem recur_seq (hq : ∀ t d, q (ix4 B h t d) = (Q t.val d : EReal)) (hk : ∀ t d, k (ix4 B h t d) = (K t.val d : EReal))
    (hb : ∀ t d, b (ix4 B h t d) = (pre G (t.val + 1) d : EReal)) (hv : ∀ t d, v (ix4 B h t d) = (V t.val d : EReal)) (t : Fin 2048) (e : Fin 128) :
    recur q k b v (ix4 B h t e) = (attend Q K G V t.val e : EReal) := by
  rw [recur_apply]
  simp only [cross_apply, hq, hk, hb, hv, ← EReal.coe_sub, Ideal.exp_coe, ← EReal.coe_mul, coe_sum, kept]
  refine congrArg _ (Eq.trans (Finset.sum_congr rfl fun s _ => ?_) (head_sum (fun s => score Q K G t.val s * V s e) t))
  rw [ite_mul, zero_mul]
  rfl
end heads

variable (V0 : Valuation τ sig (Elt Ideal))

theorem v109 : Value.res_main_v109 V0 = addf (recur (Value.res_main_v20 V0) (less (Value.res_main_v42 V0)) (along (Value.res_main_v42 V0)) (Value.res_main_v22 V0))
    (Host.reverse [2] (recur (Host.reverse [2] (Value.res_main_v20 V0)) (less (Value.res_main_v86 V0)) (along (Value.res_main_v86 V0)) (Host.reverse [2] (Value.res_main_v22 V0)))) := by
  unfold Value.res_main_v109 Value.res_main_v66 Value.res_main_v90 recur tri cross less along
  rfl

section entries
variable {p : Proj ℝ} {l : Logits ℝ} (hp : V0 (Proc.devRef .tc main_arg0) = fun i => (p i : EReal)) (hl : V0 (Proc.devRef .tc main_arg1) = fun i => (l i : EReal))
  (B : Fin 2) (h : Fin 8)

theorem at_seq (s : Fin 8) (t : Fin 2048) (d : Fin 128) (q : Fin 8192) (hq : q.val = 1024 * s.val + (128 * h.val + d.val)) : p (ix3 B t q) = seq p B h s t.val d := by
  unfold seq col
  rw [dif_pos t.isLt]
  exact congrArg (fun q => p (ix3 B t q)) (Fin.ext hq)

theorem at_low (r : Fin 2) (d : Fin 128) (k : Fin 1024) (hk : k.val = 128 * h.val + d.val) : sgr (l (ix3 r 0 k) - l (ix3 r 1 k)) = low l h r d := by
  unfold low
  rw [show k = chan h d from Fin.ext hk]

theorem turned (x : Heads) (t : Fin 2048) (d : Fin 128) : Host.reverse [2] x (ix4 B h t d) = x (ix4 B h ⟨2047 - t.val, by omega⟩ d) := by
  pointwise
  change x (ix4 B h t.rev d) = _
  exact congrArg (fun t => x (ix4 B h t d)) (Fin.ext (by simp only [Fin.val_rev]; omega))

theorem gate_coe (a f : ℝ) : (a : EReal) + (1 - (a : EReal)) * Ideal.div 1 (1 + Ideal.exp (-(f : EReal))) = (gate a f : EReal) := by
  rw [sg_coe, ← EReal.coe_one, ← EReal.coe_sub, ← EReal.coe_mul, ← EReal.coe_add]
  rfl

include hp in
theorem v20 (t : Fin 2048) (d : Fin 128) : Value.res_main_v20 V0 (ix4 B h t d) = (qs (seq p B h 0) t.val d : EReal) := by
  unfold Value.res_main_v20 Value.res_main_v0
  rw [hp]
  pointwise
  rw [at_seq (p := p) B h 0 t d _ (by dsimp only; omega), sg_coe, ← EReal.coe_mul]
  rfl

include hp in
theorem v22 (t : Fin 2048) (d : Fin 128) : Value.res_main_v22 V0 (ix4 B h t d) = (seq p B h 3 t.val d : EReal) := by
  unfold Value.res_main_v22
  rw [hp]
  pointwise
  rw [at_seq (p := p) B h 3 t d _ (by dsimp only; omega)]

section
variable (hv : ∀ r k, Value.res_main_v17 V0 (ix2 r k) = (sgr (l (ix3 r 0 k) - l (ix3 r 1 k)) : EReal))

include hp hv in
theorem v42 (t : Fin 2048) (d : Fin 128) : Value.res_main_v42 V0 (ix4 B h t d) = (gate (low l h 0 d) (seq p B h 1 t.val d) : EReal) := by
  unfold Value.res_main_v42
  rw [hp]
  pointwise
  simp only [hv]
  rw [at_seq (p := p) B h 1 t d _ (by dsimp only; omega), at_low (l := l) h 0 d _ (by dsimp only; omega)]
  exact gate_coe _ _

include hp hv in
theorem v86 (t : Fin 2048) (d : Fin 128) : Value.res_main_v86 V0 (ix4 B h t d) = (gate (low l h 1 d) (seqR p B h 2 t.val d) : EReal) := by
  unfold Value.res_main_v86
  rw [hp, turned]
  pointwise
  simp only [hv]
  rw [at_seq (p := p) B h 2 _ d _ (by dsimp only; omega), at_low (l := l) h 1 d _ (by dsimp only; omega)]
  exact gate_coe _ _

theorem less_apply (x : Heads) {g : ℝ} (t : Fin 2048) (d : Fin 128) (hx : x (ix4 B h t d) = (g : EReal)) : less x (ix4 B h t d) = ((1 - g : ℝ) : EReal) := by
  unfold less
  pointwise
  rw [hx, ← EReal.coe_one, ← EReal.coe_sub]

include hp hv in
/-- The recurrence's outputs. -/
theorem v109_apply (t : Fin 2048) (e : Fin 128) : Value.res_main_v109 V0 (ix4 B h t e) = (both p l B h t e : EReal) := by
  rw [v109, addf_apply, turned,
    recur_seq (K := ks (low l h 0) (seq p B h 1)) (G := gs (low l h 0) (seq p B h 1)) _ _ _ _ B h (v20 V0 hp B h) (fun t d => less_apply B h _ t d (v42 V0 hp B h hv t d)) (along_apply (G := fun t d => gate (low l h 0 d) (seq p B h 1 t d)) _ B h (fun _ _ => gate_pos (sgr_pos _) (sgr_lt _) _) (v42 V0 hp B h hv)) (v22 V0 hp B h),
    recur_seq (Q := qs (seqR p B h 0)) (K := ks (low l h 1) (seqR p B h 2)) (G := gs (low l h 1) (seqR p B h 2)) (V := seqR p B h 3) _ _ _ _ B h (fun t d => (turned B h _ t d).trans (v20 V0 hp B h _ d)) (fun t d => less_apply B h _ t d (v86 V0 hp B h hv t d))
      (along_apply (G := fun t d => gate (low l h 1 d) (seqR p B h 2 t d)) _ B h (fun _ _ => gate_pos (sgr_pos _) (sgr_lt _) _) (v86 V0 hp B h hv)) (fun t d => (turned B h _ t d).trans (v22 V0 hp B h _ d))]
  exact (EReal.coe_add _ _).symm
end

/-! ## The lower bounds -/

/-- The greater of a bound's two logits is real. -/
theorem top_real (a : Logits ℝ) (r : Fin 2) (k : Fin 1024) : ∃ M : ℝ, maximumf (F := Ideal) (φ := .f32) (broadcastInDim S2x1024 ![] bcast_S_S2x1024 (constant S_ .f32 0xFF800000#32))
    (Host.reduce FloatOps.maximumf (fun i => (a i : EReal)) (constant S_ .f32 0xFF800000#32) reducesTo_S2x2x1024_S2x1024_d1 h_S_) (ix2 r k) = (M : EReal) := by
  refine ⟨max (a (ix3 r 0 k)) (a (ix3 r 1 k)), ?_⟩
  have hb : Ideal.ofBits FTy.f32 0xFF800000#32 = ⊥ := by simp [Ideal.ofBits, Ideal.ieee]
  pointwise
  rw [hb, show (Finset.univ : Finset (Fin 2)) = {0, 1} from rfl]
  simp
  exact (EReal.coe_strictMono.monotone.map_max).symm

include hl in
/-- The softmax's first row is the logistic function of the logits' difference. -/
theorem v17 (r : Fin 2) (k : Fin 1024) : Value.res_main_v17 V0 (ix2 r k) = (sgr (l (ix3 r 0 k) - l (ix3 r 1 k)) : EReal) := by
  obtain ⟨M, hM⟩ := top_real l r k
  have h11 : ∀ j : Fin 2, Value.res_main_v11 V0 (ix3 r j k) = (Real.exp (l (ix3 r j k) - M) : EReal) := fun j => by
    unfold Value.res_main_v11
    rw [hl]
    generalize maximumf (F := Ideal) (φ := .f32) (broadcastInDim S2x1024 ![] bcast_S_S2x1024 (constant S_ .f32 0xFF800000#32))
      (Host.reduce FloatOps.maximumf (fun i => (l i : EReal)) (constant S_ .f32 0xFF800000#32) reducesTo_S2x2x1024_S2x1024_d1 h_S_) = T at hM ⊢
    pointwise
    rw [hM, ← EReal.coe_sub, Ideal.exp_coe]
  unfold Value.res_main_v17
  pointwise
  simp only [Fin.sum_univ_two, h11]
  rw [← EReal.coe_add, Ideal.div_coe (by positivity), ← EReal.coe_mul, sgr_sub _ _ M, one_div, div_eq_mul_inv]

include hp hl in
/-- The first result: the recurrence's outputs, a row per token. -/
theorem rows_apply (r : Fin 4096) (k : Fin 1024) :
    shapeCast S4096x1024 (transpose S2x2048x8x128 [0, 2, 1, 3] (Value.res_main_v109 V0) transposes_S2x8x2048x128_S2x2048x8x128_0_2_1_3) shapeCasts_S2x2048x8x128_S4096x1024 (ix2 r k)
      = (both p l (rowSeq r) (chanHead k) (rowTok r) (chanCh k) : EReal) := by
  have h := fun B h => v109_apply V0 hp B h (v17 V0 hl)
  generalize Value.res_main_v109 V0 = X at h ⊢
  pointwise
  exact h _ _ _ _

/-- The second result's terms of the first's. -/
def through (o : Heads) (z : FVec Ideal S2x2048x1024 .f32) (g : FVec Ideal S1024 .f32) : FVec Ideal S4096x1024 .bf16 :=
  truncf .bf16 (shapeCast _ (mulf (mulf (shapeCast _ (transpose S2x2048x8x128 [0, 2, 1, 3] (mulf o (broadcastInDim S2x8x2048x128 ![0, 1, 2, 3] bcast_S2x8x2048x1_S2x8x2048x128_0_1_2_3 (Host.rsqrt (addf (Host.divf (broadcastInDim S2x8x2048x1 ![0, 1, 2] bcast_S2x8x2048_S2x8x2048x1_0_1_2 (Host.reduceAdd (mulf o o) (constant S_ .f32 0x00000000#32) reducesTo_S2x8x2048x128_S2x8x2048_d3 h_S_)) (broadcastInDim S2x8x2048x1 ![] bcast_S_S2x8x2048x1 (constant S_ .f32 0x43000000#32))) (broadcastInDim S2x8x2048x1 ![] bcast_S_S2x8x2048x1 (constant S_ .f32 0x358637BD#32)))))) transposes_S2x8x2048x128_S2x2048x8x128_0_2_1_3) shapeCasts_S2x2048x8x128_S2x2048x1024) (broadcastInDim S2x2048x1024 ![0, 1, 2] bcast_S1x1x1024_S2x2048x1024_0_1_2 (broadcastInDim S1x1x1024 ![2] bcast_S1024_S1x1x1024_2 g))) (mulf z (Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf z)))))) shapeCasts_S2x2048x1024_S4096x1024) bitsLt_bf16_f32

/-- The second result: they through the norm and the gate. -/
theorem through_apply (o : Heads) (z : FVec Ideal S2x2048x1024 .f32) (g : FVec Ideal S1024 .f32) (r : Fin 4096) (k : Fin 1024) :
    through o z g (ix2 r k) = gated (fun e => o (ix4 (rowSeq r) (chanHead k) (rowTok r) e)) (g (ix1 k)) (z (ix3 (rowSeq r) (rowTok r) k)) (chanCh k) := by
  unfold through gated
  pointwise
  rfl
end entries

end Cert.Hgf

end
-- ==== Proof.Hgf.lean ====
/-
  THE FORWARD RECURRENCE. The kernel walks a sequence in chunks of 64 tokens, two heads' directions at once, and the reference
  token by token: both are the same sums over the tokens before and after. The machine's program and the real-valued one have
  one text, and one run gives both their frames.
-/
module

public import proofs.«01_k».proof.Defs
public import proofs.«01_k».proof.Proof.HgfRef
public import proofs.«01_k».proof.Proof.Gen.KernelHgf.Frame
public import proofs.«01_k».proof.Proof.Gen.KernelHgf.Skeleton
public import proofs.«01_k».proof.Proof.Gen.Pre_finite_hgf
public import Idealize.ShloMosaic.Lib.Claim

@[expose] public section

set_option maxRecDepth 16384

noncomputable section

namespace Cert.Hgf

open Idealize.ShloMosaic Idealize.ShloMosaic.TcCoe Idealize.ShloMosaic.StableHlo Idealize.SL.Sem
open Cert.Finite hiding S_

section

variable {F : FTy → Type} [FloatOps F]

set_option maxHeartbeats 400000

/-- The two programs are one text. -/
theorem rows : @Cert.KernelHgf.defs₀ F _ Cert.KernelHgf.Gen.facts = @Cert.KernelHgfIdeal.defs₀ F _ Cert.KernelHgfIdeal.Gen.facts := by
  unfold Cert.KernelHgf.defs₀ Cert.KernelHgfIdeal.defs₀
  refine congrArg Defs.onTc ?_
  funext l x
  match l, x with
  | 0, (t, s) => rfl
  | ⟨_ + 1, h⟩, _ => exact absurd h (Nat.not_lt.2 (Nat.le_add_left _ _))
@[inherit_doc rows] theorem table : @Cert.KernelHgf.defs F _ Cert.KernelHgf.Gen.facts = @Cert.KernelHgfIdeal.defs F _ Cert.KernelHgfIdeal.Gen.facts := by
  unfold Cert.KernelHgf.defs Cert.KernelHgfIdeal.defs
  rw [rows]
  rfl
@[inherit_doc rows] theorem body : @Cert.KernelHgf.main F _ = @Cert.KernelHgfIdeal.main F _ := rfl

end

/-- Both programs' frames. -/
theorem frameB : Cert.quiescent_KernelHgf (hKernelHgf := Cert.KernelHgf.Gen.facts) := fun m ρ _ => by
  rw [table, body]
  exact θ_run_and (Cert.KernelHgfIdeal.Gen.frame_of (F := Bits) m ρ (dats m) (A_eq m) (run_main m ρ))
    ((θ_run _ _ _).mono (fun _ h => h.2) (run_main_quiescent m ρ))
@[inherit_doc frameB] theorem frameI : Cert.quiescent_KernelHgfIdeal (hKernelHgfIdeal := Cert.KernelHgfIdeal.Gen.facts) := fun m ρ _ =>
  θ_run_and (Cert.KernelHgfIdeal.Gen.frame_of m ρ (dats m) (A_eq m) (run_main m ρ)) ((θ_run _ _ _).mono (fun _ h => h.2) (run_main_quiescent m ρ))

/-- The precondition says that every element of the projection and of the bounds' logits is a real number. -/
theorem finite [Cert.Pre_finite_hgf.Facts] {a0 a1 a2 : FVec Ideal _ .f32}
    (h : Cert.Pre_finite_hgf.fn (F := Ideal) a0 a1 a2 = fun _ => 1#1) : Real a0 ∧ Real a1 := by
  obtain ⟨h0, h1⟩ := andi_split h
  exact ⟨real_of_all _ _ _ _ h0, real_of_all _ _ _ _ h1⟩

/-- The gate's segment of the projection. -/
theorem hz (V0 : Valuation Cert.ReferenceHgfIdeal.τ Cert.ReferenceHgfIdeal.sig (Elt Ideal)) {p : Proj ℝ} (hp : V0 (Proc.devRef .tc Cert.ReferenceHgfIdeal.main_arg0) = fun i => (p i : EReal))
    (b : Fin 2) (t : Fin 2048) (k : Fin 1024) : Cert.ReferenceHgfIdeal.Value.res_main_v4 V0 (ix3 b t k) = (p (ix3 b t ⟨4096 + k.val, by omega⟩) : EReal) := by
  unfold Cert.ReferenceHgfIdeal.Value.res_main_v4
  rw [hp]
  pointwise

theorem algebraic : Cert.algebraic_KernelHgfIdeal_ReferenceHgfIdeal_pre_finite_hgf
    (hKernelHgfIdeal := Cert.KernelHgfIdeal.Gen.facts) (hReferenceHgfIdeal := Cert.ReferenceHgfIdeal.Gen.facts)
    (hPre_finite_hgf := Cert.Pre_finite_hgf.Gen.facts) := by
  intro m g m' g' hpre hagree
  have hp := fun c => lift (finite (hpre c)).1
  have hl := fun c => lift (finite (hpre c)).2
  choose p hp using hp
  choose l hl using hl
  refine ⟨_, _, (θ_run _ _ _).mono (fun r h c => ⟨((h.1 c).1 7).trans (final7 m c (hp c) (hl c)), ((h.1 c).1 8).trans (final8 m c (hp c) (hl c)), h.2 c⟩)
    (θ_run_and (run_main m g) (Cert.KernelHgfIdeal.Gen.frame_of m g (dats m) (A_eq m) (run_main m g))), ?_⟩
  refine (θ_run _ _ _).mono (fun r h c => ?_) (Cert.ReferenceHgfIdeal.Value.run m' g')
  obtain ⟨e0, e1, kept⟩ := h c
  obtain ⟨h0, h1, h2⟩ := hagree c
  have hp' : launchContents m' c (Proc.devRef .tc Cert.ReferenceHgfIdeal.main_arg0) = fun i => (p c i : EReal) := h0.trans (hp c)
  have hl' : launchContents m' c (Proc.devRef .tc Cert.ReferenceHgfIdeal.main_arg1) = fun i => (l c i : EReal) := h1.trans (hl c)
  have hg' : launchContents m' c (Proc.devRef .tc Cert.ReferenceHgfIdeal.main_arg2) = m (c.tc.loc Cert.KernelHgfIdeal.main_arg2) := h2
  have hv := fun B h => v109_apply (launchContents m' c) hp' B h (v17 (launchContents m' c) hl')
  refine ⟨e0.trans ?_, e1.trans ?_, kept⟩
  · funext j
    idx_vars j
    exact rows_apply (launchContents m' c) hp' hl' j0 j1
  · funext j
    idx_vars j
    refine (through_apply _ _ _ j0 j1).trans ?_
    rw [hg', hz (launchContents m' c) hp', hp c]
    exact congrArg (fun o => gated o _ _ _) (funext fun e => hv _ _ _ e)

end Cert.Hgf

end
-- ==== Proof.Adam.lean ====
/-
  ADAMW. `KernelAdamIdeal` updates a weight's two moments and forms its step, tile by tile; the reference is the same lines
  over the whole array. So the three results are read element by element, and the claim needs no precondition.
-/
module

public import proofs.«01_k».proof.Defs
public import Idealize.ShloMosaic.Lib.Pipeline.ValueKit
public import proofs.«01_k».proof.Proof.Gen.KernelAdamIdeal.Value
public import proofs.«01_k».proof.Proof.Gen.ReferenceAdamIdeal.Run

@[expose] public section

set_option maxRecDepth 16384

noncomputable section

namespace Cert.Adam

open Idealize.ShloMosaic Idealize.ShloMosaic.TcCoe Idealize.SL.Sem
open Cert.KernelAdamIdeal Cert.KernelAdamIdeal.Gen Cert.KernelAdamIdeal.Value

theorem algebraic : Cert.algebraic_KernelAdamIdeal_ReferenceAdamIdeal
    (hKernelAdamIdeal := Cert.KernelAdamIdeal.Gen.facts) (hReferenceAdamIdeal := Cert.ReferenceAdamIdeal.Gen.facts) := by
  intro m g m' g' _ hagree
  refine ⟨fun c => G4 (m ((c : Thread nD τ).loc main_arg0)) (m ((c : Thread nD τ).loc main_arg1)) (m ((c : Thread nD τ).loc main_arg2))
      (m ((c : Thread nD τ).loc main_arg3)),
    fun c => G5 (m ((c : Thread nD τ).loc main_arg1)) (m ((c : Thread nD τ).loc main_arg2)),
    fun c => G6 (m ((c : Thread nD τ).loc main_arg1)) (m ((c : Thread nD τ).loc main_arg3)), Cert.KernelAdamIdeal.Value.run m g, ?_⟩
  refine (θ_run _ _ _).mono (fun r h c => ?_) (Cert.ReferenceAdamIdeal.Value.run m' g')
  obtain ⟨e0, e1, e2, kept⟩ := h c
  obtain ⟨h0, h1, h2, h3⟩ := hagree c
  rw [h0, h1, h2, h3] at e0
  rw [h1, h2] at e1
  rw [h1, h3] at e2
  refine ⟨e0.trans ?_, e1.trans ?_, e2.trans ?_, kept⟩ <;> rfl

end Cert.Adam

end
-- ==== Proof.Dy.lean ====
/-
  THE PRODUCT BY A TRANSPOSED WEIGHT. `KernelDyIdeal` multiplies a branch's gradient, tile by tile of 512 rowens, by its
  weight's transpose. The reference is the product's derivative over the whole batch: the same sum over the weight's
  columns at every entry, so the claim needs no precondition.
-/
module

public import proofs.«01_k».proof.Defs
public import Idealize.ShloMosaic.Lib.Pipeline.ValueKit
public import proofs.«01_k».proof.Proof.Gen.KernelDyIdeal.Value
public import proofs.«01_k».proof.Proof.Gen.ReferenceDyIdeal.Run

@[expose] public section

set_option maxRecDepth 16384

noncomputable section

namespace Cert.Dy

open Idealize.ShloMosaic Idealize.ShloMosaic.TcCoe Idealize.SL.Sem
open Idealize.ShloMosaic.Pipeline (Dat)
open Cert.KernelDyIdeal Cert.KernelDyIdeal.Gen

/-- Token `r` of an array over the batch, the two sequences one after the other. -/
def row {n : Nat} (a : (⟨3, ![2, 2048, n]⟩ : Shape).Idx → EReal) (r : Fin 4096) (k : Fin n) : EReal :=
  a (ix3 ⟨r.val / 2048, by omega⟩ ⟨r.val % 2048, by omega⟩ k)

/-- The gradient that reaches channel `l` at rowen `r`. -/
def back (z : FVec Ideal S2x2048x1024 .f32) (w : FVec Ideal S1024x1024 .f32) (r : Fin 4096) (l : Fin 1024) : EReal :=
  ∑ k : Fin 1024, row z r k * w (ix2 l k)

variable (m : (ℓ : Loc nD τ sig) → Buf (Elt Ideal) ℓ)

theorem idx : ∀ t : Fin cfg0.N, win0_0.index t = ![0, t.val, 0] ∧ win0_1.index t = ![0, 0] ∧ win0_2.index t = ![t.val, 0] :=
  (by decide +kernel : ∀ t : Fin grid0.N, _)

variable (c : Dev nD) (t : Fin cfg0.N)

/-- Token `x` of point `t`'s tile. -/
def at_ (x : Fin 512) : Fin 4096 := ⟨t.val * 512 + x.val, by have := t.isLt; have : cfg0.N = 8 := rfl; omega⟩

/-- The result over the arguments. -/
def mD : Fin 4096 → Fin 1024 → EReal := back (m ((c : Thread nD τ).loc main_arg0)) (m ((c : Thread nD τ).loc main_arg2))

/-- The tiles at a point, over the arguments. -/
theorem blk0 (x : Fin 512) (k : Fin 1024) : iblk m c 0 t (ix3 0 x k) = row (m ((c : Thread nD τ).loc main_arg0)) (at_ t x) k := by
  have e : ((cfg0.win 0).blk t).view.emb (ix3 0 x k) = ix3 0 (at_ t x) k := by blk_ext! [idx t, at_]
  unfold iblk V
  rw [View.read_apply, e]
  entry_read
  pointwise
  rfl

@[inherit_doc blk0] theorem blk1 (l k : Fin 1024) : iblk m c 1 t (ix2 l k) = m ((c : Thread nD τ).loc main_arg2) (ix2 l k) := by
  blk_point [iblk, V, idx t]

/-- The product's tile at a point. -/
theorem tile (x : Fin 512) (l : Fin 1024) :
    k0_pay1 (F := Ideal) (View.ld (iblk m c 0 t) r0_0) (View.ld (iblk m c 1 t) r0_1) (ix2 x l) = mD m c (at_ t x) l := by
  pointwise [k0_pay1]
  simp only [blk0, blk1]
  rfl

/-- The product after the run. -/
theorem final2 : (dats m 0 c).arrAt 2 cfg0.N = fun j : Shape.Idx S4096x1024 => mD m c (j 0) (j 1) := by
  refine (dats m 0 c).arrAt_eq_of_covers 2 _ (by decide +kernel) fun t _ y => ?_
  blk_simp
  rw [after0_2]
  unfold Cert.KernelDyIdeal.Gen.out0_2
  refine View.canon_apply_of_pieces (Val := Elt Ideal) (S := S512x1024) (e := .bf16) (fun y => mD m c (((cfg0.win 2).blk t).view.emb y 0)
    (((cfg0.win 2).blk t).view.emb y 1)) _ ?_ y (cover0_2 _ y)
  intro pc hpc
  rcases List.mem_cons.mp hpc with rfl | hpc
  · intro x
    dsimp only
    have h0 : ((cfg0.win 2).blk t).view.emb (r0_2.emb x) 0 = at_ t (x 0) := Fin.ext (by blk_simp [idx t]; rfl)
    have h1 : ((cfg0.win 2).blk t).view.emb (r0_2.emb x) 1 = x 1 := Fin.ext (by blk_simp [idx t])
    rw [h0, h1]
    exact (congrArg _ (eq_ix2 x)).trans (tile m c t (x 0) (x 1))
  nomatch hpc

theorem algebraic : Cert.algebraic_KernelDyIdeal_ReferenceDyIdeal
    (hKernelDyIdeal := Cert.KernelDyIdeal.Gen.facts) (hReferenceDyIdeal := Cert.ReferenceDyIdeal.Gen.facts) := by
  intro m g m' g' _ hagree
  refine ⟨fun c => (fun j => mD m c (j 0) (j 1)), ?_, ?_⟩
  · refine (θ_run _ _ _).mono (fun r h c => ?_) (Cert.KernelDyIdeal.Value.run_blocks m g)
    obtain ⟨e2, kept⟩ := h c
    exact ⟨e2.trans (final2 m c), kept⟩
  · refine (θ_run _ _ _).mono (fun r h c => ?_) (Cert.ReferenceDyIdeal.Value.run m' g')
    obtain ⟨e0, kept⟩ := h c
    obtain ⟨h0, -, h2⟩ := hagree c
    rw [h0, h2] at e0
    refine ⟨e0.trans ?_, kept⟩
    funext j
    idx_vars j
    pointwise [mD, back, row]

end Cert.Dy

end
-- ==== Proof.DwValue.lean ====
/-
  A WEIGHT'S GRADIENT. `KernelDwIdeal` multiplies the transpose of a layer's input by its output's gradient: four blocks of
  columns, each the sum over both sequences of the batch, which the grid's last axis visits one after the other. The first
  visit stores its product, the second adds its own to what the first left.
-/
module

public import Idealize.ShloMosaic.Lib.Pipeline.ValueKit
public import proofs.«01_k».proof.Proof.Gen.KernelDwIdeal.Value

@[expose] public section

set_option maxRecDepth 16384

noncomputable section

namespace Cert.Dw

open Idealize.ShloMosaic Idealize.ShloMosaic.TcCoe Idealize.SL.Sem
open Idealize.ShloMosaic.Pipeline (Dat)
open Cert.KernelDwIdeal Cert.KernelDwIdeal.Gen

/-- Column `l` of block `i`, within its half. -/
def col (i : Fin 4) (l : Fin 1408) : Fin 2816 := ⟨i.val % 2 * 1408 + l.val, by omega⟩

/-- What sequence `s` adds to a weight's gradient, at row `d` and column `l` of block `i`: the first two blocks are the
    gate's, the last two the up projection's. -/
def part (u : FVec Ideal S2x2048x1024 .f32) (a b : FVec Ideal S2x2048x2816 .f32) (s : Fin 2) (i : Fin 4) (d : Fin 1024) (l : Fin 1408) : EReal :=
  ∑ x : Fin 2048, u (ix3 s x d) * (if i.val < 2 then a else b) (ix3 s x (col i l))

variable (m : (ℓ : Loc nD τ sig) → Buf (Elt Ideal) ℓ)

theorem idx : ∀ t : Fin cfg0.N, win0_0.index t = ![t.val % 2, 0] ∧ win0_1.index t = ![t.val / 4, t.val % 2, t.val / 2 % 2]
    ∧ win0_2.index t = ![t.val / 2, 0, 0] :=
  (by decide +kernel : ∀ t : Fin grid0.N, _)

theorem odd : ∀ t : Fin cfg0.N, (cfg0.win 2).flush t = true → t.val % 2 = 1 :=
  (by decide +kernel : ∀ t : Fin grid0.N, (cfg0.win 2).flush t = true → t.val % 2 = 1)

variable (c : Dev nD) (t : Fin cfg0.N)

theorem lt : t.val < 8 := t.isLt

/-- The block a point works on. -/
def blkOf : Fin 4 := ⟨t.val / 2, by have := lt t; omega⟩

/-- A sequence's part, over the arguments. -/
def mP : Fin 2 → Fin 4 → Fin 1024 → Fin 1408 → EReal :=
  part (m ((c : Thread nD τ).loc main_arg0)) (m ((c : Thread nD τ).loc main_arg1)) (m ((c : Thread nD τ).loc main_arg2))

/-- A token of sequence `s`, by its place in the batch. -/
theorem at_seq (s : Fin 2) (x : Fin 2048) (p : Fin 2816) (r : Fin 4096) (hr : r = ⟨s.val * 2048 + x.val, by omega⟩) :
    (ix3 ⟨r.val / 2048, by omega⟩ ⟨r.val % 2048, by omega⟩ p : Shape.Idx S2x2048x2816) = ix3 s x p := by
  subst hr
  congr 1
  · exact Fin.ext (by dsimp only; omega)
  · exact Fin.ext (by dsimp only; omega)

/-- The tiles at a point, over the arguments. -/
theorem blk0 (x : Fin 2048) (d : Fin 1024) (s : Fin 2) (hs : s.val = t.val % 2) :
    iblk m c 0 t (ix2 x d) = m ((c : Thread nD τ).loc main_arg0) (ix3 s x d) := by
  have := lt t
  blk_point [iblk, V, idx t]

@[inherit_doc blk0] theorem blkA (x : Fin 2048) (l : Fin 1408) (s : Fin 2) (hs : s.val = t.val % 2) (ht : t.val < 4) (p : Fin 2816)
    (hp : p.val = t.val / 2 % 2 * 1408 + l.val) : iblk m c 1 t (ix3 0 x l) = m ((c : Thread nD τ).loc main_arg1) (ix3 s x p) := by
  obtain ⟨r, hr⟩ : ∃ r : Fin 4096, r = ⟨s.val * 2048 + x.val, by omega⟩ := ⟨_, rfl⟩
  have hv : r.val = s.val * 2048 + x.val := congrArg Fin.val hr
  rw [← at_seq s x p r hr]
  have h4 : t.val / 4 = 0 := by omega
  have e : ((cfg0.win 1).blk t).view.emb (ix3 0 x l) = ix3 0 r p := by blk_ext! [idx t, h4]
  unfold iblk V
  rw [View.read_apply, e]
  entry_read
  pointwise
  rfl

@[inherit_doc blk0] theorem blkB (x : Fin 2048) (l : Fin 1408) (s : Fin 2) (hs : s.val = t.val % 2) (ht : 4 ≤ t.val) (p : Fin 2816)
    (hp : p.val = t.val / 2 % 2 * 1408 + l.val) : iblk m c 1 t (ix3 0 x l) = m ((c : Thread nD τ).loc main_arg2) (ix3 s x p) := by
  obtain ⟨r, hr⟩ : ∃ r : Fin 4096, r = ⟨s.val * 2048 + x.val, by omega⟩ := ⟨_, rfl⟩
  have hv : r.val = s.val * 2048 + x.val := congrArg Fin.val hr
  rw [← at_seq s x p r hr]
  have h4 : t.val / 4 = 1 := by have := lt t; omega
  have e : ((cfg0.win 1).blk t).view.emb (ix3 0 x l) = ix3 1 r p := by blk_ext! [idx t, h4]
  unfold iblk V
  rw [View.read_apply, e]
  entry_read
  pointwise
  rfl

/-- A point's product. -/
theorem tile (s : Fin 2) (hs : s.val = t.val % 2) (d : Fin 1024) (l : Fin 1408) :
    k0_pay1 (F := Ideal) (iblk m c 0 t) (iblk m c 1 t) (ix2 d l) = mP m c s (blkOf t) d l := by
  have := lt t
  pointwise [k0_pay1]
  unfold mP part
  refine Finset.sum_congr rfl fun x _ => ?_
  by_cases ht : t.val < 4
  · rw [if_pos (show (blkOf t).val < 2 by simp only [blkOf]; omega), blk0 m c t x d s hs, blkA m c t x l s hs ht (col (blkOf t) l) rfl]
  · rw [if_neg (show ¬ (blkOf t).val < 2 by simp only [blkOf]; omega), blk0 m c t x d s hs, blkB m c t x l s hs (by omega) (col (blkOf t) l) rfl]

/-- What the first visit leaves. -/
theorem first (h : t.val % 2 = 0) (a : Fin 1) (d : Fin 1024) (l : Fin 1408) :
    outsAt0 m c t.val t.isLt (ix3 a d l) = mP m c 0 (blkOf t) d l := by
  rw [outsAt0_A m c t h (by omega)]
  frame_out
  pointwise [k0_pay2, tile m c t 0 h.symm]

/-- What the second does. -/
theorem second (h : t.val % 2 = 1) (a : Fin 1) (d : Fin 1024) (l : Fin 1408) :
    outsAt0 m c t.val t.isLt (ix3 a d l) = mP m c 0 (blkOf t) d l + mP m c 1 (blkOf t) d l := by
  have e : blkOf (⟨t.val - 1, by have := t.isLt; omega⟩ : Fin cfg0.N) = blkOf t := Fin.ext (by simp only [blkOf]; omega)
  rw [outsAt0_B m c t (by omega) h]
  frame_out
  pointwise [k0_pay3, tile m c t 1 h.symm]
  rw [first m c ⟨t.val - 1, by have := t.isLt; omega⟩ (by dsimp only; omega), e]

/-- The gradient after the run. -/
theorem final2 : (dats m 0 c).arrAt 2 cfg0.N = fun j : Shape.Idx S4x1024x1408 => mP m c 0 (j 0) (j 1) (j 2) + mP m c 1 (j 0) (j 1) (j 2) := by
  refine (dats m 0 c).arrAt_eq_of_covers 2 _ (by decide +kernel) fun t hf y => ?_
  have h := odd t hf
  blk_simp
  rw [after0_2]
  have h0 : ((cfg0.win 2).blk t).view.emb y 0 = blkOf t := Fin.ext (by idx_vars y; blk_simp [idx t]; rfl)
  have h1 : ((cfg0.win 2).blk t).view.emb y 1 = y 1 := Fin.ext (by blk_simp [idx t])
  have h2 : ((cfg0.win 2).blk t).view.emb y 2 = y 2 := Fin.ext (by blk_simp [idx t])
  rw [h0, h1, h2]
  exact (congrArg _ (eq_ix3 y)).trans (second m c t h (y 0) (y 1) (y 2))

end Cert.Dw

end
-- ==== Proof.Dw.lean ====
/-
  A WEIGHT'S GRADIENT: THE CLAIM. The reference is the derivative of the layer's product, its columns cut in four: entry by
  entry the same two sums, the factors in the other order. So the claim needs no precondition.
-/
module

public import proofs.«01_k».proof.Defs
public import proofs.«01_k».proof.Proof.DwValue
public import proofs.«01_k».proof.Proof.Gen.ReferenceDwIdeal.Run

@[expose] public section

set_option maxRecDepth 16384

noncomputable section

namespace Cert.Dw

open Idealize.ShloMosaic Idealize.SL.Sem
open Cert.ReferenceDwIdeal Cert.ReferenceDwIdeal.Gen

/-- The layer's whole gradient, as the reference forms it. -/
def whole (u : FVec Ideal S2x2048x1024 .f32) (a b : FVec Ideal S2x2048x2816 .f32) : FVec Ideal S5632x1024 .f32 :=
  Host.dotGeneral (φ₁ := .f32) (φ₂ := .f32) dot_S2x2048x5632_S2x2048x1024_S5632x1024_01_01_2_2_n_n none
    (concatenate S2x2048x5632 2 [⟨S2x2048x2816, a⟩, ⟨S2x2048x2816, b⟩] concatenates_S2x2048x2816_S2x2048x2816_S2x2048x5632_d2) u

theorem whole_apply (u : FVec Ideal S2x2048x1024 .f32) (a b : FVec Ideal S2x2048x2816 .f32) (d : Fin 1024) (i : Fin 4) (l : Fin 1408)
    (p : Fin 5632) (hp : p.val = 1408 * i.val + l.val) : whole u a b (ix2 p d) = part u a b 0 i d l + part u a b 1 i d l := by
  unfold whole part
  rcases (by omega : i.val < 2 ∨ 2 ≤ i.val) with h | h
  · have hc : p.val < 2816 := by omega
    simp only [if_pos h]
    pointwise
    have e : (⟨p.val, by omega⟩ : Fin 2816) = col i l := Fin.ext (by simp only [col]; omega)
    simp only [dif_pos hc, e, Fin.sum_univ_two, mul_comm (u _)]
  · have hc : ¬ p.val < 2816 := by omega
    simp only [if_neg (show ¬ i.val < 2 by omega)]
    pointwise
    have e : (⟨p.val - 2816, by omega⟩ : Fin 2816) = col i l := Fin.ext (by simp only [col]; omega)
    simp only [dif_neg hc, e, Fin.sum_univ_two, mul_comm (u _)]

/-- Block `i`'s columns of it, as the reference cuts them. -/
def cut (w : FVec Ideal S5632x1024 .f32) : FVec Ideal S4x1024x1408 .f32 :=
  concatenate S4x1024x1408 0
    [⟨S1x1024x1408, (broadcastInDim S1x1024x1408 ![1, 2] bcast_S1024x1408_S1x1024x1408_1_2
      (extractStridedSlice S1024x1408 ![0, 0] (transpose S1024x5632 [1, 0] w transposes_S5632x1024_S1024x5632_1_0) slices_S1024x5632_S1024x1408_0_0) :
        FVec Ideal S1x1024x1408 .f32)⟩,
     ⟨S1x1024x1408, (broadcastInDim S1x1024x1408 ![1, 2] bcast_S1024x1408_S1x1024x1408_1_2
      (extractStridedSlice S1024x1408 ![0, 1408] (transpose S1024x5632 [1, 0] w transposes_S5632x1024_S1024x5632_1_0) slices_S1024x5632_S1024x1408_0_1408) :
        FVec Ideal S1x1024x1408 .f32)⟩,
     ⟨S1x1024x1408, (broadcastInDim S1x1024x1408 ![1, 2] bcast_S1024x1408_S1x1024x1408_1_2
      (extractStridedSlice S1024x1408 ![0, 2816] (transpose S1024x5632 [1, 0] w transposes_S5632x1024_S1024x5632_1_0) slices_S1024x5632_S1024x1408_0_2816) :
        FVec Ideal S1x1024x1408 .f32)⟩,
     ⟨S1x1024x1408, (broadcastInDim S1x1024x1408 ![1, 2] bcast_S1024x1408_S1x1024x1408_1_2
      (extractStridedSlice S1024x1408 ![0, 4224] (transpose S1024x5632 [1, 0] w transposes_S5632x1024_S1024x5632_1_0) slices_S1024x5632_S1024x1408_0_4224) :
        FVec Ideal S1x1024x1408 .f32)⟩]
    concatenates_S1x1024x1408_S1x1024x1408_S1x1024x1408_S1x1024x1408_S4x1024x1408_d0

theorem cut_apply (w : FVec Ideal S5632x1024 .f32) (i : Fin 4) (d : Fin 1024) (l : Fin 1408) :
    cut w (ix3 i d l) = w (ix2 ⟨1408 * i.val + l.val, by omega⟩ d) := by
  unfold cut
  obtain rfl | rfl | rfl | rfl : i = 0 ∨ i = 1 ∨ i = 2 ∨ i = 3 := (by decide : ∀ a : Fin 4, a = 0 ∨ a = 1 ∨ a = 2 ∨ a = 3) i
  all_goals
    pointwise
    try exact congrArg (fun p => w (ix2 p d)) (Fin.ext (by simp <;> omega))

theorem algebraic : Cert.algebraic_KernelDwIdeal_ReferenceDwIdeal
    (hKernelDwIdeal := Cert.KernelDwIdeal.Gen.facts) (hReferenceDwIdeal := Cert.ReferenceDwIdeal.Gen.facts) := by
  intro m g m' g' _ hagree
  refine ⟨fun c => (fun j => mP m c 0 (j 0) (j 1) (j 2) + mP m c 1 (j 0) (j 1) (j 2)), ?_, ?_⟩
  · refine (θ_run _ _ _).mono (fun r h c => ?_) (Cert.KernelDwIdeal.Value.run_blocks m g)
    obtain ⟨e2, kept⟩ := h c
    exact ⟨e2.trans (final2 m c), kept⟩
  · refine (θ_run _ _ _).mono (fun r h c => ?_) (Cert.ReferenceDwIdeal.Value.run m' g')
    obtain ⟨e0, kept⟩ := h c
    obtain ⟨h0, h1, h2⟩ := hagree c
    rw [h0, h1, h2] at e0
    refine ⟨e0.trans ?_, kept⟩
    clear h
    change cut (whole _ _ _) = _
    funext j
    idx_vars j
    rw [cut_apply]
    exact whole_apply _ _ _ j1 j0 j2 _ rfl

end Cert.Dw

end
-- ==== Proof.Psum.lean ====
/-
  THE SUM OVER A CHIP'S TWO CORES. The device's place, read from a table, says which half of the gradient's rows is its own;
  the kernel adds to that half, tile by tile, the rows the other core sent. The precondition — the core's place is 0 or 1 — keeps the
  tiles inside the gradient.
-/
module

public import proofs.«01_k».proof.Defs
public import Idealize.ShloMosaic.Lib.Pipeline.ValueKit
public import Idealize.ShloMosaic.Lib.WordCmp
public import proofs.«01_k».proof.Proof.Finite
public import proofs.«01_k».proof.Proof.Gen.KernelPsum.Frame
public import proofs.«01_k».proof.Proof.Gen.KernelPsumIdeal.Frame
public import proofs.«01_k».proof.Proof.Gen.KernelPsumIdeal.Skeleton
public import proofs.«01_k».proof.Proof.Gen.Pre_finite_psum
public import proofs.«01_k».proof.Proof.Gen.ReferencePsumIdeal.Run

@[expose] public section

set_option maxRecDepth 16384

noncomputable section

namespace Cert.Psum

open Idealize.ShloMosaic Idealize.ShloMosaic.TcCoe Idealize.SL.Sem Cert.Finite

/-- A word between 0 and 1. -/
theorem word {v : BitVec 32} (e : IntOp.andi (IntOp.cmpi .sge v 0#32) (IntOp.cmpi .slt v 2#32) = 1#1) : v.toNat < 2 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition says that the core's place is 0 or 1. -/
theorem places {F : FTy → Type} [FloatOps F] [Cert.Pre_finite_psum.Facts] {a0 : FVec F _ .f32} {a1 : FVec F _ .f32} {a2 : IVec _ 32}
    (h : Cert.Pre_finite_psum.fn (F := F) a0 a1 a2 = fun _ => 1#1) : (a2 (ix1 1)).toNat < 2 := by
  have e : IntOp.andi (IntOp.cmpi .sge (a2 (ix1 1)) 0#32) (IntOp.cmpi .slt (a2 (ix1 1)) 2#32) = 1#1 := by
    rw [← congrFun h (fun a => a.elim0)]
    pointwise [Cert.Pre_finite_psum.fn]
  exact word e

/-- The tile a point reads, at a place that is 0 or 1. -/
theorem tile {v : BitVec 32} (hv : v.toNat < 2) (a b : Nat) (ha : a < 4) (hb : b < 2) :
    (![(BitVec.ofNat 32 a).toNat, (Scalar.addi (Scalar.muli v 2#32) (BitVec.ofNat 32 b)).toNat, (0#32).toNat] : Fin 3 → Nat)
      = ![a, v.toNat * 2 + b, 0] := by
  have e : (Scalar.addi (Scalar.muli v 2#32) (BitVec.ofNat 32 b)).toNat = v.toNat * 2 + b := by
    show (v * 2#32 + BitVec.ofNat 32 b).toNat = _
    rw [BitVec.toNat_add, BitVec.toNat_mul, BitVec.toNat_ofNat, BitVec.toNat_ofNat]
    omega
  have e' : (BitVec.ofNat 32 a).toNat = a := by rw [BitVec.toNat_ofNat]; omega
  rw [e, e']; rfl

end Cert.Psum

namespace Cert.KernelPsumIdeal

open Idealize.ShloMosaic Idealize.ShloMosaic.TcCoe Idealize.SL.Sem Cert.Psum Cert.KernelPsumIdeal.Gen

variable {F : FTy → Type} [FloatOps F] (m : (ℓ : Loc nD τ sig) → Buf (Elt F) ℓ)

/-- The word that says which half is this core's. -/
abbrev place : BitVec 32 := m (((0 : Dev nD) : Thread nD τ).loc main_arg2) (ix1 1)

/-- It is the table's word that the tiles' places are computed from. -/
theorem at_place : (tbl m).at 0 (Rect.unit (s := S2) ![1] S1.size Gen.inb_S2_S1_1) Gen.numel1_S1 = place m := by
  unfold Pipeline.Prefetch.Contents.at
  rw [show tbl m 0 = m (((0 : Dev nD) : Thread nD τ).loc main_arg2) from V_main_arg2 m 0]
  refine congrArg _ (funext fun (a : Fin 1) => Fin.ext ?_)
  match a with
  | ⟨0, _⟩ =>
    have h := (Shape.Idx.first (s := (Rect.unit (s := S2) ![1] S1.size Gen.inb_S2_S1_1).shape) (Gen.numel1_S1.symm ▸ Nat.one_pos) (0 : Fin 1)).isLt
    refine (Rect.emb_apply _ _ _).trans ?_
    have h' : (Shape.Idx.first (s := (Rect.unit (s := S2) ![1] S1.size Gen.inb_S2_S1_1).shape) (Gen.numel1_S1.symm ▸ Nat.one_pos) (0 : Fin 1)).val < 1 := h
    show 1 + 1 * (Shape.Idx.first (s := (Rect.unit (s := S2) ![1] S1.size Gen.inb_S2_S1_1).shape) (Gen.numel1_S1.symm ▸ Nat.one_pos) (0 : Fin 1)).val = 1
    omega

/-- With such a place every tile lies in the gradient. -/
theorem ok (h : (place m).toNat < 2) : Gen.Ok m := by
  intro i
  have hv : ((tbl m).at 0 (Rect.unit (s := S2) ![1] S1.size Gen.inb_S2_S1_1) Gen.numel1_S1).toNat < 2 := by rw [at_place]; exact h
  refine ⟨fun a => ?_, Or.inl rfl⟩
  have hi0 : (i 0).val < 4 := (i 0).isLt
  have hi1 : (i 1).val < 2 := (i 1).isLt
  have e := congrFun (tile hv (i 0).val (i 1).val hi0 hi1) a
  refine (congrArg (fun n => (n + 1) * S1x256x2048.size a) e).trans_le ?_
  match a with
  | ⟨0, _⟩ => show ((i 0).val + 1) * 1 ≤ 4; omega
  | ⟨1, _⟩ => exact (show (_ * 2 + (i 1).val + 1) * 256 ≤ 1024 by omega)
  | ⟨2, _⟩ => show (0 + 1) * 2048 ≤ 2048; omega

end Cert.KernelPsumIdeal

namespace Cert.KernelPsumIdeal

open Idealize.ShloMosaic Idealize.ShloMosaic.TcCoe Idealize.SL.Sem Cert.Psum Cert.KernelPsumIdeal.Gen

variable (m : (ℓ : Loc nD τ sig) → Buf (Elt Ideal) ℓ)

/-- The gradient's half a place says, added to the rows received. -/
abbrev G (p : Nat) (hp : p < 2) (a0 : S4x1024x2048.Idx → Ideal .f32) (a1 : S4x512x2048.Idx → Ideal .bf16) : S4x512x2048.Idx → Ideal .bf16 := fun i =>
  a0 (ix3 (i 0) (⟨p * 512 + (i 1).val, by have h : (i 1).val < 512 := (i 1).isLt; omega⟩ : Fin 1024) (i 2)) + a1 i

/-- The tile of the gradient a point reads. -/
theorem idx0 (hp : (place m).toNat < 2) (i : grid0.Coords) :
    cc0_transform_0 Gen.inb_S2_S1_1 Gen.numel1_S1 (tbl m) i = ![(i 0).val, (place m).toNat * 2 + (i 1).val, 0] := by
  have hv := at_place m
  refine Eq.trans ?_ (tile hp (i 0).val (i 1).val (i 0).isLt (i 1).isLt)
  rw [← hv]; rfl

/-- The tile a point writes, and that of the rows received. -/
theorem idx2 (i : grid0.Coords) : cc0_transform_2 i = ![(i 0).val, (i 1).val, 0] := by
  have h0 : (i 0).val < 4 := (i 0).isLt
  have h1 : (i 1).val < 2 := (i 1).isLt
  have e0 : (BitVec.ofNat 32 (i 0).val).toNat = (i 0).val := by rw [BitVec.toNat_ofNat]; omega
  have e1 : (BitVec.ofNat 32 (i 1).val).toNat = (i 1).val := by rw [BitVec.toNat_ofNat]; omega
  show ![(BitVec.ofNat 32 (i 0).val).toNat, (BitVec.ofNat 32 (i 1).val).toNat, (0#32).toNat] = _
  rw [e0, e1]; rfl

/-- Where a point's tiles lie in the three arrays. -/
abbrev at0 (hO : Gen.Ok m) (t : Fin (cfgM m hO).N) (j : S1x256x2048.Idx) : S4x1024x2048.Idx := (((cfgM m hO).win 0).blk t).view.emb j
@[inherit_doc at0] abbrev at1 (hO : Gen.Ok m) (t : Fin (cfgM m hO).N) (j : S1x256x2048.Idx) : S4x512x2048.Idx := (((cfgM m hO).win 1).blk t).view.emb j
@[inherit_doc at0] abbrev at2 (hO : Gen.Ok m) (t : Fin (cfgM m hO).N) (j : S1x256x2048.Idx) : S4x512x2048.Idx := (((cfgM m hO).win 2).blk t).view.emb j

theorem raw0 (hO : Gen.Ok m) (t : Fin (cfgM m hO).N) (j : S1x256x2048.Idx) (a : Fin 3) :
    (at0 m hO t j a).val = cc0_transform_0 Gen.inb_S2_S1_1 Gen.numel1_S1 (tbl m) (grid0.coords t) a * S1x256x2048.size a + (j a).val :=
  ValueKit.view_emb_slice_whole_unit_val main_arg0 (fun a => cc0_transform_0 Gen.inb_S2_S1_1 Gen.numel1_S1 (tbl m) (grid0.coords t) a * S1x256x2048.size a) _ _ j a
theorem raw2 (hO : Gen.Ok m) (t : Fin (cfgM m hO).N) (j : S1x256x2048.Idx) (a : Fin 3) :
    (at2 m hO t j a).val = cc0_transform_2 (grid0.coords t) a * S1x256x2048.size a + (j a).val :=
  ValueKit.view_emb_slice_whole_unit_val main_v1 (fun a => cc0_transform_2 (grid0.coords t) a * S1x256x2048.size a) _ _ j a

theorem at0_val (hO : Gen.Ok m) (hp : (place m).toNat < 2) (t : Fin (cfgM m hO).N) (j : S1x256x2048.Idx) :
    (at0 m hO t j 0).val = (grid0.coords t 0).val ∧ (at0 m hO t j 1).val = (place m).toNat * 512 + ((grid0.coords t 1).val * 256 + (j 1).val)
      ∧ (at0 m hO t j 2).val = (j 2).val := by
  have hj0 : (j 0).val < 1 := (j 0).isLt
  have f0 := raw0 m hO t j 0
  have f1 := raw0 m hO t j 1
  have f2 := raw0 m hO t j 2
  rw [idx0 m hp] at f0 f1 f2
  refine ⟨f0.trans ?_, f1.trans ?_, f2.trans ?_⟩
  · show (grid0.coords t 0).val * 1 + _ = _; omega
  · show ((place m).toNat * 2 + (grid0.coords t 1).val) * 256 + _ = _; omega
  · show 0 * 2048 + _ = _; omega

theorem at2_val (hO : Gen.Ok m) (t : Fin (cfgM m hO).N) (j : S1x256x2048.Idx) :
    (at2 m hO t j 0).val = (grid0.coords t 0).val ∧ (at2 m hO t j 1).val = (grid0.coords t 1).val * 256 + (j 1).val
      ∧ (at2 m hO t j 2).val = (j 2).val := by
  have hj0 : (j 0).val < 1 := (j 0).isLt
  have f0 := raw2 m hO t j 0
  have f1 := raw2 m hO t j 1
  have f2 := raw2 m hO t j 2
  rw [idx2] at f0 f1 f2
  refine ⟨f0.trans ?_, f1.trans ?_, f2.trans ?_⟩
  · show (grid0.coords t 0).val * 1 + _ = _; omega
  · show (grid0.coords t 1).val * 256 + _ = _; omega
  · show 0 * 2048 + _ = _; omega

theorem at1_eq (hO : Gen.Ok m) (t : Fin (cfgM m hO).N) (j : S1x256x2048.Idx) : at1 m hO t j = at2 m hO t j := rfl

/-- The body's sum. -/
theorem pay (x0 : S1x256x2048.Idx → Ideal .f32) (x1 : S1x256x2048.Idx → Ideal .bf16) (j : S1x256x2048.Idx) :
    k0_pay1 (F := Ideal) x0 x1 j = x0 j + x1 j := by
  idx_vars j
  obtain rfl : j0 = 0 := Subsingleton.elim _ _
  pointwise [k0_pay1]

/-- What a point writes. -/
theorem flushed_eq (hO : Gen.Ok m) (hp : (place m).toNat < 2) (t : Fin (cfgM m hO).N) :
    (dats m hO 0 0).flushed 2 t = (((cfgM m hO).win 2).blk t).view.read (Elt Ideal) (G (place m).toNat hp (V m 0 main_arg0) (V m 0 main_v0)) := by
  show ((cfgM m hO).win 2).cut (grid0.coords t) ((dats m hO 0 0).after 2 t) = _
  rw [after0_2]
  unfold outsAt0 out0_A_2
  frame_out
  funext j
  change S1x256x2048.Idx at j
  have r0 : (ms0_0 m hO t).view.read (Elt Ideal) ((hs0_0 m hO t).unread (iblk m hO 0 0 t)) = iblk m hO 0 0 t := (hs0_0 m hO t).read_unread _
  have r1 : (ms0_1 m hO t).view.read (Elt Ideal) ((hs0_1 m hO t).unread (iblk m hO 0 1 t)) = iblk m hO 0 1 t := (hs0_1 m hO t).read_unread _
  rw [r0, r1]
  have h0 : at0 m hO t j = ix3 (at2 m hO t j 0) (⟨(place m).toNat * 512 + (at2 m hO t j 1).val, by
        have h : (at2 m hO t j 1).val < 512 := (at2 m hO t j 1).isLt
        omega⟩ : Fin 1024) (at2 m hO t j 2) := by
    obtain ⟨a0, a1, a2⟩ := at0_val m hO hp t j
    obtain ⟨b0, b1, b2⟩ := at2_val m hO t j
    funext a; apply Fin.ext
    match a with
    | ⟨0, _⟩ => exact a0.trans b0.symm
    | ⟨1, _⟩ => exact a1.trans (congrArg ((place m).toNat * 512 + ·) b1.symm)
    | ⟨2, _⟩ => exact a2.trans b2.symm
  refine (pay (iblk m hO 0 0 t) (iblk m hO 0 1 t) j).trans ?_
  show (fun (a b : EReal) => a + b) (V m 0 main_arg0 (at0 m hO t j)) (V m 0 main_v0 (at1 m hO t j)) = G (place m).toNat hp (V m 0 main_arg0) (V m 0 main_v0) (at2 m hO t j)
  rw [h0, at1_eq]
  rfl

/-- The sum after the run. -/
theorem final2 (hO : Gen.Ok m) (hp : (place m).toNat < 2) :
    (dats m hO 0 0).arrAt 2 (cfgM m hO).N = G (place m).toNat hp (V m 0 main_arg0) (V m 0 main_v0) := by
  refine (dats m hO 0 0).arrAt_eq_of_cover 2 _ (fun t _ => flushed_eq m hO hp t) fun (i : S4x512x2048.Idx) => ?_
  have hi0 : (i 0).val < 4 := (i 0).isLt
  have hi1 : (i 1).val < 512 := (i 1).isLt
  obtain ⟨t, t0, t1⟩ := (by decide +kernel : ∀ (q : Fin 4) (r : Fin 2), ∃ t : Fin grid0.N, (grid0.coords t 0).val = q.val ∧ (grid0.coords t 1).val = r.val)
    ⟨(i 0).val, hi0⟩ ⟨(i 1).val / 256, by omega⟩
  refine ⟨t, flush0_2 _ t, ?_⟩
  obtain ⟨j, hj⟩ : ∃ j : S1x256x2048.Idx, j = ix3 0 (⟨(i 1).val % 256, by omega⟩ : Fin 256) (i 2) := ⟨_, rfl⟩
  obtain ⟨b0, b1, b2⟩ := at2_val m hO t j
  have e : at2 m hO t j = i := by
    funext a; apply Fin.ext
    match a with
    | ⟨0, _⟩ => exact b0.trans t0
    | ⟨1, _⟩ =>
      refine b1.trans ?_
      rw [t1, hj]
      show (i 1).val / 256 * 256 + (i 1).val % 256 = (i 1).val
      omega
    | ⟨2, _⟩ => exact b2.trans (by rw [hj]; rfl)
  have hm := (((cfgM m hO).win 2).blk t).view.emb_mem_set j
  exact e ▸ hm

/-- The rows received, as the region finds them: what the host cast. -/
theorem V_main_v0 : V m 0 main_v0 = (truncf (F := Ideal) .bf16 (m (((0 : Dev nD) : Thread nD τ).loc main_arg1)) bitsLt_bf16_f32 : S4x512x2048.Idx → Ideal .bf16) := by
  entry_read
  rfl

end Cert.KernelPsumIdeal

open Idealize.ShloMosaic Idealize.ShloMosaic.TcCoe in
/-- The two programs are one text. -/
theorem Cert.KernelPsum.ok {F : FTy → Type} [FloatOps F] (m : (ℓ : Loc Cert.KernelPsum.nD Cert.KernelPsum.τ Cert.KernelPsum.sig) → Buf (Elt F) ℓ)
    (h : (m (((0 : Dev Cert.KernelPsum.nD) : Thread Cert.KernelPsum.nD Cert.KernelPsum.τ).loc Cert.KernelPsum.main_arg2) (ix1 1)).toNat < 2) :
    Cert.KernelPsum.Gen.Ok m := Cert.KernelPsumIdeal.ok m h

namespace Cert.Psum

open Idealize.ShloMosaic Idealize.ShloMosaic.TcCoe Idealize.SL.Sem

/-- Both programs' frames. -/
theorem frameB : Cert.quiescent_KernelPsum (hKernelPsum := Cert.KernelPsum.Gen.facts) (hPre_finite_psum := Cert.Pre_finite_psum.Gen.facts) :=
  fun m ρ h => Cert.KernelPsum.Gen.frame m ρ (Cert.KernelPsum.ok m (places (h 0)))
@[inherit_doc frameB] theorem frameI : Cert.quiescent_KernelPsumIdeal (hKernelPsumIdeal := Cert.KernelPsumIdeal.Gen.facts)
    (hPre_finite_psum := Cert.Pre_finite_psum.Gen.facts) :=
  fun m ρ h => Cert.KernelPsumIdeal.Gen.frame m ρ (Cert.KernelPsumIdeal.ok m (places (h 0)))

/-- The sum is the reference's. -/
theorem algebraic : Cert.algebraic_KernelPsumIdeal_ReferencePsumIdeal
    (hKernelPsumIdeal := Cert.KernelPsumIdeal.Gen.facts) (hReferencePsumIdeal := Cert.ReferencePsumIdeal.Gen.facts)
    (hPre_finite_psum := Cert.Pre_finite_psum.Gen.facts) := by
  intro m g m' g' h hagree
  have hx := places (h 0)
  have hO := Cert.KernelPsumIdeal.ok m hx
  have hp : (Cert.KernelPsumIdeal.place m).toNat < 2 := hx
  refine ⟨fun _ => Cert.KernelPsumIdeal.G _ hp (Cert.KernelPsumIdeal.Gen.V m 0 Cert.KernelPsumIdeal.main_arg0) (Cert.KernelPsumIdeal.Gen.V m 0 Cert.KernelPsumIdeal.main_v0), ?_, ?_⟩
  · refine (θ_run _ _ _).mono (fun r h c => ?_) (θ_run_and (Cert.KernelPsumIdeal.Gen.run_main m g hO) (Cert.KernelPsumIdeal.Gen.unchanged m g hO))
    obtain rfl : c = 0 := Subsingleton.elim _ _
    exact ⟨((h.1 0).1 2).trans (Cert.KernelPsumIdeal.final2 m hO hp), h.2 0⟩
  · refine (θ_run _ _ _).mono (fun r h c => ?_) (Cert.ReferencePsumIdeal.Value.run m' g')
    obtain ⟨e0, kept⟩ := h c
    obtain ⟨h0, h1, h2⟩ := hagree c
    obtain rfl : c = 0 := Subsingleton.elim _ _
    rw [h0, h1, h2] at e0
    refine ⟨e0.trans ?_, kept⟩
    rw [Cert.KernelPsumIdeal.V_main_v0, Cert.KernelPsumIdeal.Gen.V_main_arg0]
    clear e0 kept h0 h1 h2
    have hw : Cert.KernelPsumIdeal.place m = 0#32 ∨ Cert.KernelPsumIdeal.place m = 1#32 := by
      have : (Cert.KernelPsumIdeal.place m).toNat = 0 ∨ (Cert.KernelPsumIdeal.place m).toNat = 1 := by omega
      exact this.imp (fun e => BitVec.eq_of_toNat_eq e) fun e => BitVec.eq_of_toNat_eq e
    funext i
    dsimp only [Cert.KernelPsumIdeal.G]
    idx_vars i
    pointwise
    revert hp hw
    unfold Cert.KernelPsumIdeal.place
    generalize (m (((0 : Dev Cert.KernelPsumIdeal.nD) : Thread Cert.KernelPsumIdeal.nD Cert.KernelPsumIdeal.τ).loc Cert.KernelPsumIdeal.main_arg2)) (ix1 1) = v
    intro hp hw
    rcases hw with rfl | rfl
    · rw [show IntOp.cmpi CmpIPredicate.eq 0#32 0#32 = 1#1 from by decide]
      simp only [Scalar.select]
      rw [if_pos (by decide)]
      refine congrArg (· + _) (congrArg _ (congrArg (fun k : Fin 1024 => ix3 i0 k i2) (Fin.ext ?_)))
      show i1.val = 0 * 512 + i1.val; omega
    · rw [show IntOp.cmpi CmpIPredicate.eq 1#32 0#32 = 0#1 from by decide]
      simp only [Scalar.select]
      rw [if_neg (by decide)]
      refine congrArg (· + _) (congrArg _ (congrArg (fun k : Fin 1024 => ix3 i0 k i2) (Fin.ext ?_)))
      show 512 + i1.val = 1 * 512 + i1.val; omega

end Cert.Psum

end
-- ==== Proof.Slot.lean ====
/-
  A WEIGHT IN THE DEVICE'S OWN SLOT. The chip's place, read from a table, says which of the four slots of the buffer is its own;
  the kernel casts the weight into that slot, tile by tile, and leaves the others. The precondition — the chip's place is 0, 1, 2
  or 3 — keeps the slot inside the buffer.
-/
module

public import proofs.«01_k».proof.Defs
public import Idealize.ShloMosaic.Lib.Pipeline.ValueKit
public import Idealize.ShloMosaic.Lib.WordCmp
public import proofs.«01_k».proof.Proof.Finite
public import proofs.«01_k».proof.Proof.Gen.KernelSlot.Frame
public import proofs.«01_k».proof.Proof.Gen.KernelSlotIdeal.Frame
public import proofs.«01_k».proof.Proof.Gen.KernelSlotIdeal.Skeleton
public import proofs.«01_k».proof.Proof.Gen.Pre_finite_slot
public import proofs.«01_k».proof.Proof.Gen.On_written_slot
public import proofs.«01_k».proof.Proof.Gen.ReferenceSlotIdeal.Run

@[expose] public section

set_option maxRecDepth 16384

noncomputable section

namespace Cert.Slot

open Idealize.ShloMosaic Idealize.ShloMosaic.TcCoe Idealize.SL.Sem Cert.Finite

/-- A word between 0 and 3. -/
theorem word {v : BitVec 32} (e : IntOp.andi (IntOp.cmpi .sge v 0#32) (IntOp.cmpi .slt v 4#32) = 1#1) : v.toNat < 4 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition says that the chip's place is 0, 1, 2 or 3. -/
theorem places {F : FTy → Type} [FloatOps F] [Cert.Pre_finite_slot.Facts] {a0 : FVec F _ .f32} {a1 : IVec _ 32}
    (h : Cert.Pre_finite_slot.fn (F := F) a0 a1 = fun _ => 1#1) : (a1 (ix1 0)).toNat < 4 := by
  have e : IntOp.andi (IntOp.cmpi .sge (a1 (ix1 0)) 0#32) (IntOp.cmpi .slt (a1 (ix1 0)) 4#32) = 1#1 := by
    rw [← congrFun h (fun a => a.elim0)]
    pointwise [Cert.Pre_finite_slot.fn]
  exact word e

/-- The claim's mask compares the slot with the chip's place, -/
theorem chosen [Cert.On_written_slot.Facts] {a0 : FVec Ideal _ .f32} {a1 : IVec _ 32} (j : (⟨3, ![4, 1024, 2048]⟩ : Shape).Idx)
    (h : Cert.On_written_slot.fn (F := Ideal) a0 a1 j = 1#1) : IntOp.cmpi .eq (BitVec.ofNat 32 (j (0 : Fin 3)).val) (a1 (ix1 0)) = 1#1 := by
  rw [← h]
  idx_vars j
  pointwise [Cert.On_written_slot.fn]

/-- so it selects the chip's slot. -/
theorem mask [Cert.On_written_slot.Facts] {a0 : FVec Ideal _ .f32} {a1 : IVec _ 32} (j : (⟨3, ![4, 1024, 2048]⟩ : Shape).Idx)
    (h : Cert.On_written_slot.fn (F := Ideal) a0 a1 j = 1#1) : (j 0).val = (a1 (ix1 0)).toNat := by
  replace h := chosen j h
  have hj : (j (0 : Fin 3)).val < 4 := (j (0 : Fin 3)).isLt
  have ofBool_eq_one (p : Bool) : (BitVec.ofBool p = 1#1) ↔ p = true := by cases p <;> decide
  simp only [IntOp.cmpi, ofBool_eq_one, beq_iff_eq] at h
  rw [← h, BitVec.toNat_ofNat]
  omega

end Cert.Slot

namespace Cert.KernelSlotIdeal

open Idealize.ShloMosaic Idealize.ShloMosaic.TcCoe Idealize.SL.Sem Cert.Slot Cert.KernelSlotIdeal.Gen

variable {F : FTy → Type} [FloatOps F] (m : (ℓ : Loc nD τ sig) → Buf (Elt F) ℓ)

/-- The word that says which slot is this chip's. -/
abbrev place : BitVec 32 := m (((0 : Dev nD) : Thread nD τ).loc main_arg1) (ix1 0)

/-- It is the table's word that the tiles' places are computed from. -/
theorem at_place : (tbl m).at 0 (Rect.unit (s := S2) ![0] S1.size Gen.inb_S2_S1_0) Gen.numel1_S1 = place m := by
  unfold Pipeline.Prefetch.Contents.at
  rw [show tbl m 0 = m (((0 : Dev nD) : Thread nD τ).loc main_arg1) from V_main_arg1 m 0]
  refine congrArg _ (funext fun (a : Fin 1) => Fin.ext ?_)
  match a with
  | ⟨0, _⟩ =>
    have h := (Shape.Idx.first (s := (Rect.unit (s := S2) ![0] S1.size Gen.inb_S2_S1_0).shape) (Gen.numel1_S1.symm ▸ Nat.one_pos) (0 : Fin 1)).isLt
    refine (Rect.emb_apply _ _ _).trans ?_
    have h' : (Shape.Idx.first (s := (Rect.unit (s := S2) ![0] S1.size Gen.inb_S2_S1_0).shape) (Gen.numel1_S1.symm ▸ Nat.one_pos) (0 : Fin 1)).val < 1 := h
    show 0 + 1 * (Shape.Idx.first (s := (Rect.unit (s := S2) ![0] S1.size Gen.inb_S2_S1_0).shape) (Gen.numel1_S1.symm ▸ Nat.one_pos) (0 : Fin 1)).val = 0
    omega

/-- The tile a point writes. -/
theorem idx1 (i : grid0.Coords) :
    cc0_transform_1 Gen.inb_S2_S1_0 Gen.numel1_S1 (tbl m) i = ![(place m).toNat, (i 0).val, 0] := by
  have h0 : (i 0).val < 4 := (i 0).isLt
  have e0 : (BitVec.ofNat 32 (i 0).val).toNat = (i 0).val := by rw [BitVec.toNat_ofNat]; omega
  show ![((tbl m).at 0 (Rect.unit (s := S2) ![0] S1.size Gen.inb_S2_S1_0) Gen.numel1_S1).toNat, (BitVec.ofNat 32 (i 0).val).toNat, (0#32).toNat] = _
  rw [e0, at_place]; rfl

/-- The tile a point reads. -/
theorem idx0 (i : grid0.Coords) : cc0_transform_0 i = ![(i 0).val, 0] := by
  have h0 : (i 0).val < 4 := (i 0).isLt
  have e0 : (BitVec.ofNat 32 (i 0).val).toNat = (i 0).val := by rw [BitVec.toNat_ofNat]; omega
  show ![(BitVec.ofNat 32 (i 0).val).toNat, (0#32).toNat] = _
  rw [e0]; rfl

/-- With such a place every tile lies in the buffer. -/
theorem ok (h : (place m).toNat < 4) : Gen.Ok m := by
  intro i
  have hi0 : (i 0).val < 4 := (i 0).isLt
  have hin : ∀ a, (cc0_transform_1 Gen.inb_S2_S1_0 Gen.numel1_S1 (tbl m) i a + 1) * S1x256x2048.size a ≤ S4x1024x2048.size a := fun a => by
    refine (congrArg (fun n => (n + 1) * S1x256x2048.size a) (congrFun (idx1 m i) a)).trans_le ?_
    match a with
    | ⟨0, _⟩ => exact (show ((place m).toNat + 1) * 1 ≤ 4 by omega)
    | ⟨1, _⟩ => show ((i 0).val + 1) * 256 ≤ 1024; omega
    | ⟨2, _⟩ => show (0 + 1) * 2048 ≤ 2048; omega
  refine ⟨hin, Or.inr (.inl (.inr ⟨by decide, rfl, .inl ⟨?_, ?_⟩⟩))⟩
  · exact (show 2 ∣ cc0_transform_1 Gen.inb_S2_S1_0 Gen.numel1_S1 (tbl m) i 1 * 256 from Dvd.dvd.mul_left (by decide) _)
  · exact (show 2 ∣ 256 by decide)

end Cert.KernelSlotIdeal

namespace Cert.KernelSlotIdeal

open Idealize.ShloMosaic Idealize.ShloMosaic.TcCoe Idealize.SL.Sem Cert.Slot Cert.KernelSlotIdeal.Gen

variable (m : (ℓ : Loc nD τ sig) → Buf (Elt Ideal) ℓ)

/-- The weight, at every slot. -/
abbrev G (a0 : S1024x2048.Idx → Ideal .f32) : S4x1024x2048.Idx → Ideal .bf16 := fun i => a0 (ix2 (i 1) (i 2))

/-- Where a point's tiles lie in the two arrays. -/
abbrev at0 (hO : Gen.Ok m) (t : Fin (cfgM m hO).N) (j : S256x2048.Idx) : S1024x2048.Idx := (((cfgM m hO).win 0).blk t).view.emb j
@[inherit_doc at0] abbrev at1 (hO : Gen.Ok m) (t : Fin (cfgM m hO).N) (j : S1x256x2048.Idx) : S4x1024x2048.Idx := (((cfgM m hO).win 1).blk t).view.emb j

theorem raw0 (hO : Gen.Ok m) (t : Fin (cfgM m hO).N) (j : S256x2048.Idx) (a : Fin 2) :
    (at0 m hO t j a).val = cc0_transform_0 (grid0.coords t) a * S256x2048.size a + (j a).val :=
  ValueKit.view_emb_slice_whole_unit_val main_arg0 (fun a => cc0_transform_0 (grid0.coords t) a * S256x2048.size a) _ _ j a
theorem raw1 (hO : Gen.Ok m) (t : Fin (cfgM m hO).N) (j : S1x256x2048.Idx) (a : Fin 3) :
    (at1 m hO t j a).val = cc0_transform_1 Gen.inb_S2_S1_0 Gen.numel1_S1 (tbl m) (grid0.coords t) a * S1x256x2048.size a + (j a).val :=
  ValueKit.view_emb_slice_whole_unit_val main_v0 (fun a => cc0_transform_1 Gen.inb_S2_S1_0 Gen.numel1_S1 (tbl m) (grid0.coords t) a * S1x256x2048.size a) _ _ j a

theorem at0_val (hO : Gen.Ok m) (t : Fin (cfgM m hO).N) (j : S256x2048.Idx) :
    (at0 m hO t j 0).val = (grid0.coords t 0).val * 256 + (j 0).val ∧ (at0 m hO t j 1).val = (j 1).val := by
  have f0 := raw0 m hO t j 0
  have f1 := raw0 m hO t j 1
  rw [idx0] at f0 f1
  refine ⟨f0.trans ?_, f1.trans ?_⟩
  · show (grid0.coords t 0).val * 256 + _ = _; omega
  · show 0 * 2048 + _ = _; omega

theorem at1_val (hO : Gen.Ok m) (t : Fin (cfgM m hO).N) (j : S1x256x2048.Idx) :
    (at1 m hO t j 0).val = (place m).toNat ∧ (at1 m hO t j 1).val = (grid0.coords t 0).val * 256 + (j 1).val
      ∧ (at1 m hO t j 2).val = (j 2).val := by
  have hj0 : (j 0).val < 1 := (j 0).isLt
  have f0 := raw1 m hO t j 0
  have f1 := raw1 m hO t j 1
  have f2 := raw1 m hO t j 2
  rw [idx1] at f0 f1 f2
  refine ⟨f0.trans ?_, f1.trans ?_, f2.trans ?_⟩
  · show (place m).toNat * 1 + _ = _; omega
  · show (grid0.coords t 0).val * 256 + _ = _; omega
  · show 0 * 2048 + _ = _; omega

/-- The body's cast. -/
theorem pay (x0 : S256x2048.Idx → Ideal .f32) (j : S1x256x2048.Idx) : k0_pay1 (F := Ideal) x0 j = x0 (ix2 (j 1) (j 2)) := by
  idx_vars j
  obtain rfl : j0 = 0 := Subsingleton.elim _ _
  pointwise [k0_pay1]

/-- What a point writes. -/
theorem flushed_eq (hO : Gen.Ok m) (t : Fin (cfgM m hO).N) :
    (dats m hO 0 0).flushed 1 t = (((cfgM m hO).win 1).blk t).view.read (Elt Ideal) (G (V m 0 main_arg0)) := by
  show ((cfgM m hO).win 1).cut (grid0.coords t) ((dats m hO 0 0).after 1 t) = _
  rw [after0_1]
  unfold outsAt0 out0_A_1
  frame_out
  funext j
  change S1x256x2048.Idx at j
  have r0 : (ms0_0 m hO t).view.read (Elt Ideal) ((hs0_0 m hO t).unread (iblk m hO 0 0 t)) = iblk m hO 0 0 t := (hs0_0 m hO t).read_unread _
  rw [r0]
  have h0 : at0 m hO t (ix2 (j 1) (j 2)) = ix2 (at1 m hO t j 1) (at1 m hO t j 2) := by
    obtain ⟨a0, a1⟩ := at0_val m hO t (ix2 (j 1) (j 2))
    obtain ⟨b0, b1, b2⟩ := at1_val m hO t j
    funext a; apply Fin.ext
    match a with
    | ⟨0, _⟩ => exact a0.trans b1.symm
    | ⟨1, _⟩ => exact a1.trans b2.symm
  refine (pay (iblk m hO 0 0 t) j).trans ?_
  show V m 0 main_arg0 (at0 m hO t (ix2 (j 1) (j 2))) = G (V m 0 main_arg0) (at1 m hO t j)
  rw [h0]
  rfl

/-- Every point's tile is written back: the next point's is another. -/
theorem flush1 (hO : Gen.Ok m) (t : Fin (cfgM m hO).N) : ((cfgM m hO).win 1).flush t = true := by
  have key : ∀ t : Fin grid0.N, Pipeline.Window.flushOf grid0 true (cc0_transform_1 Gen.inb_S2_S1_0 Gen.numel1_S1 (tbl m)) t = true := fun t => by
    unfold Pipeline.Window.flushOf
    have hc : ∀ (t : Fin grid0.N) (h : t.val + 1 < grid0.N), (grid0.coords ⟨t.val + 1, h⟩ 0).val ≠ (grid0.coords t 0).val := by decide +kernel
    by_cases h : t.val + 1 < grid0.N
    · have hne : cc0_transform_1 Gen.inb_S2_S1_0 Gen.numel1_S1 (tbl m) (grid0.coords ⟨t.val + 1, h⟩)
          ≠ cc0_transform_1 Gen.inb_S2_S1_0 Gen.numel1_S1 (tbl m) (grid0.coords t) := fun e => by
        rw [idx1, idx1] at e
        exact hc t h (congrFun e 1)
      have hex : ∃ h : t.val + 1 < grid0.N, cc0_transform_1 Gen.inb_S2_S1_0 Gen.numel1_S1 (tbl m) (grid0.coords ⟨t.val + 1, h⟩)
          ≠ cc0_transform_1 Gen.inb_S2_S1_0 Gen.numel1_S1 (tbl m) (grid0.coords t) := ⟨h, hne⟩
      simp only [hex, decide_true, Bool.or_true, Bool.and_true]
    · have hl : t.val + 1 = grid0.N := by have := t.isLt; omega
      simp only [hl, decide_true, Bool.true_or, Bool.and_true]
  exact key t

/-- The chip's slot after the run. -/
theorem final1 (hO : Gen.Ok m) (i : S4x1024x2048.Idx) (hi : (i 0).val = (place m).toNat) :
    (dats m hO 0 0).arrAt 1 (cfgM m hO).N i = G (V m 0 main_arg0) i := by
  have hi1 : (i 1).val < 1024 := (i 1).isLt
  obtain ⟨t, t0⟩ := (by decide +kernel : ∀ q : Fin 4, ∃ t : Fin grid0.N, (grid0.coords t 0).val = q.val) ⟨(i 1).val / 256, by omega⟩
  obtain ⟨j, hj⟩ : ∃ j : S1x256x2048.Idx, j = ix3 0 (⟨(i 1).val % 256, by omega⟩ : Fin 256) (i 2) := ⟨_, rfl⟩
  obtain ⟨b0, b1, b2⟩ := at1_val m hO t j
  have e : at1 m hO t j = i := by
    funext a; apply Fin.ext
    match a with
    | ⟨0, _⟩ => exact b0.trans hi.symm
    | ⟨1, _⟩ =>
      refine b1.trans ?_
      rw [t0, hj]
      show (i 1).val / 256 * 256 + (i 1).val % 256 = (i 1).val
      omega
    | ⟨2, _⟩ => exact b2.trans (by rw [hj]; rfl)
  have hm := (((cfgM m hO).win 1).blk t).view.emb_mem_set j
  exact (dats m hO 0 0).arrAt_apply_of_mem 1 _ (fun t _ => flushed_eq m hO t) _ t i t.isLt (flush1 m hO t) (e ▸ hm)

end Cert.KernelSlotIdeal

open Idealize.ShloMosaic Idealize.ShloMosaic.TcCoe in
/-- The two programs are one text. -/
theorem Cert.KernelSlot.ok {F : FTy → Type} [FloatOps F] (m : (ℓ : Loc Cert.KernelSlot.nD Cert.KernelSlot.τ Cert.KernelSlot.sig) → Buf (Elt F) ℓ)
    (h : (m (((0 : Dev Cert.KernelSlot.nD) : Thread Cert.KernelSlot.nD Cert.KernelSlot.τ).loc Cert.KernelSlot.main_arg1) (ix1 0)).toNat < 4) :
    Cert.KernelSlot.Gen.Ok m := Cert.KernelSlotIdeal.ok m h

namespace Cert.Slot

open Idealize.ShloMosaic Idealize.ShloMosaic.TcCoe Idealize.SL.Sem

/-- Both programs' frames. -/
theorem frameB : Cert.quiescent_KernelSlot (hKernelSlot := Cert.KernelSlot.Gen.facts) (hPre_finite_slot := Cert.Pre_finite_slot.Gen.facts) :=
  fun m ρ h => Cert.KernelSlot.Gen.frame m ρ (Cert.KernelSlot.ok m (places (h 0)))
@[inherit_doc frameB] theorem frameI : Cert.quiescent_KernelSlotIdeal (hKernelSlotIdeal := Cert.KernelSlotIdeal.Gen.facts)
    (hPre_finite_slot := Cert.Pre_finite_slot.Gen.facts) :=
  fun m ρ h => Cert.KernelSlotIdeal.Gen.frame m ρ (Cert.KernelSlotIdeal.ok m (places (h 0)))

/-- The slot is the reference's. -/
theorem algebraic : Cert.algebraic_KernelSlotIdeal_ReferenceSlotIdeal_on_written_slot
    (hKernelSlotIdeal := Cert.KernelSlotIdeal.Gen.facts) (hReferenceSlotIdeal := Cert.ReferenceSlotIdeal.Gen.facts)
    (hPre_finite_slot := Cert.Pre_finite_slot.Gen.facts) (hOn_written_slot := Cert.On_written_slot.Gen.facts) := by
  intro m g m' g' h hagree
  have hO := Cert.KernelSlotIdeal.ok m (places (h 0))
  refine ⟨fun _ => Cert.KernelSlotIdeal.G (Cert.KernelSlotIdeal.Gen.V m 0 Cert.KernelSlotIdeal.main_arg0), ?_, ?_⟩
  · refine (θ_run _ _ _).mono (fun r h c => ?_) (θ_run_and (Cert.KernelSlotIdeal.Gen.run_main m g hO) (Cert.KernelSlotIdeal.Gen.unchanged m g hO))
    obtain rfl : c = 0 := Subsingleton.elim _ _
    exact ⟨fun j hj => (congrFun ((h.1 0).1 1) j).trans (Cert.KernelSlotIdeal.final1 m hO j (mask j hj)), h.2 0⟩
  · refine (θ_run _ _ _).mono (fun r h c => ?_) (Cert.ReferenceSlotIdeal.Value.run m' g')
    obtain ⟨e0, kept⟩ := h c
    obtain ⟨h0, h1⟩ := hagree c
    obtain rfl : c = 0 := Subsingleton.elim _ _
    rw [h0] at e0
    rw [h1] at e0
    refine ⟨fun i hi => (congrFun e0 i).trans ?_, kept⟩
    rw [Cert.KernelSlotIdeal.Gen.V_main_arg0]
    have hw := chosen i hi
    clear e0 kept h0 h1 hi
    dsimp only [Cert.KernelSlotIdeal.G]
    idx_vars i
    change IntOp.cmpi .eq (BitVec.ofNat 32 i0.val) _ = 1#1 at hw
    pointwise
    rw [hw]
    rfl

end Cert.Slot

end
-- ==== Proof.lean ====
module

public import proofs.«01_k».proof.Defs
public import proofs.«01_k».proof.Proof.Gen.KernelSwiglu
public import proofs.«01_k».proof.Proof.Gen.KernelSwiglu.Skeleton
public import proofs.«01_k».proof.Proof.Gen.KernelSwiglu.Launch
public import proofs.«01_k».proof.Proof.Gen.KernelSwiglu.Points
public import proofs.«01_k».proof.Proof.Gen.KernelSwiglu.Frame
public import proofs.«01_k».proof.Proof.Gen.KernelSwigluIdeal
public import proofs.«01_k».proof.Proof.Gen.KernelSwigluIdeal.Skeleton
public import proofs.«01_k».proof.Proof.Gen.KernelSwigluIdeal.Launch
public import proofs.«01_k».proof.Proof.Gen.KernelSwigluIdeal.Points
public import proofs.«01_k».proof.Proof.Gen.KernelSwigluIdeal.Frame
public import proofs.«01_k».proof.Proof.Gen.ReferenceSwigluIdeal
public import proofs.«01_k».proof.Proof.Gen.ReferenceSwigluIdeal.Run
public import proofs.«01_k».proof.Proof.Gen.KernelSwigluIdeal.Value
public import proofs.«01_k».proof.Proof.Gen.Pre_finite_swiglu
public import proofs.«01_k».proof.Proof.Gen.KernelGates
public import proofs.«01_k».proof.Proof.Gen.KernelGates.Skeleton
public import proofs.«01_k».proof.Proof.Gen.KernelGates.Launch
public import proofs.«01_k».proof.Proof.Gen.KernelGates.Points
public import proofs.«01_k».proof.Proof.Gen.KernelGates.Frame
public import proofs.«01_k».proof.Proof.Gen.KernelGatesIdeal
public import proofs.«01_k».proof.Proof.Gen.KernelGatesIdeal.Skeleton
public import proofs.«01_k».proof.Proof.Gen.KernelGatesIdeal.Launch
public import proofs.«01_k».proof.Proof.Gen.KernelGatesIdeal.Points
public import proofs.«01_k».proof.Proof.Gen.KernelGatesIdeal.Frame
public import proofs.«01_k».proof.Proof.Gen.ReferenceGatesIdeal
public import proofs.«01_k».proof.Proof.Gen.ReferenceGatesIdeal.Run
public import proofs.«01_k».proof.Proof.Gen.KernelGatesIdeal.Value
public import proofs.«01_k».proof.Proof.Gen.Pre_finite_gates
public import proofs.«01_k».proof.Proof.Gen.On_written_gates
public import proofs.«01_k».proof.Proof.Gen.KernelPool
public import proofs.«01_k».proof.Proof.Gen.KernelPool.Skeleton
public import proofs.«01_k».proof.Proof.Gen.KernelPool.Launch
public import proofs.«01_k».proof.Proof.Gen.KernelPool.Points
public import proofs.«01_k».proof.Proof.Gen.KernelPool.Frame
public import proofs.«01_k».proof.Proof.Gen.KernelPoolIdeal
public import proofs.«01_k».proof.Proof.Gen.KernelPoolIdeal.Skeleton
public import proofs.«01_k».proof.Proof.Gen.KernelPoolIdeal.Launch
public import proofs.«01_k».proof.Proof.Gen.KernelPoolIdeal.Points
public import proofs.«01_k».proof.Proof.Gen.KernelPoolIdeal.Frame
public import proofs.«01_k».proof.Proof.Gen.ReferencePoolIdeal
public import proofs.«01_k».proof.Proof.Gen.ReferencePoolIdeal.Run
public import proofs.«01_k».proof.Proof.Gen.KernelPoolIdeal.Value
public import proofs.«01_k».proof.Proof.Gen.Pre_finite_pool
public import proofs.«01_k».proof.Proof.Gen.On_written_pool
public import proofs.«01_k».proof.Proof.Gen.KernelBound
public import proofs.«01_k».proof.Proof.Gen.KernelBound.Skeleton
public import proofs.«01_k».proof.Proof.Gen.KernelBound.Launch
public import proofs.«01_k».proof.Proof.Gen.KernelBound.Points
public import proofs.«01_k».proof.Proof.Gen.KernelBound.Frame
public import proofs.«01_k».proof.Proof.Gen.KernelBoundIdeal
public import proofs.«01_k».proof.Proof.Gen.KernelBoundIdeal.Skeleton
public import proofs.«01_k».proof.Proof.Gen.KernelBoundIdeal.Launch
public import proofs.«01_k».proof.Proof.Gen.KernelBoundIdeal.Points
public import proofs.«01_k».proof.Proof.Gen.KernelBoundIdeal.Frame
public import proofs.«01_k».proof.Proof.Gen.ReferenceBoundIdeal
public import proofs.«01_k».proof.Proof.Gen.ReferenceBoundIdeal.Run
public import proofs.«01_k».proof.Proof.Gen.KernelBoundIdeal.Value
public import proofs.«01_k».proof.Proof.Gen.Pre_finite_bound
public import proofs.«01_k».proof.Proof.Gen.KernelLoss
public import proofs.«01_k».proof.Proof.Gen.KernelLoss.Skeleton
public import proofs.«01_k».proof.Proof.Gen.KernelLoss.Launch
public import proofs.«01_k».proof.Proof.Gen.KernelLoss.Points
public import proofs.«01_k».proof.Proof.Gen.KernelLoss.Frame
public import proofs.«01_k».proof.Proof.Gen.KernelLossIdeal
public import proofs.«01_k».proof.Proof.Gen.KernelLossIdeal.Skeleton
public import proofs.«01_k».proof.Proof.Gen.KernelLossIdeal.Launch
public import proofs.«01_k».proof.Proof.Gen.KernelLossIdeal.Points
public import proofs.«01_k».proof.Proof.Gen.KernelLossIdeal.Frame
public import proofs.«01_k».proof.Proof.Gen.ReferenceLossIdeal
public import proofs.«01_k».proof.Proof.Gen.ReferenceLossIdeal.Run
public import proofs.«01_k».proof.Proof.Gen.KernelLossIdeal.Value
public import proofs.«01_k».proof.Proof.Gen.Pre_finite_loss
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.ReferenceNormIdeal
public import proofs.«01_k».proof.Proof.Gen.ReferenceNormIdeal.Run
public import proofs.«01_k».proof.Proof.Gen.Pre_finite_norm
public import proofs.«01_k».proof.Proof.Gen.KernelInbwd
public import proofs.«01_k».proof.Proof.Gen.KernelInbwd.Skeleton
public import proofs.«01_k».proof.Proof.Gen.KernelInbwd.Launch
public import proofs.«01_k».proof.Proof.Gen.KernelInbwd.Points
public import proofs.«01_k».proof.Proof.Gen.KernelInbwd.Frame
public import proofs.«01_k».proof.Proof.Gen.KernelInbwdIdeal
public import proofs.«01_k».proof.Proof.Gen.KernelInbwdIdeal.Skeleton
public import proofs.«01_k».proof.Proof.Gen.KernelInbwdIdeal.Launch
public import proofs.«01_k».proof.Proof.Gen.KernelInbwdIdeal.Points
public import proofs.«01_k».proof.Proof.Gen.KernelInbwdIdeal.Frame
public import proofs.«01_k».proof.Proof.Gen.ReferenceInbwdIdeal
public import proofs.«01_k».proof.Proof.Gen.ReferenceInbwdIdeal.Run
public import proofs.«01_k».proof.Proof.Gen.Pre_finite_inbwd
public import proofs.«01_k».proof.Proof.Gen.KernelPoolf
public import proofs.«01_k».proof.Proof.Gen.KernelPoolf.Skeleton
public import proofs.«01_k».proof.Proof.Gen.KernelPoolf.Launch
public import proofs.«01_k».proof.Proof.Gen.KernelPoolf.Points
public import proofs.«01_k».proof.Proof.Gen.KernelPoolf.Frame
public import proofs.«01_k».proof.Proof.Gen.KernelPoolfIdeal
public import proofs.«01_k».proof.Proof.Gen.KernelPoolfIdeal.Skeleton
public import proofs.«01_k».proof.Proof.Gen.KernelPoolfIdeal.Launch
public import proofs.«01_k».proof.Proof.Gen.KernelPoolfIdeal.Points
public import proofs.«01_k».proof.Proof.Gen.KernelPoolfIdeal.Frame
public import proofs.«01_k».proof.Proof.Gen.ReferencePoolfIdeal
public import proofs.«01_k».proof.Proof.Gen.ReferencePoolfIdeal.Run
public import proofs.«01_k».proof.Proof.Gen.KernelPoolfIdeal.Value
public import proofs.«01_k».proof.Proof.Gen.Pre_finite_poolf
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.ReferenceMergeIdeal
public import proofs.«01_k».proof.Proof.Gen.ReferenceMergeIdeal.Run
public import proofs.«01_k».proof.Proof.Gen.KernelMergeIdeal.Value
public import proofs.«01_k».proof.Proof.Gen.KernelAttn
public import proofs.«01_k».proof.Proof.Gen.KernelAttn.Skeleton
public import proofs.«01_k».proof.Proof.Gen.KernelAttn.Launch
public import proofs.«01_k».proof.Proof.Gen.KernelAttn.Points
public import proofs.«01_k».proof.Proof.Gen.KernelAttn.Frame
public import proofs.«01_k».proof.Proof.Gen.KernelAttnIdeal
public import proofs.«01_k».proof.Proof.Gen.KernelAttnIdeal.Skeleton
public import proofs.«01_k».proof.Proof.Gen.KernelAttnIdeal.Launch
public import proofs.«01_k».proof.Proof.Gen.KernelAttnIdeal.Points
public import proofs.«01_k».proof.Proof.Gen.KernelAttnIdeal.Frame
public import proofs.«01_k».proof.Proof.Gen.ReferenceAttnIdeal
public import proofs.«01_k».proof.Proof.Gen.ReferenceAttnIdeal.Run
public import proofs.«01_k».proof.Proof.Gen.KernelAttnIdeal.Value
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.ReferenceFfnIdeal
public import proofs.«01_k».proof.Proof.Gen.ReferenceFfnIdeal.Run
public import proofs.«01_k».proof.Proof.Gen.KernelFfnIdeal.Value
public import proofs.«01_k».proof.Proof.Gen.KernelHgf
public import proofs.«01_k».proof.Proof.Gen.KernelHgf.Skeleton
public import proofs.«01_k».proof.Proof.Gen.KernelHgf.Loops
public import proofs.«01_k».proof.Proof.Gen.KernelHgf.Launch
public import proofs.«01_k».proof.Proof.Gen.KernelHgf.Points
public import proofs.«01_k».proof.Proof.Gen.KernelHgf.Frame
public import proofs.«01_k».proof.Proof.Gen.KernelHgfIdeal
public import proofs.«01_k».proof.Proof.Gen.KernelHgfIdeal.Skeleton
public import proofs.«01_k».proof.Proof.Gen.KernelHgfIdeal.Loops
public import proofs.«01_k».proof.Proof.Gen.KernelHgfIdeal.Launch
public import proofs.«01_k».proof.Proof.Gen.KernelHgfIdeal.Points
public import proofs.«01_k».proof.Proof.Gen.KernelHgfIdeal.Frame
public import proofs.«01_k».proof.Proof.Gen.ReferenceHgfIdeal
public import proofs.«01_k».proof.Proof.Gen.ReferenceHgfIdeal.Run
public import proofs.«01_k».proof.Proof.Gen.Pre_finite_hgf
public import proofs.«01_k».proof.Proof.Gen.KernelAdam
public import proofs.«01_k».proof.Proof.Gen.KernelAdam.Skeleton
public import proofs.«01_k».proof.Proof.Gen.KernelAdam.Launch
public import proofs.«01_k».proof.Proof.Gen.KernelAdam.Points
public import proofs.«01_k».proof.Proof.Gen.KernelAdam.Frame
public import proofs.«01_k».proof.Proof.Gen.KernelAdamIdeal
public import proofs.«01_k».proof.Proof.Gen.KernelAdamIdeal.Skeleton
public import proofs.«01_k».proof.Proof.Gen.KernelAdamIdeal.Launch
public import proofs.«01_k».proof.Proof.Gen.KernelAdamIdeal.Points
public import proofs.«01_k».proof.Proof.Gen.KernelAdamIdeal.Frame
public import proofs.«01_k».proof.Proof.Gen.ReferenceAdamIdeal
public import proofs.«01_k».proof.Proof.Gen.ReferenceAdamIdeal.Run
public import proofs.«01_k».proof.Proof.Gen.KernelAdamIdeal.Value
public import proofs.«01_k».proof.Proof.Gen.KernelDy
public import proofs.«01_k».proof.Proof.Gen.KernelDy.Skeleton
public import proofs.«01_k».proof.Proof.Gen.KernelDy.Launch
public import proofs.«01_k».proof.Proof.Gen.KernelDy.Points
public import proofs.«01_k».proof.Proof.Gen.KernelDy.Frame
public import proofs.«01_k».proof.Proof.Gen.KernelDyIdeal
public import proofs.«01_k».proof.Proof.Gen.KernelDyIdeal.Skeleton
public import proofs.«01_k».proof.Proof.Gen.KernelDyIdeal.Launch
public import proofs.«01_k».proof.Proof.Gen.KernelDyIdeal.Points
public import proofs.«01_k».proof.Proof.Gen.KernelDyIdeal.Frame
public import proofs.«01_k».proof.Proof.Gen.ReferenceDyIdeal
public import proofs.«01_k».proof.Proof.Gen.ReferenceDyIdeal.Run
public import proofs.«01_k».proof.Proof.Gen.KernelDyIdeal.Value
public import proofs.«01_k».proof.Proof.Gen.KernelDw
public import proofs.«01_k».proof.Proof.Gen.KernelDw.Skeleton
public import proofs.«01_k».proof.Proof.Gen.KernelDw.Launch
public import proofs.«01_k».proof.Proof.Gen.KernelDw.Points
public import proofs.«01_k».proof.Proof.Gen.KernelDw.Frame
public import proofs.«01_k».proof.Proof.Gen.KernelDwIdeal
public import proofs.«01_k».proof.Proof.Gen.KernelDwIdeal.Skeleton
public import proofs.«01_k».proof.Proof.Gen.KernelDwIdeal.Launch
public import proofs.«01_k».proof.Proof.Gen.KernelDwIdeal.Points
public import proofs.«01_k».proof.Proof.Gen.KernelDwIdeal.Frame
public import proofs.«01_k».proof.Proof.Gen.ReferenceDwIdeal
public import proofs.«01_k».proof.Proof.Gen.ReferenceDwIdeal.Run
public import proofs.«01_k».proof.Proof.Gen.KernelDwIdeal.Value
public import proofs.«01_k».proof.Proof.Gen.KernelPsum
public import proofs.«01_k».proof.Proof.Gen.KernelPsum.Skeleton
public import proofs.«01_k».proof.Proof.Gen.KernelPsum.Launch
public import proofs.«01_k».proof.Proof.Gen.KernelPsum.Points
public import proofs.«01_k».proof.Proof.Gen.KernelPsum.Frame
public import proofs.«01_k».proof.Proof.Gen.KernelPsumIdeal
public import proofs.«01_k».proof.Proof.Gen.KernelPsumIdeal.Skeleton
public import proofs.«01_k».proof.Proof.Gen.KernelPsumIdeal.Launch
public import proofs.«01_k».proof.Proof.Gen.KernelPsumIdeal.Points
public import proofs.«01_k».proof.Proof.Gen.KernelPsumIdeal.Frame
public import proofs.«01_k».proof.Proof.Gen.ReferencePsumIdeal
public import proofs.«01_k».proof.Proof.Gen.ReferencePsumIdeal.Run
public import proofs.«01_k».proof.Proof.Gen.Pre_finite_psum
public import proofs.«01_k».proof.Proof.Gen.KernelSlot
public import proofs.«01_k».proof.Proof.Gen.KernelSlot.Skeleton
public import proofs.«01_k».proof.Proof.Gen.KernelSlot.Launch
public import proofs.«01_k».proof.Proof.Gen.KernelSlot.Points
public import proofs.«01_k».proof.Proof.Gen.KernelSlot.Frame
public import proofs.«01_k».proof.Proof.Gen.KernelSlotIdeal
public import proofs.«01_k».proof.Proof.Gen.KernelSlotIdeal.Skeleton
public import proofs.«01_k».proof.Proof.Gen.KernelSlotIdeal.Launch
public import proofs.«01_k».proof.Proof.Gen.KernelSlotIdeal.Points
public import proofs.«01_k».proof.Proof.Gen.KernelSlotIdeal.Frame
public import proofs.«01_k».proof.Proof.Gen.ReferenceSlotIdeal
public import proofs.«01_k».proof.Proof.Gen.ReferenceSlotIdeal.Run
public import proofs.«01_k».proof.Proof.Gen.Pre_finite_slot
public import proofs.«01_k».proof.Proof.Gen.On_written_slot
public import proofs.«01_k».proof.Proof.Swiglu
public import proofs.«01_k».proof.Proof.Gates
public import proofs.«01_k».proof.Proof.Pool
public import proofs.«01_k».proof.Proof.Bound
public import proofs.«01_k».proof.Proof.Loss
public import proofs.«01_k».proof.Proof.Norm
public import proofs.«01_k».proof.Proof.Inbwd
public import proofs.«01_k».proof.Proof.Poolf
public import proofs.«01_k».proof.Proof.Merge
public import proofs.«01_k».proof.Proof.Attn
public import proofs.«01_k».proof.Proof.Ffn
public import proofs.«01_k».proof.Proof.Hgf
public import proofs.«01_k».proof.Proof.Adam
public import proofs.«01_k».proof.Proof.Dy
public import proofs.«01_k».proof.Proof.Dw
public import proofs.«01_k».proof.Proof.Psum
public import proofs.«01_k».proof.Proof.Slot
public import Idealize.ShloMosaic.Adequacy
public import Idealize.ShloMosaic.Init

@[expose] public section

noncomputable section

namespace Cert.Proof

open Idealize.ShloMosaic Idealize.SL.Sem

/-- The SwiGLU reference is host code without a semaphore: its frame is its run. -/
theorem frame_swiglu : Cert.quiescent_ReferenceSwigluIdeal (hReferenceSwigluIdeal := Cert.ReferenceSwigluIdeal.Gen.facts) :=
  fun m g _ => (θ_run _ _ _).mono (fun r h => ⟨fun c => (h c).2, sem_eq_zero_of_no_sems (by decide) r.2⟩)
    (Cert.ReferenceSwigluIdeal.Value.run m g)

/-- The gates' reference is host code without a semaphore: its frame is its run. -/
theorem frame_gates : Cert.quiescent_ReferenceGatesIdeal (hReferenceGatesIdeal := Cert.ReferenceGatesIdeal.Gen.facts) :=
  fun m g _ => (θ_run _ _ _).mono (fun r h => ⟨fun c => (h c).2.2, sem_eq_zero_of_no_sems (by decide) r.2⟩)
    (Cert.ReferenceGatesIdeal.Value.run m g)

/-- The pooling's reference is host code without a semaphore: its frame is its run. -/
theorem frame_pool : Cert.quiescent_ReferencePoolIdeal (hReferencePoolIdeal := Cert.ReferencePoolIdeal.Gen.facts) :=
  fun m g _ => (θ_run _ _ _).mono (fun r h => ⟨fun c => (h c).2.2.2, sem_eq_zero_of_no_sems (by decide) r.2⟩)
    (Cert.ReferencePoolIdeal.Value.run m g)

/-- The bound's reference is host code without a semaphore: its frame is its run. -/
theorem frame_bound : Cert.quiescent_ReferenceBoundIdeal (hReferenceBoundIdeal := Cert.ReferenceBoundIdeal.Gen.facts) :=
  fun m g _ => (θ_run _ _ _).mono (fun r h => ⟨fun c => (h c).2, sem_eq_zero_of_no_sems (by decide) r.2⟩)
    (Cert.ReferenceBoundIdeal.Value.run m g)

/-- The loss's reference is host code without a semaphore: its frame is its run. -/
theorem frame_loss : Cert.quiescent_ReferenceLossIdeal (hReferenceLossIdeal := Cert.ReferenceLossIdeal.Gen.facts) :=
  fun m g _ => (θ_run _ _ _).mono (fun r h => ⟨fun c => (h c).2.2.2.2, sem_eq_zero_of_no_sems (by decide) r.2⟩)
    (Cert.ReferenceLossIdeal.Value.run m g)

/-- The norm's reference is host code without a semaphore: its frame is its run. -/
theorem frame_norm : Cert.quiescent_ReferenceNormIdeal (hReferenceNormIdeal := Cert.ReferenceNormIdeal.Gen.facts) :=
  fun m g _ => (θ_run _ _ _).mono (fun r h => ⟨fun c => (h c).2.2.2, sem_eq_zero_of_no_sems (by decide) r.2⟩)
    (Cert.ReferenceNormIdeal.Value.run m g)

/-- The input norm's reference is host code without a semaphore: its frame is its run. -/
theorem frame_inbwd : Cert.quiescent_ReferenceInbwdIdeal (hReferenceInbwdIdeal := Cert.ReferenceInbwdIdeal.Gen.facts) :=
  fun m g _ => (θ_run _ _ _).mono (fun r h => ⟨fun c => (h c).2.2, sem_eq_zero_of_no_sems (by decide) r.2⟩)
    (Cert.ReferenceInbwdIdeal.Value.run m g)

/-- The forward pooling's reference is host code without a semaphore: its frame is its run. -/
theorem frame_poolf : Cert.quiescent_ReferencePoolfIdeal (hReferencePoolfIdeal := Cert.ReferencePoolfIdeal.Gen.facts) :=
  fun m g _ => (θ_run _ _ _).mono (fun r h => ⟨fun c => (h c).2, sem_eq_zero_of_no_sems (by decide) r.2⟩)
    (Cert.ReferencePoolfIdeal.Value.run m g)

/-- The merge's reference is host code without a semaphore: its frame is its run. -/
theorem frame_merge : Cert.quiescent_ReferenceMergeIdeal (hReferenceMergeIdeal := Cert.ReferenceMergeIdeal.Gen.facts) :=
  fun m g _ => (θ_run _ _ _).mono (fun r h => ⟨fun c => (h c).2.2.2, sem_eq_zero_of_no_sems (by decide) r.2⟩)
    (Cert.ReferenceMergeIdeal.Value.run m g)

/-- The residual's reference is host code without a semaphore: its frame is its run. -/
theorem frame_attn : Cert.quiescent_ReferenceAttnIdeal (hReferenceAttnIdeal := Cert.ReferenceAttnIdeal.Gen.facts) :=
  fun m g _ => (θ_run _ _ _).mono (fun r h => ⟨fun c => (h c).2.2, sem_eq_zero_of_no_sems (by decide) r.2⟩)
    (Cert.ReferenceAttnIdeal.Value.run m g)

/-- The SwiGLU forward reference is host code without a semaphore: its frame is its run. -/
theorem frame_ffn : Cert.quiescent_ReferenceFfnIdeal (hReferenceFfnIdeal := Cert.ReferenceFfnIdeal.Gen.facts) :=
  fun m g _ => (θ_run _ _ _).mono (fun r h => ⟨fun c => (h c).2.2, sem_eq_zero_of_no_sems (by decide) r.2⟩)
    (Cert.ReferenceFfnIdeal.Value.run m g)

/-- The forward recurrence's reference is host code without a semaphore: its frame is its run. -/
theorem frame_hgf : Cert.quiescent_ReferenceHgfIdeal (hReferenceHgfIdeal := Cert.ReferenceHgfIdeal.Gen.facts) :=
  fun m g _ => (θ_run _ _ _).mono (fun r h => ⟨fun c => (h c).2.2, sem_eq_zero_of_no_sems (by decide) r.2⟩)
    (Cert.ReferenceHgfIdeal.Value.run m g)

/-- The optimiser's reference is host code without a semaphore: its frame is its run. -/
theorem frame_adam : Cert.quiescent_ReferenceAdamIdeal (hReferenceAdamIdeal := Cert.ReferenceAdamIdeal.Gen.facts) :=
  fun m g _ => (θ_run _ _ _).mono (fun r h => ⟨fun c => (h c).2.2.2, sem_eq_zero_of_no_sems (by decide) r.2⟩)
    (Cert.ReferenceAdamIdeal.Value.run m g)

/-- The branch gradient's reference is host code without a semaphore: its frame is its run. -/
theorem frame_dy : Cert.quiescent_ReferenceDyIdeal (hReferenceDyIdeal := Cert.ReferenceDyIdeal.Gen.facts) :=
  fun m g _ => (θ_run _ _ _).mono (fun r h => ⟨fun c => (h c).2, sem_eq_zero_of_no_sems (by decide) r.2⟩)
    (Cert.ReferenceDyIdeal.Value.run m g)

/-- The weight gradient's reference is host code without a semaphore: its frame is its run. -/
theorem frame_dw : Cert.quiescent_ReferenceDwIdeal (hReferenceDwIdeal := Cert.ReferenceDwIdeal.Gen.facts) :=
  fun m g _ => (θ_run _ _ _).mono (fun r h => ⟨fun c => (h c).2, sem_eq_zero_of_no_sems (by decide) r.2⟩)
    (Cert.ReferenceDwIdeal.Value.run m g)

/-- The pair sum's reference is host code without a semaphore: its frame is its run. -/
theorem frame_psum : Cert.quiescent_ReferencePsumIdeal (hReferencePsumIdeal := Cert.ReferencePsumIdeal.Gen.facts) :=
  fun m g _ => (θ_run _ _ _).mono (fun r h => ⟨fun c => (h c).2, sem_eq_zero_of_no_sems (by decide) r.2⟩)
    (Cert.ReferencePsumIdeal.Value.run m g)

/-- The slot's reference is host code without a semaphore: its frame is its run. -/
theorem frame_slot : Cert.quiescent_ReferenceSlotIdeal (hReferenceSlotIdeal := Cert.ReferenceSlotIdeal.Gen.facts) :=
  fun m g _ => (θ_run _ _ _).mono (fun r h => ⟨fun c => (h c).2, sem_eq_zero_of_no_sems (by decide) r.2⟩)
    (Cert.ReferenceSlotIdeal.Value.run m g)

theorem claim : Cert.Claim := ⟨Cert.KernelSwiglu.Gen.facts, Cert.KernelSwigluIdeal.Gen.facts, Cert.ReferenceSwigluIdeal.Gen.facts,
  Cert.KernelGates.Gen.facts, Cert.KernelGatesIdeal.Gen.facts, Cert.ReferenceGatesIdeal.Gen.facts,
  Cert.KernelPool.Gen.facts, Cert.KernelPoolIdeal.Gen.facts, Cert.ReferencePoolIdeal.Gen.facts,
  Cert.KernelBound.Gen.facts, Cert.KernelBoundIdeal.Gen.facts, Cert.ReferenceBoundIdeal.Gen.facts,
  Cert.KernelLoss.Gen.facts, Cert.KernelLossIdeal.Gen.facts, Cert.ReferenceLossIdeal.Gen.facts,
  Cert.KernelNorm.Gen.facts, Cert.KernelNormIdeal.Gen.facts, Cert.ReferenceNormIdeal.Gen.facts,
  Cert.KernelInbwd.Gen.facts, Cert.KernelInbwdIdeal.Gen.facts, Cert.ReferenceInbwdIdeal.Gen.facts,
  Cert.KernelPoolf.Gen.facts, Cert.KernelPoolfIdeal.Gen.facts, Cert.ReferencePoolfIdeal.Gen.facts,
  Cert.KernelMerge.Gen.facts, Cert.KernelMergeIdeal.Gen.facts, Cert.ReferenceMergeIdeal.Gen.facts,
  Cert.KernelAttn.Gen.facts, Cert.KernelAttnIdeal.Gen.facts, Cert.ReferenceAttnIdeal.Gen.facts,
  Cert.KernelFfn.Gen.facts, Cert.KernelFfnIdeal.Gen.facts, Cert.ReferenceFfnIdeal.Gen.facts,
  Cert.KernelHgf.Gen.facts, Cert.KernelHgfIdeal.Gen.facts, Cert.ReferenceHgfIdeal.Gen.facts,
  Cert.KernelAdam.Gen.facts, Cert.KernelAdamIdeal.Gen.facts, Cert.ReferenceAdamIdeal.Gen.facts,
  Cert.KernelDy.Gen.facts, Cert.KernelDyIdeal.Gen.facts, Cert.ReferenceDyIdeal.Gen.facts,
  Cert.KernelDw.Gen.facts, Cert.KernelDwIdeal.Gen.facts, Cert.ReferenceDwIdeal.Gen.facts,
  Cert.KernelPsum.Gen.facts, Cert.KernelPsumIdeal.Gen.facts, Cert.ReferencePsumIdeal.Gen.facts,
  Cert.KernelSlot.Gen.facts, Cert.KernelSlotIdeal.Gen.facts, Cert.ReferenceSlotIdeal.Gen.facts,
  Cert.Pre_finite_swiglu.Gen.facts, Cert.Pre_finite_gates.Gen.facts, Cert.Pre_finite_pool.Gen.facts, Cert.Pre_finite_bound.Gen.facts, Cert.Pre_finite_loss.Gen.facts, Cert.Pre_finite_norm.Gen.facts, Cert.Pre_finite_inbwd.Gen.facts, Cert.Pre_finite_poolf.Gen.facts, Cert.Pre_finite_hgf.Gen.facts, Cert.Pre_finite_psum.Gen.facts, Cert.Pre_finite_slot.Gen.facts,
  Cert.On_written_gates.Gen.facts, Cert.On_written_pool.Gen.facts, Cert.On_written_slot.Gen.facts,
  fun m g _ => Cert.KernelSwiglu.Gen.frame m g, fun m g _ => Cert.KernelSwigluIdeal.Gen.frame m g,
  fun m g _ => Cert.KernelSwigluIdeal.Gen.frame m g, frame_swiglu, fun m g _ => frame_swiglu m g trivial,
  fun m g _ => Cert.KernelGates.Gen.frame m g, fun m g _ => Cert.KernelGatesIdeal.Gen.frame m g,
  fun m g _ => Cert.KernelGatesIdeal.Gen.frame m g, frame_gates, fun m g _ => frame_gates m g trivial,
  fun m g _ => Cert.KernelPool.Gen.frame m g, fun m g _ => Cert.KernelPoolIdeal.Gen.frame m g,
  fun m g _ => Cert.KernelPoolIdeal.Gen.frame m g, frame_pool, fun m g _ => frame_pool m g trivial,
  fun m g _ => Cert.KernelBound.Gen.frame m g, fun m g _ => Cert.KernelBoundIdeal.Gen.frame m g,
  fun m g _ => Cert.KernelBoundIdeal.Gen.frame m g, frame_bound, fun m g _ => frame_bound m g trivial,
  fun m g _ => Cert.KernelLoss.Gen.frame m g, fun m g _ => Cert.KernelLossIdeal.Gen.frame m g,
  fun m g _ => Cert.KernelLossIdeal.Gen.frame m g, frame_loss, fun m g _ => frame_loss m g trivial,
  Cert.Norm.frameB, Cert.Norm.frameI,
  fun m g _ => Cert.Norm.frameI m g trivial, frame_norm, fun m g _ => frame_norm m g trivial,
  Cert.Inbwd.frameB, Cert.Inbwd.frameI,
  fun m g _ => Cert.Inbwd.frameI m g trivial, frame_inbwd, fun m g _ => frame_inbwd m g trivial,
  fun m g _ => Cert.KernelPoolf.Gen.frame m g, fun m g _ => Cert.KernelPoolfIdeal.Gen.frame m g,
  fun m g _ => Cert.KernelPoolfIdeal.Gen.frame m g, frame_poolf, fun m g _ => frame_poolf m g trivial,
  fun m g _ => Cert.KernelMerge.Gen.frame m g, fun m g _ => Cert.KernelMergeIdeal.Gen.frame m g,
  frame_merge,
  fun m g _ => Cert.KernelAttn.Gen.frame m g, fun m g _ => Cert.KernelAttnIdeal.Gen.frame m g,
  frame_attn,
  fun m g _ => Cert.KernelFfn.Gen.frame m g, fun m g _ => Cert.KernelFfnIdeal.Gen.frame m g,
  frame_ffn,
  Cert.Hgf.frameB, Cert.Hgf.frameI,
  fun m g _ => Cert.Hgf.frameI m g trivial, frame_hgf, fun m g _ => frame_hgf m g trivial,
  fun m g _ => Cert.KernelAdam.Gen.frame m g, fun m g _ => Cert.KernelAdamIdeal.Gen.frame m g,
  frame_adam,
  fun m g _ => Cert.KernelDy.Gen.frame m g, fun m g _ => Cert.KernelDyIdeal.Gen.frame m g,
  frame_dy,
  fun m g _ => Cert.KernelDw.Gen.frame m g, fun m g _ => Cert.KernelDwIdeal.Gen.frame m g,
  frame_dw,
  Cert.Psum.frameB, Cert.Psum.frameI, frame_psum, fun m g _ => frame_psum m g trivial,
  Cert.Slot.frameB, Cert.Slot.frameI, frame_slot, fun m g _ => frame_slot m g trivial,
  trivial, Cert.Swiglu.algebraic, trivial, Cert.Gates.algebraic, trivial, Cert.Pool.algebraic, trivial, Cert.Bound.algebraic, trivial, Cert.Loss.algebraic, trivial, Cert.Norm.algebraic, trivial, Cert.Inbwd.algebraic, trivial, Cert.Poolf.algebraic, trivial, Cert.Merge.algebraic, trivial, Cert.Attn.algebraic, trivial, Cert.Ffn.algebraic, trivial, Cert.Hgf.algebraic, trivial, Cert.Adam.algebraic, trivial, Cert.Dy.algebraic, trivial, Cert.Dw.algebraic, trivial, Cert.Psum.algebraic, trivial, Cert.Slot.algebraic⟩

end Cert.Proof

end
